-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_branch1_finite [hPre_branch1_finite : Cert.Pre_branch1_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_branch1_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_branch1_finite [hPre_branch1_finite : Cert.Pre_branch1_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_branch1_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_branch0_finite [hPre_branch0_finite : Cert.Pre_branch0_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_branch0_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_branch0_finite [hPre_branch0_finite : Cert.Pre_branch0_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_branch0_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_queries_and_keys0_finite [hPre_queries_and_keys0_finite : Cert.Pre_queries_and_keys0_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_queries_and_keys0_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3))) = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_queries_and_keys0_finite [hPre_queries_and_keys0_finite : Cert.Pre_queries_and_keys0_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_queries_and_keys0_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3))) = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Kernel12Ideal_pre_branch1_finite [hKernel12Ideal : Cert.Kernel12Ideal.Facts] [hPre_branch1_finite : Cert.Pre_branch1_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_branch1_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Reference12Ideal_pre_branch1_finite [hReference12Ideal : Cert.Reference12Ideal.Facts] [hPre_branch1_finite : Cert.Pre_branch1_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_branch1_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_branch0_finite [hKernel13Ideal : Cert.Kernel13Ideal.Facts] [hPre_branch0_finite : Cert.Pre_branch0_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_branch0_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_branch0_finite [hReference13Ideal : Cert.Reference13Ideal.Facts] [hPre_branch0_finite : Cert.Pre_branch0_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_branch0_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Kernel17Ideal_pre_queries_and_keys0_finite [hKernel17Ideal : Cert.Kernel17Ideal.Facts] [hPre_queries_and_keys0_finite : Cert.Pre_queries_and_keys0_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_queries_and_keys0_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Reference17Ideal_pre_queries_and_keys0_finite [hReference17Ideal : Cert.Reference17Ideal.Facts] [hPre_queries_and_keys0_finite : Cert.Pre_queries_and_keys0_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_queries_and_keys0_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  True

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)) (v1 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_v2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_branch1_finite [hKernel12Ideal : Cert.Kernel12Ideal.Facts] [hReference12Ideal : Cert.Reference12Ideal.Facts] [hPre_branch1_finite : Cert.Pre_branch1_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_branch1_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v21) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_v23) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_branch0_finite [hKernel13Ideal : Cert.Kernel13Ideal.Facts] [hReference13Ideal : Cert.Reference13Ideal.Facts] [hPre_branch0_finite : Cert.Pre_branch0_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_branch0_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_v23) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v14) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_queries_and_keys0_finite [hKernel17Ideal : Cert.Kernel17Ideal.Facts] [hReference17Ideal : Cert.Reference17Ideal.Facts] [hPre_queries_and_keys0_finite : Cert.Pre_queries_and_keys0_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_queries_and_keys0_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v74) = v0 c
          ∧ r.2.mem ((c.tc : Thread Cert.Reference17Ideal.nD Cert.Reference17Ideal.τ).loc Cert.Reference17Ideal.main_v70) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v7) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v27) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v27) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v49) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v39) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v34) = v0 c
          ∧ r.2.mem ((c.tc : Thread Cert.Reference26Ideal.nD Cert.Reference26Ideal.τ).loc Cert.Reference26Ideal.main_v36) = v1 c
          ∧ r.2.mem ((c.tc : Thread Cert.Reference26Ideal.nD Cert.Reference26Ideal.τ).loc Cert.Reference26Ideal.main_v17) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v7) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_v7) = v2 c
          ∧ r.2.mem ((c.tc : Thread Cert.Reference29Ideal.nD Cert.Reference29Ideal.τ).loc Cert.Reference29Ideal.main_v13) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_v26) = v1 c
          ∧ r.2.mem ((c.tc : Thread Cert.Reference30Ideal.nD Cert.Reference30Ideal.τ).loc Cert.Reference30Ideal.main_v7) = v2 c
          ∧ r.2.mem ((c.tc : Thread Cert.Reference30Ideal.nD Cert.Reference30Ideal.τ).loc Cert.Reference30Ideal.main_v13) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v6) = v2 c
          ∧ r.2.mem ((c.tc : Thread Cert.Reference32Ideal.nD Cert.Reference32Ideal.τ).loc Cert.Reference32Ideal.main_v12) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v25) = v1 c
          ∧ r.2.mem ((c.tc : Thread Cert.Reference33Ideal.nD Cert.Reference33Ideal.τ).loc Cert.Reference33Ideal.main_v6) = v2 c
          ∧ r.2.mem ((c.tc : Thread Cert.Reference33Ideal.nD Cert.Reference33Ideal.τ).loc Cert.Reference33Ideal.main_v12) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v7) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v12) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v34) = v0 c
          ∧ r.2.mem ((c.tc : Thread Cert.Reference36Ideal.nD Cert.Reference36Ideal.τ).loc Cert.Reference36Ideal.main_v36) = v1 c
          ∧ r.2.mem ((c.tc : Thread Cert.Reference36Ideal.nD Cert.Reference36Ideal.τ).loc Cert.Reference36Ideal.main_v17) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_queries_and_keys_finite : Cert.Pre_queries_and_keys_finite.Facts) (hPre_branch1_finite : Cert.Pre_branch1_finite.Facts) (hPre_branch0_finite : Cert.Pre_branch0_finite.Facts) (hPre_queries_and_keys0_finite : Cert.Pre_queries_and_keys0_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_branch1_finite (hKernel12Ideal := hKernel12Ideal) (hPre_branch1_finite := hPre_branch1_finite)
    ∧ quiescent_Reference12Ideal (hReference12Ideal := hReference12Ideal)
    ∧ quiescent_Reference12Ideal_pre_branch1_finite (hReference12Ideal := hReference12Ideal) (hPre_branch1_finite := hPre_branch1_finite)
    ∧ quiescent_Kernel13 (hKernel13 := hKernel13)
    ∧ quiescent_Kernel13Ideal (hKernel13Ideal := hKernel13Ideal)
    ∧ quiescent_Kernel13Ideal_pre_branch0_finite (hKernel13Ideal := hKernel13Ideal) (hPre_branch0_finite := hPre_branch0_finite)
    ∧ quiescent_Reference13Ideal (hReference13Ideal := hReference13Ideal)
    ∧ quiescent_Reference13Ideal_pre_branch0_finite (hReference13Ideal := hReference13Ideal) (hPre_branch0_finite := hPre_branch0_finite)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_queries_and_keys0_finite (hKernel17Ideal := hKernel17Ideal) (hPre_queries_and_keys0_finite := hPre_queries_and_keys0_finite)
    ∧ quiescent_Reference17Ideal (hReference17Ideal := hReference17Ideal)
    ∧ quiescent_Reference17Ideal_pre_queries_and_keys0_finite (hReference17Ideal := hReference17Ideal) (hPre_queries_and_keys0_finite := hPre_queries_and_keys0_finite)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_branch1_finite (hKernel12Ideal := hKernel12Ideal) (hReference12Ideal := hReference12Ideal) (hPre_branch1_finite := hPre_branch1_finite)
    ∧ preserves_Kernel13_Kernel13Ideal
    ∧ algebraic_Kernel13Ideal_Reference13Ideal_pre_branch0_finite (hKernel13Ideal := hKernel13Ideal) (hReference13Ideal := hReference13Ideal) (hPre_branch0_finite := hPre_branch0_finite)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_queries_and_keys0_finite (hKernel17Ideal := hKernel17Ideal) (hReference17Ideal := hReference17Ideal) (hPre_queries_and_keys0_finite := hPre_queries_and_keys0_finite)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_branch0_finite.lean ====
abbrev S4096x2048 : Shape := ⟨2, ![4096, 2048]⟩
abbrev S4x1024x2048 : Shape := ⟨3, ![4, 1024, 2048]⟩
abbrev S4096x4096 : Shape := ⟨2, ![4096, 4096]⟩
abbrev S4096x8192 : Shape := ⟨2, ![4096, 8192]⟩
abbrev S1x4096 : Shape := ⟨2, ![1, 4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v16 : IVec S_ 1) (main_v17 : FVec F S1x4096 .f32) : IVec S_ 1 :=
  let main_cst_4 : FVec F S_ .f32 := constant S_ .f32 0x7F800000#32
  let main_v18 : FVec F S1x4096 .f32 := broadcastInDim S1x4096 ![] bcast_S_S1x4096 main_cst_4
  let main_v19 : IVec S1x4096 1 := cmpf .olt main_v17 main_v18
  let main_c_5 : IVec S_ 1 := constantI S_ 1 1#1
  let main_v20 : IVec S_ 1 := (fun x v => Host.reduce IntOp.andi x v reducesTo_S1x4096_S_d0_1 h_S_) main_v19 main_c_5
  let main_v21 : IVec S_ 1 := andi main_v16 main_v20
  main_v21

def fn {F : FTy → Type} [FloatOps F] (main_arg0 : FVec F S4096x2048 .bf16) (main_arg1 : FVec F S4x1024x2048 .bf16) (main_arg2 : FVec F S4096x4096 .bf16) (main_arg3 : FVec F S4096x8192 .bf16) (main_arg4 : FVec F S1x4096 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x1024x2048 .f32 := (extf .f32 · bitsLt_bf16_f32) main_arg1
  let main_v6 : FVec F S4x1024x2048 .f32 := Host.absf main_v5
  let main_cst_0 : FVec F S_ .f32 := constant S_ .f32 0x7F800000#32
  let main_v7 : FVec F S4x1024x2048 .f32 := broadcastInDim S4x1024x2048 ![] bcast_S_S4x1024x2048 main_cst_0
  let main_v8 : IVec S4x1024x2048 1 := cmpf .olt main_v6 main_v7
  let main_c_1 : IVec S_ 1 := constantI S_ 1 1#1
  let main_v9 : IVec S_ 1 := (fun x v => Host.reduce IntOp.andi x v reducesTo_S4x1024x2048_S_d0_1_2 h_S_) main_v8 main_c_1
  let main_v10 : IVec S_ 1 := andi main_v4 main_v9
  let main_v11 : FVec F S4096x4096 .f32 := (extf .f32 · bitsLt_bf16_f32) main_arg2
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  let main_v17 : FVec F S1x4096 .f32 := Host.absf main_arg4
  fn_part1 (F := F) main_v16 main_v17
-- ==== Pre_branch1_finite.lean ====
abbrev S4096x2048 : Shape := ⟨2, ![4096, 2048]⟩
abbrev S4x1024x2048 : Shape := ⟨3, ![4, 1024, 2048]⟩
abbrev S4096x4096 : Shape := ⟨2, ![4096, 4096]⟩
abbrev S4096x14336 : Shape := ⟨2, ![4096, 14336]⟩
abbrev S1x4096 : Shape := ⟨2, ![1, 4096]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x1024x2048 : S_.BroadcastsInDim S4x1024x2048 (![] : Fin 0 → Fin S4x1024x2048.rank)
  reducesTo_S4x1024x2048_S_d0_1_2 : S4x1024x2048.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v16 : IVec S_ 1) (main_v17 : FVec F S1x4096 .f32) : IVec S_ 1 :=
  let main_cst_4 : FVec F S_ .f32 := constant S_ .f32 0x7F800000#32
  let main_v18 : FVec F S1x4096 .f32 := broadcastInDim S1x4096 ![] bcast_S_S1x4096 main_cst_4
  let main_v19 : IVec S1x4096 1 := cmpf .olt main_v17 main_v18
  let main_c_5 : IVec S_ 1 := constantI S_ 1 1#1
  let main_v20 : IVec S_ 1 := (fun x v => Host.reduce IntOp.andi x v reducesTo_S1x4096_S_d0_1 h_S_) main_v19 main_c_5
  let main_v21 : IVec S_ 1 := andi main_v16 main_v20
  main_v21

def fn {F : FTy → Type} [FloatOps F] (main_arg0 : FVec F S4096x2048 .bf16) (main_arg1 : FVec F S4x1024x2048 .bf16) (main_arg2 : FVec F S4096x4096 .bf16) (main_arg3 : FVec F S4096x14336 .bf16) (main_arg4 : FVec F S1x4096 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4x1024x2048 .f32 := (extf .f32 · bitsLt_bf16_f32) main_arg1
  let main_v6 : FVec F S4x1024x2048 .f32 := Host.absf main_v5
  let main_cst_0 : FVec F S_ .f32 := constant S_ .f32 0x7F800000#32
  let main_v7 : FVec F S4x1024x2048 .f32 := broadcastInDim S4x1024x2048 ![] bcast_S_S4x1024x2048 main_cst_0
  let main_v8 : IVec S4x1024x2048 1 := cmpf .olt main_v6 main_v7
  let main_c_1 : IVec S_ 1 := constantI S_ 1 1#1
  let main_v9 : IVec S_ 1 := (fun x v => Host.reduce IntOp.andi x v reducesTo_S4x1024x2048_S_d0_1_2 h_S_) main_v8 main_c_1
  let main_v10 : IVec S_ 1 := andi main_v4 main_v9
  let main_v11 : FVec F S4096x4096 .f32 := (extf .f32 · bitsLt_bf16_f32) main_arg2
  let main_v12 : FVec F S4096x4096 .f32 := Host.absf main_v11
  let main_cst_2 : FVec F S_ .f32 := constant S_ .f32 0x7F800000#32
  let main_v13 : FVec F S4096x4096 .f32 := broadcastInDim S4096x4096 ![] bcast_S_S4096x4096 main_cst_2
  let main_v14 : IVec S4096x4096 1 := cmpf .olt main_v12 main_v13
  let main_c_3 : IVec S_ 1 := constantI S_ 1 1#1
  let main_v15 : IVec S_ 1 := (fun x v => Host.reduce IntOp.andi x v reducesTo_S4096x4096_S_d0_1 h_S_) main_v14 main_c_3
  let main_v16 : IVec S_ 1 := andi main_v10 main_v15
  let main_v17 : FVec F S1x4096 .f32 := Host.absf main_arg4
  fn_part1 (F := F) main_v16 main_v17
-- ==== Pre_queries_and_keys0_finite.lean ====
abbrev S4096x4096 : Shape := ⟨2, ![4096, 4096]⟩
abbrev S4096x8192 : Shape := ⟨2, ![4096, 8192]⟩
abbrev S256x2048 : Shape := ⟨2, ![256, 2048]⟩
abbrev S4096x1024 : Shape := ⟨2, ![4096, 1024]⟩
abbrev S256x1024 : Shape := ⟨2, ![256, 1024]⟩
abbrev S_ : Shape := ⟨0, ![]⟩

class Facts : Prop where
  slices_S4096x8192_S4096x1024_0_3072 : S4096x8192.Slices ![0, 3072] S4096x1024
  bitsLt_bf16_f32 : FTy.bits .bf16 < FTy.bits .f32
  slices_S256x2048_S256x1024_0_0 : S256x2048.Slices ![0, 0] S256x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x4096 .bf16) (main_arg1 : FVec F S4096x8192 .bf16) (main_arg2 : FVec F S256x2048 .bf16) (main_arg3 : FVec F S4096x8192 .bf16) : IVec S_ 1 :=
  let main_v0 : FVec F S4096x1024 .bf16 := (extractStridedSlice S4096x1024 ![0, 3072] · slices_S4096x8192_S4096x1024_0_3072) main_arg1
  let main_v1 : FVec F S4096x1024 .f32 := (extf .f32 · bitsLt_bf16_f32) main_v0
  let main_v2 : FVec F S256x1024 .bf16 := (extractStridedSlice S256x1024 ![0, 0] · slices_S256x2048_S256x1024_0_0) main_arg2
  let main_v3 : FVec F S256x1024 .f32 := (extf .f32 · bitsLt_bf16_f32) main_v2
  let main_v4 : FVec F S4096x1024 .f32 := Host.absf main_v1
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  let main_c : IVec S_ 1 := constantI S_ 1 1#1
  let main_v7 : IVec S_ 1 := (fun x v => Host.reduce IntOp.andi x v reducesTo_S4096x1024_S_d0_1 h_S_) main_v6 main_c
  let main_v8 : FVec F S256x1024 .f32 := Host.absf main_v3
  let main_cst_0 : FVec F S_ .f32 := constant S_ .f32 0x7F800000#32
  let main_v9 : FVec F S256x1024 .f32 := broadcastInDim S256x1024 ![] bcast_S_S256x1024 main_cst_0
  let main_v10 : IVec S256x1024 1 := cmpf .olt main_v8 main_v9
  let main_c_1 : IVec S_ 1 := constantI S_ 1 1#1
  let main_v11 : IVec S_ 1 := (fun x v => Host.reduce IntOp.andi x v reducesTo_S256x1024_S_d0_1 h_S_) main_v10 main_c_1
  let main_v12 : IVec S_ 1 := andi main_v7 main_v11
  main_v12
-- ==== Pre_queries_and_keys_finite.lean ====
abbrev S4096x4096 : Shape := ⟨2, ![4096, 4096]⟩
abbrev S4096x14336 : Shape := ⟨2, ![4096, 14336]⟩
abbrev S256x2048 : Shape := ⟨2, ![256, 2048]⟩
abbrev S4096x5120 : Shape := ⟨2, ![4096, 5120]⟩
abbrev S4096x1024 : Shape := ⟨2, ![4096, 1024]⟩
abbrev S256x1024 : Shape := ⟨2, ![256, 1024]⟩
abbrev S_ : Shape := ⟨0, ![]⟩

class Facts : Prop where
  slices_S4096x14336_S4096x1024_0_9216 : S4096x14336.Slices ![0, 9216] S4096x1024
  bitsLt_bf16_f32 : FTy.bits .bf16 < FTy.bits .f32
  slices_S256x2048_S256x1024_0_0 : S256x2048.Slices ![0, 0] S256x1024
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S4096x4096 .bf16) (main_arg1 : FVec F S4096x14336 .bf16) (main_arg2 : FVec F S256x2048 .bf16) (main_arg3 : FVec F S4096x5120 .bf16) : IVec S_ 1 :=
  let main_v0 : FVec F S4096x1024 .bf16 := (extractStridedSlice S4096x1024 ![0, 9216] · slices_S4096x14336_S4096x1024_0_9216) main_arg1
  let main_v1 : FVec F S4096x1024 .f32 := (extf .f32 · bitsLt_bf16_f32) main_v0
  let main_v2 : FVec F S256x1024 .bf16 := (extractStridedSlice S256x1024 ![0, 0] · slices_S256x2048_S256x1024_0_0) main_arg2
  let main_v3 : FVec F S256x1024 .f32 := (extf .f32 · bitsLt_bf16_f32) main_v2
  let main_v4 : FVec F S4096x1024 .f32 := Host.absf main_v1
  let main_cst : FVec F S_ .f32 := constant S_ .f32 0x7F800000#32
  let main_v5 : FVec F S4096x1024 .f32 := broadcastInDim S4096x1024 ![] bcast_S_S4096x1024 main_cst
  let main_v6 : IVec S4096x1024 1 := cmpf .olt main_v4 main_v5
  let main_c : IVec S_ 1 := constantI S_ 1 1#1
  let main_v7 : IVec S_ 1 := (fun x v => Host.reduce IntOp.andi x v reducesTo_S4096x1024_S_d0_1 h_S_) main_v6 main_c
  let main_v8 : FVec F S256x1024 .f32 := Host.absf main_v3
  let main_cst_0 : FVec F S_ .f32 := constant S_ .f32 0x7F800000#32
  let main_v9 : FVec F S256x1024 .f32 := broadcastInDim S256x1024 ![] bcast_S_S256x1024 main_cst_0
  let main_v10 : IVec S256x1024 1 := cmpf .olt main_v8 main_v9
  let main_c_1 : IVec S_ 1 := constantI S_ 1 1#1
  let main_v11 : IVec S_ 1 := (fun x v => Host.reduce IntOp.andi x v reducesTo_S256x1024_S_d0_1 h_S_) main_v10 main_c_1
  let main_v12 : IVec S_ 1 := andi main_v7 main_v11
  main_v12
-- ==== Kernel.lean ====
abbrev S4096x4096 : Shape := ⟨2, ![4096, 4096]⟩
abbrev S4096x14336 : Shape := ⟨2, ![4096, 14336]⟩
abbrev S256x2048 : Shape := ⟨2, ![256, 2048]⟩
abbrev S4096x5120 : Shape := ⟨2, ![4096, 5120]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S256x2048, .bf16⟩
  | .hbm, ⟨3, _⟩ => ⟨S4096x5120, .bf16⟩
  | .hbm, ⟨4, _⟩ => ⟨S4096x5120, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x14336 : Shape := ⟨2, ![4096, 14336]⟩
abbrev S256x2048 : Shape := ⟨2, ![256, 2048]⟩
abbrev S4096x5120 : Shape := ⟨2, ![4096, 5120]⟩
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 92
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S256x2048, .bf16⟩
  | .hbm, ⟨3, _⟩ => ⟨S4096x5120, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S256x2048, .f32⟩
  | .hbm, ⟨9, _⟩ => ⟨S256x1024, .f32⟩
  | .hbm, ⟨10, _⟩ => ⟨S256x1024, .f32⟩
  | .hbm, ⟨11, _⟩ => ⟨S4096x4x256, .f32⟩
  | .hbm, ⟨12, _⟩ => ⟨S256x4x256, .f32⟩
  | .hbm, ⟨13, _⟩ => ⟨S256x4x256, .f32⟩
  | .hbm, ⟨14, _⟩ => ⟨S4x4096x256, .f32⟩
  | .hbm, ⟨15, _⟩ => ⟨S_, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .i1⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x256, .f32⟩
  | .hbm, ⟨51, _⟩ => ⟨S4x4096x256, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x256x4096, .f32⟩
  | .hbm, ⟨57, _⟩ => ⟨S4096x4x256, .f32⟩
  | .hbm, ⟨58, _⟩ => ⟨S4096x1024, .f32⟩
  | .hbm, ⟨59, _⟩ => ⟨S4096x4x256, .f32⟩
  | .hbm, ⟨60, _⟩ => ⟨S4x256x4096, .f32⟩
  | .hbm, ⟨61, _⟩ => ⟨S4x4096x256, .f32⟩
  | .hbm, ⟨62, _⟩ => ⟨S4x256x256, .f32⟩
  | .hbm, ⟨63, _⟩ => ⟨S256x4x256, .f32⟩
  | .hbm, ⟨64, _⟩ => ⟨S4x4096x256, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x1, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096x256, .f32⟩
  | .hbm, ⟨80, _⟩ => ⟨S4x4096x256, .f32⟩
  | .hbm, ⟨81, _⟩ => ⟨S4x256x256, .f32⟩
  | .hbm, ⟨82, _⟩ => ⟨S256x4x256, .f32⟩
  | .hbm, ⟨83, _⟩ => ⟨S4x4096x256, .f32⟩
  | .hbm, ⟨84, _⟩ => ⟨S4096x4x256, .f32⟩
  | .hbm, ⟨85, _⟩ => ⟨S256x1024, .f32⟩
  | .hbm, ⟨86, _⟩ => ⟨S256x1024, .f32⟩
  | .hbm, ⟨87, _⟩ => ⟨S4096x1024, .f32⟩
  | .hbm, ⟨88, _⟩ => ⟨S256x2048, .f32⟩
  | .hbm, ⟨89, _⟩ => ⟨S4096x1024, .bf16⟩
  | .hbm, ⟨90, _⟩ => ⟨S4096x4096, .bf16⟩
  | .hbm, ⟨91, _⟩ => ⟨S4096x5120, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Kernel2.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S2048x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S4096x2048, .f32⟩
  | .hbm, ⟨10, _⟩ => ⟨S2048x8192, .bf16⟩
  | .hbm, ⟨11, _⟩ => ⟨S2048x4x2048, .bf16⟩
  | .hbm, ⟨12, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S4096x2048 : Shape := ⟨2, ![4096, 2048]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S4096x8192, .f32⟩
  | .hbm, ⟨5, _⟩ => ⟨S2048x8192, .f32⟩
  | .hbm, ⟨6, _⟩ => ⟨S_, .f32⟩
  | .hbm, ⟨7, _⟩ => ⟨S4096x2048, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x4096 : Shape := ⟨2, ![4096, 4096]⟩
abbrev S4096x2048 : Shape := ⟨2, ![4096, 2048]⟩
abbrev S4x1024x2048 : Shape := ⟨3, ![4, 1024, 2048]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4x1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩
abbrev S4x1024x2048 : Shape := ⟨3, ![4, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x4096, .f32⟩
  | .hbm, ⟨10, _⟩ => ⟨S4096x2048, .bf16⟩
  | .hbm, ⟨11, _⟩ => ⟨S4x1024x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S3x4096x3072 : Shape := ⟨3, ![3, 4096, 3072]⟩
abbrev S2048x14336 : Shape := ⟨2, ![2048, 14336]⟩
abbrev S4096x2048 : Shape := ⟨2, ![4096, 2048]⟩
abbrev S1x1024x3072 : Shape := ⟨3, ![1, 1024, 3072]⟩
abbrev S1024x3072 : Shape := ⟨2, ![1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S3x4096x3072, .bf16⟩
  | .hbm, ⟨1, _⟩ => ⟨S2048x14336, .bf16⟩
  | .hbm, ⟨2, _⟩ => ⟨S4096x2048, .f32⟩
  | .local _ .vmem, ⟨0, _⟩ => ⟨S1x1024x3072, .bf16⟩
  | .local _ .vmem, ⟨1, _⟩ => ⟨S1x1024x3072, .bf16⟩
  | .local _ .vmem, ⟨2, _⟩ => ⟨S1024x3072, .bf16⟩
  | .local _ .vmem, ⟨3, _⟩ => ⟨S1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S3x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S3x4096x3072 : Shape := ⟨3, ![3, 4096, 3072]⟩
abbrev S2048x14336 : Shape := ⟨2, ![2048, 14336]⟩
abbrev S1x4096x3072 : Shape := ⟨3, ![1, 4096, 3072]⟩
abbrev S4096x3072 : Shape := ⟨2, ![4096, 3072]⟩
abbrev S4096x9216 : Shape := ⟨2, ![4096, 9216]⟩
abbrev S2048x9216 : Shape := ⟨2, ![2048, 9216]⟩
abbrev S_ : Shape := ⟨0, ![]⟩
abbrev S4096x2048 : Shape := ⟨2, ![4096, 2048]⟩
abbrev S9216x2048 : Shape := ⟨2, ![9216, 2048]⟩

abbrev nBuf : Space → Nat
  | .hbm => 18
  | .vmem => 0
  | .smem => 0
  | _ => 0

abbrev bufTy : (tb : Table) → Fin (tcTables nBuf tb) → BufTy
  | .hbm, ⟨0, _⟩ => ⟨S3x4096x3072, .bf16⟩
  | .hbm, ⟨1, _⟩ => ⟨S2048x14336, .bf16⟩
  | .hbm, ⟨2, _⟩ => ⟨S1x4096x3072, .bf16⟩
  | .hbm, ⟨3, _⟩ => ⟨S4096x3072, .bf16⟩
  | .hbm, ⟨4, _⟩ => ⟨S1x4096x3072, .bf16⟩
  | .hbm, ⟨5, _⟩ => ⟨S4096x3072, .bf16⟩
  | .hbm, ⟨6, _⟩ => ⟨S1x4096x3072, .bf16⟩
  | .hbm, ⟨7, _⟩ => ⟨S4096x3072, .bf16⟩
  | .hbm, ⟨8, _⟩ => ⟨S4096x9216, .bf16⟩
  | .hbm, ⟨9, _⟩ => ⟨S2048x9216, .bf16⟩
  | .hbm, ⟨10, _⟩ => ⟨S4096x9216, .f32⟩
  | .hbm, ⟨11, _⟩ => ⟨S2048x9216, .f32⟩
  | .hbm, ⟨12, _⟩ => ⟨S_, .f32⟩
  | .hbm, ⟨13, _⟩ => ⟨S4096x2048, .f32⟩
  | .hbm, ⟨14, _⟩ => ⟨S4096x9216, .f32⟩
  | .hbm, ⟨15, _⟩ => ⟨S9216x2048, .f32⟩
  | .hbm, ⟨16, _⟩ => ⟨S2048x9216, .f32⟩
  | .hbm, ⟨17, _⟩ => ⟨S4096x2048, .f32⟩
  | _, _ => ⟨S3x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S4096x5120 : Shape := ⟨2, ![4096, 5120]⟩
abbrev S2048x14336 : Shape := ⟨2, ![2048, 14336]⟩
abbrev S4096x2048 : Shape := ⟨2, ![4096, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5120, .bf16⟩
  | .hbm, ⟨1, _⟩ => ⟨S2048x14336, .bf16⟩
  | .hbm, ⟨2, _⟩ => ⟨S4096x2048, .f32⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg2 c9_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x5120 : Shape := ⟨2, ![4096, 5120]⟩
abbrev S2048x14336 : Shape := ⟨2, ![2048, 14336]⟩
abbrev S4096x2048 : Shape := ⟨2, ![4096, 2048]⟩
abbrev S2048x5120 : Shape := ⟨2, ![2048, 5120]⟩
abbrev S_ : Shape := ⟨0, ![]⟩
abbrev S5120x2048 : Shape := ⟨2, ![5120, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x14336, .bf16⟩
  | .hbm, ⟨2, _⟩ => ⟨S4096x2048, .f32⟩
  | .hbm, ⟨3, _⟩ => ⟨S2048x5120, .bf16⟩
  | .hbm, ⟨4, _⟩ => ⟨S4096x5120, .f32⟩
  | .hbm, ⟨5, _⟩ => ⟨S2048x5120, .f32⟩
  | .hbm, ⟨6, _⟩ => ⟨S_, .f32⟩
  | .hbm, ⟨7, _⟩ => ⟨S4096x2048, .f32⟩
  | .hbm, ⟨8, _⟩ => ⟨S4096x5120, .f32⟩
  | .hbm, ⟨9, _⟩ => ⟨S5120x2048, .f32⟩
  | .hbm, ⟨10, _⟩ => ⟨S2048x5120, .f32⟩
  | .hbm, ⟨11, _⟩ => ⟨S4096x2048, .f32⟩
  | .hbm, ⟨12, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x2048 : Shape := ⟨2, ![4096, 2048]⟩
abbrev S3x4096x3072 : Shape := ⟨3, ![3, 4096, 3072]⟩
abbrev S4096x5120 : Shape := ⟨2, ![4096, 5120]⟩
abbrev S4x2048x3584 : Shape := ⟨3, ![4, 2048, 3584]⟩
abbrev S4096x1024 : Shape := ⟨2, ![4096, 1024]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S3x4096x3072, .bf16⟩
  | .hbm, ⟨2, _⟩ => ⟨S4096x5120, .bf16⟩
  | .hbm, ⟨3, _⟩ => ⟨S4x2048x3584, .bf16⟩
  | .hbm, ⟨4, _⟩ => ⟨S4x2048x3584, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S4096x1024, .bf16⟩
  | .local _ .vmem, ⟨7, _⟩ => ⟨S4096x1024, .bf16⟩
  | .local _ .vmem, ⟨8, _⟩ => ⟨S4096x512, .bf16⟩
  | .local _ .vmem, ⟨9, _⟩ => ⟨S4096x512, .bf16⟩
  | .local _ .vmem, ⟨10, _⟩ => ⟨S1x1024x512, .bf16⟩
  | .local _ .vmem, ⟨11, _⟩ => ⟨S1x1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 18, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 10, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c7_i32 : BitVec 32 := 7#32
  let v1 : BitVec 32 := Scalar.divsi v0 c7_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c7_i32 c0_i32_1
  let v8 : BitVec 32 := Scalar.extui v7
  let c0_i32_2 : BitVec 32 := 0#32
  let v9 : BitVec 1 := Scalar.cmpi .slt c7_i32 c0_i32_2
  let v10 : BitVec 32 := Scalar.extui v9
  let v11 : BitVec 32 := Scalar.subi v8 v10
  let v12 : BitVec 1 := Scalar.cmpi .ne v6 v11
  let v13 : BitVec 32 := Scalar.remsi v0 c7_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c18_i32_4 : BitVec 32 := 18#32
  let v18 : BitVec 32 := Scalar.addi arg1 c18_i32_4
  let c7_i32_5 : BitVec 32 := 7#32
  let c0_i32_6 : BitVec 32 := 0#32
  let v19 : BitVec 1 := Scalar.cmpi .eq c7_i32_5 c0_i32_6
  let c1_i32_7 : BitVec 32 := 1#32
  let v20 : BitVec 32 := Scalar.select v19 c1_i32_7 c7_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  ![v17.toNat, arg0.toNat, v28.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S1x1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference7Ideal.lean ====
abbrev S4096x2048 : Shape := ⟨2, ![4096, 2048]⟩
abbrev S3x4096x3072 : Shape := ⟨3, ![3, 4096, 3072]⟩
abbrev S4096x5120 : Shape := ⟨2, ![4096, 5120]⟩
abbrev S1x4096x3072 : Shape := ⟨3, ![1, 4096, 3072]⟩
abbrev S4096x3072 : Shape := ⟨2, ![4096, 3072]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 21
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3x4096x3072, .bf16⟩
  | .hbm, ⟨2, _⟩ => ⟨S4096x5120, .bf16⟩
  | .hbm, ⟨3, _⟩ => ⟨S1x4096x3072, .bf16⟩
  | .hbm, ⟨4, _⟩ => ⟨S4096x3072, .bf16⟩
  | .hbm, ⟨5, _⟩ => ⟨S1x4096x3072, .bf16⟩
  | .hbm, ⟨6, _⟩ => ⟨S4096x3072, .bf16⟩
  | .hbm, ⟨7, _⟩ => ⟨S1x4096x3072, .bf16⟩
  | .hbm, ⟨8, _⟩ => ⟨S4096x3072, .bf16⟩
  | .hbm, ⟨9, _⟩ => ⟨S4096x14336, .bf16⟩
  | .hbm, ⟨10, _⟩ => ⟨S4096x2048, .f32⟩
  | .hbm, ⟨11, _⟩ => ⟨S4096x14336, .f32⟩
  | .hbm, ⟨12, _⟩ => ⟨S_, .f32⟩
  | .hbm, ⟨13, _⟩ => ⟨S2048x14336, .f32⟩
  | .hbm, ⟨14, _⟩ => ⟨S4096x14336, .f32⟩
  | .hbm, ⟨15, _⟩ => ⟨S14336x2048, .f32⟩
  | .hbm, ⟨16, _⟩ => ⟨S2048x14336, .f32⟩
  | .hbm, ⟨17, _⟩ => ⟨S4096x2048, .f32⟩
  | .hbm, ⟨18, _⟩ => ⟨S2048x14336, .bf16⟩
  | .hbm, ⟨19, _⟩ => ⟨S2048x4x3584, .bf16⟩
  | .hbm, ⟨20, _⟩ => ⟨S4x2048x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel8.lean ====
abbrev S4096x2048 : Shape := ⟨2, ![4096, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S4096x2048, .f32⟩
  | .hbm, ⟨5, _⟩ => ⟨S2048x8192, .f32⟩
  | .hbm, ⟨6, _⟩ => ⟨S4096x8192, .f32⟩
  | .hbm, ⟨7, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x14336 : Shape := ⟨2, ![2048, 14336]⟩
abbrev S4096x14336 : Shape := ⟨2, ![4096, 14336]⟩
abbrev S2048x2048 : Shape := ⟨2, ![2048, 2048]⟩
abbrev S2048x512 : Shape := ⟨2, ![2048, 512]⟩
abbrev S4096x3072 : Shape := ⟨2, ![4096, 3072]⟩
abbrev S4096x8192 : Shape := ⟨2, ![4096, 8192]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x14336, .bf16⟩
  | .hbm, ⟨3, _⟩ => ⟨S4096x3072, .bf16⟩
  | .hbm, ⟨4, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .slt arg1 c6_i32
  let c6_i32_0 : BitVec 32 := 6#32
  let v1 : BitVec 32 := Scalar.addi arg1 c6_i32_0
  let v2 : BitVec 32 := Scalar.select v0 arg1 v1
  let c0_i32 : BitVec 32 := 0#32
  let c0_i32_1 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .slt arg1 c6_i32
  let c6_i32_0 : BitVec 32 := 6#32
  let v1 : BitVec 32 := Scalar.addi arg1 c6_i32_0
  let v2 : BitVec 32 := Scalar.select v0 arg1 v1
  let c0_i32 : BitVec 32 := 0#32
  ![arg0.toNat, v2.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x14336 : Shape := ⟨2, ![2048, 14336]⟩
abbrev S4096x14336 : Shape := ⟨2, ![4096, 14336]⟩
abbrev S4096x3072 : Shape := ⟨2, ![4096, 3072]⟩
abbrev S4096x8192 : Shape := ⟨2, ![4096, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x2048, .f32⟩
  | .hbm, ⟨3, _⟩ => ⟨S2048x14336, .f32⟩
  | .hbm, ⟨4, _⟩ => ⟨S4096x14336, .f32⟩
  | .hbm, ⟨5, _⟩ => ⟨S4096x14336, .bf16⟩
  | .hbm, ⟨6, _⟩ => ⟨S4096x3072, .bf16⟩
  | .hbm, ⟨7, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x14336 : Shape := ⟨2, ![2048, 14336]⟩
abbrev S4096x3072 : Shape := ⟨2, ![4096, 3072]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x3072, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x14336 : Shape := ⟨2, ![2048, 14336]⟩
abbrev S2048x3072 : Shape := ⟨2, ![2048, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x2048, .f32⟩
  | .hbm, ⟨3, _⟩ => ⟨S2048x3072, .bf16⟩
  | .hbm, ⟨4, _⟩ => ⟨S2048x3072, .f32⟩
  | .hbm, ⟨5, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x4096 : Shape := ⟨2, ![4096, 4096]⟩
abbrev S4x1024x2048 : Shape := ⟨3, ![4, 1024, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4x1024x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x4096 : Shape := ⟨2, ![4096, 4096]⟩
abbrev S4x1024x2048 : Shape := ⟨3, ![4, 1024, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S4096x4096, .f32⟩
  | .hbm, ⟨6, _⟩ => ⟨S4096x2048, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x2048 : Shape := ⟨2, ![4096, 2048]⟩
abbrev S4x1024x2048 : Shape := ⟨3, ![4, 1024, 2048]⟩
abbrev S4096x4096 : Shape := ⟨2, ![4096, 4096]⟩
abbrev S4096x14336 : Shape := ⟨2, ![4096, 14336]⟩
abbrev S1x4096 : Shape := ⟨2, ![1, 4096]⟩
abbrev S4096x5120 : Shape := ⟨2, ![4096, 5120]⟩
abbrev S2x1x4096 : Shape := ⟨3, ![2, 1, 4096]⟩
abbrev S2048x2048 : Shape := ⟨2, ![2048, 2048]⟩
abbrev S1x512x2048 : Shape := ⟨3, ![1, 512, 2048]⟩
abbrev S2048x512 : Shape := ⟨2, ![2048, 512]⟩
abbrev S1x512 : Shape := ⟨2, ![1, 512]⟩
abbrev S1x1x512 : Shape := ⟨3, ![1, 1, 512]⟩
abbrev S512x2048 : Shape := ⟨2, ![512, 2048]⟩
abbrev S512 : Shape := ⟨1, ![512]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .hbm, ⟨3, _⟩ => ⟨S4096x14336, .bf16⟩
  | .hbm, ⟨4, _⟩ => ⟨S1x4096, .f32⟩
  | .hbm, ⟨5, _⟩ => ⟨S4096x4096, .bf16⟩
  | .hbm, ⟨6, _⟩ => ⟨S4096x5120, .bf16⟩
  | .hbm, ⟨7, _⟩ => ⟨S2x1x4096, .f32⟩
  | .hbm, ⟨8, _⟩ => ⟨S4096x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x1x512, .f32⟩
  | .local _ .vmem, ⟨15, _⟩ => ⟨S1x1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference12Ideal.lean ====
abbrev S4096x2048 : Shape := ⟨2, ![4096, 2048]⟩
abbrev S4x1024x2048 : Shape := ⟨3, ![4, 1024, 2048]⟩
abbrev S4096x4096 : Shape := ⟨2, ![4096, 4096]⟩
abbrev S4096x14336 : Shape := ⟨2, ![4096, 14336]⟩
abbrev S1x4096 : Shape := ⟨2, ![1, 4096]⟩
abbrev S2x4096 : Shape := ⟨2, ![2, 4096]⟩
abbrev S2x2048x4096 : Shape := ⟨3, ![2, 2048, 4096]⟩
abbrev S_ : Shape := ⟨0, ![]⟩
abbrev S2x1x4096 : Shape := ⟨3, ![2, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .hbm, ⟨3, _⟩ => ⟨S4096x14336, .bf16⟩
  | .hbm, ⟨4, _⟩ => ⟨S1x4096, .f32⟩
  | .hbm, ⟨5, _⟩ => ⟨S4096x4096, .bf16⟩
  | .hbm, ⟨6, _⟩ => ⟨S4096x2048, .bf16⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S2x4096, .f32⟩
  | .hbm, ⟨11, _⟩ => ⟨S2x2048x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x2048, .f32⟩
  | .hbm, ⟨29, _⟩ => ⟨S4096x2048, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S2x2048x4096, .f32⟩
  | .hbm, ⟨40, _⟩ => ⟨S_, .f32⟩
  | .hbm, ⟨41, _⟩ => ⟨S2x4096, .f32⟩
  | .hbm, ⟨42, _⟩ => ⟨S4096x4096, .bf16⟩
  | .hbm, ⟨43, _⟩ => ⟨S4096x4096, .bf16⟩
  | .hbm, ⟨44, _⟩ => ⟨S2x1x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel13.lean ====
abbrev S4096x2048 : Shape := ⟨2, ![4096, 2048]⟩
abbrev S4x1024x2048 : Shape := ⟨3, ![4, 1024, 2048]⟩
abbrev S4096x4096 : Shape := ⟨2, ![4096, 4096]⟩
abbrev S4096x8192 : Shape := ⟨2, ![4096, 8192]⟩
abbrev S1x4096 : Shape := ⟨2, ![1, 4096]⟩
abbrev S2x1x4096 : Shape := ⟨3, ![2, 1, 4096]⟩
abbrev S2048x2048 : Shape := ⟨2, ![2048, 2048]⟩
abbrev S1x512x2048 : Shape := ⟨3, ![1, 512, 2048]⟩
abbrev S2048x512 : Shape := ⟨2, ![2048, 512]⟩
abbrev S1x512 : Shape := ⟨2, ![1, 512]⟩
abbrev S1x1x512 : Shape := ⟨3, ![1, 1, 512]⟩
abbrev S512x2048 : Shape := ⟨2, ![512, 2048]⟩
abbrev S512 : Shape := ⟨1, ![512]⟩

abbrev nBuf : Space → Nat
  | .hbm => 9
  | .vmem => 16
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .hbm, ⟨3, _⟩ => ⟨S4096x8192, .bf16⟩
  | .hbm, ⟨4, _⟩ => ⟨S1x4096, .f32⟩
  | .hbm, ⟨5, _⟩ => ⟨S4096x4096, .bf16⟩
  | .hbm, ⟨6, _⟩ => ⟨S4096x8192, .bf16⟩
  | .hbm, ⟨7, _⟩ => ⟨S2x1x4096, .f32⟩
  | .hbm, ⟨8, _⟩ => ⟨S4096x4096, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x1x512, .f32⟩
  | .local _ .vmem, ⟨15, _⟩ => ⟨S1x1x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference13Ideal.lean ====
abbrev S4096x2048 : Shape := ⟨2, ![4096, 2048]⟩
abbrev S4x1024x2048 : Shape := ⟨3, ![4, 1024, 2048]⟩
abbrev S4096x4096 : Shape := ⟨2, ![4096, 4096]⟩
abbrev S4096x8192 : Shape := ⟨2, ![4096, 8192]⟩
abbrev S1x4096 : Shape := ⟨2, ![1, 4096]⟩
abbrev S2x4096 : Shape := ⟨2, ![2, 4096]⟩
abbrev S2x2048x4096 : Shape := ⟨3, ![2, 2048, 4096]⟩
abbrev S_ : Shape := ⟨0, ![]⟩
abbrev S2x1x4096 : Shape := ⟨3, ![2, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x2048, .bf16⟩
  | .hbm, ⟨2, _⟩ => ⟨S4096x4096, .bf16⟩
  | .hbm, ⟨3, _⟩ => ⟨S4096x8192, .bf16⟩
  | .hbm, ⟨4, _⟩ => ⟨S1x4096, .f32⟩
  | .hbm, ⟨5, _⟩ => ⟨S4096x4096, .bf16⟩
  | .hbm, ⟨6, _⟩ => ⟨S4096x2048, .bf16⟩
  | .hbm, ⟨7, _⟩ => ⟨S4096x2048, .f32⟩
  | .hbm, ⟨8, _⟩ => ⟨S4096x4096, .f32⟩
  | .hbm, ⟨9, _⟩ => ⟨S4096x4096, .f32⟩
  | .hbm, ⟨10, _⟩ => ⟨S2x4096, .f32⟩
  | .hbm, ⟨11, _⟩ => ⟨S2x2048x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x2048, .f32⟩
  | .hbm, ⟨29, _⟩ => ⟨S4096x2048, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S2x2048x4096, .f32⟩
  | .hbm, ⟨40, _⟩ => ⟨S_, .f32⟩
  | .hbm, ⟨41, _⟩ => ⟨S2x4096, .f32⟩
  | .hbm, ⟨42, _⟩ => ⟨S4096x4096, .bf16⟩
  | .hbm, ⟨43, _⟩ => ⟨S4096x4096, .bf16⟩
  | .hbm, ⟨44, _⟩ => ⟨S2x1x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Kernel14.lean ====
abbrev S4096x4096 : Shape := ⟨2, ![4096, 4096]⟩
abbrev S4x768x768 : Shape := ⟨3, ![4, 768, 768]⟩
abbrev S4096x3072 : Shape := ⟨2, ![4096, 3072]⟩
abbrev S1024x768 : Shape := ⟨2, ![1024, 768]⟩
abbrev S1x768x768 : Shape := ⟨3, ![1, 768, 768]⟩
abbrev S768x768 : Shape := ⟨2, ![768, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x768x768, .bf16⟩
  | .hbm, ⟨2, _⟩ => ⟨S4096x3072, .f32⟩
  | .local _ .vmem, ⟨0, _⟩ => ⟨S1024x768, .bf16⟩
  | .local _ .vmem, ⟨1, _⟩ => ⟨S1024x768, .bf16⟩
  | .local _ .vmem, ⟨2, _⟩ => ⟨S1x768x768, .bf16⟩
  | .local _ .vmem, ⟨3, _⟩ => ⟨S1x768x768, .bf16⟩
  | .local _ .vmem, ⟨4, _⟩ => ⟨S1024x768, .f32⟩
  | .local _ .vmem, ⟨5, _⟩ => ⟨S1024x768, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x4096 : Shape := ⟨2, ![4096, 4096]⟩
abbrev S4x768x768 : Shape := ⟨3, ![4, 768, 768]⟩
abbrev S4096x3072 : Shape := ⟨2, ![4096, 3072]⟩
abbrev S_ : Shape := ⟨0, ![]⟩
abbrev S4096x4x768 : Shape := ⟨3, ![4096, 4, 768]⟩
abbrev S4x768x4096 : Shape := ⟨3, ![4, 768, 4096]⟩
abbrev S4x4096x768 : Shape := ⟨3, ![4, 4096, 768]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x768x768, .bf16⟩
  | .hbm, ⟨2, _⟩ => ⟨S4096x3072, .bf16⟩
  | .hbm, ⟨3, _⟩ => ⟨S4096x3072, .f32⟩
  | .hbm, ⟨4, _⟩ => ⟨S4x768x768, .f32⟩
  | .hbm, ⟨5, _⟩ => ⟨S_, .f32⟩
  | .hbm, ⟨6, _⟩ => ⟨S4096x3072, .f32⟩
  | .hbm, ⟨7, _⟩ => ⟨S4096x4x768, .f32⟩
  | .hbm, ⟨8, _⟩ => ⟨S4x768x4096, .f32⟩
  | .hbm, ⟨9, _⟩ => ⟨S4096x4x768, .f32⟩
  | .hbm, ⟨10, _⟩ => ⟨S4096x3072, .f32⟩
  | .hbm, ⟨11, _⟩ => ⟨S4096x4x768, .f32⟩
  | .hbm, ⟨12, _⟩ => ⟨S4x768x4096, .f32⟩
  | .hbm, ⟨13, _⟩ => ⟨S4x4096x768, .f32⟩
  | .hbm, ⟨14, _⟩ => ⟨S4096x4x768, .f32⟩
  | .hbm, ⟨15, _⟩ => ⟨S4096x3072, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel15.lean ====
abbrev S4096x3072 : Shape := ⟨2, ![4096, 3072]⟩
abbrev S4096x4096 : Shape := ⟨2, ![4096, 4096]⟩
abbrev S4x4x192x768 : Shape := ⟨4, ![4, 4, 192, 768]⟩
abbrev S4096x768 : Shape := ⟨2, ![4096, 768]⟩
abbrev S4x1x192x768 : Shape := ⟨4, ![4, 1, 192, 768]⟩
abbrev S768x768 : Shape := ⟨2, ![768, 768]⟩
abbrev S4x192x768 : Shape := ⟨3, ![4, 192, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4096x4096, .bf16⟩
  | .hbm, ⟨2, _⟩ => ⟨S4x4x192x768, .bf16⟩
  | .local _ .vmem, ⟨0, _⟩ => ⟨S4096x768, .bf16⟩
  | .local _ .vmem, ⟨1, _⟩ => ⟨S4096x768, .bf16⟩
  | .local _ .vmem, ⟨2, _⟩ => ⟨S4096x768, .bf16⟩
  | .local _ .vmem, ⟨3, _⟩ => ⟨S4096x768, .bf16⟩
  | .local _ .vmem, ⟨4, _⟩ => ⟨S4x1x192x768, .bf16⟩
  | .local _ .vmem, ⟨5, _⟩ => ⟨S4x1x192x768, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4x1x192x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference15Ideal.lean ====
abbrev S4096x3072 : Shape := ⟨2, ![4096, 3072]⟩
abbrev S4096x4096 : Shape := ⟨2, ![4096, 4096]⟩
abbrev S_ : Shape := ⟨0, ![]⟩
abbrev S4x768x768 : Shape := ⟨3, ![4, 768, 768]⟩
abbrev S4096x4x768 : Shape := ⟨3, ![4096, 4, 768]⟩
abbrev S4x768x4096 : Shape := ⟨3, ![4, 768, 4096]⟩
abbrev S4x4x192x768 : Shape := ⟨4, ![4, 4, 192, 768]⟩

abbrev nBuf : Space → Nat
  | .hbm => 18
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x4096, .bf16⟩
  | .hbm, ⟨2, _⟩ => ⟨S4096x3072, .f32⟩
  | .hbm, ⟨3, _⟩ => ⟨S4096x3072, .bf16⟩
  | .hbm, ⟨4, _⟩ => ⟨S4096x3072, .f32⟩
  | .hbm, ⟨5, _⟩ => ⟨S_, .f32⟩
  | .hbm, ⟨6, _⟩ => ⟨S4x768x768, .f32⟩
  | .hbm, ⟨7, _⟩ => ⟨S4096x4x768, .f32⟩
  | .hbm, ⟨8, _⟩ => ⟨S4x768x4096, .f32⟩
  | .hbm, ⟨9, _⟩ => ⟨S4096x4x768, .f32⟩
  | .hbm, ⟨10, _⟩ => ⟨S4096x3072, .f32⟩
  | .hbm, ⟨11, _⟩ => ⟨S4096x4x768, .f32⟩
  | .hbm, ⟨12, _⟩ => ⟨S4x768x4096, .f32⟩
  | .hbm, ⟨13, _⟩ => ⟨S4x768x768, .f32⟩
  | .hbm, ⟨14, _⟩ => ⟨S4x768x768, .f32⟩
  | .hbm, ⟨15, _⟩ => ⟨S4x768x768, .bf16⟩
  | .hbm, ⟨16, _⟩ => ⟨S4x4x192x768, .bf16⟩
  | .hbm, ⟨17, _⟩ => ⟨S4x4x192x768, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel16.lean ====
abbrev S4096x3072 : Shape := ⟨2, ![4096, 3072]⟩
abbrev S4x768x768 : Shape := ⟨3, ![4, 768, 768]⟩
abbrev S4096x4096 : Shape := ⟨2, ![4096, 4096]⟩
abbrev S1024x768 : Shape := ⟨2, ![1024, 768]⟩
abbrev S1x768x768 : Shape := ⟨3, ![1, 768, 768]⟩
abbrev S768x768 : Shape := ⟨2, ![768, 768]⟩

abbrev nBuf : Space → Nat
  | .hbm => 4
  | .vmem => 6
  | .smem => 0
  | _ => 0

abbrev bufTy : (tb : Table) → Fin (tcTables nBuf tb) → BufTy
  | .hbm, ⟨0, _⟩ => ⟨S4096x3072, .bf16⟩
  | .hbm, ⟨1, _⟩ => ⟨S4x768x768, .bf16⟩
  | .hbm, ⟨2, _⟩ => ⟨S4096x4096, .bf16⟩
  | .hbm, ⟨3, _⟩ => ⟨S4096x3072, .bf16⟩
  | .local _ .vmem, ⟨0, _⟩ => ⟨S1024x768, .bf16⟩
  | .local _ .vmem, ⟨1, _⟩ => ⟨S1024x768, .bf16⟩
  | .local _ .vmem, ⟨2, _⟩ => ⟨S1x768x768, .bf16⟩
  | .local _ .vmem, ⟨3, _⟩ => ⟨S1x768x768, .bf16⟩
  | .local _ .vmem, ⟨4, _⟩ => ⟨S1024x768, .bf16⟩
  | .local _ .vmem, ⟨5, _⟩ => ⟨S1024x768, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x3072 : Shape := ⟨2, ![4096, 3072]⟩
abbrev S4x768x768 : Shape := ⟨3, ![4, 768, 768]⟩
abbrev S4096x4x768 : Shape := ⟨3, ![4096, 4, 768]⟩
abbrev S4x768x4096 : Shape := ⟨3, ![4, 768, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4x768x768, .bf16⟩
  | .hbm, ⟨2, _⟩ => ⟨S4096x3072, .f32⟩
  | .hbm, ⟨3, _⟩ => ⟨S4x768x768, .f32⟩
  | .hbm, ⟨4, _⟩ => ⟨S4096x4x768, .f32⟩
  | .hbm, ⟨5, _⟩ => ⟨S4x768x4096, .f32⟩
  | .hbm, ⟨6, _⟩ => ⟨S4096x4x768, .f32⟩
  | .hbm, ⟨7, _⟩ => ⟨S4096x3072, .f32⟩
  | .hbm, ⟨8, _⟩ => ⟨S4096x3072, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel17.lean ====
abbrev S4096x4096 : Shape := ⟨2, ![4096, 4096]⟩
abbrev S4096x8192 : Shape := ⟨2, ![4096, 8192]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S256x2048, .bf16⟩
  | .hbm, ⟨3, _⟩ => ⟨S4096x8192, .bf16⟩
  | .hbm, ⟨4, _⟩ => ⟨S4096x8192, .bf16⟩
  | .hbm, ⟨5, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S256x2048, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference17Ideal.lean ====
abbrev S4096x4096 : Shape := ⟨2, ![4096, 4096]⟩
abbrev S4096x8192 : Shape := ⟨2, ![4096, 8192]⟩
abbrev S256x2048 : Shape := ⟨2, ![256, 2048]⟩
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩
abbrev S4096x3072 : Shape := ⟨2, ![4096, 3072]⟩

abbrev nBuf : Space → Nat
  | .hbm => 93
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S256x2048, .bf16⟩
  | .hbm, ⟨3, _⟩ => ⟨S4096x8192, .bf16⟩
  | .hbm, ⟨4, _⟩ => ⟨S4096x1024, .bf16⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S256x2048, .f32⟩
  | .hbm, ⟨9, _⟩ => ⟨S256x1024, .f32⟩
  | .hbm, ⟨10, _⟩ => ⟨S256x1024, .f32⟩
  | .hbm, ⟨11, _⟩ => ⟨S4096x4x256, .f32⟩
  | .hbm, ⟨12, _⟩ => ⟨S256x4x256, .f32⟩
  | .hbm, ⟨13, _⟩ => ⟨S256x4x256, .f32⟩
  | .hbm, ⟨14, _⟩ => ⟨S4x4096x256, .f32⟩
  | .hbm, ⟨15, _⟩ => ⟨S_, .f32⟩
  | .hbm, ⟨16, _⟩ => ⟨S4x4096x256, .f32⟩
  | .hbm, ⟨17, _⟩ => ⟨S4x4096x256, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .i1⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S_, .f32⟩
  | .hbm, ⟨38, _⟩ => ⟨S4x4096, .f32⟩
  | .hbm, ⟨39, _⟩ => ⟨S_, .f32⟩
  | .hbm, ⟨40, _⟩ => ⟨S4x4096, .f32⟩
  | .hbm, ⟨41, _⟩ => ⟨S4x4096, .f32⟩
  | .hbm, ⟨42, _⟩ => ⟨S4x4096, .f32⟩
  | .hbm, ⟨43, _⟩ => ⟨S4x4096x1, .f32⟩
  | .hbm, ⟨44, _⟩ => ⟨S4x4096x256, .f32⟩
  | .hbm, ⟨45, _⟩ => ⟨S4x4096x256, .f32⟩
  | .hbm, ⟨46, _⟩ => ⟨S4x4096x256, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S4x4096x256, .f32⟩
  | .hbm, ⟨51, _⟩ => ⟨S4x4096x256, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S4x256x4096, .f32⟩
  | .hbm, ⟨57, _⟩ => ⟨S4096x4x256, .f32⟩
  | .hbm, ⟨58, _⟩ => ⟨S4096x1024, .f32⟩
  | .hbm, ⟨59, _⟩ => ⟨S4096x4x256, .f32⟩
  | .hbm, ⟨60, _⟩ => ⟨S4x256x4096, .f32⟩
  | .hbm, ⟨61, _⟩ => ⟨S4x4096x256, .f32⟩
  | .hbm, ⟨62, _⟩ => ⟨S4x256x256, .f32⟩
  | .hbm, ⟨63, _⟩ => ⟨S256x4x256, .f32⟩
  | .hbm, ⟨64, _⟩ => ⟨S4x4096x256, .f32⟩
  | .hbm, ⟨65, _⟩ => ⟨S4x4096x256, .f32⟩
  | .hbm, ⟨66, _⟩ => ⟨S4x4096x256, .f32⟩
  | .hbm, ⟨67, _⟩ => ⟨S_, .f32⟩
  | .hbm, ⟨68, _⟩ => ⟨S4x4096, .f32⟩
  | .hbm, ⟨69, _⟩ => ⟨S4x4096x1, .f32⟩
  | .hbm, ⟨70, _⟩ => ⟨S4x4096x1, .f32⟩
  | .hbm, ⟨71, _⟩ => ⟨S4x4096x256, .f32⟩
  | .hbm, ⟨72, _⟩ => ⟨S4x4096x256, .f32⟩
  | .hbm, ⟨73, _⟩ => ⟨S_, .f32⟩
  | .hbm, ⟨74, _⟩ => ⟨S4x4096, .f32⟩
  | .hbm, ⟨75, _⟩ => ⟨S4x4096x256, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096x256, .f32⟩
  | .hbm, ⟨80, _⟩ => ⟨S4x4096x256, .f32⟩
  | .hbm, ⟨81, _⟩ => ⟨S4x256x256, .f32⟩
  | .hbm, ⟨82, _⟩ => ⟨S256x4x256, .f32⟩
  | .hbm, ⟨83, _⟩ => ⟨S4x4096x256, .f32⟩
  | .hbm, ⟨84, _⟩ => ⟨S4096x4x256, .f32⟩
  | .hbm, ⟨85, _⟩ => ⟨S256x1024, .f32⟩
  | .hbm, ⟨86, _⟩ => ⟨S256x1024, .f32⟩
  | .hbm, ⟨87, _⟩ => ⟨S4096x1024, .f32⟩
  | .hbm, ⟨88, _⟩ => ⟨S256x2048, .f32⟩
  | .hbm, ⟨89, _⟩ => ⟨S4096x3072, .bf16⟩
  | .hbm, ⟨90, _⟩ => ⟨S4096x1024, .bf16⟩
  | .hbm, ⟨91, _⟩ => ⟨S4096x4096, .bf16⟩
  | .hbm, ⟨92, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== Kernel18.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S2048x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S256x2048, .f32⟩
  | .hbm, ⟨10, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference19Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S_, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .local _ .vmem, ⟨0, _⟩ => ⟨S256x2048, .bf16⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference20Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S2048x2048, .f32⟩
  | .hbm, ⟨9, _⟩ => ⟨S2048x2048, .f32⟩
  | .hbm, ⟨10, _⟩ => ⟨S256x2048, .f32⟩
  | .hbm, ⟨11, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel21.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference21Ideal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4096x14336 : Shape := ⟨2, ![4096, 14336]⟩
abbrev S256x2048 : Shape := ⟨2, ![256, 2048]⟩
abbrev S4096x4096 : Shape := ⟨2, ![4096, 4096]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x14336, .bf16⟩
  | .hbm, ⟨1, _⟩ => ⟨S256x2048, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4096x14336 : Shape := ⟨2, ![4096, 14336]⟩
abbrev S256x2048 : Shape := ⟨2, ![256, 2048]⟩
abbrev S4096x4096 : Shape := ⟨2, ![4096, 4096]⟩
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4096x3072 : Shape := ⟨2, ![4096, 3072]⟩

abbrev nBuf : Space → Nat
  | .hbm => 35
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S256x2048, .bf16⟩
  | .hbm, ⟨2, _⟩ => ⟨S4096x4096, .bf16⟩
  | .hbm, ⟨3, _⟩ => ⟨S4096x1024, .bf16⟩
  | .hbm, ⟨4, _⟩ => ⟨S4096x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .f32⟩
  | .hbm, ⟨29, _⟩ => ⟨S4x256x4096, .f32⟩
  | .hbm, ⟨30, _⟩ => ⟨S4096x4x256, .f32⟩
  | .hbm, ⟨31, _⟩ => ⟨S4096x1024, .f32⟩
  | .hbm, ⟨32, _⟩ => ⟨S4096x3072, .bf16⟩
  | .hbm, ⟨33, _⟩ => ⟨S4096x1024, .bf16⟩
  | .hbm, ⟨34, _⟩ => ⟨S4096x4096, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel23.lean ====
abbrev S4096x8192 : Shape := ⟨2, ![4096, 8192]⟩
abbrev S256x2048 : Shape := ⟨2, ![256, 2048]⟩
abbrev S4096x4096 : Shape := ⟨2, ![4096, 4096]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x8192, .bf16⟩
  | .hbm, ⟨1, _⟩ => ⟨S256x2048, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x8192 : Shape := ⟨2, ![4096, 8192]⟩
abbrev S256x2048 : Shape := ⟨2, ![256, 2048]⟩
abbrev S4096x4096 : Shape := ⟨2, ![4096, 4096]⟩
abbrev S4096x1024 : Shape := ⟨2, ![4096, 1024]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4096x3072 : Shape := ⟨2, ![4096, 3072]⟩

abbrev nBuf : Space → Nat
  | .hbm => 35
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S256x2048, .bf16⟩
  | .hbm, ⟨2, _⟩ => ⟨S4096x4096, .bf16⟩
  | .hbm, ⟨3, _⟩ => ⟨S4096x1024, .bf16⟩
  | .hbm, ⟨4, _⟩ => ⟨S4096x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S4x4096, .f32⟩
  | .hbm, ⟨19, _⟩ => ⟨S4x4096, .f32⟩
  | .hbm, ⟨20, _⟩ => ⟨S4x4096x1, .f32⟩
  | .hbm, ⟨21, _⟩ => ⟨S4x4096x256, .f32⟩
  | .hbm, ⟨22, _⟩ => ⟨S4x4096x256, .f32⟩
  | .hbm, ⟨23, _⟩ => ⟨S4x4096x256, .f32⟩
  | .hbm, ⟨24, _⟩ => ⟨S_, .f32⟩
  | .hbm, ⟨25, _⟩ => ⟨S4x4096, .f32⟩
  | .hbm, ⟨26, _⟩ => ⟨S4x4096x1, .f32⟩
  | .hbm, ⟨27, _⟩ => ⟨S4x4096x256, .f32⟩
  | .hbm, ⟨28, _⟩ => ⟨S4x4096x256, .f32⟩
  | .hbm, ⟨29, _⟩ => ⟨S4x256x4096, .f32⟩
  | .hbm, ⟨30, _⟩ => ⟨S4096x4x256, .f32⟩
  | .hbm, ⟨31, _⟩ => ⟨S4096x1024, .f32⟩
  | .hbm, ⟨32, _⟩ => ⟨S4096x3072, .bf16⟩
  | .hbm, ⟨33, _⟩ => ⟨S4096x1024, .bf16⟩
  | .hbm, ⟨34, _⟩ => ⟨S4096x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel24.lean ====
abbrev S4096x3072 : Shape := ⟨2, ![4096, 3072]⟩
abbrev S4096x8192 : Shape := ⟨2, ![4096, 8192]⟩
abbrev S512x768 : Shape := ⟨2, ![512, 768]⟩
abbrev S640x768 : Shape := ⟨2, ![640, 768]⟩
abbrev S128x768 : Shape := ⟨2, ![128, 768]⟩
abbrev S512x1 : Shape := ⟨2, ![512, 1]⟩
abbrev S512x640 : Shape := ⟨2, ![512, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .f32⟩
  | .hbm, ⟨1, _⟩ => ⟨S4096x8192, .bf16⟩
  | .hbm, ⟨2, _⟩ => ⟨S4096x8192, .bf16⟩
  | .local _ .vmem, ⟨0, _⟩ => ⟨S512x768, .f32⟩
  | .local _ .vmem, ⟨1, _⟩ => ⟨S512x768, .f32⟩
  | .local _ .vmem, ⟨2, _⟩ => ⟨S512x768, .bf16⟩
  | .local _ .vmem, ⟨3, _⟩ => ⟨S512x768, .bf16⟩
  | .local _ .vmem, ⟨4, _⟩ => ⟨S640x768, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference24Ideal.lean ====
abbrev S4096x3072 : Shape := ⟨2, ![4096, 3072]⟩
abbrev S4096x8192 : Shape := ⟨2, ![4096, 8192]⟩
abbrev S_ : Shape := ⟨0, ![]⟩
abbrev S4096x4x768 : Shape := ⟨3, ![4096, 4, 768]⟩
abbrev S4 : Shape := ⟨1, ![4]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4x1x1 : Shape := ⟨3, ![4, 1, 1]⟩
abbrev S4x1x4096 : Shape := ⟨3, ![4, 1, 4096]⟩
abbrev S4x4096x4096 : Shape := ⟨3, ![4, 4096, 4096]⟩
abbrev S4096x1 : Shape := ⟨2, ![4096, 1]⟩
abbrev S1x4 : Shape := ⟨2, ![1, 4]⟩
abbrev S4096x4 : Shape := ⟨2, ![4096, 4]⟩
abbrev S4x768x4096 : Shape := ⟨3, ![4, 768, 4096]⟩
abbrev S4096x4x1 : Shape := ⟨3, ![4096, 4, 1]⟩
abbrev S4096x5120 : Shape := ⟨2, ![4096, 5120]⟩

abbrev nBuf : Space → Nat
  | .hbm => 59
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x8192, .bf16⟩
  | .hbm, ⟨2, _⟩ => ⟨S_, .f32⟩
  | .hbm, ⟨3, _⟩ => ⟨S4096x3072, .f32⟩
  | .hbm, ⟨4, _⟩ => ⟨S4096x4x768, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S4096, .i32⟩
  | .hbm, ⟨10, _⟩ => ⟨S1x4096x1, .i32⟩
  | .hbm, ⟨11, _⟩ => ⟨S4096, .i32⟩
  | .hbm, ⟨12, _⟩ => ⟨S1x1x4096, .i32⟩
  | .hbm, ⟨13, _⟩ => ⟨S1x4096x4096, .i32⟩
  | .hbm, ⟨14, _⟩ => ⟨S1x4096x4096, .i32⟩
  | .hbm, ⟨15, _⟩ => ⟨S1x4096x4096, .i1⟩
  | .hbm, ⟨16, _⟩ => ⟨S4x1x1, .i32⟩
  | .hbm, ⟨17, _⟩ => ⟨S4x1x4096, .i32⟩
  | .hbm, ⟨18, _⟩ => ⟨S4x1x4096, .i32⟩
  | .hbm, ⟨19, _⟩ => ⟨S4x1x4096, .i32⟩
  | .hbm, ⟨20, _⟩ => ⟨S4x4096x4096, .i32⟩
  | .hbm, ⟨21, _⟩ => ⟨S4x4096x4096, .i32⟩
  | .hbm, ⟨22, _⟩ => ⟨S4x4096x4096, .i1⟩
  | .hbm, ⟨23, _⟩ => ⟨S4x4096x4096, .i1⟩
  | .hbm, ⟨24, _⟩ => ⟨S4x4096x4096, .i1⟩
  | .hbm, ⟨25, _⟩ => ⟨S_, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4, .f32⟩
  | .hbm, ⟨36, _⟩ => ⟨S1x4, .f32⟩
  | .hbm, ⟨37, _⟩ => ⟨S4096x4, .f32⟩
  | .hbm, ⟨38, _⟩ => ⟨S4096x4, .f32⟩
  | .hbm, ⟨39, _⟩ => ⟨S4096x4, .f32⟩
  | .hbm, ⟨40, _⟩ => ⟨S4x768x4096, .f32⟩
  | .hbm, ⟨41, _⟩ => ⟨S4096x4x768, .f32⟩
  | .hbm, ⟨42, _⟩ => ⟨S4096x4x1, .f32⟩
  | .hbm, ⟨43, _⟩ => ⟨S4096x4x768, .f32⟩
  | .hbm, ⟨44, _⟩ => ⟨S4096x4x768, .f32⟩
  | .hbm, ⟨45, _⟩ => ⟨S4096x4x768, .f32⟩
  | .hbm, ⟨46, _⟩ => ⟨S4096x3072, .f32⟩
  | .hbm, ⟨47, _⟩ => ⟨S4096x4x768, .f32⟩
  | .hbm, ⟨48, _⟩ => ⟨S4096x4x768, .f32⟩
  | .hbm, ⟨49, _⟩ => ⟨S4096x4x768, .f32⟩
  | .hbm, ⟨50, _⟩ => ⟨S4096x4x768, .f32⟩
  | .hbm, ⟨51, _⟩ => ⟨S4x768x4096, .f32⟩
  | .hbm, ⟨52, _⟩ => ⟨S4x768x4096, .f32⟩
  | .hbm, ⟨53, _⟩ => ⟨S4096x4x768, .f32⟩
  | .hbm, ⟨54, _⟩ => ⟨S4096x4x768, .f32⟩
  | .hbm, ⟨55, _⟩ => ⟨S4096x3072, .f32⟩
  | .hbm, ⟨56, _⟩ => ⟨S4096x3072, .bf16⟩
  | .hbm, ⟨57, _⟩ => ⟨S4096x5120, .bf16⟩
  | .hbm, ⟨58, _⟩ => ⟨S4096x8192, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩

abbrev nD : Nat := 1
abbrev τ : Topo := Topo.v7x

variable {F : FTy → Type} [FloatOps F]
-- ==== Kernel25.lean ====
abbrev S4096x8192 : Shape := ⟨2, ![4096, 8192]⟩
abbrev S4096x3072 : Shape := ⟨2, ![4096, 3072]⟩
abbrev S512x768 : Shape := ⟨2, ![512, 768]⟩
abbrev S640x768 : Shape := ⟨2, ![640, 768]⟩
abbrev S128x768 : Shape := ⟨2, ![128, 768]⟩
abbrev S512x640 : Shape := ⟨2, ![512, 640]⟩
abbrev S512x1 : Shape := ⟨2, ![512, 1]⟩

abbrev nBuf : Space → Nat
  | .hbm => 2
  | .vmem => 5
  | .smem => 0
  | _ => 0

abbrev bufTy : (tb : Table) → Fin (tcTables nBuf tb) → BufTy
  | .hbm, ⟨0, _⟩ => ⟨S4096x8192, .bf16⟩
  | .hbm, ⟨1, _⟩ => ⟨S4096x3072, .bf16⟩
  | .local _ .vmem, ⟨0, _⟩ => ⟨S512x768, .bf16⟩
  | .local _ .vmem, ⟨1, _⟩ => ⟨S512x768, .bf16⟩
  | .local _ .vmem, ⟨2, _⟩ => ⟨S512x768, .bf16⟩
  | .local _ .vmem, ⟨3, _⟩ => ⟨S512x768, .bf16⟩
  | .local _ .vmem, ⟨4, _⟩ => ⟨S640x768, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference25Ideal.lean ====
abbrev S4096x8192 : Shape := ⟨2, ![4096, 8192]⟩
abbrev S4096x3072 : Shape := ⟨2, ![4096, 3072]⟩
abbrev S4096x4x768 : Shape := ⟨3, ![4096, 4, 768]⟩
abbrev S4 : Shape := ⟨1, ![4]⟩
abbrev S_ : Shape := ⟨0, ![]⟩
abbrev S4096 : Shape := ⟨1, ![4096]⟩
abbrev S1x4096x1 : Shape := ⟨3, ![1, 4096, 1]⟩
abbrev S1x1x4096 : Shape := ⟨3, ![1, 1, 4096]⟩
abbrev S1x4096x4096 : Shape := ⟨3, ![1, 4096, 4096]⟩
abbrev S4x1x1 : Shape := ⟨3, ![4, 1, 1]⟩
abbrev S4x1x4096 : Shape := ⟨3, ![4, 1, 4096]⟩
abbrev S4x4096x4096 : Shape := ⟨3, ![4, 4096, 4096]⟩
abbrev S4096x1 : Shape := ⟨2, ![4096, 1]⟩
abbrev S1x4 : Shape := ⟨2, ![1, 4]⟩
abbrev S4096x4 : Shape := ⟨2, ![4096, 4]⟩
abbrev S4x768x4096 : Shape := ⟨3, ![4, 768, 4096]⟩
abbrev S4096x4x1 : Shape := ⟨3, ![4096, 4, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x3072, .bf16⟩
  | .hbm, ⟨2, _⟩ => ⟨S4096x3072, .f32⟩
  | .hbm, ⟨3, _⟩ => ⟨S4096x4x768, .f32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S4096, .i32⟩
  | .hbm, ⟨9, _⟩ => ⟨S1x4096x1, .i32⟩
  | .hbm, ⟨10, _⟩ => ⟨S4096, .i32⟩
  | .hbm, ⟨11, _⟩ => ⟨S1x1x4096, .i32⟩
  | .hbm, ⟨12, _⟩ => ⟨S1x4096x4096, .i32⟩
  | .hbm, ⟨13, _⟩ => ⟨S1x4096x4096, .i32⟩
  | .hbm, ⟨14, _⟩ => ⟨S1x4096x4096, .i1⟩
  | .hbm, ⟨15, _⟩ => ⟨S4x1x1, .i32⟩
  | .hbm, ⟨16, _⟩ => ⟨S4x1x4096, .i32⟩
  | .hbm, ⟨17, _⟩ => ⟨S4x1x4096, .i32⟩
  | .hbm, ⟨18, _⟩ => ⟨S4x1x4096, .i32⟩
  | .hbm, ⟨19, _⟩ => ⟨S4x4096x4096, .i32⟩
  | .hbm, ⟨20, _⟩ => ⟨S4x4096x4096, .i32⟩
  | .hbm, ⟨21, _⟩ => ⟨S4x4096x4096, .i1⟩
  | .hbm, ⟨22, _⟩ => ⟨S4x4096x4096, .i1⟩
  | .hbm, ⟨23, _⟩ => ⟨S4x4096x4096, .i1⟩
  | .hbm, ⟨24, _⟩ => ⟨S_, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4, .f32⟩
  | .hbm, ⟨35, _⟩ => ⟨S1x4, .f32⟩
  | .hbm, ⟨36, _⟩ => ⟨S4096x4, .f32⟩
  | .hbm, ⟨37, _⟩ => ⟨S4096x4, .f32⟩
  | .hbm, ⟨38, _⟩ => ⟨S4096x4, .f32⟩
  | .hbm, ⟨39, _⟩ => ⟨S4x768x4096, .f32⟩
  | .hbm, ⟨40, _⟩ => ⟨S4096x4x768, .f32⟩
  | .hbm, ⟨41, _⟩ => ⟨S4096x4x1, .f32⟩
  | .hbm, ⟨42, _⟩ => ⟨S4096x4x768, .f32⟩
  | .hbm, ⟨43, _⟩ => ⟨S4096x4x768, .f32⟩
  | .hbm, ⟨44, _⟩ => ⟨S4096x4x768, .f32⟩
  | .hbm, ⟨45, _⟩ => ⟨S4096x3072, .f32⟩
  | .hbm, ⟨46, _⟩ => ⟨S4096x3072, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]
-- ==== Kernel26.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference26Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel27.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S4096x4096 : Shape := ⟨2, ![4096, 4096]⟩
abbrev S4096x14336 : Shape := ⟨2, ![4096, 14336]⟩
abbrev S1x4096 : Shape := ⟨2, ![1, 4096]⟩
abbrev S1x1024 : Shape := ⟨2, ![1, 1024]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S1x4096, .f32⟩
  | .hbm, ⟨3, _⟩ => ⟨S4096x4096, .bf16⟩
  | .local _ .vmem, ⟨0, _⟩ => ⟨S1x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S3x512x1024, .bf16⟩
  | .local _ .vmem, ⟨5, _⟩ => ⟨S3x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_42 : BitVec 32 := 0#32
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  v122
def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_42 : BitVec 32 := 0#32
  let v94 : BitVec 32 := Scalar.addi v1 c0_i32_42
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  v134
def k0_off1 (i : grid0.Coords) (c0_i32_42 : BitVec 32) : Fin 2 → Nat :=
  let c0_i32_65 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  ![0, v104.toNat]
def k0_off2 (i : grid0.Coords) (c0_i32_42 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  let c0_i32_66 : BitVec 32 := 0#32
  let c0_i32_67 : BitVec 32 := 0#32
  ![v104.toNat, 0, 0]
def k0_off3 (i : grid0.Coords) (c0_i32_42 : BitVec 32) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  let v123 : BitVec 32 := v122
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  let v135 : BitVec 32 := v134
  ![v123.toNat, v135.toNat]
def k0_off4 (i : grid0.Coords) (c0_i32_42 : BitVec 32) : Fin 2 → Nat :=
  let c1_i32_68 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  ![1, v104.toNat]
def k0_off5 (i : grid0.Coords) (c0_i32_42 : BitVec 32) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  let v123 : BitVec 32 := v122
  let c10240_i32_64 : BitVec 32 := 10240#32
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  let v135 : BitVec 32 := v134
  let v136 : BitVec 32 := Scalar.addi c10240_i32_64 v135
  ![v123.toNat, v136.toNat]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_71 : BitVec 32 := 1#32
  let v147 : BitVec 32 := Scalar.addi v1 c1_i32_71
  let c0_i32_79 : BitVec 32 := 0#32
  let v159 : BitVec 1 := Scalar.cmpi .sgt v147 c0_i32_79
  let v160 : BitVec 32 := Scalar.extui v159
  let c0_i32_80 : BitVec 32 := 0#32
  let v161 : BitVec 1 := Scalar.cmpi .slt v147 c0_i32_80
  let v162 : BitVec 32 := Scalar.extui v161
  let v163 : BitVec 32 := Scalar.subi v160 v162
  let c4_i32_78 : BitVec 32 := 4#32
  let c0_i32_81 : BitVec 32 := 0#32
  let v164 : BitVec 1 := Scalar.cmpi .sgt c4_i32_78 c0_i32_81
  let v165 : BitVec 32 := Scalar.extui v164
  let c0_i32_82 : BitVec 32 := 0#32
  let v166 : BitVec 1 := Scalar.cmpi .slt c4_i32_78 c0_i32_82
  let v167 : BitVec 32 := Scalar.extui v166
  let v168 : BitVec 32 := Scalar.subi v165 v167
  let v169 : BitVec 1 := Scalar.cmpi .ne v163 v168
  let v170 : BitVec 32 := Scalar.remsi v147 c4_i32_78
  let c0_i32_83 : BitVec 32 := 0#32
  let v171 : BitVec 1 := Scalar.cmpi .ne v170 c0_i32_83
  let v172 : BitVec 1 := Scalar.andi v169 v171
  let v158 : BitVec 32 := Scalar.divsi v147 c4_i32_78
  let c1_i32_84 : BitVec 32 := 1#32
  let v173 : BitVec 32 := Scalar.subi v158 c1_i32_84
  let v174 : BitVec 32 := Scalar.select v172 v173 v158
  let c512_i32_85 : BitVec 32 := 512#32
  let v175 : BitVec 32 := Scalar.muli v174 c512_i32_85
  v175
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_71 : BitVec 32 := 1#32
  let v147 : BitVec 32 := Scalar.addi v1 c1_i32_71
  let c4_i32_86 : BitVec 32 := 4#32
  let c0_i32_87 : BitVec 32 := 0#32
  let v177 : BitVec 1 := Scalar.cmpi .eq c4_i32_86 c0_i32_87
  let c1_i32_88 : BitVec 32 := 1#32
  let v178 : BitVec 32 := Scalar.select v177 c1_i32_88 c4_i32_86
  let v179 : BitVec 32 := Scalar.remsi v147 v178
  let c0_i32_90 : BitVec 32 := 0#32
  let v181 : BitVec 1 := Scalar.cmpi .slt v179 c0_i32_90
  let c0_i32_91 : BitVec 32 := 0#32
  let v182 : BitVec 1 := Scalar.cmpi .slt v178 c0_i32_91
  let v183 : BitVec 1 := Scalar.xori v181 v182
  let c0_i32_89 : BitVec 32 := 0#32
  let v180 : BitVec 1 := Scalar.cmpi .ne v179 c0_i32_89
  let v184 : BitVec 1 := Scalar.andi v183 v180
  let v185 : BitVec 32 := Scalar.addi v179 v178
  let v186 : BitVec 32 := Scalar.select v184 v185 v179
  let c1024_i32_92 : BitVec 32 := 1024#32
  let v187 : BitVec 32 := Scalar.muli v186 c1024_i32_92
  v187
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult5 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  v123
def k0_mult6 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  v135
def k0_off6 (i : grid0.Coords) : Fin 2 → Nat :=
  let c0_i32_66 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  ![0, v105.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let c0_i32_67 : BitVec 32 := 0#32
  let c0_i32_68 : BitVec 32 := 0#32
  ![v105.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  let v124 : BitVec 32 := v123
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  let v136 : BitVec 32 := v135
  ![v124.toNat, v136.toNat]
def k0_off9 (i : grid0.Coords) : Fin 2 → Nat :=
  let c1_i32_69 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  ![1, v105.toNat]
def k0_off10 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  let v124 : BitVec 32 := v123
  let c10240_i32_65 : BitVec 32 := 10240#32
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  let v136 : BitVec 32 := v135
  let v137 : BitVec 32 := Scalar.addi c10240_i32_65 v136
  ![v124.toNat, v137.toNat]
def k0_mult7 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  v37
def k0_mult8 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  v49
def k0_off11 (i : grid0.Coords) : Fin 2 → Nat :=
  let c0_i32_21 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_22 : BitVec 32 := 0#32
  let c0_i32_23 : BitVec 32 := 0#32
  ![v19.toNat, 0, 0]
def k0_off13 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  let v38 : BitVec 32 := v37
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  let v50 : BitVec 32 := v49
  ![v38.toNat, v50.toNat]
def k0_off14 (i : grid0.Coords) : Fin 2 → Nat :=
  let c1_i32_24 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off15 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  let v38 : BitVec 32 := v37
  let c10240_i32 : BitVec 32 := 10240#32
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  let v50 : BitVec 32 := v49
  let v51 : BitVec 32 := Scalar.addi c10240_i32 v50
  ![v38.toNat, v51.toNat]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_27 : BitVec 32 := 3#32
  let c0_i32_28 : BitVec 32 := 0#32
  let v62 : BitVec 1 := Scalar.cmpi .eq c3_i32_27 c0_i32_28
  let c1_i32_29 : BitVec 32 := 1#32
  let v63 : BitVec 32 := Scalar.select v62 c1_i32_29 c3_i32_27
  let v64 : BitVec 32 := Scalar.remsi v1 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : Index := Scalar.indexCast v71
  let c0 : Index := 0#32
  let c0_33 : Index := 0#32
  ![v72.toNat, 0, 0]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference28Ideal.lean ====
abbrev S4096x4096 : Shape := ⟨2, ![4096, 4096]⟩
abbrev S4096x14336 : Shape := ⟨2, ![4096, 14336]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel29.lean ====
abbrev S2x512x2048 : Shape := ⟨3, ![2, 512, 2048]⟩
abbrev S512x2048 : Shape := ⟨2, ![512, 2048]⟩
abbrev S1x256x2048 : Shape := ⟨3, ![1, 256, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S512x2048, .f32⟩
  | .hbm, ⟨5, _⟩ => ⟨S2x512x2048, .f32⟩
  | .hbm, ⟨6, _⟩ => ⟨S2x512x2048, .f32⟩
  | .hbm, ⟨7, _⟩ => ⟨S2x512x2048, .f32⟩
  | .hbm, ⟨8, _⟩ => ⟨S2x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  ![v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference29Ideal.lean ====
abbrev S2x512x2048 : Shape := ⟨3, ![2, 512, 2048]⟩
abbrev S512x2048 : Shape := ⟨2, ![512, 2048]⟩
abbrev S1x512x2048 : Shape := ⟨3, ![1, 512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S512x2048, .f32⟩
  | .hbm, ⟨4, _⟩ => ⟨S512x2048, .f32⟩
  | .hbm, ⟨5, _⟩ => ⟨S1x512x2048, .f32⟩
  | .hbm, ⟨6, _⟩ => ⟨S1x512x2048, .f32⟩
  | .hbm, ⟨7, _⟩ => ⟨S2x512x2048, .f32⟩
  | .hbm, ⟨8, _⟩ => ⟨S_, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S2x512x2048, .f32⟩
  | .hbm, ⟨23, _⟩ => ⟨S_, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S2x512x2048, .f32⟩
  | .hbm, ⟨38, _⟩ => ⟨S_, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel30.lean ====
abbrev S2x1024x2048 : Shape := ⟨3, ![2, 1024, 2048]⟩
abbrev S1024x2048 : Shape := ⟨2, ![1024, 2048]⟩
abbrev S1x256x2048 : Shape := ⟨3, ![1, 256, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S1024x2048, .f32⟩
  | .hbm, ⟨4, _⟩ => ⟨S1024x2048, .f32⟩
  | .hbm, ⟨5, _⟩ => ⟨S2x1024x2048, .f32⟩
  | .hbm, ⟨6, _⟩ => ⟨S2x1024x2048, .f32⟩
  | .hbm, ⟨7, _⟩ => ⟨S2x1024x2048, .f32⟩
  | .hbm, ⟨8, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  ![v1.toNat, v3.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference30Ideal.lean ====
abbrev S2x1024x2048 : Shape := ⟨3, ![2, 1024, 2048]⟩
abbrev S1024x2048 : Shape := ⟨2, ![1024, 2048]⟩
abbrev S1x1024x2048 : Shape := ⟨3, ![1, 1024, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x1024x2048, .f32⟩
  | .hbm, ⟨2, _⟩ => ⟨S2x1024x2048, .f32⟩
  | .hbm, ⟨3, _⟩ => ⟨S1024x2048, .f32⟩
  | .hbm, ⟨4, _⟩ => ⟨S1024x2048, .f32⟩
  | .hbm, ⟨5, _⟩ => ⟨S1x1024x2048, .f32⟩
  | .hbm, ⟨6, _⟩ => ⟨S1x1024x2048, .f32⟩
  | .hbm, ⟨7, _⟩ => ⟨S2x1024x2048, .f32⟩
  | .hbm, ⟨8, _⟩ => ⟨S_, .f32⟩
  | .hbm, ⟨9, _⟩ => ⟨S2x1024x2048, .f32⟩
  | .hbm, ⟨10, _⟩ => ⟨S2x1024x2048, .f32⟩
  | .hbm, ⟨11, _⟩ => ⟨S_, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S_, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .hbm, ⟨19, _⟩ => ⟨S_, .f32⟩
  | .hbm, ⟨20, _⟩ => ⟨S2x1024x2048, .f32⟩
  | .hbm, ⟨21, _⟩ => ⟨S2x1024x2048, .f32⟩
  | .hbm, ⟨22, _⟩ => ⟨S2x1024x2048, .f32⟩
  | .hbm, ⟨23, _⟩ => ⟨S_, .f32⟩
  | .hbm, ⟨24, _⟩ => ⟨S2x1024x2048, .f32⟩
  | .hbm, ⟨25, _⟩ => ⟨S2x1024x2048, .f32⟩
  | .hbm, ⟨26, _⟩ => ⟨S_, .f32⟩
  | .hbm, ⟨27, _⟩ => ⟨S2x1024x2048, .f32⟩
  | .hbm, ⟨28, _⟩ => ⟨S2x1024x2048, .f32⟩
  | .hbm, ⟨29, _⟩ => ⟨S2x1024x2048, .f32⟩
  | .hbm, ⟨30, _⟩ => ⟨S_, .f32⟩
  | .hbm, ⟨31, _⟩ => ⟨S2x1024x2048, .f32⟩
  | .hbm, ⟨32, _⟩ => ⟨S2x1024x2048, .f32⟩
  | .hbm, ⟨33, _⟩ => ⟨S2x1024x2048, .f32⟩
  | .hbm, ⟨34, _⟩ => ⟨S_, .f32⟩
  | .hbm, ⟨35, _⟩ => ⟨S2x1024x2048, .f32⟩
  | .hbm, ⟨36, _⟩ => ⟨S2x1024x2048, .f32⟩
  | .hbm, ⟨37, _⟩ => ⟨S2x1024x2048, .f32⟩
  | .hbm, ⟨38, _⟩ => ⟨S_, .f32⟩
  | .hbm, ⟨39, _⟩ => ⟨S2x1024x2048, .f32⟩
  | .hbm, ⟨40, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel31.lean ====
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S1x2048x2048, .f32⟩
  | .hbm, ⟨7, _⟩ => ⟨S1x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference31Ideal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048x2048, .f32⟩
  | .hbm, ⟨3, _⟩ => ⟨S2048x2048, .f32⟩
  | .hbm, ⟨4, _⟩ => ⟨S1x2048x2048, .f32⟩
  | .hbm, ⟨5, _⟩ => ⟨S1x2048x2048, .f32⟩
  | .hbm, ⟨6, _⟩ => ⟨S_, .f32⟩
  | .hbm, ⟨7, _⟩ => ⟨S1x2048x2048, .f32⟩
  | .hbm, ⟨8, _⟩ => ⟨S1x2048x2048, .f32⟩
  | .hbm, ⟨9, _⟩ => ⟨S_, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S_, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S_, .f32⟩
  | .hbm, ⟨18, _⟩ => ⟨S1x2048x2048, .f32⟩
  | .hbm, ⟨19, _⟩ => ⟨S1x2048x2048, .f32⟩
  | .hbm, ⟨20, _⟩ => ⟨S1x2048x2048, .f32⟩
  | .hbm, ⟨21, _⟩ => ⟨S_, .f32⟩
  | .hbm, ⟨22, _⟩ => ⟨S1x2048x2048, .f32⟩
  | .hbm, ⟨23, _⟩ => ⟨S1x2048x2048, .f32⟩
  | .hbm, ⟨24, _⟩ => ⟨S_, .f32⟩
  | .hbm, ⟨25, _⟩ => ⟨S1x2048x2048, .f32⟩
  | .hbm, ⟨26, _⟩ => ⟨S1x2048x2048, .f32⟩
  | .hbm, ⟨27, _⟩ => ⟨S1x2048x2048, .f32⟩
  | .hbm, ⟨28, _⟩ => ⟨S_, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S_, .f32⟩
  | .hbm, ⟨33, _⟩ => ⟨S1x2048x2048, .f32⟩
  | .hbm, ⟨34, _⟩ => ⟨S1x2048x2048, .f32⟩
  | .hbm, ⟨35, _⟩ => ⟨S1x2048x2048, .f32⟩
  | .hbm, ⟨36, _⟩ => ⟨S_, .f32⟩
  | .hbm, ⟨37, _⟩ => ⟨S1x2048x2048, .f32⟩
  | .hbm, ⟨38, _⟩ => ⟨S1x2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel32.lean ====
abbrev S1x768x768 : Shape := ⟨3, ![1, 768, 768]⟩
abbrev S768x768 : Shape := ⟨2, ![768, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x768x768, .f32⟩
  | .hbm, ⟨1, _⟩ => ⟨S1x768x768, .f32⟩
  | .hbm, ⟨2, _⟩ => ⟨S1x768x768, .f32⟩
  | .hbm, ⟨3, _⟩ => ⟨S768x768, .f32⟩
  | .hbm, ⟨4, _⟩ => ⟨S1x768x768, .f32⟩
  | .hbm, ⟨5, _⟩ => ⟨S1x768x768, .f32⟩
  | .hbm, ⟨6, _⟩ => ⟨S1x768x768, .f32⟩
  | .hbm, ⟨7, _⟩ => ⟨S1x768x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S256x768, .f32⟩
  | .local _ .vmem, ⟨7, _⟩ => ⟨S256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference32Ideal.lean ====
abbrev S1x768x768 : Shape := ⟨3, ![1, 768, 768]⟩
abbrev S768x768 : Shape := ⟨2, ![768, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x768x768, .f32⟩
  | .hbm, ⟨1, _⟩ => ⟨S1x768x768, .f32⟩
  | .hbm, ⟨2, _⟩ => ⟨S1x768x768, .f32⟩
  | .hbm, ⟨3, _⟩ => ⟨S768x768, .f32⟩
  | .hbm, ⟨4, _⟩ => ⟨S1x768x768, .f32⟩
  | .hbm, ⟨5, _⟩ => ⟨S1x768x768, .f32⟩
  | .hbm, ⟨6, _⟩ => ⟨S_, .f32⟩
  | .hbm, ⟨7, _⟩ => ⟨S1x768x768, .f32⟩
  | .hbm, ⟨8, _⟩ => ⟨S1x768x768, .f32⟩
  | .hbm, ⟨9, _⟩ => ⟨S_, .f32⟩
  | .hbm, ⟨10, _⟩ => ⟨S1x768x768, .f32⟩
  | .hbm, ⟨11, _⟩ => ⟨S1x768x768, .f32⟩
  | .hbm, ⟨12, _⟩ => ⟨S1x768x768, .f32⟩
  | .hbm, ⟨13, _⟩ => ⟨S_, .f32⟩
  | .hbm, ⟨14, _⟩ => ⟨S1x768x768, .f32⟩
  | .hbm, ⟨15, _⟩ => ⟨S1x768x768, .f32⟩
  | .hbm, ⟨16, _⟩ => ⟨S1x768x768, .f32⟩
  | .hbm, ⟨17, _⟩ => ⟨S_, .f32⟩
  | .hbm, ⟨18, _⟩ => ⟨S1x768x768, .f32⟩
  | .hbm, ⟨19, _⟩ => ⟨S1x768x768, .f32⟩
  | .hbm, ⟨20, _⟩ => ⟨S1x768x768, .f32⟩
  | .hbm, ⟨21, _⟩ => ⟨S_, .f32⟩
  | .hbm, ⟨22, _⟩ => ⟨S1x768x768, .f32⟩
  | .hbm, ⟨23, _⟩ => ⟨S1x768x768, .f32⟩
  | .hbm, ⟨24, _⟩ => ⟨S_, .f32⟩
  | .hbm, ⟨25, _⟩ => ⟨S1x768x768, .f32⟩
  | .hbm, ⟨26, _⟩ => ⟨S1x768x768, .f32⟩
  | .hbm, ⟨27, _⟩ => ⟨S1x768x768, .f32⟩
  | .hbm, ⟨28, _⟩ => ⟨S_, .f32⟩
  | .hbm, ⟨29, _⟩ => ⟨S1x768x768, .f32⟩
  | .hbm, ⟨30, _⟩ => ⟨S1x768x768, .f32⟩
  | .hbm, ⟨31, _⟩ => ⟨S1x768x768, .f32⟩
  | .hbm, ⟨32, _⟩ => ⟨S_, .f32⟩
  | .hbm, ⟨33, _⟩ => ⟨S1x768x768, .f32⟩
  | .hbm, ⟨34, _⟩ => ⟨S1x768x768, .f32⟩
  | .hbm, ⟨35, _⟩ => ⟨S1x768x768, .f32⟩
  | .hbm, ⟨36, _⟩ => ⟨S_, .f32⟩
  | .hbm, ⟨37, _⟩ => ⟨S1x768x768, .f32⟩
  | .hbm, ⟨38, _⟩ => ⟨S1x768x768, .f32⟩
  | _, _ => ⟨S1x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel33.lean ====
abbrev S1x2048x3584 : Shape := ⟨3, ![1, 2048, 3584]⟩
abbrev S2048x3584 : Shape := ⟨2, ![2048, 3584]⟩
abbrev S1x128x3584 : Shape := ⟨3, ![1, 128, 3584]⟩
abbrev S128x3584 : Shape := ⟨2, ![128, 3584]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x3584, .f32⟩
  | .hbm, ⟨1, _⟩ => ⟨S1x2048x3584, .f32⟩
  | .hbm, ⟨2, _⟩ => ⟨S1x2048x3584, .f32⟩
  | .hbm, ⟨3, _⟩ => ⟨S2048x3584, .f32⟩
  | .hbm, ⟨4, _⟩ => ⟨S1x2048x3584, .f32⟩
  | .hbm, ⟨5, _⟩ => ⟨S1x2048x3584, .f32⟩
  | .hbm, ⟨6, _⟩ => ⟨S1x2048x3584, .f32⟩
  | .hbm, ⟨7, _⟩ => ⟨S1x2048x3584, .f32⟩
  | .local _ .vmem, ⟨0, _⟩ => ⟨S1x128x3584, .f32⟩
  | .local _ .vmem, ⟨1, _⟩ => ⟨S1x128x3584, .f32⟩
  | .local _ .vmem, ⟨2, _⟩ => ⟨S1x128x3584, .f32⟩
  | .local _ .vmem, ⟨3, _⟩ => ⟨S1x128x3584, .f32⟩
  | .local _ .vmem, ⟨4, _⟩ => ⟨S1x128x3584, .f32⟩
  | .local _ .vmem, ⟨5, _⟩ => ⟨S1x128x3584, .f32⟩
  | .local _ .vmem, ⟨6, _⟩ => ⟨S128x3584, .f32⟩
  | .local _ .vmem, ⟨7, _⟩ => ⟨S128x3584, .f32⟩
  | .local _ .vmem, ⟨8, _⟩ => ⟨S1x128x3584, .f32⟩
  | .local _ .vmem, ⟨9, _⟩ => ⟨S1x128x3584, .f32⟩
  | .local _ .vmem, ⟨10, _⟩ => ⟨S1x128x3584, .f32⟩
  | .local _ .vmem, ⟨11, _⟩ => ⟨S1x128x3584, .f32⟩
  | .local _ .vmem, ⟨12, _⟩ => ⟨S1x128x3584, .f32⟩
  | .local _ .vmem, ⟨13, _⟩ => ⟨S1x128x3584, .f32⟩
  | .local _ .vmem, ⟨14, _⟩ => ⟨S1x128x3584, .f32⟩
  | .local _ .vmem, ⟨15, _⟩ => ⟨S1x128x3584, .f32⟩
  | _, _ => ⟨S1x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let v2 : BitVec 1 := Scalar.cmpi .eq arg0 c0_i32_1
  let c0_i32_2 : BitVec 32 := 0#32
  let v3 : BitVec 32 := Scalar.select v2 arg2 c0_i32_2
  let c0_i32_3 : BitVec 32 := 0#32
  ![v1.toNat, v3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference33Ideal.lean ====
abbrev S1x2048x3584 : Shape := ⟨3, ![1, 2048, 3584]⟩
abbrev S2048x3584 : Shape := ⟨2, ![2048, 3584]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x3584, .f32⟩
  | .hbm, ⟨1, _⟩ => ⟨S1x2048x3584, .f32⟩
  | .hbm, ⟨2, _⟩ => ⟨S1x2048x3584, .f32⟩
  | .hbm, ⟨3, _⟩ => ⟨S2048x3584, .f32⟩
  | .hbm, ⟨4, _⟩ => ⟨S1x2048x3584, .f32⟩
  | .hbm, ⟨5, _⟩ => ⟨S1x2048x3584, .f32⟩
  | .hbm, ⟨6, _⟩ => ⟨S_, .f32⟩
  | .hbm, ⟨7, _⟩ => ⟨S1x2048x3584, .f32⟩
  | .hbm, ⟨8, _⟩ => ⟨S1x2048x3584, .f32⟩
  | .hbm, ⟨9, _⟩ => ⟨S_, .f32⟩
  | .hbm, ⟨10, _⟩ => ⟨S1x2048x3584, .f32⟩
  | .hbm, ⟨11, _⟩ => ⟨S1x2048x3584, .f32⟩
  | .hbm, ⟨12, _⟩ => ⟨S1x2048x3584, .f32⟩
  | .hbm, ⟨13, _⟩ => ⟨S_, .f32⟩
  | .hbm, ⟨14, _⟩ => ⟨S1x2048x3584, .f32⟩
  | .hbm, ⟨15, _⟩ => ⟨S1x2048x3584, .f32⟩
  | .hbm, ⟨16, _⟩ => ⟨S1x2048x3584, .f32⟩
  | .hbm, ⟨17, _⟩ => ⟨S_, .f32⟩
  | .hbm, ⟨18, _⟩ => ⟨S1x2048x3584, .f32⟩
  | .hbm, ⟨19, _⟩ => ⟨S1x2048x3584, .f32⟩
  | .hbm, ⟨20, _⟩ => ⟨S1x2048x3584, .f32⟩
  | .hbm, ⟨21, _⟩ => ⟨S_, .f32⟩
  | .hbm, ⟨22, _⟩ => ⟨S1x2048x3584, .f32⟩
  | .hbm, ⟨23, _⟩ => ⟨S1x2048x3584, .f32⟩
  | .hbm, ⟨24, _⟩ => ⟨S_, .f32⟩
  | .hbm, ⟨25, _⟩ => ⟨S1x2048x3584, .f32⟩
  | .hbm, ⟨26, _⟩ => ⟨S1x2048x3584, .f32⟩
  | .hbm, ⟨27, _⟩ => ⟨S1x2048x3584, .f32⟩
  | .hbm, ⟨28, _⟩ => ⟨S_, .f32⟩
  | .hbm, ⟨29, _⟩ => ⟨S1x2048x3584, .f32⟩
  | .hbm, ⟨30, _⟩ => ⟨S1x2048x3584, .f32⟩
  | .hbm, ⟨31, _⟩ => ⟨S1x2048x3584, .f32⟩
  | .hbm, ⟨32, _⟩ => ⟨S_, .f32⟩
  | .hbm, ⟨33, _⟩ => ⟨S1x2048x3584, .f32⟩
  | .hbm, ⟨34, _⟩ => ⟨S1x2048x3584, .f32⟩
  | .hbm, ⟨35, _⟩ => ⟨S1x2048x3584, .f32⟩
  | .hbm, ⟨36, _⟩ => ⟨S_, .f32⟩
  | .hbm, ⟨37, _⟩ => ⟨S1x2048x3584, .f32⟩
  | .hbm, ⟨38, _⟩ => ⟨S1x2048x3584, .f32⟩
  | _, _ => ⟨S1x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel34.lean ====
abbrev S4096x4096 : Shape := ⟨2, ![4096, 4096]⟩
abbrev S4096x8192 : Shape := ⟨2, ![4096, 8192]⟩
abbrev S1x4096 : Shape := ⟨2, ![1, 4096]⟩
abbrev S1x1024 : Shape := ⟨2, ![1, 1024]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S_ : Shape := ⟨0, ![]⟩
abbrev S1x512x1024 : Shape := ⟨3, ![1, 512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S1x4096, .f32⟩
  | .hbm, ⟨3, _⟩ => ⟨S4096x4096, .bf16⟩
  | .local _ .vmem, ⟨0, _⟩ => ⟨S1x1024, .f32⟩
  | .local _ .vmem, ⟨1, _⟩ => ⟨S1x1024, .f32⟩
  | .local _ .vmem, ⟨2, _⟩ => ⟨S512x1024, .bf16⟩
  | .local _ .vmem, ⟨3, _⟩ => ⟨S512x1024, .bf16⟩
  | .local _ .vmem, ⟨4, _⟩ => ⟨S3x512x1024, .bf16⟩
  | .local _ .vmem, ⟨5, _⟩ => ⟨S3x512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_42 : BitVec 32 := 0#32
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  v122
def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_42 : BitVec 32 := 0#32
  let v94 : BitVec 32 := Scalar.addi v1 c0_i32_42
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  v134
def k0_off1 (i : grid0.Coords) (c0_i32_42 : BitVec 32) : Fin 2 → Nat :=
  let c0_i32_65 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  ![0, v104.toNat]
def k0_off2 (i : grid0.Coords) (c0_i32_42 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  let c0_i32_66 : BitVec 32 := 0#32
  let c0_i32_67 : BitVec 32 := 0#32
  ![v104.toNat, 0, 0]
def k0_off3 (i : grid0.Coords) (c0_i32_42 : BitVec 32) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  let v123 : BitVec 32 := v122
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  let v135 : BitVec 32 := v134
  ![v123.toNat, v135.toNat]
def k0_off4 (i : grid0.Coords) (c0_i32_42 : BitVec 32) : Fin 2 → Nat :=
  let c1_i32_68 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c3_i32_43 : BitVec 32 := 3#32
  let c0_i32_44 : BitVec 32 := 0#32
  let v95 : BitVec 1 := Scalar.cmpi .eq c3_i32_43 c0_i32_44
  let c1_i32_45 : BitVec 32 := 1#32
  let v96 : BitVec 32 := Scalar.select v95 c1_i32_45 c3_i32_43
  let v97 : BitVec 32 := Scalar.remsi v94 v96
  let c0_i32_47 : BitVec 32 := 0#32
  let v99 : BitVec 1 := Scalar.cmpi .slt v97 c0_i32_47
  let c0_i32_48 : BitVec 32 := 0#32
  let v100 : BitVec 1 := Scalar.cmpi .slt v96 c0_i32_48
  let v101 : BitVec 1 := Scalar.xori v99 v100
  let c0_i32_46 : BitVec 32 := 0#32
  let v98 : BitVec 1 := Scalar.cmpi .ne v97 c0_i32_46
  let v102 : BitVec 1 := Scalar.andi v101 v98
  let v103 : BitVec 32 := Scalar.addi v97 v96
  let v104 : BitVec 32 := Scalar.select v102 v103 v97
  ![1, v104.toNat]
def k0_off5 (i : grid0.Coords) (c0_i32_42 : BitVec 32) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v94 : BitVec 32 := Scalar.addi v1 c0_i32_42
  let c0_i32_50 : BitVec 32 := 0#32
  let v106 : BitVec 1 := Scalar.cmpi .sgt v94 c0_i32_50
  let v107 : BitVec 32 := Scalar.extui v106
  let c0_i32_51 : BitVec 32 := 0#32
  let v108 : BitVec 1 := Scalar.cmpi .slt v94 c0_i32_51
  let v109 : BitVec 32 := Scalar.extui v108
  let v110 : BitVec 32 := Scalar.subi v107 v109
  let c4_i32_49 : BitVec 32 := 4#32
  let c0_i32_52 : BitVec 32 := 0#32
  let v111 : BitVec 1 := Scalar.cmpi .sgt c4_i32_49 c0_i32_52
  let v112 : BitVec 32 := Scalar.extui v111
  let c0_i32_53 : BitVec 32 := 0#32
  let v113 : BitVec 1 := Scalar.cmpi .slt c4_i32_49 c0_i32_53
  let v114 : BitVec 32 := Scalar.extui v113
  let v115 : BitVec 32 := Scalar.subi v112 v114
  let v116 : BitVec 1 := Scalar.cmpi .ne v110 v115
  let v117 : BitVec 32 := Scalar.remsi v94 c4_i32_49
  let c0_i32_54 : BitVec 32 := 0#32
  let v118 : BitVec 1 := Scalar.cmpi .ne v117 c0_i32_54
  let v119 : BitVec 1 := Scalar.andi v116 v118
  let v105 : BitVec 32 := Scalar.divsi v94 c4_i32_49
  let c1_i32_55 : BitVec 32 := 1#32
  let v120 : BitVec 32 := Scalar.subi v105 c1_i32_55
  let v121 : BitVec 32 := Scalar.select v119 v120 v105
  let c512_i32_56 : BitVec 32 := 512#32
  let v122 : BitVec 32 := Scalar.muli v121 c512_i32_56
  let v123 : BitVec 32 := v122
  let c4096_i32_64 : BitVec 32 := 4096#32
  let c4_i32_57 : BitVec 32 := 4#32
  let c0_i32_58 : BitVec 32 := 0#32
  let v124 : BitVec 1 := Scalar.cmpi .eq c4_i32_57 c0_i32_58
  let c1_i32_59 : BitVec 32 := 1#32
  let v125 : BitVec 32 := Scalar.select v124 c1_i32_59 c4_i32_57
  let v126 : BitVec 32 := Scalar.remsi v94 v125
  let c0_i32_61 : BitVec 32 := 0#32
  let v128 : BitVec 1 := Scalar.cmpi .slt v126 c0_i32_61
  let c0_i32_62 : BitVec 32 := 0#32
  let v129 : BitVec 1 := Scalar.cmpi .slt v125 c0_i32_62
  let v130 : BitVec 1 := Scalar.xori v128 v129
  let c0_i32_60 : BitVec 32 := 0#32
  let v127 : BitVec 1 := Scalar.cmpi .ne v126 c0_i32_60
  let v131 : BitVec 1 := Scalar.andi v130 v127
  let v132 : BitVec 32 := Scalar.addi v126 v125
  let v133 : BitVec 32 := Scalar.select v131 v132 v126
  let c1024_i32_63 : BitVec 32 := 1024#32
  let v134 : BitVec 32 := Scalar.muli v133 c1024_i32_63
  let v135 : BitVec 32 := v134
  let v136 : BitVec 32 := Scalar.addi c4096_i32_64 v135
  ![v123.toNat, v136.toNat]
def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_71 : BitVec 32 := 1#32
  let v147 : BitVec 32 := Scalar.addi v1 c1_i32_71
  let c0_i32_79 : BitVec 32 := 0#32
  let v159 : BitVec 1 := Scalar.cmpi .sgt v147 c0_i32_79
  let v160 : BitVec 32 := Scalar.extui v159
  let c0_i32_80 : BitVec 32 := 0#32
  let v161 : BitVec 1 := Scalar.cmpi .slt v147 c0_i32_80
  let v162 : BitVec 32 := Scalar.extui v161
  let v163 : BitVec 32 := Scalar.subi v160 v162
  let c4_i32_78 : BitVec 32 := 4#32
  let c0_i32_81 : BitVec 32 := 0#32
  let v164 : BitVec 1 := Scalar.cmpi .sgt c4_i32_78 c0_i32_81
  let v165 : BitVec 32 := Scalar.extui v164
  let c0_i32_82 : BitVec 32 := 0#32
  let v166 : BitVec 1 := Scalar.cmpi .slt c4_i32_78 c0_i32_82
  let v167 : BitVec 32 := Scalar.extui v166
  let v168 : BitVec 32 := Scalar.subi v165 v167
  let v169 : BitVec 1 := Scalar.cmpi .ne v163 v168
  let v170 : BitVec 32 := Scalar.remsi v147 c4_i32_78
  let c0_i32_83 : BitVec 32 := 0#32
  let v171 : BitVec 1 := Scalar.cmpi .ne v170 c0_i32_83
  let v172 : BitVec 1 := Scalar.andi v169 v171
  let v158 : BitVec 32 := Scalar.divsi v147 c4_i32_78
  let c1_i32_84 : BitVec 32 := 1#32
  let v173 : BitVec 32 := Scalar.subi v158 c1_i32_84
  let v174 : BitVec 32 := Scalar.select v172 v173 v158
  let c512_i32_85 : BitVec 32 := 512#32
  let v175 : BitVec 32 := Scalar.muli v174 c512_i32_85
  v175
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32_71 : BitVec 32 := 1#32
  let v147 : BitVec 32 := Scalar.addi v1 c1_i32_71
  let c4_i32_86 : BitVec 32 := 4#32
  let c0_i32_87 : BitVec 32 := 0#32
  let v177 : BitVec 1 := Scalar.cmpi .eq c4_i32_86 c0_i32_87
  let c1_i32_88 : BitVec 32 := 1#32
  let v178 : BitVec 32 := Scalar.select v177 c1_i32_88 c4_i32_86
  let v179 : BitVec 32 := Scalar.remsi v147 v178
  let c0_i32_90 : BitVec 32 := 0#32
  let v181 : BitVec 1 := Scalar.cmpi .slt v179 c0_i32_90
  let c0_i32_91 : BitVec 32 := 0#32
  let v182 : BitVec 1 := Scalar.cmpi .slt v178 c0_i32_91
  let v183 : BitVec 1 := Scalar.xori v181 v182
  let c0_i32_89 : BitVec 32 := 0#32
  let v180 : BitVec 1 := Scalar.cmpi .ne v179 c0_i32_89
  let v184 : BitVec 1 := Scalar.andi v183 v180
  let v185 : BitVec 32 := Scalar.addi v179 v178
  let v186 : BitVec 32 := Scalar.select v184 v185 v179
  let c1024_i32_92 : BitVec 32 := 1024#32
  let v187 : BitVec 32 := Scalar.muli v186 c1024_i32_92
  v187
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v5 : BitVec 32 := Scalar.addi v1 c3_i32
  let c1_i32 : BitVec 32 := 1#32
  let v6 : BitVec 32 := Scalar.subi v5 c1_i32
  let c32_i32 : BitVec 32 := 32#32
  let v7 : BitVec 1 := Scalar.cmpi .slt v6 c32_i32
  let v8 : BitVec 32 := Scalar.extui v7
  let c0_i32_1 : BitVec 32 := 0#32
  let v9 : BitVec 1 := Scalar.cmpi .ne v8 c0_i32_1
  v9

def k0_mult5 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  v123
def k0_mult6 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  v135
def k0_off6 (i : grid0.Coords) : Fin 2 → Nat :=
  let c0_i32_66 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  ![0, v105.toNat]
def k0_off7 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let c0_i32_67 : BitVec 32 := 0#32
  let c0_i32_68 : BitVec 32 := 0#32
  ![v105.toNat, 0, 0]
def k0_off8 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  let v124 : BitVec 32 := v123
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  let v136 : BitVec 32 := v135
  ![v124.toNat, v136.toNat]
def k0_off9 (i : grid0.Coords) : Fin 2 → Nat :=
  let c1_i32_69 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c3_i32_44 : BitVec 32 := 3#32
  let c0_i32_45 : BitVec 32 := 0#32
  let v96 : BitVec 1 := Scalar.cmpi .eq c3_i32_44 c0_i32_45
  let c1_i32_46 : BitVec 32 := 1#32
  let v97 : BitVec 32 := Scalar.select v96 c1_i32_46 c3_i32_44
  let v98 : BitVec 32 := Scalar.remsi v95 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  ![1, v105.toNat]
def k0_off10 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_42 : BitVec 32 := 3#32
  let v94 : BitVec 32 := Scalar.addi v1 c3_i32_42
  let c1_i32_43 : BitVec 32 := 1#32
  let v95 : BitVec 32 := Scalar.subi v94 c1_i32_43
  let c0_i32_51 : BitVec 32 := 0#32
  let v107 : BitVec 1 := Scalar.cmpi .sgt v95 c0_i32_51
  let v108 : BitVec 32 := Scalar.extui v107
  let c0_i32_52 : BitVec 32 := 0#32
  let v109 : BitVec 1 := Scalar.cmpi .slt v95 c0_i32_52
  let v110 : BitVec 32 := Scalar.extui v109
  let v111 : BitVec 32 := Scalar.subi v108 v110
  let c4_i32_50 : BitVec 32 := 4#32
  let c0_i32_53 : BitVec 32 := 0#32
  let v112 : BitVec 1 := Scalar.cmpi .sgt c4_i32_50 c0_i32_53
  let v113 : BitVec 32 := Scalar.extui v112
  let c0_i32_54 : BitVec 32 := 0#32
  let v114 : BitVec 1 := Scalar.cmpi .slt c4_i32_50 c0_i32_54
  let v115 : BitVec 32 := Scalar.extui v114
  let v116 : BitVec 32 := Scalar.subi v113 v115
  let v117 : BitVec 1 := Scalar.cmpi .ne v111 v116
  let v118 : BitVec 32 := Scalar.remsi v95 c4_i32_50
  let c0_i32_55 : BitVec 32 := 0#32
  let v119 : BitVec 1 := Scalar.cmpi .ne v118 c0_i32_55
  let v120 : BitVec 1 := Scalar.andi v117 v119
  let v106 : BitVec 32 := Scalar.divsi v95 c4_i32_50
  let c1_i32_56 : BitVec 32 := 1#32
  let v121 : BitVec 32 := Scalar.subi v106 c1_i32_56
  let v122 : BitVec 32 := Scalar.select v120 v121 v106
  let c512_i32_57 : BitVec 32 := 512#32
  let v123 : BitVec 32 := Scalar.muli v122 c512_i32_57
  let v124 : BitVec 32 := v123
  let c4096_i32_65 : BitVec 32 := 4096#32
  let c4_i32_58 : BitVec 32 := 4#32
  let c0_i32_59 : BitVec 32 := 0#32
  let v125 : BitVec 1 := Scalar.cmpi .eq c4_i32_58 c0_i32_59
  let c1_i32_60 : BitVec 32 := 1#32
  let v126 : BitVec 32 := Scalar.select v125 c1_i32_60 c4_i32_58
  let v127 : BitVec 32 := Scalar.remsi v95 v126
  let c0_i32_62 : BitVec 32 := 0#32
  let v129 : BitVec 1 := Scalar.cmpi .slt v127 c0_i32_62
  let c0_i32_63 : BitVec 32 := 0#32
  let v130 : BitVec 1 := Scalar.cmpi .slt v126 c0_i32_63
  let v131 : BitVec 1 := Scalar.xori v129 v130
  let c0_i32_61 : BitVec 32 := 0#32
  let v128 : BitVec 1 := Scalar.cmpi .ne v127 c0_i32_61
  let v132 : BitVec 1 := Scalar.andi v131 v128
  let v133 : BitVec 32 := Scalar.addi v127 v126
  let v134 : BitVec 32 := Scalar.select v132 v133 v127
  let c1024_i32_64 : BitVec 32 := 1024#32
  let v135 : BitVec 32 := Scalar.muli v134 c1024_i32_64
  let v136 : BitVec 32 := v135
  let v137 : BitVec 32 := Scalar.addi c4096_i32_65 v136
  ![v124.toNat, v137.toNat]
def k0_mult7 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  v37
def k0_mult8 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  v49
def k0_off11 (i : grid0.Coords) : Fin 2 → Nat :=
  let c0_i32_21 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![0, v19.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c0_i32_22 : BitVec 32 := 0#32
  let c0_i32_23 : BitVec 32 := 0#32
  ![v19.toNat, 0, 0]
def k0_off13 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  let v38 : BitVec 32 := v37
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  let v50 : BitVec 32 := v49
  ![v38.toNat, v50.toNat]
def k0_off14 (i : grid0.Coords) : Fin 2 → Nat :=
  let c1_i32_24 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_2 : BitVec 32 := 3#32
  let c0_i32_3 : BitVec 32 := 0#32
  let v10 : BitVec 1 := Scalar.cmpi .eq c3_i32_2 c0_i32_3
  let c1_i32_4 : BitVec 32 := 1#32
  let v11 : BitVec 32 := Scalar.select v10 c1_i32_4 c3_i32_2
  let v12 : BitVec 32 := Scalar.remsi v1 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  ![1, v19.toNat]
def k0_off15 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_9 : BitVec 32 := 0#32
  let v21 : BitVec 1 := Scalar.cmpi .sgt v1 c0_i32_9
  let v22 : BitVec 32 := Scalar.extui v21
  let c0_i32_10 : BitVec 32 := 0#32
  let v23 : BitVec 1 := Scalar.cmpi .slt v1 c0_i32_10
  let v24 : BitVec 32 := Scalar.extui v23
  let v25 : BitVec 32 := Scalar.subi v22 v24
  let c4_i32_8 : BitVec 32 := 4#32
  let c0_i32_11 : BitVec 32 := 0#32
  let v26 : BitVec 1 := Scalar.cmpi .sgt c4_i32_8 c0_i32_11
  let v27 : BitVec 32 := Scalar.extui v26
  let c0_i32_12 : BitVec 32 := 0#32
  let v28 : BitVec 1 := Scalar.cmpi .slt c4_i32_8 c0_i32_12
  let v29 : BitVec 32 := Scalar.extui v28
  let v30 : BitVec 32 := Scalar.subi v27 v29
  let v31 : BitVec 1 := Scalar.cmpi .ne v25 v30
  let v32 : BitVec 32 := Scalar.remsi v1 c4_i32_8
  let c0_i32_13 : BitVec 32 := 0#32
  let v33 : BitVec 1 := Scalar.cmpi .ne v32 c0_i32_13
  let v34 : BitVec 1 := Scalar.andi v31 v33
  let v20 : BitVec 32 := Scalar.divsi v1 c4_i32_8
  let c1_i32_14 : BitVec 32 := 1#32
  let v35 : BitVec 32 := Scalar.subi v20 c1_i32_14
  let v36 : BitVec 32 := Scalar.select v34 v35 v20
  let c512_i32 : BitVec 32 := 512#32
  let v37 : BitVec 32 := Scalar.muli v36 c512_i32
  let v38 : BitVec 32 := v37
  let c4096_i32 : BitVec 32 := 4096#32
  let c4_i32_15 : BitVec 32 := 4#32
  let c0_i32_16 : BitVec 32 := 0#32
  let v39 : BitVec 1 := Scalar.cmpi .eq c4_i32_15 c0_i32_16
  let c1_i32_17 : BitVec 32 := 1#32
  let v40 : BitVec 32 := Scalar.select v39 c1_i32_17 c4_i32_15
  let v41 : BitVec 32 := Scalar.remsi v1 v40
  let c0_i32_19 : BitVec 32 := 0#32
  let v43 : BitVec 1 := Scalar.cmpi .slt v41 c0_i32_19
  let c0_i32_20 : BitVec 32 := 0#32
  let v44 : BitVec 1 := Scalar.cmpi .slt v40 c0_i32_20
  let v45 : BitVec 1 := Scalar.xori v43 v44
  let c0_i32_18 : BitVec 32 := 0#32
  let v42 : BitVec 1 := Scalar.cmpi .ne v41 c0_i32_18
  let v46 : BitVec 1 := Scalar.andi v45 v42
  let v47 : BitVec 32 := Scalar.addi v41 v40
  let v48 : BitVec 32 := Scalar.select v46 v47 v41
  let c1024_i32 : BitVec 32 := 1024#32
  let v49 : BitVec 32 := Scalar.muli v48 c1024_i32
  let v50 : BitVec 32 := v49
  let v51 : BitVec 32 := Scalar.addi c4096_i32 v50
  ![v38.toNat, v51.toNat]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_27 : BitVec 32 := 3#32
  let c0_i32_28 : BitVec 32 := 0#32
  let v62 : BitVec 1 := Scalar.cmpi .eq c3_i32_27 c0_i32_28
  let c1_i32_29 : BitVec 32 := 1#32
  let v63 : BitVec 32 := Scalar.select v62 c1_i32_29 c3_i32_27
  let v64 : BitVec 32 := Scalar.remsi v1 v63
  let c0_i32_31 : BitVec 32 := 0#32
  let v66 : BitVec 1 := Scalar.cmpi .slt v64 c0_i32_31
  let c0_i32_32 : BitVec 32 := 0#32
  let v67 : BitVec 1 := Scalar.cmpi .slt v63 c0_i32_32
  let v68 : BitVec 1 := Scalar.xori v66 v67
  let c0_i32_30 : BitVec 32 := 0#32
  let v65 : BitVec 1 := Scalar.cmpi .ne v64 c0_i32_30
  let v69 : BitVec 1 := Scalar.andi v68 v65
  let v70 : BitVec 32 := Scalar.addi v64 v63
  let v71 : BitVec 32 := Scalar.select v69 v70 v64
  let v72 : Index := Scalar.indexCast v71
  let c0 : Index := 0#32
  let c0_33 : Index := 0#32
  ![v72.toNat, 0, 0]
def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference34Ideal.lean ====
abbrev S4096x4096 : Shape := ⟨2, ![4096, 4096]⟩
abbrev S4096x8192 : Shape := ⟨2, ![4096, 8192]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel35.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference35Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel36.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S256x2048, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference36Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S256x2048, .f32⟩
  | .hbm, ⟨34, _⟩ => ⟨S256x2048, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S256, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.InWeights.lean ====
/- The gradient of the first input projection by its weights: what the grid of 32 blocks leaves in the result array, and
   the reference's value, both as one sum over the 4096 positions. -/
module

public import proofs.«01_k».proof.Proof.Gen.Kernel2Ideal.Value
public import proofs.«01_k».proof.Proof.Gen.Reference2Ideal.Read
public import Idealize.ShloMosaic.Lib.Pipeline.Value
public import Idealize.ShloMosaic.Lib.Pointwise

@[expose] public section

set_option maxRecDepth 16384

noncomputable section

namespace Cert.Products

open Idealize.ShloMosaic

/-- The weights' gradient at chip `i 0`, row `i 1` and the chip's column `i 2`, summed over the positions. -/
def inWeights (x : Vec Ideal Cert.Kernel2Ideal.S4096x2048 .bf16) (g : Vec Ideal Cert.Kernel2Ideal.S4096x8192 .bf16)
    (i : Cert.Kernel2Ideal.S4x2048x2048.Idx) : EReal :=
  ∑ k : Fin 4096, x (ix2 k (i 1)) * g (ix2 k ⟨(i 0).val * 2048 + (i 2).val, by
    have h0 : (i 0).val < 4 := (i 0).isLt; have h2 : (i 2).val < 2048 := (i 2).isLt; omega⟩)

end Cert.Products

namespace Cert.Kernel2Ideal.Product

open Idealize.ShloMosaic Idealize.ShloMosaic.TcCoe Idealize.SL.Sem Cert.Kernel2Ideal Cert.Kernel2Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block's payload: the product of the two blocks over the positions. -/
theorem out_apply (x : Vec Ideal S4096x1024 .bf16) (g : Vec Ideal S4096x512 .bf16) (u : Fin 1) (r : Fin 1024) (s : Fin 512) :
    out0_2 (F := Ideal) x g (ix3 u r s) = ∑ k : Fin 4096, x (ix2 k r) * g (ix2 k s) := by
  unfold out0_2
  rw [View.canon_unit_zero hz3]
  simp only [View.ld_unit_zero (S := S4096x1024) hz2, View.ld_unit_zero (S := S4096x512) hz2]
  pointwise [k0_pay1]

theorem idx0 : ∀ t : Fin cfg0.N, win0_0.index t 0 = 0 ∧ win0_0.index t 1 = t.val / 16 :=
  (by decide +kernel : ∀ t : Fin grid0.N, win0_0.index t 0 = 0 ∧ win0_0.index t 1 = t.val / 16)
theorem idx1 : ∀ t : Fin cfg0.N, win0_1.index t 0 = 0 ∧ win0_1.index t 1 = t.val % 16 :=
  (by decide +kernel : ∀ t : Fin grid0.N, win0_1.index t 0 = 0 ∧ win0_1.index t 1 = t.val % 16)
theorem idx2 : ∀ t : Fin cfg0.N, win0_2.index t 0 = t.val % 16 / 4 ∧ win0_2.index t 1 = t.val / 16 ∧ win0_2.index t 2 = t.val % 4 :=
  (by decide +kernel : ∀ t : Fin grid0.N, win0_2.index t 0 = t.val % 16 / 4 ∧ win0_2.index t 1 = t.val / 16 ∧ win0_2.index t 2 = t.val % 4)

/-- The two arguments as launched. -/
abbrev a0 : Vec Ideal S4096x2048 .bf16 := m ((c : Thread nD τ).loc main_arg0)
abbrev a1 : Vec Ideal S4096x8192 .bf16 := m ((c : Thread nD τ).loc main_arg1)

theorem blk0 (t : Fin cfg0.N) (k : Fin 4096) (r : Fin 1024) (q : Fin 2048) (hq : q.val = t.val / 16 * 1024 + r.val) :
    (iblk m c 0 t : Vec Ideal S4096x1024 .bf16) (ix2 k r) = a0 m c (ix2 k q) := by
  unfold iblk
  rw [View.read_apply]
  show V m c main_arg0 _ = _
  rw [V_main_arg0]
  congr 1
  funext a
  apply Fin.ext
  match a with
  | ⟨0, _⟩ => show win0_0.index t 0 * 4096 + 1 * k.val = k.val; rw [(idx0 t).1]; omega
  | ⟨1, _⟩ => show win0_0.index t 1 * 1024 + 1 * r.val = q.val; rw [(idx0 t).2]; omega

theorem blk1 (t : Fin cfg0.N) (k : Fin 4096) (s : Fin 512) (q : Fin 8192) (hq : q.val = t.val % 16 * 512 + s.val) :
    (iblk m c 1 t : Vec Ideal S4096x512 .bf16) (ix2 k s) = a1 m c (ix2 k q) := by
  unfold iblk
  rw [View.read_apply]
  show V m c main_arg1 _ = _
  rw [V_main_arg1]
  congr 1
  funext a
  apply Fin.ext
  match a with
  | ⟨0, _⟩ => show win0_1.index t 0 * 4096 + 1 * k.val = k.val; rw [(idx1 t).1]; omega
  | ⟨1, _⟩ => show win0_1.index t 1 * 512 + 1 * s.val = q.val; rw [(idx1 t).2]; omega

theorem flushed (t : Fin cfg0.N) :
    (dats m 0 c).flushed 2 t = ((cfg0.win 2).blk t).view.read (Elt Ideal) (inWeights (a0 m c) (a1 m c)) := by
  rw [Value.flushed2]
  funext y
  obtain ⟨u, r, s, rfl⟩ : ∃ u r s, y = ix3 u r s := ⟨y 0, y 1, y 2, by idx_ext⟩
  rw [View.read_apply]
  show out0_2 (iblk m c 0 t) (iblk m c 1 t) (ix3 u r s) = inWeights (a0 m c) (a1 m c) (((cfg0.win 2).blk t).view.emb (ix3 u r s))
  rw [out_apply]
  unfold inWeights
  refine Finset.sum_congr rfl fun k _ => ?_
  have hN : cfg0.N = 32 := N_0
  have ht := t.isLt
  refine congrArg₂ (· * ·) (blk0 m c t k r _ ?_) (blk1 m c t k s _ ?_)
  · show win0_2.index t 1 * 1024 + 1 * r.val = t.val / 16 * 1024 + r.val
    rw [(idx2 t).2.1]; omega
  · show (win0_2.index t 0 * 1 + 1 * u.val) * 2048 + (win0_2.index t 2 * 512 + 1 * s.val) = t.val % 16 * 512 + s.val
    rw [(idx2 t).1, (idx2 t).2.2]; omega

theorem onto : ∀ (p : Fin 4) (q : Fin 2) (r : Fin 4), ∃ t : Fin cfg0.N,
    win0_2.index t 0 = p.val ∧ win0_2.index t 1 = q.val ∧ win0_2.index t 2 = r.val :=
  (by decide +kernel : ∀ (p : Fin 4) (q : Fin 2) (r : Fin 4), ∃ t : Fin grid0.N,
    win0_2.index t 0 = p.val ∧ win0_2.index t 1 = q.val ∧ win0_2.index t 2 = r.val)

/-- The 32 blocks fill the array. -/
theorem final : (dats m 0 c).arrAt 2 cfg0.N = inWeights (a0 m c) (a1 m c) :=
  (dats m 0 c).arrAt_eq_of_cover 2 (inWeights (a0 m c) (a1 m c)) (fun t _ => flushed m c t) fun i => by
    have h0 : (i 0).val < 4 := (i 0).isLt
    have h1 : (i 1).val < 2048 := (i 1).isLt
    have h2 : (i 2).val < 2048 := (i 2).isLt
    obtain ⟨t, e0, e1, e2⟩ := onto ⟨(i 0).val, h0⟩ ⟨(i 1).val / 1024, by omega⟩ ⟨(i 2).val / 512, by omega⟩
    dsimp only at e0 e1 e2
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 1024 ≤ (i 1).val ∧ (i 1).val < win0_2.index t 1 * 1024 + 1024; omega
    | ⟨2, _⟩ => show win0_2.index t 2 * 512 ≤ (i 2).val ∧ (i 2).val < win0_2.index t 2 * 512 + 512; omega

end Cert.Kernel2Ideal.Product

namespace Cert.Reference2Ideal.Product

open Idealize.ShloMosaic Cert.Reference2Ideal Cert.Reference2Ideal.Gen Cert.Reference2Ideal.Read Cert.Products

/-- The reference's result is the same sum. -/
theorem result (x : Vec Ideal S4096x2048 .bf16) (g : Vec Ideal S4096x8192 .bf16) :
    val_main_v9 (F := Ideal) x g = inWeights x g := by
  funext i
  rw [val_main_v9_apply, val_main_v8_apply, val_main_v7_apply, val_main_v5_apply]
  show val_main_v4 (F := Ideal) x g _ = _
  rw [val_main_v4_apply]
  unfold inWeights
  refine Finset.sum_congr rfl fun k _ => ?_
  show g _ * x _ = _
  rw [mul_comm]
  have h0 : (i 0).val < 4 := (i 0).isLt
  have h1 : (i 1).val < 2048 := (i 1).isLt
  have h2 : (i 2).val < 2048 := (i 2).isLt
  congr 1
  · congr 1
    funext a
    apply Fin.ext
    match a with
    | ⟨0, _⟩ => rfl
    | ⟨1, _⟩ => show (((i 1).val * 4 + (i 0).val) * 2048 + (i 2).val) / 8192 = (i 1).val; omega
  · congr 1
    funext a
    apply Fin.ext
    match a with
    | ⟨0, _⟩ => rfl
    | ⟨1, _⟩ => show (((i 1).val * 4 + (i 0).val) * 2048 + (i 2).val) % 8192 = (i 0).val * 2048 + (i 2).val; omega

end Cert.Reference2Ideal.Product

end
-- ==== Proof.Sweep.lean ====
/- A block summed over successive grid points: reset at every `P`-th point, added to at the others. -/
module

public import Idealize.ShloMosaic.Lib.ValueIdx

@[expose] public section

noncomputable section

namespace Cert.Products

open Finset

/-- What the block holds after point `n`: the parts of the points since the last reset. -/
theorem sweep {α : Type} {N P : ℕ} (hP : 0 < P) (f : (n : ℕ) → n < N → α → EReal) (part : ℕ → α → EReal)
    (first : ∀ n h, n % P = 0 → ∀ y, f n h y = part n y)
    (next : ∀ n h, ¬(n + 1) % P = 0 → ∀ y, f (n + 1) h y = f n (Nat.lt_of_succ_lt h) y + part (n + 1) y) :
    ∀ n h y, f n h y = ∑ t ∈ range (n % P + 1), part (n / P * P + t) y
  | 0, h, y => by
    rw [first 0 h (Nat.zero_mod P) y, Nat.zero_mod, sum_range_one, Nat.zero_div, Nat.zero_mul]
  | n + 1, h, y => by
    by_cases hr : (n + 1) % P = 0
    · rw [first (n + 1) h hr y, hr, sum_range_one, Nat.add_zero,
        Nat.div_mul_cancel (Nat.dvd_of_mod_eq_zero hr)]
    · have hd : (n + 1) / P = n / P := by
        rw [Nat.succ_div, if_neg (fun hdvd => hr (Nat.mod_eq_zero_of_dvd hdvd)), Nat.add_zero]
      have e1 := Nat.div_add_mod (n + 1) P
      have e2 := Nat.div_add_mod n P
      rw [hd] at e1
      have hm : (n + 1) % P = n % P + 1 := by omega
      rw [next n h hr y, sweep hP f part first next n _ y, hm, hd, sum_range_succ _ (n % P + 1)]
      congr 2
      rw [Nat.mul_comm]
      omega

end Cert.Products

end
-- ==== Proof.InInputs.lean ====
/- The gradient of the first input projection by its inputs: four partial products summed in a scratch block, and the
   reference's one product. -/
module

public import proofs.«01_k».proof.Proof.Gen.Kernel3Ideal.Value
public import proofs.«01_k».proof.Proof.Gen.Reference3Ideal.Read
public import proofs.«01_k».proof.Proof.Sweep
public import Idealize.ShloMosaic.Lib.Pipeline.Value
public import Idealize.ShloMosaic.Lib.Pointwise

@[expose] public section

set_option maxRecDepth 16384

noncomputable section

namespace Cert.Products

open Idealize.ShloMosaic

/-- The inputs' gradient at position `i 0` and column `i 1`: the sum over the projection's 8192 columns, 2048 per chip. -/
def inInputs (g : Vec Ideal Cert.Kernel3Ideal.S4096x8192 .bf16) (w : Vec Ideal Cert.Kernel3Ideal.S4x2048x2048 .bf16)
    (i : Cert.Kernel3Ideal.S4096x2048.Idx) : EReal :=
  ∑ k : Fin 8192, g (ix2 (i 0) k) * w (ix3 ⟨k.val / 2048, by omega⟩ (i 1) ⟨k.val % 2048, by omega⟩)

end Cert.Products

namespace Cert.Kernel3Ideal.Product

open Idealize.ShloMosaic Idealize.ShloMosaic.TcCoe Idealize.SL.Sem Cert.Kernel3Ideal Cert.Kernel3Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One point's product. -/
theorem pay1_apply (g : Vec Ideal S1024x2048 .bf16) (w : Vec Ideal S1x1024x2048 .bf16) (r s : Fin 1024) :
    k0_pay1 (F := Ideal) g w (ix2 r s) = ∑ k : Fin 2048, g (ix2 r k) * w (ix3 0 s k) := by
  pointwise [k0_pay1]

section Cases

variable (i : grid0.Coords) (p : Memref sig .tc .vmem S1024x2048 .bf16) (hp : p.IsWhole)
  (q : Memref sig .tc .vmem S1x1024x2048 .bf16) (hq : q.IsWhole) (o : Memref sig .tc .vmem S1024x1024 .f32) (ho : o.IsWhole)
  (s : Memref sig .tc .vmem S1024x1024 .f32) (hs : s.IsWhole)
  (x : Vec Ideal S1024x2048 .bf16) (y : Vec Ideal S1x1024x2048 .bf16) (z : Vec Ideal S1024x1024 .f32)

/-- The first point of a run leaves its product in the scratch block. -/
theorem scratch_A (hA hB hC) : sout0_A_0 c i p hp q hq o ho s hs hA hB hC x y = k0_pay1 x y := by
  unfold sout0_A_0
  rw [View.read_writes_eq_canon _ _ _ (scover0_A_0 c i p hp q hq o ho s hs hA hB hC x y)]
  unfold kernelRun0_A
  dsimp only
  rw [View.canon_unit_zero hz2]
  unfold k0_pay2
  simp only [View.readAt_eq_ld, hp.read_unread, hq.read_unread, View.ld_unit_zero (S := S1024x2048) hz2,
    View.ld_unit_zero (S := S1x1024x2048) hz3, shapeCast_self]

/-- A middle point adds its product. -/
theorem scratch_B (hA hB hC) : sout0_B_0 c i p hp q hq o ho s hs hA hB hC x y z = addf z (k0_pay1 x y) := by
  unfold sout0_B_0
  rw [View.read_writes_eq_canon _ _ _ (scover0_B_0 c i p hp q hq o ho s hs hA hB hC x y z)]
  unfold kernelRun0_B
  dsimp only
  rw [View.canon_unit_zero hz2]
  unfold k0_pay3
  simp only [View.readAt_eq_ld, hp.read_unread, hq.read_unread, hs.read_unread, View.ld_unit_zero (S := S1024x2048) hz2,
    View.ld_unit_zero (S := S1024x1024) hz2, View.ld_unit_zero (S := S1x1024x2048) hz3, shapeCast_self]

/-- So does the last, -/
theorem scratch_C (hA hB hC) : sout0_C_0 c i p hp q hq o ho s hs hA hB hC x y z = addf z (k0_pay1 x y) := by
  unfold sout0_C_0
  rw [View.read_writes_eq_canon _ _ _ (scover0_C_0 c i p hp q hq o ho s hs hA hB hC x y z)]
  unfold kernelRun0_C
  dsimp only
  sl_unfold_words
  rw [View.canon_unit_zero hz2]
  unfold k0_pay3
  simp only [View.readAt_eq_ld, hp.read_unread, hq.read_unread, hs.read_unread, View.ld_unit_zero (S := S1024x2048) hz2,
    View.ld_unit_zero (S := S1024x1024) hz2, View.ld_unit_zero (S := S1x1024x2048) hz3, shapeCast_self]

/-- which then copies the scratch block to the result's. -/
theorem out_C (hA hB hC) : out0_C_2 c i p hp q hq o ho s hs hA hB hC x y z = addf z (k0_pay1 x y) := by
  unfold out0_C_2
  rw [View.read_writes_eq_canon _ _ _ (cover0_C_2 c i p hp q hq o ho s hs hA hB hC x y z)]
  unfold kernelRun0_C
  dsimp only
  sl_unfold_words
  rw [View.canon_unit_zero hz2, View.readCov_unit_zero (S := S1024x1024) _ hz2]
  unfold k0_pay3
  simp only [View.readAt_eq_ld, hp.read_unread, hq.read_unread, hs.read_unread, View.ld_unit_zero (S := S1024x2048) hz2,
    View.ld_unit_zero (S := S1024x1024) hz2, View.ld_unit_zero (S := S1x1024x2048) hz3, shapeCast_self]

end Cases

theorem idx0 : ∀ t : Fin cfg0.N, win0_0.index t 0 = t.val / 8 ∧ win0_0.index t 1 = t.val % 4 :=
  (by decide +kernel : ∀ t : Fin grid0.N, win0_0.index t 0 = t.val / 8 ∧ win0_0.index t 1 = t.val % 4)
theorem idx1 : ∀ t : Fin cfg0.N, win0_1.index t 0 = t.val % 4 ∧ win0_1.index t 1 = t.val % 8 / 4 ∧ win0_1.index t 2 = 0 :=
  (by decide +kernel : ∀ t : Fin grid0.N, win0_1.index t 0 = t.val % 4 ∧ win0_1.index t 1 = t.val % 8 / 4 ∧ win0_1.index t 2 = 0)
theorem idx2 : ∀ t : Fin cfg0.N, win0_2.index t 0 = t.val / 8 ∧ win0_2.index t 1 = t.val % 8 / 4 :=
  (by decide +kernel : ∀ t : Fin grid0.N, win0_2.index t 0 = t.val / 8 ∧ win0_2.index t 1 = t.val % 8 / 4)

/-- The two arguments as launched. -/
abbrev a0 : Vec Ideal S4096x8192 .bf16 := m ((c : Thread nD τ).loc main_arg0)
abbrev a1 : Vec Ideal S4x2048x2048 .bf16 := m ((c : Thread nD τ).loc main_arg1)

/-- Position `r` of point `n`'s block, and column `s` of its weights. -/
def pos (n : ℕ) (r : Fin 1024) : Fin 4096 := ⟨(n / 8 * 1024 + r.val) % 4096, Nat.mod_lt _ (by decide)⟩
def col (n : ℕ) (s : Fin 1024) : Fin 2048 := ⟨n % 8 / 4 * 1024 + s.val, by omega⟩

/-- What point `n` adds. -/
def part (n : ℕ) (y : S1024x1024.Idx) : EReal :=
  ∑ k : Fin 2048, a0 m c (ix2 (pos n (y 0)) ⟨n % 4 * 2048 + k.val, by omega⟩) * a1 m c (ix3 ⟨n % 4, by omega⟩ (col n (y 1)) k)

theorem blk0 (t : Fin cfg0.N) (r : Fin 1024) (k : Fin 2048) :
    (iblk m c 0 t : Vec Ideal S1024x2048 .bf16) (ix2 r k) = a0 m c (ix2 (pos t.val r) ⟨t.val % 4 * 2048 + k.val, by omega⟩) := by
  have hN : cfg0.N = 32 := N_0
  have ht := t.isLt
  unfold iblk
  rw [View.read_apply]
  show V m c main_arg0 _ = _
  rw [V_main_arg0]
  congr 1
  funext a
  apply Fin.ext
  match a with
  | ⟨0, _⟩ => show win0_0.index t 0 * 1024 + 1 * r.val = (t.val / 8 * 1024 + r.val) % 4096; rw [(idx0 t).1]; omega
  | ⟨1, _⟩ => show win0_0.index t 1 * 2048 + 1 * k.val = t.val % 4 * 2048 + k.val; rw [(idx0 t).2]; omega

theorem blk1 (t : Fin cfg0.N) (s : Fin 1024) (k : Fin 2048) :
    (iblk m c 1 t : Vec Ideal S1x1024x2048 .bf16) (ix3 0 s k) = a1 m c (ix3 ⟨t.val % 4, by omega⟩ (col t.val s) k) := by
  unfold iblk
  rw [View.read_apply]
  show V m c main_arg1 _ = _
  rw [V_main_arg1]
  congr 1
  funext a
  apply Fin.ext
  match a with
  | ⟨0, _⟩ => show win0_1.index t 0 * 1 + 1 * 0 = t.val % 4; rw [(idx1 t).1]; omega
  | ⟨1, _⟩ => show win0_1.index t 1 * 1024 + 1 * s.val = t.val % 8 / 4 * 1024 + s.val; rw [(idx1 t).2.1]; omega
  | ⟨2, _⟩ => show win0_1.index t 2 * 2048 + 1 * k.val = k.val; rw [(idx1 t).2.2]; omega

theorem point (t : Fin cfg0.N) (y : S1024x1024.Idx) :
    k0_pay1 (F := Ideal) (iblk m c 0 t) (iblk m c 1 t) y = part m c t.val y := by
  obtain ⟨r, s, rfl⟩ : ∃ r s, y = ix2 r s := ⟨y 0, y 1, by idx_ext⟩
  rw [pay1_apply]
  exact Finset.sum_congr rfl fun k _ => congrArg₂ (· * ·) (blk0 m c t r k) (blk1 m c t s k)

/-- The scratch block after point `n`. -/
theorem scratch (n : ℕ) (h : n < cfg0.N) (y : S1024x1024.Idx) :
    (outsAt0 m c n h).2 y = ∑ t ∈ Finset.range (n % 4 + 1), part m c (n / 4 * 4 + t) y := by
  refine sweep (P := 4) (by decide) (fun n h => (outsAt0 m c n h).2) (part m c) (fun n h h0 y => ?_) (fun n h h0 y => ?_) n h y
  · rw [show outsAt0 m c n h = _ from outsAt0_A m c ⟨n, h⟩ h0 (by dsimp only; omega) (by dsimp only; omega)]
    dsimp only
    rw [scratch_A]
    exact point m c ⟨n, h⟩ y
  · by_cases h3 : (n + 1) % 4 = 3
    · rw [show outsAt0 m c (n + 1) h = _ from outsAt0_C m c ⟨n + 1, h⟩ h0 (by dsimp only; omega) h3]
      dsimp only
      rw [scratch_C]
      exact congrArg _ (point m c ⟨n + 1, h⟩ y)
    · rw [show outsAt0 m c (n + 1) h = _ from outsAt0_B m c ⟨n + 1, h⟩ h0 (by dsimp only; omega) h3]
      dsimp only
      rw [scratch_B]
      exact congrArg _ (point m c ⟨n + 1, h⟩ y)

/-- The result's block after the last point of a run is the scratch block. -/
theorem out_last (t : Fin cfg0.N) (h3 : t.val % 4 = 3) : (outsAt0 m c t.val t.isLt).1 = (outsAt0 m c t.val t.isLt).2 := by
  rw [outsAt0_C m c t (by omega) (by omega) h3]
  dsimp only
  rw [out_C, scratch_C]

theorem flushed (t : Fin cfg0.N) (hf : (cfg0.win 2).flush t = true) :
    (dats m 0 c).flushed 2 t = ((cfg0.win 2).blk t).view.read (Elt Ideal) (inInputs (a0 m c) (a1 m c)) := by
  have hN : cfg0.N = 32 := N_0
  have ht := t.isLt
  have h3 : t.val % 4 = 3 := (flush0_2 t).mp hf
  show (cfg0.win 2).cut (grid0.coords t) ((dats m 0 c).after 2 t) = _
  rw [after0_2, out_last m c t h3]
  funext y
  obtain ⟨r, s, rfl⟩ : ∃ r s, y = ix2 r s := ⟨y 0, y 1, by idx_ext⟩
  rw [View.read_apply]
  show (outsAt0 m c t.val t.isLt).2 (ix2 r s) = inInputs (a0 m c) (a1 m c) (((cfg0.win 2).blk t).view.emb (ix2 r s))
  rw [scratch, h3, Finset.sum_range]
  unfold inInputs part
  rw [Fin.sum_univ_tiles 4 2048 rfl]
  refine Finset.sum_congr rfl fun u _ => Finset.sum_congr rfl fun k _ => ?_
  congr 1
  · congr 1
    funext a
    apply Fin.ext
    match a with
    | ⟨0, _⟩ =>
      show ((t.val / 4 * 4 + u.val) / 8 * 1024 + r.val) % 4096 = win0_2.index t 0 * 1024 + 1 * r.val
      rw [(idx2 t).1]; omega
    | ⟨1, _⟩ => show (t.val / 4 * 4 + u.val) % 4 * 2048 + k.val = u.val * 2048 + k.val; omega
  · congr 1
    funext a
    apply Fin.ext
    match a with
    | ⟨0, _⟩ => show (t.val / 4 * 4 + u.val) % 4 = (u.val * 2048 + k.val) / 2048; omega
    | ⟨1, _⟩ =>
      show (t.val / 4 * 4 + u.val) % 8 / 4 * 1024 + s.val = win0_2.index t 1 * 1024 + 1 * s.val
      rw [(idx2 t).2]; omega
    | ⟨2, _⟩ => show k.val = (u.val * 2048 + k.val) % 2048; omega

theorem onto : ∀ (p : Fin 4) (q : Fin 2), ∃ t : Fin cfg0.N,
    t.val % 4 = 3 ∧ win0_2.index t 0 = p.val ∧ win0_2.index t 1 = q.val :=
  (by decide +kernel : ∀ (p : Fin 4) (q : Fin 2), ∃ t : Fin grid0.N,
    t.val % 4 = 3 ∧ win0_2.index t 0 = p.val ∧ win0_2.index t 1 = q.val)

/-- The eight blocks fill the array. -/
theorem final : (dats m 0 c).arrAt 2 cfg0.N = inInputs (a0 m c) (a1 m c) :=
  (dats m 0 c).arrAt_eq_of_cover 2 (inInputs (a0 m c) (a1 m c)) (flushed m c) fun i => by
    have h0 : (i 0).val < 4096 := (i 0).isLt
    have h1 : (i 1).val < 2048 := (i 1).isLt
    obtain ⟨t, e, e0, e1⟩ := onto ⟨(i 0).val / 1024, by omega⟩ ⟨(i 1).val / 1024, by omega⟩
    dsimp only at e0 e1
    refine ⟨t, (flush0_2 t).mpr e, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

end Cert.Kernel3Ideal.Product

namespace Cert.Reference3Ideal.Product

open Idealize.ShloMosaic Cert.Reference3Ideal Cert.Reference3Ideal.Gen Cert.Reference3Ideal.Read Cert.Products

/-- The reference's result is the same sum. -/
theorem result (g : Vec Ideal S4096x8192 .bf16) (w : Vec Ideal S4x2048x2048 .bf16) :
    val_main_v8 (F := Ideal) g w = inInputs g w := by
  funext i
  rw [val_main_v8_apply]
  unfold inInputs
  refine Finset.sum_congr rfl fun k _ => ?_
  rw [val_main_v3_apply, val_main_v1_apply, val_main_v0_apply]
  have h1 : (i 1).val < 2048 := (i 1).isLt
  refine congrArg₂ (· * ·) (congrArg g (by idx_ext)) ?_
  show w _ = w _
  congr 1
  funext a
  apply Fin.ext
  match a with
  | ⟨0, _⟩ => show ((i 1).val * 8192 + k.val) / 2048 % 4 = k.val / 2048; omega
  | ⟨1, _⟩ => show ((i 1).val * 8192 + k.val) / 8192 = (i 1).val; omega
  | ⟨2, _⟩ => show ((i 1).val * 8192 + k.val) % 2048 = k.val % 2048; omega

end Cert.Reference3Ideal.Product

end
-- ==== Proof.OutWeights.lean ====
/- The gradient of the output projection by its weights: what the grid of 16 blocks leaves in the result array, and
   the reference's value, both as one sum over the 4096 positions. -/
module

public import proofs.«01_k».proof.Proof.Gen.Kernel4Ideal.Value
public import proofs.«01_k».proof.Proof.Gen.Reference4Ideal.Read
public import Idealize.ShloMosaic.Lib.Pipeline.Value
public import Idealize.ShloMosaic.Lib.Pointwise

@[expose] public section

set_option maxRecDepth 16384

noncomputable section

namespace Cert.Products

open Idealize.ShloMosaic

/-- The weights' gradient at chip `i 0`, the chip's row `i 1` and column `i 2`, summed over the positions. -/
def outWeights (x : Vec Ideal Cert.Kernel4Ideal.S4096x4096 .bf16) (g : Vec Ideal Cert.Kernel4Ideal.S4096x2048 .bf16)
    (i : Cert.Kernel4Ideal.S4x1024x2048.Idx) : EReal :=
  ∑ k : Fin 4096, x (ix2 k ⟨(i 0).val * 1024 + (i 1).val, by
    have h0 : (i 0).val < 4 := (i 0).isLt; have h1 : (i 1).val < 1024 := (i 1).isLt; omega⟩) * g (ix2 k (i 2))

end Cert.Products

namespace Cert.Kernel4Ideal.Product

open Idealize.ShloMosaic Idealize.ShloMosaic.TcCoe Idealize.SL.Sem Cert.Kernel4Ideal Cert.Kernel4Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block's payload: the product of the two blocks over the positions. -/
theorem out_apply (x : Vec Ideal S4096x1024 .bf16) (g : Vec Ideal S4096x512 .bf16) (u : Fin 1) (r : Fin 1024) (s : Fin 512) :
    out0_2 (F := Ideal) x g (ix3 u r s) = ∑ k : Fin 4096, x (ix2 k r) * g (ix2 k s) := by
  unfold out0_2
  rw [View.canon_unit_zero hz3]
  simp only [View.ld_unit_zero (S := S4096x1024) hz2, View.ld_unit_zero (S := S4096x512) hz2]
  pointwise [k0_pay1]

theorem idx0 : ∀ t : Fin cfg0.N, win0_0.index t 0 = 0 ∧ win0_0.index t 1 = t.val / 4 :=
  (by decide +kernel : ∀ t : Fin grid0.N, win0_0.index t 0 = 0 ∧ win0_0.index t 1 = t.val / 4)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)

/-- The two arguments as launched. -/
abbrev a0 : Vec Ideal S4096x4096 .bf16 := m ((c : Thread nD τ).loc main_arg0)
abbrev a1 : Vec Ideal S4096x2048 .bf16 := m ((c : Thread nD τ).loc main_arg1)

theorem blk0 (t : Fin cfg0.N) (k : Fin 4096) (r : Fin 1024) (q : Fin 4096) (hq : q.val = t.val / 4 * 1024 + r.val) :
    (iblk m c 0 t : Vec Ideal S4096x1024 .bf16) (ix2 k r) = a0 m c (ix2 k q) := by
  unfold iblk
  rw [View.read_apply]
  show V m c main_arg0 _ = _
  rw [V_main_arg0]
  congr 1
  funext a
  apply Fin.ext
  match a with
  | ⟨0, _⟩ => show win0_0.index t 0 * 4096 + 1 * k.val = k.val; rw [(idx0 t).1]; omega
  | ⟨1, _⟩ => show win0_0.index t 1 * 1024 + 1 * r.val = q.val; rw [(idx0 t).2]; omega

theorem blk1 (t : Fin cfg0.N) (k : Fin 4096) (s : Fin 512) (q : Fin 2048) (hq : q.val = t.val % 4 * 512 + s.val) :
    (iblk m c 1 t : Vec Ideal S4096x512 .bf16) (ix2 k s) = a1 m c (ix2 k q) := by
  unfold iblk
  rw [View.read_apply]
  show V m c main_arg1 _ = _
  rw [V_main_arg1]
  congr 1
  funext a
  apply Fin.ext
  match a with
  | ⟨0, _⟩ => show win0_1.index t 0 * 4096 + 1 * k.val = k.val; rw [(idx1 t).1]; omega
  | ⟨1, _⟩ => show win0_1.index t 1 * 512 + 1 * s.val = q.val; rw [(idx1 t).2]; omega

theorem flushed (t : Fin cfg0.N) :
    (dats m 0 c).flushed 2 t = ((cfg0.win 2).blk t).view.read (Elt Ideal) (outWeights (a0 m c) (a1 m c)) := by
  rw [Value.flushed2]
  funext y
  obtain ⟨u, r, s, rfl⟩ : ∃ u r s, y = ix3 u r s := ⟨y 0, y 1, y 2, by idx_ext⟩
  rw [View.read_apply]
  show out0_2 (iblk m c 0 t) (iblk m c 1 t) (ix3 u r s) = outWeights (a0 m c) (a1 m c) (((cfg0.win 2).blk t).view.emb (ix3 u r s))
  rw [out_apply]
  unfold outWeights
  refine Finset.sum_congr rfl fun k _ => ?_
  have hN : cfg0.N = 16 := N_0
  have ht := t.isLt
  refine congrArg₂ (· * ·) (blk0 m c t k r _ ?_) (blk1 m c t k s _ ?_)
  · show (win0_2.index t 0 * 1 + 1 * u.val) * 1024 + (win0_2.index t 1 * 1024 + 1 * r.val) = t.val / 4 * 1024 + r.val
    rw [(idx2 t).1, (idx2 t).2.1]; omega
  · show win0_2.index t 2 * 512 + 1 * s.val = t.val % 4 * 512 + s.val
    rw [(idx2 t).2.2]; omega

theorem onto : ∀ (p : Fin 4) (q : Fin 1) (r : Fin 4), ∃ t : Fin cfg0.N,
    win0_2.index t 0 = p.val ∧ win0_2.index t 1 = q.val ∧ win0_2.index t 2 = r.val :=
  (by decide +kernel : ∀ (p : Fin 4) (q : Fin 1) (r : Fin 4), ∃ t : Fin grid0.N,
    win0_2.index t 0 = p.val ∧ win0_2.index t 1 = q.val ∧ win0_2.index t 2 = r.val)

/-- The 16 blocks fill the array. -/
theorem final : (dats m 0 c).arrAt 2 cfg0.N = outWeights (a0 m c) (a1 m c) :=
  (dats m 0 c).arrAt_eq_of_cover 2 (outWeights (a0 m c) (a1 m c)) (fun t _ => flushed m c t) fun i => by
    have h0 : (i 0).val < 4 := (i 0).isLt
    have h1 : (i 1).val < 1024 := (i 1).isLt
    have h2 : (i 2).val < 2048 := (i 2).isLt
    obtain ⟨t, e0, e1, e2⟩ := onto ⟨(i 0).val, h0⟩ ⟨(i 1).val / 1024, by omega⟩ ⟨(i 2).val / 512, by omega⟩
    dsimp only at e0 e1 e2
    refine ⟨t, flush0_2 t, ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 1024 ≤ (i 1).val ∧ (i 1).val < win0_2.index t 1 * 1024 + 1024; omega
    | ⟨2, _⟩ => show win0_2.index t 2 * 512 ≤ (i 2).val ∧ (i 2).val < win0_2.index t 2 * 512 + 512; omega

end Cert.Kernel4Ideal.Product

namespace Cert.Reference4Ideal.Product

open Idealize.ShloMosaic Cert.Reference4Ideal Cert.Reference4Ideal.Gen Cert.Reference4Ideal.Read Cert.Products

/-- The reference's result is the same sum. -/
theorem result (x : Vec Ideal S4096x4096 .bf16) (g : Vec Ideal S4096x2048 .bf16) :
    val_main_v8 (F := Ideal) x g = outWeights x g := by
  funext i
  rw [val_main_v8_apply, val_main_v7_apply, val_main_v5_apply]
  show val_main_v4 (F := Ideal) x g _ = _
  rw [val_main_v4_apply]
  unfold outWeights
  refine Finset.sum_congr rfl fun k _ => ?_
  show g _ * x _ = _
  rw [mul_comm]
  have h0 : (i 0).val < 4 := (i 0).isLt
  have h1 : (i 1).val < 1024 := (i 1).isLt
  have h2 : (i 2).val < 2048 := (i 2).isLt
  congr 1
  · congr 1
    funext a
    apply Fin.ext
    match a with
    | ⟨0, _⟩ => rfl
    | ⟨1, _⟩ =>
      show (((i 0).val * 1024 + (i 1).val) * 2048 + (i 2).val) / 2048 = (i 0).val * 1024 + (i 1).val; omega
  · congr 1
    funext a
    apply Fin.ext
    match a with
    | ⟨0, _⟩ => rfl
    | ⟨1, _⟩ => show (((i 0).val * 1024 + (i 1).val) * 2048 + (i 2).val) % 2048 = (i 2).val; omega

end Cert.Reference4Ideal.Product

end
-- ==== Proof.QfiInputs.lean ====
/- The gradient of the second input projection by its inputs, the part from the recurrence's 9216 columns: three partial
   products summed in a scratch block, and the reference's one product. -/
module

public import proofs.«01_k».proof.Proof.Gen.Kernel5Ideal.Value
public import proofs.«01_k».proof.Proof.Gen.Reference5Ideal.Read
public import proofs.«01_k».proof.Proof.Sweep
public import Idealize.ShloMosaic.Lib.Pipeline.Value
public import Idealize.ShloMosaic.Lib.Pointwise

@[expose] public section

set_option maxRecDepth 16384

noncomputable section

namespace Cert.Products

open Idealize.ShloMosaic

/-- The inputs' gradient at position `i 0` and column `i 1`: the sum over 9216 columns, 3072 of each of the three arrays. -/
def qfiInputs (g : Vec Ideal Cert.Kernel5Ideal.S3x4096x3072 .bf16) (w : Vec Ideal Cert.Kernel5Ideal.S2048x14336 .bf16)
    (i : Cert.Kernel5Ideal.S4096x2048.Idx) : EReal :=
  ∑ k : Fin 9216, g (ix3 ⟨k.val / 3072, by omega⟩ (i 0) ⟨k.val % 3072, by omega⟩) * w (ix2 (i 1) ⟨k.val, by omega⟩)

end Cert.Products

namespace Cert.Kernel5Ideal.Product

open Idealize.ShloMosaic Idealize.ShloMosaic.TcCoe Idealize.SL.Sem Cert.Kernel5Ideal Cert.Kernel5Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One point's product. -/
theorem pay1_apply (g : Vec Ideal S1x1024x3072 .bf16) (w : Vec Ideal S1024x3072 .bf16) (r s : Fin 1024) :
    k0_pay1 (F := Ideal) g w (ix2 r s) = ∑ k : Fin 3072, g (ix3 0 r k) * w (ix2 s k) := by
  pointwise [k0_pay1]

section Cases

variable (i : grid0.Coords) (p : Memref sig .tc .vmem S1x1024x3072 .bf16) (hp : p.IsWhole)
  (q : Memref sig .tc .vmem S1024x3072 .bf16) (hq : q.IsWhole) (o : Memref sig .tc .vmem S1024x1024 .f32) (ho : o.IsWhole)
  (s : Memref sig .tc .vmem S1024x1024 .f32) (hs : s.IsWhole)
  (x : Vec Ideal S1x1024x3072 .bf16) (y : Vec Ideal S1024x3072 .bf16) (z : Vec Ideal S1024x1024 .f32)

/-- The first point of a run leaves its product in the scratch block. -/
theorem scratch_A (hA hB hC) : sout0_A_0 c i p hp q hq o ho s hs hA hB hC x y = k0_pay1 x y := by
  unfold sout0_A_0
  rw [View.read_writes_eq_canon _ _ _ (scover0_A_0 c i p hp q hq o ho s hs hA hB hC x y)]
  unfold kernelRun0_A
  dsimp only
  rw [View.canon_unit_zero hz2]
  unfold k0_pay2
  simp only [View.readAt_eq_ld, hp.read_unread, hq.read_unread, View.ld_unit_zero (S := S1024x3072) hz2,
    View.ld_unit_zero (S := S1x1024x3072) hz3, shapeCast_self]

/-- A middle point adds its product. -/
theorem scratch_B (hA hB hC) : sout0_B_0 c i p hp q hq o ho s hs hA hB hC x y z = addf z (k0_pay1 x y) := by
  unfold sout0_B_0
  rw [View.read_writes_eq_canon _ _ _ (scover0_B_0 c i p hp q hq o ho s hs hA hB hC x y z)]
  unfold kernelRun0_B
  dsimp only
  rw [View.canon_unit_zero hz2]
  unfold k0_pay3
  simp only [View.readAt_eq_ld, hp.read_unread, hq.read_unread, hs.read_unread, View.ld_unit_zero (S := S1024x3072) hz2,
    View.ld_unit_zero (S := S1024x1024) hz2, View.ld_unit_zero (S := S1x1024x3072) hz3, shapeCast_self]

/-- So does the last, -/
theorem scratch_C (hA hB hC) : sout0_C_0 c i p hp q hq o ho s hs hA hB hC x y z = addf z (k0_pay1 x y) := by
  unfold sout0_C_0
  rw [View.read_writes_eq_canon _ _ _ (scover0_C_0 c i p hp q hq o ho s hs hA hB hC x y z)]
  unfold kernelRun0_C
  dsimp only
  sl_unfold_words
  rw [View.canon_unit_zero hz2]
  unfold k0_pay3
  simp only [View.readAt_eq_ld, hp.read_unread, hq.read_unread, hs.read_unread, View.ld_unit_zero (S := S1024x3072) hz2,
    View.ld_unit_zero (S := S1024x1024) hz2, View.ld_unit_zero (S := S1x1024x3072) hz3, shapeCast_self]

/-- which then copies the scratch block to the result's. -/
theorem out_C (hA hB hC) : out0_C_2 c i p hp q hq o ho s hs hA hB hC x y z = addf z (k0_pay1 x y) := by
  unfold out0_C_2
  rw [View.read_writes_eq_canon _ _ _ (cover0_C_2 c i p hp q hq o ho s hs hA hB hC x y z)]
  unfold kernelRun0_C
  dsimp only
  sl_unfold_words
  rw [View.canon_unit_zero hz2, View.readCov_unit_zero (S := S1024x1024) _ hz2]
  unfold k0_pay3
  simp only [View.readAt_eq_ld, hp.read_unread, hq.read_unread, hs.read_unread, View.ld_unit_zero (S := S1024x3072) hz2,
    View.ld_unit_zero (S := S1024x1024) hz2, View.ld_unit_zero (S := S1x1024x3072) hz3, shapeCast_self]

end Cases

theorem idx0 : ∀ t : Fin cfg0.N, win0_0.index t 0 = t.val % 3 ∧ win0_0.index t 1 = t.val / 6 ∧ win0_0.index t 2 = 0 :=
  (by decide +kernel : ∀ t : Fin grid0.N, win0_0.index t 0 = t.val % 3 ∧ win0_0.index t 1 = t.val / 6 ∧ win0_0.index t 2 = 0)
theorem idx1 : ∀ t : Fin cfg0.N, win0_1.index t 0 = t.val % 6 / 3 ∧ win0_1.index t 1 = t.val % 3 :=
  (by decide +kernel : ∀ t : Fin grid0.N, win0_1.index t 0 = t.val % 6 / 3 ∧ win0_1.index t 1 = t.val % 3)
theorem idx2 : ∀ t : Fin cfg0.N, win0_2.index t 0 = t.val / 6 ∧ win0_2.index t 1 = t.val % 6 / 3 :=
  (by decide +kernel : ∀ t : Fin grid0.N, win0_2.index t 0 = t.val / 6 ∧ win0_2.index t 1 = t.val % 6 / 3)

/-- The two arguments as launched. -/
abbrev a0 : Vec Ideal S3x4096x3072 .bf16 := m ((c : Thread nD τ).loc main_arg0)
abbrev a1 : Vec Ideal S2048x14336 .bf16 := m ((c : Thread nD τ).loc main_arg1)

/-- Position `r` of point `n`'s block, and column `s` of its weights. -/
def pos (n : ℕ) (r : Fin 1024) : Fin 4096 := ⟨(n / 6 * 1024 + r.val) % 4096, Nat.mod_lt _ (by decide)⟩
def col (n : ℕ) (s : Fin 1024) : Fin 2048 := ⟨n % 6 / 3 * 1024 + s.val, by omega⟩

/-- What point `n` adds. -/
def part (n : ℕ) (y : S1024x1024.Idx) : EReal :=
  ∑ k : Fin 3072, a0 m c (ix3 ⟨n % 3, by omega⟩ (pos n (y 0)) k) * a1 m c (ix2 (col n (y 1)) ⟨n % 3 * 3072 + k.val, by omega⟩)

theorem blk0 (t : Fin cfg0.N) (r : Fin 1024) (k : Fin 3072) :
    (iblk m c 0 t : Vec Ideal S1x1024x3072 .bf16) (ix3 0 r k) = a0 m c (ix3 ⟨t.val % 3, by omega⟩ (pos t.val r) k) := by
  have hN : cfg0.N = 24 := N_0
  have ht := t.isLt
  unfold iblk
  rw [View.read_apply]
  show V m c main_arg0 _ = _
  rw [V_main_arg0]
  congr 1
  funext a
  apply Fin.ext
  match a with
  | ⟨0, _⟩ => show win0_0.index t 0 * 1 + 1 * 0 = t.val % 3; rw [(idx0 t).1]; omega
  | ⟨1, _⟩ => show win0_0.index t 1 * 1024 + 1 * r.val = (t.val / 6 * 1024 + r.val) % 4096; rw [(idx0 t).2.1]; omega
  | ⟨2, _⟩ => show win0_0.index t 2 * 3072 + 1 * k.val = k.val; rw [(idx0 t).2.2]; omega

theorem blk1 (t : Fin cfg0.N) (s : Fin 1024) (k : Fin 3072) :
    (X0_1 m c t : Vec Ideal S1024x3072 .bf16) (ix2 s k) = a1 m c (ix2 (col t.val s) ⟨t.val % 3 * 3072 + k.val, by omega⟩) := by
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 1024 + 1 * s.val = t.val % 6 / 3 * 1024 + s.val; rw [(idx1 t).1]; omega
  | ⟨1, _⟩ => show win0_1.index t 1 * 3072 + 1 * k.val = t.val % 3 * 3072 + k.val; rw [(idx1 t).2]; omega

theorem point (t : Fin cfg0.N) (y : S1024x1024.Idx) :
    k0_pay1 (F := Ideal) (iblk m c 0 t) (X0_1 m c t) y = part m c t.val y := by
  obtain ⟨r, s, rfl⟩ : ∃ r s, y = ix2 r s := ⟨y 0, y 1, by idx_ext⟩
  rw [pay1_apply]
  exact Finset.sum_congr rfl fun k _ => congrArg₂ (· * ·) (blk0 m c t r k) (blk1 m c t s k)

/-- The scratch block after point `n`. -/
theorem scratch (n : ℕ) (h : n < cfg0.N) (y : S1024x1024.Idx) :
    (outsAt0 m c n h).2 y = ∑ t ∈ Finset.range (n % 3 + 1), part m c (n / 3 * 3 + t) y := by
  refine sweep (P := 3) (by decide) (fun n h => (outsAt0 m c n h).2) (part m c) (fun n h h0 y => ?_) (fun n h h0 y => ?_) n h y
  · rw [show outsAt0 m c n h = _ from outsAt0_A m c ⟨n, h⟩ h0 (by dsimp only; omega) (by dsimp only; omega)]
    dsimp only
    rw [scratch_A]
    exact point m c ⟨n, h⟩ y
  · by_cases h3 : (n + 1) % 3 = 2
    · rw [show outsAt0 m c (n + 1) h = _ from outsAt0_C m c ⟨n + 1, h⟩ h0 (by dsimp only; omega) h3]
      dsimp only
      rw [scratch_C]
      exact congrArg _ (point m c ⟨n + 1, h⟩ y)
    · rw [show outsAt0 m c (n + 1) h = _ from outsAt0_B m c ⟨n + 1, h⟩ h0 (by dsimp only; omega) h3]
      dsimp only
      rw [scratch_B]
      exact congrArg _ (point m c ⟨n + 1, h⟩ y)

/-- The result's block after the last point of a run is the scratch block. -/
theorem out_last (t : Fin cfg0.N) (h3 : t.val % 3 = 2) : (outsAt0 m c t.val t.isLt).1 = (outsAt0 m c t.val t.isLt).2 := by
  rw [outsAt0_C m c t (by omega) (by omega) h3]
  dsimp only
  rw [out_C, scratch_C]

/-- What the last point of a run writes back is its block of the sum. -/
theorem flushed (t : Fin cfg0.N) (hf : (cfg0.win 2).flush t = true) :
    (dats m 0 c).flushed 2 t = ((cfg0.win 2).blk t).view.read (Elt Ideal) (qfiInputs (a0 m c) (a1 m c)) := by
  have hN : cfg0.N = 24 := N_0
  have ht := t.isLt
  have h3 : t.val % 3 = 2 := (flush0_2 t).mp hf
  show (cfg0.win 2).cut (grid0.coords t) ((dats m 0 c).after 2 t) = _
  rw [after0_2, out_last m c t h3]
  funext y
  obtain ⟨r, s, rfl⟩ : ∃ r s, y = ix2 r s := ⟨y 0, y 1, by idx_ext⟩
  rw [View.read_apply]
  show (outsAt0 m c t.val t.isLt).2 (ix2 r s) = qfiInputs (a0 m c) (a1 m c) (((cfg0.win 2).blk t).view.emb (ix2 r s))
  rw [scratch, h3, Finset.sum_range]
  unfold qfiInputs part
  rw [Fin.sum_univ_tiles 3 3072 rfl]
  refine Finset.sum_congr rfl fun u _ => Finset.sum_congr rfl fun k _ => ?_
  refine congrArg₂ (· * ·) (congrArg (a0 m c) ?_) (congrArg (a1 m c) ?_)
  · funext a
    apply Fin.ext
    match a with
    | ⟨0, _⟩ => show (t.val / 3 * 3 + u.val) % 3 = (u.val * 3072 + k.val) / 3072; omega
    | ⟨1, _⟩ =>
      show ((t.val / 3 * 3 + u.val) / 6 * 1024 + r.val) % 4096 = win0_2.index t 0 * 1024 + 1 * r.val
      rw [(idx2 t).1]; omega
    | ⟨2, _⟩ => show k.val = (u.val * 3072 + k.val) % 3072; omega
  · funext a
    apply Fin.ext
    match a with
    | ⟨0, _⟩ =>
      show (t.val / 3 * 3 + u.val) % 6 / 3 * 1024 + s.val = win0_2.index t 1 * 1024 + 1 * s.val
      rw [(idx2 t).2]; omega
    | ⟨1, _⟩ => show (t.val / 3 * 3 + u.val) % 3 * 3072 + k.val = u.val * 3072 + k.val; omega

theorem onto : ∀ (p : Fin 4) (q : Fin 2), ∃ t : Fin cfg0.N,
    t.val % 3 = 2 ∧ win0_2.index t 0 = p.val ∧ win0_2.index t 1 = q.val :=
  (by decide +kernel : ∀ (p : Fin 4) (q : Fin 2), ∃ t : Fin grid0.N,
    t.val % 3 = 2 ∧ win0_2.index t 0 = p.val ∧ win0_2.index t 1 = q.val)

/-- The eight blocks fill the array. -/
theorem final : (dats m 0 c).arrAt 2 cfg0.N = qfiInputs (a0 m c) (a1 m c) :=
  (dats m 0 c).arrAt_eq_of_cover 2 (qfiInputs (a0 m c) (a1 m c)) (flushed m c) fun i => by
    have h0 : (i 0).val < 4096 := (i 0).isLt
    have h1 : (i 1).val < 2048 := (i 1).isLt
    obtain ⟨t, e, e0, e1⟩ := onto ⟨(i 0).val / 1024, by omega⟩ ⟨(i 1).val / 1024, by omega⟩
    dsimp only at e0 e1
    refine ⟨t, (flush0_2 t).mpr e, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

end Cert.Kernel5Ideal.Product

namespace Cert.Reference5Ideal.Product

open Idealize.ShloMosaic Cert.Reference5Ideal Cert.Reference5Ideal.Gen Cert.Reference5Ideal.Read Cert.Products

/-- The three arrays side by side, read at one of the 9216 columns. -/
theorem columns (g : Vec Ideal S3x4096x3072 .bf16) (r : Fin 4096) (k : Fin 9216) :
    val_main_v6 (F := Ideal) g (ix2 r k) = g (ix3 ⟨k.val / 3072, by omega⟩ r ⟨k.val % 3072, by omega⟩) := by
  have hk := k.isLt
  unfold val_main_v6
  by_cases h0 : k.val < 3072
  · refine (concatenate_apply_piece 1 _ _ (ix2 r k) 0 (Nat.lt_of_lt_of_eq (by decide) (rfl : 3 = _)) S4096x3072 (val_main_v1 (F := Ideal) g) rfl rfl 0 rfl
      (ix2 r ⟨k.val, h0⟩) (fun b hb => ?_) (by show 0 + k.val = k.val; omega)).trans ?_
    · match b with
      | ⟨0, _⟩ => rfl
      | ⟨1, _⟩ => exact absurd rfl hb
    · rw [val_main_v1_apply, val_main_v0_apply]
      congr 1
      funext a
      apply Fin.ext
      match a with
      | ⟨0, _⟩ => show 0 = k.val / 3072; omega
      | ⟨1, _⟩ => show (r.val * 3072 + k.val) / 3072 % 4096 = r.val; omega
      | ⟨2, _⟩ => show (r.val * 3072 + k.val) % 3072 = k.val % 3072; omega
  · by_cases h1 : k.val < 6144
    · refine (concatenate_apply_piece 1 _ _ (ix2 r k) 1 (Nat.lt_of_lt_of_eq (by decide) (rfl : 3 = _)) S4096x3072 (val_main_v3 (F := Ideal) g) rfl rfl 3072 rfl
        (ix2 r ⟨k.val - 3072, by omega⟩) (fun b hb => ?_) (by show 3072 + (k.val - 3072) = k.val; omega)).trans ?_
      · match b with
        | ⟨0, _⟩ => rfl
        | ⟨1, _⟩ => exact absurd rfl hb
      · rw [val_main_v3_apply, val_main_v2_apply]
        congr 1
        funext a
        apply Fin.ext
        match a with
        | ⟨0, _⟩ => show 1 + 0 = k.val / 3072; omega
        | ⟨1, _⟩ => show (r.val * 3072 + (k.val - 3072)) / 3072 % 4096 = r.val; omega
        | ⟨2, _⟩ => show (r.val * 3072 + (k.val - 3072)) % 3072 = k.val % 3072; omega
    · refine (concatenate_apply_piece 1 _ _ (ix2 r k) 2 (Nat.lt_of_lt_of_eq (by decide) (rfl : 3 = _)) S4096x3072 (val_main_v5 (F := Ideal) g) rfl rfl 6144 rfl
        (ix2 r ⟨k.val - 6144, by omega⟩) (fun b hb => ?_) (by show 6144 + (k.val - 6144) = k.val; omega)).trans ?_
      · match b with
        | ⟨0, _⟩ => rfl
        | ⟨1, _⟩ => exact absurd rfl hb
      · rw [val_main_v5_apply, val_main_v4_apply]
        congr 1
        funext a
        apply Fin.ext
        match a with
        | ⟨0, _⟩ => show 2 + 0 = k.val / 3072; omega
        | ⟨1, _⟩ => show (r.val * 3072 + (k.val - 6144)) / 3072 % 4096 = r.val; omega
        | ⟨2, _⟩ => show (r.val * 3072 + (k.val - 6144)) % 3072 = k.val % 3072; omega

/-- The reference's result is the same sum. -/
theorem result (g : Vec Ideal S3x4096x3072 .bf16) (w : Vec Ideal S2048x14336 .bf16) :
    val_main_v14 (F := Ideal) g w = qfiInputs g w := by
  funext i
  rw [val_main_v14_apply]
  unfold qfiInputs
  refine Finset.sum_congr rfl fun k _ => ?_
  rw [val_main_v9_apply, val_main_v7_apply, val_main_v8_apply]
  refine congrArg₂ (· * ·) ?_ ?_
  · rw [show lidx_main_v14 i k = ix2 (i 0) k by idx_ext]
    exact columns g (i 0) k
  · show w _ = w _
    congr 1
    funext a
    apply Fin.ext
    match a with
    | ⟨0, _⟩ => rfl
    | ⟨1, _⟩ => rfl

end Cert.Reference5Ideal.Product

end
-- ==== Proof.RestInputs.lean ====
/- The gradient of the second input projection by its inputs, the part from the other 5120 columns, added to what is
   there already: five partial products summed in a scratch block, and the reference's one product. -/
module

public import proofs.«01_k».proof.Proof.Gen.Kernel6Ideal.Value
public import proofs.«01_k».proof.Proof.Gen.Reference6Ideal.Read
public import proofs.«01_k».proof.Proof.Sweep
public import Idealize.ShloMosaic.Lib.Pipeline.Value
public import Idealize.ShloMosaic.Lib.Pointwise

@[expose] public section

set_option maxRecDepth 16384

noncomputable section

namespace Cert.Products

open Idealize.ShloMosaic

/-- The inputs' gradient at position `i 0` and column `i 1`: the sum over the last 5120 columns, and what was there. -/
def restInputs (g : Vec Ideal Cert.Kernel6Ideal.S4096x5120 .bf16) (w : Vec Ideal Cert.Kernel6Ideal.S2048x14336 .bf16)
    (d : Vec Ideal Cert.Kernel6Ideal.S4096x2048 .f32) (i : Cert.Kernel6Ideal.S4096x2048.Idx) : EReal :=
  (∑ k : Fin 5120, g (ix2 (i 0) k) * w (ix2 (i 1) ⟨9216 + k.val, by omega⟩)) + d i

end Cert.Products

namespace Cert.Kernel6Ideal.Product

open Idealize.ShloMosaic Idealize.ShloMosaic.TcCoe Idealize.SL.Sem Cert.Kernel6Ideal Cert.Kernel6Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl

/-- One point's product. -/
theorem pay1_apply (g w : Vec Ideal S1024x1024 .bf16) (r s : Fin 1024) :
    k0_pay1 (F := Ideal) g w (ix2 r s) = ∑ k : Fin 1024, g (ix2 r k) * w (ix2 s k) := by
  pointwise [k0_pay1]

section Cases

variable (i : grid0.Coords) (p : Memref sig .tc .vmem S1024x1024 .bf16) (hp : p.IsWhole)
  (q : Memref sig .tc .vmem S1024x1024 .bf16) (hq : q.IsWhole) (d : Memref sig .tc .vmem S1024x1024 .f32) (hd : d.IsWhole)
  (o : Memref sig .tc .vmem S1024x1024 .f32) (ho : o.IsWhole)
  (s : Memref sig .tc .vmem S1024x1024 .f32) (hs : s.IsWhole)
  (x y : Vec Ideal S1024x1024 .bf16) (u z : Vec Ideal S1024x1024 .f32)

/-- The first point of a run leaves its product in the scratch block. -/
theorem scratch_A (hA hB hC) : sout0_A_0 c i p hp q hq d hd o ho s hs hA hB hC x y u = k0_pay1 x y := by
  unfold sout0_A_0
  rw [View.read_writes_eq_canon _ _ _ (scover0_A_0 c i p hp q hq d hd o ho s hs hA hB hC x y u)]
  unfold kernelRun0_A
  dsimp only
  rw [View.canon_unit_zero hz2]
  unfold k0_pay2
  simp only [View.readAt_eq_ld, hp.read_unread, hq.read_unread, View.ld_unit_zero (S := S1024x1024) hz2,
    shapeCast_self]

/-- A middle point adds its product. -/
theorem scratch_B (hA hB hC) : sout0_B_0 c i p hp q hq d hd o ho s hs hA hB hC x y u z = addf z (k0_pay1 x y) := by
  unfold sout0_B_0
  rw [View.read_writes_eq_canon _ _ _ (scover0_B_0 c i p hp q hq d hd o ho s hs hA hB hC x y u z)]
  unfold kernelRun0_B
  dsimp only
  rw [View.canon_unit_zero hz2]
  unfold k0_pay3
  simp only [View.readAt_eq_ld, hp.read_unread, hq.read_unread, hd.read_unread, hs.read_unread,
    View.ld_unit_zero (S := S1024x1024) hz2, shapeCast_self]

/-- So does the last, -/
theorem scratch_C (hA hB hC) : sout0_C_0 c i p hp q hq d hd o ho s hs hA hB hC x y u z = addf z (k0_pay1 x y) := by
  unfold sout0_C_0
  rw [View.read_writes_eq_canon _ _ _ (scover0_C_0 c i p hp q hq d hd o ho s hs hA hB hC x y u z)]
  unfold kernelRun0_C
  dsimp only
  sl_unfold_words
  rw [View.canon_unit_zero hz2]
  unfold k0_pay3
  simp only [View.readAt_eq_ld, hp.read_unread, hq.read_unread, hd.read_unread, hs.read_unread,
    View.ld_unit_zero (S := S1024x1024) hz2, shapeCast_self]

/-- which then adds the third argument's block and stores the sum in the result's. -/
theorem out_C (hA hB hC) : out0_C_3 c i p hp q hq d hd o ho s hs hA hB hC x y u z = addf (addf z (k0_pay1 x y)) u := by
  unfold out0_C_3
  rw [View.read_writes_eq_canon _ _ _ (cover0_C_3 c i p hp q hq d hd o ho s hs hA hB hC x y u z)]
  unfold kernelRun0_C
  dsimp only
  sl_unfold_words
  rw [View.canon_unit_zero hz2, View.readCov_unit_zero (S := S1024x1024) _ hz2]
  unfold k0_pay4 k0_pay3
  simp only [View.readAt_eq_ld, hp.read_unread, hq.read_unread, hd.read_unread, hs.read_unread,
    View.ld_unit_zero (S := S1024x1024) hz2, shapeCast_self]

end Cases

theorem idx0 : ∀ t : Fin cfg0.N, win0_0.index t 0 = t.val / 10 ∧ win0_0.index t 1 = t.val % 5 :=
  (by decide +kernel : ∀ t : Fin grid0.N, win0_0.index t 0 = t.val / 10 ∧ win0_0.index t 1 = t.val % 5)
theorem idx1 : ∀ t : Fin cfg0.N, win0_1.index t 0 = t.val % 10 / 5 ∧ win0_1.index t 1 = t.val % 5 + 9 :=
  (by decide +kernel : ∀ t : Fin grid0.N, win0_1.index t 0 = t.val % 10 / 5 ∧ win0_1.index t 1 = t.val % 5 + 9)
theorem idx2 : ∀ t : Fin cfg0.N, win0_2.index t 0 = t.val / 10 ∧ win0_2.index t 1 = t.val % 10 / 5 :=
  (by decide +kernel : ∀ t : Fin grid0.N, win0_2.index t 0 = t.val / 10 ∧ win0_2.index t 1 = t.val % 10 / 5)
theorem idx3 : ∀ t : Fin cfg0.N, win0_3.index t 0 = t.val / 10 ∧ win0_3.index t 1 = t.val % 10 / 5 :=
  (by decide +kernel : ∀ t : Fin grid0.N, win0_3.index t 0 = t.val / 10 ∧ win0_3.index t 1 = t.val % 10 / 5)

/-- The three arguments as launched. -/
abbrev a2 : Vec Ideal S4096x2048 .f32 := m ((c : Thread nD τ).loc main_arg2)
abbrev a0 : Vec Ideal S4096x5120 .bf16 := m ((c : Thread nD τ).loc main_arg0)
abbrev a1 : Vec Ideal S2048x14336 .bf16 := m ((c : Thread nD τ).loc main_arg1)

/-- Position `r` of point `n`'s block, and column `s` of its weights. -/
def pos (n : ℕ) (r : Fin 1024) : Fin 4096 := ⟨(n / 10 * 1024 + r.val) % 4096, Nat.mod_lt _ (by decide)⟩
def col (n : ℕ) (s : Fin 1024) : Fin 2048 := ⟨n % 10 / 5 * 1024 + s.val, by omega⟩

/-- What point `n` adds. -/
def part (n : ℕ) (y : S1024x1024.Idx) : EReal :=
  ∑ k : Fin 1024, a0 m c (ix2 (pos n (y 0)) ⟨n % 5 * 1024 + k.val, by omega⟩) * a1 m c (ix2 (col n (y 1)) ⟨9216 + (n % 5 * 1024 + k.val), by omega⟩)

theorem blk0 (t : Fin cfg0.N) (r : Fin 1024) (k : Fin 1024) :
    (iblk m c 0 t : Vec Ideal S1024x1024 .bf16) (ix2 r k) = a0 m c (ix2 (pos t.val r) ⟨t.val % 5 * 1024 + k.val, by omega⟩) := by
  have hN : cfg0.N = 40 := N_0
  have ht := t.isLt
  unfold iblk
  rw [View.read_apply]
  show V m c main_arg0 _ = _
  rw [V_main_arg0]
  congr 1
  funext a
  apply Fin.ext
  match a with
  | ⟨0, _⟩ => show win0_0.index t 0 * 1024 + 1 * r.val = (t.val / 10 * 1024 + r.val) % 4096; rw [(idx0 t).1]; omega
  | ⟨1, _⟩ => show win0_0.index t 1 * 1024 + 1 * k.val = t.val % 5 * 1024 + k.val; rw [(idx0 t).2]; omega

theorem blk1 (t : Fin cfg0.N) (s : Fin 1024) (k : Fin 1024) :
    (iblk m c 1 t : Vec Ideal S1024x1024 .bf16) (ix2 s k) = a1 m c (ix2 (col t.val s) ⟨9216 + (t.val % 5 * 1024 + k.val), by omega⟩) := by
  unfold iblk
  rw [View.read_apply]
  show V m c main_arg1 _ = _
  rw [V_main_arg1]
  congr 1
  funext a
  apply Fin.ext
  match a with
  | ⟨0, _⟩ => show win0_1.index t 0 * 1024 + 1 * s.val = t.val % 10 / 5 * 1024 + s.val; rw [(idx1 t).1]; omega
  | ⟨1, _⟩ => show win0_1.index t 1 * 1024 + 1 * k.val = 9216 + (t.val % 5 * 1024 + k.val); rw [(idx1 t).2]; omega

theorem blk2 (t : Fin cfg0.N) (y : S1024x1024.Idx) :
    (iblk m c 2 t : Vec Ideal S1024x1024 .f32) y = a2 m c (((cfg0.win 3).blk t).view.emb y) := by
  obtain ⟨r, s, rfl⟩ : ∃ r s, y = ix2 r s := ⟨y 0, y 1, by idx_ext⟩
  unfold iblk
  rw [View.read_apply]
  show V m c main_arg2 _ = _
  rw [V_main_arg2]
  refine congrArg (a2 m c) ?_
  funext a
  apply Fin.ext
  match a with
  | ⟨0, _⟩ => show win0_2.index t 0 * 1024 + 1 * r.val = win0_3.index t 0 * 1024 + 1 * r.val; rw [(idx2 t).1, (idx3 t).1]
  | ⟨1, _⟩ => show win0_2.index t 1 * 1024 + 1 * s.val = win0_3.index t 1 * 1024 + 1 * s.val; rw [(idx2 t).2, (idx3 t).2]

theorem point (t : Fin cfg0.N) (y : S1024x1024.Idx) :
    k0_pay1 (F := Ideal) (iblk m c 0 t) (iblk m c 1 t) y = part m c t.val y := by
  obtain ⟨r, s, rfl⟩ : ∃ r s, y = ix2 r s := ⟨y 0, y 1, by idx_ext⟩
  rw [pay1_apply]
  exact Finset.sum_congr rfl fun k _ => congrArg₂ (· * ·) (blk0 m c t r k) (blk1 m c t s k)

/-- The scratch block after point `n`. -/
theorem scratch (n : ℕ) (h : n < cfg0.N) (y : S1024x1024.Idx) :
    (outsAt0 m c n h).2 y = ∑ t ∈ Finset.range (n % 5 + 1), part m c (n / 5 * 5 + t) y := by
  refine sweep (P := 5) (by decide) (fun n h => (outsAt0 m c n h).2) (part m c) (fun n h h0 y => ?_) (fun n h h0 y => ?_) n h y
  · rw [show outsAt0 m c n h = _ from outsAt0_A m c ⟨n, h⟩ h0 (by dsimp only; omega) (by dsimp only; omega)]
    dsimp only
    rw [scratch_A]
    exact point m c ⟨n, h⟩ y
  · by_cases h3 : (n + 1) % 5 = 4
    · rw [show outsAt0 m c (n + 1) h = _ from outsAt0_C m c ⟨n + 1, h⟩ h0 (by dsimp only; omega) h3]
      dsimp only
      rw [scratch_C]
      exact congrArg _ (point m c ⟨n + 1, h⟩ y)
    · rw [show outsAt0 m c (n + 1) h = _ from outsAt0_B m c ⟨n + 1, h⟩ h0 (by dsimp only; omega) h3]
      dsimp only
      rw [scratch_B]
      exact congrArg _ (point m c ⟨n + 1, h⟩ y)

/-- The result's block after the last point of a run is the scratch block and the third argument's. -/
theorem out_last (t : Fin cfg0.N) (h3 : t.val % 5 = 4) :
    (outsAt0 m c t.val t.isLt).1 = addf (F := Ideal) (φ := .f32) (outsAt0 m c t.val t.isLt).2 (iblk m c 2 t : Vec Ideal S1024x1024 .f32) := by
  rw [outsAt0_C m c t (by omega) (by omega) h3]
  dsimp only
  rw [out_C, scratch_C]

/-- What the last point of a run writes back is its block of the sum. -/
theorem flushed (t : Fin cfg0.N) (hf : (cfg0.win 3).flush t = true) :
    (dats m 0 c).flushed 3 t = ((cfg0.win 3).blk t).view.read (Elt Ideal) (restInputs (a0 m c) (a1 m c) (a2 m c)) := by
  have hN : cfg0.N = 40 := N_0
  have ht := t.isLt
  have h3 : t.val % 5 = 4 := (flush0_3 t).mp hf
  show (cfg0.win 3).cut (grid0.coords t) ((dats m 0 c).after 3 t) = _
  rw [after0_3, out_last m c t h3]
  funext y
  rw [View.read_apply]
  show (outsAt0 m c t.val t.isLt).2 y + (iblk m c 2 t : Vec Ideal S1024x1024 .f32) y
    = restInputs (a0 m c) (a1 m c) (a2 m c) (((cfg0.win 3).blk t).view.emb y)
  unfold restInputs
  refine congrArg₂ (· + ·) ?_ (blk2 m c t y)
  obtain ⟨r, s, rfl⟩ : ∃ r s, y = ix2 r s := ⟨y 0, y 1, by idx_ext⟩
  rw [scratch, h3, Finset.sum_range]
  unfold part
  rw [Fin.sum_univ_tiles 5 1024 rfl]
  refine Finset.sum_congr rfl fun u _ => Finset.sum_congr rfl fun k _ => ?_
  refine congrArg₂ (· * ·) (congrArg (a0 m c) ?_) (congrArg (a1 m c) ?_)
  · funext a
    apply Fin.ext
    match a with
    | ⟨0, _⟩ =>
      show ((t.val / 5 * 5 + u.val) / 10 * 1024 + r.val) % 4096 = win0_3.index t 0 * 1024 + 1 * r.val
      rw [(idx3 t).1]; omega
    | ⟨1, _⟩ => show (t.val / 5 * 5 + u.val) % 5 * 1024 + k.val = u.val * 1024 + k.val; omega
  · funext a
    apply Fin.ext
    match a with
    | ⟨0, _⟩ =>
      show (t.val / 5 * 5 + u.val) % 10 / 5 * 1024 + s.val = win0_3.index t 1 * 1024 + 1 * s.val
      rw [(idx3 t).2]; omega
    | ⟨1, _⟩ => show 9216 + ((t.val / 5 * 5 + u.val) % 5 * 1024 + k.val) = 9216 + (u.val * 1024 + k.val); omega

theorem onto : ∀ (p : Fin 4) (q : Fin 2), ∃ t : Fin cfg0.N,
    t.val % 5 = 4 ∧ win0_3.index t 0 = p.val ∧ win0_3.index t 1 = q.val :=
  (by decide +kernel : ∀ (p : Fin 4) (q : Fin 2), ∃ t : Fin grid0.N,
    t.val % 5 = 4 ∧ win0_3.index t 0 = p.val ∧ win0_3.index t 1 = q.val)

/-- The eight blocks fill the array. -/
theorem final : (dats m 0 c).arrAt 3 cfg0.N = restInputs (a0 m c) (a1 m c) (a2 m c) :=
  (dats m 0 c).arrAt_eq_of_cover 3 (restInputs (a0 m c) (a1 m c) (a2 m c)) (flushed m c) fun i => by
    have h0 : (i 0).val < 4096 := (i 0).isLt
    have h1 : (i 1).val < 2048 := (i 1).isLt
    obtain ⟨t, e, e0, e1⟩ := onto ⟨(i 0).val / 1024, by omega⟩ ⟨(i 1).val / 1024, by omega⟩
    dsimp only at e0 e1
    refine ⟨t, (flush0_3 t).mpr e, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 1024 ≤ (i 1).val ∧ (i 1).val < win0_3.index t 1 * 1024 + 1024; omega

end Cert.Kernel6Ideal.Product

namespace Cert.Reference6Ideal.Product

open Idealize.ShloMosaic Cert.Reference6Ideal Cert.Reference6Ideal.Gen Cert.Reference6Ideal.Read Cert.Products

/-- The reference's result is the same sum. -/
theorem result (g : Vec Ideal S4096x5120 .bf16) (w : Vec Ideal S2048x14336 .bf16) (d : Vec Ideal S4096x2048 .f32) :
    val_main_v8 (F := Ideal) g w d = restInputs g w d := by
  funext i
  rw [val_main_v8_apply]
  unfold restInputs
  show val_main_v7 (F := Ideal) g w i + d i = _
  rw [val_main_v7_apply]
  refine congrArg (· + d i) (Finset.sum_congr rfl fun k _ => ?_)
  refine congrArg₂ (· * ·) (congrArg g (by idx_ext)) (congrArg w ?_)
  funext a
  apply Fin.ext
  match a with
  | ⟨0, _⟩ => show 0 + (i 1).val = (i 1).val; omega
  | ⟨1, _⟩ => rfl

end Cert.Reference6Ideal.Product

end
-- ==== Proof.Softmax.lean ====
/- The row of a softmax and the gradient of its scores, over the extended reals: the two forms in which the kernel and
   the reference write the gradient, and their equality for real scores. -/
module

public import Idealize.ShloMosaic.Lib.Pointwise

@[expose] public section

noncomputable section

namespace Cert.Attn

open Idealize.ShloMosaic

/-- The scale of the scores, `1 / 16` (its f32 word). -/
def scale : EReal := Ideal.ofBits .f32 0x3D800000#32

theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem scale_real : ∃ r : ℝ, scale = r := ⟨_, by
  unfold scale Ideal.ofBits Ideal.ieee
  simp
  rfl⟩

/-- A row's largest score, from minus infinity. -/
def top (s : Fin 256 → EReal) : EReal := Finset.univ.fold max ⊥ s

/-- The exponential of a score less the row's largest. -/
def ex (s : Fin 256 → EReal) (m : Fin 256) : EReal := Ideal.exp (s m - top s)

/-- The row's denominator. -/
def den (s : Fin 256 → EReal) : EReal := ∑ m, ex s m

/-- The row's probabilities. -/
def prob (s : Fin 256 → EReal) (m : Fin 256) : EReal := Ideal.div (ex s m) (den s)

/-- The gradient of the scores (of the unscaled products), as `p (dp − Σ p dp) / 16`. -/
def dscore (s dp : Fin 256 → EReal) (m : Fin 256) : EReal :=
  prob s m * (dp m - ∑ m', prob s m' * dp m') * scale

/-- The same gradient through the quotient's own derivative: `(dp / Z − Σ dp e / Z²) e / 16`. -/
def dscoreQ (s dp : Fin 256 → EReal) (m : Fin 256) : EReal :=
  (Ideal.div (dp m) (den s) + -(∑ m', dp m' * Ideal.div 1 (den s * den s) * ex s m')) * ex s m * scale

theorem top_ge (s : Fin 256 → EReal) (m : Fin 256) : s m ≤ top s := by
  unfold top
  exact (Finset.le_fold_max _).mpr (Or.inr ⟨m, Finset.mem_univ m, le_rfl⟩)

theorem top_mem (s : Fin 256 → EReal) (h : ∀ m, s m ≠ ⊥) : ∃ m, top s = s m := by
  have hne : (Finset.univ : Finset (Fin 256)).Nonempty := ⟨0, Finset.mem_univ 0⟩
  obtain ⟨m, -, hm⟩ := Finset.exists_max_image Finset.univ s hne
  refine ⟨m, le_antisymm ?_ (top_ge s m)⟩
  unfold top
  exact Finset.fold_max_le _ |>.mpr ⟨bot_le, fun x hx => hm x hx⟩

/-- For real scores: the exponentials are positive reals at most one, so the denominator is a positive real. -/
theorem ex_real (s : Fin 256 → EReal) (h : ∀ m, ∃ r : ℝ, s m = r) (m : Fin 256) :
    ∃ r : ℝ, 0 < r ∧ ex s m = r := by
  obtain ⟨m₀, h₀⟩ := top_mem s fun m => by obtain ⟨r, hr⟩ := h m; rw [hr]; exact EReal.coe_ne_bot r
  obtain ⟨a, ha⟩ := h m
  obtain ⟨b, hb⟩ := h m₀
  refine ⟨Real.exp (a - b), Real.exp_pos _, ?_⟩
  unfold ex
  rw [h₀, ha, hb, ← EReal.coe_sub]
  rfl

theorem den_real (s : Fin 256 → EReal) (h : ∀ m, ∃ r : ℝ, s m = r) : ∃ r : ℝ, 0 < r ∧ den s = r := by
  choose f hf using ex_real s h
  refine ⟨∑ m, f m, Finset.sum_pos (fun m _ => (hf m).1) ⟨0, Finset.mem_univ 0⟩, ?_⟩
  unfold den
  rw [Finset.sum_congr rfl fun m _ => (hf m).2]
  induction (Finset.univ : Finset (Fin 256)) using Finset.induction_on with
  | empty => rfl
  | insert a t ha ih => rw [Finset.sum_insert ha, Finset.sum_insert ha, ih, EReal.coe_add]

/-- THE TWO FORMS AGREE where the scores are real, whatever extended reals the incoming gradient holds. -/
theorem dscore_eq (s dp : Fin 256 → EReal) (h : ∀ m, ∃ r : ℝ, s m = r) (m : Fin 256) :
    dscoreQ s dp m = dscore s dp m := by
  obtain ⟨z, hz, hZ⟩ := den_real s h
  choose f hf using ex_real s h
  have hz0 : (z : EReal) ≠ 0 := by exact_mod_cast hz.ne'
  have hzz : ((z : EReal) * z) ≠ 0 := by exact_mod_cast (mul_pos hz hz).ne'
  have hi : (0 : EReal) ≤ ((z⁻¹ : ℝ) : EReal) := by exact_mod_cast (inv_pos.mpr hz).le
  have hd : ∀ x : EReal, Ideal.div x (z : EReal) = x * ((z⁻¹ : ℝ) : EReal) := fun x => by
    unfold Ideal.div; rw [if_neg hz0, EReal.coe_inv]
  have hd2 : Ideal.div 1 ((z : EReal) * z) = ((z⁻¹ : ℝ) : EReal) * ((z⁻¹ : ℝ) : EReal) := by
    unfold Ideal.div
    rw [if_neg hzz, ← EReal.coe_mul, ← EReal.coe_inv, one_mul, ← EReal.coe_mul, mul_inv]
  have hnn : ∀ S : Fin 256 → EReal, (∑ i, S i) * ((z⁻¹ : ℝ) : EReal) = ∑ i, S i * ((z⁻¹ : ℝ) : EReal) := fun S => by
    induction (Finset.univ : Finset (Fin 256)) using Finset.induction_on with
    | empty => simp
    | insert a t ha ih =>
      rw [Finset.sum_insert ha, Finset.sum_insert ha, ← ih,
        EReal.right_distrib_of_nonneg_of_ne_top hi (EReal.coe_ne_top _)]
  unfold dscore dscoreQ prob
  simp only [hZ, hd, hd2]
  have hs : (∑ m', dp m' * (((z⁻¹ : ℝ) : EReal) * ((z⁻¹ : ℝ) : EReal)) * ex s m')
      = (∑ m', ex s m' * ((z⁻¹ : ℝ) : EReal) * dp m') * ((z⁻¹ : ℝ) : EReal) := by
    rw [hnn]
    refine Finset.sum_congr rfl fun i _ => ?_
    ac_rfl
  rw [hs, ← EReal.neg_mul, ← EReal.right_distrib_of_nonneg_of_ne_top hi (EReal.coe_ne_top _), ← sub_eq_add_neg]
  congr 1
  ac_rfl

end Cert.Attn

end
-- ==== Proof.Heads.lean ====
/- The gradient of one row of the four-headed attention on a memory, as functions of the row's queries, of the incoming
   gradient's row and of the memory's keys and values. -/
module

public import proofs.«01_k».proof.Proof.Softmax

@[expose] public section

noncomputable section

namespace Cert.Attn

open Idealize.ShloMosaic

/-- Column `256 h + d` of the queries, of the incoming gradient and of the query gradient. -/
def hcol (h : Fin 4) (d : Fin 256) : Fin 1024 := ⟨256 * h.val + d.val, by omega⟩

/-- Column `256 h + d` of the memory: head `h`'s keys. -/
def kcol (h : Fin 4) (d : Fin 256) : Fin 2048 := ⟨256 * h.val + d.val, by omega⟩

/-- Column `1024 + 256 h + d` of the memory: head `h`'s values. -/
def vcol (h : Fin 4) (d : Fin 256) : Fin 2048 := ⟨1024 + (256 * h.val + d.val), by omega⟩

/-- Head `h`'s scaled scores of a row of queries `q` against the memory `kv`. -/
def score (q : Fin 1024 → EReal) (kv : Fin 256 → Fin 2048 → EReal) (h : Fin 4) (m : Fin 256) : EReal :=
  (∑ d, q (hcol h d) * kv m (kcol h d)) * scale

/-- Head `h`'s products of the incoming gradient's row `g` with the memory's values. -/
def dprob (g : Fin 1024 → EReal) (kv : Fin 256 → Fin 2048 → EReal) (h : Fin 4) (m : Fin 256) : EReal :=
  ∑ d, g (hcol h d) * kv m (vcol h d)

/-- Head `h`'s gradient of the row's scores. -/
def dsc (q g : Fin 1024 → EReal) (kv : Fin 256 → Fin 2048 → EReal) (h : Fin 4) (m : Fin 256) : EReal :=
  dscore (score q kv h) (dprob g kv h) m

/-- The gradient of the row's queries, head `h`. -/
def dqAt (q g : Fin 1024 → EReal) (kv : Fin 256 → Fin 2048 → EReal) (h : Fin 4) (d : Fin 256) : EReal :=
  ∑ m, dsc q g kv h m * kv m (kcol h d)

/-- The gradient of the row's queries at column `c`. -/
def dqRow (q g : Fin 1024 → EReal) (kv : Fin 256 → Fin 2048 → EReal) (c : Fin 1024) : EReal :=
  dqAt q g kv ⟨c.val / 256, by omega⟩ ⟨c.val % 256, by omega⟩

/-- What the row adds to the gradient of the keys, head `h`. -/
def dkAt (q g : Fin 1024 → EReal) (kv : Fin 256 → Fin 2048 → EReal) (h : Fin 4) (m d : Fin 256) : EReal :=
  dsc q g kv h m * q (hcol h d)

/-- What the row adds to the gradient of the values, head `h`. -/
def dvAt (q g : Fin 1024 → EReal) (kv : Fin 256 → Fin 2048 → EReal) (h : Fin 4) (m d : Fin 256) : EReal :=
  prob (score q kv h) m * g (hcol h d)

/-- What the row adds to the memory's gradient at row `m`, column `c`: the keys' columns first, then the values'. -/
def dkvRow (q g : Fin 1024 → EReal) (kv : Fin 256 → Fin 2048 → EReal) (m : Fin 256) (c : Fin 2048) : EReal :=
  if c.val < 1024 then dkAt q g kv ⟨c.val / 256 % 4, Nat.mod_lt _ (by decide)⟩ m ⟨c.val % 256, Nat.mod_lt _ (by decide)⟩
  else dvAt q g kv ⟨c.val / 256 % 4, Nat.mod_lt _ (by decide)⟩ m ⟨c.val % 256, Nat.mod_lt _ (by decide)⟩

variable (q g : Fin 1024 → EReal) (kv : Fin 256 → Fin 2048 → EReal)

theorem dqRow_eq (h : Fin 4) (d : Fin 256) (c : Fin 1024) (hc : c.val = 256 * h.val + d.val) :
    dqRow q g kv c = dqAt q g kv h d := by
  unfold dqRow
  congr 1 <;> apply Fin.ext <;> dsimp only <;> omega

theorem dkvRow_key (h : Fin 4) (d m : Fin 256) (c : Fin 2048) (hc : c.val = 256 * h.val + d.val) :
    dkvRow q g kv m c = dkAt q g kv h m d := by
  unfold dkvRow
  rw [if_pos (by omega)]
  congr 1 <;> apply Fin.ext <;> dsimp only <;> omega

theorem dkvRow_value (h : Fin 4) (d m : Fin 256) (c : Fin 2048) (hc : c.val = 1024 + (256 * h.val + d.val)) :
    dkvRow q g kv m c = dvAt q g kv h m d := by
  unfold dkvRow
  rw [if_neg (by omega)]
  congr 1 <;> apply Fin.ext <;> dsimp only <;> omega

/-! ## The arrays' rows -/

/-- Row `s` of the queries: columns 9216 to 10239 of the projections. -/
def qrow (x : (⟨2, ![4096, 14336]⟩ : Shape).Idx → EReal) (s : Fin 4096) (c : Fin 1024) : EReal :=
  x (ix2 s ⟨9216 + c.val, by omega⟩)

/-- Row `s` of the incoming gradient: columns 3072 to 4095 of the mixed features' gradient. -/
def grow (x : (⟨2, ![4096, 4096]⟩ : Shape).Idx → EReal) (s : Fin 4096) (c : Fin 1024) : EReal :=
  x (ix2 s ⟨3072 + c.val, by omega⟩)

/-- The memory's keys and values by row and column. -/
def kvrow (x : (⟨2, ![256, 2048]⟩ : Shape).Idx → EReal) (m : Fin 256) (c : Fin 2048) : EReal := x (ix2 m c)

/-- The first result: the query gradient in its first 1024 columns, the buffer's own contents in the others. -/
def dqOut (x0 : (⟨2, ![4096, 4096]⟩ : Shape).Idx → EReal) (x1 : (⟨2, ![4096, 14336]⟩ : Shape).Idx → EReal)
    (x2 : (⟨2, ![256, 2048]⟩ : Shape).Idx → EReal) (x3 : (⟨2, ![4096, 5120]⟩ : Shape).Idx → EReal)
    (i : (⟨2, ![4096, 5120]⟩ : Shape).Idx) : EReal :=
  if h : (i 1).val < 1024 then dqRow (qrow x1 (i 0)) (grow x0 (i 0)) (kvrow x2) ⟨(i 1).val, h⟩ else x3 i

/-- The second result: the gradient of the memory's keys and values, summed over the rows. -/
def dkvOut (x0 : (⟨2, ![4096, 4096]⟩ : Shape).Idx → EReal) (x1 : (⟨2, ![4096, 14336]⟩ : Shape).Idx → EReal)
    (x2 : (⟨2, ![256, 2048]⟩ : Shape).Idx → EReal) (i : (⟨2, ![256, 2048]⟩ : Shape).Idx) : EReal :=
  ∑ s : Fin 4096, dkvRow (qrow x1 s) (grow x0 s) (kvrow x2) (i 0) (i 1)

end Cert.Attn

end
-- ==== Proof.Payload.lean ====
/- One head's payloads of the kernel read at an index: the softmax, the gradient of its scores, and the three products. -/
module

public import proofs.«01_k».proof.Proof.Heads
public import proofs.«01_k».proof.Proof.Gen.KernelIdeal.Skeleton
public import Idealize.ShloMosaic.Lib.Pointwise

@[expose] public section

set_option maxRecDepth 16384

noncomputable section

namespace Cert.KernelIdeal.Heads

open Idealize.ShloMosaic Cert.KernelIdeal Cert.KernelIdeal.Gen Cert.Attn

variable (q dO : Vec Ideal S512x256 .bf16) (k v : Vec Ideal S256x256 .bf16) (x : Vec Ideal S256x256 .f32)

/-- One head's scores, read off its blocks of queries and keys. -/
def sc (q : Vec Ideal S512x256 .bf16) (k : Vec Ideal S256x256 .bf16) (r : Fin 512) (m : Fin 256) : EReal :=
  (∑ d : Fin 256, q (ix2 r d) * k (ix2 m d)) * scale

/-- One head's products of the incoming gradient with its values. -/
def dp (dO : Vec Ideal S512x256 .bf16) (v : Vec Ideal S256x256 .bf16) (r : Fin 512) (m : Fin 256) : EReal :=
  ∑ d : Fin 256, dO (ix2 r d) * v (ix2 m d)

theorem pay7_apply (r : Fin 512) (m : Fin 256) :
    k0_pay7 (F := Ideal) q k (ix2 r m) = prob (sc q k r) m := by
  unfold prob den ex top sc scale
  pointwise [k0_pay7, ofBits_bot]

theorem pay9_apply (r : Fin 512) (m : Fin 256) :
    k0_pay9 (F := Ideal) q k v dO (ix2 r m) = dscore (sc q k r) (dp dO v r) m := by
  unfold dscore dp scale
  pointwise [k0_pay9]
  simp only [pay7_apply]

theorem pay10_apply (r : Fin 512) (d : Fin 256) :
    k0_pay10 (F := Ideal) k (k0_pay9 (F := Ideal) q k v dO) (ix2 r d)
      = ∑ m, dscore (sc q k r) (dp dO v r) m * k (ix2 m d) := by
  pointwise [k0_pay10]
  simp only [pay9_apply]

theorem pay11_apply (m d : Fin 256) :
    k0_pay11 (F := Ideal) q (k0_pay9 (F := Ideal) q k v dO) x (ix2 m d)
      = x (ix2 m d) + ∑ r, dscore (sc q k r) (dp dO v r) m * q (ix2 r d) := by
  pointwise [k0_pay11]
  simp only [pay9_apply]

theorem pay8_apply (m d : Fin 256) :
    k0_pay8 (F := Ideal) q k dO x (ix2 m d) = x (ix2 m d) + ∑ r, prob (sc q k r) m * dO (ix2 r d) := by
  pointwise [k0_pay8]
  simp only [pay7_apply]

/-! The other three heads' payloads are the first head's. -/

theorem ds1 : k0_pay15 (F := Ideal) (k0_pay12 q k) (k0_pay14 v dO) = k0_pay9 q k v dO := rfl
theorem dv1 : k0_pay13 (F := Ideal) q k dO x = k0_pay8 q k dO x := rfl
theorem dq1 : k0_pay16 (F := Ideal) k (k0_pay12 q k) (k0_pay14 v dO) = k0_pay10 k (k0_pay9 q k v dO) := rfl
theorem dk1 : k0_pay17 (F := Ideal) q (k0_pay12 q k) (k0_pay14 v dO) x = k0_pay11 q (k0_pay9 q k v dO) x := rfl
theorem dv2 : k0_pay20 (F := Ideal) dO (k0_pay19 q k) x = k0_pay8 q k dO x := rfl
theorem dk2 : k0_pay23 (F := Ideal) q v dO (k0_pay18 q k) x = k0_pay11 q (k0_pay9 q k v dO) x := rfl
theorem dq2 : k0_pay22 (F := Ideal) k v dO (k0_pay18 q k) = k0_pay10 k (k0_pay9 q k v dO) := rfl
theorem dv3 : k0_pay2 (F := Ideal) dO (k0_pay24 q k) (k0_pay25 q k) x = k0_pay8 q k dO x := rfl
theorem dk3 : k0_pay5 (F := Ideal) q v dO (k0_pay24 q k) (k0_pay25 q k) x = k0_pay11 q (k0_pay9 q k v dO) x := rfl
theorem dq3 : k0_pay4 (F := Ideal) k v dO (k0_pay24 q k) (k0_pay25 q k) = k0_pay10 k (k0_pay9 q k v dO) := rfl

end Cert.KernelIdeal.Heads

end
-- ==== Proof.Block.lean ====
/- What one grid point leaves in its two output blocks, read at an index: the query gradient of its 512 rows, and the
   memory's gradient with what its rows add. -/
module

public import proofs.«01_k».proof.Proof.Payload
public import proofs.«01_k».proof.Proof.Gen.KernelIdeal.Value
public import Idealize.ShloMosaic.Lib.Pointwise
public import Idealize.ShloMosaic.Lib.Pipeline.ValueKit.Tiles
public import Idealize.ShloMosaic.Lib.Tactic

@[expose] public section

set_option maxRecDepth 16384

noncomputable section

namespace Cert.KernelIdeal.Heads

open Idealize.ShloMosaic Idealize.ShloMosaic.TcCoe Cert.KernelIdeal Cert.KernelIdeal.Gen Cert.Attn

variable (x0 x1 : Vec Ideal S512x1024 .bf16) (x2 : Vec Ideal S256x2048 .bf16) (xo : Vec Ideal S256x2048 .f32)

/-- Row `r` of a block of 1024 columns. -/
def row (x : Vec Ideal S512x1024 .bf16) (r : Fin 512) (c : Fin 1024) : EReal := x (ix2 r c)

/-- The memory, by row and column. -/
def mem (x : Vec Ideal S256x2048 .bf16) (m : Fin 256) (c : Fin 2048) : EReal := x (ix2 m c)

/-- Head `h`'s 256 columns of a block of queries or of the incoming gradient, and of the memory's keys and values. -/
abbrev part (x : Vec Ideal S512x1024 .bf16) (o : ℕ) (inb : ∀ a, (![0, o] : Fin 2 → Nat) a + S512x256.size a ≤ S512x1024.size a) :
    Vec Ideal S512x256 .bf16 := View.ld x (Rect.unit ![0, o] S512x256.size inb)

abbrev kpart {e : EltTy} (x : Vec Ideal S256x2048 e) (o : ℕ) (inb : ∀ a, (![0, o] : Fin 2 → Nat) a + S256x256.size a ≤ S256x2048.size a) :
    Vec Ideal S256x256 e := View.ld x (Rect.unit ![0, o] S256x256.size inb)

theorem part_apply (x : Vec Ideal S512x1024 .bf16) (h : Fin 4) (o : ℕ) (ho : o = 256 * h.val) (inb) (r : Fin 512) (d : Fin 256) :
    part x o inb (ix2 r d) = row x r (hcol h d) := by
  subst ho
  exact View.ld_unit_apply_of x _ _ _ _ (ix2 r (hcol h d)) fun a => match a with
    | ⟨0, _⟩ => (Nat.zero_add _).symm
    | ⟨1, _⟩ => rfl

theorem kpart_apply {e : EltTy} (x : Vec Ideal S256x2048 e) (o : ℕ) (inb) (m d : Fin 256) (c : Fin 2048) (hc : c.val = o + d.val) :
    kpart x o inb (ix2 m d) = x (ix2 m c) :=
  View.ld_unit_apply_of x _ _ _ _ (ix2 m c) fun a => match a with
    | ⟨0, _⟩ => (Nat.zero_add _).symm
    | ⟨1, _⟩ => hc

theorem sc_part (h : Fin 4) (o : ℕ) (ho : o = 256 * h.val) (i1 i2) (r : Fin 512) :
    sc (part x1 o i1) (kpart x2 o i2) r = score (row x1 r) (mem x2) h := by
  funext m
  unfold sc score
  congr 1
  refine Finset.sum_congr rfl fun d _ => ?_
  rw [part_apply x1 h o ho, kpart_apply x2 o i2 m d (kcol h d) (by subst ho; rfl)]
  rfl

theorem dp_part (h : Fin 4) (o o' : ℕ) (ho : o = 256 * h.val) (ho' : o' = 1024 + 256 * h.val) (i1 i2) (r : Fin 512) :
    dp (part x0 o i1) (kpart x2 o' i2) r = dprob (row x0 r) (mem x2) h := by
  funext m
  unfold dp dprob
  refine Finset.sum_congr rfl fun d _ => ?_
  rw [part_apply x0 h o ho, kpart_apply x2 o' i2 m d (vcol h d) (by subst ho'; exact (Nat.add_assoc ..).symm)]
  rfl

/-- A piece of 256 columns at column `o`, read at its own index. -/
theorem tile512 {e : EltTy} (y : S512x1024.Idx) (o : ℕ) (w : Vec Ideal S512x256 e) (v : Elt Ideal e)
    (hw : ∀ (r : Fin 512) (d : Fin 256), y 0 = r → (y 1).val = o + d.val → w (ix2 r d) = v) :
    View.TileAt (S := S512x1024) (Val := Elt Ideal) (e := e) y ![0, o] S512x256.size w v := by
  intro (x : S512x256.Idx) hx
  rw [show x = ix2 (x 0) (x 1) by idx_ext]
  exact hw (x 0) (x 1) (Fin.ext ((hx 0).trans (Nat.zero_add _))) (hx 1)

theorem tile256 {e : EltTy} (y : S256x2048.Idx) (o : ℕ) (w : Vec Ideal S256x256 e) (v : Elt Ideal e)
    (hw : ∀ (r : Fin 256) (d : Fin 256), y 0 = r → (y 1).val = o + d.val → w (ix2 r d) = v) :
    View.TileAt (S := S256x2048) (Val := Elt Ideal) (e := e) y ![0, o] S256x256.size w v := by
  intro (x : S256x256.Idx) hx
  rw [show x = ix2 (x 0) (x 1) by idx_ext]
  exact hw (x 0) (x 1) (Fin.ext ((hx 0).trans (Nat.zero_add _))) (hx 1)

/-- One head's piece of the query gradient. -/
theorem dq_piece (h : Fin 4) (o o' : ℕ) (ho : o = 256 * h.val) (ho' : o' = 1024 + 256 * h.val) (i1 i2 i3 i4 i5)
    (y : S512x1024.Idx) :
    View.TileAt (Val := Elt Ideal) (e := .bf16) y ![0, o] S512x256.size
      (k0_pay10 (F := Ideal) (kpart x2 o i1) (k0_pay9 (F := Ideal) (part x1 o i2) (kpart x2 o i3) (kpart x2 o' i4) (part x0 o i5)))
      (dqRow (row x1 (y 0)) (row x0 (y 0)) (mem x2) (y 1)) := by
  refine tile512 (e := .bf16) y o _ _ fun r d h0 h1 => ?_
  rw [dqRow_eq _ _ _ h d (y 1) (by rw [h1, ho]), h0, pay10_apply]
  unfold dqAt dsc
  refine Finset.sum_congr rfl fun m _ => ?_
  rw [sc_part x1 x2 h o ho, dp_part x0 x2 h o o' ho ho', kpart_apply x2 o i1 m d (kcol h d) (by subst ho; rfl)]
  rfl

/-- The memory's gradient after the block's rows are added to what was there. -/
def added (y : S256x2048.Idx) : EReal := xo y + ∑ r, dkvRow (row x1 r) (row x0 r) (mem x2) (y 0) (y 1)

/-- One head's piece of the keys' gradient. -/
theorem dk_piece (h : Fin 4) (o o' : ℕ) (ho : o = 256 * h.val) (ho' : o' = 1024 + 256 * h.val) (i1 i2 i3 i4 i5)
    (y : S256x2048.Idx) :
    View.TileAt (Val := Elt Ideal) (e := .f32) y ![0, o] S256x256.size
      (k0_pay11 (F := Ideal) (part x1 o i2) (k0_pay9 (F := Ideal) (part x1 o i2) (kpart x2 o i3) (kpart x2 o' i4) (part x0 o i5)) (kpart xo o i1))
      (added x0 x1 x2 xo y) := by
  refine tile256 (e := .f32) y o _ _ fun m d h0 h1 => ?_
  rw [pay11_apply, kpart_apply xo o i1 m d (y 1) h1]
  unfold added
  rw [← h0, show (ix2 (y 0) (y 1) : S256x2048.Idx) = y by idx_ext]
  congr 1
  refine Finset.sum_congr rfl fun r _ => ?_
  rw [dkvRow_key _ _ _ h d (y 0) (y 1) (by rw [h1, ho]), sc_part x1 x2 h o ho, dp_part x0 x2 h o o' ho ho', part_apply x1 h o ho]
  rfl

/-- One head's piece of the values' gradient. -/
theorem dv_piece (h : Fin 4) (o o' : ℕ) (ho : o = 256 * h.val) (ho' : o' = 1024 + 256 * h.val) (i1 i2 i3 i5)
    (y : S256x2048.Idx) :
    View.TileAt (Val := Elt Ideal) (e := .f32) y ![0, o'] S256x256.size
      (k0_pay8 (F := Ideal) (part x1 o i2) (kpart x2 o i3) (part x0 o i5) (kpart xo o' i1))
      (added x0 x1 x2 xo y) := by
  refine tile256 (e := .f32) y o' _ _ fun m d h0 h1 => ?_
  rw [pay8_apply, kpart_apply xo o' i1 m d (y 1) h1]
  unfold added
  rw [← h0, show (ix2 (y 0) (y 1) : S256x2048.Idx) = y by idx_ext]
  congr 1
  refine Finset.sum_congr rfl fun r _ => ?_
  rw [dkvRow_value _ _ _ h d (y 0) (y 1) (by omega), sc_part x1 x2 h o ho, part_apply x0 h o ho]
  rfl

/-- The eight pieces of the memory's gradient, last stored first, over what the block held. -/
abbrev pieces : List (View.Piece (Elt Ideal) S256x2048 .f32) :=
  [⟨Rect.unit ![0, 768] S256x256.size inb_S256x2048_S256x256_0_768, k0_pay11 (F := Ideal) (part x1 768 inb_S512x1024_S512x256_0_768) (k0_pay9 (F := Ideal) (part x1 768 inb_S512x1024_S512x256_0_768) (kpart x2 768 inb_S256x2048_S256x256_0_768) (kpart x2 1792 inb_S256x2048_S256x256_0_1792) (part x0 768 inb_S512x1024_S512x256_0_768)) (kpart xo 768 inb_S256x2048_S256x256_0_768)⟩,
   ⟨Rect.unit ![0, 1792] S256x256.size inb_S256x2048_S256x256_0_1792, k0_pay8 (F := Ideal) (part x1 768 inb_S512x1024_S512x256_0_768) (kpart x2 768 inb_S256x2048_S256x256_0_768) (part x0 768 inb_S512x1024_S512x256_0_768) (kpart xo 1792 inb_S256x2048_S256x256_0_1792)⟩,
   ⟨Rect.unit ![0, 512] S256x256.size inb_S256x2048_S256x256_0_512, k0_pay11 (F := Ideal) (part x1 512 inb_S512x1024_S512x256_0_512) (k0_pay9 (F := Ideal) (part x1 512 inb_S512x1024_S512x256_0_512) (kpart x2 512 inb_S256x2048_S256x256_0_512) (kpart x2 1536 inb_S256x2048_S256x256_0_1536) (part x0 512 inb_S512x1024_S512x256_0_512)) (kpart xo 512 inb_S256x2048_S256x256_0_512)⟩,
   ⟨Rect.unit ![0, 1536] S256x256.size inb_S256x2048_S256x256_0_1536, k0_pay8 (F := Ideal) (part x1 512 inb_S512x1024_S512x256_0_512) (kpart x2 512 inb_S256x2048_S256x256_0_512) (part x0 512 inb_S512x1024_S512x256_0_512) (kpart xo 1536 inb_S256x2048_S256x256_0_1536)⟩,
   ⟨Rect.unit ![0, 256] S256x256.size inb_S256x2048_S256x256_0_256, k0_pay11 (F := Ideal) (part x1 256 inb_S512x1024_S512x256_0_256) (k0_pay9 (F := Ideal) (part x1 256 inb_S512x1024_S512x256_0_256) (kpart x2 256 inb_S256x2048_S256x256_0_256) (kpart x2 1280 inb_S256x2048_S256x256_0_1280) (part x0 256 inb_S512x1024_S512x256_0_256)) (kpart xo 256 inb_S256x2048_S256x256_0_256)⟩,
   ⟨Rect.unit ![0, 1280] S256x256.size inb_S256x2048_S256x256_0_1280, k0_pay8 (F := Ideal) (part x1 256 inb_S512x1024_S512x256_0_256) (kpart x2 256 inb_S256x2048_S256x256_0_256) (part x0 256 inb_S512x1024_S512x256_0_256) (kpart xo 1280 inb_S256x2048_S256x256_0_1280)⟩,
   ⟨Rect.unit ![0, 0] S256x256.size inb_S256x2048_S256x256_0_0, k0_pay11 (F := Ideal) (part x1 0 inb_S512x1024_S512x256_0_0) (k0_pay9 (F := Ideal) (part x1 0 inb_S512x1024_S512x256_0_0) (kpart x2 0 inb_S256x2048_S256x256_0_0) (kpart x2 1024 inb_S256x2048_S256x256_0_1024) (part x0 0 inb_S512x1024_S512x256_0_0)) (kpart xo 0 inb_S256x2048_S256x256_0_0)⟩,
   ⟨Rect.unit ![0, 1024] S256x256.size inb_S256x2048_S256x256_0_1024, k0_pay8 (F := Ideal) (part x1 0 inb_S512x1024_S512x256_0_0) (kpart x2 0 inb_S256x2048_S256x256_0_0) (part x0 0 inb_S512x1024_S512x256_0_0) (kpart xo 1024 inb_S256x2048_S256x256_0_1024)⟩]

theorem pieces_cover (y : S256x2048.Idx) : ∃ p ∈ pieces x0 x1 x2 xo, y ∈ p.1.set :=
  View.cover_of_tiled_head _ _ _ (by rfl) y

theorem pieces_all (y : S256x2048.Idx) : View.AllAt (pieces x0 x1 x2 xo) y (added x0 x1 x2 xo y) := by
  refine View.allAt_cons_unit _ _ _ _ _ (dk_piece x0 x1 x2 xo 3 768 1792 rfl rfl _ _ _ _ _ y) ?_
  refine View.allAt_cons_unit _ _ _ _ _ (dv_piece x0 x1 x2 xo 3 768 1792 rfl rfl _ _ _ _ y) ?_
  refine View.allAt_cons_unit _ _ _ _ _ (dk_piece x0 x1 x2 xo 2 512 1536 rfl rfl _ _ _ _ _ y) ?_
  refine View.allAt_cons_unit _ _ _ _ _ (dv_piece x0 x1 x2 xo 2 512 1536 rfl rfl _ _ _ _ y) ?_
  refine View.allAt_cons_unit _ _ _ _ _ (dk_piece x0 x1 x2 xo 1 256 1280 rfl rfl _ _ _ _ _ y) ?_
  refine View.allAt_cons_unit _ _ _ _ _ (dv_piece x0 x1 x2 xo 1 256 1280 rfl rfl _ _ _ _ y) ?_
  refine View.allAt_cons_unit _ _ _ _ _ (dk_piece x0 x1 x2 xo 0 0 1024 rfl rfl _ _ _ _ _ y) ?_
  refine View.allAt_cons_unit _ _ _ _ _ (dv_piece x0 x1 x2 xo 0 0 1024 rfl rfl _ _ _ _ y) ?_
  exact View.allAt_nil _ _

theorem canon_pieces : View.canon (pieces x0 x1 x2 xo) = added x0 x1 x2 xo :=
  funext fun y => View.canon_eq_of_allAt _ _ _ (pieces_cover x0 x1 x2 xo y) (pieces_all x0 x1 x2 xo y)

variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S256x2048 .bf16) (h3 : a3.IsWhole)
  (a5 : Memref sig .tc .vmem S512x1024 .bf16) (h5 : a5.IsWhole) (a6 : Memref sig .tc .vmem S256x2048 .f32) (h6 : a6.IsWhole)

/-- A point that is not the first adds its rows to what the point before left. -/
theorem out_B_4 (hc : ¬cond0_0 i) :
    out0_B_4 (F := Ideal) c i a1 h1 a2 h2 a3 h3 a5 h5 a6 h6 hc x0 x1 x2 xo = added x0 x1 x2 xo := by
  unfold out0_B_4
  rw [View.read_writes_eq_canon _ _ _ (cover0_B_4 c i a1 h1 a2 h2 a3 h3 a5 h5 a6 h6 hc x0 x1 x2 xo)]
  unfold kernelRun0_B
  dsimp only
  sl_unfold_words
  simp only [View.readAt_eq_ld, h1.read_unread, h2.read_unread, h3.read_unread, h6.read_unread]
  exact canon_pieces x0 x1 x2 xo

/-- 256 columns of the memory's gradient, from column `o`. -/
abbrev cols (o : ℕ) (inb : ∀ a, (![0, o] : Fin 2 → Nat) a + (![256, 256] : Fin 2 → Nat) a ≤ S256x2048.size a) : Rect S256x2048 :=
  Rect.unit ![0, o] ![256, 256] inb

theorem readCov_skip {σ : RefSig} (v : View σ .tc .vmem S256x2048 .f32) (a b : ℕ) (ia ib) (w : Vec Ideal S256x256 .f32)
    (L : List (View.Piece (Elt Ideal) S256x2048 .f32)) (h : a + 256 ≤ b ∨ b + 256 ≤ a) :
    v.readCov (⟨Rect.unit (s := S256x2048) ![0, a] ![256, 256] ia, w⟩ :: L) (Rect.unit (s := S256x2048) ![0, b] ![256, 256] ib).toLoadRect
      = v.readCov L (Rect.unit (s := S256x2048) ![0, b] ![256, 256] ib).toLoadRect :=
  View.readCov_cons_of_disjoint v _ _ _ (Rect.disjoint_of_separated (cols a ia) (cols b ib) 1 (by
    show (256 = 0 ∨ a + 1 * 255 < b) ∨ (256 = 0 ∨ b + 1 * 255 < a)
    omega))

theorem canon_append {L L' : List (View.Piece (Elt Ideal) S256x2048 .f32)} {y : S256x2048.Idx} {v : EReal}
    (hc : ∃ p ∈ L, y ∈ p.1.set) (h : View.AllAt L y v) : View.canon (L ++ L') y = v := by
  induction L with
  | nil => obtain ⟨p, hp, _⟩ := hc; exact absurd hp List.not_mem_nil
  | cons p L ih =>
    rw [List.cons_append]
    by_cases hm : y ∈ p.1.set
    · obtain ⟨x, rfl⟩ := p.1.exists_idx_of_mem hm
      rw [show p.1.idx x = p.1.emb x from rfl, View.canon_cons_emb]
      exact h p List.mem_cons_self x rfl
    · rw [View.canon_cons_of_not_mem _ _ hm]
      refine ih ?_ fun q hq => h q (List.mem_cons_of_mem _ hq)
      obtain ⟨q, hq, hyq⟩ := hc
      rcases List.mem_cons.mp hq with rfl | hq
      · exact absurd hyq hm
      · exact ⟨q, hq, hyq⟩

theorem readCov_zero {σ : RefSig} (v : View σ .tc .vmem S256x2048 .f32) (b : ℕ) (iz ib) (w : Vec Ideal S256x2048 .f32) :
    v.readCov [⟨Rect.unit ![0, 0] ![256, 2048] iz, w⟩] (Rect.unit (s := S256x2048) ![0, b] ![256, 256] ib).toLoadRect
      = kpart w b ib := by
  rw [View.readCov_eq_canon']
  funext j
  rw [View.canon_unit_zero (S := S256x2048) (funext fun a => by fin_cases a <;> rfl)]

/-- The first point adds its rows to zeros. -/
theorem out_A_4 (hc : cond0_0 i) :
    out0_A_4 (F := Ideal) c i a1 h1 a2 h2 a3 h3 a5 h5 a6 h6 hc x0 x1 x2 = added x0 x1 x2 (k0_pay6 (F := Ideal)) := by
  unfold out0_A_4
  rw [View.read_writes_eq_canon _ _ _ (cover0_A_4 c i a1 h1 a2 h2 a3 h3 a5 h5 a6 h6 hc x0 x1 x2)]
  unfold kernelRun0_A
  dsimp only
  sl_unfold_words
  simp only [View.readAt_eq_ld, h1.read_unread, h2.read_unread, h3.read_unread]
  simp (disch := decide) only [readCov_skip, readCov_zero]
  funext y
  exact canon_append (L := pieces x0 x1 x2 (k0_pay6 (F := Ideal))) (pieces_cover x0 x1 x2 _ y) (pieces_all x0 x1 x2 _ y)

/-- Every point writes its rows' query gradient. -/
def qgrad (y : S512x1024.Idx) : EReal := dqRow (row x1 (y 0)) (row x0 (y 0)) (mem x2) (y 1)

theorem out_B_3 (hc : ¬cond0_0 i) :
    out0_B_3 (F := Ideal) c i a1 h1 a2 h2 a3 h3 a5 h5 a6 h6 hc x0 x1 x2 xo = qgrad x0 x1 x2 := by
  unfold out0_B_3
  have hcov := cover0_B_3 (F := Ideal) c i a1 h1 a2 h2 a3 h3 a5 h5 a6 h6 hc x0 x1 x2 xo
  rw [View.read_writes_eq_canon _ _ _ hcov]
  funext y
  refine View.canon_eq_of_allAt _ _ _ (hcov y) ?_
  unfold kernelRun0_B
  dsimp only
  sl_unfold_words
  simp only [View.readAt_eq_ld, h1.read_unread, h2.read_unread, h3.read_unread]
  refine View.allAt_cons_unit _ _ _ _ _ (dq_piece x0 x1 x2 3 768 1792 rfl rfl _ _ _ _ _ y) ?_
  refine View.allAt_cons_unit _ _ _ _ _ (dq_piece x0 x1 x2 2 512 1536 rfl rfl _ _ _ _ _ y) ?_
  refine View.allAt_cons_unit _ _ _ _ _ (dq_piece x0 x1 x2 1 256 1280 rfl rfl _ _ _ _ _ y) ?_
  refine View.allAt_cons_unit _ _ _ _ _ (dq_piece x0 x1 x2 0 0 1024 rfl rfl _ _ _ _ _ y) ?_
  exact View.allAt_nil _ _

theorem out_A_3 (hc : cond0_0 i) :
    out0_A_3 (F := Ideal) c i a1 h1 a2 h2 a3 h3 a5 h5 a6 h6 hc x0 x1 x2 = qgrad x0 x1 x2 := by
  unfold out0_A_3
  have hcov := cover0_A_3 (F := Ideal) c i a1 h1 a2 h2 a3 h3 a5 h5 a6 h6 hc x0 x1 x2
  rw [View.read_writes_eq_canon _ _ _ hcov]
  funext y
  refine View.canon_eq_of_allAt _ _ _ (hcov y) ?_
  unfold kernelRun0_A
  dsimp only
  sl_unfold_words
  simp only [View.readAt_eq_ld, h1.read_unread, h2.read_unread, h3.read_unread]
  refine View.allAt_cons_unit _ _ _ _ _ (dq_piece x0 x1 x2 3 768 1792 rfl rfl _ _ _ _ _ y) ?_
  refine View.allAt_cons_unit _ _ _ _ _ (dq_piece x0 x1 x2 2 512 1536 rfl rfl _ _ _ _ _ y) ?_
  refine View.allAt_cons_unit _ _ _ _ _ (dq_piece x0 x1 x2 1 256 1280 rfl rfl _ _ _ _ _ y) ?_
  refine View.allAt_cons_unit _ _ _ _ _ (dq_piece x0 x1 x2 0 0 1024 rfl rfl _ _ _ _ _ y) ?_
  exact View.allAt_nil _ _

end Cert.KernelIdeal.Heads

end
-- ==== Proof.Fold.lean ====
/- The kernel's two result arrays: the query gradient written block by block, and the memory's gradient accumulated over
   the eight grid points, as functions of the arguments. -/
module

public import proofs.«01_k».proof.Proof.Block
public import Idealize.ShloMosaic.Lib.Pipeline.Value

@[expose] public section

set_option maxRecDepth 16384

noncomputable section

namespace Cert.KernelIdeal.Heads

open Idealize.ShloMosaic Idealize.ShloMosaic.TcCoe Idealize.SL.Sem Cert.KernelIdeal Cert.KernelIdeal.Gen Cert.Attn
open Idealize.ShloMosaic.Pipeline (Dat)

variable (m : (ℓ : Loc nD τ sig) → Buf (Elt Ideal) ℓ) (ρ : Dev nD → PrngReg) (c : Dev nD)

/-- The four arguments as launched. -/
abbrev a0 : Vec Ideal S4096x4096 .bf16 := m ((c : Thread nD τ).loc main_arg0)
abbrev a1 : Vec Ideal S4096x14336 .bf16 := m ((c : Thread nD τ).loc main_arg1)
abbrev a2 : Vec Ideal S256x2048 .bf16 := m ((c : Thread nD τ).loc main_arg2)
abbrev a3 : Vec Ideal S4096x5120 .bf16 := m ((c : Thread nD τ).loc main_arg3)

theorem idx0 : ∀ t : Fin cfg0.N, win0_0.index t 0 = t.val ∧ win0_0.index t 1 = 3 :=
  (by decide +kernel : ∀ t : Fin grid0.N, win0_0.index t 0 = t.val ∧ win0_0.index t 1 = 3)
theorem idx1 : ∀ t : Fin cfg0.N, win0_1.index t 0 = t.val ∧ win0_1.index t 1 = 9 :=
  (by decide +kernel : ∀ t : Fin grid0.N, win0_1.index t 0 = t.val ∧ win0_1.index t 1 = 9)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-- Row `r` of block `t` among the 4096 rows. -/
def at_ (t : ℕ) (r : Fin 512) : Fin 4096 := ⟨(t * 512 + r.val) % 4096, Nat.mod_lt _ (by decide)⟩

theorem at_val (t : Fin cfg0.N) (r : Fin 512) : (at_ t.val r).val = t.val * 512 + r.val := by
  have hN : cfg0.N = 8 := N_0
  have := t.isLt
  unfold at_
  dsimp only
  omega

theorem row_grad (t : Fin cfg0.N) (r : Fin 512) :
    row (iblk m c 0 t) r = grow (a0 m c) (at_ t.val r) := by
  funext d
  unfold row grow iblk
  rw [View.read_apply]
  show V m c main_arg0 _ = _
  rw [V_main_arg0]
  congr 1
  funext a
  apply Fin.ext
  match a with
  | ⟨0, _⟩ => show win0_0.index t 0 * 512 + 1 * r.val = (at_ t.val r).val; rw [(idx0 t).1, at_val]; omega
  | ⟨1, _⟩ => show win0_0.index t 1 * 1024 + 1 * d.val = 3072 + d.val; rw [(idx0 t).2]; omega

theorem row_query (t : Fin cfg0.N) (r : Fin 512) :
    row (iblk m c 1 t) r = qrow (a1 m c) (at_ t.val r) := by
  funext d
  unfold row qrow iblk
  rw [View.read_apply]
  show V m c main_arg1 _ = _
  rw [V_main_arg1]
  congr 1
  funext a
  apply Fin.ext
  match a with
  | ⟨0, _⟩ => show win0_1.index t 0 * 512 + 1 * r.val = (at_ t.val r).val; rw [(idx1 t).1, at_val]; omega
  | ⟨1, _⟩ => show win0_1.index t 1 * 1024 + 1 * d.val = 9216 + d.val; rw [(idx1 t).2]; omega

theorem mem_kv (t : Fin cfg0.N) : mem (iblk m c 2 t) = kvrow (a2 m c) := by
  funext k d
  unfold mem kvrow iblk
  rw [View.read_apply]
  show V m c main_arg2 _ = _
  rw [V_main_arg2]
  congr 1
  funext a
  apply Fin.ext
  match a with
  | ⟨0, _⟩ => show win0_2.index t 0 * 256 + 1 * k.val = k.val; rw [(idx2 t).1]; omega
  | ⟨1, _⟩ => show win0_2.index t 1 * 2048 + 1 * d.val = d.val; rw [(idx2 t).2]; omega

/-- What block `t`'s rows add to the memory's gradient. -/
def blockSum (t : ℕ) (y : S256x2048.Idx) : EReal :=
  ∑ r : Fin 512, dkvRow (qrow (a1 m c) (at_ t r)) (grow (a0 m c) (at_ t r)) (kvrow (a2 m c)) (y 0) (y 1)

theorem added_eq (t : Fin cfg0.N) (xo : Vec Ideal S256x2048 .f32) (y : S256x2048.Idx) :
    added (iblk m c 0 t) (iblk m c 1 t) (iblk m c 2 t) xo y = xo y + blockSum m c t.val y := by
  unfold added blockSum
  simp only [row_grad, row_query, mem_kv]

/-- After point `n` the block holds the sum of the first `n + 1` blocks' rows: by induction on the point. -/
theorem outsAt_kv : ∀ (n : ℕ) (h : n < cfg0.N),
    (outsAt0 m c n h).2 = fun y => ∑ t ∈ Finset.range (n + 1), blockSum m c t y
  | 0, h => by
    rw [show outsAt0 m c 0 h = _ from outsAt0_A m c ⟨0, h⟩ rfl]
    dsimp only
    rw [out_A_4]
    funext y
    rw [added_eq, Finset.sum_range_one]
    show Ideal.ofBits .f32 0x00000000#32 + _ = _
    rw [Ideal.ofBits_zero_f32, zero_add]
  | n + 1, h => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [out_B_4]
    funext y
    rw [added_eq, Finset.sum_range_succ, ← congrFun (outsAt_kv n (Nat.lt_of_succ_lt h)) y]
    rfl

/-- The eight blocks are the 4096 rows. -/
theorem sum_blocks (y : S256x2048.Idx) :
    (∑ t ∈ Finset.range 8, blockSum m c t y) = dkvOut (a0 m c) (a1 m c) (a2 m c) y := by
  unfold dkvOut blockSum
  rw [Finset.sum_range, Fin.sum_univ_tiles 8 512 rfl]
  refine Finset.sum_congr rfl fun t _ => Finset.sum_congr rfl fun r _ => ?_
  have : at_ t.val r = ⟨t.val * 512 + r.val, by omega⟩ := Fin.ext (by unfold at_; dsimp only; omega)
  rw [this]

theorem flushed_kv (t : Fin cfg0.N) (hf : (cfg0.win 4).flush t = true) :
    (dats m 0 c).flushed 4 t = ((cfg0.win 4).blk t).view.read (Elt Ideal) (dkvOut (a0 m c) (a1 m c) (a2 m c)) := by
  have hN : cfg0.N = 8 := N_0
  have h7 : t.val = 7 := by have := (flush0_4 t).mp hf; have := t.isLt; omega
  show (cfg0.win 4).cut (grid0.coords t) ((dats m 0 c).after 4 t) = _
  rw [after0_4, outsAt_kv]
  funext y
  rw [View.read_apply]
  show (∑ s ∈ Finset.range (t.val + 1), blockSum m c s y) = _
  rw [h7, sum_blocks]
  show dkvOut (a0 m c) (a1 m c) (a2 m c) y = dkvOut (a0 m c) (a1 m c) (a2 m c) _
  congr 1
  funext a
  apply Fin.ext
  match a with
  | ⟨0, _⟩ => show (y 0).val = win0_4.index t 0 * 256 + 1 * (y 0).val; rw [(idx4 t).1]; omega
  | ⟨1, _⟩ => show (y 1).val = win0_4.index t 1 * 2048 + 1 * (y 1).val; rw [(idx4 t).2]; omega

theorem final_kv : (dats m 0 c).arrAt 4 cfg0.N = dkvOut (a0 m c) (a1 m c) (a2 m c) :=
  (dats m 0 c).arrAt_eq_of_cover 4 (dkvOut (a0 m c) (a1 m c) (a2 m c)) (flushed_kv m c) fun i =>
    ⟨t0_7, (flush0_4 t0_7).mpr rfl, by
      show i ∈ ((View.whole main_v0_1).slice (win0_4.rect t0_7)).set
      rw [View.set_slice_whole, Rect.mem_set_unit]
      intro a
      have h0 : (i 0 : Nat) < 256 := (i 0).isLt
      have h1 : (i 1 : Nat) < 2048 := (i 1).isLt
      match a with
      | ⟨0, _⟩ => show win0_4.index t0_7 0 * 256 ≤ (i 0 : Nat) ∧ (i 0 : Nat) < win0_4.index t0_7 0 * 256 + 256
                  rw [(idx4 t0_7).1]; omega
      | ⟨1, _⟩ => show win0_4.index t0_7 1 * 2048 ≤ (i 1 : Nat) ∧ (i 1 : Nat) < win0_4.index t0_7 1 * 2048 + 2048
                  rw [(idx4 t0_7).2]; omega⟩

theorem outsAt_q (t : Fin cfg0.N) :
    (outsAt0 m c t.val t.isLt).1 = qgrad (iblk m c 0 t) (iblk m c 1 t) (iblk m c 2 t) := by
  by_cases h : t.val % 8 = 0
  · rw [outsAt0_A m c t h]; dsimp only; rw [out_A_3]
  · rw [outsAt0_B m c t h]; dsimp only; rw [out_B_3]

theorem V_out : V m c main_v0_0 = a3 m c := by
  show StableHlo.after hostOps0 _ _ = _
  unfold hostOps0
  simp only [StableHlo.after_cons, StableHlo.after_nil]
  rw [StableHlo.unary_result]
  rfl

/-- What block `t` of the first result holds after its point. -/
theorem flushed_q (t : Fin cfg0.N) (r : Fin 512) (d : Fin 1024) :
    (dats m 0 c).flushed 3 t (ix2 r d) =
      dqRow (qrow (a1 m c) (at_ t.val r)) (grow (a0 m c) (at_ t.val r)) (kvrow (a2 m c)) d := by
  have : (dats m 0 c).flushed 3 t = (cfg0.win 3).cut (grid0.coords t) ((dats m 0 c).after 3 t) := rfl
  rw [this, after0_3, outsAt_q]
  show dqRow (row (iblk m c 1 t) r) (row (iblk m c 0 t) r) (mem (iblk m c 2 t)) d = _
  rw [row_grad, row_query, mem_kv]

/-- Column below 1024: the block of the row's grid point wrote the query gradient; the others keep the buffer's contents. -/
theorem final_q : (dats m 0 c).arrAt 3 cfg0.N = dqOut (a0 m c) (a1 m c) (a2 m c) (a3 m c) := by
  funext i
  have hN : cfg0.N = 8 := N_0
  have hi0 : (i 0).val < 4096 := (i 0).isLt
  unfold dqOut
  by_cases h : (i 1).val < 1024
  · rw [dif_pos h]
    let t : Fin cfg0.N := ⟨(i 0).val / 512, by omega⟩
    let r : Fin 512 := ⟨(i 0).val % 512, Nat.mod_lt _ (by decide)⟩
    have hb := congrFun (Cert.KernelIdeal.Value.blocks3 m c t (flush0_3 t)) (ix2 r ⟨(i 1).val, h⟩)
    rw [View.read_apply, flushed_q] at hb
    have he : ((cfg0.win 3).blk t).view.emb (ix2 r ⟨(i 1).val, h⟩) = i := by
      funext a
      apply Fin.ext
      match a with
      | ⟨0, _⟩ => show win0_3.index t 0 * 512 + 1 * ((i 0).val % 512) = (i 0).val
                  rw [(idx3 t).1]; show (i 0).val / 512 * 512 + _ = _; omega
      | ⟨1, _⟩ => show win0_3.index t 1 * 1024 + 1 * (i 1).val = (i 1).val; rw [(idx3 t).2]; omega
    have hs : at_ t.val r = i 0 := Fin.ext (by
      rw [at_val]; show (i 0).val / 512 * 512 + (i 0).val % 512 = (i 0).val; omega)
    rw [he, hs] at hb
    exact hb
  · rw [dif_neg h, Cert.KernelIdeal.Value.entry3 m c i, ← V_out m c]
    intro t _ hm
    apply h
    have hm' : i ∈ ((View.whole main_v0_0).slice (win0_3.rect t)).set := hm
    rw [View.set_slice_whole, Rect.mem_set_unit] at hm'
    have h1 : win0_3.index t 1 * 1024 ≤ (i 1 : Nat) ∧ (i 1 : Nat) < win0_3.index t 1 * 1024 + 1024 := hm' 1
    rw [(idx3 t).2] at h1
    omega

/-- **The kernel's run**: the two results, and the arguments as launched. -/
theorem run : θ_run defs (onTc (τ := τ) (main (F := Ideal))) ⟨m, fun _ => 0, ρ⟩ fun r => ∀ c : Dev nD,
      r.2.mem ((c : Thread nD τ).loc main_v0_0) = dqOut (a0 m c) (a1 m c) (a2 m c) (a3 m c)
      ∧ r.2.mem ((c : Thread nD τ).loc main_v0_1) = dkvOut (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans (final_q m c), (h c).2.1.trans (final_kv m c), (h c).2.2⟩)
    (Cert.KernelIdeal.Value.run_blocks m ρ)

end Cert.KernelIdeal.Heads

end
-- ==== Proof.Ref.lean ====
/- The reference's two results at an index: the same functions of the arguments, the gradient of the scores written
   through the derivative of the quotient. -/
module

public import proofs.«01_k».proof.Proof.Heads
public import proofs.«01_k».proof.Proof.Gen.ReferenceIdeal.Read

@[expose] public section

set_option maxRecDepth 16384

noncomputable section

namespace Cert.ReferenceIdeal.Heads

open Idealize.ShloMosaic Cert.ReferenceIdeal Cert.ReferenceIdeal.Read Cert.Attn

variable (x0 : Vec Ideal S4096x4096 .bf16) (x1 : Vec Ideal S4096x14336 .bf16) (x2 : Vec Ideal S256x2048 .bf16)
  (x3 : Vec Ideal S4096x5120 .bf16)

theorem query_at (s : Fin 4096) (h : Fin 4) (d : Fin 256) :
    val_main_v7 (F := Ideal) x1 (ix3 s h d) = qrow x1 s (hcol h d) := by
  rw [val_main_v7_apply, val_main_v1_apply, val_main_v0_apply]
  show x1 _ = x1 _
  congr 1
  funext a
  apply Fin.ext
  match a with
  | ⟨0, _⟩ => show ((s.val * 4 + h.val) * 256 + d.val) / 1024 = s.val; omega
  | ⟨1, _⟩ => show 9216 + ((s.val * 4 + h.val) * 256 + d.val) % 1024 = 9216 + (256 * h.val + d.val); omega

theorem grad_at (s : Fin 4096) (h : Fin 4) (d : Fin 256) :
    val_main_v45 (F := Ideal) x0 (ix3 h d s) = grow x0 s (hcol h d) := by
  rw [val_main_v45_apply, val_main_v44_apply, val_main_v3_apply, val_main_v2_apply]
  show x0 _ = x0 _
  congr 1
  funext a
  apply Fin.ext
  match a with
  | ⟨0, _⟩ => show ((s.val * 4 + h.val) * 256 + d.val) / 1024 = s.val; omega
  | ⟨1, _⟩ => show 3072 + ((s.val * 4 + h.val) * 256 + d.val) % 1024 = 3072 + (256 * h.val + d.val); omega

theorem key_at (m : Fin 256) (h : Fin 4) (d : Fin 256) :
    val_main_v8 (F := Ideal) x2 (ix3 m h d) = kvrow x2 m (kcol h d) := by
  rw [val_main_v8_apply, val_main_v5_apply, val_main_v4_apply]
  show x2 _ = x2 _
  congr 1
  funext a
  apply Fin.ext
  match a with
  | ⟨0, _⟩ => show ((m.val * 4 + h.val) * 256 + d.val) / 1024 = m.val; omega
  | ⟨1, _⟩ => show ((m.val * 4 + h.val) * 256 + d.val) % 1024 = 256 * h.val + d.val; omega

theorem value_at (m : Fin 256) (h : Fin 4) (d : Fin 256) :
    val_main_v9 (F := Ideal) x2 (ix3 m h d) = kvrow x2 m (vcol h d) := by
  rw [val_main_v9_apply, val_main_v6_apply, val_main_v4_apply]
  show x2 _ = x2 _
  congr 1
  funext a
  apply Fin.ext
  match a with
  | ⟨0, _⟩ => show ((m.val * 4 + h.val) * 256 + d.val) / 1024 = m.val; omega
  | ⟨1, _⟩ => show 1024 + ((m.val * 4 + h.val) * 256 + d.val) % 1024 = 1024 + (256 * h.val + d.val); omega

theorem score_at (h : Fin 4) (s : Fin 4096) (m : Fin 256) :
    val_main_v12 (F := Ideal) x1 x2 (ix3 h s m) = score (qrow x1 s) (kvrow x2) h m := by
  rw [val_main_v12_apply, val_main_v10_apply, val_main_v11_apply, val_main_cst_apply]
  unfold score
  refine congrArg₂ (· * ·) (Finset.sum_congr rfl fun d _ => ?_) rfl
  rw [show lidx_main_v10 (ix3 h s m) d = ix3 s h d from by idx_ext,
    show ridx_main_v10 (ix3 h s m) d = ix3 m h d from by idx_ext, query_at, key_at]

theorem top_at (h : Fin 4) (s : Fin 4096) :
    val_main_v13 (F := Ideal) x1 x2 (ix2 h s) = top (score (qrow x1 s) (kvrow x2) h) := by
  unfold val_main_v13
  have : score (qrow x1 s) (kvrow x2) h = fun m => val_main_v12 (F := Ideal) x1 x2 (ix3 h s m) :=
    funext fun m => (score_at x1 x2 h s m).symm
  rw [this]
  generalize val_main_v12 (F := Ideal) x1 x2 = v
  pointwise
  show Finset.fold max (Ideal.ofBits .f32 0xFF800000#32) _ _ = _
  rw [ofBits_bot]
  rfl

theorem ex_at (h : Fin 4) (s : Fin 4096) (m : Fin 256) :
    val_main_v33 (F := Ideal) x1 x2 (ix3 h s m) = ex (score (qrow x1 s) (kvrow x2) h) m := by
  rw [val_main_v33_apply, val_main_v32_apply, score_at, val_main_v31_apply, val_main_v30_apply, val_main_v20_apply,
    val_main_v19_apply]
  have ht : val_main_v13 (F := Ideal) x1 x2 (idx_main_v30 (idx_main_v31 (ix3 h s m))) = top (score (qrow x1 s) (kvrow x2) h) := by
    rw [← top_at]; congr 1; idx_ext
  rw [ht]
  show Ideal.exp (_ - max (Ideal.ofBits .f32 0xFF800000#32) _) = _
  rw [ofBits_bot, max_eq_right bot_le]
  rfl

theorem den_at (h : Fin 4) (s : Fin 4096) :
    val_main_v34 (F := Ideal) x1 x2 (ix2 h s) = den (score (qrow x1 s) (kvrow x2) h) := by
  rw [val_main_v34_apply]
  unfold den
  show Ideal.ofBits .f32 0x00000000#32 + _ = _
  rw [Ideal.ofBits_zero_f32, zero_add]
  refine Finset.sum_congr rfl fun m _ => ?_
  rw [← ex_at]; congr 1; idx_ext

theorem prob_at (h : Fin 4) (s : Fin 4096) (m : Fin 256) :
    val_main_v37 (F := Ideal) x1 x2 (ix3 h s m) = prob (score (qrow x1 s) (kvrow x2) h) m := by
  rw [val_main_v37_apply, ex_at, val_main_v36_apply, val_main_v35_apply,
    show idx_main_v35 (idx_main_v36 (ix3 h s m)) = ix2 h s from by idx_ext, den_at]
  rfl

theorem dprob_at (h : Fin 4) (s : Fin 4096) (m : Fin 256) :
    val_main_v46 (F := Ideal) x0 x2 (ix3 h s m) = dprob (grow x0 s) (kvrow x2) h m := by
  rw [val_main_v46_apply]
  unfold dprob
  refine Finset.sum_congr rfl fun d _ => ?_
  rw [show lidx_main_v46 (ix3 h s m) d = ix3 h d s from by idx_ext,
    show ridx_main_v46 (ix3 h s m) d = ix3 m h d from by idx_ext, grad_at, value_at]

/-- The gradient of the scores in the reference's form. -/
theorem dscore_at (h : Fin 4) (s : Fin 4096) (m : Fin 256) :
    val_main_v62 (F := Ideal) x0 x1 x2 (ix3 h s m) =
      dscoreQ (score (qrow x1 s) (kvrow x2) h) (dprob (grow x0 s) (kvrow x2) h) m := by
  have hone : Ideal.ofBits .f32 0x3F800000#32 = 1 := Ideal.ofBits_one_f32
  have hz : ∀ j : Fin 256, val_main_v51 (F := Ideal) x0 x1 x2 (ix3 h s j) =
      dprob (grow x0 s) (kvrow x2) h j * Ideal.div 1 (den (score (qrow x1 s) (kvrow x2) h) *
        den (score (qrow x1 s) (kvrow x2) h)) * ex (score (qrow x1 s) (kvrow x2) h) j := by
    intro j
    rw [val_main_v51_apply, val_main_v50_apply, dprob_at, ex_at, val_main_v49_apply, val_main_v40_apply,
      val_main_v39_apply, val_main_v38_apply, val_main_v35_apply,
      show idx_main_v35 (idx_main_v49 (ix3 h s j)) = ix2 h s from by idx_ext, den_at, ← hone]
    rfl
  have hsum : val_main_v57 (F := Ideal) x0 x1 x2 (ix2 h s) =
      -(∑ j, dprob (grow x0 s) (kvrow x2) h j * Ideal.div 1 (den (score (qrow x1 s) (kvrow x2) h) *
        den (score (qrow x1 s) (kvrow x2) h)) * ex (score (qrow x1 s) (kvrow x2) h) j) := by
    rw [val_main_v57_apply, Fin.sum_univ_one, val_main_v54_apply, val_main_v53_apply,
      show idx_main_v53 (idx_main_v57 (ix2 h s) 0) = ix2 h s from by
        funext a
        apply Fin.ext
        match a with
        | ⟨0, _⟩ => show ((h.val * 4096 + s.val) * 1 + 0) / 4096 = h.val; omega
        | ⟨1, _⟩ => show ((h.val * 4096 + s.val) * 1 + 0) % 4096 = s.val; omega,
      val_main_v52_apply]
    show Ideal.ofBits .f32 0x00000000#32 + -(Ideal.ofBits .f32 0x00000000#32 + _) = _
    rw [Ideal.ofBits_zero_f32, zero_add, zero_add]
    refine congrArg _ (Finset.sum_congr rfl fun j _ => ?_)
    rw [← hz]; congr 1; idx_ext
  rw [val_main_v62_apply, val_main_v60_apply, val_main_v59_apply, val_main_v56_apply, dprob_at, ex_at,
    val_main_v55_apply, val_main_v35_apply,
    show idx_main_v35 (idx_main_v55 (ix3 h s m)) = ix2 h s from by idx_ext, den_at, val_main_v58_apply,
    show idx_main_v58 (ix3 h s m) = ix2 h s from by idx_ext, hsum, val_main_v61_apply]
  rfl

variable (hreal : ∀ s h m, ∃ r : ℝ, score (qrow x1 s) (kvrow x2) h m = r)
include hreal

theorem dsc_at (h : Fin 4) (s : Fin 4096) (m : Fin 256) :
    val_main_v62 (F := Ideal) x0 x1 x2 (ix3 h s m) = dsc (qrow x1 s) (grow x0 s) (kvrow x2) h m := by
  rw [dscore_at, dscore_eq _ _ (hreal s h)]
  rfl

theorem dq_at (s : Fin 4096) (h : Fin 4) (d : Fin 256) :
    val_main_v66 (F := Ideal) x0 x1 x2 (ix3 s h d) = dqAt (qrow x1 s) (grow x0 s) (kvrow x2) h d := by
  rw [val_main_v66_apply, val_main_v65_apply]
  unfold dqAt
  refine Finset.sum_congr rfl fun m _ => ?_
  rw [← dsc_at x0 x1 x2 hreal, ← key_at]
  congr 2 <;> idx_ext

theorem dk_at (m : Fin 256) (h : Fin 4) (d : Fin 256) :
    val_main_v64 (F := Ideal) x0 x1 x2 (ix3 m h d) = ∑ s, dkAt (qrow x1 s) (grow x0 s) (kvrow x2) h m d := by
  rw [val_main_v64_apply, val_main_v63_apply]
  unfold dkAt
  refine Finset.sum_congr rfl fun s _ => ?_
  rw [← dsc_at x0 x1 x2 hreal, ← query_at]
  congr 2 <;> idx_ext

omit hreal in
theorem dv_at (m : Fin 256) (h : Fin 4) (d : Fin 256) :
    val_main_v48 (F := Ideal) x0 x1 x2 (ix3 m h d) = ∑ s, dvAt (qrow x1 s) (grow x0 s) (kvrow x2) h m d := by
  rw [val_main_v48_apply, val_main_v47_apply]
  unfold dvAt
  refine Finset.sum_congr rfl fun s _ => ?_
  rw [← prob_at, ← grad_at, mul_comm]
  congr 2 <;> idx_ext

/-- The reference's first result. -/
theorem result_q : val_main_v73 (F := Ideal) x0 x1 x2 x3 = dqOut x0 x1 x2 x3 := by
  funext i
  obtain ⟨s, c, rfl⟩ : ∃ s c, i = ix2 s c := ⟨i 0, i 1, by idx_ext⟩
  unfold val_main_v73 dqOut
  pointwise
  by_cases hc : c.val < 1024
  · rw [dif_pos hc, dif_pos hc, val_main_v71_apply]
    show val_main_v69 (F := Ideal) x0 x1 x2 _ = _
    rw [val_main_v69_apply, dqRow_eq _ _ _ ⟨c.val / 256, by omega⟩ ⟨c.val % 256, by omega⟩ _
      (by dsimp only; omega), ← dq_at x0 x1 x2 hreal]
    congr 1
    funext a
    apply Fin.ext
    match a with
    | ⟨0, _⟩ => show (s.val * 1024 + c.val) / 1024 = s.val; omega
    | ⟨1, _⟩ => show (s.val * 1024 + c.val) / 256 % 4 = c.val / 256; omega
    | ⟨2, _⟩ => show (s.val * 1024 + c.val) % 256 = c.val % 256; omega
  · rw [dif_neg hc, dif_neg hc, val_main_v72_apply]
    congr 1
    funext a
    apply Fin.ext
    match a with
    | ⟨0, _⟩ => rfl
    | ⟨1, _⟩ => show 1024 + (c.val - 1024) = c.val; omega

/-- The reference's second result. -/
theorem result_kv : val_main_v70 (F := Ideal) x0 x1 x2 = dkvOut x0 x1 x2 := by
  funext i
  obtain ⟨m, c, rfl⟩ : ∃ m c, i = ix2 m c := ⟨i 0, i 1, by idx_ext⟩
  unfold val_main_v70 dkvOut
  pointwise
  by_cases hc : c.val < 1024
  · rw [dif_pos hc, val_main_v68_apply]
    simp only [dkvRow_key _ _ _ ⟨c.val / 256, by omega⟩ ⟨c.val % 256, by omega⟩ m c (by dsimp only; omega)]
    rw [← dk_at x0 x1 x2 hreal]
    congr 1
    funext a
    apply Fin.ext
    match a with
    | ⟨0, _⟩ => show (m.val * 1024 + c.val) / 1024 = m.val; omega
    | ⟨1, _⟩ => show (m.val * 1024 + c.val) / 256 % 4 = c.val / 256; omega
    | ⟨2, _⟩ => show (m.val * 1024 + c.val) % 256 = c.val % 256; omega
  · rw [dif_neg hc, val_main_v67_apply]
    simp only [dkvRow_value _ _ _ ⟨(c.val - 1024) / 256, by omega⟩ ⟨c.val % 256, by omega⟩ m c (by dsimp only; omega)]
    rw [← dv_at x0 x1 x2]
    congr 1
    funext a
    apply Fin.ext
    match a with
    | ⟨0, _⟩ => show (m.val * 1024 + (c.val - 1024)) / 1024 = m.val; omega
    | ⟨1, _⟩ => show (m.val * 1024 + (c.val - 1024)) / 256 % 4 = (c.val - 1024) / 256; omega
    | ⟨2, _⟩ => show (m.val * 1024 + (c.val - 1024)) % 256 = c.val % 256; omega

end Cert.ReferenceIdeal.Heads

end
-- ==== Proof.Finite.lean ====
/- What the precondition says: the queries and the keys are real numbers, and so is every score. -/
module

public import proofs.«01_k».proof.Proof.Heads
public import proofs.«01_k».proof.Pre_queries_and_keys_finite
public import Idealize.ShloMosaic.Lib.ReduceAll

@[expose] public section

noncomputable section

namespace Cert.Finite

open Idealize.ShloMosaic Cert.Pre_queries_and_keys_finite Cert.Attn

instance facts : Cert.Pre_queries_and_keys_finite.Facts where
  slices_S4096x14336_S4096x1024_0_9216 := by decide
  bitsLt_bf16_f32 := by decide
  slices_S256x2048_S256x1024_0_0 := by decide
  bcast_S_S4096x1024 := by decide
  reducesTo_S4096x1024_S_d0_1 := by decide
  h_S_ := by decide
  bcast_S_S256x1024 := by decide
  reducesTo_S256x1024_S_d0_1 := by decide

/-- A value whose magnitude is below plus infinity is a real number. -/
theorem real_of_lt (x : EReal) (h : max x (-x) < ⊤) : ∃ r : ℝ, x = r := by
  have hlt := max_lt_iff.1 h
  have hb : x ≠ ⊥ := by
    rintro rfl
    simp at hlt
  exact ⟨x.toReal, (EReal.coe_toReal hlt.1.ne hb).symm⟩

theorem lt_of_cmp (a b : EReal) (h : Ideal.cmp .olt a b = 1#1) : a < b := by
  by_contra hn
  simp [Ideal.cmp, hn] at h

/-- A finite sum of products of reals is real. -/
theorem sum_real {ι : Type} (s : Finset ι) (a b : ι → EReal) (ha : ∀ i, ∃ r : ℝ, a i = r) (hb : ∀ i, ∃ r : ℝ, b i = r) :
    ∃ r : ℝ, ∑ i ∈ s, a i * b i = r := by
  classical
  induction s using Finset.induction_on with
  | empty => exact ⟨0, by simp⟩
  | insert i s hi ih =>
    obtain ⟨r, hr⟩ := ih
    obtain ⟨p, hp⟩ := ha i
    obtain ⟨q, hq⟩ := hb i
    exact ⟨p * q + r, by rw [Finset.sum_insert hi, hr, hp, hq]; norm_cast⟩

variable (x0 : Vec Ideal S4096x4096 .bf16) (x1 : Vec Ideal S4096x14336 .bf16) (x2 : Vec Ideal S256x2048 .bf16)
  (x3 : Vec Ideal S4096x5120 .bf16)

theorem score_real (hp : Cert.Pre_queries_and_keys_finite.fn (F := Ideal) x0 x1 x2 x3 = fun _ => 1#1)
    (s : Fin 4096) (h : Fin 4) (m : Fin 256) : ∃ r : ℝ, score (qrow x1 s) (kvrow x2) h m = r := by
  have h0 := congrFun hp (fun a => Fin.elim0 a)
  dsimp only [fn] at h0
  obtain ⟨hq, hk⟩ := IntOp.andi_eq_one.1 h0
  haveI : Subsingleton S_.Idx := ⟨fun a b => funext fun i => i.elim0⟩
  have hq' : ∀ c : Fin 1024, ∃ r : ℝ, qrow x1 s c = r := fun c => real_of_lt _ (by
    have := lt_of_cmp _ _ (Host.reduce_andi_all _ _ _ _ _ hq (ix2 s c))
    rw [broadcastInDim, constant] at this
    refine lt_of_eq_of_lt ?_ (this.trans_eq ofBits_top)
    have he : extractStridedSlice S4096x1024 ![0, 9216] x1 facts.slices_S4096x14336_S4096x1024_0_9216 (ix2 s c) = qrow x1 s c :=
      extractStridedSlice_apply _ _ _ _ _ fun a => match a with
        | ⟨0, _⟩ => by show s.val = 0 + s.val; omega
        | ⟨1, _⟩ => rfl
    rw [← he]
    rfl)
  have hk' : ∀ c : Fin 1024, ∃ r : ℝ, kvrow x2 m ⟨c.val, by omega⟩ = r := fun c => real_of_lt _ (by
    have := lt_of_cmp _ _ (Host.reduce_andi_all _ _ _ _ _ hk (ix2 m c))
    rw [broadcastInDim, constant] at this
    refine lt_of_eq_of_lt ?_ (this.trans_eq ofBits_top)
    have he : extractStridedSlice S256x1024 ![0, 0] x2 facts.slices_S256x2048_S256x1024_0_0 (ix2 m c) =
        kvrow x2 m ⟨c.val, by omega⟩ :=
      extractStridedSlice_apply _ _ _ _ _ fun a => match a with
        | ⟨0, _⟩ => by show m.val = 0 + m.val; omega
        | ⟨1, _⟩ => by show c.val = 0 + c.val; omega
    rw [← he]
    rfl)
  obtain ⟨r, hr⟩ := sum_real Finset.univ (fun d => qrow x1 s (hcol h d)) (fun d => kvrow x2 m (kcol h d))
    (fun d => hq' (hcol h d)) (fun d => hk' (hcol h d))
  obtain ⟨a, ha⟩ := scale_real
  exact ⟨r * a, by unfold score; rw [ha, EReal.coe_mul]; exact congrArg (· * (a : EReal)) hr⟩

end Cert.Finite

end
-- ==== Proof.HgrnRun.lean ====
/- The backward pass's two calls for the mixer's input weights, as one run: what the second call leaves in the result array
   and in the arguments. -/
module

public import proofs.«01_k».proof.Proof.Gen.Kernel7Ideal.Frame
public import Idealize.ShloMosaic.Lib.Pipeline.Value
public import Idealize.ShloMosaic.Lib.Pointwise

@[expose] public section

set_option maxRecDepth 16384

noncomputable section

namespace Cert.Kernel7Ideal.Product

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.Kernel7Ideal Cert.Kernel7Ideal.Gen

local notation "𝕄" => MT nD τ sig Unit (Elt Ideal) ℕ (UR sig nD τ) ℕ

variable (m : (ℓ : Loc nD τ sig) → Buf (Elt Ideal) ℓ) (ρ : Dev nD → PrngReg)

/-- The start of the launch: the cells of both calls, with nothing yet handed over. -/
abbrev start := initOf (Pipeline.cells cfgs cellOf_inj) (Pipeline.launchToks cfgs cellOf_inj)

theorem owned : (ownU start : sProp 𝕄) ⊢ BI.own (emb₁ start) := .rfl

theorem nothing : (BI.emp : sProp 𝕄) ⊢ bigSep Finset.univ (fun _ : Dev nD => (BI.emp : sProp 𝕄)) := by
  rw [BI.bigSep_emp_const]

-- the launch theorem's arguments are found by unifying its conclusion with this statement
set_option backward.isDefEq.respectTransparency.types false in
/-- Every unscoped buffer ends at the contents after the second call. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := start)
    (hu₀ := by
      iintro Hu; imodintro
      isplitl [Hu]
      · iapply owned
        iexact Hu
      iapply nothing
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The result array ends at what the second call's 20 blocks make of what it found there, and the arguments as launched. -/
theorem run : θ_run defs (onTc (τ := τ) (main (F := Ideal))) ⟨m, fun _ => 0, ρ⟩ (fun r => ∀ c : Dev nD,
    r.2.mem ((c.tc : Thread nD τ).loc main_v1) = (dat1 (V2 m ρ) c).arrAt 2 cfg1.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h c _ (mem_uc main_v1 (by decide))).trans (W3_arr m ρ c 2),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel7Ideal.Product

end
-- ==== Proof.HgrnWeights.lean ====
/- The mixer's input weights' gradient: what the two calls leave in the result array, and the reference's value, both as one
   sum over the 4096 positions. -/
module

public import proofs.«01_k».proof.Proof.HgrnRun
public import proofs.«01_k».proof.Proof.Gen.Reference7Ideal.Read
public import proofs.«01_k».proof.Proof.Gen.Kernel7Ideal.Frame
public import Idealize.ShloMosaic.Lib.Pipeline.Value
public import Idealize.ShloMosaic.Lib.Pointwise

@[expose] public section

set_option maxRecDepth 16384

noncomputable section

namespace Cert.Products

open Idealize.ShloMosaic

/-- The two arrays side by side, at position `p` and column `q`: three parts of 3072 columns each, then the other array's 5120. -/
def beside (g : Vec Ideal Cert.Kernel7Ideal.S3x4096x3072 .bf16) (r : Vec Ideal Cert.Kernel7Ideal.S4096x5120 .bf16)
    (p : Fin 4096) (q : Fin 14336) : EReal :=
  if h : q.val < 9216 then g (ix3 ⟨q.val / 3072, by omega⟩ p ⟨q.val % 3072, Nat.mod_lt _ (by decide)⟩)
  else r (ix2 p ⟨q.val - 9216, by omega⟩)

theorem beside_left (g : Vec Ideal Cert.Kernel7Ideal.S3x4096x3072 .bf16) (r : Vec Ideal Cert.Kernel7Ideal.S4096x5120 .bf16)
    (p : Fin 4096) (q : Fin 14336) (h : q.val < 9216) :
    beside g r p q = g (ix3 ⟨q.val / 3072, by omega⟩ p ⟨q.val % 3072, Nat.mod_lt _ (by decide)⟩) := dif_pos h

theorem beside_right (g : Vec Ideal Cert.Kernel7Ideal.S3x4096x3072 .bf16) (r : Vec Ideal Cert.Kernel7Ideal.S4096x5120 .bf16)
    (p : Fin 4096) (q : Fin 14336) (h : ¬ q.val < 9216) :
    beside g r p q = r (ix2 p ⟨q.val - 9216, by omega⟩) := dif_neg h

/-- Column `i 2` of chip `i 0`, among all the columns. -/
def whole (i : Cert.Kernel7Ideal.S4x2048x3584.Idx) : Fin 14336 :=
  ⟨(i 0).val * 3584 + (i 2).val, by
    have h0 : (i 0).val < 4 := (i 0).isLt
    have h2 : (i 2).val < 3584 := (i 2).isLt
    omega⟩

/-- The weights' gradient at row `i 1` and column `i 2` of chip `i 0`. -/
def mixerWeights (x : Vec Ideal Cert.Kernel7Ideal.S4096x2048 .bf16) (g : Vec Ideal Cert.Kernel7Ideal.S3x4096x3072 .bf16)
    (r : Vec Ideal Cert.Kernel7Ideal.S4096x5120 .bf16) (i : Cert.Kernel7Ideal.S4x2048x3584.Idx) : EReal :=
  ∑ p : Fin 4096, x (ix2 p (i 1)) * beside g r p (whole i)

end Cert.Products

namespace Cert.Kernel7Ideal.Product

open Idealize.ShloMosaic Idealize.ShloMosaic.TcCoe Idealize.SL.Sem Cert.Kernel7Ideal Cert.Kernel7Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block of the first call. -/
theorem first_apply (x : Vec Ideal S4096x1024 .bf16) (y : Vec Ideal S1x4096x512 .bf16) (r : Fin 1024) (s : Fin 512) :
    out0_2 (F := Ideal) x y (ix3 0 r s) = ∑ k : Fin 4096, x (ix2 k r) * y (ix3 0 k s) := by
  unfold out0_2
  rw [View.canon_unit_zero hz3]
  simp only [View.ld_unit_zero (S := S4096x1024) hz2, View.ld_unit_zero (S := S1x4096x512) hz3]
  pointwise [k0_pay1]

/-- One block of the second. -/
theorem pay_apply (x : Vec Ideal S4096x1024 .bf16) (y : Vec Ideal S4096x512 .bf16) (r : Fin 1024) (s : Fin 512) :
    k1_pay1 (F := Ideal) x y (ix3 0 r s) = ∑ k : Fin 4096, x (ix2 k r) * y (ix2 k s) := by
  pointwise [k1_pay1]

theorem second (i : grid1.Coords) (p : Memref sig .tc .vmem S4096x1024 .bf16) (hp : p.IsWhole)
    (q : Memref sig .tc .vmem S4096x512 .bf16) (hq : q.IsWhole) (o : Memref sig .tc .vmem S1x1024x512 .bf16) (ho : o.IsWhole)
    (x : Vec Ideal S4096x1024 .bf16) (y : Vec Ideal S4096x512 .bf16) :
    out1_A_2 c i p hp q hq o ho x y = k1_pay1 x y := by
  unfold out1_A_2
  rw [View.read_writes_eq_canon _ _ _ (cover1_A_2 c i p hp q hq o ho x y)]
  unfold kernelRun1_A
  dsimp only
  rw [View.canon_unit_zero hz3]
  simp only [View.readAt_eq_ld, hp.read_unread, hq.read_unread, View.ld_unit_zero (S := S4096x1024) hz2,
    View.ld_unit_zero (S := S4096x512) hz2]

theorem idx0 : ∀ t : Fin cfg0.N, win0_0.index t 0 = 0 ∧ win0_0.index t 1 = t.val / 18 :=
  (by decide +kernel : ∀ t : Fin grid0.N, win0_0.index t 0 = 0 ∧ win0_0.index t 1 = t.val / 18)
theorem idx1 : ∀ t : Fin cfg0.N, win0_1.index t 0 = t.val % 18 / 6 ∧ win0_1.index t 1 = 0 ∧ win0_1.index t 2 = t.val % 18 % 6 :=
  (by decide +kernel : ∀ t : Fin grid0.N, win0_1.index t 0 = t.val % 18 / 6 ∧ win0_1.index t 1 = 0 ∧ win0_1.index t 2 = t.val % 18 % 6)
theorem idx2 : ∀ t : Fin cfg0.N, win0_2.index t 0 = t.val % 18 / 7 ∧ win0_2.index t 1 = t.val / 18 ∧ win0_2.index t 2 = t.val % 18 % 7 :=
  (by decide +kernel : ∀ t : Fin grid0.N, win0_2.index t 0 = t.val % 18 / 7 ∧ win0_2.index t 1 = t.val / 18 ∧ win0_2.index t 2 = t.val % 18 % 7)
theorem jdx0 : ∀ t : Fin cfg1.N, win1_0.index t 0 = 0 ∧ win1_0.index t 1 = t.val / 10 :=
  (by decide +kernel : ∀ t : Fin grid1.N, win1_0.index t 0 = 0 ∧ win1_0.index t 1 = t.val / 10)
theorem jdx1 : ∀ t : Fin cfg1.N, win1_1.index t 0 = 0 ∧ win1_1.index t 1 = t.val % 10 :=
  (by decide +kernel : ∀ t : Fin grid1.N, win1_1.index t 0 = 0 ∧ win1_1.index t 1 = t.val % 10)
theorem jdx2 : ∀ t : Fin cfg1.N, win1_2.index t 0 = (t.val % 10 + 18) / 7 ∧ win1_2.index t 1 = t.val / 10 ∧ win1_2.index t 2 = (t.val % 10 + 18) % 7 :=
  (by decide +kernel : ∀ t : Fin grid1.N, win1_2.index t 0 = (t.val % 10 + 18) / 7 ∧ win1_2.index t 1 = t.val / 10 ∧ win1_2.index t 2 = (t.val % 10 + 18) % 7)

/-- The three arguments as launched. -/
abbrev a0 : Vec Ideal S4096x2048 .bf16 := m ((c : Thread nD τ).loc main_arg0)
abbrev a1 : Vec Ideal S3x4096x3072 .bf16 := m ((c : Thread nD τ).loc main_arg1)
abbrev a2 : Vec Ideal S4096x5120 .bf16 := m ((c : Thread nD τ).loc main_arg2)

theorem blk00 (t : Fin cfg0.N) (k : Fin 4096) (r : Fin 1024) (q : Fin 2048) (hq : q.val = t.val / 18 * 1024 + r.val) :
    (iblk0 (V0 m ρ) c 0 t : Vec Ideal S4096x1024 .bf16) (ix2 k r) = a0 m c (ix2 k q) := by
  unfold iblk0
  rw [View.read_apply]
  show a0 m c _ = _
  refine congrArg (a0 m c) ?_
  funext a
  apply Fin.ext
  match a with
  | ⟨0, _⟩ => show win0_0.index t 0 * 4096 + 1 * k.val = k.val; rw [(idx0 t).1]; omega
  | ⟨1, _⟩ => show win0_0.index t 1 * 1024 + 1 * r.val = q.val; rw [(idx0 t).2]; omega

theorem blk01 (t : Fin cfg0.N) (k : Fin 4096) (s : Fin 512) (p : Fin 3) (hp : p.val = t.val % 18 / 6) (q : Fin 3072)
    (hq : q.val = t.val % 18 % 6 * 512 + s.val) :
    (iblk0 (V0 m ρ) c 1 t : Vec Ideal S1x4096x512 .bf16) (ix3 0 k s) = a1 m c (ix3 p k q) := by
  unfold iblk0
  rw [View.read_apply]
  show a1 m c _ = _
  refine congrArg (a1 m c) ?_
  funext a
  apply Fin.ext
  match a with
  | ⟨0, _⟩ => show win0_1.index t 0 * 1 + 1 * 0 = p.val; rw [(idx1 t).1]; omega
  | ⟨1, _⟩ => show win0_1.index t 1 * 4096 + 1 * k.val = k.val; rw [(idx1 t).2.1]; omega
  | ⟨2, _⟩ => show win0_1.index t 2 * 512 + 1 * s.val = q.val; rw [(idx1 t).2.2]; omega

theorem blk10 (t : Fin cfg1.N) (k : Fin 4096) (r : Fin 1024) (q : Fin 2048) (hq : q.val = t.val / 10 * 1024 + r.val) :
    (iblk1 (V2 m ρ) c 0 t : Vec Ideal S4096x1024 .bf16) (ix2 k r) = a0 m c (ix2 k q) := by
  unfold iblk1
  rw [View.read_apply]
  show W2 m ρ c (Proc.devRef .tc main_arg0) _ = _
  rw [W2_args m ρ c main_arg0 (by decide)]
  refine congrArg (a0 m c) ?_
  funext a
  apply Fin.ext
  match a with
  | ⟨0, _⟩ => show win1_0.index t 0 * 4096 + 1 * k.val = k.val; rw [(jdx0 t).1]; omega
  | ⟨1, _⟩ => show win1_0.index t 1 * 1024 + 1 * r.val = q.val; rw [(jdx0 t).2]; omega

theorem blk11 (t : Fin cfg1.N) (k : Fin 4096) (s : Fin 512) (q : Fin 5120) (hq : q.val = t.val % 10 * 512 + s.val) :
    (iblk1 (V2 m ρ) c 1 t : Vec Ideal S4096x512 .bf16) (ix2 k s) = a2 m c (ix2 k q) := by
  unfold iblk1
  rw [View.read_apply]
  show W2 m ρ c (Proc.devRef .tc main_arg2) _ = _
  rw [W2_args m ρ c main_arg2 (by decide)]
  refine congrArg (a2 m c) ?_
  funext a
  apply Fin.ext
  match a with
  | ⟨0, _⟩ => show win1_1.index t 0 * 4096 + 1 * k.val = k.val; rw [(jdx1 t).1]; omega
  | ⟨1, _⟩ => show win1_1.index t 1 * 512 + 1 * s.val = q.val; rw [(jdx1 t).2]; omega

/-- What either call writes back is its block of the gradient. -/
theorem flushed0 (t : Fin cfg0.N) :
    (dat0 (V0 m ρ) c).flushed 2 t = ((cfg0.win 2).blk t).view.read (Elt Ideal) (mixerWeights (a0 m c) (a1 m c) (a2 m c)) := by
  have hN : cfg0.N = 36 := N_0
  have ht := t.isLt
  show (cfg0.win 2).cut (grid0.coords t) ((dat0 (V0 m ρ) c).after 2 t) = _
  rw [after0_2]
  funext y
  obtain ⟨z, r, s, rfl⟩ : ∃ (z : Fin 1) (r : Fin 1024) (s : Fin 512), y = ix3 z r s := ⟨y 0, y 1, y 2, by idx_ext⟩
  obtain rfl : z = 0 := Subsingleton.elim _ _
  rw [View.read_apply]
  show out0_2 (iblk0 (V0 m ρ) c 0 t) (iblk0 (V0 m ρ) c 1 t) (ix3 0 r s)
    = mixerWeights (a0 m c) (a1 m c) (a2 m c) (((cfg0.win 2).blk t).view.emb (ix3 0 r s))
  rw [first_apply]
  have hw : (whole (((cfg0.win 2).blk t).view.emb (ix3 0 r s))).val = t.val % 18 * 512 + s.val := by
    show (win0_2.index t 0 * 1 + 1 * 0) * 3584 + (win0_2.index t 2 * 512 + 1 * s.val) = _
    rw [(idx2 t).1, (idx2 t).2.2]; omega
  unfold mixerWeights
  refine Finset.sum_congr rfl fun k _ => ?_
  rw [beside_left _ _ _ _ (by omega)]
  refine congrArg₂ (· * ·) (blk00 m ρ c t k r _ ?_) (blk01 m ρ c t k s _ ?_ _ ?_)
  · show win0_2.index t 1 * 1024 + 1 * r.val = t.val / 18 * 1024 + r.val
    rw [(idx2 t).2.1]; omega
  · show (whole (((cfg0.win 2).blk t).view.emb (ix3 0 r s))).val / 3072 = t.val % 18 / 6
    rw [hw]; omega
  · show (whole (((cfg0.win 2).blk t).view.emb (ix3 0 r s))).val % 3072 = t.val % 18 % 6 * 512 + s.val
    rw [hw]; omega

theorem flushed1 (t : Fin cfg1.N) :
    (dat1 (V2 m ρ) c).flushed 2 t = ((cfg1.win 2).blk t).view.read (Elt Ideal) (mixerWeights (a0 m c) (a1 m c) (a2 m c)) := by
  have hN : cfg1.N = 20 := N_1
  have ht := t.isLt
  show (cfg1.win 2).cut (grid1.coords t) ((dat1 (V2 m ρ) c).after 2 t) = _
  rw [after1_2]
  unfold outsAt1
  rw [second]
  funext y
  obtain ⟨z, r, s, rfl⟩ : ∃ (z : Fin 1) (r : Fin 1024) (s : Fin 512), y = ix3 z r s := ⟨y 0, y 1, y 2, by idx_ext⟩
  obtain rfl : z = 0 := Subsingleton.elim _ _
  rw [View.read_apply]
  show k1_pay1 (F := Ideal) (iblk1 (V2 m ρ) c 0 t) (iblk1 (V2 m ρ) c 1 t) (ix3 0 r s)
    = mixerWeights (a0 m c) (a1 m c) (a2 m c) (((cfg1.win 2).blk t).view.emb (ix3 0 r s))
  rw [pay_apply]
  have hw : (whole (((cfg1.win 2).blk t).view.emb (ix3 0 r s))).val = 9216 + (t.val % 10 * 512 + s.val) := by
    show (win1_2.index t 0 * 1 + 1 * 0) * 3584 + (win1_2.index t 2 * 512 + 1 * s.val) = _
    rw [(jdx2 t).1, (jdx2 t).2.2]; omega
  unfold mixerWeights
  refine Finset.sum_congr rfl fun k _ => ?_
  rw [beside_right _ _ _ _ (by omega)]
  refine congrArg₂ (· * ·) (blk10 m ρ c t k r _ ?_) (blk11 m ρ c t k s _ ?_)
  · show win1_2.index t 1 * 1024 + 1 * r.val = t.val / 10 * 1024 + r.val
    rw [(jdx2 t).2.1]; omega
  · show (whole (((cfg1.win 2).blk t).view.emb (ix3 0 r s))).val - 9216 = t.val % 10 * 512 + s.val
    rw [hw]; omega

theorem onto0 : ∀ (p : Fin 2) (j : Fin 18), ∃ t : Fin cfg0.N, t.val / 18 = p.val ∧ t.val % 18 = j.val :=
  (by decide +kernel : ∀ (p : Fin 2) (j : Fin 18), ∃ t : Fin grid0.N, t.val / 18 = p.val ∧ t.val % 18 = j.val)
theorem onto1 : ∀ (p : Fin 2) (j : Fin 10), ∃ t : Fin cfg1.N, t.val / 10 = p.val ∧ t.val % 10 = j.val :=
  (by decide +kernel : ∀ (p : Fin 2) (j : Fin 10), ∃ t : Fin grid1.N, t.val / 10 = p.val ∧ t.val % 10 = j.val)

/-- The first call's blocks hold the first 9216 columns, -/
theorem mem0 (i : S4x2048x3584.Idx) (h : (i 0).val * 3584 + (i 2).val < 9216) :
    ∃ t : Fin cfg0.N, i ∈ ((View.whole main_v0).slice (win0_2.rect t)).set := by
  have h0 : (i 0).val < 4 := (i 0).isLt
  have h1 : (i 1).val < 2048 := (i 1).isLt
  have h2 : (i 2).val < 3584 := (i 2).isLt
  obtain ⟨t, e0, e1⟩ := onto0 ⟨(i 1).val / 1024, by omega⟩ ⟨((i 0).val * 3584 + (i 2).val) / 512, by omega⟩
  dsimp only at e0 e1
  have hN : cfg0.N = 36 := N_0
  have ht := t.isLt
  refine ⟨t, ?_⟩
  rw [View.set_slice_whole, Rect.mem_set_unit]
  intro a
  match a with
  | ⟨0, _⟩ => show win0_2.index t 0 * 1 ≤ (i 0).val ∧ (i 0).val < win0_2.index t 0 * 1 + 1; rw [(idx2 t).1]; omega
  | ⟨1, _⟩ => show win0_2.index t 1 * 1024 ≤ (i 1).val ∧ (i 1).val < win0_2.index t 1 * 1024 + 1024; rw [(idx2 t).2.1]; omega
  | ⟨2, _⟩ => show win0_2.index t 2 * 512 ≤ (i 2).val ∧ (i 2).val < win0_2.index t 2 * 512 + 512; rw [(idx2 t).2.2]; omega

/-- the second's the others, -/
theorem mem1 (i : S4x2048x3584.Idx) (h : ¬ (i 0).val * 3584 + (i 2).val < 9216) :
    ∃ t : Fin cfg1.N, i ∈ ((View.whole main_v1).slice (win1_2.rect t)).set := by
  have h0 : (i 0).val < 4 := (i 0).isLt
  have h1 : (i 1).val < 2048 := (i 1).isLt
  have h2 : (i 2).val < 3584 := (i 2).isLt
  obtain ⟨t, e0, e1⟩ := onto1 ⟨(i 1).val / 1024, by omega⟩ ⟨((i 0).val * 3584 + (i 2).val) / 512 - 18, by omega⟩
  dsimp only at e0 e1
  have hN : cfg1.N = 20 := N_1
  have ht := t.isLt
  refine ⟨t, ?_⟩
  rw [View.set_slice_whole, Rect.mem_set_unit]
  intro a
  match a with
  | ⟨0, _⟩ => show win1_2.index t 0 * 1 ≤ (i 0).val ∧ (i 0).val < win1_2.index t 0 * 1 + 1; rw [(jdx2 t).1]; omega
  | ⟨1, _⟩ => show win1_2.index t 1 * 1024 ≤ (i 1).val ∧ (i 1).val < win1_2.index t 1 * 1024 + 1024; rw [(jdx2 t).2.1]; omega
  | ⟨2, _⟩ => show win1_2.index t 2 * 512 ≤ (i 2).val ∧ (i 2).val < win1_2.index t 2 * 512 + 512; rw [(jdx2 t).2.2]; omega

/-- and only those. -/
theorem not_mem1 (i : S4x2048x3584.Idx) (h : (i 0).val * 3584 + (i 2).val < 9216) (t : Fin cfg1.N) :
    i ∉ ((View.whole main_v1).slice (win1_2.rect t)).set := by
  have h2 : (i 2).val < 3584 := (i 2).isLt
  rw [View.set_slice_whole, Rect.mem_set_unit]
  intro hm
  have m0 : win1_2.index t 0 * 1 ≤ (i 0).val ∧ (i 0).val < win1_2.index t 0 * 1 + 1 := hm 0
  have m2 : win1_2.index t 2 * 512 ≤ (i 2).val ∧ (i 2).val < win1_2.index t 2 * 512 + 512 := hm 2
  rw [(jdx2 t).1] at m0
  rw [(jdx2 t).2.2] at m2
  omega

/-- The second call finds in its result array what the first left in its own. -/
theorem entered : (dat1 (V2 m ρ) c).A 2 = (dat0 (V0 m ρ) c).arrAt 2 cfg0.N := by
  rw [A_eq1]
  show StableHlo.after hostOps1 (W1 m ρ c) _ = _
  unfold hostOps1
  simp only [StableHlo.after_cons, StableHlo.after_nil]
  rw [StableHlo.unary_result]
  exact W1_arr m ρ c 2

/-- The two calls fill the array. -/
theorem final : (dat1 (V2 m ρ) c).arrAt 2 cfg1.N = mixerWeights (a0 m c) (a1 m c) (a2 m c) := by
  funext i
  by_cases h : (i 0).val * 3584 + (i 2).val < 9216
  · rw [(dat1 (V2 m ρ) c).arrAt_apply_of_forall_not_mem 2 cfg1.N i (fun t _ _ => not_mem1 i h t), entered]
    obtain ⟨t, hi⟩ := mem0 i h
    exact (dat0 (V0 m ρ) c).arrAt_apply_of_mem 2 (mixerWeights (a0 m c) (a1 m c) (a2 m c)) (fun t _ => flushed0 m ρ c t) cfg0.N t i
      t.isLt (flush0_2 t) hi
  · obtain ⟨t, hi⟩ := mem1 i h
    exact (dat1 (V2 m ρ) c).arrAt_apply_of_mem 2 (mixerWeights (a0 m c) (a1 m c) (a2 m c)) (fun t _ => flushed1 m ρ c t) cfg1.N t i
      t.isLt (flush1_2 t) hi

end Cert.Kernel7Ideal.Product

namespace Cert.Reference7Ideal.Product

open Idealize.ShloMosaic Cert.Reference7Ideal Cert.Reference7Ideal.Gen Cert.Reference7Ideal.Read Cert.Products

/-- The four arrays side by side. -/
theorem columns (g : Vec Ideal S3x4096x3072 .bf16) (x : Vec Ideal S4096x5120 .bf16) (r : Fin 4096) (k : Fin 14336) :
    val_main_v6 (F := Ideal) g x (ix2 r k) = beside g x r k := by
  have hk := k.isLt
  unfold val_main_v6
  by_cases h0 : k.val < 3072
  · rw [beside_left _ _ _ _ (by omega)]
    refine (concatenate_apply_piece 1 _ _ (ix2 r k) 0 (Nat.lt_of_lt_of_eq (by decide) (rfl : 4 = _)) S4096x3072 (val_main_v1 (F := Ideal) g) rfl rfl 0 rfl
      (ix2 r ⟨k.val - 0, by omega⟩) (fun b hb => ?_) (by show 0 + (k.val - 0) = k.val; omega)).trans ?_
    · match b with
      | ⟨0, _⟩ => rfl
      | ⟨1, _⟩ => exact absurd rfl hb
    · rw [val_main_v1_apply, val_main_v0_apply]
      congr 1
      funext a
      apply Fin.ext
      match a with
      | ⟨0, _⟩ => show 0 = k.val / 3072; omega
      | ⟨1, _⟩ => show (r.val * 3072 + (k.val - 0)) / 3072 % 4096 = r.val; omega
      | ⟨2, _⟩ => show (r.val * 3072 + (k.val - 0)) % 3072 = k.val % 3072; omega
  by_cases h1 : k.val < 6144
  · rw [beside_left _ _ _ _ (by omega)]
    refine (concatenate_apply_piece 1 _ _ (ix2 r k) 1 (Nat.lt_of_lt_of_eq (by decide) (rfl : 4 = _)) S4096x3072 (val_main_v3 (F := Ideal) g) rfl rfl 3072 rfl
      (ix2 r ⟨k.val - 3072, by omega⟩) (fun b hb => ?_) (by show 3072 + (k.val - 3072) = k.val; omega)).trans ?_
    · match b with
      | ⟨0, _⟩ => rfl
      | ⟨1, _⟩ => exact absurd rfl hb
    · rw [val_main_v3_apply, val_main_v2_apply]
      congr 1
      funext a
      apply Fin.ext
      match a with
      | ⟨0, _⟩ => show 1 + 0 = k.val / 3072; omega
      | ⟨1, _⟩ => show (r.val * 3072 + (k.val - 3072)) / 3072 % 4096 = r.val; omega
      | ⟨2, _⟩ => show (r.val * 3072 + (k.val - 3072)) % 3072 = k.val % 3072; omega
  by_cases h2 : k.val < 9216
  · rw [beside_left _ _ _ _ (by omega)]
    refine (concatenate_apply_piece 1 _ _ (ix2 r k) 2 (Nat.lt_of_lt_of_eq (by decide) (rfl : 4 = _)) S4096x3072 (val_main_v5 (F := Ideal) g) rfl rfl 6144 rfl
      (ix2 r ⟨k.val - 6144, by omega⟩) (fun b hb => ?_) (by show 6144 + (k.val - 6144) = k.val; omega)).trans ?_
    · match b with
      | ⟨0, _⟩ => rfl
      | ⟨1, _⟩ => exact absurd rfl hb
    · rw [val_main_v5_apply, val_main_v4_apply]
      congr 1
      funext a
      apply Fin.ext
      match a with
      | ⟨0, _⟩ => show 2 + 0 = k.val / 3072; omega
      | ⟨1, _⟩ => show (r.val * 3072 + (k.val - 6144)) / 3072 % 4096 = r.val; omega
      | ⟨2, _⟩ => show (r.val * 3072 + (k.val - 6144)) % 3072 = k.val % 3072; omega
  rw [beside_right _ _ _ _ (by omega)]
  refine concatenate_apply_piece 1 _ _ (ix2 r k) 3 (Nat.lt_of_lt_of_eq (by decide) (rfl : 4 = _)) S4096x5120 x rfl rfl 9216 rfl
    (ix2 r ⟨k.val - 9216, by omega⟩) (fun b hb => ?_) (by show 9216 + (k.val - 9216) = k.val; omega)
  match b with
  | ⟨0, _⟩ => rfl
  | ⟨1, _⟩ => exact absurd rfl hb

/-- The reference's result is the same sum. -/
theorem result (x : Vec Ideal S4096x2048 .bf16) (g : Vec Ideal S3x4096x3072 .bf16) (r : Vec Ideal S4096x5120 .bf16) :
    val_main_v16 (F := Ideal) x g r = mixerWeights x g r := by
  funext i
  have h0 : (i 0).val < 4 := (i 0).isLt
  have h1 : (i 1).val < 2048 := (i 1).isLt
  have h2 : (i 2).val < 3584 := (i 2).isLt
  rw [val_main_v16_apply, val_main_v15_apply]
  show val_main_v12 (F := Ideal) x g r _ = _
  rw [val_main_v12_apply, val_main_v11_apply]
  unfold mixerWeights
  refine Finset.sum_congr rfl fun k _ => ?_
  rw [mul_comm]
  refine congrArg₂ (· * ·) ?_ ?_
  · show x _ = _
    refine congrArg x ?_
    funext a
    apply Fin.ext
    match a with
    | ⟨0, _⟩ => rfl
    | ⟨1, _⟩ => show (((i 1).val * 4 + (i 0).val) * 3584 + (i 2).val) / 14336 = (i 1).val; omega
  · show val_main_v6 (F := Ideal) g r _ = _
    rw [← columns]
    refine congrArg (val_main_v6 (F := Ideal) g r) ?_
    funext a
    apply Fin.ext
    match a with
    | ⟨0, _⟩ => rfl
    | ⟨1, _⟩ => show (((i 1).val * 4 + (i 0).val) * 3584 + (i 2).val) % 14336 = (i 0).val * 3584 + (i 2).val; omega

end Cert.Reference7Ideal.Product

end
-- ==== Proof.Proj0.lean ====
/- The first input projection: what the grid of 32 blocks leaves in the result array, and the reference's value, both as one
   sum over the 2048 columns of the input. -/
module

public import proofs.«01_k».proof.Proof.Gen.Kernel8Ideal.Value
public import proofs.«01_k».proof.Proof.Gen.Reference8Ideal.Read
public import Idealize.ShloMosaic.Lib.Pipeline.Value
public import Idealize.ShloMosaic.Lib.Pointwise

@[expose] public section

set_option maxRecDepth 16384

noncomputable section

namespace Cert.Products

open Idealize.ShloMosaic

/-- The projection at position `i 0` and column `i 1`: the column is column `i 1 % 2048` of chip `i 1 / 2048`. -/
def proj0 (x : Vec Ideal Cert.Kernel8Ideal.S4096x2048 .bf16) (w : Vec Ideal Cert.Kernel8Ideal.S4x2048x2048 .bf16)
    (i : Cert.Kernel8Ideal.S4096x8192.Idx) : EReal :=
  ∑ k : Fin 2048, x (ix2 (i 0) k) * w (ix3 ⟨(i 1).val / 2048, by have h1 : (i 1).val < 8192 := (i 1).isLt; omega⟩ k
    ⟨(i 1).val % 2048, Nat.mod_lt _ (by decide)⟩)

end Cert.Products

namespace Cert.Kernel8Ideal.Product

open Idealize.ShloMosaic Idealize.ShloMosaic.TcCoe Idealize.SL.Sem Cert.Kernel8Ideal Cert.Kernel8Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block's payload: the product of the two blocks over the input's columns. -/
theorem out_apply (x : Vec Ideal S2048x2048 .bf16) (w : Vec Ideal S1x2048x512 .bf16) (r : Fin 2048) (s : Fin 512) :
    out0_2 (F := Ideal) x w (ix2 r s) = ∑ k : Fin 2048, x (ix2 r k) * w (ix3 0 k s) := by
  unfold out0_2
  rw [View.canon_unit_zero hz2]
  simp only [View.ld_unit_zero (S := S2048x2048) hz2, View.ld_unit_zero (S := S1x2048x512) hz3]
  pointwise [k0_pay1]

theorem idx0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx1 : ∀ t : Fin cfg0.N, win0_1.index t 0 = t.val % 16 / 4 ∧ win0_1.index t 1 = 0 ∧ win0_1.index t 2 = t.val % 4 :=
  (by decide +kernel : ∀ t : Fin grid0.N, win0_1.index t 0 = t.val % 16 / 4 ∧ win0_1.index t 1 = 0 ∧ win0_1.index t 2 = t.val % 4)
theorem idx2 : ∀ t : Fin cfg0.N, win0_2.index t 0 = t.val / 16 ∧ win0_2.index t 1 = t.val % 16 :=
  (by decide +kernel : ∀ t : Fin grid0.N, win0_2.index t 0 = t.val / 16 ∧ win0_2.index t 1 = t.val % 16)

/-- The two arguments as launched. -/
abbrev a0 : Vec Ideal S4096x2048 .bf16 := m ((c : Thread nD τ).loc main_arg0)
abbrev a1 : Vec Ideal S4x2048x2048 .bf16 := m ((c : Thread nD τ).loc main_arg1)

theorem blk0 (t : Fin cfg0.N) (r : Fin 2048) (k : Fin 2048) (q : Fin 4096) (hq : q.val = t.val / 16 * 2048 + r.val) :
    (iblk m c 0 t : Vec Ideal S2048x2048 .bf16) (ix2 r k) = a0 m c (ix2 q k) := by
  unfold iblk
  rw [View.read_apply]
  show V m c main_arg0 _ = _
  rw [V_main_arg0]
  congr 1
  funext a
  apply Fin.ext
  match a with
  | ⟨0, _⟩ => show win0_0.index t 0 * 2048 + 1 * r.val = q.val; rw [(idx0 t).1]; omega
  | ⟨1, _⟩ => show win0_0.index t 1 * 2048 + 1 * k.val = k.val; rw [(idx0 t).2]; omega

theorem blk1 (t : Fin cfg0.N) (k : Fin 2048) (s : Fin 512) (p : Fin 4) (hp : p.val = t.val % 16 / 4) (q : Fin 2048)
    (hq : q.val = t.val % 4 * 512 + s.val) :
    (iblk m c 1 t : Vec Ideal S1x2048x512 .bf16) (ix3 0 k s) = a1 m c (ix3 p k q) := by
  unfold iblk
  rw [View.read_apply]
  show V m c main_arg1 _ = _
  rw [V_main_arg1]
  congr 1
  funext a
  apply Fin.ext
  match a with
  | ⟨0, _⟩ => show win0_1.index t 0 * 1 + 1 * 0 = p.val; rw [(idx1 t).1]; omega
  | ⟨1, _⟩ => show win0_1.index t 1 * 2048 + 1 * k.val = k.val; rw [(idx1 t).2.1]; omega
  | ⟨2, _⟩ => show win0_1.index t 2 * 512 + 1 * s.val = q.val; rw [(idx1 t).2.2]; omega

theorem flushed (t : Fin cfg0.N) :
    (dats m 0 c).flushed 2 t = ((cfg0.win 2).blk t).view.read (Elt Ideal) (proj0 (a0 m c) (a1 m c)) := by
  rw [Value.flushed2]
  funext y
  obtain ⟨r, s, rfl⟩ : ∃ r s, y = ix2 r s := ⟨y 0, y 1, by idx_ext⟩
  rw [View.read_apply]
  show out0_2 (iblk m c 0 t) (iblk m c 1 t) (ix2 r s) = proj0 (a0 m c) (a1 m c) (((cfg0.win 2).blk t).view.emb (ix2 r s))
  rw [out_apply]
  unfold proj0
  refine Finset.sum_congr rfl fun k _ => ?_
  have hN : cfg0.N = 32 := N_0
  have ht := t.isLt
  refine congrArg₂ (· * ·) (blk0 m c t r k _ ?_) (blk1 m c t k s _ ?_ _ ?_)
  · show win0_2.index t 0 * 2048 + 1 * r.val = t.val / 16 * 2048 + r.val
    rw [(idx2 t).1]; omega
  · show (win0_2.index t 1 * 512 + 1 * s.val) / 2048 = t.val % 16 / 4
    rw [(idx2 t).2]; omega
  · show (win0_2.index t 1 * 512 + 1 * s.val) % 2048 = t.val % 4 * 512 + s.val
    rw [(idx2 t).2]; omega

theorem onto : ∀ (p : Fin 2) (q : Fin 16), ∃ t : Fin cfg0.N, win0_2.index t 0 = p.val ∧ win0_2.index t 1 = q.val :=
  (by decide +kernel : ∀ (p : Fin 2) (q : Fin 16), ∃ t : Fin grid0.N, win0_2.index t 0 = p.val ∧ win0_2.index t 1 = q.val)

/-- The 32 blocks fill the array. -/
theorem final : (dats m 0 c).arrAt 2 cfg0.N = proj0 (a0 m c) (a1 m c) :=
  (dats m 0 c).arrAt_eq_of_cover 2 (proj0 (a0 m c) (a1 m c)) (fun t _ => flushed m c t) fun i => by
    have h0 : (i 0).val < 4096 := (i 0).isLt
    have h1 : (i 1).val < 8192 := (i 1).isLt
    obtain ⟨t, e0, e1⟩ := onto ⟨(i 0).val / 2048, by omega⟩ ⟨(i 1).val / 512, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 512 ≤ (i 1).val ∧ (i 1).val < win0_2.index t 1 * 512 + 512; omega

end Cert.Kernel8Ideal.Product

namespace Cert.Reference8Ideal.Product

open Idealize.ShloMosaic Cert.Reference8Ideal Cert.Reference8Ideal.Gen Cert.Reference8Ideal.Read Cert.Products

/-- The reference's result is the same sum. -/
theorem result (x : Vec Ideal S4096x2048 .bf16) (w : Vec Ideal S4x2048x2048 .bf16) :
    val_main_v5 (F := Ideal) x w = proj0 x w := by
  funext i
  rw [val_main_v5_apply]
  show val_main_v4 (F := Ideal) x w _ = _
  rw [val_main_v4_apply]
  unfold proj0
  refine Finset.sum_congr rfl fun k _ => ?_
  show x _ * val_main_v1 (F := Ideal) w _ = _
  rw [val_main_v1_apply, val_main_v0_apply]
  have hk := k.isLt
  have h1 : (i 1).val < 8192 := (i 1).isLt
  refine congrArg₂ (· * ·) (congrArg x (by idx_ext)) (congrArg w ?_)
  funext a
  apply Fin.ext
  match a with
  | ⟨0, _⟩ => show (k.val * 8192 + (i 1).val) / 2048 % 4 = (i 1).val / 2048; omega
  | ⟨1, _⟩ => show (k.val * 8192 + (i 1).val) / 8192 = k.val; omega
  | ⟨2, _⟩ => show (k.val * 8192 + (i 1).val) % 2048 = (i 1).val % 2048; omega

end Cert.Reference8Ideal.Product

end
-- ==== Proof.Proj1.lean ====
/- The second layer's input projection: what the grid of 44 blocks leaves in the columns that are read, the two results cut out
   of them, and the reference's values, all as one sum over the 2048 columns of the input. -/
module

public import proofs.«01_k».proof.Proof.Gen.Kernel9Ideal.Frame
public import proofs.«01_k».proof.Proof.Gen.Reference9Ideal.Read
public import Idealize.ShloMosaic.Lib.Pipeline.Value
public import Idealize.ShloMosaic.Lib.Pointwise

@[expose] public section

set_option maxRecDepth 16384

noncomputable section

namespace Cert.Products

open Idealize.ShloMosaic

/-- The projection at position `p` and column `q` of all 14336. -/
def proj1At (x : Vec Ideal Cert.Kernel9Ideal.S4096x2048 .bf16) (w : Vec Ideal Cert.Kernel9Ideal.S2048x14336 .bf16)
    (p : Fin 4096) (q : Fin 14336) : EReal :=
  ∑ k : Fin 2048, x (ix2 p k) * w (ix2 k q)

/-- The first result: the first 3072 columns. -/
def proj1Query (x : Vec Ideal Cert.Kernel9Ideal.S4096x2048 .bf16) (w : Vec Ideal Cert.Kernel9Ideal.S2048x14336 .bf16)
    (i : Cert.Kernel9Ideal.S4096x3072.Idx) : EReal :=
  proj1At x w (i 0) ⟨(i 1).val, by have h1 : (i 1).val < 3072 := (i 1).isLt; omega⟩

/-- The second: the last 8192. -/
def proj1Rest (x : Vec Ideal Cert.Kernel9Ideal.S4096x2048 .bf16) (w : Vec Ideal Cert.Kernel9Ideal.S2048x14336 .bf16)
    (i : Cert.Kernel9Ideal.S4096x8192.Idx) : EReal :=
  proj1At x w (i 0) ⟨6144 + (i 1).val, by have h1 : (i 1).val < 8192 := (i 1).isLt; omega⟩

end Cert.Products

namespace Cert.Kernel9Ideal.Product

open Idealize.ShloMosaic Idealize.ShloMosaic.TcCoe Idealize.SL.Sem Cert.Kernel9Ideal Cert.Kernel9Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl

/-- One block's payload: the product of the two blocks over the input's columns. -/
theorem out_apply (x : Vec Ideal S2048x2048 .bf16) (w : Vec Ideal S2048x512 .bf16) (r : Fin 2048) (s : Fin 512) :
    out0_2 (F := Ideal) x w (ix2 r s) = ∑ k : Fin 2048, x (ix2 r k) * w (ix2 k s) := by
  unfold out0_2
  rw [View.canon_unit_zero hz2]
  simp only [View.ld_unit_zero (S := S2048x2048) hz2, View.ld_unit_zero (S := S2048x512) hz2]
  pointwise [k0_pay1]

/-- Which of the 28 blocks of 512 columns point `n` computes: the first six, then those from the thirteenth on. -/
def jcol (n : ℕ) : ℕ := if n % 22 < 6 then n % 22 else n % 22 + 6

theorem idx0 : ∀ t : Fin cfg0.N, win0_0.index t 0 = t.val / 22 ∧ win0_0.index t 1 = 0 :=
  (by decide +kernel : ∀ t : Fin grid0.N, win0_0.index t 0 = t.val / 22 ∧ win0_0.index t 1 = 0)
theorem idx1 : ∀ t : Fin cfg0.N, win0_1.index t 0 = 0 ∧ win0_1.index t 1 = jcol t.val :=
  (by decide +kernel : ∀ t : Fin grid0.N, win0_1.index t 0 = 0 ∧ win0_1.index t 1 = jcol t.val)
theorem idx2 : ∀ t : Fin cfg0.N, win0_2.index t 0 = t.val / 22 ∧ win0_2.index t 1 = jcol t.val :=
  (by decide +kernel : ∀ t : Fin grid0.N, win0_2.index t 0 = t.val / 22 ∧ win0_2.index t 1 = jcol t.val)

/-- The two arguments as launched. -/
abbrev a0 : Vec Ideal S4096x2048 .bf16 := m ((c : Thread nD τ).loc main_arg0)
abbrev a1 : Vec Ideal S2048x14336 .bf16 := m ((c : Thread nD τ).loc main_arg1)

/-- The array the call writes, at every column: what it holds where it is read. -/
def all (i : S4096x14336.Idx) : EReal := proj1At (a0 m c) (a1 m c) (i 0) (i 1)

theorem blk0 (t : Fin cfg0.N) (r : Fin 2048) (k : Fin 2048) (q : Fin 4096) (hq : q.val = t.val / 22 * 2048 + r.val) :
    (iblk m c 0 t : Vec Ideal S2048x2048 .bf16) (ix2 r k) = a0 m c (ix2 q k) := by
  unfold iblk
  rw [View.read_apply]
  show V m c main_arg0 _ = _
  rw [V_main_arg0]
  refine congrArg (a0 m c) ?_
  funext a
  apply Fin.ext
  match a with
  | ⟨0, _⟩ => show win0_0.index t 0 * 2048 + 1 * r.val = q.val; rw [(idx0 t).1]; omega
  | ⟨1, _⟩ => show win0_0.index t 1 * 2048 + 1 * k.val = k.val; rw [(idx0 t).2]; omega

theorem blk1 (t : Fin cfg0.N) (k : Fin 2048) (s : Fin 512) (q : Fin 14336) (hq : q.val = jcol t.val * 512 + s.val) :
    (iblk m c 1 t : Vec Ideal S2048x512 .bf16) (ix2 k s) = a1 m c (ix2 k q) := by
  unfold iblk
  rw [View.read_apply]
  show V m c main_arg1 _ = _
  rw [V_main_arg1]
  refine congrArg (a1 m c) ?_
  funext a
  apply Fin.ext
  match a with
  | ⟨0, _⟩ => show win0_1.index t 0 * 2048 + 1 * k.val = k.val; rw [(idx1 t).1]; omega
  | ⟨1, _⟩ => show win0_1.index t 1 * 512 + 1 * s.val = q.val; rw [(idx1 t).2]; omega

theorem flushed (t : Fin cfg0.N) :
    (dats m 0 c).flushed 2 t = ((cfg0.win 2).blk t).view.read (Elt Ideal) (all m c) := by
  show (cfg0.win 2).cut (grid0.coords t) ((dats m 0 c).after 2 t) = _
  rw [after0_2]
  funext y
  obtain ⟨r, s, rfl⟩ : ∃ r s, y = ix2 r s := ⟨y 0, y 1, by idx_ext⟩
  rw [View.read_apply]
  show out0_2 (iblk m c 0 t) (iblk m c 1 t) (ix2 r s) = all m c (((cfg0.win 2).blk t).view.emb (ix2 r s))
  rw [out_apply]
  unfold all proj1At
  refine Finset.sum_congr rfl fun k _ => congrArg₂ (· * ·) (blk0 m c t r k _ ?_) (blk1 m c t k s _ ?_)
  · show win0_2.index t 0 * 2048 + 1 * r.val = t.val / 22 * 2048 + r.val
    rw [(idx2 t).1]; omega
  · show win0_2.index t 1 * 512 + 1 * s.val = jcol t.val * 512 + s.val
    rw [(idx2 t).2]; omega

theorem onto : ∀ (p : Fin 2) (q : Fin 28), q.val < 6 ∨ 12 ≤ q.val →
    ∃ t : Fin cfg0.N, win0_2.index t 0 = p.val ∧ win0_2.index t 1 = q.val :=
  (by decide +kernel : ∀ (p : Fin 2) (q : Fin 28), q.val < 6 ∨ 12 ≤ q.val →
    ∃ t : Fin grid0.N, win0_2.index t 0 = p.val ∧ win0_2.index t 1 = q.val)

/-- The 44 blocks fill the columns that are read. -/
theorem written (i : S4096x14336.Idx) (h : (i 1).val < 3072 ∨ 6144 ≤ (i 1).val) :
    (dats m 0 c).arrAt 2 cfg0.N i = all m c i := by
  have h0 : (i 0).val < 4096 := (i 0).isLt
  have h1 : (i 1).val < 14336 := (i 1).isLt
  obtain ⟨t, e0, e1⟩ := onto ⟨(i 0).val / 2048, by omega⟩ ⟨(i 1).val / 512, by omega⟩ (by dsimp only; omega)
  dsimp only at e0 e1
  refine (dats m 0 c).arrAt_apply_of_mem 2 (all m c) (fun t _ => flushed m c t) cfg0.N t i t.isLt (flush0_2 t) ?_
  show i ∈ ((View.whole main_v0).slice (win0_2.rect t)).set
  rw [View.set_slice_whole, Rect.mem_set_unit]
  intro a
  match a with
  | ⟨0, _⟩ => show win0_2.index t 0 * 2048 ≤ (i 0).val ∧ (i 0).val < win0_2.index t 0 * 2048 + 2048; omega
  | ⟨1, _⟩ => show win0_2.index t 1 * 512 ≤ (i 1).val ∧ (i 1).val < win0_2.index t 1 * 512 + 512; omega

/-- The array after the call, as the operations behind it read it. -/
theorem array : Pipeline.withArrays (cfgs 0).spec c (V0 m c) (fun w => (dats m 0 c).arrAt w (cfgs 0).N) (Proc.devRef .tc main_v0)
    = (dats m 0 c).arrAt 2 cfg0.N :=
  Pipeline.withArrays_arr spec0 launch0.win.arr_inj c (V0 m c) (fun w => (dats m 0 c).arrAt w cfg0.N) 2

theorem first : Pipeline.afterTail₀ cfgs (dats m) 0 (V0 m) [hostOps1] c main_v1 = proj1Query (a0 m c) (a1 m c) := by
  show StableHlo.after hostOps1 (Pipeline.withArrays (cfgs 0).spec c (V0 m c) (fun w => (dats m 0 c).arrAt w (cfgs 0).N))
    (Proc.devRef .tc main_v1) = _
  unfold hostOps1
  simp only [StableHlo.after_cons, StableHlo.after_nil]
  rw [StableHlo.unary_result_ne' (r := main_v1) (y := main_v2) (h := by decide), StableHlo.unary_result, array]
  funext i
  have h1 : (i 1).val < 3072 := (i 1).isLt
  refine (extractStridedSlice_apply ![0, 0] ((dats m 0 c).arrAt 2 cfg0.N : Vec Ideal S4096x14336 .bf16)
    slices_S4096x14336_S4096x3072_0_0 i (ix2 (i 0) ⟨(i 1).val, by omega⟩) (fun a => ?_)).trans (written m c _ (.inl h1))
  match a with
  | ⟨0, _⟩ => show (i 0).val = 0 + (i 0).val; omega
  | ⟨1, _⟩ => show (i 1).val = 0 + (i 1).val; omega

theorem last : Pipeline.afterTail₀ cfgs (dats m) 0 (V0 m) [hostOps1] c main_v2 = proj1Rest (a0 m c) (a1 m c) := by
  show StableHlo.after hostOps1 (Pipeline.withArrays (cfgs 0).spec c (V0 m c) (fun w => (dats m 0 c).arrAt w (cfgs 0).N))
    (Proc.devRef .tc main_v2) = _
  unfold hostOps1
  simp only [StableHlo.after_cons, StableHlo.after_nil]
  rw [StableHlo.unary_result, StableHlo.unary_result_ne' (r := main_v0) (y := main_v1) (h := by decide), array]
  funext i
  have h1 : (i 1).val < 8192 := (i 1).isLt
  refine (extractStridedSlice_apply ![0, 6144] ((dats m 0 c).arrAt 2 cfg0.N : Vec Ideal S4096x14336 .bf16)
    slices_S4096x14336_S4096x8192_0_6144 i (ix2 (i 0) ⟨6144 + (i 1).val, by omega⟩) (fun a => ?_)).trans
    (written m c _ (.inr (Nat.le_add_right _ _)))
  match a with
  | ⟨0, _⟩ => show (i 0).val = 0 + (i 0).val; omega
  | ⟨1, _⟩ => rfl

/-- The run, with both results and the arguments. -/
theorem run : θ_run defs (onTc (τ := τ) (main (F := Ideal))) ⟨m, fun _ => 0, ρ⟩ (fun r => ∀ c : Dev nD,
    r.2.mem ((c.tc : Thread nD τ).loc main_v1) = proj1Query (a0 m c) (a1 m c)
    ∧ r.2.mem ((c.tc : Thread nD τ).loc main_v2) = proj1Rest (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v1 (Pipeline.mem_restRefs_of main_v1 (by decide) (by decide))).trans (first m c),
     ((h c).2 main_v2 (Pipeline.mem_restRefs_of main_v2 (by decide) (by decide))).trans (last m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel9Ideal.Product

namespace Cert.Reference9Ideal.Product

open Idealize.ShloMosaic Cert.Reference9Ideal Cert.Reference9Ideal.Gen Cert.Reference9Ideal.Read Cert.Products

/-- The reference's whole product, -/
theorem product (x : Vec Ideal S4096x2048 .bf16) (w : Vec Ideal S2048x14336 .bf16) (i : S4096x14336.Idx) :
    val_main_v3 (F := Ideal) x w i = proj1At x w (i 0) (i 1) := by
  show val_main_v2 (F := Ideal) x w i = _
  rw [val_main_v2_apply]
  unfold proj1At
  refine Finset.sum_congr rfl fun k _ => ?_
  show x _ * w _ = _
  exact congrArg₂ (· * ·) (congrArg x (by idx_ext)) (congrArg w (by idx_ext))

/-- and its two results. -/
theorem query (x : Vec Ideal S4096x2048 .bf16) (w : Vec Ideal S2048x14336 .bf16) :
    val_main_v4 (F := Ideal) x w = proj1Query x w := by
  funext i
  rw [val_main_v4_apply, product]
  rfl

theorem rest (x : Vec Ideal S4096x2048 .bf16) (w : Vec Ideal S2048x14336 .bf16) :
    val_main_v5 (F := Ideal) x w = proj1Rest x w := by
  funext i
  rw [val_main_v5_apply, product]
  rfl

end Cert.Reference9Ideal.Product

end
-- ==== Proof.Proj1Forget.lean ====
/- The second input projection's columns of the forget gate: what the grid of 12 blocks leaves in the result array, and the
   reference's value, both as one sum over the 2048 columns of the input. -/
module

public import proofs.«01_k».proof.Proof.Gen.Kernel10Ideal.Value
public import proofs.«01_k».proof.Proof.Gen.Reference10Ideal.Read
public import Idealize.ShloMosaic.Lib.Pipeline.Value
public import Idealize.ShloMosaic.Lib.Pointwise

@[expose] public section

set_option maxRecDepth 16384

noncomputable section

namespace Cert.Products

open Idealize.ShloMosaic

/-- The projection at position `i 0` and the forget gate's column `i 1`. -/
def proj1Forget (x : Vec Ideal Cert.Kernel10Ideal.S4096x2048 .bf16) (w : Vec Ideal Cert.Kernel10Ideal.S2048x14336 .bf16)
    (i : Cert.Kernel10Ideal.S4096x3072.Idx) : EReal :=
  ∑ k : Fin 2048, x (ix2 (i 0) k) * w (ix2 k ⟨3072 + (i 1).val, by have h1 : (i 1).val < 3072 := (i 1).isLt; omega⟩)

end Cert.Products

namespace Cert.Kernel10Ideal.Product

open Idealize.ShloMosaic Idealize.ShloMosaic.TcCoe Idealize.SL.Sem Cert.Kernel10Ideal Cert.Kernel10Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl

/-- One block's payload: the product of the two blocks over the input's columns. -/
theorem out_apply (x : Vec Ideal S2048x2048 .bf16) (w : Vec Ideal S2048x512 .bf16) (r : Fin 2048) (s : Fin 512) :
    out0_2 (F := Ideal) x w (ix2 r s) = ∑ k : Fin 2048, x (ix2 r k) * w (ix2 k s) := by
  unfold out0_2
  rw [View.canon_unit_zero hz2]
  simp only [View.ld_unit_zero (S := S2048x2048) hz2, View.ld_unit_zero (S := S2048x512) hz2]
  pointwise [k0_pay1]

theorem idx0 : ∀ t : Fin cfg0.N, win0_0.index t 0 = t.val / 6 ∧ win0_0.index t 1 = 0 :=
  (by decide +kernel : ∀ t : Fin grid0.N, win0_0.index t 0 = t.val / 6 ∧ win0_0.index t 1 = 0)
theorem idx1 : ∀ t : Fin cfg0.N, win0_1.index t 0 = 0 ∧ win0_1.index t 1 = t.val % 6 + 6 :=
  (by decide +kernel : ∀ t : Fin grid0.N, win0_1.index t 0 = 0 ∧ win0_1.index t 1 = t.val % 6 + 6)
theorem idx2 : ∀ t : Fin cfg0.N, win0_2.index t 0 = t.val / 6 ∧ win0_2.index t 1 = t.val % 6 :=
  (by decide +kernel : ∀ t : Fin grid0.N, win0_2.index t 0 = t.val / 6 ∧ win0_2.index t 1 = t.val % 6)

/-- The two arguments as launched. -/
abbrev a0 : Vec Ideal S4096x2048 .bf16 := m ((c : Thread nD τ).loc main_arg0)
abbrev a1 : Vec Ideal S2048x14336 .bf16 := m ((c : Thread nD τ).loc main_arg1)

theorem blk0 (t : Fin cfg0.N) (r : Fin 2048) (k : Fin 2048) (q : Fin 4096) (hq : q.val = t.val / 6 * 2048 + r.val) :
    (iblk m c 0 t : Vec Ideal S2048x2048 .bf16) (ix2 r k) = a0 m c (ix2 q k) := by
  unfold iblk
  rw [View.read_apply]
  show V m c main_arg0 _ = _
  rw [V_main_arg0]
  congr 1
  funext a
  apply Fin.ext
  match a with
  | ⟨0, _⟩ => show win0_0.index t 0 * 2048 + 1 * r.val = q.val; rw [(idx0 t).1]; omega
  | ⟨1, _⟩ => show win0_0.index t 1 * 2048 + 1 * k.val = k.val; rw [(idx0 t).2]; omega

theorem blk1 (t : Fin cfg0.N) (k : Fin 2048) (s : Fin 512) (q : Fin 14336) (hq : q.val = 3072 + (t.val % 6 * 512 + s.val)) :
    (iblk m c 1 t : Vec Ideal S2048x512 .bf16) (ix2 k s) = a1 m c (ix2 k q) := by
  unfold iblk
  rw [View.read_apply]
  show V m c main_arg1 _ = _
  rw [V_main_arg1]
  congr 1
  funext a
  apply Fin.ext
  match a with
  | ⟨0, _⟩ => show win0_1.index t 0 * 2048 + 1 * k.val = k.val; rw [(idx1 t).1]; omega
  | ⟨1, _⟩ => show win0_1.index t 1 * 512 + 1 * s.val = q.val; rw [(idx1 t).2]; omega

theorem flushed (t : Fin cfg0.N) :
    (dats m 0 c).flushed 2 t = ((cfg0.win 2).blk t).view.read (Elt Ideal) (proj1Forget (a0 m c) (a1 m c)) := by
  rw [Value.flushed2]
  funext y
  obtain ⟨r, s, rfl⟩ : ∃ r s, y = ix2 r s := ⟨y 0, y 1, by idx_ext⟩
  rw [View.read_apply]
  show out0_2 (iblk m c 0 t) (iblk m c 1 t) (ix2 r s) = proj1Forget (a0 m c) (a1 m c) (((cfg0.win 2).blk t).view.emb (ix2 r s))
  rw [out_apply]
  unfold proj1Forget
  refine Finset.sum_congr rfl fun k _ => ?_
  have hN : cfg0.N = 12 := N_0
  have ht := t.isLt
  refine congrArg₂ (· * ·) (blk0 m c t r k _ ?_) (blk1 m c t k s _ ?_)
  · show win0_2.index t 0 * 2048 + 1 * r.val = t.val / 6 * 2048 + r.val
    rw [(idx2 t).1]; omega
  · show 3072 + (win0_2.index t 1 * 512 + 1 * s.val) = 3072 + (t.val % 6 * 512 + s.val)
    rw [(idx2 t).2]; omega

theorem onto : ∀ (p : Fin 2) (q : Fin 6), ∃ t : Fin cfg0.N, win0_2.index t 0 = p.val ∧ win0_2.index t 1 = q.val :=
  (by decide +kernel : ∀ (p : Fin 2) (q : Fin 6), ∃ t : Fin grid0.N, win0_2.index t 0 = p.val ∧ win0_2.index t 1 = q.val)

/-- The 12 blocks fill the array. -/
theorem final : (dats m 0 c).arrAt 2 cfg0.N = proj1Forget (a0 m c) (a1 m c) :=
  (dats m 0 c).arrAt_eq_of_cover 2 (proj1Forget (a0 m c) (a1 m c)) (fun t _ => flushed m c t) fun i => by
    have h0 : (i 0).val < 4096 := (i 0).isLt
    have h1 : (i 1).val < 3072 := (i 1).isLt
    obtain ⟨t, e0, e1⟩ := onto ⟨(i 0).val / 2048, by omega⟩ ⟨(i 1).val / 512, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 2048 ≤ (i 0).val ∧ (i 0).val < win0_2.index t 0 * 2048 + 2048; omega
    | ⟨1, _⟩ => show win0_2.index t 1 * 512 ≤ (i 1).val ∧ (i 1).val < win0_2.index t 1 * 512 + 512; omega

end Cert.Kernel10Ideal.Product

namespace Cert.Reference10Ideal.Product

open Idealize.ShloMosaic Cert.Reference10Ideal Cert.Reference10Ideal.Gen Cert.Reference10Ideal.Read Cert.Products

/-- The reference's result is the same sum. -/
theorem result (x : Vec Ideal S4096x2048 .bf16) (w : Vec Ideal S2048x14336 .bf16) :
    val_main_v3 (F := Ideal) x w = proj1Forget x w := by
  funext i
  rw [val_main_v3_apply]
  unfold proj1Forget
  refine Finset.sum_congr rfl fun k _ => ?_
  show x _ * val_main_v1 (F := Ideal) w _ = _
  rw [val_main_v1_apply]
  refine congrArg₂ (· * ·) (congrArg x (by idx_ext)) (congrArg w ?_)
  funext a
  apply Fin.ext
  match a with
  | ⟨0, _⟩ => rfl
  | ⟨1, _⟩ => rfl

end Cert.Reference10Ideal.Product

end
-- ==== Proof.OutProj.lean ====
/- The output projection added to the layer's input: two partial products summed in a scratch block, and the reference's one
   product. -/
module

public import proofs.«01_k».proof.Proof.Gen.Kernel11Ideal.Value
public import proofs.«01_k».proof.Proof.Gen.Reference11Ideal.Read
public import proofs.«01_k».proof.Proof.Sweep
public import Idealize.ShloMosaic.Lib.Pipeline.Value
public import Idealize.ShloMosaic.Lib.Pointwise

@[expose] public section

set_option maxRecDepth 16384

noncomputable section

namespace Cert.Products

open Idealize.ShloMosaic

/-- The weights' row `k`: row `k % 1024` of chip `k / 1024`. -/
def ofRows (w : Vec Ideal Cert.Kernel11Ideal.S4x1024x2048 .bf16) (k : Fin 4096) (q : Fin 2048) : EReal :=
  w (ix3 ⟨k.val / 1024, by omega⟩ ⟨k.val % 1024, Nat.mod_lt _ (by decide)⟩ q)

/-- The projection at position `i 0` and column `i 1`, and what it is added to. -/
def outProj (x : Vec Ideal Cert.Kernel11Ideal.S4096x4096 .bf16) (w : Vec Ideal Cert.Kernel11Ideal.S4x1024x2048 .bf16)
    (d : Vec Ideal Cert.Kernel11Ideal.S4096x2048 .f32) (i : Cert.Kernel11Ideal.S4096x2048.Idx) : EReal :=
  (∑ k : Fin 4096, x (ix2 (i 0) k) * ofRows w k (i 1)) + d i

end Cert.Products

namespace Cert.Kernel11Ideal.Product

open Idealize.ShloMosaic Idealize.ShloMosaic.TcCoe Idealize.SL.Sem Cert.Kernel11Ideal Cert.Kernel11Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl

/-- One point's product. -/
theorem pay1_apply (x : Vec Ideal S1024x2048 .bf16) (w : Vec Ideal S2048x1024 .bf16) (r s : Fin 1024) :
    k0_pay1 (F := Ideal) x w (ix2 r s) = ∑ k : Fin 2048, x (ix2 r k) * w (ix2 k s) := by
  pointwise [k0_pay1]

section Cases

variable (i : grid0.Coords) (p : Memref sig .tc .vmem S1024x2048 .bf16) (hp : p.IsWhole)
  (q : Memref sig .tc .vmem S2048x1024 .bf16) (hq : q.IsWhole) (d : Memref sig .tc .vmem S1024x1024 .f32) (hd : d.IsWhole)
  (o : Memref sig .tc .vmem S1024x1024 .f32) (ho : o.IsWhole)
  (s : Memref sig .tc .vmem S1024x1024 .f32) (hs : s.IsWhole)
  (x : Vec Ideal S1024x2048 .bf16) (y : Vec Ideal S2048x1024 .bf16) (u z : Vec Ideal S1024x1024 .f32)

/-- The first point of a run leaves its product in the scratch block. -/
theorem scratch_A (hA hB hC) : sout0_A_0 c i p hp q hq d hd o ho s hs hA hB hC x y u = k0_pay1 x y := by
  unfold sout0_A_0
  rw [View.read_writes_eq_canon _ _ _ (scover0_A_0 c i p hp q hq d hd o ho s hs hA hB hC x y u)]
  unfold kernelRun0_A
  dsimp only
  rw [View.canon_unit_zero hz2]
  unfold k0_pay2
  simp only [View.readAt_eq_ld, hp.read_unread, hq.read_unread, View.ld_unit_zero (S := S1024x2048) hz2,
    View.ld_unit_zero (S := S2048x1024) hz2, shapeCast_self]

/-- The last adds its product, -/
theorem scratch_B (hA hB hC) : sout0_B_0 c i p hp q hq d hd o ho s hs hA hB hC x y u z = addf z (k0_pay1 x y) := by
  unfold sout0_B_0
  rw [View.read_writes_eq_canon _ _ _ (scover0_B_0 c i p hp q hq d hd o ho s hs hA hB hC x y u z)]
  unfold kernelRun0_B
  dsimp only
  sl_unfold_words
  rw [View.canon_unit_zero hz2]
  unfold k0_pay3
  simp only [View.readAt_eq_ld, hp.read_unread, hq.read_unread, hd.read_unread, hs.read_unread,
    View.ld_unit_zero (S := S1024x2048) hz2, View.ld_unit_zero (S := S2048x1024) hz2,
    View.ld_unit_zero (S := S1024x1024) hz2, shapeCast_self]

/-- and then the third argument's block, and stores the sum in the result's. -/
theorem out_B (hA hB hC) : out0_B_3 c i p hp q hq d hd o ho s hs hA hB hC x y u z = addf (addf z (k0_pay1 x y)) u := by
  unfold out0_B_3
  rw [View.read_writes_eq_canon _ _ _ (cover0_B_3 c i p hp q hq d hd o ho s hs hA hB hC x y u z)]
  unfold kernelRun0_B
  dsimp only
  sl_unfold_words
  rw [View.canon_unit_zero hz2, View.readCov_unit_zero (S := S1024x1024) _ hz2]
  unfold k0_pay4 k0_pay3
  simp only [View.readAt_eq_ld, hp.read_unread, hq.read_unread, hd.read_unread, hs.read_unread,
    View.ld_unit_zero (S := S1024x2048) hz2, View.ld_unit_zero (S := S2048x1024) hz2,
    View.ld_unit_zero (S := S1024x1024) hz2, shapeCast_self]

end Cases

theorem idx0 : ∀ t : Fin cfg0.N, win0_0.index t 0 = t.val / 4 ∧ win0_0.index t 1 = t.val % 2 :=
  (by decide +kernel : ∀ t : Fin grid0.N, win0_0.index t 0 = t.val / 4 ∧ win0_0.index t 1 = t.val % 2)
theorem idx1 : ∀ t : Fin cfg0.N, win0_1.index t 0 = t.val % 2 ∧ win0_1.index t 1 = t.val % 4 / 2 :=
  (by decide +kernel : ∀ t : Fin grid0.N, win0_1.index t 0 = t.val % 2 ∧ win0_1.index t 1 = t.val % 4 / 2)
theorem idx2 : ∀ t : Fin cfg0.N, win0_2.index t 0 = t.val / 4 ∧ win0_2.index t 1 = t.val % 4 / 2 :=
  (by decide +kernel : ∀ t : Fin grid0.N, win0_2.index t 0 = t.val / 4 ∧ win0_2.index t 1 = t.val % 4 / 2)
theorem idx3 : ∀ t : Fin cfg0.N, win0_3.index t 0 = t.val / 4 ∧ win0_3.index t 1 = t.val % 4 / 2 :=
  (by decide +kernel : ∀ t : Fin grid0.N, win0_3.index t 0 = t.val / 4 ∧ win0_3.index t 1 = t.val % 4 / 2)

/-- The three arguments as launched. -/
abbrev a0 : Vec Ideal S4096x4096 .bf16 := m ((c : Thread nD τ).loc main_arg0)
abbrev a1 : Vec Ideal S4x1024x2048 .bf16 := m ((c : Thread nD τ).loc main_arg1)
abbrev a2 : Vec Ideal S4096x2048 .f32 := m ((c : Thread nD τ).loc main_arg2)

/-- The call reads the weights' rows one below the other. -/
theorem rows (k : Fin 4096) (q : Fin 2048) :
    (V m c main_v0 : Vec Ideal S4096x2048 .bf16) (ix2 k q) = ofRows (a1 m c) k q := by
  show StableHlo.after hostOps0 _ _ _ = _
  unfold hostOps0
  simp only [StableHlo.after_cons, StableHlo.after_nil]
  rw [StableHlo.reshape_result]
  exact shapeCast_apply (a1 m c) shapeCasts_S4x1024x2048_S4096x2048 (ix2 k q) _ (by
    rewrite [Shape.rowMajor_val_three, Shape.rowMajor_val_two]
    show (k.val / 1024 * 1024 + k.val % 1024) * 2048 + q.val = k.val * 2048 + q.val
    omega)

/-- Position `r` of point `n`'s block, and column `s` of its weights. -/
def pos (n : ℕ) (r : Fin 1024) : Fin 4096 := ⟨(n / 4 * 1024 + r.val) % 4096, Nat.mod_lt _ (by decide)⟩
def col (n : ℕ) (s : Fin 1024) : Fin 2048 := ⟨n % 4 / 2 * 1024 + s.val, by omega⟩

/-- What point `n` adds. -/
def part (n : ℕ) (y : S1024x1024.Idx) : EReal :=
  ∑ k : Fin 2048, a0 m c (ix2 (pos n (y 0)) ⟨n % 2 * 2048 + k.val, by omega⟩) * ofRows (a1 m c) ⟨n % 2 * 2048 + k.val, by omega⟩ (col n (y 1))

theorem blk0 (t : Fin cfg0.N) (r : Fin 1024) (k : Fin 2048) :
    (iblk m c 0 t : Vec Ideal S1024x2048 .bf16) (ix2 r k) = a0 m c (ix2 (pos t.val r) ⟨t.val % 2 * 2048 + k.val, by omega⟩) := by
  have hN : cfg0.N = 16 := N_0
  have ht := t.isLt
  unfold iblk
  rw [View.read_apply]
  show V m c main_arg0 _ = _
  rw [V_main_arg0]
  congr 1
  funext a
  apply Fin.ext
  match a with
  | ⟨0, _⟩ => show win0_0.index t 0 * 1024 + 1 * r.val = (t.val / 4 * 1024 + r.val) % 4096; rw [(idx0 t).1]; omega
  | ⟨1, _⟩ => show win0_0.index t 1 * 2048 + 1 * k.val = t.val % 2 * 2048 + k.val; rw [(idx0 t).2]; omega

theorem blk1 (t : Fin cfg0.N) (k : Fin 2048) (s : Fin 1024) :
    (iblk m c 1 t : Vec Ideal S2048x1024 .bf16) (ix2 k s) = ofRows (a1 m c) ⟨t.val % 2 * 2048 + k.val, by omega⟩ (col t.val s) := by
  unfold iblk
  rw [View.read_apply, ← rows m c]
  show V m c main_v0 _ = _
  refine congrArg (V m c main_v0 : Vec Ideal S4096x2048 .bf16) ?_
  funext a
  apply Fin.ext
  match a with
  | ⟨0, _⟩ => show win0_1.index t 0 * 2048 + 1 * k.val = t.val % 2 * 2048 + k.val; rw [(idx1 t).1]; omega
  | ⟨1, _⟩ => show win0_1.index t 1 * 1024 + 1 * s.val = t.val % 4 / 2 * 1024 + s.val; rw [(idx1 t).2]; omega

theorem blk2 (t : Fin cfg0.N) (y : S1024x1024.Idx) :
    (iblk m c 2 t : Vec Ideal S1024x1024 .f32) y = a2 m c (((cfg0.win 3).blk t).view.emb y) := by
  obtain ⟨r, s, rfl⟩ : ∃ r s, y = ix2 r s := ⟨y 0, y 1, by idx_ext⟩
  unfold iblk
  rw [View.read_apply]
  show V m c main_arg2 _ = _
  rw [V_main_arg2]
  refine congrArg (a2 m c) ?_
  funext a
  apply Fin.ext
  match a with
  | ⟨0, _⟩ => show win0_2.index t 0 * 1024 + 1 * r.val = win0_3.index t 0 * 1024 + 1 * r.val; rw [(idx2 t).1, (idx3 t).1]
  | ⟨1, _⟩ => show win0_2.index t 1 * 1024 + 1 * s.val = win0_3.index t 1 * 1024 + 1 * s.val; rw [(idx2 t).2, (idx3 t).2]

theorem point (t : Fin cfg0.N) (y : S1024x1024.Idx) :
    k0_pay1 (F := Ideal) (iblk m c 0 t) (iblk m c 1 t) y = part m c t.val y := by
  obtain ⟨r, s, rfl⟩ : ∃ r s, y = ix2 r s := ⟨y 0, y 1, by idx_ext⟩
  rw [pay1_apply]
  exact Finset.sum_congr rfl fun k _ => congrArg₂ (· * ·) (blk0 m c t r k) (blk1 m c t k s)

/-- The scratch block after point `n`. -/
theorem scratch (n : ℕ) (h : n < cfg0.N) (y : S1024x1024.Idx) :
    (outsAt0 m c n h).2 y = ∑ t ∈ Finset.range (n % 2 + 1), part m c (n / 2 * 2 + t) y := by
  refine sweep (P := 2) (by decide) (fun n h => (outsAt0 m c n h).2) (part m c) (fun n h h0 y => ?_) (fun n h h0 y => ?_) n h y
  · rw [show outsAt0 m c n h = _ from outsAt0_A m c ⟨n, h⟩ h0 (by dsimp only; omega) (by dsimp only; omega)]
    dsimp only
    rw [scratch_A]
    exact point m c ⟨n, h⟩ y
  · rw [show outsAt0 m c (n + 1) h = _ from outsAt0_B m c ⟨n + 1, h⟩ h0 (by dsimp only; omega) (by dsimp only; omega)]
    dsimp only
    rw [scratch_B]
    exact congrArg _ (point m c ⟨n + 1, h⟩ y)

/-- The result's block after the last point of a run is the scratch block and the third argument's. -/
theorem out_last (t : Fin cfg0.N) (h1 : t.val % 2 = 1) :
    (outsAt0 m c t.val t.isLt).1 = addf (F := Ideal) (φ := .f32) (outsAt0 m c t.val t.isLt).2 (iblk m c 2 t : Vec Ideal S1024x1024 .f32) := by
  rw [outsAt0_B m c t (by omega) h1 h1]
  dsimp only
  rw [out_B, scratch_B]

/-- What the last point of a run writes back is its block of the sum. -/
theorem flushed (t : Fin cfg0.N) (hf : (cfg0.win 3).flush t = true) :
    (dats m 0 c).flushed 3 t = ((cfg0.win 3).blk t).view.read (Elt Ideal) (outProj (a0 m c) (a1 m c) (a2 m c)) := by
  have hN : cfg0.N = 16 := N_0
  have ht := t.isLt
  have h1 : t.val % 2 = 1 := (flush0_3 t).mp hf
  show (cfg0.win 3).cut (grid0.coords t) ((dats m 0 c).after 3 t) = _
  rw [after0_3, out_last m c t h1]
  funext y
  rw [View.read_apply]
  show (outsAt0 m c t.val t.isLt).2 y + (iblk m c 2 t : Vec Ideal S1024x1024 .f32) y
    = outProj (a0 m c) (a1 m c) (a2 m c) (((cfg0.win 3).blk t).view.emb y)
  unfold outProj
  refine congrArg₂ (· + ·) ?_ (blk2 m c t y)
  obtain ⟨r, s, rfl⟩ : ∃ r s, y = ix2 r s := ⟨y 0, y 1, by idx_ext⟩
  rw [scratch, h1, Finset.sum_range]
  unfold part
  rw [Fin.sum_univ_tiles 2 2048 rfl]
  refine Finset.sum_congr rfl fun u _ => Finset.sum_congr rfl fun k _ => ?_
  refine congrArg₂ (· * ·) (congrArg (a0 m c) ?_) (congrArg₂ (ofRows (a1 m c)) (Fin.ext ?_) (Fin.ext ?_))
  · funext a
    apply Fin.ext
    match a with
    | ⟨0, _⟩ =>
      show ((t.val / 2 * 2 + u.val) / 4 * 1024 + r.val) % 4096 = win0_3.index t 0 * 1024 + 1 * r.val
      rw [(idx3 t).1]; omega
    | ⟨1, _⟩ => show (t.val / 2 * 2 + u.val) % 2 * 2048 + k.val = u.val * 2048 + k.val; omega
  · show (t.val / 2 * 2 + u.val) % 2 * 2048 + k.val = u.val * 2048 + k.val; omega
  · show (t.val / 2 * 2 + u.val) % 4 / 2 * 1024 + s.val = win0_3.index t 1 * 1024 + 1 * s.val
    rw [(idx3 t).2]; omega

theorem onto : ∀ (p : Fin 4) (q : Fin 2), ∃ t : Fin cfg0.N,
    t.val % 2 = 1 ∧ win0_3.index t 0 = p.val ∧ win0_3.index t 1 = q.val :=
  (by decide +kernel : ∀ (p : Fin 4) (q : Fin 2), ∃ t : Fin grid0.N,
    t.val % 2 = 1 ∧ win0_3.index t 0 = p.val ∧ win0_3.index t 1 = q.val)

/-- The eight blocks fill the array. -/
theorem final : (dats m 0 c).arrAt 3 cfg0.N = outProj (a0 m c) (a1 m c) (a2 m c) :=
  (dats m 0 c).arrAt_eq_of_cover 3 (outProj (a0 m c) (a1 m c) (a2 m c)) (flushed m c) fun i => by
    have h0 : (i 0).val < 4096 := (i 0).isLt
    have h1 : (i 1).val < 2048 := (i 1).isLt
    obtain ⟨t, e, e0, e1⟩ := onto ⟨(i 0).val / 1024, by omega⟩ ⟨(i 1).val / 1024, by omega⟩
    dsimp only at e0 e1
    refine ⟨t, (flush0_3 t).mpr e, ?_⟩
    show i ∈ ((View.whole main_v1).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 1024 ≤ (i 1).val ∧ (i 1).val < win0_3.index t 1 * 1024 + 1024; omega

end Cert.Kernel11Ideal.Product

namespace Cert.Reference11Ideal.Product

open Idealize.ShloMosaic Cert.Reference11Ideal Cert.Reference11Ideal.Gen Cert.Reference11Ideal.Read Cert.Products

/-- The reference's result is the same sum. -/
theorem result (x : Vec Ideal S4096x4096 .bf16) (w : Vec Ideal S4x1024x2048 .bf16) (d : Vec Ideal S4096x2048 .f32) :
    val_main_v4 (F := Ideal) x w d = outProj x w d := by
  funext i
  rw [val_main_v4_apply]
  unfold outProj
  show d i + val_main_v3 (F := Ideal) x w i = _
  rw [val_main_v3_apply, add_comm]
  refine congrArg (· + d i) (Finset.sum_congr rfl fun k _ => ?_)
  show x _ * val_main_v0 (F := Ideal) w _ = _
  rw [val_main_v0_apply]
  have hk := k.isLt
  have h1 : (i 1).val < 2048 := (i 1).isLt
  refine congrArg₂ (· * ·) (congrArg x (by idx_ext)) (congrArg w ?_)
  funext a
  apply Fin.ext
  match a with
  | ⟨0, _⟩ => show (k.val * 2048 + (i 1).val) / 2097152 = k.val / 1024; omega
  | ⟨1, _⟩ => show (k.val * 2048 + (i 1).val) / 2048 % 1024 = k.val % 1024; omega
  | ⟨2, _⟩ => show (k.val * 2048 + (i 1).val) % 2048 = (i 1).val; omega

end Cert.Reference11Ideal.Product

end
-- ==== Proof.Gate.lean ====
/- The gate's derivative, an element at a time: the sigmoid is a real number whatever the gate is, and the two ways of writing
   the gate's gradient agree where the incoming gradient is real. -/
module

public import Idealize.ShloMosaic.Lib.Pointwise

@[expose] public section

noncomputable section

namespace Cert.Gate

open Idealize.ShloMosaic

/-- The sigmoid of a gate. -/
def sigm (g : EReal) : EReal := Ideal.div 1 (1 + Ideal.exp (-g))

theorem sig_top : sigm ⊤ = 1 := by
  unfold sigm
  rw [show Ideal.exp (-(⊤ : EReal)) = 0 from rfl, add_zero, Ideal.div, if_neg one_ne_zero, inv_one, mul_one]

theorem sig_bot : sigm ⊥ = 0 := by
  unfold sigm
  rw [show Ideal.exp (-(⊥ : EReal)) = ⊤ from rfl, show (1 : EReal) + ⊤ = ⊤ from rfl, Ideal.div, if_neg EReal.top_ne_zero,
    EReal.inv_top, mul_zero]

theorem sig_real (g : ℝ) : ∃ s : ℝ, sigm g = s := by
  have h : (0 : ℝ) < 1 + Real.exp (-g) := by positivity
  refine ⟨(1 + Real.exp (-g))⁻¹, ?_⟩
  unfold sigm
  rw [show Ideal.exp (-(g : EReal)) = ((Real.exp (-g) : ℝ) : EReal) from rfl, ← EReal.coe_one, ← EReal.coe_add, Ideal.div,
    if_neg (by exact_mod_cast h.ne'), ← EReal.coe_inv, ← EReal.coe_mul, one_mul]

/-- The gate's gradient from the gradient `t` of the gated value, with the sigmoid's factor taken out, -/
def grad (t g : EReal) : EReal := t * (sigm g * (1 + g * (1 - sigm g)))

/-- and through the product's own derivative. -/
def gradSum (t g : EReal) : EReal := t * sigm g + g * t * (sigm g * (1 - sigm g))

/-- They agree for a real `t`, whatever the gate. -/
theorem gradSum_eq (t g : EReal) (ht : ∃ r : ℝ, t = r) : gradSum t g = grad t g := by
  obtain ⟨r, rfl⟩ := ht
  unfold gradSum grad
  induction g using EReal.rec with
  | bot => rw [sig_bot]; simp
  | top => rw [sig_top, show (1 : EReal) - 1 = 0 from by rw [← EReal.coe_one, ← EReal.coe_sub, sub_self, EReal.coe_zero]]; simp
  | coe g =>
    obtain ⟨s, hs⟩ := sig_real g
    rw [hs]
    norm_cast
    ring

end Cert.Gate

end
-- ==== Proof.GateBwd1.lean ====
/- The second layer's gate, backward: what the grid of 16 blocks leaves in its three results, and the reference's gradients of
   the mixed values, of the gate and of the scale of the columns, with the precondition that makes the two agree. -/
module

public import proofs.«01_k».proof.Proof.Gen.Kernel12Ideal.Frame
public import proofs.«01_k».proof.Proof.Gen.Reference12Ideal.Read
public import proofs.«01_k».proof.Proof.Gate
public import proofs.«01_k».proof.Proof.Finite
public import proofs.«01_k».proof.Pre_branch1_finite
public import Idealize.ShloMosaic.Lib.Pipeline.Value
public import Idealize.ShloMosaic.Lib.Pointwise
public import Idealize.ShloMosaic.Lib.ReduceAll

@[expose] public section

set_option maxRecDepth 16384

noncomputable section

namespace Cert.Gate1

open Idealize.ShloMosaic Cert.Gate

/-- The chip that holds a row of the output weights, and the row's place on it. -/
def chip (q : Fin 4096) : Fin 4 := ⟨q.val / 1024, by omega⟩
def place (q : Fin 4096) : Fin 1024 := ⟨q.val % 1024, by omega⟩

/-- The gradient of the gated branch at position `r`, column `q`: the output's gradient times the output weights. -/
def branch (x : Vec Ideal Cert.Kernel12Ideal.S4096x2048 .bf16) (w : Vec Ideal Cert.Kernel12Ideal.S4x1024x2048 .bf16) (r q : Fin 4096) : EReal :=
  ∑ k : Fin 2048, x (ix2 r k) * w (ix3 (chip q) (place q) k)

/-- The gate at position `r`, column `q`. -/
def gate (g : Vec Ideal Cert.Kernel12Ideal.S4096x14336 .bf16) (r q : Fin 4096) : EReal := g (ix2 r (⟨10240 + q.val, by omega⟩ : Fin 14336))

/-- The gradient of the mixed value, -/
def mixed (x : Vec Ideal Cert.Kernel12Ideal.S4096x2048 .bf16) (w : Vec Ideal Cert.Kernel12Ideal.S4x1024x2048 .bf16) (g : Vec Ideal Cert.Kernel12Ideal.S4096x14336 .bf16) (s : Vec Ideal Cert.Kernel12Ideal.S1x4096 .f32) (i : Cert.Kernel12Ideal.S4096x4096.Idx) : EReal :=
  branch x w (i 0) (i 1) * (gate g (i 0) (i 1) * sigm (gate g (i 0) (i 1))) * s (ix2 (0 : Fin 1) (i 1))

/-- of the gate, -/
def gated (x : Vec Ideal Cert.Kernel12Ideal.S4096x2048 .bf16) (w : Vec Ideal Cert.Kernel12Ideal.S4x1024x2048 .bf16) (p : Vec Ideal Cert.Kernel12Ideal.S4096x4096 .bf16) (g : Vec Ideal Cert.Kernel12Ideal.S4096x14336 .bf16) (s : Vec Ideal Cert.Kernel12Ideal.S1x4096 .f32) (i : Cert.Kernel12Ideal.S4096x4096.Idx) : EReal :=
  grad (branch x w (i 0) (i 1) * p i * s (ix2 (0 : Fin 1) (i 1))) (gate g (i 0) (i 1))

/-- and, one element before the sum over the rows, of the scale of the columns, -/
def colAt (x : Vec Ideal Cert.Kernel12Ideal.S4096x2048 .bf16) (w : Vec Ideal Cert.Kernel12Ideal.S4x1024x2048 .bf16) (p : Vec Ideal Cert.Kernel12Ideal.S4096x4096 .bf16) (g : Vec Ideal Cert.Kernel12Ideal.S4096x14336 .bf16) (r q : Fin 4096) : EReal :=
  branch x w r q * p (ix2 r q) * (gate g r q * sigm (gate g r q))

/-- summed over each half of the rows. -/
def col (x : Vec Ideal Cert.Kernel12Ideal.S4096x2048 .bf16) (w : Vec Ideal Cert.Kernel12Ideal.S4x1024x2048 .bf16) (p : Vec Ideal Cert.Kernel12Ideal.S4096x4096 .bf16) (g : Vec Ideal Cert.Kernel12Ideal.S4096x14336 .bf16) (i : Cert.Kernel12Ideal.S2x1x4096.Idx) : EReal :=
  ∑ r : Fin 2048, colAt x w p g ⟨(i 0).val * 2048 + r.val, by have h : (i 0).val < 2 := (i 0).isLt; omega⟩ (i 2)

end Cert.Gate1

namespace Cert.Kernel12Ideal.Product

open Idealize.ShloMosaic Idealize.ShloMosaic.TcCoe Idealize.SL.Sem Cert.Kernel12Ideal Cert.Kernel12Ideal.Gen Cert.Gate Cert.Gate1

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Block

variable (x : Vec Ideal S2048x2048 .bf16) (w : Vec Ideal S1x512x2048 .bf16) (p g : Vec Ideal S2048x512 .bf16)
  (s : Vec Ideal S1x512 .f32) (r : Fin 2048) (q : Fin 512)

/-- One block of the branch's gradient. -/
def bl : EReal := ∑ k : Fin 2048, x (ix2 r k) * w (ix3 (0 : Fin 1) q k)

theorem branch_block : k0_pay2 (F := Ideal) x w (ix2 r q) = bl x w r q := by
  unfold bl
  pointwise [k0_pay2]

theorem sigm_block : k0_pay4 (F := Ideal) g (ix2 r q) = sigm (g (ix2 r q)) := by
  unfold sigm
  show Ideal.div (Ideal.ofBits .f32 0x3F800000#32) (Ideal.ofBits .f32 0x3F800000#32
    + Ideal.exp (Ideal.ofBits .f32 0x00000000#32 - g (ix2 r q))) = _
  rw [Ideal.ofBits_one_f32, Ideal.ofBits_zero_f32, zero_sub]

theorem silu_block : k0_pay5 (F := Ideal) g (ix2 r q) = g (ix2 r q) * sigm (g (ix2 r q)) := by
  rw [← sigm_block]
  rfl

theorem scale_block : broadcastTo S2048x512 s broadcasts_S1x512_S2048x512 (ix2 r q) = s (ix2 (0 : Fin 1) q) := by
  pointwise

theorem out5_apply : out0_5 (F := Ideal) x w p g s (ix2 r q) =
    bl x w r q * (g (ix2 r q) * sigm (g (ix2 r q))) * s (ix2 (0 : Fin 1) q) := by
  unfold out0_5
  rw [View.canon_unit_zero hz2]
  simp only [View.ld_unit_zero (S := S2048x2048) hz2, View.ld_unit_zero (S := S1x512x2048) hz3,
    View.ld_unit_zero (S := S2048x512) hz2, View.ld_unit_zero (S := S1x512) hz2]
  rw [← branch_block, ← silu_block, ← scale_block s r q]
  rfl

theorem out6_apply : out0_6 (F := Ideal) x w p g s (ix2 r q) =
    grad (bl x w r q * p (ix2 r q) * s (ix2 (0 : Fin 1) q)) (g (ix2 r q)) := by
  unfold out0_6 grad
  rw [View.canon_unit_zero hz2]
  simp only [View.ld_unit_zero (S := S2048x2048) hz2, View.ld_unit_zero (S := S1x512x2048) hz3,
    View.ld_unit_zero (S := S2048x512) hz2, View.ld_unit_zero (S := S1x512) hz2]
  rw [← branch_block, ← sigm_block, ← scale_block s r q, ← Ideal.ofBits_one_f32]
  rfl

theorem out7_apply (a b : Fin 1) : out0_7 (F := Ideal) x w p g s (ix3 a b q) =
    ∑ r : Fin 2048, bl x w r q * p (ix2 r q) * (g (ix2 r q) * sigm (g (ix2 r q))) := by
  unfold out0_7
  rw [View.canon_unit_zero hz3]
  simp only [View.ld_unit_zero (S := S2048x2048) hz2, View.ld_unit_zero (S := S1x512x2048) hz3,
    View.ld_unit_zero (S := S2048x512) hz2, View.ld_unit_zero (S := S1x512) hz2]
  have e : k0_pay1 (F := Ideal) (k0_pay5 g) (k0_pay6 x w p) (ix3 a b q) =
      ∑ r : Fin 2048, k0_pay6 (F := Ideal) x w p (ix2 r q) * k0_pay5 (F := Ideal) g (ix2 r q) := by
    pointwise [k0_pay1]
  rw [e]
  refine Finset.sum_congr rfl fun r _ => ?_
  rw [silu_block, ← branch_block]
  rfl

end Block

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 / 2 ∧ win0_1.index t 1 = t.val % 8 % 2 ∧ win0_1.index t 2 = 0 :=
  (by decide +kernel : ∀ t : Fin grid0.N,
    win0_1.index t 0 = t.val % 8 / 2 ∧ win0_1.index t 1 = t.val % 8 % 2 ∧ win0_1.index t 2 = 0)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx3 : ∀ t : Fin cfg0.N, win0_3.index t 0 = t.val / 8 ∧ win0_3.index t 1 = t.val % 8 + 20 :=
  (by decide +kernel : ∀ t : Fin grid0.N, win0_3.index t 0 = t.val / 8 ∧ win0_3.index t 1 = t.val % 8 + 20)
theorem idx4 : ∀ t : Fin cfg0.N, win0_4.index t 0 = 0 ∧ win0_4.index t 1 = t.val % 8 :=
  (by decide +kernel : ∀ t : Fin grid0.N, win0_4.index t 0 = 0 ∧ win0_4.index t 1 = t.val % 8)
theorem idx5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)
theorem idx6 : ∀ t : Fin cfg0.N, win0_6.index t 0 = t.val / 8 ∧ win0_6.index t 1 = t.val % 8 + 2 :=
  (by decide +kernel : ∀ t : Fin grid0.N, win0_6.index t 0 = t.val / 8 ∧ win0_6.index t 1 = t.val % 8 + 2)
theorem idx7 : ∀ t : Fin cfg0.N, win0_7.index t 0 = t.val / 8 ∧ win0_7.index t 1 = 0 ∧ win0_7.index t 2 = t.val % 8 :=
  (by decide +kernel : ∀ t : Fin grid0.N,
    win0_7.index t 0 = t.val / 8 ∧ win0_7.index t 1 = 0 ∧ win0_7.index t 2 = t.val % 8)

/-- The five arguments as launched. -/
abbrev a0 : Vec Ideal S4096x2048 .bf16 := m ((c : Thread nD τ).loc main_arg0)
abbrev a1 : Vec Ideal S4x1024x2048 .bf16 := m ((c : Thread nD τ).loc main_arg1)
abbrev a2 : Vec Ideal S4096x4096 .bf16 := m ((c : Thread nD τ).loc main_arg2)
abbrev a3 : Vec Ideal S4096x14336 .bf16 := m ((c : Thread nD τ).loc main_arg3)
abbrev a4 : Vec Ideal S1x4096 .f32 := m ((c : Thread nD τ).loc main_arg4)

section Blocks

variable (t : Fin cfg0.N) (r : Fin 2048) (q : Fin 512) (R Q : Fin 4096) (hR : R.val = t.val / 8 * 2048 + r.val)
  (hQ : Q.val = t.val % 8 * 512 + q.val)

include hR in
theorem blk0 (k : Fin 2048) : (iblk m c 0 t : Vec Ideal S2048x2048 .bf16) (ix2 r k) = a0 m c (ix2 R k) := by
  unfold iblk
  rw [View.read_apply]
  show V m c main_arg0 _ = _
  rw [V_main_arg0]
  refine congrArg (a0 m c) ?_
  funext a
  apply Fin.ext
  match a with
  | ⟨0, _⟩ => show win0_0.index t 0 * 2048 + 1 * r.val = R.val; rw [(idx0 t).1]; omega
  | ⟨1, _⟩ => show win0_0.index t 1 * 2048 + 1 * k.val = k.val; rw [(idx0 t).2]; omega

include hQ in
theorem blk1 (k : Fin 2048) : (iblk m c 1 t : Vec Ideal S1x512x2048 .bf16) (ix3 (0 : Fin 1) q k) =
    a1 m c (ix3 (chip Q) (place Q) k) := by
  unfold iblk
  rw [View.read_apply]
  show V m c main_arg1 _ = _
  rw [V_main_arg1]
  refine congrArg (a1 m c) ?_
  funext a
  apply Fin.ext
  match a with
  | ⟨0, _⟩ => show win0_1.index t 0 * 1 + 1 * 0 = Q.val / 1024; rw [(idx1 t).1]; omega
  | ⟨1, _⟩ => show win0_1.index t 1 * 512 + 1 * q.val = Q.val % 1024; rw [(idx1 t).2.1]; omega
  | ⟨2, _⟩ => show win0_1.index t 2 * 2048 + 1 * k.val = k.val; rw [(idx1 t).2.2]; omega

include hR hQ in
theorem blk2 : (iblk m c 2 t : Vec Ideal S2048x512 .bf16) (ix2 r q) = a2 m c (ix2 R Q) := by
  unfold iblk
  rw [View.read_apply]
  show V m c main_arg2 _ = _
  rw [V_main_arg2]
  refine congrArg (a2 m c) ?_
  funext a
  apply Fin.ext
  match a with
  | ⟨0, _⟩ => show win0_2.index t 0 * 2048 + 1 * r.val = R.val; rw [(idx2 t).1]; omega
  | ⟨1, _⟩ => show win0_2.index t 1 * 512 + 1 * q.val = Q.val; rw [(idx2 t).2]; omega

include hR hQ in
theorem blk3 : (iblk m c 3 t : Vec Ideal S2048x512 .bf16) (ix2 r q) = gate (a3 m c) R Q := by
  unfold iblk gate
  rw [View.read_apply]
  show V m c main_arg3 _ = _
  rw [V_main_arg3]
  refine congrArg (a3 m c) ?_
  funext a
  apply Fin.ext
  match a with
  | ⟨0, _⟩ => show win0_3.index t 0 * 2048 + 1 * r.val = R.val; rw [(idx3 t).1]; omega
  | ⟨1, _⟩ => show win0_3.index t 1 * 512 + 1 * q.val = 10240 + Q.val; rw [(idx3 t).2]; omega

include hQ in
theorem blk4 : (iblk m c 4 t : Vec Ideal S1x512 .f32) (ix2 (0 : Fin 1) q) = a4 m c (ix2 (0 : Fin 1) Q) := by
  unfold iblk
  rw [View.read_apply]
  show V m c main_arg4 _ = _
  rw [V_main_arg4]
  refine congrArg (a4 m c) ?_
  funext a
  apply Fin.ext
  match a with
  | ⟨0, _⟩ => show win0_4.index t 0 * 1 + 1 * 0 = 0; rw [(idx4 t).1]
  | ⟨1, _⟩ => show win0_4.index t 1 * 512 + 1 * q.val = Q.val; rw [(idx4 t).2]; omega

include hR hQ in
theorem bl_eq : bl (iblk m c 0 t) (iblk m c 1 t) r q = branch (a0 m c) (a1 m c) R Q := by
  unfold bl branch
  exact Finset.sum_congr rfl fun k _ => congrArg₂ (· * ·) (blk0 m c t r R hR k) (blk1 m c t q Q hQ k)

end Blocks

theorem flushed5 (t : Fin cfg0.N) : (dats m 0 c).flushed 5 t =
    ((cfg0.win 5).blk t).view.read (Elt Ideal) (mixed (a0 m c) (a1 m c) (a3 m c) (a4 m c)) := by
  show (cfg0.win 5).cut (grid0.coords t) ((dats m 0 c).after 5 t) = _
  rw [after0_5]
  funext y
  obtain ⟨r, q, rfl⟩ : ∃ r q, y = ix2 r q := ⟨y 0, y 1, by idx_ext⟩
  rw [View.read_apply]
  show out0_5 (iblk m c 0 t) (iblk m c 1 t) (iblk m c 2 t) (iblk m c 3 t) (iblk m c 4 t) (ix2 r q) =
    mixed (a0 m c) (a1 m c) (a3 m c) (a4 m c) (((cfg0.win 5).blk t).view.emb (ix2 r q))
  have hR : ((((cfg0.win 5).blk t).view.emb (ix2 r q)) 0).val = t.val / 8 * 2048 + r.val := by
    show win0_5.index t 0 * 2048 + 1 * r.val = _; rw [(idx5 t).1]; omega
  have hQ : ((((cfg0.win 5).blk t).view.emb (ix2 r q)) 1).val = t.val % 8 * 512 + q.val := by
    show win0_5.index t 1 * 512 + 1 * q.val = _; rw [(idx5 t).2]; omega
  rw [out5_apply, blk3 m c t r q _ _ hR hQ, blk4 m c t q _ hQ, bl_eq m c t r q _ _ hR hQ]
  rfl

/-- The array the gate's gradient is written into, at every column: what it holds where it is written. -/
def wide (i : S4096x5120.Idx) : EReal :=
  gated (a0 m c) (a1 m c) (a2 m c) (a3 m c) (a4 m c) (ix2 (i 0) (⟨((i 1).val - 1024) % 4096, by omega⟩ : Fin 4096))

theorem flushed6 (t : Fin cfg0.N) : (dats m 0 c).flushed 6 t = ((cfg0.win 6).blk t).view.read (Elt Ideal) (wide m c) := by
  show (cfg0.win 6).cut (grid0.coords t) ((dats m 0 c).after 6 t) = _
  rw [after0_6]
  funext y
  obtain ⟨r, q, rfl⟩ : ∃ r q, y = ix2 r q := ⟨y 0, y 1, by idx_ext⟩
  rw [View.read_apply]
  show out0_6 (iblk m c 0 t) (iblk m c 1 t) (iblk m c 2 t) (iblk m c 3 t) (iblk m c 4 t) (ix2 r q) =
    gated (a0 m c) (a1 m c) (a2 m c) (a3 m c) (a4 m c) (ix2 ((((cfg0.win 6).blk t).view.emb (ix2 r q)) 0)
      (⟨(((((cfg0.win 6).blk t).view.emb (ix2 r q)) 1).val - 1024) % 4096, _⟩ : Fin 4096))
  generalize hR' : (((cfg0.win 6).blk t).view.emb (ix2 r q)) 0 = R
  generalize hQ' : (⟨(((((cfg0.win 6).blk t).view.emb (ix2 r q)) 1).val - 1024) % 4096, _⟩ : Fin 4096) = Q
  have hR : R.val = t.val / 8 * 2048 + r.val := by
    rw [← hR']; show win0_6.index t 0 * 2048 + 1 * r.val = _; rw [(idx6 t).1]; omega
  have hQ : Q.val = t.val % 8 * 512 + q.val := by
    rw [← hQ']; show (win0_6.index t 1 * 512 + 1 * q.val - 1024) % 4096 = _; rw [(idx6 t).2]; omega
  rw [out6_apply, blk3 m c t r q R Q hR hQ, blk4 m c t q Q hQ, blk2 m c t r q R Q hR hQ, bl_eq m c t r q R Q hR hQ]
  rfl

theorem flushed7 (t : Fin cfg0.N) : (dats m 0 c).flushed 7 t =
    ((cfg0.win 7).blk t).view.read (Elt Ideal) (col (a0 m c) (a1 m c) (a2 m c) (a3 m c)) := by
  show (cfg0.win 7).cut (grid0.coords t) ((dats m 0 c).after 7 t) = _
  rw [after0_7]
  funext y
  obtain ⟨a, b, q, rfl⟩ : ∃ a b q, y = ix3 a b q := ⟨y 0, y 1, y 2, by idx_ext⟩
  rw [View.read_apply]
  show out0_7 (iblk m c 0 t) (iblk m c 1 t) (iblk m c 2 t) (iblk m c 3 t) (iblk m c 4 t) (ix3 a b q) =
    col (a0 m c) (a1 m c) (a2 m c) (a3 m c) (((cfg0.win 7).blk t).view.emb (ix3 a b q))
  have hA : ((((cfg0.win 7).blk t).view.emb (ix3 a b q)) 0).val = t.val / 8 := by
    show win0_7.index t 0 * 1 + 1 * a.val = _; rw [(idx7 t).1]; omega
  have hQ : ((((cfg0.win 7).blk t).view.emb (ix3 a b q)) 2).val = t.val % 8 * 512 + q.val := by
    show win0_7.index t 2 * 512 + 1 * q.val = _; rw [(idx7 t).2.2]; omega
  rw [out7_apply]
  unfold col colAt
  refine Finset.sum_congr rfl fun r _ => ?_
  have hR : (⟨((((cfg0.win 7).blk t).view.emb (ix3 a b q)) 0).val * 2048 + r.val, by
      have h : ((((cfg0.win 7).blk t).view.emb (ix3 a b q)) 0).val < 2 := ((((cfg0.win 7).blk t).view.emb (ix3 a b q)) 0).isLt
      omega⟩ : Fin 4096).val = t.val / 8 * 2048 + r.val := by
    dsimp only; rw [hA]
  rw [blk3 m c t r q _ _ hR hQ, blk2 m c t r q _ _ hR hQ, bl_eq m c t r q _ _ hR hQ]

theorem onto5 : ∀ (p : Fin 2) (q : Fin 8), ∃ t : Fin cfg0.N, win0_5.index t 0 = p.val ∧ win0_5.index t 1 = q.val :=
  (by decide +kernel : ∀ (p : Fin 2) (q : Fin 8), ∃ t : Fin grid0.N, win0_5.index t 0 = p.val ∧ win0_5.index t 1 = q.val)
theorem onto6 : ∀ (p : Fin 2) (q : Fin 8), ∃ t : Fin cfg0.N, win0_6.index t 0 = p.val ∧ win0_6.index t 1 = q.val + 2 :=
  (by decide +kernel : ∀ (p : Fin 2) (q : Fin 8), ∃ t : Fin grid0.N,
    win0_6.index t 0 = p.val ∧ win0_6.index t 1 = q.val + 2)
theorem onto7 : ∀ (p : Fin 2) (q : Fin 8), ∃ t : Fin cfg0.N, win0_7.index t 0 = p.val ∧ win0_7.index t 2 = q.val :=
  (by decide +kernel : ∀ (p : Fin 2) (q : Fin 8), ∃ t : Fin grid0.N, win0_7.index t 0 = p.val ∧ win0_7.index t 2 = q.val)

/-- The 16 blocks fill the mixed value's gradient, -/
theorem final5 : (dats m 0 c).arrAt 5 cfg0.N = mixed (a0 m c) (a1 m c) (a3 m c) (a4 m c) :=
  (dats m 0 c).arrAt_eq_of_cover 5 (mixed (a0 m c) (a1 m c) (a3 m c) (a4 m c)) (fun t _ => flushed5 m c t) fun i => by
    have h0 : (i 0).val < 4096 := (i 0).isLt
    have h1 : (i 1).val < 4096 := (i 1).isLt
    obtain ⟨t, e0, e1⟩ := onto5 ⟨(i 0).val / 2048, by omega⟩ ⟨(i 1).val / 512, by omega⟩
    dsimp only at e0 e1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 2048 ≤ (i 0).val ∧ (i 0).val < win0_5.index t 0 * 2048 + 2048; omega
    | ⟨1, _⟩ => show win0_5.index t 1 * 512 ≤ (i 1).val ∧ (i 1).val < win0_5.index t 1 * 512 + 512; omega

/-- the scale's, -/
theorem final7 : (dats m 0 c).arrAt 7 cfg0.N = col (a0 m c) (a1 m c) (a2 m c) (a3 m c) :=
  (dats m 0 c).arrAt_eq_of_cover 7 (col (a0 m c) (a1 m c) (a2 m c) (a3 m c)) (fun t _ => flushed7 m c t) fun i => by
    have h0 : (i 0).val < 2 := (i 0).isLt
    have h1 : (i 1).val < 1 := (i 1).isLt
    have h2 : (i 2).val < 4096 := (i 2).isLt
    obtain ⟨t, e0, e2⟩ := onto7 ⟨(i 0).val, h0⟩ ⟨(i 2).val / 512, by omega⟩
    dsimp only at e0 e2
    refine ⟨t, flush0_7 t, ?_⟩
    show i ∈ ((View.whole main_v0_2).slice (win0_7.rect t)).set
    rw [View.set_slice_whole, Rect.mem_set_unit]
    have e1 := (idx7 t).2.1
    intro a
    match a with
    | ⟨0, _⟩ => show win0_7.index t 0 * 1 ≤ (i 0).val ∧ (i 0).val < win0_7.index t 0 * 1 + 1; omega
    | ⟨1, _⟩ => show win0_7.index t 1 * 1 ≤ (i 1).val ∧ (i 1).val < win0_7.index t 1 * 1 + 1; omega
    | ⟨2, _⟩ => show win0_7.index t 2 * 512 ≤ (i 2).val ∧ (i 2).val < win0_7.index t 2 * 512 + 512; omega

/-- and the columns of the gate's gradient that are read. -/
theorem written (i : S4096x5120.Idx) (h : 1024 ≤ (i 1).val) : (dats m 0 c).arrAt 6 cfg0.N i = wide m c i := by
  have h0 : (i 0).val < 4096 := (i 0).isLt
  have h1 : (i 1).val < 5120 := (i 1).isLt
  obtain ⟨t, e0, e1⟩ := onto6 ⟨(i 0).val / 2048, by omega⟩ ⟨(i 1).val / 512 - 2, by omega⟩
  dsimp only at e0 e1
  refine (dats m 0 c).arrAt_apply_of_mem 6 (wide m c) (fun t _ => flushed6 m c t) cfg0.N t i t.isLt (flush0_6 t) ?_
  show i ∈ ((View.whole main_v0_1).slice (win0_6.rect t)).set
  rw [View.set_slice_whole, Rect.mem_set_unit]
  intro a
  match a with
  | ⟨0, _⟩ => show win0_6.index t 0 * 2048 ≤ (i 0).val ∧ (i 0).val < win0_6.index t 0 * 2048 + 2048; omega
  | ⟨1, _⟩ => show win0_6.index t 1 * 512 ≤ (i 1).val ∧ (i 1).val < win0_6.index t 1 * 512 + 512; omega

/-- The array after the call, as the operation behind it reads it. -/
theorem array : Pipeline.withArrays (cfgs 0).spec c (V0 m c) (fun w => (dats m 0 c).arrAt w (cfgs 0).N) (Proc.devRef .tc main_v0_1)
    = (dats m 0 c).arrAt 6 cfg0.N :=
  Pipeline.withArrays_arr spec0 launch0.win.arr_inj c (V0 m c) (fun w => (dats m 0 c).arrAt w cfg0.N) 6

theorem cut : Pipeline.afterTail₀ cfgs (dats m) 0 (V0 m) [hostOps1] c main_v1 =
    gated (a0 m c) (a1 m c) (a2 m c) (a3 m c) (a4 m c) := by
  show StableHlo.after hostOps1 (Pipeline.withArrays (cfgs 0).spec c (V0 m c) (fun w => (dats m 0 c).arrAt w (cfgs 0).N))
    (Proc.devRef .tc main_v1) = _
  unfold hostOps1
  simp only [StableHlo.after_cons, StableHlo.after_nil]
  rw [StableHlo.unary_result, array]
  funext i
  have h1 : (i 1).val < 4096 := (i 1).isLt
  refine (extractStridedSlice_apply ![0, 1024] ((dats m 0 c).arrAt 6 cfg0.N : Vec Ideal S4096x5120 .bf16)
    slices_S4096x5120_S4096x4096_0_1024 i (ix2 (i 0) (⟨1024 + (i 1).val, by omega⟩ : Fin 5120)) (fun a => ?_)).trans
    ((written m c _ (Nat.le_add_right _ _)).trans ?_)
  · match a with
    | ⟨0, _⟩ => show (i 0).val = 0 + (i 0).val; omega
    | ⟨1, _⟩ => rfl
  · refine congrArg (gated (a0 m c) (a1 m c) (a2 m c) (a3 m c) (a4 m c)) ?_
    funext a
    apply Fin.ext
    match a with
    | ⟨0, _⟩ => rfl
    | ⟨1, _⟩ => show (1024 + (i 1).val - 1024) % 4096 = (i 1).val; omega

/-- The run, with the three results and the arguments. -/
theorem run : θ_run defs (onTc (τ := τ) (main (F := Ideal))) ⟨m, fun _ => 0, ρ⟩ (fun r => ∀ c : Dev nD,
    r.2.mem ((c.tc : Thread nD τ).loc main_v0_0) = mixed (a0 m c) (a1 m c) (a3 m c) (a4 m c)
    ∧ r.2.mem ((c.tc : Thread nD τ).loc main_v1) = gated (a0 m c) (a1 m c) (a2 m c) (a3 m c) (a4 m c)
    ∧ r.2.mem ((c.tc : Thread nD τ).loc main_v0_2) = col (a0 m c) (a1 m c) (a2 m c) (a3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c =>
    ⟨((h c).1 5).trans (final5 m c),
     ((h c).2 main_v1 (Pipeline.mem_restRefs_of main_v1 (by decide) (by decide))).trans (cut m c),
     ((h c).1 7).trans (final7 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩) (run_main m ρ)

end Cert.Kernel12Ideal.Product

namespace Cert.Gate1

open Idealize.ShloMosaic Cert.Gate Cert.Finite Cert.Attn Cert.Pre_branch1_finite

instance facts : Cert.Pre_branch1_finite.Facts where
  bitsLt_bf16_f32 := by decide
  bcast_S_S4096x2048 := by decide
  reducesTo_S4096x2048_S_d0_1 := by decide
  h_S_ := by decide
  bcast_S_S4x1024x2048 := by decide
  reducesTo_S4x1024x2048_S_d0_1_2 := by decide
  bcast_S_S4096x4096 := by decide
  reducesTo_S4096x4096_S_d0_1 := by decide
  bcast_S_S1x4096 := by decide
  reducesTo_S1x4096_S_d0_1 := by decide

variable (x : Vec Ideal S4096x2048 .bf16) (w : Vec Ideal S4x1024x2048 .bf16) (p : Vec Ideal S4096x4096 .bf16)
  (g : Vec Ideal S4096x14336 .bf16) (s : Vec Ideal S1x4096 .f32)

/-- Under the precondition the output's gradient, the output weights, the mixed values and the scale are real numbers, -/
theorem reals (hp : fn (F := Ideal) x w p g s = fun _ => 1#1) :
    (∀ i, ∃ r : ℝ, x i = r) ∧ (∀ i, ∃ r : ℝ, w i = r) ∧ (∀ i, ∃ r : ℝ, p i = r) ∧ (∀ i, ∃ r : ℝ, s i = r) := by
  have h0 := congrFun hp (fun a => Fin.elim0 a)
  dsimp only [fn, fn_part1] at h0
  obtain ⟨h3, hs⟩ := IntOp.andi_eq_one.1 h0
  obtain ⟨h2, hm⟩ := IntOp.andi_eq_one.1 h3
  obtain ⟨hx, hw⟩ := IntOp.andi_eq_one.1 h2
  haveI : Subsingleton S_.Idx := ⟨fun a b => funext fun i => i.elim0⟩
  refine ⟨fun i => real_of_lt _ ?_, fun i => real_of_lt _ ?_, fun i => real_of_lt _ ?_, fun i => real_of_lt _ ?_⟩
  · have := lt_of_cmp _ _ (Host.reduce_andi_all _ _ _ _ _ hx i)
    rw [broadcastInDim, constant] at this
    exact lt_of_eq_of_lt rfl (this.trans_eq ofBits_top)
  · have := lt_of_cmp _ _ (Host.reduce_andi_all _ _ _ _ _ hw i)
    rw [broadcastInDim, constant] at this
    exact lt_of_eq_of_lt rfl (this.trans_eq ofBits_top)
  · have := lt_of_cmp _ _ (Host.reduce_andi_all _ _ _ _ _ hm i)
    rw [broadcastInDim, constant] at this
    exact lt_of_eq_of_lt rfl (this.trans_eq ofBits_top)
  · have := lt_of_cmp _ _ (Host.reduce_andi_all _ _ _ _ _ hs i)
    rw [broadcastInDim, constant] at this
    exact lt_of_eq_of_lt rfl (this.trans_eq ofBits_top)

/-- and so is the gradient of the product with the gate's activation. -/
theorem grad_real (hp : fn (F := Ideal) x w p g s = fun _ => 1#1) (i : S4096x4096.Idx) :
    ∃ r : ℝ, p i * s (ix2 (0 : Fin 1) (i 1)) * branch x w (i 0) (i 1) = r := by
  obtain ⟨hx, hw, hm, hs⟩ := reals x w p g s hp
  obtain ⟨a, ha⟩ := hm i
  obtain ⟨b, hb⟩ := hs (ix2 (0 : Fin 1) (i 1))
  obtain ⟨d, hd⟩ := sum_real Finset.univ (fun k : Fin 2048 => x (ix2 (i 0) k))
    (fun k => w (ix3 (chip (i 1)) (place (i 1)) k)) (fun k => hx _) (fun k => hw _)
  exact ⟨a * b * d, by unfold branch; rw [ha, hb, EReal.coe_mul, EReal.coe_mul]; exact congrArg ((a : EReal) * b * ·) hd⟩

end Cert.Gate1

namespace Cert.Reference12Ideal.Product

open Idealize.ShloMosaic Cert.Reference12Ideal Cert.Reference12Ideal.Gen Cert.Reference12Ideal.Read Cert.Gate Cert.Gate1

variable (x : Vec Ideal S4096x2048 .bf16) (w : Vec Ideal S4x1024x2048 .bf16) (p : Vec Ideal S4096x4096 .bf16)
  (g : Vec Ideal S4096x14336 .bf16) (s : Vec Ideal S1x4096 .f32)

/-- The reference's gradient of the branch, -/
theorem branch_eq (i : S4096x4096.Idx) : val_main_v13 (F := Ideal) x w i = branch x w (i 0) (i 1) := by
  rw [val_main_v13_apply]
  unfold branch
  refine Finset.sum_congr rfl fun k _ => congrArg₂ (· * ·) (congrArg x (by idx_ext)) ?_
  show val_main_v1 (F := Ideal) w (ridx_main_v13 i k) = _
  refine shapeCast_apply w shapeCasts_S4x1024x2048_S4096x2048 _ _ ?_
  rw [Shape.rowMajor_val_three, Shape.rowMajor_val_two]
  have h1 : (i 1).val < 4096 := (i 1).isLt
  show ((i 1).val / 1024 * 1024 + (i 1).val % 1024) * 2048 + k.val = (i 1).val * 2048 + k.val
  omega

/-- its gate, -/
theorem gate_eq (i : S4096x4096.Idx) : val_main_v4 (F := Ideal) g i = gate g (i 0) (i 1) := by
  show val_main_v0 (F := Ideal) g i = _
  rw [val_main_v0_apply]
  refine congrArg g ?_
  funext a
  apply Fin.ext
  match a with
  | ⟨0, _⟩ => rfl
  | ⟨1, _⟩ => rfl

/-- the gate's sigmoid, -/
theorem sigm_eq (i : S4096x4096.Idx) : val_main_v9_2 (F := Ideal) g i = sigm (gate g (i 0) (i 1)) := by
  rw [← gate_eq]
  unfold sigm
  show Ideal.div (Ideal.ofBits .f32 0x3F800000#32) (Ideal.ofBits .f32 0x3F800000#32
    + Ideal.exp (-(val_main_v4 (F := Ideal) g i))) = _
  rw [Ideal.ofBits_one_f32]

/-- and the scale of a column, the same in either half of the rows. -/
theorem scale_eq (i : S4096x4096.Idx) : val_main_v7 (F := Ideal) s i = s (ix2 (0 : Fin 1) (i 1)) := by
  have h0 : (i 0).val < 4096 := (i 0).isLt
  have h1 : (i 1).val < 4096 := (i 1).isLt
  rw [val_main_v7_apply, val_main_v6_apply]
  have hc : ((i 0).val * 4096 + (i 1).val) % 4096 = (i 1).val := by omega
  unfold val_main_v5
  rcases Nat.lt_or_ge (i 0).val 2048 with h | h
  · refine concatenate_pair_apply_left (t := S2x4096) (0 : Fin 2) s s _ _ rfl (ix2 (0 : Fin 1) (i 1)) fun b => ?_
    match b with
    | ⟨0, _⟩ => show 0 = ((i 0).val * 4096 + (i 1).val) / 8388608; omega
    | ⟨1, _⟩ => exact hc.symm
  · refine concatenate_pair_apply_right (t := S2x4096) (0 : Fin 2) s s _ _ rfl rfl (ix2 (0 : Fin 1) (i 1)) (fun b hb => ?_) ?_
    · match b with
      | ⟨0, _⟩ => exact absurd rfl hb
      | ⟨1, _⟩ => exact hc.symm
    · show 0 + 1 = ((i 0).val * 4096 + (i 1).val) / 8388608
      omega

theorem mixed_eq : val_main_v21 (F := Ideal) x w g s = mixed x w g s := by
  funext i
  show val_main_v13 (F := Ideal) x w i * (val_main_v4 (F := Ideal) g i * val_main_v9_2 (F := Ideal) g i)
    * val_main_v7 (F := Ideal) s i = _
  rw [branch_eq, gate_eq, sigm_eq, scale_eq]
  rfl

/-- The gate's gradient, for a real gradient of the activation. -/
theorem gated_eq (hr : ∀ i : S4096x4096.Idx, ∃ r : ℝ, p i * s (ix2 (0 : Fin 1) (i 1)) * branch x w (i 0) (i 1) = r) :
    val_main_v22 (F := Ideal) x w p g s = gated x w p g s := by
  funext i
  show p i * val_main_v7 (F := Ideal) s i * val_main_v13 (F := Ideal) x w i * val_main_v9_2 (F := Ideal) g i
    + val_main_v4 (F := Ideal) g i * (p i * val_main_v7 (F := Ideal) s i * val_main_v13 (F := Ideal) x w i)
      * (val_main_v9_2 (F := Ideal) g i * (Ideal.ofBits .f32 0x3F800000#32 - val_main_v9_2 (F := Ideal) g i)) = _
  rw [branch_eq, gate_eq, sigm_eq, scale_eq, Ideal.ofBits_one_f32]
  refine (gradSum_eq _ _ (hr i)).trans ?_
  unfold gated
  rw [mul_right_comm (p i), mul_comm (p i)]

/-- One element of the scale's gradient before the sum. -/
theorem colAt_eq (j : S4096x4096.Idx) : val_main_v17 (F := Ideal) x w p g j = colAt x w p g (j 0) (j 1) := by
  show p j * (val_main_v13 (F := Ideal) x w j * (val_main_v4 (F := Ideal) g j * val_main_v9_2 (F := Ideal) g j)) = _
  rw [branch_eq, gate_eq, sigm_eq, ← mul_assoc, mul_comm (p _)]
  unfold colAt
  exact congrArg (fun e => branch x w (j 0) (j 1) * e * (gate g (j 0) (j 1) * sigm (gate g (j 0) (j 1))))
    (congrArg p (by idx_ext))

theorem col_eq : val_main_v23 (F := Ideal) x w p g = col x w p g := by
  funext i
  rw [val_main_v23_apply, val_main_v20_apply]
  show Ideal.ofBits .f32 0x00000000#32 + _ = _
  rw [Ideal.ofBits_zero_f32, zero_add]
  unfold col
  refine Finset.sum_congr rfl fun r _ => ?_
  rw [val_main_v19_apply, colAt_eq]
  have h0 : (i 0).val < 2 := (i 0).isLt
  have h1 : (i 1).val < 1 := (i 1).isLt
  have h2 : (i 2).val < 4096 := (i 2).isLt
  have hr := r.isLt
  refine congrArg₂ (colAt x w p g) (Fin.ext ?_) (Fin.ext ?_)
  · show (((((i 0).val * 1 + (i 1).val) * 4096 + (i 2).val) / 4096 * 2048 + r.val) * 4096
      + (((i 0).val * 1 + (i 1).val) * 4096 + (i 2).val) % 4096) / 4096 = (i 0).val * 2048 + r.val
    omega
  · show (((((i 0).val * 1 + (i 1).val) * 4096 + (i 2).val) / 4096 * 2048 + r.val) * 4096
      + (((i 0).val * 1 + (i 1).val) * 4096 + (i 2).val) % 4096) % 4096 = (i 2).val
    omega

end Cert.Reference12Ideal.Product

end
-- ==== Proof.GateBwd0.lean ====
/- The first layer's gate, backward: what the grid of 16 blocks leaves in its three results, and the reference's gradients of
   the mixed values, of the gate and of the scale of the columns, with the precondition that makes the two agree. -/
module

public import proofs.«01_k».proof.Proof.Gen.Kernel13Ideal.Frame
public import proofs.«01_k».proof.Proof.Gen.Reference13Ideal.Read
public import proofs.«01_k».proof.Proof.Gate
public import proofs.«01_k».proof.Proof.Finite
public import proofs.«01_k».proof.Pre_branch0_finite
public import Idealize.ShloMosaic.Lib.Pipeline.Value
public import Idealize.ShloMosaic.Lib.Pointwise
public import Idealize.ShloMosaic.Lib.ReduceAll

@[expose] public section

set_option maxRecDepth 16384

noncomputable section

namespace Cert.Gate0

open Idealize.ShloMosaic Cert.Gate

/-- The chip that holds a row of the output weights, and the row's place on it. -/
def chip (q : Fin 4096) : Fin 4 := ⟨q.val / 1024, by omega⟩
def place (q : Fin 4096) : Fin 1024 := ⟨q.val % 1024, by omega⟩

/-- The gradient of the gated branch at position `r`, column `q`: the output's gradient times the output weights. -/
def branch (x : Vec Ideal Cert.Kernel13Ideal.S4096x2048 .bf16) (w : Vec Ideal Cert.Kernel13Ideal.S4x1024x2048 .bf16) (r q : Fin 4096) : EReal :=
  ∑ k : Fin 2048, x (ix2 r k) * w (ix3 (chip q) (place q) k)

/-- The gate at position `r`, column `q`. -/
def gate (g : Vec Ideal Cert.Kernel13Ideal.S4096x8192 .bf16) (r q : Fin 4096) : EReal := g (ix2 r (⟨4096 + q.val, by omega⟩ : Fin 8192))

/-- The gradient of the mixed value, -/
def mixed (x : Vec Ideal Cert.Kernel13Ideal.S4096x2048 .bf16) (w : Vec Ideal Cert.Kernel13Ideal.S4x1024x2048 .bf16) (g : Vec Ideal Cert.Kernel13Ideal.S4096x8192 .bf16) (s : Vec Ideal Cert.Kernel13Ideal.S1x4096 .f32) (i : Cert.Kernel13Ideal.S4096x4096.Idx) : EReal :=
  branch x w (i 0) (i 1) * (gate g (i 0) (i 1) * sigm (gate g (i 0) (i 1))) * s (ix2 (0 : Fin 1) (i 1))

/-- of the gate, -/
def gated (x : Vec Ideal Cert.Kernel13Ideal.S4096x2048 .bf16) (w : Vec Ideal Cert.Kernel13Ideal.S4x1024x2048 .bf16) (p : Vec Ideal Cert.Kernel13Ideal.S4096x4096 .bf16) (g : Vec Ideal Cert.Kernel13Ideal.S4096x8192 .bf16) (s : Vec Ideal Cert.Kernel13Ideal.S1x4096 .f32) (i : Cert.Kernel13Ideal.S4096x4096.Idx) : EReal :=
  grad (branch x w (i 0) (i 1) * p i * s (ix2 (0 : Fin 1) (i 1))) (gate g (i 0) (i 1))

/-- and, one element before the sum over the rows, of the scale of the columns, -/
def colAt (x : Vec Ideal Cert.Kernel13Ideal.S4096x2048 .bf16) (w : Vec Ideal Cert.Kernel13Ideal.S4x1024x2048 .bf16) (p : Vec Ideal Cert.Kernel13Ideal.S4096x4096 .bf16) (g : Vec Ideal Cert.Kernel13Ideal.S4096x8192 .bf16) (r q : Fin 4096) : EReal :=
  branch x w r q * p (ix2 r q) * (gate g r q * sigm (gate g r q))

/-- summed over each half of the rows. -/
def col (x : Vec Ideal Cert.Kernel13Ideal.S4096x2048 .bf16) (w : Vec Ideal Cert.Kernel13Ideal.S4x1024x2048 .bf16) (p : Vec Ideal Cert.Kernel13Ideal.S4096x4096 .bf16) (g : Vec Ideal Cert.Kernel13Ideal.S4096x8192 .bf16) (i : Cert.Kernel13Ideal.S2x1x4096.Idx) : EReal :=
  ∑ r : Fin 2048, colAt x w p g ⟨(i 0).val * 2048 + r.val, by have h : (i 0).val < 2 := (i 0).isLt; omega⟩ (i 2)

end Cert.Gate0

namespace Cert.Kernel13Ideal.Product

open Idealize.ShloMosaic Idealize.ShloMosaic.TcCoe Idealize.SL.Sem Cert.Kernel13Ideal Cert.Kernel13Ideal.Gen Cert.Gate Cert.Gate0

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

section Block

variable (x : Vec Ideal S2048x2048 .bf16) (w : Vec Ideal S1x512x2048 .bf16) (p g : Vec Ideal S2048x512 .bf16)
  (s : Vec Ideal S1x512 .f32) (r : Fin 2048) (q : Fin 512)

/-- One block of the branch's gradient. -/
def bl : EReal := ∑ k : Fin 2048, x (ix2 r k) * w (ix3 (0 : Fin 1) q k)

theorem branch_block : k0_pay2 (F := Ideal) x w (ix2 r q) = bl x w r q := by
  unfold bl
  pointwise [k0_pay2]

theorem sigm_block : k0_pay4 (F := Ideal) g (ix2 r q) = sigm (g (ix2 r q)) := by
  unfold sigm
  show Ideal.div (Ideal.ofBits .f32 0x3F800000#32) (Ideal.ofBits .f32 0x3F800000#32
    + Ideal.exp (Ideal.ofBits .f32 0x00000000#32 - g (ix2 r q))) = _
  rw [Ideal.ofBits_one_f32, Ideal.ofBits_zero_f32, zero_sub]

theorem silu_block : k0_pay5 (F := Ideal) g (ix2 r q) = g (ix2 r q) * sigm (g (ix2 r q)) := by
  rw [← sigm_block]
  rfl

theorem scale_block : broadcastTo S2048x512 s broadcasts_S1x512_S2048x512 (ix2 r q) = s (ix2 (0 : Fin 1) q) := by
  pointwise

theorem out5_apply : out0_5 (F := Ideal) x w p g s (ix2 r q) =
    bl x w r q * (g (ix2 r q) * sigm (g (ix2 r q))) * s (ix2 (0 : Fin 1) q) := by
  unfold out0_5
  rw [View.canon_unit_zero hz2]
  simp only [View.ld_unit_zero (S := S2048x2048) hz2, View.ld_unit_zero (S := S1x512x2048) hz3,
    View.ld_unit_zero (S := S2048x512) hz2, View.ld_unit_zero (S := S1x512) hz2]
  rw [← branch_block, ← silu_block, ← scale_block s r q]
  rfl

theorem out6_apply : out0_6 (F := Ideal) x w p g s (ix2 r q) =
    grad (bl x w r q * p (ix2 r q) * s (ix2 (0 : Fin 1) q)) (g (ix2 r q)) := by
  unfold out0_6 grad
  rw [View.canon_unit_zero hz2]
  simp only [View.ld_unit_zero (S := S2048x2048) hz2, View.ld_unit_zero (S := S1x512x2048) hz3,
    View.ld_unit_zero (S := S2048x512) hz2, View.ld_unit_zero (S := S1x512) hz2]
  rw [← branch_block, ← sigm_block, ← scale_block s r q, ← Ideal.ofBits_one_f32]
  rfl

theorem out7_apply (a b : Fin 1) : out0_7 (F := Ideal) x w p g s (ix3 a b q) =
    ∑ r : Fin 2048, bl x w r q * p (ix2 r q) * (g (ix2 r q) * sigm (g (ix2 r q))) := by
  unfold out0_7
  rw [View.canon_unit_zero hz3]
  simp only [View.ld_unit_zero (S := S2048x2048) hz2, View.ld_unit_zero (S := S1x512x2048) hz3,
    View.ld_unit_zero (S := S2048x512) hz2, View.ld_unit_zero (S := S1x512) hz2]
  have e : k0_pay1 (F := Ideal) (k0_pay5 g) (k0_pay6 x w p) (ix3 a b q) =
      ∑ r : Fin 2048, k0_pay6 (F := Ideal) x w p (ix2 r q) * k0_pay5 (F := Ideal) g (ix2 r q) := by
    pointwise [k0_pay1]
  rw [e]
  refine Finset.sum_congr rfl fun r _ => ?_
  rw [silu_block, ← branch_block]
  rfl

end Block

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = t.val % 8 / 2 ∧ win0_1.index t 1 = t.val % 8 % 2 ∧ win0_1.index t 2 = 0 :=
  (by decide +kernel : ∀ t : Fin grid0.N,
    win0_1.index t 0 = t.val % 8 / 2 ∧ win0_1.index t 1 = t.val % 8 % 2 ∧ win0_1.index t 2 = 0)
theorem idx2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx3 : ∀ t : Fin cfg0.N, win0_3.index t 0 = t.val / 8 ∧ win0_3.index t 1 = t.val % 8 + 8 :=
  (by decide +kernel : ∀ t : Fin grid0.N, win0_3.index t 0 = t.val / 8 ∧ win0_3.index t 1 = t.val % 8 + 8)
theorem idx4 : ∀ t : Fin cfg0.N, win0_4.index t 0 = 0 ∧ win0_4.index t 1 = t.val % 8 :=
  (by decide +kernel : ∀ t : Fin grid0.N, win0_4.index t 0 = 0 ∧ win0_4.index t 1 = t.val % 8)
theorem idx5 : ∀ t : Fin cfg0.N, win0_5.index t 0 = t.val / 8 ∧ win0_5.index t 1 = t.val % 8 :=
  (by decide +kernel : ∀ t : Fin grid0.N, win0_5.index t 0 = t.val / 8 ∧ win0_5.index t 1 = t.val % 8)
theorem idx6 : ∀ t : Fin cfg0.N, win0_6.index t 0 = t.val / 8 ∧ win0_6.index t 1 = t.val % 8 + 8 :=
  (by decide +kernel : ∀ t : Fin grid0.N, win0_6.index t 0 = t.val / 8 ∧ win0_6.index t 1 = t.val % 8 + 8)
theorem idx7 : ∀ t : Fin cfg0.N, win0_7.index t 0 = t.val / 8 ∧ win0_7.index t 1 = 0 ∧ win0_7.index t 2 = t.val % 8 :=
  (by decide +kernel : ∀ t : Fin grid0.N,
    win0_7.index t 0 = t.val / 8 ∧ win0_7.index t 1 = 0 ∧ win0_7.index t 2 = t.val % 8)

/-- The five arguments as launched. -/
abbrev a0 : Vec Ideal S4096x2048 .bf16 := m ((c : Thread nD τ).loc main_arg0)
abbrev a1 : Vec Ideal S4x1024x2048 .bf16 := m ((c : Thread nD τ).loc main_arg1)
abbrev a2 : Vec Ideal S4096x4096 .bf16 := m ((c : Thread nD τ).loc main_arg2)
abbrev a3 : Vec Ideal S4096x8192 .bf16 := m ((c : Thread nD τ).loc main_arg3)
abbrev a4 : Vec Ideal S1x4096 .f32 := m ((c : Thread nD τ).loc main_arg4)

section Blocks

variable (t : Fin cfg0.N) (r : Fin 2048) (q : Fin 512) (R Q : Fin 4096) (hR : R.val = t.val / 8 * 2048 + r.val)
  (hQ : Q.val = t.val % 8 * 512 + q.val)

include hR in
theorem blk0 (k : Fin 2048) : (iblk m c 0 t : Vec Ideal S2048x2048 .bf16) (ix2 r k) = a0 m c (ix2 R k) := by
  unfold iblk
  rw [View.read_apply]
  show V m c main_arg0 _ = _
  rw [V_main_arg0]
  refine congrArg (a0 m c) ?_
  funext a
  apply Fin.ext
  match a with
  | ⟨0, _⟩ => show win0_0.index t 0 * 2048 + 1 * r.val = R.val; rw [(idx0 t).1]; omega
  | ⟨1, _⟩ => show win0_0.index t 1 * 2048 + 1 * k.val = k.val; rw [(idx0 t).2]; omega

include hQ in
theorem blk1 (k : Fin 2048) : (iblk m c 1 t : Vec Ideal S1x512x2048 .bf16) (ix3 (0 : Fin 1) q k) =
    a1 m c (ix3 (chip Q) (place Q) k) := by
  unfold iblk
  rw [View.read_apply]
  show V m c main_arg1 _ = _
  rw [V_main_arg1]
  refine congrArg (a1 m c) ?_
  funext a
  apply Fin.ext
  match a with
  | ⟨0, _⟩ => show win0_1.index t 0 * 1 + 1 * 0 = Q.val / 1024; rw [(idx1 t).1]; omega
  | ⟨1, _⟩ => show win0_1.index t 1 * 512 + 1 * q.val = Q.val % 1024; rw [(idx1 t).2.1]; omega
  | ⟨2, _⟩ => show win0_1.index t 2 * 2048 + 1 * k.val = k.val; rw [(idx1 t).2.2]; omega

include hR hQ in
theorem blk2 : (iblk m c 2 t : Vec Ideal S2048x512 .bf16) (ix2 r q) = a2 m c (ix2 R Q) := by
  unfold iblk
  rw [View.read_apply]
  show V m c main_arg2 _ = _
  rw [V_main_arg2]
  refine congrArg (a2 m c) ?_
  funext a
  apply Fin.ext
  match a with
  | ⟨0, _⟩ => show win0_2.index t 0 * 2048 + 1 * r.val = R.val; rw [(idx2 t).1]; omega
  | ⟨1, _⟩ => show win0_2.index t 1 * 512 + 1 * q.val = Q.val; rw [(idx2 t).2]; omega

include hR hQ in
theorem blk3 : (iblk m c 3 t : Vec Ideal S2048x512 .bf16) (ix2 r q) = gate (a3 m c) R Q := by
  unfold iblk gate
  rw [View.read_apply]
  show V m c main_arg3 _ = _
  rw [V_main_arg3]
  refine congrArg (a3 m c) ?_
  funext a
  apply Fin.ext
  match a with
  | ⟨0, _⟩ => show win0_3.index t 0 * 2048 + 1 * r.val = R.val; rw [(idx3 t).1]; omega
  | ⟨1, _⟩ => show win0_3.index t 1 * 512 + 1 * q.val = 4096 + Q.val; rw [(idx3 t).2]; omega

include hQ in
theorem blk4 : (iblk m c 4 t : Vec Ideal S1x512 .f32) (ix2 (0 : Fin 1) q) = a4 m c (ix2 (0 : Fin 1) Q) := by
  unfold iblk
  rw [View.read_apply]
  show V m c main_arg4 _ = _
  rw [V_main_arg4]
  refine congrArg (a4 m c) ?_
  funext a
  apply Fin.ext
  match a with
  | ⟨0, _⟩ => show win0_4.index t 0 * 1 + 1 * 0 = 0; rw [(idx4 t).1]
  | ⟨1, _⟩ => show win0_4.index t 1 * 512 + 1 * q.val = Q.val; rw [(idx4 t).2]; omega

include hR hQ in
theorem bl_eq : bl (iblk m c 0 t) (iblk m c 1 t) r q = branch (a0 m c) (a1 m c) R Q := by
  unfold bl branch
  exact Finset.sum_congr rfl fun k _ => congrArg₂ (· * ·) (blk0 m c t r R hR k) (blk1 m c t q Q hQ k)

end Blocks

theorem flushed5 (t : Fin cfg0.N) : (dats m 0 c).flushed 5 t =
    ((cfg0.win 5).blk t).view.read (Elt Ideal) (mixed (a0 m c) (a1 m c) (a3 m c) (a4 m c)) := by
  show (cfg0.win 5).cut (grid0.coords t) ((dats m 0 c).after 5 t) = _
  rw [after0_5]
  funext y
  obtain ⟨r, q, rfl⟩ : ∃ r q, y = ix2 r q := ⟨y 0, y 1, by idx_ext⟩
  rw [View.read_apply]
  show out0_5 (iblk m c 0 t) (iblk m c 1 t) (iblk m c 2 t) (iblk m c 3 t) (iblk m c 4 t) (ix2 r q) =
    mixed (a0 m c) (a1 m c) (a3 m c) (a4 m c) (((cfg0.win 5).blk t).view.emb (ix2 r q))
  have hR : ((((cfg0.win 5).blk t).view.emb (ix2 r q)) 0).val = t.val / 8 * 2048 + r.val := by
    show win0_5.index t 0 * 2048 + 1 * r.val = _; rw [(idx5 t).1]; omega
  have hQ : ((((cfg0.win 5).blk t).view.emb (ix2 r q)) 1).val = t.val % 8 * 512 + q.val := by
    show win0_5.index t 1 * 512 + 1 * q.val = _; rw [(idx5 t).2]; omega
  rw [out5_apply, blk3 m c t r q _ _ hR hQ, blk4 m c t q _ hQ, bl_eq m c t r q _ _ hR hQ]
  rfl

/-- The array the gate's gradient is written into, at every column: what it holds where it is written. -/
def wide (i : S4096x8192.Idx) : EReal :=
  gated (a0 m c) (a1 m c) (a2 m c) (a3 m c) (a4 m c) (ix2 (i 0) (⟨((i 1).val - 4096) % 4096, by omega⟩ : Fin 4096))

theorem flushed6 (t : Fin cfg0.N) : (dats m 0 c).flushed 6 t = ((cfg0.win 6).blk t).view.read (Elt Ideal) (wide m c) := by
  show (cfg0.win 6).cut (grid0.coords t) ((dats m 0 c).after 6 t) = _
  rw [after0_6]
  funext y
  obtain ⟨r, q, rfl⟩ : ∃ r q, y = ix2 r q := ⟨y 0, y 1, by idx_ext⟩
  rw [View.read_apply]
  show out0_6 (iblk m c 0 t) (iblk m c 1 t) (iblk m c 2 t) (iblk m c 3 t) (iblk m c 4 t) (ix2 r q) =
    gated (a0 m c) (a1 m c) (a2 m c) (a3 m c) (a4 m c) (ix2 ((((cfg0.win 6).blk t).view.emb (ix2 r q)) 0)
      (⟨(((((cfg0.win 6).blk t).view.emb (ix2 r q)) 1).val - 4096) % 4096, _⟩ : Fin 4096))
  generalize hR' : (((cfg0.win 6).blk t).view.emb (ix2 r q)) 0 = R
  generalize hQ' : (⟨(((((cfg0.win 6).blk t).view.emb (ix2 r q)) 1).val - 4096) % 4096, _⟩ : Fin 4096) = Q
  have hR : R.val = t.val / 8 * 2048 + r.val := by
    rw [← hR']; show win0_6.index t 0 * 2048 + 1 * r.val = _; rw [(idx6 t).1]; omega
  have hQ : Q.val = t.val % 8 * 512 + q.val := by
    rw [← hQ']; show (win0_6.index t 1 * 512 + 1 * q.val - 4096) % 4096 = _; rw [(idx6 t).2]; omega
  rw [out6_apply, blk3 m c t r q R Q hR hQ, blk4 m c t q Q hQ, blk2 m c t r q R Q hR hQ, bl_eq m c t r q R Q hR hQ]
  rfl

theorem flushed7 (t : Fin cfg0.N) : (dats m 0 c).flushed 7 t =
    ((cfg0.win 7).blk t).view.read (Elt Ideal) (col (a0 m c) (a1 m c) (a2 m c) (a3 m c)) := by
  show (cfg0.win 7).cut (grid0.coords t) ((dats m 0 c).after 7 t) = _
  rw [after0_7]
  funext y
  obtain ⟨a, b, q, rfl⟩ : ∃ a b q, y = ix3 a b q := ⟨y 0, y 1, y 2, by idx_ext⟩
  rw [View.read_apply]
  show out0_7 (iblk m c 0 t) (iblk m c 1 t) (iblk m c 2 t) (iblk m c 3 t) (iblk m c 4 t) (ix3 a b q) =
    col (a0 m c) (a1 m c) (a2 m c) (a3 m c) (((cfg0.win 7).blk t).view.emb (ix3 a b q))
  have hA : ((((cfg0.win 7).blk t).view.emb (ix3 a b q)) 0).val = t.val / 8 := by
    show win0_7.index t 0 * 1 + 1 * a.val = _; rw [(idx7 t).1]; omega
  have hQ : ((((cfg0.win 7).blk t).view.emb (ix3 a b q)) 2).val = t.val % 8 * 512 + q.val := by
    show win0_7.index t 2 * 512 + 1 * q.val = _; rw [(idx7 t).2.2]; omega
  rw [out7_apply]
  unfold col colAt
  refine Finset.sum_congr rfl fun r _ => ?_
  have hR : (⟨((((cfg0.win 7).blk t).view.emb (ix3 a b q)) 0).val * 2048 + r.val, by
      have h : ((((cfg0.win 7).blk t).view.emb (ix3 a b q)) 0).val < 2 := ((((cfg0.win 7).blk t).view.emb (ix3 a b q)) 0).isLt
      omega⟩ : Fin 4096).val = t.val / 8 * 2048 + r.val := by
    dsimp only; rw [hA]
  rw [blk3 m c t r q _ _ hR hQ, blk2 m c t r q _ _ hR hQ, bl_eq m c t r q _ _ hR hQ]

theorem onto5 : ∀ (p : Fin 2) (q : Fin 8), ∃ t : Fin cfg0.N, win0_5.index t 0 = p.val ∧ win0_5.index t 1 = q.val :=
  (by decide +kernel : ∀ (p : Fin 2) (q : Fin 8), ∃ t : Fin grid0.N, win0_5.index t 0 = p.val ∧ win0_5.index t 1 = q.val)
theorem onto6 : ∀ (p : Fin 2) (q : Fin 8), ∃ t : Fin cfg0.N, win0_6.index t 0 = p.val ∧ win0_6.index t 1 = q.val + 8 :=
  (by decide +kernel : ∀ (p : Fin 2) (q : Fin 8), ∃ t : Fin grid0.N,
    win0_6.index t 0 = p.val ∧ win0_6.index t 1 = q.val + 8)
theorem onto7 : ∀ (p : Fin 2) (q : Fin 8), ∃ t : Fin cfg0.N, win0_7.index t 0 = p.val ∧ win0_7.index t 2 = q.val :=
  (by decide +kernel : ∀ (p : Fin 2) (q : Fin 8), ∃ t : Fin grid0.N, win0_7.index t 0 = p.val ∧ win0_7.index t 2 = q.val)

/-- The 16 blocks fill the mixed value's gradient, -/
theorem final5 : (dats m 0 c).arrAt 5 cfg0.N = mixed (a0 m c) (a1 m c) (a3 m c) (a4 m c) :=
  (dats m 0 c).arrAt_eq_of_cover 5 (mixed (a0 m c) (a1 m c) (a3 m c) (a4 m c)) (fun t _ => flushed5 m c t) fun i => by
    have h0 : (i 0).val < 4096 := (i 0).isLt
    have h1 : (i 1).val < 4096 := (i 1).isLt
    obtain ⟨t, e0, e1⟩ := onto5 ⟨(i 0).val / 2048, by omega⟩ ⟨(i 1).val / 512, by omega⟩
    dsimp only at e0 e1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 2048 ≤ (i 0).val ∧ (i 0).val < win0_5.index t 0 * 2048 + 2048; omega
    | ⟨1, _⟩ => show win0_5.index t 1 * 512 ≤ (i 1).val ∧ (i 1).val < win0_5.index t 1 * 512 + 512; omega

/-- the scale's, -/
theorem final7 : (dats m 0 c).arrAt 7 cfg0.N = col (a0 m c) (a1 m c) (a2 m c) (a3 m c) :=
  (dats m 0 c).arrAt_eq_of_cover 7 (col (a0 m c) (a1 m c) (a2 m c) (a3 m c)) (fun t _ => flushed7 m c t) fun i => by
    have h0 : (i 0).val < 2 := (i 0).isLt
    have h1 : (i 1).val < 1 := (i 1).isLt
    have h2 : (i 2).val < 4096 := (i 2).isLt
    obtain ⟨t, e0, e2⟩ := onto7 ⟨(i 0).val, h0⟩ ⟨(i 2).val / 512, by omega⟩
    dsimp only at e0 e2
    refine ⟨t, flush0_7 t, ?_⟩
    show i ∈ ((View.whole main_v0_2).slice (win0_7.rect t)).set
    rw [View.set_slice_whole, Rect.mem_set_unit]
    have e1 := (idx7 t).2.1
    intro a
    match a with
    | ⟨0, _⟩ => show win0_7.index t 0 * 1 ≤ (i 0).val ∧ (i 0).val < win0_7.index t 0 * 1 + 1; omega
    | ⟨1, _⟩ => show win0_7.index t 1 * 1 ≤ (i 1).val ∧ (i 1).val < win0_7.index t 1 * 1 + 1; omega
    | ⟨2, _⟩ => show win0_7.index t 2 * 512 ≤ (i 2).val ∧ (i 2).val < win0_7.index t 2 * 512 + 512; omega

/-- and the columns of the gate's gradient that are read. -/
theorem written (i : S4096x8192.Idx) (h : 4096 ≤ (i 1).val) : (dats m 0 c).arrAt 6 cfg0.N i = wide m c i := by
  have h0 : (i 0).val < 4096 := (i 0).isLt
  have h1 : (i 1).val < 8192 := (i 1).isLt
  obtain ⟨t, e0, e1⟩ := onto6 ⟨(i 0).val / 2048, by omega⟩ ⟨(i 1).val / 512 - 8, by omega⟩
  dsimp only at e0 e1
  refine (dats m 0 c).arrAt_apply_of_mem 6 (wide m c) (fun t _ => flushed6 m c t) cfg0.N t i t.isLt (flush0_6 t) ?_
  show i ∈ ((View.whole main_v0_1).slice (win0_6.rect t)).set
  rw [View.set_slice_whole, Rect.mem_set_unit]
  intro a
  match a with
  | ⟨0, _⟩ => show win0_6.index t 0 * 2048 ≤ (i 0).val ∧ (i 0).val < win0_6.index t 0 * 2048 + 2048; omega
  | ⟨1, _⟩ => show win0_6.index t 1 * 512 ≤ (i 1).val ∧ (i 1).val < win0_6.index t 1 * 512 + 512; omega

/-- The array after the call, as the operation behind it reads it. -/
theorem array : Pipeline.withArrays (cfgs 0).spec c (V0 m c) (fun w => (dats m 0 c).arrAt w (cfgs 0).N) (Proc.devRef .tc main_v0_1)
    = (dats m 0 c).arrAt 6 cfg0.N :=
  Pipeline.withArrays_arr spec0 launch0.win.arr_inj c (V0 m c) (fun w => (dats m 0 c).arrAt w cfg0.N) 6

theorem cut : Pipeline.afterTail₀ cfgs (dats m) 0 (V0 m) [hostOps1] c main_v1 =
    gated (a0 m c) (a1 m c) (a2 m c) (a3 m c) (a4 m c) := by
  show StableHlo.after hostOps1 (Pipeline.withArrays (cfgs 0).spec c (V0 m c) (fun w => (dats m 0 c).arrAt w (cfgs 0).N))
    (Proc.devRef .tc main_v1) = _
  unfold hostOps1
  simp only [StableHlo.after_cons, StableHlo.after_nil]
  rw [StableHlo.unary_result, array]
  funext i
  have h1 : (i 1).val < 4096 := (i 1).isLt
  refine (extractStridedSlice_apply ![0, 4096] ((dats m 0 c).arrAt 6 cfg0.N : Vec Ideal S4096x8192 .bf16)
    slices_S4096x8192_S4096x4096_0_4096 i (ix2 (i 0) (⟨4096 + (i 1).val, by omega⟩ : Fin 8192)) (fun a => ?_)).trans
    ((written m c _ (Nat.le_add_right _ _)).trans ?_)
  · match a with
    | ⟨0, _⟩ => show (i 0).val = 0 + (i 0).val; omega
    | ⟨1, _⟩ => rfl
  · refine congrArg (gated (a0 m c) (a1 m c) (a2 m c) (a3 m c) (a4 m c)) ?_
    funext a
    apply Fin.ext
    match a with
    | ⟨0, _⟩ => rfl
    | ⟨1, _⟩ => show (4096 + (i 1).val - 4096) % 4096 = (i 1).val; omega

/-- The run, with the three results and the arguments. -/
theorem run : θ_run defs (onTc (τ := τ) (main (F := Ideal))) ⟨m, fun _ => 0, ρ⟩ (fun r => ∀ c : Dev nD,
    r.2.mem ((c.tc : Thread nD τ).loc main_v0_0) = mixed (a0 m c) (a1 m c) (a3 m c) (a4 m c)
    ∧ r.2.mem ((c.tc : Thread nD τ).loc main_v1) = gated (a0 m c) (a1 m c) (a2 m c) (a3 m c) (a4 m c)
    ∧ r.2.mem ((c.tc : Thread nD τ).loc main_v0_2) = col (a0 m c) (a1 m c) (a2 m c) (a3 m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun _ h c =>
    ⟨((h c).1 5).trans (final5 m c),
     ((h c).2 main_v1 (Pipeline.mem_restRefs_of main_v1 (by decide) (by decide))).trans (cut m c),
     ((h c).1 7).trans (final7 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩) (run_main m ρ)

end Cert.Kernel13Ideal.Product

namespace Cert.Gate0

open Idealize.ShloMosaic Cert.Gate Cert.Finite Cert.Attn Cert.Pre_branch0_finite

instance facts : Cert.Pre_branch0_finite.Facts where
  bitsLt_bf16_f32 := by decide
  bcast_S_S4096x2048 := by decide
  reducesTo_S4096x2048_S_d0_1 := by decide
  h_S_ := by decide
  bcast_S_S4x1024x2048 := by decide
  reducesTo_S4x1024x2048_S_d0_1_2 := by decide
  bcast_S_S4096x4096 := by decide
  reducesTo_S4096x4096_S_d0_1 := by decide
  bcast_S_S1x4096 := by decide
  reducesTo_S1x4096_S_d0_1 := by decide

variable (x : Vec Ideal S4096x2048 .bf16) (w : Vec Ideal S4x1024x2048 .bf16) (p : Vec Ideal S4096x4096 .bf16)
  (g : Vec Ideal S4096x8192 .bf16) (s : Vec Ideal S1x4096 .f32)

/-- Under the precondition the output's gradient, the output weights, the mixed values and the scale are real numbers, -/
theorem reals (hp : fn (F := Ideal) x w p g s = fun _ => 1#1) :
    (∀ i, ∃ r : ℝ, x i = r) ∧ (∀ i, ∃ r : ℝ, w i = r) ∧ (∀ i, ∃ r : ℝ, p i = r) ∧ (∀ i, ∃ r : ℝ, s i = r) := by
  have h0 := congrFun hp (fun a => Fin.elim0 a)
  dsimp only [fn, fn_part1] at h0
  obtain ⟨h3, hs⟩ := IntOp.andi_eq_one.1 h0
  obtain ⟨h2, hm⟩ := IntOp.andi_eq_one.1 h3
  obtain ⟨hx, hw⟩ := IntOp.andi_eq_one.1 h2
  haveI : Subsingleton S_.Idx := ⟨fun a b => funext fun i => i.elim0⟩
  refine ⟨fun i => real_of_lt _ ?_, fun i => real_of_lt _ ?_, fun i => real_of_lt _ ?_, fun i => real_of_lt _ ?_⟩
  · have := lt_of_cmp _ _ (Host.reduce_andi_all _ _ _ _ _ hx i)
    rw [broadcastInDim, constant] at this
    exact lt_of_eq_of_lt rfl (this.trans_eq ofBits_top)
  · have := lt_of_cmp _ _ (Host.reduce_andi_all _ _ _ _ _ hw i)
    rw [broadcastInDim, constant] at this
    exact lt_of_eq_of_lt rfl (this.trans_eq ofBits_top)
  · have := lt_of_cmp _ _ (Host.reduce_andi_all _ _ _ _ _ hm i)
    rw [broadcastInDim, constant] at this
    exact lt_of_eq_of_lt rfl (this.trans_eq ofBits_top)
  · have := lt_of_cmp _ _ (Host.reduce_andi_all _ _ _ _ _ hs i)
    rw [broadcastInDim, constant] at this
    exact lt_of_eq_of_lt rfl (this.trans_eq ofBits_top)

/-- and so is the gradient of the product with the gate's activation. -/
theorem grad_real (hp : fn (F := Ideal) x w p g s = fun _ => 1#1) (i : S4096x4096.Idx) :
    ∃ r : ℝ, p i * s (ix2 (0 : Fin 1) (i 1)) * branch x w (i 0) (i 1) = r := by
  obtain ⟨hx, hw, hm, hs⟩ := reals x w p g s hp
  obtain ⟨a, ha⟩ := hm i
  obtain ⟨b, hb⟩ := hs (ix2 (0 : Fin 1) (i 1))
  obtain ⟨d, hd⟩ := sum_real Finset.univ (fun k : Fin 2048 => x (ix2 (i 0) k))
    (fun k => w (ix3 (chip (i 1)) (place (i 1)) k)) (fun k => hx _) (fun k => hw _)
  exact ⟨a * b * d, by unfold branch; rw [ha, hb, EReal.coe_mul, EReal.coe_mul]; exact congrArg ((a : EReal) * b * ·) hd⟩

end Cert.Gate0

namespace Cert.Reference13Ideal.Product

open Idealize.ShloMosaic Cert.Reference13Ideal Cert.Reference13Ideal.Gen Cert.Reference13Ideal.Read Cert.Gate Cert.Gate0

variable (x : Vec Ideal S4096x2048 .bf16) (w : Vec Ideal S4x1024x2048 .bf16) (p : Vec Ideal S4096x4096 .bf16)
  (g : Vec Ideal S4096x8192 .bf16) (s : Vec Ideal S1x4096 .f32)

/-- The reference's gradient of the branch, -/
theorem branch_eq (i : S4096x4096.Idx) : val_main_v13 (F := Ideal) x w i = branch x w (i 0) (i 1) := by
  rw [val_main_v13_apply]
  unfold branch
  refine Finset.sum_congr rfl fun k _ => congrArg₂ (· * ·) (congrArg x (by idx_ext)) ?_
  show val_main_v1 (F := Ideal) w (ridx_main_v13 i k) = _
  refine shapeCast_apply w shapeCasts_S4x1024x2048_S4096x2048 _ _ ?_
  rw [Shape.rowMajor_val_three, Shape.rowMajor_val_two]
  have h1 : (i 1).val < 4096 := (i 1).isLt
  show ((i 1).val / 1024 * 1024 + (i 1).val % 1024) * 2048 + k.val = (i 1).val * 2048 + k.val
  omega

/-- its gate, -/
theorem gate_eq (i : S4096x4096.Idx) : val_main_v4 (F := Ideal) g i = gate g (i 0) (i 1) := by
  show val_main_v0 (F := Ideal) g i = _
  rw [val_main_v0_apply]
  refine congrArg g ?_
  funext a
  apply Fin.ext
  match a with
  | ⟨0, _⟩ => rfl
  | ⟨1, _⟩ => rfl

/-- the gate's sigmoid, -/
theorem sigm_eq (i : S4096x4096.Idx) : val_main_v9_2 (F := Ideal) g i = sigm (gate g (i 0) (i 1)) := by
  rw [← gate_eq]
  unfold sigm
  show Ideal.div (Ideal.ofBits .f32 0x3F800000#32) (Ideal.ofBits .f32 0x3F800000#32
    + Ideal.exp (-(val_main_v4 (F := Ideal) g i))) = _
  rw [Ideal.ofBits_one_f32]

/-- and the scale of a column, the same in either half of the rows. -/
theorem scale_eq (i : S4096x4096.Idx) : val_main_v7 (F := Ideal) s i = s (ix2 (0 : Fin 1) (i 1)) := by
  have h0 : (i 0).val < 4096 := (i 0).isLt
  have h1 : (i 1).val < 4096 := (i 1).isLt
  rw [val_main_v7_apply, val_main_v6_apply]
  have hc : ((i 0).val * 4096 + (i 1).val) % 4096 = (i 1).val := by omega
  unfold val_main_v5
  rcases Nat.lt_or_ge (i 0).val 2048 with h | h
  · refine concatenate_pair_apply_left (t := S2x4096) (0 : Fin 2) s s _ _ rfl (ix2 (0 : Fin 1) (i 1)) fun b => ?_
    match b with
    | ⟨0, _⟩ => show 0 = ((i 0).val * 4096 + (i 1).val) / 8388608; omega
    | ⟨1, _⟩ => exact hc.symm
  · refine concatenate_pair_apply_right (t := S2x4096) (0 : Fin 2) s s _ _ rfl rfl (ix2 (0 : Fin 1) (i 1)) (fun b hb => ?_) ?_
    · match b with
      | ⟨0, _⟩ => exact absurd rfl hb
      | ⟨1, _⟩ => exact hc.symm
    · show 0 + 1 = ((i 0).val * 4096 + (i 1).val) / 8388608
      omega

theorem mixed_eq : val_main_v21 (F := Ideal) x w g s = mixed x w g s := by
  funext i
  show val_main_v13 (F := Ideal) x w i * (val_main_v4 (F := Ideal) g i * val_main_v9_2 (F := Ideal) g i)
    * val_main_v7 (F := Ideal) s i = _
  rw [branch_eq, gate_eq, sigm_eq, scale_eq]
  rfl

/-- The gate's gradient, for a real gradient of the activation. -/
theorem gated_eq (hr : ∀ i : S4096x4096.Idx, ∃ r : ℝ, p i * s (ix2 (0 : Fin 1) (i 1)) * branch x w (i 0) (i 1) = r) :
    val_main_v22 (F := Ideal) x w p g s = gated x w p g s := by
  funext i
  show p i * val_main_v7 (F := Ideal) s i * val_main_v13 (F := Ideal) x w i * val_main_v9_2 (F := Ideal) g i
    + val_main_v4 (F := Ideal) g i * (p i * val_main_v7 (F := Ideal) s i * val_main_v13 (F := Ideal) x w i)
      * (val_main_v9_2 (F := Ideal) g i * (Ideal.ofBits .f32 0x3F800000#32 - val_main_v9_2 (F := Ideal) g i)) = _
  rw [branch_eq, gate_eq, sigm_eq, scale_eq, Ideal.ofBits_one_f32]
  refine (gradSum_eq _ _ (hr i)).trans ?_
  unfold gated
  rw [mul_right_comm (p i), mul_comm (p i)]

/-- One element of the scale's gradient before the sum. -/
theorem colAt_eq (j : S4096x4096.Idx) : val_main_v17 (F := Ideal) x w p g j = colAt x w p g (j 0) (j 1) := by
  show p j * (val_main_v13 (F := Ideal) x w j * (val_main_v4 (F := Ideal) g j * val_main_v9_2 (F := Ideal) g j)) = _
  rw [branch_eq, gate_eq, sigm_eq, ← mul_assoc, mul_comm (p _)]
  unfold colAt
  exact congrArg (fun e => branch x w (j 0) (j 1) * e * (gate g (j 0) (j 1) * sigm (gate g (j 0) (j 1))))
    (congrArg p (by idx_ext))

theorem col_eq : val_main_v23 (F := Ideal) x w p g = col x w p g := by
  funext i
  rw [val_main_v23_apply, val_main_v20_apply]
  show Ideal.ofBits .f32 0x00000000#32 + _ = _
  rw [Ideal.ofBits_zero_f32, zero_add]
  unfold col
  refine Finset.sum_congr rfl fun r _ => ?_
  rw [val_main_v19_apply, colAt_eq]
  have h0 : (i 0).val < 2 := (i 0).isLt
  have h1 : (i 1).val < 1 := (i 1).isLt
  have h2 : (i 2).val < 4096 := (i 2).isLt
  have hr := r.isLt
  refine congrArg₂ (colAt x w p g) (Fin.ext ?_) (Fin.ext ?_)
  · show (((((i 0).val * 1 + (i 1).val) * 4096 + (i 2).val) / 4096 * 2048 + r.val) * 4096
      + (((i 0).val * 1 + (i 1).val) * 4096 + (i 2).val) % 4096) / 4096 = (i 0).val * 2048 + r.val
    omega
  · show (((((i 0).val * 1 + (i 1).val) * 4096 + (i 2).val) / 4096 * 2048 + r.val) * 4096
      + (((i 0).val * 1 + (i 1).val) * 4096 + (i 2).val) % 4096) % 4096 = (i 2).val
    omega

end Cert.Reference13Ideal.Product

end
-- ==== Proof.PooledGrad.lean ====
/- The pooling's gradient through the group weights: what the grid of 16 blocks leaves in the result array, and the reference's
   value, both as one sum over the 768 columns of a group. -/
module

public import proofs.«01_k».proof.Proof.Gen.Kernel14Ideal.Value
public import proofs.«01_k».proof.Proof.Gen.Reference14Ideal.Read
public import Idealize.ShloMosaic.Lib.Pipeline.Value
public import Idealize.ShloMosaic.Lib.Pointwise

@[expose] public section

set_option maxRecDepth 16384

noncomputable section

namespace Cert.Products

open Idealize.ShloMosaic

/-- The gradient at position `i 0` and column `i 1`, of group `(i 1) / 768`. -/
def pooledGrad (d : Vec Ideal Cert.Kernel14Ideal.S4096x4096 .bf16) (w : Vec Ideal Cert.Kernel14Ideal.S4x768x768 .bf16)
    (i : Cert.Kernel14Ideal.S4096x3072.Idx) : EReal :=
  ∑ k : Fin 768, d (ix2 (i 0) (⟨(i 1).val / 768 * 768 + k.val, by have h1 : (i 1).val < 3072 := (i 1).isLt; omega⟩ : Fin 4096))
    * w (ix3 (⟨(i 1).val / 768, by have h1 : (i 1).val < 3072 := (i 1).isLt; omega⟩ : Fin 4)
        (⟨(i 1).val % 768, by omega⟩ : Fin 768) k)

end Cert.Products

namespace Cert.Kernel14Ideal.Product

open Idealize.ShloMosaic Idealize.ShloMosaic.TcCoe Idealize.SL.Sem Cert.Kernel14Ideal Cert.Kernel14Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block's payload: the product of the block with its group's weights, over the weights' columns. -/
theorem pay_apply (x : Vec Ideal S1024x768 .bf16) (w : Vec Ideal S1x768x768 .bf16) (r : Fin 1024) (s : Fin 768) :
    k0_pay1 (F := Ideal) x w (ix2 r s) = ∑ k : Fin 768, x (ix2 r k) * w (ix3 (0 : Fin 1) s k) := by
  pointwise [k0_pay1]

/-- The block's run stores this payload. -/
theorem out_eq (i : grid0.Coords) (p : Memref sig .tc .vmem S1024x768 .bf16) (hp : p.IsWhole)
    (q : Memref sig .tc .vmem S1x768x768 .bf16) (hq : q.IsWhole) (o : Memref sig .tc .vmem S1024x768 .f32) (ho : o.IsWhole)
    (x : Vec Ideal S1024x768 .bf16) (w : Vec Ideal S1x768x768 .bf16) : out0_A_2 c i p hp q hq o ho x w = k0_pay1 x w := by
  unfold out0_A_2
  rw [View.read_writes_eq_canon _ _ _ (cover0_A_2 c i p hp q hq o ho x w)]
  unfold kernelRun0_A
  dsimp only
  rw [View.canon_unit_zero hz2]
  simp only [View.readAt_eq_ld, hp.read_unread, hq.read_unread, View.ld_unit_zero (S := S1024x768) hz2,
    View.ld_unit_zero (S := S1x768x768) hz3]

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The two arguments as launched. -/
abbrev a0 : Vec Ideal S4096x4096 .bf16 := m ((c : Thread nD τ).loc main_arg0)
abbrev a1 : Vec Ideal S4x768x768 .bf16 := m ((c : Thread nD τ).loc main_arg1)

theorem blk0 (t : Fin cfg0.N) (r : Fin 1024) (k : Fin 768) (R K : Fin 4096) (hR : R.val = t.val / 4 * 1024 + r.val)
    (hK : K.val = t.val % 4 * 768 + k.val) : (X0_0 m c t : Vec Ideal S1024x768 .bf16) (ix2 r k) = a0 m c (ix2 R K) := by
  unfold X0_0 Pipeline.Window.fill
  rw [dif_pos (moved0_0 t _)]
  unfold iblk
  rw [View.read_apply]
  show V m c main_arg0 _ = _
  rw [V_main_arg0]
  refine congrArg (a0 m c) ?_
  funext a
  apply Fin.ext
  match a with
  | ⟨0, _⟩ => show win0_0.index t 0 * 1024 + 1 * r.val = R.val; rw [(idx0 t).1]; omega
  | ⟨1, _⟩ => show win0_0.index t 1 * 768 + 1 * k.val = K.val; rw [(idx0 t).2]; omega

theorem blk1 (t : Fin cfg0.N) (s k : Fin 768) (G : Fin 4) (S : Fin 768) (hG : G.val = t.val % 4) (hS : S.val = s.val) :
    (iblk m c 1 t : Vec Ideal S1x768x768 .bf16) (ix3 (0 : Fin 1) s k) = a1 m c (ix3 G S k) := by
  unfold iblk
  rw [View.read_apply]
  show V m c main_arg1 _ = _
  rw [V_main_arg1]
  refine congrArg (a1 m c) ?_
  funext a
  apply Fin.ext
  match a with
  | ⟨0, _⟩ => show win0_1.index t 0 * 1 + 1 * 0 = G.val; rw [(idx1 t).1]; omega
  | ⟨1, _⟩ => show win0_1.index t 1 * 768 + 1 * s.val = S.val; rw [(idx1 t).2.1]; omega
  | ⟨2, _⟩ => show win0_1.index t 2 * 768 + 1 * k.val = k.val; rw [(idx1 t).2.2]; omega

theorem flushed (t : Fin cfg0.N) :
    (dats m 0 c).flushed 2 t = ((cfg0.win 2).blk t).view.read (Elt Ideal) (pooledGrad (a0 m c) (a1 m c)) := by
  rw [Value.flushed2_A, out_eq]
  funext y
  obtain ⟨r, s, rfl⟩ : ∃ r s, y = ix2 r s := ⟨y 0, y 1, by idx_ext⟩
  rw [View.read_apply]
  show k0_pay1 (X0_0 m c t) (iblk m c 1 t) (ix2 r s) = pooledGrad (a0 m c) (a1 m c) (((cfg0.win 2).blk t).view.emb (ix2 r s))
  rw [pay_apply]
  have hR : ((((cfg0.win 2).blk t).view.emb (ix2 r s)) 0).val = t.val / 4 * 1024 + r.val := by
    show win0_2.index t 0 * 1024 + 1 * r.val = _; rw [(idx2 t).1]; omega
  have hS : ((((cfg0.win 2).blk t).view.emb (ix2 r s)) 1).val = t.val % 4 * 768 + s.val := by
    show win0_2.index t 1 * 768 + 1 * s.val = _; rw [(idx2 t).2]; omega
  have hs := s.isLt
  unfold pooledGrad
  refine Finset.sum_congr rfl fun k _ => congrArg₂ (· * ·) (blk0 m c t r k _ _ hR ?_) (blk1 m c t s k _ _ ?_ ?_)
  · show ((((cfg0.win 2).blk t).view.emb (ix2 r s)) 1).val / 768 * 768 + k.val = _
    rw [hS]; omega
  · show ((((cfg0.win 2).blk t).view.emb (ix2 r s)) 1).val / 768 = _
    rw [hS]; omega
  · show ((((cfg0.win 2).blk t).view.emb (ix2 r s)) 1).val % 768 = _
    rw [hS]; omega

theorem onto : ∀ (p : Fin 4) (q : Fin 4), ∃ t : Fin cfg0.N, win0_2.index t 0 = p.val ∧ win0_2.index t 1 = q.val :=
  (by decide +kernel : ∀ (p : Fin 4) (q : Fin 4), ∃ t : Fin grid0.N, win0_2.index t 0 = p.val ∧ win0_2.index t 1 = q.val)

/-- The 16 blocks fill the array. -/
theorem final : (dats m 0 c).arrAt 2 cfg0.N = pooledGrad (a0 m c) (a1 m c) :=
  (dats m 0 c).arrAt_eq_of_cover 2 (pooledGrad (a0 m c) (a1 m c)) (fun t _ => flushed m c t) fun i => by
    have h0 : (i 0).val < 4096 := (i 0).isLt
    have h1 : (i 1).val < 3072 := (i 1).isLt
    obtain ⟨t, e0, e1⟩ := onto ⟨(i 0).val / 1024, by omega⟩ ⟨(i 1).val / 768, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 768 ≤ (i 1).val ∧ (i 1).val < win0_2.index t 1 * 768 + 768; omega

end Cert.Kernel14Ideal.Product

namespace Cert.Reference14Ideal.Product

open Idealize.ShloMosaic Cert.Reference14Ideal Cert.Reference14Ideal.Gen Cert.Reference14Ideal.Read Cert.Products

theorem result (d : Vec Ideal S4096x4096 .bf16) (w : Vec Ideal S4x768x768 .bf16) :
    val_main_v12 (F := Ideal) d w = pooledGrad d w := by
  funext i
  rw [val_main_v12_apply, val_main_v11_apply, val_main_v10_apply]
  have h0 : (i 0).val < 4096 := (i 0).isLt
  have h1 : (i 1).val < 3072 := (i 1).isLt
  unfold pooledGrad
  refine Finset.sum_congr rfl fun k _ => ?_
  have hk := k.isLt
  refine congrArg₂ (· * ·) ?_ (congrArg w ?_)
  · rw [val_main_v9_apply, val_main_v8_apply]
    show val_main_v0 (F := Ideal) d _ = _
    rw [val_main_v0_apply]
    refine congrArg d ?_
    funext a
    apply Fin.ext
    match a with
    | ⟨0, _⟩ =>
      show ((((i 0).val * 3072 + (i 1).val) / 3072 * 4 + ((i 0).val * 3072 + (i 1).val) / 768 % 4) * 768 + k.val) / 3072
        = (i 0).val
      omega
    | ⟨1, _⟩ =>
      show ((((i 0).val * 3072 + (i 1).val) / 3072 * 4 + ((i 0).val * 3072 + (i 1).val) / 768 % 4) * 768 + k.val) % 3072
        = (i 1).val / 768 * 768 + k.val
      omega
  · funext a
    apply Fin.ext
    match a with
    | ⟨0, _⟩ => show ((i 0).val * 3072 + (i 1).val) / 768 % 4 = (i 1).val / 768; omega
    | ⟨1, _⟩ => show ((i 0).val * 3072 + (i 1).val) % 768 = (i 1).val % 768; omega
    | ⟨2, _⟩ => rfl

end Cert.Reference14Ideal.Product

end
-- ==== Proof.GroupWeights.lean ====
/- The group weights' gradient: what the grid of four blocks leaves in the result array, and the reference's value, both as one
   sum over the 4096 positions. -/
module

public import proofs.«01_k».proof.Proof.Gen.Kernel15Ideal.Value
public import proofs.«01_k».proof.Proof.Gen.Reference15Ideal.Read
public import Idealize.ShloMosaic.Lib.Pipeline.Value
public import Idealize.ShloMosaic.Lib.Pointwise

@[expose] public section

set_option maxRecDepth 16384

noncomputable section

namespace Cert.Products

open Idealize.ShloMosaic

/-- The gradient of group `i 1`'s weight at row `192 (i 0) + i 2` and column `i 3`, the rows split over four chips. -/
def groupWeights (x : Vec Ideal Cert.Kernel15Ideal.S4096x3072 .bf16) (d : Vec Ideal Cert.Kernel15Ideal.S4096x4096 .bf16)
    (i : Cert.Kernel15Ideal.S4x4x192x768.Idx) : EReal :=
  ∑ k : Fin 4096, x (ix2 k (⟨(i 1).val * 768 + ((i 0).val * 192 + (i 2).val), by
        have h0 : (i 0).val < 4 := (i 0).isLt
        have h1 : (i 1).val < 4 := (i 1).isLt
        have h2 : (i 2).val < 192 := (i 2).isLt
        omega⟩ : Fin 3072))
    * d (ix2 k (⟨(i 1).val * 768 + (i 3).val, by
        have h1 : (i 1).val < 4 := (i 1).isLt
        have h3 : (i 3).val < 768 := (i 3).isLt
        omega⟩ : Fin 4096))

end Cert.Products

namespace Cert.Kernel15Ideal.Product

open Idealize.ShloMosaic Idealize.ShloMosaic.TcCoe Idealize.SL.Sem Cert.Kernel15Ideal Cert.Kernel15Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The transposed product of one group's columns. -/
theorem product (x d : Vec Ideal S4096x768 .bf16) (r s : Fin 768) :
    matmul (F := Ideal) (φ₁ := .bf16) (φ₂ := .bf16) dot_S4096x768_S4096x768_S768x768_0_0_1_1_n_n none x d (constant S768x768 .f32 0x00000000#32) (ix2 r s)
      = ∑ k : Fin 4096, x (ix2 k r) * d (ix2 k s) := by
  pointwise

/-- One block's payload: the product's rows, split into four pieces of 192. -/
theorem pay_apply (x d : Vec Ideal S4096x768 .bf16) (a : Fin 4) (b : Fin 1) (r : Fin 192) (s : Fin 768) :
    k0_pay1 (F := Ideal) x d (ix4 a b r s) =
      ∑ k : Fin 4096, x (ix2 k (⟨a.val * 192 + r.val, by omega⟩ : Fin 768)) * d (ix2 k s) := by
  rw [← product]
  unfold k0_pay1
  refine (shapeCast_apply _ shapeCasts_S4x192x768_S4x1x192x768 _ (ix3 a r s) ?_).trans
    ((truncf_apply _ _ _ _).trans (shapeCast_apply _ shapeCasts_S768x768_S4x192x768 _ (ix2 (⟨a.val * 192 + r.val, by omega⟩ : Fin 768) s) ?_))
  · rw [Shape.rowMajor_val_three, Shape.rowMajor_val_four]
    show (a.val * 192 + r.val) * 768 + s.val = ((a.val * 1 + b.val) * 192 + r.val) * 768 + s.val
    omega
  · rw [Shape.rowMajor_val_two, Shape.rowMajor_val_three]
    rfl

/-- The block's run stores this payload. -/
theorem out_eq (i : grid0.Coords) (p : Memref sig .tc .vmem S4096x768 .bf16) (hp : p.IsWhole)
    (q : Memref sig .tc .vmem S4096x768 .bf16) (hq : q.IsWhole) (o : Memref sig .tc .vmem S4x1x192x768 .bf16) (ho : o.IsWhole)
    (x d : Vec Ideal S4096x768 .bf16) : out0_A_2 c i p hp q hq o ho x d = k0_pay1 x d := by
  unfold out0_A_2
  rw [View.read_writes_eq_canon _ _ _ (cover0_A_2 c i p hp q hq o ho x d)]
  unfold kernelRun0_A
  dsimp only
  rw [View.canon_unit_zero hz4]
  simp only [View.readAt_eq_ld, hp.read_unread, hq.read_unread, View.ld_unit_zero (S := S4096x768) hz2]

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val ∧ win0_2.index t 2 = 0 ∧ win0_2.index t 3 = 0 :=
  (by decide +kernel : ∀ t : Fin grid0.N, win0_2.index t 0 = 0 ∧ win0_2.index t 1 = t.val ∧ win0_2.index t 2 = 0 ∧ win0_2.index t 3 = 0)

/-- The two arguments as launched. -/
abbrev a0 : Vec Ideal S4096x3072 .bf16 := m ((c : Thread nD τ).loc main_arg0)
abbrev a1 : Vec Ideal S4096x4096 .bf16 := m ((c : Thread nD τ).loc main_arg1)

theorem blk0 (t : Fin cfg0.N) (k : Fin 4096) (r : Fin 768) (R : Fin 3072) (hR : R.val = t.val * 768 + r.val) :
    (iblk m c 0 t : Vec Ideal S4096x768 .bf16) (ix2 k r) = a0 m c (ix2 k R) := by
  unfold iblk
  rw [View.read_apply]
  show V m c main_arg0 _ = _
  rw [V_main_arg0]
  refine congrArg (a0 m c) ?_
  funext a
  apply Fin.ext
  match a with
  | ⟨0, _⟩ => show win0_0.index t 0 * 4096 + 1 * k.val = k.val; rw [(idx0 t).1]; omega
  | ⟨1, _⟩ => show win0_0.index t 1 * 768 + 1 * r.val = R.val; rw [(idx0 t).2]; omega

theorem blk1 (t : Fin cfg0.N) (k : Fin 4096) (s : Fin 768) (S : Fin 4096) (hS : S.val = t.val * 768 + s.val) :
    (X0_1 m c t : Vec Ideal S4096x768 .bf16) (ix2 k s) = a1 m c (ix2 k S) := by
  unfold X0_1 Pipeline.Window.fill
  rw [dif_pos (moved0_1 t _)]
  unfold iblk
  rw [View.read_apply]
  show V m c main_arg1 _ = _
  rw [V_main_arg1]
  refine congrArg (a1 m c) ?_
  funext a
  apply Fin.ext
  match a with
  | ⟨0, _⟩ => show win0_1.index t 0 * 4096 + 1 * k.val = k.val; rw [(idx1 t).1]; omega
  | ⟨1, _⟩ => show win0_1.index t 1 * 768 + 1 * s.val = S.val; rw [(idx1 t).2]; omega

theorem flushed (t : Fin cfg0.N) :
    (dats m 0 c).flushed 2 t = ((cfg0.win 2).blk t).view.read (Elt Ideal) (groupWeights (a0 m c) (a1 m c)) := by
  rw [Value.flushed2_A, out_eq]
  funext y
  obtain ⟨a, b, r, s, rfl⟩ : ∃ a b r s, y = ix4 a b r s := ⟨y 0, y 1, y 2, y 3, by idx_ext⟩
  rw [View.read_apply]
  show k0_pay1 (iblk m c 0 t) (X0_1 m c t) (ix4 a b r s) =
    groupWeights (a0 m c) (a1 m c) (((cfg0.win 2).blk t).view.emb (ix4 a b r s))
  rw [pay_apply]
  have e0 : ((((cfg0.win 2).blk t).view.emb (ix4 a b r s)) 0).val = a.val := by
    show win0_2.index t 0 * 4 + 1 * a.val = _; rw [(idx2 t).1]; omega
  have e1 : ((((cfg0.win 2).blk t).view.emb (ix4 a b r s)) 1).val = t.val := by
    show win0_2.index t 1 * 1 + 1 * b.val = _; rw [(idx2 t).2.1]; omega
  have e2 : ((((cfg0.win 2).blk t).view.emb (ix4 a b r s)) 2).val = r.val := by
    show win0_2.index t 2 * 192 + 1 * r.val = _; rw [(idx2 t).2.2.1]; omega
  have e3 : ((((cfg0.win 2).blk t).view.emb (ix4 a b r s)) 3).val = s.val := by
    show win0_2.index t 3 * 768 + 1 * s.val = _; rw [(idx2 t).2.2.2]; omega
  unfold groupWeights
  refine Finset.sum_congr rfl fun k _ => congrArg₂ (· * ·) (blk0 m c t k _ _ ?_) (blk1 m c t k _ _ ?_)
  · show ((((cfg0.win 2).blk t).view.emb (ix4 a b r s)) 1).val * 768 + (((((cfg0.win 2).blk t).view.emb (ix4 a b r s)) 0).val * 192
      + ((((cfg0.win 2).blk t).view.emb (ix4 a b r s)) 2).val) = _
    rw [e0, e1, e2]
  · show ((((cfg0.win 2).blk t).view.emb (ix4 a b r s)) 1).val * 768 + ((((cfg0.win 2).blk t).view.emb (ix4 a b r s)) 3).val = _
    rw [e1, e3]

theorem onto : ∀ (p : Fin 4), ∃ t : Fin cfg0.N, win0_2.index t 1 = p.val :=
  (by decide +kernel : ∀ (p : Fin 4), ∃ t : Fin grid0.N, win0_2.index t 1 = p.val)

/-- The four blocks fill the array. -/
theorem final : (dats m 0 c).arrAt 2 cfg0.N = groupWeights (a0 m c) (a1 m c) :=
  (dats m 0 c).arrAt_eq_of_cover 2 (groupWeights (a0 m c) (a1 m c)) (fun t _ => flushed m c t) fun i => by
    have h0 : (i 0).val < 4 := (i 0).isLt
    have h1 : (i 1).val < 4 := (i 1).isLt
    have h2 : (i 2).val < 192 := (i 2).isLt
    have h3 : (i 3).val < 768 := (i 3).isLt
    obtain ⟨t, e1⟩ := onto ⟨(i 1).val, h1⟩
    dsimp only at e1
    obtain ⟨e0, -, e2, e3⟩ := idx2 t
    refine ⟨t, flush0_2 t, ?_⟩
    show i ∈ ((View.whole main_v0).slice (win0_2.rect t)).set
    rw [View.set_slice_whole, Rect.mem_set_unit]
    intro a
    match a with
    | ⟨0, _⟩ => show win0_2.index t 0 * 4 ≤ (i 0).val ∧ (i 0).val < win0_2.index t 0 * 4 + 4; omega
    | ⟨1, _⟩ => show win0_2.index t 1 * 1 ≤ (i 1).val ∧ (i 1).val < win0_2.index t 1 * 1 + 1; omega
    | ⟨2, _⟩ => show win0_2.index t 2 * 192 ≤ (i 2).val ∧ (i 2).val < win0_2.index t 2 * 192 + 192; omega
    | ⟨3, _⟩ => show win0_2.index t 3 * 768 ≤ (i 3).val ∧ (i 3).val < win0_2.index t 3 * 768 + 768; omega

end Cert.Kernel15Ideal.Product

namespace Cert.Reference15Ideal.Product

open Idealize.ShloMosaic Cert.Reference15Ideal Cert.Reference15Ideal.Gen Cert.Reference15Ideal.Read Cert.Products

/-- The reference's product, by group, row and column. -/
theorem product (x : Vec Ideal S4096x3072 .bf16) (d : Vec Ideal S4096x4096 .bf16) (g : Fin 4) (r s : Fin 768) :
    val_main_v12 (F := Ideal) x d (ix3 g r s) = ∑ k : Fin 4096, x (ix2 k (⟨g.val * 768 + r.val, by omega⟩ : Fin 3072))
      * d (ix2 k (⟨g.val * 768 + s.val, by omega⟩ : Fin 4096)) := by
  show val_main_v11 (F := Ideal) x d (ix3 g r s) = _
  rw [val_main_v11_apply, val_main_v10_apply]
  refine Finset.sum_congr rfl fun k _ => ?_
  rw [mul_comm]
  have hk := k.isLt
  refine congrArg₂ (· * ·) ?_ ?_
  · rw [val_main_v4_apply]
    refine congrArg x ?_
    funext a
    apply Fin.ext
    match a with
    | ⟨0, _⟩ => show ((k.val * 4 + g.val) * 768 + r.val) / 3072 = k.val; omega
    | ⟨1, _⟩ => show ((k.val * 4 + g.val) * 768 + r.val) % 3072 = g.val * 768 + r.val; omega
  · rw [val_main_v9_apply, val_main_v8_apply]
    show val_main_v1 (F := Ideal) d _ = _
    rw [val_main_v1_apply]
    refine congrArg d ?_
    funext a
    apply Fin.ext
    match a with
    | ⟨0, _⟩ => show ((k.val * 4 + g.val) * 768 + s.val) / 3072 = k.val; omega
    | ⟨1, _⟩ => show ((k.val * 4 + g.val) * 768 + s.val) % 3072 = g.val * 768 + s.val; omega

theorem result (x : Vec Ideal S4096x3072 .bf16) (d : Vec Ideal S4096x4096 .bf16) :
    val_main_v14 (F := Ideal) x d = groupWeights x d := by
  funext i
  have h0 : (i 0).val < 4 := (i 0).isLt
  have h1 : (i 1).val < 4 := (i 1).isLt
  have h2 : (i 2).val < 192 := (i 2).isLt
  have h3 : (i 3).val < 768 := (i 3).isLt
  rw [val_main_v14_apply, val_main_v13_apply]
  refine (congrArg (val_main_v12 (F := Ideal) x d) ?_).trans
    (product x d (i 1) (⟨(i 0).val * 192 + (i 2).val, by omega⟩ : Fin 768) (i 3))
  funext a
  apply Fin.ext
  match a with
  | ⟨0, _⟩ =>
    show ((((i 1).val * 4 + (i 0).val) * 192 + (i 2).val) * 768 + (i 3).val) / 589824 = (i 1).val
    omega
  | ⟨1, _⟩ =>
    show ((((i 1).val * 4 + (i 0).val) * 192 + (i 2).val) * 768 + (i 3).val) / 768 % 768 = (i 0).val * 192 + (i 2).val
    omega
  | ⟨2, _⟩ =>
    show ((((i 1).val * 4 + (i 0).val) * 192 + (i 2).val) * 768 + (i 3).val) % 768 = (i 3).val
    omega

end Cert.Reference15Ideal.Product

end
-- ==== Proof.PoolGroups.lean ====
/- The pooled values through the group weights: what the grid of 16 blocks leaves in the columns that are read, the result cut out
   of them, and the reference's value, both as one sum over the 768 columns of a group. -/
module

public import proofs.«01_k».proof.Proof.Gen.Kernel16Ideal.Frame
public import proofs.«01_k».proof.Proof.Gen.Reference16Ideal.Read
public import Idealize.ShloMosaic.Lib.Pipeline.Value
public import Idealize.ShloMosaic.Lib.Pointwise

@[expose] public section

set_option maxRecDepth 16384

noncomputable section

namespace Cert.Products

open Idealize.ShloMosaic

/-- The mixed value at position `i 0` and column `i 1`, of group `(i 1) / 768`. -/
def poolGroups (x : Vec Ideal Cert.Kernel16Ideal.S4096x3072 .bf16) (w : Vec Ideal Cert.Kernel16Ideal.S4x768x768 .bf16)
    (i : Cert.Kernel16Ideal.S4096x3072.Idx) : EReal :=
  ∑ k : Fin 768, x (ix2 (i 0) (⟨(i 1).val / 768 * 768 + k.val, by have h1 : (i 1).val < 3072 := (i 1).isLt; omega⟩ : Fin 3072))
    * w (ix3 (⟨(i 1).val / 768, by have h1 : (i 1).val < 3072 := (i 1).isLt; omega⟩ : Fin 4) k
        (⟨(i 1).val % 768, by omega⟩ : Fin 768))

end Cert.Products

namespace Cert.Kernel16Ideal.Product

open Idealize.ShloMosaic Idealize.ShloMosaic.TcCoe Idealize.SL.Sem Cert.Kernel16Ideal Cert.Kernel16Ideal.Gen Cert.Products

variable (m : (ℓ : Loc nD τ sig) → Buf (Elt Ideal) ℓ) (ρ : Dev nD → PrngReg) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- One block's payload: the product of the block with its group's weights. -/
theorem out_apply (x : Vec Ideal S1024x768 .bf16) (w : Vec Ideal S1x768x768 .bf16) (r : Fin 1024) (s : Fin 768) :
    out0_2 (F := Ideal) x w (ix2 r s) = ∑ k : Fin 768, x (ix2 r k) * w (ix3 (0 : Fin 1) k s) := by
  unfold out0_2
  rw [View.canon_unit_zero hz2]
  simp only [View.ld_unit_zero (S := S1024x768) hz2, View.ld_unit_zero (S := S1x768x768) hz3]
  pointwise [k0_pay1]

theorem idx0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)
theorem size2 : ∀ t : Fin cfg0.N, win0_2.xsize (grid0.coords t) 0 = 1024 ∧ win0_2.xsize (grid0.coords t) 1 = 768 :=
  (by decide +kernel : ∀ t : Fin grid0.N, win0_2.xsize (grid0.coords t) 0 = 1024 ∧ win0_2.xsize (grid0.coords t) 1 = 768)

/-- The two arguments as launched. -/
abbrev a0 : Vec Ideal S4096x3072 .bf16 := m ((c : Thread nD τ).loc main_arg0)
abbrev a1 : Vec Ideal S4x768x768 .bf16 := m ((c : Thread nD τ).loc main_arg1)

/-- The array the call writes: what it holds in its first 3072 columns. -/
def wide (i : S4096x4096.Idx) : EReal :=
  poolGroups (a0 m c) (a1 m c) (ix2 (i 0) (⟨(i 1).val % 3072, Nat.mod_lt _ (by decide)⟩ : Fin 3072))

theorem blk0 (t : Fin cfg0.N) (r : Fin 1024) (k : Fin 768) (R : Fin 4096) (K : Fin 3072) (hR : R.val = t.val / 4 * 1024 + r.val)
    (hK : K.val = t.val % 4 * 768 + k.val) : (iblk m c 0 t : Vec Ideal S1024x768 .bf16) (ix2 r k) = a0 m c (ix2 R K) := by
  unfold iblk
  rw [View.read_apply]
  show V m c main_arg0 _ = _
  rw [V_main_arg0]
  refine congrArg (a0 m c) ?_
  funext a
  apply Fin.ext
  match a with
  | ⟨0, _⟩ => show win0_0.index t 0 * 1024 + 1 * r.val = R.val; rw [(idx0 t).1]; omega
  | ⟨1, _⟩ => show win0_0.index t 1 * 768 + 1 * k.val = K.val; rw [(idx0 t).2]; omega

theorem blk1 (t : Fin cfg0.N) (k s : Fin 768) (G : Fin 4) (S : Fin 768) (hG : G.val = t.val % 4) (hS : S.val = s.val) :
    (iblk m c 1 t : Vec Ideal S1x768x768 .bf16) (ix3 (0 : Fin 1) k s) = a1 m c (ix3 G k S) := by
  unfold iblk
  rw [View.read_apply]
  show V m c main_arg1 _ = _
  rw [V_main_arg1]
  refine congrArg (a1 m c) ?_
  funext a
  apply Fin.ext
  match a with
  | ⟨0, _⟩ => show win0_1.index t 0 * 1 + 1 * 0 = G.val; rw [(idx1 t).1]; omega
  | ⟨1, _⟩ => show win0_1.index t 1 * 768 + 1 * k.val = k.val; rw [(idx1 t).2.1]; omega
  | ⟨2, _⟩ => show win0_1.index t 2 * 768 + 1 * s.val = S.val; rw [(idx1 t).2.2]; omega

theorem flushed (t : Fin cfg0.N) : (dats m 0 c).flushed 2 t = ((cfg0.win 2).blk t).view.read (Elt Ideal) (wide m c) := by
  show (cfg0.win 2).cut (grid0.coords t) ((dats m 0 c).after 2 t) = _
  rw [after0_2]
  funext y
  have hr : (y 0).val < 1024 := (y 0).isLt.trans_eq (size2 t).1
  have hs : (y 1).val < 768 := (y 1).isLt.trans_eq (size2 t).2
  rw [View.read_apply]
  have ey : win0_2.xinj (grid0.coords t) y = ix2 (⟨(y 0).val, hr⟩ : Fin 1024) (⟨(y 1).val, hs⟩ : Fin 768) := by
    funext a
    apply Fin.ext
    match a with
    | ⟨0, _⟩ => rfl
    | ⟨1, _⟩ => rfl
  show out0_2 (iblk m c 0 t) (iblk m c 1 t) (win0_2.xinj (grid0.coords t) y) = wide m c (((cfg0.win 2).blk t).view.emb y)
  rw [ey, out_apply]
  have hR : ((((cfg0.win 2).blk t).view.emb y) 0).val = t.val / 4 * 1024 + (y 0).val := by
    show win0_2.index t 0 * 1024 + 1 * (y 0).val = _; rw [(idx2 t).1]; omega
  have hS : ((((cfg0.win 2).blk t).view.emb y) 1).val = t.val % 4 * 768 + (y 1).val := by
    show win0_2.index t 1 * 768 + 1 * (y 1).val = _; rw [(idx2 t).2]; omega
  unfold wide poolGroups
  refine Finset.sum_congr rfl fun k _ => congrArg₂ (· * ·) (blk0 m c t _ k _ _ hR ?_) (blk1 m c t k _ _ _ ?_ ?_)
  · show ((((cfg0.win 2).blk t).view.emb y) 1).val % 3072 / 768 * 768 + k.val = _
    rw [hS]; omega
  · show ((((cfg0.win 2).blk t).view.emb y) 1).val % 3072 / 768 = _
    rw [hS]; omega
  · show ((((cfg0.win 2).blk t).view.emb y) 1).val % 3072 % 768 = (y 1).val
    rw [hS]; omega

theorem onto : ∀ (p : Fin 4) (q : Fin 4), ∃ t : Fin cfg0.N, win0_2.index t 0 = p.val ∧ win0_2.index t 1 = q.val :=
  (by decide +kernel : ∀ (p : Fin 4) (q : Fin 4), ∃ t : Fin grid0.N, win0_2.index t 0 = p.val ∧ win0_2.index t 1 = q.val)

/-- The 16 blocks fill the first 3072 columns. -/
theorem written (i : S4096x4096.Idx) (h : (i 1).val < 3072) : (dats m 0 c).arrAt 2 cfg0.N i = wide m c i := by
  have h0 : (i 0).val < 4096 := (i 0).isLt
  obtain ⟨t, e0, e1⟩ := onto ⟨(i 0).val / 1024, by omega⟩ ⟨(i 1).val / 768, by omega⟩
  dsimp only at e0 e1
  refine (dats m 0 c).arrAt_apply_of_mem 2 (wide m c) (fun t _ => flushed m c t) cfg0.N t i t.isLt (flush0_2 t) ?_
  show i ∈ ((View.whole main_v0).slice (win0_2.rect t)).set
  rw [View.set_slice_whole, Rect.mem_set_unit]
  have z := size2 t
  intro a
  match a with
  | ⟨0, _⟩ => show win0_2.index t 0 * 1024 ≤ (i 0).val ∧ (i 0).val < win0_2.index t 0 * 1024 + win0_2.xsize (grid0.coords t) 0; omega
  | ⟨1, _⟩ => show win0_2.index t 1 * 768 ≤ (i 1).val ∧ (i 1).val < win0_2.index t 1 * 768 + win0_2.xsize (grid0.coords t) 1; omega

/-- The array after the call, as the operation behind it reads it. -/
theorem array : Pipeline.withArrays (cfgs 0).spec c (V0 m c) (fun w => (dats m 0 c).arrAt w (cfgs 0).N) (Proc.devRef .tc main_v0)
    = (dats m 0 c).arrAt 2 cfg0.N :=
  Pipeline.withArrays_arr spec0 launch0.win.arr_inj c (V0 m c) (fun w => (dats m 0 c).arrAt w cfg0.N) 2

theorem cut : Pipeline.afterTail₀ cfgs (dats m) 0 (V0 m) [hostOps1] c main_v1 = poolGroups (a0 m c) (a1 m c) := by
  show StableHlo.after hostOps1 (Pipeline.withArrays (cfgs 0).spec c (V0 m c) (fun w => (dats m 0 c).arrAt w (cfgs 0).N))
    (Proc.devRef .tc main_v1) = _
  unfold hostOps1
  simp only [StableHlo.after_cons, StableHlo.after_nil]
  rw [StableHlo.unary_result, array]
  funext i
  have h1 : (i 1).val < 3072 := (i 1).isLt
  refine (extractStridedSlice_apply ![0, 0] ((dats m 0 c).arrAt 2 cfg0.N : Vec Ideal S4096x4096 .bf16)
    slices_S4096x4096_S4096x3072_0_0 i (ix2 (i 0) (⟨(i 1).val, by omega⟩ : Fin 4096)) (fun a => ?_)).trans
    ((written m c _ h1).trans ?_)
  · match a with
    | ⟨0, _⟩ => show (i 0).val = 0 + (i 0).val; omega
    | ⟨1, _⟩ => show (i 1).val = 0 + (i 1).val; omega
  · refine congrArg (poolGroups (a0 m c) (a1 m c)) ?_
    funext a
    apply Fin.ext
    match a with
    | ⟨0, _⟩ => rfl
    | ⟨1, _⟩ => exact Nat.mod_eq_of_lt h1

/-- The run, with the result and the arguments. -/
theorem run : θ_run defs (onTc (τ := τ) (main (F := Ideal))) ⟨m, fun _ => 0, ρ⟩ (fun r => ∀ c : Dev nD,
    r.2.mem ((c.tc : Thread nD τ).loc main_v1) = poolGroups (a0 m c) (a1 m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v1 (Pipeline.mem_restRefs_of main_v1 (by decide) (by decide))).trans (cut m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel16Ideal.Product

namespace Cert.Reference16Ideal.Product

open Idealize.ShloMosaic Cert.Reference16Ideal Cert.Reference16Ideal.Gen Cert.Reference16Ideal.Read Cert.Products

theorem result (x : Vec Ideal S4096x3072 .bf16) (w : Vec Ideal S4x768x768 .bf16) :
    val_main_v6 (F := Ideal) x w = poolGroups x w := by
  funext i
  show val_main_v5 (F := Ideal) x w i = _
  rw [val_main_v5_apply, val_main_v4_apply, val_main_v3_apply]
  have h0 : (i 0).val < 4096 := (i 0).isLt
  have h1 : (i 1).val < 3072 := (i 1).isLt
  unfold poolGroups
  refine Finset.sum_congr rfl fun k _ => ?_
  rw [mul_comm]
  have hk := k.isLt
  refine congrArg₂ (· * ·) ?_ (congrArg w ?_)
  · rw [val_main_v2_apply]
    refine congrArg x ?_
    funext a
    apply Fin.ext
    match a with
    | ⟨0, _⟩ =>
      show ((((i 0).val * 3072 + (i 1).val) / 3072 * 4 + ((i 0).val * 3072 + (i 1).val) / 768 % 4) * 768 + k.val) / 3072
        = (i 0).val
      omega
    | ⟨1, _⟩ =>
      show ((((i 0).val * 3072 + (i 1).val) / 3072 * 4 + ((i 0).val * 3072 + (i 1).val) / 768 % 4) * 768 + k.val) % 3072
        = (i 1).val / 768 * 768 + k.val
      omega
  · funext a
    apply Fin.ext
    match a with
    | ⟨0, _⟩ => show ((i 0).val * 3072 + (i 1).val) / 768 % 4 = (i 1).val / 768; omega
    | ⟨1, _⟩ => rfl
    | ⟨2, _⟩ => show ((i 0).val * 3072 + (i 1).val) % 768 = (i 1).val % 768; omega

end Cert.Reference16Ideal.Product

end
-- ==== Proof.FirstAttn.lean ====
/- The first layer's attention gradient: the same blocks as the second layer's, of other columns. What a grid point leaves
   in its two output blocks, and the two result arrays after the eight points. -/
module

public import proofs.«01_k».proof.Proof.Fold
public import proofs.«01_k».proof.Proof.Gen.Kernel17Ideal.Value
public import Idealize.ShloMosaic.Lib.Pipeline.Value

@[expose] public section

set_option maxRecDepth 16384

noncomputable section

namespace Cert.Attn

open Idealize.ShloMosaic

/-- Row `s` of the first layer's queries: columns 3072 to 4095 of its projection. -/
def qrow0 (x : (⟨2, ![4096, 8192]⟩ : Shape).Idx → EReal) (s : Fin 4096) (c : Fin 1024) : EReal :=
  x (ix2 s ⟨3072 + c.val, by omega⟩)

/-- The first result: the query gradient in columns 3072 to 4095, the buffer's own contents in the others. -/
def dqOut0 (x0 : (⟨2, ![4096, 4096]⟩ : Shape).Idx → EReal) (x1 : (⟨2, ![4096, 8192]⟩ : Shape).Idx → EReal)
    (x2 : (⟨2, ![256, 2048]⟩ : Shape).Idx → EReal) (x3 : (⟨2, ![4096, 8192]⟩ : Shape).Idx → EReal)
    (i : (⟨2, ![4096, 8192]⟩ : Shape).Idx) : EReal :=
  if h : 3072 ≤ (i 1).val ∧ (i 1).val < 4096 then
    dqRow (qrow0 x1 (i 0)) (grow x0 (i 0)) (kvrow x2) ⟨(i 1).val - 3072, by omega⟩ else x3 i

/-- The second result: the gradient of the memory's keys and values, summed over the rows. -/
def dkvOut0 (x0 : (⟨2, ![4096, 4096]⟩ : Shape).Idx → EReal) (x1 : (⟨2, ![4096, 8192]⟩ : Shape).Idx → EReal)
    (x2 : (⟨2, ![256, 2048]⟩ : Shape).Idx → EReal) (i : (⟨2, ![256, 2048]⟩ : Shape).Idx) : EReal :=
  ∑ s : Fin 4096, dkvRow (qrow0 x1 s) (grow x0 s) (kvrow x2) (i 0) (i 1)

end Cert.Attn

namespace Cert.Kernel17Ideal.Heads

open Idealize.ShloMosaic Idealize.ShloMosaic.TcCoe Idealize.SL.Sem Cert.Kernel17Ideal Cert.Kernel17Ideal.Gen Cert.Attn
open Idealize.ShloMosaic.Pipeline (Dat)
open Cert.KernelIdeal.Heads (row mem added qgrad pieces pieces_cover pieces_all canon_pieces dq_piece readCov_skip readCov_zero canon_append)

section Points

variable (x0 x1 : Vec Ideal S512x1024 .bf16) (x2 : Vec Ideal S256x2048 .bf16) (xo : Vec Ideal S256x2048 .f32)

variable (c : Dev nD) (i : grid0.Coords) (a1 : Memref sig .tc .vmem S512x1024 .bf16) (h1 : a1.IsWhole)
  (a2 : Memref sig .tc .vmem S512x1024 .bf16) (h2 : a2.IsWhole) (a3 : Memref sig .tc .vmem S256x2048 .bf16) (h3 : a3.IsWhole)
  (a5 : Memref sig .tc .vmem S512x1024 .bf16) (h5 : a5.IsWhole) (a6 : Memref sig .tc .vmem S256x2048 .f32) (h6 : a6.IsWhole)

/-- A point that is not the first adds its rows to what the point before left. -/
theorem out_B_4 (hc : ¬cond0_0 i) :
    out0_B_4 (F := Ideal) c i a1 h1 a2 h2 a3 h3 a5 h5 a6 h6 hc x0 x1 x2 xo = added x0 x1 x2 xo := by
  unfold out0_B_4
  rw [View.read_writes_eq_canon _ _ _ (cover0_B_4 c i a1 h1 a2 h2 a3 h3 a5 h5 a6 h6 hc x0 x1 x2 xo)]
  unfold kernelRun0_B
  dsimp only
  sl_unfold_words
  simp only [View.readAt_eq_ld, h1.read_unread, h2.read_unread, h3.read_unread, h6.read_unread]
  exact canon_pieces x0 x1 x2 xo

/-- The first point adds its rows to zeros. -/
theorem out_A_4 (hc : cond0_0 i) :
    out0_A_4 (F := Ideal) c i a1 h1 a2 h2 a3 h3 a5 h5 a6 h6 hc x0 x1 x2 = added x0 x1 x2 (k0_pay6 (F := Ideal)) := by
  unfold out0_A_4
  rw [View.read_writes_eq_canon _ _ _ (cover0_A_4 c i a1 h1 a2 h2 a3 h3 a5 h5 a6 h6 hc x0 x1 x2)]
  unfold kernelRun0_A
  dsimp only
  sl_unfold_words
  simp only [View.readAt_eq_ld, h1.read_unread, h2.read_unread, h3.read_unread]
  simp (disch := decide) only [readCov_skip, readCov_zero]
  funext y
  exact canon_append (L := pieces x0 x1 x2 (k0_pay6 (F := Ideal))) (pieces_cover x0 x1 x2 _ y) (pieces_all x0 x1 x2 _ y)

/-- Every point writes its rows' query gradient. -/
theorem out_B_3 (hc : ¬cond0_0 i) :
    out0_B_3 (F := Ideal) c i a1 h1 a2 h2 a3 h3 a5 h5 a6 h6 hc x0 x1 x2 xo = qgrad x0 x1 x2 := by
  unfold out0_B_3
  have hcov := cover0_B_3 (F := Ideal) c i a1 h1 a2 h2 a3 h3 a5 h5 a6 h6 hc x0 x1 x2 xo
  rw [View.read_writes_eq_canon _ _ _ hcov]
  funext y
  refine View.canon_eq_of_allAt _ _ _ (hcov y) ?_
  unfold kernelRun0_B
  dsimp only
  sl_unfold_words
  simp only [View.readAt_eq_ld, h1.read_unread, h2.read_unread, h3.read_unread]
  refine View.allAt_cons_unit _ _ _ _ _ (dq_piece x0 x1 x2 3 768 1792 rfl rfl _ _ _ _ _ y) ?_
  refine View.allAt_cons_unit _ _ _ _ _ (dq_piece x0 x1 x2 2 512 1536 rfl rfl _ _ _ _ _ y) ?_
  refine View.allAt_cons_unit _ _ _ _ _ (dq_piece x0 x1 x2 1 256 1280 rfl rfl _ _ _ _ _ y) ?_
  refine View.allAt_cons_unit _ _ _ _ _ (dq_piece x0 x1 x2 0 0 1024 rfl rfl _ _ _ _ _ y) ?_
  exact View.allAt_nil _ _

theorem out_A_3 (hc : cond0_0 i) :
    out0_A_3 (F := Ideal) c i a1 h1 a2 h2 a3 h3 a5 h5 a6 h6 hc x0 x1 x2 = qgrad x0 x1 x2 := by
  unfold out0_A_3
  have hcov := cover0_A_3 (F := Ideal) c i a1 h1 a2 h2 a3 h3 a5 h5 a6 h6 hc x0 x1 x2
  rw [View.read_writes_eq_canon _ _ _ hcov]
  funext y
  refine View.canon_eq_of_allAt _ _ _ (hcov y) ?_
  unfold kernelRun0_A
  dsimp only
  sl_unfold_words
  simp only [View.readAt_eq_ld, h1.read_unread, h2.read_unread, h3.read_unread]
  refine View.allAt_cons_unit _ _ _ _ _ (dq_piece x0 x1 x2 3 768 1792 rfl rfl _ _ _ _ _ y) ?_
  refine View.allAt_cons_unit _ _ _ _ _ (dq_piece x0 x1 x2 2 512 1536 rfl rfl _ _ _ _ _ y) ?_
  refine View.allAt_cons_unit _ _ _ _ _ (dq_piece x0 x1 x2 1 256 1280 rfl rfl _ _ _ _ _ y) ?_
  refine View.allAt_cons_unit _ _ _ _ _ (dq_piece x0 x1 x2 0 0 1024 rfl rfl _ _ _ _ _ y) ?_
  exact View.allAt_nil _ _

end Points

variable (m : (ℓ : Loc nD τ sig) → Buf (Elt Ideal) ℓ) (ρ : Dev nD → PrngReg) (c : Dev nD)

/-- The four arguments as launched. -/
abbrev a0 : Vec Ideal S4096x4096 .bf16 := m ((c : Thread nD τ).loc main_arg0)
abbrev a1 : Vec Ideal S4096x8192 .bf16 := m ((c : Thread nD τ).loc main_arg1)
abbrev a2 : Vec Ideal S256x2048 .bf16 := m ((c : Thread nD τ).loc main_arg2)
abbrev a3 : Vec Ideal S4096x8192 .bf16 := m ((c : Thread nD τ).loc main_arg3)

theorem idx0 : ∀ t : Fin cfg0.N, win0_0.index t 0 = t.val ∧ win0_0.index t 1 = 3 :=
  (by decide +kernel : ∀ t : Fin grid0.N, win0_0.index t 0 = t.val ∧ win0_0.index t 1 = 3)
theorem idx1 : ∀ t : Fin cfg0.N, win0_1.index t 0 = t.val ∧ win0_1.index t 1 = 3 :=
  (by decide +kernel : ∀ t : Fin grid0.N, win0_1.index t 0 = t.val ∧ win0_1.index t 1 = 3)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 3 :=
  (by decide +kernel : ∀ t : Fin grid0.N, win0_3.index t 0 = t.val ∧ win0_3.index t 1 = 3)
theorem idx4 : ∀ t : Fin cfg0.N, win0_4.index t 0 = 0 ∧ win0_4.index t 1 = 0 :=
  (by decide +kernel : ∀ t : Fin grid0.N, win0_4.index t 0 = 0 ∧ win0_4.index t 1 = 0)

/-- Row `r` of block `t` among the 4096 rows. -/
def at_ (t : ℕ) (r : Fin 512) : Fin 4096 := ⟨(t * 512 + r.val) % 4096, Nat.mod_lt _ (by decide)⟩

theorem at_val (t : Fin cfg0.N) (r : Fin 512) : (at_ t.val r).val = t.val * 512 + r.val := by
  have hN : cfg0.N = 8 := N_0
  have := t.isLt
  unfold at_
  dsimp only
  omega

theorem row_grad (t : Fin cfg0.N) (r : Fin 512) :
    row (iblk m c 0 t) r = grow (a0 m c) (at_ t.val r) := by
  funext d
  unfold row grow iblk
  rw [View.read_apply]
  show V m c main_arg0 _ = _
  rw [V_main_arg0]
  congr 1
  funext a
  apply Fin.ext
  match a with
  | ⟨0, _⟩ => show win0_0.index t 0 * 512 + 1 * r.val = (at_ t.val r).val; rw [(idx0 t).1, at_val]; omega
  | ⟨1, _⟩ => show win0_0.index t 1 * 1024 + 1 * d.val = 3072 + d.val; rw [(idx0 t).2]; omega

theorem row_query (t : Fin cfg0.N) (r : Fin 512) :
    row (iblk m c 1 t) r = qrow0 (a1 m c) (at_ t.val r) := by
  funext d
  unfold row qrow0 iblk
  rw [View.read_apply]
  show V m c main_arg1 _ = _
  rw [V_main_arg1]
  congr 1
  funext a
  apply Fin.ext
  match a with
  | ⟨0, _⟩ => show win0_1.index t 0 * 512 + 1 * r.val = (at_ t.val r).val; rw [(idx1 t).1, at_val]; omega
  | ⟨1, _⟩ => show win0_1.index t 1 * 1024 + 1 * d.val = 3072 + d.val; rw [(idx1 t).2]; omega

theorem mem_kv (t : Fin cfg0.N) : mem (iblk m c 2 t) = kvrow (a2 m c) := by
  funext k d
  unfold mem kvrow iblk
  rw [View.read_apply]
  show V m c main_arg2 _ = _
  rw [V_main_arg2]
  congr 1
  funext a
  apply Fin.ext
  match a with
  | ⟨0, _⟩ => show win0_2.index t 0 * 256 + 1 * k.val = k.val; rw [(idx2 t).1]; omega
  | ⟨1, _⟩ => show win0_2.index t 1 * 2048 + 1 * d.val = d.val; rw [(idx2 t).2]; omega

/-- What block `t`'s rows add to the memory's gradient. -/
def blockSum (t : ℕ) (y : S256x2048.Idx) : EReal :=
  ∑ r : Fin 512, dkvRow (qrow0 (a1 m c) (at_ t r)) (grow (a0 m c) (at_ t r)) (kvrow (a2 m c)) (y 0) (y 1)

theorem added_eq (t : Fin cfg0.N) (xo : Vec Ideal S256x2048 .f32) (y : S256x2048.Idx) :
    added (iblk m c 0 t) (iblk m c 1 t) (iblk m c 2 t) xo y = xo y + blockSum m c t.val y := by
  unfold added blockSum
  simp only [row_grad, row_query, mem_kv]

/-- After point `n` the block holds the sum of the first `n + 1` blocks' rows: by induction on the point. -/
theorem outsAt_kv : ∀ (n : ℕ) (h : n < cfg0.N),
    (outsAt0 m c n h).2 = fun y => ∑ t ∈ Finset.range (n + 1), blockSum m c t y
  | 0, h => by
    rw [show outsAt0 m c 0 h = _ from outsAt0_A m c ⟨0, h⟩ rfl]
    dsimp only
    rw [out_A_4]
    funext y
    rw [added_eq, Finset.sum_range_one]
    show Ideal.ofBits .f32 0x00000000#32 + _ = _
    rw [Ideal.ofBits_zero_f32, zero_add]
  | n + 1, h => by
    have hN : cfg0.N = 8 := N_0
    have hB : ¬(⟨n + 1, h⟩ : Fin cfg0.N).val % 8 = 0 := by dsimp only; omega
    rw [show outsAt0 m c (n + 1) h = _ from outsAt0_B m c ⟨n + 1, h⟩ hB]
    dsimp only
    rw [out_B_4]
    funext y
    rw [added_eq, Finset.sum_range_succ, ← congrFun (outsAt_kv n (Nat.lt_of_succ_lt h)) y]
    rfl

/-- The eight blocks are the 4096 rows. -/
theorem sum_blocks (y : S256x2048.Idx) :
    (∑ t ∈ Finset.range 8, blockSum m c t y) = dkvOut0 (a0 m c) (a1 m c) (a2 m c) y := by
  unfold dkvOut0 blockSum
  rw [Finset.sum_range, Fin.sum_univ_tiles 8 512 rfl]
  refine Finset.sum_congr rfl fun t _ => Finset.sum_congr rfl fun r _ => ?_
  have : at_ t.val r = ⟨t.val * 512 + r.val, by omega⟩ := Fin.ext (by unfold at_; dsimp only; omega)
  rw [this]

theorem flushed_kv (t : Fin cfg0.N) (hf : (cfg0.win 4).flush t = true) :
    (dats m 0 c).flushed 4 t = ((cfg0.win 4).blk t).view.read (Elt Ideal) (dkvOut0 (a0 m c) (a1 m c) (a2 m c)) := by
  have hN : cfg0.N = 8 := N_0
  have h7 : t.val = 7 := by have := (flush0_4 t).mp hf; have := t.isLt; omega
  show (cfg0.win 4).cut (grid0.coords t) ((dats m 0 c).after 4 t) = _
  rw [after0_4, outsAt_kv]
  funext y
  rw [View.read_apply]
  show (∑ s ∈ Finset.range (t.val + 1), blockSum m c s y) = _
  rw [h7, sum_blocks]
  show dkvOut0 (a0 m c) (a1 m c) (a2 m c) y = dkvOut0 (a0 m c) (a1 m c) (a2 m c) _
  congr 1
  funext a
  apply Fin.ext
  match a with
  | ⟨0, _⟩ => show (y 0).val = win0_4.index t 0 * 256 + 1 * (y 0).val; rw [(idx4 t).1]; omega
  | ⟨1, _⟩ => show (y 1).val = win0_4.index t 1 * 2048 + 1 * (y 1).val; rw [(idx4 t).2]; omega

theorem final_kv : (dats m 0 c).arrAt 4 cfg0.N = dkvOut0 (a0 m c) (a1 m c) (a2 m c) :=
  (dats m 0 c).arrAt_eq_of_cover 4 (dkvOut0 (a0 m c) (a1 m c) (a2 m c)) (flushed_kv m c) fun i =>
    ⟨t0_7, (flush0_4 t0_7).mpr rfl, by
      show i ∈ ((View.whole main_v0_1).slice (win0_4.rect t0_7)).set
      rw [View.set_slice_whole, Rect.mem_set_unit]
      intro a
      have h0 : (i 0 : Nat) < 256 := (i 0).isLt
      have h1 : (i 1 : Nat) < 2048 := (i 1).isLt
      match a with
      | ⟨0, _⟩ => show win0_4.index t0_7 0 * 256 ≤ (i 0 : Nat) ∧ (i 0 : Nat) < win0_4.index t0_7 0 * 256 + 256
                  rw [(idx4 t0_7).1]; omega
      | ⟨1, _⟩ => show win0_4.index t0_7 1 * 2048 ≤ (i 1 : Nat) ∧ (i 1 : Nat) < win0_4.index t0_7 1 * 2048 + 2048
                  rw [(idx4 t0_7).2]; omega⟩

theorem outsAt_q (t : Fin cfg0.N) :
    (outsAt0 m c t.val t.isLt).1 = qgrad (iblk m c 0 t) (iblk m c 1 t) (iblk m c 2 t) := by
  by_cases h : t.val % 8 = 0
  · rw [outsAt0_A m c t h]; dsimp only; rw [out_A_3]
  · rw [outsAt0_B m c t h]; dsimp only; rw [out_B_3]

theorem V_out : V m c main_v0_0 = a3 m c := by
  show StableHlo.after hostOps0 _ _ = _
  unfold hostOps0
  simp only [StableHlo.after_cons, StableHlo.after_nil]
  rw [StableHlo.unary_result]
  rfl

/-- What block `t` of the first result holds after its point. -/
theorem flushed_q (t : Fin cfg0.N) (r : Fin 512) (d : Fin 1024) :
    (dats m 0 c).flushed 3 t (ix2 r d) =
      dqRow (qrow0 (a1 m c) (at_ t.val r)) (grow (a0 m c) (at_ t.val r)) (kvrow (a2 m c)) d := by
  have : (dats m 0 c).flushed 3 t = (cfg0.win 3).cut (grid0.coords t) ((dats m 0 c).after 3 t) := rfl
  rw [this, after0_3, outsAt_q]
  show dqRow (row (iblk m c 1 t) r) (row (iblk m c 0 t) r) (mem (iblk m c 2 t)) d = _
  rw [row_grad, row_query, mem_kv]

/-- Columns 3072 to 4095: the block of the row's grid point wrote the query gradient; the others keep the buffer's contents. -/
theorem final_q : (dats m 0 c).arrAt 3 cfg0.N = dqOut0 (a0 m c) (a1 m c) (a2 m c) (a3 m c) := by
  funext i
  have hN : cfg0.N = 8 := N_0
  have hi0 : (i 0).val < 4096 := (i 0).isLt
  unfold dqOut0
  by_cases h : 3072 ≤ (i 1).val ∧ (i 1).val < 4096
  · rw [dif_pos h]
    let t : Fin cfg0.N := ⟨(i 0).val / 512, by omega⟩
    let r : Fin 512 := ⟨(i 0).val % 512, Nat.mod_lt _ (by decide)⟩
    have hb := congrFun (Cert.Kernel17Ideal.Value.blocks3 m c t (flush0_3 t)) (ix2 r ⟨(i 1).val - 3072, by omega⟩)
    rw [View.read_apply, flushed_q] at hb
    have he : ((cfg0.win 3).blk t).view.emb (ix2 r ⟨(i 1).val - 3072, by omega⟩) = i := by
      funext a
      apply Fin.ext
      match a with
      | ⟨0, _⟩ => show win0_3.index t 0 * 512 + 1 * ((i 0).val % 512) = (i 0).val
                  rw [(idx3 t).1]; show (i 0).val / 512 * 512 + _ = _; omega
      | ⟨1, _⟩ => show win0_3.index t 1 * 1024 + 1 * ((i 1).val - 3072) = (i 1).val; rw [(idx3 t).2]; omega
    have hs : at_ t.val r = i 0 := Fin.ext (by
      rw [at_val]; show (i 0).val / 512 * 512 + (i 0).val % 512 = (i 0).val; omega)
    rw [he, hs] at hb
    exact hb
  · rw [dif_neg h, Cert.Kernel17Ideal.Value.entry3 m c i, ← V_out m c]
    intro t _ hm
    apply h
    have hm' : i ∈ ((View.whole main_v0_0).slice (win0_3.rect t)).set := hm
    rw [View.set_slice_whole, Rect.mem_set_unit] at hm'
    have h1 : win0_3.index t 1 * 1024 ≤ (i 1 : Nat) ∧ (i 1 : Nat) < win0_3.index t 1 * 1024 + 1024 := hm' 1
    rw [(idx3 t).2] at h1
    omega

/-- **The kernel's run**: the two results, and the arguments as launched. -/
theorem run : θ_run defs (onTc (τ := τ) (main (F := Ideal))) ⟨m, fun _ => 0, ρ⟩ fun r => ∀ c : Dev nD,
      r.2.mem ((c : Thread nD τ).loc main_v0_0) = dqOut0 (a0 m c) (a1 m c) (a2 m c) (a3 m c)
      ∧ r.2.mem ((c : Thread nD τ).loc main_v0_1) = dkvOut0 (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono
    (fun _ h c => ⟨(h c).1.trans (final_q m c), (h c).2.1.trans (final_kv m c), (h c).2.2⟩)
    (Cert.Kernel17Ideal.Value.run_blocks m ρ)

end Cert.Kernel17Ideal.Heads

end
-- ==== Proof.FirstAttnRef.lean ====
/- The first layer's attention gradient, the reference's two results at an index: the same functions of the arguments, the gradient of the scores written
   through the derivative of the quotient. -/
module

public import proofs.«01_k».proof.Proof.FirstAttn
public import proofs.«01_k».proof.Proof.Gen.Reference17Ideal.Read

@[expose] public section

set_option maxRecDepth 16384

noncomputable section

namespace Cert.Reference17Ideal.Heads

open Idealize.ShloMosaic Cert.Reference17Ideal Cert.Reference17Ideal.Read Cert.Attn

variable (x0 : Vec Ideal S4096x4096 .bf16) (x1 : Vec Ideal S4096x8192 .bf16) (x2 : Vec Ideal S256x2048 .bf16)
  (x3 : Vec Ideal S4096x8192 .bf16)

theorem query_at (s : Fin 4096) (h : Fin 4) (d : Fin 256) :
    val_main_v7 (F := Ideal) x1 (ix3 s h d) = qrow0 x1 s (hcol h d) := by
  rw [val_main_v7_apply, val_main_v1_apply, val_main_v0_apply]
  show x1 _ = x1 _
  congr 1
  funext a
  apply Fin.ext
  match a with
  | ⟨0, _⟩ => show ((s.val * 4 + h.val) * 256 + d.val) / 1024 = s.val; omega
  | ⟨1, _⟩ => show 3072 + ((s.val * 4 + h.val) * 256 + d.val) % 1024 = 3072 + (256 * h.val + d.val); omega

theorem grad_at (s : Fin 4096) (h : Fin 4) (d : Fin 256) :
    val_main_v45 (F := Ideal) x0 (ix3 h d s) = grow x0 s (hcol h d) := by
  rw [val_main_v45_apply, val_main_v44_apply, val_main_v3_apply, val_main_v2_apply]
  show x0 _ = x0 _
  congr 1
  funext a
  apply Fin.ext
  match a with
  | ⟨0, _⟩ => show ((s.val * 4 + h.val) * 256 + d.val) / 1024 = s.val; omega
  | ⟨1, _⟩ => show 3072 + ((s.val * 4 + h.val) * 256 + d.val) % 1024 = 3072 + (256 * h.val + d.val); omega

theorem key_at (m : Fin 256) (h : Fin 4) (d : Fin 256) :
    val_main_v8 (F := Ideal) x2 (ix3 m h d) = kvrow x2 m (kcol h d) := by
  rw [val_main_v8_apply, val_main_v5_apply, val_main_v4_apply]
  show x2 _ = x2 _
  congr 1
  funext a
  apply Fin.ext
  match a with
  | ⟨0, _⟩ => show ((m.val * 4 + h.val) * 256 + d.val) / 1024 = m.val; omega
  | ⟨1, _⟩ => show ((m.val * 4 + h.val) * 256 + d.val) % 1024 = 256 * h.val + d.val; omega

theorem value_at (m : Fin 256) (h : Fin 4) (d : Fin 256) :
    val_main_v9 (F := Ideal) x2 (ix3 m h d) = kvrow x2 m (vcol h d) := by
  rw [val_main_v9_apply, val_main_v6_apply, val_main_v4_apply]
  show x2 _ = x2 _
  congr 1
  funext a
  apply Fin.ext
  match a with
  | ⟨0, _⟩ => show ((m.val * 4 + h.val) * 256 + d.val) / 1024 = m.val; omega
  | ⟨1, _⟩ => show 1024 + ((m.val * 4 + h.val) * 256 + d.val) % 1024 = 1024 + (256 * h.val + d.val); omega

theorem score_at (h : Fin 4) (s : Fin 4096) (m : Fin 256) :
    val_main_v12 (F := Ideal) x1 x2 (ix3 h s m) = score (qrow0 x1 s) (kvrow x2) h m := by
  rw [val_main_v12_apply, val_main_v10_apply, val_main_v11_apply, val_main_cst_apply]
  unfold score
  refine congrArg₂ (· * ·) (Finset.sum_congr rfl fun d _ => ?_) rfl
  rw [show lidx_main_v10 (ix3 h s m) d = ix3 s h d from by idx_ext,
    show ridx_main_v10 (ix3 h s m) d = ix3 m h d from by idx_ext, query_at, key_at]

theorem top_at (h : Fin 4) (s : Fin 4096) :
    val_main_v13 (F := Ideal) x1 x2 (ix2 h s) = top (score (qrow0 x1 s) (kvrow x2) h) := by
  unfold val_main_v13
  have : score (qrow0 x1 s) (kvrow x2) h = fun m => val_main_v12 (F := Ideal) x1 x2 (ix3 h s m) :=
    funext fun m => (score_at x1 x2 h s m).symm
  rw [this]
  generalize val_main_v12 (F := Ideal) x1 x2 = v
  pointwise
  show Finset.fold max (Ideal.ofBits .f32 0xFF800000#32) _ _ = _
  rw [ofBits_bot]
  rfl

theorem ex_at (h : Fin 4) (s : Fin 4096) (m : Fin 256) :
    val_main_v33 (F := Ideal) x1 x2 (ix3 h s m) = ex (score (qrow0 x1 s) (kvrow x2) h) m := by
  rw [val_main_v33_apply, val_main_v32_apply, score_at, val_main_v31_apply, val_main_v30_apply, val_main_v20_apply,
    val_main_v19_apply]
  have ht : val_main_v13 (F := Ideal) x1 x2 (idx_main_v30 (idx_main_v31 (ix3 h s m))) = top (score (qrow0 x1 s) (kvrow x2) h) := by
    rw [← top_at]; congr 1; idx_ext
  rw [ht]
  show Ideal.exp (_ - max (Ideal.ofBits .f32 0xFF800000#32) _) = _
  rw [ofBits_bot, max_eq_right bot_le]
  rfl

theorem den_at (h : Fin 4) (s : Fin 4096) :
    val_main_v34 (F := Ideal) x1 x2 (ix2 h s) = den (score (qrow0 x1 s) (kvrow x2) h) := by
  rw [val_main_v34_apply]
  unfold den
  show Ideal.ofBits .f32 0x00000000#32 + _ = _
  rw [Ideal.ofBits_zero_f32, zero_add]
  refine Finset.sum_congr rfl fun m _ => ?_
  rw [← ex_at]; congr 1; idx_ext

theorem prob_at (h : Fin 4) (s : Fin 4096) (m : Fin 256) :
    val_main_v37 (F := Ideal) x1 x2 (ix3 h s m) = prob (score (qrow0 x1 s) (kvrow x2) h) m := by
  rw [val_main_v37_apply, ex_at, val_main_v36_apply, val_main_v35_apply,
    show idx_main_v35 (idx_main_v36 (ix3 h s m)) = ix2 h s from by idx_ext, den_at]
  rfl

theorem dprob_at (h : Fin 4) (s : Fin 4096) (m : Fin 256) :
    val_main_v46 (F := Ideal) x0 x2 (ix3 h s m) = dprob (grow x0 s) (kvrow x2) h m := by
  rw [val_main_v46_apply]
  unfold dprob
  refine Finset.sum_congr rfl fun d _ => ?_
  rw [show lidx_main_v46 (ix3 h s m) d = ix3 h d s from by idx_ext,
    show ridx_main_v46 (ix3 h s m) d = ix3 m h d from by idx_ext, grad_at, value_at]

/-- The gradient of the scores in the reference's form. -/
theorem dscore_at (h : Fin 4) (s : Fin 4096) (m : Fin 256) :
    val_main_v62 (F := Ideal) x0 x1 x2 (ix3 h s m) =
      dscoreQ (score (qrow0 x1 s) (kvrow x2) h) (dprob (grow x0 s) (kvrow x2) h) m := by
  have hone : Ideal.ofBits .f32 0x3F800000#32 = 1 := Ideal.ofBits_one_f32
  have hz : ∀ j : Fin 256, val_main_v51 (F := Ideal) x0 x1 x2 (ix3 h s j) =
      dprob (grow x0 s) (kvrow x2) h j * Ideal.div 1 (den (score (qrow0 x1 s) (kvrow x2) h) *
        den (score (qrow0 x1 s) (kvrow x2) h)) * ex (score (qrow0 x1 s) (kvrow x2) h) j := by
    intro j
    rw [val_main_v51_apply, val_main_v50_apply, dprob_at, ex_at, val_main_v49_apply, val_main_v40_apply,
      val_main_v39_apply, val_main_v38_apply, val_main_v35_apply,
      show idx_main_v35 (idx_main_v49 (ix3 h s j)) = ix2 h s from by idx_ext, den_at, ← hone]
    rfl
  have hsum : val_main_v57 (F := Ideal) x0 x1 x2 (ix2 h s) =
      -(∑ j, dprob (grow x0 s) (kvrow x2) h j * Ideal.div 1 (den (score (qrow0 x1 s) (kvrow x2) h) *
        den (score (qrow0 x1 s) (kvrow x2) h)) * ex (score (qrow0 x1 s) (kvrow x2) h) j) := by
    rw [val_main_v57_apply, Fin.sum_univ_one, val_main_v54_apply, val_main_v53_apply,
      show idx_main_v53 (idx_main_v57 (ix2 h s) 0) = ix2 h s from by
        funext a
        apply Fin.ext
        match a with
        | ⟨0, _⟩ => show ((h.val * 4096 + s.val) * 1 + 0) / 4096 = h.val; omega
        | ⟨1, _⟩ => show ((h.val * 4096 + s.val) * 1 + 0) % 4096 = s.val; omega,
      val_main_v52_apply]
    show Ideal.ofBits .f32 0x00000000#32 + -(Ideal.ofBits .f32 0x00000000#32 + _) = _
    rw [Ideal.ofBits_zero_f32, zero_add, zero_add]
    refine congrArg _ (Finset.sum_congr rfl fun j _ => ?_)
    rw [← hz]; congr 1; idx_ext
  rw [val_main_v62_apply, val_main_v60_apply, val_main_v59_apply, val_main_v56_apply, dprob_at, ex_at,
    val_main_v55_apply, val_main_v35_apply,
    show idx_main_v35 (idx_main_v55 (ix3 h s m)) = ix2 h s from by idx_ext, den_at, val_main_v58_apply,
    show idx_main_v58 (ix3 h s m) = ix2 h s from by idx_ext, hsum, val_main_v61_apply]
  rfl

variable (hreal : ∀ s h m, ∃ r : ℝ, score (qrow0 x1 s) (kvrow x2) h m = r)
include hreal

theorem dsc_at (h : Fin 4) (s : Fin 4096) (m : Fin 256) :
    val_main_v62 (F := Ideal) x0 x1 x2 (ix3 h s m) = dsc (qrow0 x1 s) (grow x0 s) (kvrow x2) h m := by
  rw [dscore_at, dscore_eq _ _ (hreal s h)]
  rfl

theorem dq_at (s : Fin 4096) (h : Fin 4) (d : Fin 256) :
    val_main_v66 (F := Ideal) x0 x1 x2 (ix3 s h d) = dqAt (qrow0 x1 s) (grow x0 s) (kvrow x2) h d := by
  rw [val_main_v66_apply, val_main_v65_apply]
  unfold dqAt
  refine Finset.sum_congr rfl fun m _ => ?_
  rw [← dsc_at x0 x1 x2 hreal, ← key_at]
  congr 2 <;> idx_ext

theorem dk_at (m : Fin 256) (h : Fin 4) (d : Fin 256) :
    val_main_v64 (F := Ideal) x0 x1 x2 (ix3 m h d) = ∑ s, dkAt (qrow0 x1 s) (grow x0 s) (kvrow x2) h m d := by
  rw [val_main_v64_apply, val_main_v63_apply]
  unfold dkAt
  refine Finset.sum_congr rfl fun s _ => ?_
  rw [← dsc_at x0 x1 x2 hreal, ← query_at]
  congr 2 <;> idx_ext

omit hreal in
theorem dv_at (m : Fin 256) (h : Fin 4) (d : Fin 256) :
    val_main_v48 (F := Ideal) x0 x1 x2 (ix3 m h d) = ∑ s, dvAt (qrow0 x1 s) (grow x0 s) (kvrow x2) h m d := by
  rw [val_main_v48_apply, val_main_v47_apply]
  unfold dvAt
  refine Finset.sum_congr rfl fun s _ => ?_
  rw [← prob_at, ← grad_at, mul_comm]
  congr 2 <;> idx_ext

/-- The reference's first result: three pieces side by side, the query gradient in the middle. -/
theorem result_q : val_main_v74 (F := Ideal) x0 x1 x2 x3 = dqOut0 x0 x1 x2 x3 := by
  funext i
  obtain ⟨s, c, rfl⟩ : ∃ s c, i = ix2 s c := ⟨i 0, i 1, by idx_ext⟩
  unfold val_main_v74 dqOut0
  pointwise
  by_cases hl : c.val < 3072
  · rw [dif_pos hl, dif_neg (by show ¬(3072 ≤ c.val ∧ c.val < 4096); omega), val_main_v71_apply]
    congr 1
    idx_ext
  rw [dif_neg hl]
  by_cases hc : c.val < 4096
  · rw [dif_pos (by omega), dif_pos ⟨by omega, hc⟩, val_main_v72_apply]
    show val_main_v69 (F := Ideal) x0 x1 x2 _ = _
    rw [val_main_v69_apply, dqRow_eq _ _ _ ⟨(c.val - 3072) / 256, by omega⟩ ⟨(c.val - 3072) % 256, by omega⟩ _
      (by dsimp only; omega), ← dq_at x0 x1 x2 hreal]
    congr 1
    funext a
    apply Fin.ext
    match a with
    | ⟨0, _⟩ => show (s.val * 1024 + (c.val - 3072)) / 1024 = s.val; omega
    | ⟨1, _⟩ => show (s.val * 1024 + (c.val - 3072)) / 256 % 4 = (c.val - 3072) / 256; omega
    | ⟨2, _⟩ => show (s.val * 1024 + (c.val - 3072)) % 256 = (c.val - 3072) % 256; omega
  · rw [dif_neg (by omega), dif_neg (by show ¬(3072 ≤ c.val ∧ c.val < 4096); omega), val_main_v73_apply]
    congr 1
    funext a
    apply Fin.ext
    match a with
    | ⟨0, _⟩ => rfl
    | ⟨1, _⟩ => show 4096 + (c.val - 3072 - 1024) = c.val; omega

/-- The reference's second result. -/
theorem result_kv : val_main_v70 (F := Ideal) x0 x1 x2 = dkvOut0 x0 x1 x2 := by
  funext i
  obtain ⟨m, c, rfl⟩ : ∃ m c, i = ix2 m c := ⟨i 0, i 1, by idx_ext⟩
  unfold val_main_v70 dkvOut0
  pointwise
  by_cases hc : c.val < 1024
  · rw [dif_pos hc, val_main_v68_apply]
    simp only [dkvRow_key _ _ _ ⟨c.val / 256, by omega⟩ ⟨c.val % 256, by omega⟩ m c (by dsimp only; omega)]
    rw [← dk_at x0 x1 x2 hreal]
    congr 1
    funext a
    apply Fin.ext
    match a with
    | ⟨0, _⟩ => show (m.val * 1024 + c.val) / 1024 = m.val; omega
    | ⟨1, _⟩ => show (m.val * 1024 + c.val) / 256 % 4 = c.val / 256; omega
    | ⟨2, _⟩ => show (m.val * 1024 + c.val) % 256 = c.val % 256; omega
  · rw [dif_neg hc, val_main_v67_apply]
    simp only [dkvRow_value _ _ _ ⟨(c.val - 1024) / 256, by omega⟩ ⟨c.val % 256, by omega⟩ m c (by dsimp only; omega)]
    rw [← dv_at x0 x1 x2]
    congr 1
    funext a
    apply Fin.ext
    match a with
    | ⟨0, _⟩ => show (m.val * 1024 + (c.val - 1024)) / 1024 = m.val; omega
    | ⟨1, _⟩ => show (m.val * 1024 + (c.val - 1024)) / 256 % 4 = (c.val - 1024) / 256; omega
    | ⟨2, _⟩ => show (m.val * 1024 + (c.val - 1024)) % 256 = c.val % 256; omega

end Cert.Reference17Ideal.Heads

end
-- ==== Proof.FirstFinite.lean ====
/- What the first layer's precondition says: the queries and the keys are real numbers, and so is every score. -/
module

public import proofs.«01_k».proof.Proof.FirstAttn
public import proofs.«01_k».proof.Proof.Finite
public import proofs.«01_k».proof.Pre_queries_and_keys0_finite
public import Idealize.ShloMosaic.Lib.ReduceAll

@[expose] public section

noncomputable section

namespace Cert.Finite0

open Idealize.ShloMosaic Cert.Pre_queries_and_keys0_finite Cert.Attn
open Cert.Finite (real_of_lt lt_of_cmp sum_real)

instance facts : Cert.Pre_queries_and_keys0_finite.Facts where
  slices_S4096x8192_S4096x1024_0_3072 := by decide
  bitsLt_bf16_f32 := by decide
  slices_S256x2048_S256x1024_0_0 := by decide
  bcast_S_S4096x1024 := by decide
  reducesTo_S4096x1024_S_d0_1 := by decide
  h_S_ := by decide
  bcast_S_S256x1024 := by decide
  reducesTo_S256x1024_S_d0_1 := by decide

variable (x0 : Vec Ideal S4096x4096 .bf16) (x1 : Vec Ideal S4096x8192 .bf16) (x2 : Vec Ideal S256x2048 .bf16)
  (x3 : Vec Ideal S4096x8192 .bf16)

theorem score_real (hp : Cert.Pre_queries_and_keys0_finite.fn (F := Ideal) x0 x1 x2 x3 = fun _ => 1#1)
    (s : Fin 4096) (h : Fin 4) (m : Fin 256) : ∃ r : ℝ, score (qrow0 x1 s) (kvrow x2) h m = r := by
  have h0 := congrFun hp (fun a => Fin.elim0 a)
  dsimp only [fn] at h0
  obtain ⟨hq, hk⟩ := IntOp.andi_eq_one.1 h0
  haveI : Subsingleton S_.Idx := ⟨fun a b => funext fun i => i.elim0⟩
  have hq' : ∀ c : Fin 1024, ∃ r : ℝ, qrow0 x1 s c = r := fun c => real_of_lt _ (by
    have := lt_of_cmp _ _ (Host.reduce_andi_all _ _ _ _ _ hq (ix2 s c))
    rw [broadcastInDim, constant] at this
    refine lt_of_eq_of_lt ?_ (this.trans_eq ofBits_top)
    have he : extractStridedSlice S4096x1024 ![0, 3072] x1 facts.slices_S4096x8192_S4096x1024_0_3072 (ix2 s c) = qrow0 x1 s c :=
      extractStridedSlice_apply _ _ _ _ _ fun a => match a with
        | ⟨0, _⟩ => by show s.val = 0 + s.val; omega
        | ⟨1, _⟩ => rfl
    rw [← he]
    rfl)
  have hk' : ∀ c : Fin 1024, ∃ r : ℝ, kvrow x2 m ⟨c.val, by omega⟩ = r := fun c => real_of_lt _ (by
    have := lt_of_cmp _ _ (Host.reduce_andi_all _ _ _ _ _ hk (ix2 m c))
    rw [broadcastInDim, constant] at this
    refine lt_of_eq_of_lt ?_ (this.trans_eq ofBits_top)
    have he : extractStridedSlice S256x1024 ![0, 0] x2 facts.slices_S256x2048_S256x1024_0_0 (ix2 m c) =
        kvrow x2 m ⟨c.val, by omega⟩ :=
      extractStridedSlice_apply _ _ _ _ _ fun a => match a with
        | ⟨0, _⟩ => by show m.val = 0 + m.val; omega
        | ⟨1, _⟩ => by show c.val = 0 + c.val; omega
    rw [← he]
    rfl)
  obtain ⟨r, hr⟩ := sum_real Finset.univ (fun d => qrow0 x1 s (hcol h d)) (fun d => kvrow x2 m (kcol h d))
    (fun d => hq' (hcol h d)) (fun d => hk' (hcol h d))
  obtain ⟨a, ha⟩ := scale_real
  exact ⟨r * a, by unfold score; rw [ha, EReal.coe_mul]; exact congrArg (· * (a : EReal)) hr⟩

end Cert.Finite0

end
-- ==== Proof.Memory.lean ====
/- The memory's key and value projection and its gradients: what each call's blocks leave in the result array, and the
   references' values, all as one sum. -/
module

public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import Idealize.ShloMosaic.Lib.Pipeline.Value
public import Idealize.ShloMosaic.Lib.Pointwise

@[expose] public section

set_option maxRecDepth 16384

noncomputable section

namespace Cert.Products

open Idealize.ShloMosaic

/-- The weights' gradient, summed over the 256 memory positions. -/
def kvWeights (x g : (⟨2, ![256, 2048]⟩ : Shape).Idx → EReal) (i : (⟨2, ![2048, 2048]⟩ : Shape).Idx) : EReal :=
  ∑ k : Fin 256, x (ix2 k (i 0)) * g (ix2 k (i 1))

/-- The memory's gradient, summed over the 2048 columns of keys and values. -/
def memInputs (g : (⟨2, ![256, 2048]⟩ : Shape).Idx → EReal) (w : (⟨2, ![2048, 2048]⟩ : Shape).Idx → EReal)
    (i : (⟨2, ![256, 2048]⟩ : Shape).Idx) : EReal :=
  ∑ k : Fin 2048, g (ix2 (i 0) k) * w (ix2 (i 1) k)

/-- The same added to what is there already. -/
def memInputsAdd (g : (⟨2, ![256, 2048]⟩ : Shape).Idx → EReal) (w : (⟨2, ![2048, 2048]⟩ : Shape).Idx → EReal)
    (d : (⟨2, ![256, 2048]⟩ : Shape).Idx → EReal) (i : (⟨2, ![256, 2048]⟩ : Shape).Idx) : EReal :=
  memInputs g w i + d i

/-- The keys and values, summed over the 2048 columns of the memory. -/
def kvProj (x : (⟨2, ![256, 2048]⟩ : Shape).Idx → EReal) (w : (⟨2, ![2048, 2048]⟩ : Shape).Idx → EReal)
    (i : (⟨2, ![256, 2048]⟩ : Shape).Idx) : EReal :=
  ∑ k : Fin 2048, x (ix2 (i 0) k) * w (ix2 k (i 1))

theorem hz2 : (![0, 0] : Fin 2 → Nat) = fun _ => 0 := funext fun a => by fin_cases a <;> rfl

end Cert.Products

/- The gradient by the weights. -/
namespace Cert.Kernel18Ideal.Product

open Idealize.ShloMosaic Idealize.ShloMosaic.TcCoe Idealize.SL.Sem Cert.Kernel18Ideal Cert.Kernel18Ideal.Gen Cert.Products

variable (m : (ℓ : Loc nD τ sig) → Buf (Elt Ideal) ℓ) (ρ : Dev nD → PrngReg) (c : Dev nD)

/-- One block's payload. -/
theorem out_apply (x : Vec Ideal S256x1024 .bf16) (y : Vec Ideal S256x1024 .bf16) (r : Fin 1024) (s : Fin 1024) :
    out0_2 (F := Ideal) x y (ix2 r s) = ∑ k : Fin 256, x (ix2 k r) * y (ix2 k s) := by
  unfold out0_2
  rw [View.canon_unit_zero hz2]
  simp only [View.ld_unit_zero (S := S256x1024) hz2]
  pointwise [k0_pay1]

theorem idx0 : ∀ t : Fin cfg0.N, win0_0.index t 0 = 0 ∧ win0_0.index t 1 = t.val / 2 :=
  (by decide +kernel : ∀ t : Fin grid0.N, win0_0.index t 0 = 0 ∧ win0_0.index t 1 = t.val / 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The arguments as launched. -/
abbrev a0 : Vec Ideal S256x2048 .bf16 := m ((c : Thread nD τ).loc main_arg0)
abbrev a1 : Vec Ideal S256x2048 .bf16 := m ((c : Thread nD τ).loc main_arg1)

theorem blk0 (t : Fin cfg0.N) (r : Fin 256) (s : Fin 1024) (p : Fin 256) (q : Fin 2048)
    (hp : p.val = 0 * 256 + r.val) (hq : q.val = t.val / 2 * 1024 + s.val) :
    (iblk m c 0 t : Vec Ideal S256x1024 .bf16) (ix2 r s) = a0 m c (ix2 p q) := by
  unfold iblk
  rw [View.read_apply]
  show V m c main_arg0 _ = _
  rw [V_main_arg0]
  congr 1
  funext a
  apply Fin.ext
  match a with
  | ⟨0, _⟩ => show win0_0.index t 0 * 256 + 1 * r.val = p.val; rw [(idx0 t).1]; omega
  | ⟨1, _⟩ => show win0_0.index t 1 * 1024 + 1 * s.val = q.val; rw [(idx0 t).2]; omega

theorem blk1 (t : Fin cfg0.N) (r : Fin 256) (s : Fin 1024) (p : Fin 256) (q : Fin 2048)
    (hp : p.val = 0 * 256 + r.val) (hq : q.val = t.val % 2 * 1024 + s.val) :
    (iblk m c 1 t : Vec Ideal S256x1024 .bf16) (ix2 r s) = a1 m c (ix2 p q) := by
  unfold iblk
  rw [View.read_apply]
  show V m c main_arg1 _ = _
  rw [V_main_arg1]
  congr 1
  funext a
  apply Fin.ext
  match a with
  | ⟨0, _⟩ => show win0_1.index t 0 * 256 + 1 * r.val = p.val; rw [(idx1 t).1]; omega
  | ⟨1, _⟩ => show win0_1.index t 1 * 1024 + 1 * s.val = q.val; rw [(idx1 t).2]; omega

theorem flushed (t : Fin cfg0.N) :
    (dats m 0 c).flushed 2 t = ((cfg0.win 2).blk t).view.read (Elt Ideal) (kvWeights (a0 m c) (a1 m c)) := by
  rw [Value.flushed2]
  funext y
  obtain ⟨r, s, rfl⟩ : ∃ r s, y = ix2 r s := ⟨y 0, y 1, by idx_ext⟩
  rw [View.read_apply]
  show out0_2 (iblk m c 0 t) (iblk m c 1 t) (ix2 r s) = kvWeights (a0 m c) (a1 m c) (((cfg0.win 2).blk t).view.emb (ix2 r s))
  rw [out_apply]
  unfold kvWeights
  refine Finset.sum_congr rfl fun k _ => ?_
  refine congrArg₂ (· * ·) (blk0 m c t k r _ _ ?_ ?_) (blk1 m c t k s _ _ ?_ ?_)
  · show k.val = 0 * 256 + k.val; omega
  · show win0_2.index t 0 * 1024 + 1 * r.val = t.val / 2 * 1024 + r.val; rw [(idx2 t).1]; omega
  · show k.val = 0 * 256 + k.val; omega
  · show win0_2.index t 1 * 1024 + 1 * s.val = t.val % 2 * 1024 + s.val; rw [(idx2 t).2]; omega

theorem onto : ∀ (p : Fin 2) (q : Fin 2), ∃ t : Fin cfg0.N, win0_2.index t 0 = p.val ∧ win0_2.index t 1 = q.val :=
  (by decide +kernel : ∀ (p : Fin 2) (q : Fin 2), ∃ t : Fin grid0.N, win0_2.index t 0 = p.val ∧ win0_2.index t 1 = q.val)

/-- The 4 blocks fill the array. -/
theorem final : (dats m 0 c).arrAt 2 cfg0.N = kvWeights (a0 m c) (a1 m c) :=
  (dats m 0 c).arrAt_eq_of_cover 2 (kvWeights (a0 m c) (a1 m c)) (fun t _ => flushed m c t) fun i => by
    have h0 : (i 0).val < 2048 := (i 0).isLt
    have h1 : (i 1).val < 2048 := (i 1).isLt
    obtain ⟨t, e0, e1⟩ := onto ⟨(i 0).val / 1024, by omega⟩ ⟨(i 1).val / 1024, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1024 ≤ (i 1).val ∧ (i 1).val < win0_2.index t 1 * 1024 + 1024; omega

end Cert.Kernel18Ideal.Product

namespace Cert.Reference18Ideal.Product

open Idealize.ShloMosaic Cert.Reference18Ideal Cert.Reference18Ideal.Gen Cert.Reference18Ideal.Read Cert.Products

/-- The reference's result is the same sum. -/
theorem result (x g : Vec Ideal S256x2048 .bf16) : val_main_v7 (F := Ideal) x g = kvWeights x g := by
  funext i
  rw [val_main_v7_apply, val_main_v5_apply]
  show val_main_v4 (F := Ideal) x g _ = _
  rw [val_main_v4_apply]
  unfold kvWeights
  refine Finset.sum_congr rfl fun k _ => ?_
  show g _ * x _ = _
  rw [mul_comm]
  exact congrArg₂ (· * ·) (congrArg x (by idx_ext)) (congrArg g (by idx_ext))

end Cert.Reference18Ideal.Product

/- The second layer's gradient by the memory. -/
namespace Cert.Kernel19Ideal.Product

open Idealize.ShloMosaic Idealize.ShloMosaic.TcCoe Idealize.SL.Sem Cert.Kernel19Ideal Cert.Kernel19Ideal.Gen Cert.Products

variable (m : (ℓ : Loc nD τ sig) → Buf (Elt Ideal) ℓ) (ρ : Dev nD → PrngReg) (c : Dev nD)

/-- One block's payload. -/
theorem out_apply (x : Vec Ideal S256x2048 .bf16) (y : Vec Ideal S1024x2048 .bf16) (r : Fin 256) (s : Fin 1024) :
    out0_2 (F := Ideal) x y (ix2 r s) = ∑ k : Fin 2048, x (ix2 r k) * y (ix2 s k) := by
  unfold out0_2
  rw [View.canon_unit_zero hz2]
  simp only [View.ld_unit_zero (S := S256x2048) hz2, View.ld_unit_zero (S := S1024x2048) hz2]
  pointwise [k0_pay1]

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = t.val :=
  (by decide +kernel : ∀ t : Fin grid0.N, win0_2.index t 0 = 0 ∧ win0_2.index t 1 = t.val)

/-- The arguments as launched. -/
abbrev a0 : Vec Ideal S256x2048 .bf16 := m ((c : Thread nD τ).loc main_arg0)
abbrev a1 : Vec Ideal S2048x2048 .bf16 := m ((c : Thread nD τ).loc main_arg1)

theorem blk0 (t : Fin cfg0.N) (r : Fin 256) (s : Fin 2048) (p : Fin 256) (q : Fin 2048)
    (hp : p.val = 0 * 256 + r.val) (hq : q.val = 0 * 2048 + s.val) :
    (iblk m c 0 t : Vec Ideal S256x2048 .bf16) (ix2 r s) = a0 m c (ix2 p q) := by
  unfold iblk
  rw [View.read_apply]
  show V m c main_arg0 _ = _
  rw [V_main_arg0]
  congr 1
  funext a
  apply Fin.ext
  match a with
  | ⟨0, _⟩ => show win0_0.index t 0 * 256 + 1 * r.val = p.val; rw [(idx0 t).1]; omega
  | ⟨1, _⟩ => show win0_0.index t 1 * 2048 + 1 * s.val = q.val; rw [(idx0 t).2]; omega

theorem blk1 (t : Fin cfg0.N) (r : Fin 1024) (s : Fin 2048) (p : Fin 2048) (q : Fin 2048)
    (hp : p.val = t.val * 1024 + r.val) (hq : q.val = 0 * 2048 + s.val) :
    (iblk m c 1 t : Vec Ideal S1024x2048 .bf16) (ix2 r s) = a1 m c (ix2 p q) := by
  unfold iblk
  rw [View.read_apply]
  show V m c main_arg1 _ = _
  rw [V_main_arg1]
  congr 1
  funext a
  apply Fin.ext
  match a with
  | ⟨0, _⟩ => show win0_1.index t 0 * 1024 + 1 * r.val = p.val; rw [(idx1 t).1]; omega
  | ⟨1, _⟩ => show win0_1.index t 1 * 2048 + 1 * s.val = q.val; rw [(idx1 t).2]; omega

theorem flushed (t : Fin cfg0.N) :
    (dats m 0 c).flushed 2 t = ((cfg0.win 2).blk t).view.read (Elt Ideal) (memInputs (a0 m c) (a1 m c)) := by
  rw [Value.flushed2]
  funext y
  obtain ⟨r, s, rfl⟩ : ∃ r s, y = ix2 r s := ⟨y 0, y 1, by idx_ext⟩
  rw [View.read_apply]
  show out0_2 (iblk m c 0 t) (iblk m c 1 t) (ix2 r s) = memInputs (a0 m c) (a1 m c) (((cfg0.win 2).blk t).view.emb (ix2 r s))
  rw [out_apply]
  unfold memInputs
  refine Finset.sum_congr rfl fun k _ => ?_
  refine congrArg₂ (· * ·) (blk0 m c t r k _ _ ?_ ?_) (blk1 m c t s k _ _ ?_ ?_)
  · show win0_2.index t 0 * 256 + 1 * r.val = 0 * 256 + r.val; rw [(idx2 t).1]; omega
  · show k.val = 0 * 2048 + k.val; omega
  · show win0_2.index t 1 * 1024 + 1 * s.val = t.val * 1024 + s.val; rw [(idx2 t).2]; omega
  · show k.val = 0 * 2048 + k.val; omega

theorem onto : ∀ (p : Fin 1) (q : Fin 2), ∃ t : Fin cfg0.N, win0_2.index t 0 = p.val ∧ win0_2.index t 1 = q.val :=
  (by decide +kernel : ∀ (p : Fin 1) (q : Fin 2), ∃ t : Fin grid0.N, win0_2.index t 0 = p.val ∧ win0_2.index t 1 = q.val)

/-- The 2 blocks fill the array. -/
theorem final : (dats m 0 c).arrAt 2 cfg0.N = memInputs (a0 m c) (a1 m c) :=
  (dats m 0 c).arrAt_eq_of_cover 2 (memInputs (a0 m c) (a1 m c)) (fun t _ => flushed m c t) fun i => by
    have h0 : (i 0).val < 256 := (i 0).isLt
    have h1 : (i 1).val < 2048 := (i 1).isLt
    obtain ⟨t, e0, e1⟩ := onto ⟨(i 0).val / 256, by omega⟩ ⟨(i 1).val / 1024, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0).val ∧ (i 0).val < win0_2.index t 0 * 256 + 256; omega
    | ⟨1, _⟩ => show win0_2.index t 1 * 1024 ≤ (i 1).val ∧ (i 1).val < win0_2.index t 1 * 1024 + 1024; omega

end Cert.Kernel19Ideal.Product

namespace Cert.Reference19Ideal.Product

open Idealize.ShloMosaic Cert.Reference19Ideal Cert.Reference19Ideal.Gen Cert.Reference19Ideal.Read Cert.Products

/-- The reference's result is the same sum. -/
theorem result (g : Vec Ideal S256x2048 .bf16) (w : Vec Ideal S2048x2048 .bf16) :
    val_main_v6 (F := Ideal) g w = memInputs g w := by
  funext i
  rw [val_main_v6_apply]
  unfold memInputs
  refine Finset.sum_congr rfl fun k _ => ?_
  show g _ * w _ = _
  exact congrArg₂ (· * ·) (congrArg g (by idx_ext)) (congrArg w (by idx_ext))

end Cert.Reference19Ideal.Product

/- The first layer's gradient by the memory, added to the second's. -/
namespace Cert.Kernel20Ideal.Product

open Idealize.ShloMosaic Idealize.ShloMosaic.TcCoe Idealize.SL.Sem Cert.Kernel20Ideal Cert.Kernel20Ideal.Gen Cert.Products

variable (m : (ℓ : Loc nD τ sig) → Buf (Elt Ideal) ℓ) (ρ : Dev nD → PrngReg) (c : Dev nD)

/-- One block's payload. -/
theorem out_apply (x : Vec Ideal S256x2048 .bf16) (y : Vec Ideal S1024x2048 .bf16) (d : Vec Ideal S256x1024 .f32) (r : Fin 256) (s : Fin 1024) :
    out0_3 (F := Ideal) x y d (ix2 r s) = (∑ k : Fin 2048, x (ix2 r k) * y (ix2 s k)) + d (ix2 r s) := by
  unfold out0_3
  rw [View.canon_unit_zero hz2]
  simp only [View.ld_unit_zero (S := S256x2048) hz2, View.ld_unit_zero (S := S1024x2048) hz2, View.ld_unit_zero (S := S256x1024) hz2]
  pointwise [k0_pay1]

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = t.val :=
  (by decide +kernel : ∀ t : Fin grid0.N, win0_2.index t 0 = 0 ∧ win0_2.index t 1 = t.val)
theorem idx3 : ∀ t : Fin cfg0.N, win0_3.index t 0 = 0 ∧ win0_3.index t 1 = t.val :=
  (by decide +kernel : ∀ t : Fin grid0.N, win0_3.index t 0 = 0 ∧ win0_3.index t 1 = t.val)

/-- The arguments as launched. -/
abbrev a0 : Vec Ideal S256x2048 .bf16 := m ((c : Thread nD τ).loc main_arg0)
abbrev a1 : Vec Ideal S2048x2048 .bf16 := m ((c : Thread nD τ).loc main_arg1)
abbrev a2 : Vec Ideal S256x2048 .f32 := m ((c : Thread nD τ).loc main_arg2)

theorem blk0 (t : Fin cfg0.N) (r : Fin 256) (s : Fin 2048) (p : Fin 256) (q : Fin 2048)
    (hp : p.val = 0 * 256 + r.val) (hq : q.val = 0 * 2048 + s.val) :
    (iblk m c 0 t : Vec Ideal S256x2048 .bf16) (ix2 r s) = a0 m c (ix2 p q) := by
  unfold iblk
  rw [View.read_apply]
  show V m c main_arg0 _ = _
  rw [V_main_arg0]
  congr 1
  funext a
  apply Fin.ext
  match a with
  | ⟨0, _⟩ => show win0_0.index t 0 * 256 + 1 * r.val = p.val; rw [(idx0 t).1]; omega
  | ⟨1, _⟩ => show win0_0.index t 1 * 2048 + 1 * s.val = q.val; rw [(idx0 t).2]; omega

theorem blk1 (t : Fin cfg0.N) (r : Fin 1024) (s : Fin 2048) (p : Fin 2048) (q : Fin 2048)
    (hp : p.val = t.val * 1024 + r.val) (hq : q.val = 0 * 2048 + s.val) :
    (iblk m c 1 t : Vec Ideal S1024x2048 .bf16) (ix2 r s) = a1 m c (ix2 p q) := by
  unfold iblk
  rw [View.read_apply]
  show V m c main_arg1 _ = _
  rw [V_main_arg1]
  congr 1
  funext a
  apply Fin.ext
  match a with
  | ⟨0, _⟩ => show win0_1.index t 0 * 1024 + 1 * r.val = p.val; rw [(idx1 t).1]; omega
  | ⟨1, _⟩ => show win0_1.index t 1 * 2048 + 1 * s.val = q.val; rw [(idx1 t).2]; omega

theorem blk2 (t : Fin cfg0.N) (r : Fin 256) (s : Fin 1024) (p : Fin 256) (q : Fin 2048)
    (hp : p.val = 0 * 256 + r.val) (hq : q.val = t.val * 1024 + s.val) :
    (iblk m c 2 t : Vec Ideal S256x1024 .f32) (ix2 r s) = a2 m c (ix2 p q) := by
  unfold iblk
  rw [View.read_apply]
  show V m c main_arg2 _ = _
  rw [V_main_arg2]
  congr 1
  funext a
  apply Fin.ext
  match a with
  | ⟨0, _⟩ => show win0_2.index t 0 * 256 + 1 * r.val = p.val; rw [(idx2 t).1]; omega
  | ⟨1, _⟩ => show win0_2.index t 1 * 1024 + 1 * s.val = q.val; rw [(idx2 t).2]; omega

theorem flushed (t : Fin cfg0.N) :
    (dats m 0 c).flushed 3 t = ((cfg0.win 3).blk t).view.read (Elt Ideal) (memInputsAdd (a0 m c) (a1 m c) (a2 m c)) := by
  rw [Value.flushed3]
  funext y
  obtain ⟨r, s, rfl⟩ : ∃ r s, y = ix2 r s := ⟨y 0, y 1, by idx_ext⟩
  rw [View.read_apply]
  show out0_3 (iblk m c 0 t) (iblk m c 1 t) (iblk m c 2 t) (ix2 r s) = memInputsAdd (a0 m c) (a1 m c) (a2 m c) (((cfg0.win 3).blk t).view.emb (ix2 r s))
  rw [out_apply]
  unfold memInputsAdd
  refine congrArg₂ (· + ·) ?_ ?_
  · unfold memInputs
    refine Finset.sum_congr rfl fun k _ => ?_
    refine congrArg₂ (· * ·) (blk0 m c t r k _ _ ?_ ?_) (blk1 m c t s k _ _ ?_ ?_)
    · show win0_3.index t 0 * 256 + 1 * r.val = 0 * 256 + r.val; rw [(idx3 t).1]; omega
    · show k.val = 0 * 2048 + k.val; omega
    · show win0_3.index t 1 * 1024 + 1 * s.val = t.val * 1024 + s.val; rw [(idx3 t).2]; omega
    · show k.val = 0 * 2048 + k.val; omega
  · refine (blk2 m c t r s (((cfg0.win 3).blk t).view.emb (ix2 r s) 0) (((cfg0.win 3).blk t).view.emb (ix2 r s) 1) ?_ ?_).trans
      (congrArg (a2 m c) (by idx_ext))
    · show win0_3.index t 0 * 256 + 1 * r.val = 0 * 256 + r.val; rw [(idx3 t).1]; omega
    · show win0_3.index t 1 * 1024 + 1 * s.val = t.val * 1024 + s.val; rw [(idx3 t).2]; omega

theorem onto : ∀ (p : Fin 1) (q : Fin 2), ∃ t : Fin cfg0.N, win0_3.index t 0 = p.val ∧ win0_3.index t 1 = q.val :=
  (by decide +kernel : ∀ (p : Fin 1) (q : Fin 2), ∃ t : Fin grid0.N, win0_3.index t 0 = p.val ∧ win0_3.index t 1 = q.val)

/-- The 2 blocks fill the array. -/
theorem final : (dats m 0 c).arrAt 3 cfg0.N = memInputsAdd (a0 m c) (a1 m c) (a2 m c) :=
  (dats m 0 c).arrAt_eq_of_cover 3 (memInputsAdd (a0 m c) (a1 m c) (a2 m c)) (fun t _ => flushed m c t) fun i => by
    have h0 : (i 0).val < 256 := (i 0).isLt
    have h1 : (i 1).val < 2048 := (i 1).isLt
    obtain ⟨t, e0, e1⟩ := onto ⟨(i 0).val / 256, by omega⟩ ⟨(i 1).val / 1024, by omega⟩
    dsimp only at e0 e1
    refine ⟨t, flush0_3 t, ?_⟩
    show i ∈ ((View.whole main_v0).slice (win0_3.rect t)).set
    rw [View.set_slice_whole, Rect.mem_set_unit]
    intro a
    match a with
    | ⟨0, _⟩ => show win0_3.index t 0 * 256 ≤ (i 0).val ∧ (i 0).val < win0_3.index t 0 * 256 + 256; omega
    | ⟨1, _⟩ => show win0_3.index t 1 * 1024 ≤ (i 1).val ∧ (i 1).val < win0_3.index t 1 * 1024 + 1024; omega

end Cert.Kernel20Ideal.Product

namespace Cert.Reference20Ideal.Product

open Idealize.ShloMosaic Cert.Reference20Ideal Cert.Reference20Ideal.Gen Cert.Reference20Ideal.Read Cert.Products

/-- The reference's result is the same sum. -/
theorem result (g : Vec Ideal S256x2048 .bf16) (w : Vec Ideal S2048x2048 .bf16) (d : Vec Ideal S256x2048 .f32) :
    val_main_v7 (F := Ideal) g w d = memInputsAdd g w d := by
  funext i
  rw [val_main_v7_apply]
  show val_main_v6 (F := Ideal) g w i + d i = _
  rw [val_main_v6_apply]
  unfold memInputsAdd memInputs
  congr 1
  refine Finset.sum_congr rfl fun k _ => ?_
  show g _ * w _ = _
  exact congrArg₂ (· * ·) (congrArg g (by idx_ext)) (congrArg w (by idx_ext))

end Cert.Reference20Ideal.Product

/- The projection itself. -/
namespace Cert.Kernel21Ideal.Product

open Idealize.ShloMosaic Idealize.ShloMosaic.TcCoe Idealize.SL.Sem Cert.Kernel21Ideal Cert.Kernel21Ideal.Gen Cert.Products

variable (m : (ℓ : Loc nD τ sig) → Buf (Elt Ideal) ℓ) (ρ : Dev nD → PrngReg) (c : Dev nD)

/-- One block's payload. -/
theorem out_apply (x : Vec Ideal S256x2048 .bf16) (y : Vec Ideal S2048x1024 .bf16) (r : Fin 256) (s : Fin 1024) :
    out0_2 (F := Ideal) x y (ix2 r s) = ∑ k : Fin 2048, x (ix2 r k) * y (ix2 k s) := by
  unfold out0_2
  rw [View.canon_unit_zero hz2]
  simp only [View.ld_unit_zero (S := S256x2048) hz2, View.ld_unit_zero (S := S2048x1024) hz2]
  pointwise [k0_pay1]

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

/-- The arguments as launched. -/
abbrev a0 : Vec Ideal S256x2048 .bf16 := m ((c : Thread nD τ).loc main_arg0)
abbrev a1 : Vec Ideal S2048x2048 .bf16 := m ((c : Thread nD τ).loc main_arg1)

theorem blk0 (t : Fin cfg0.N) (r : Fin 256) (s : Fin 2048) (p : Fin 256) (q : Fin 2048)
    (hp : p.val = 0 * 256 + r.val) (hq : q.val = 0 * 2048 + s.val) :
    (iblk m c 0 t : Vec Ideal S256x2048 .bf16) (ix2 r s) = a0 m c (ix2 p q) := by
  unfold iblk
  rw [View.read_apply]
  show V m c main_arg0 _ = _
  rw [V_main_arg0]
  congr 1
  funext a
  apply Fin.ext
  match a with
  | ⟨0, _⟩ => show win0_0.index t 0 * 256 + 1 * r.val = p.val; rw [(idx0 t).1]; omega
  | ⟨1, _⟩ => show win0_0.index t 1 * 2048 + 1 * s.val = q.val; rw [(idx0 t).2]; omega

theorem blk1 (t : Fin cfg0.N) (r : Fin 2048) (s : Fin 1024) (p : Fin 2048) (q : Fin 2048)
    (hp : p.val = 0 * 2048 + r.val) (hq : q.val = t.val * 1024 + s.val) :
    (iblk m c 1 t : Vec Ideal S2048x1024 .bf16) (ix2 r s) = a1 m c (ix2 p q) := by
  unfold iblk
  rw [View.read_apply]
  show V m c main_arg1 _ = _
  rw [V_main_arg1]
  congr 1
  funext a
  apply Fin.ext
  match a with
  | ⟨0, _⟩ => show win0_1.index t 0 * 2048 + 1 * r.val = p.val; rw [(idx1 t).1]; omega
  | ⟨1, _⟩ => show win0_1.index t 1 * 1024 + 1 * s.val = q.val; rw [(idx1 t).2]; omega

theorem flushed (t : Fin cfg0.N) :
    (dats m 0 c).flushed 2 t = ((cfg0.win 2).blk t).view.read (Elt Ideal) (kvProj (a0 m c) (a1 m c)) := by
  rw [Value.flushed2]
  funext y
  obtain ⟨r, s, rfl⟩ : ∃ r s, y = ix2 r s := ⟨y 0, y 1, by idx_ext⟩
  rw [View.read_apply]
  show out0_2 (iblk m c 0 t) (iblk m c 1 t) (ix2 r s) = kvProj (a0 m c) (a1 m c) (((cfg0.win 2).blk t).view.emb (ix2 r s))
  rw [out_apply]
  unfold kvProj
  refine Finset.sum_congr rfl fun k _ => ?_
  refine congrArg₂ (· * ·) (blk0 m c t r k _ _ ?_ ?_) (blk1 m c t k s _ _ ?_ ?_)
  · show win0_2.index t 0 * 256 + 1 * r.val = 0 * 256 + r.val; rw [(idx2 t).1]; omega
  · show k.val = 0 * 2048 + k.val; omega
  · show k.val = 0 * 2048 + k.val; omega
  · show win0_2.index t 1 * 1024 + 1 * s.val = t.val * 1024 + s.val; rw [(idx2 t).2]; omega

theorem onto : ∀ (p : Fin 1) (q : Fin 2), ∃ t : Fin cfg0.N, win0_2.index t 0 = p.val ∧ win0_2.index t 1 = q.val :=
  (by decide +kernel : ∀ (p : Fin 1) (q : Fin 2), ∃ t : Fin grid0.N, win0_2.index t 0 = p.val ∧ win0_2.index t 1 = q.val)

/-- The 2 blocks fill the array. -/
theorem final : (dats m 0 c).arrAt 2 cfg0.N = kvProj (a0 m c) (a1 m c) :=
  (dats m 0 c).arrAt_eq_of_cover 2 (kvProj (a0 m c) (a1 m c)) (fun t _ => flushed m c t) fun i => by
    have h0 : (i 0).val < 256 := (i 0).isLt
    have h1 : (i 1).val < 2048 := (i 1).isLt
    obtain ⟨t, e0, e1⟩ := onto ⟨(i 0).val / 256, by omega⟩ ⟨(i 1).val / 1024, by omega⟩
    dsimp only at e0 e1
    refine ⟨t, flush0_2 t, ?_⟩
    show i ∈ ((View.whole main_v0).slice (win0_2.rect t)).set
    rw [View.set_slice_whole, Rect.mem_set_unit]
    intro a
    match a with
    | ⟨0, _⟩ => show win0_2.index t 0 * 256 ≤ (i 0).val ∧ (i 0).val < win0_2.index t 0 * 256 + 256; omega
    | ⟨1, _⟩ => show win0_2.index t 1 * 1024 ≤ (i 1).val ∧ (i 1).val < win0_2.index t 1 * 1024 + 1024; omega

end Cert.Kernel21Ideal.Product

namespace Cert.Reference21Ideal.Product

open Idealize.ShloMosaic Cert.Reference21Ideal Cert.Reference21Ideal.Gen Cert.Reference21Ideal.Read Cert.Products

/-- The reference's result is the same sum. -/
theorem result (x : Vec Ideal S256x2048 .bf16) (w : Vec Ideal S2048x2048 .bf16) :
    val_main_v3 (F := Ideal) x w = kvProj x w := by
  funext i
  rw [val_main_v3_apply]
  show val_main_v2 (F := Ideal) x w i = _
  rw [val_main_v2_apply]
  unfold kvProj
  refine Finset.sum_congr rfl fun k _ => ?_
  show x _ * w _ = _
  exact congrArg₂ (· * ·) (congrArg x (by idx_ext)) (congrArg w (by idx_ext))

end Cert.Reference21Ideal.Product

end
-- ==== Proof.AttnSecond.lean ====
/- The second layer's attention over the memory: what a grid point leaves in its block, the result array after the eight
   points, and the reference's result. -/
module

public import proofs.«01_k».proof.Proof.Fold
public import proofs.«01_k».proof.Proof.Gen.Kernel22Ideal.Value
public import proofs.«01_k».proof.Proof.Gen.Reference22Ideal.Read
public import Idealize.ShloMosaic.Lib.Pipeline.Value

@[expose] public section

set_option maxRecDepth 16384

noncomputable section

namespace Cert.Attn

open Idealize.ShloMosaic

/-- The values a row of queries attends to, head `h`. -/
def attnAt (q : Fin 1024 → EReal) (kv : Fin 256 → Fin 2048 → EReal) (h : Fin 4) (d : Fin 256) : EReal :=
  ∑ m, prob (score q kv h) m * kv m (vcol h d)

/-- The row's attention at column `c`. -/
def attnRow (q : Fin 1024 → EReal) (kv : Fin 256 → Fin 2048 → EReal) (c : Fin 1024) : EReal :=
  attnAt q kv ⟨c.val / 256, by omega⟩ ⟨c.val % 256, by omega⟩

theorem attnRow_eq (q : Fin 1024 → EReal) (kv : Fin 256 → Fin 2048 → EReal) (h : Fin 4) (d : Fin 256) (c : Fin 1024)
    (hc : c.val = 256 * h.val + d.val) : attnRow q kv c = attnAt q kv h d := by
  unfold attnRow
  congr 1 <;> apply Fin.ext <;> dsimp only <;> omega

/-- The mixed features with the second layer's attention in columns 3072 to 4095. -/
def attnOut (x0 : (⟨2, ![4096, 14336]⟩ : Shape).Idx → EReal) (x1 : (⟨2, ![256, 2048]⟩ : Shape).Idx → EReal)
    (x2 : (⟨2, ![4096, 4096]⟩ : Shape).Idx → EReal) (i : (⟨2, ![4096, 4096]⟩ : Shape).Idx) : EReal :=
  if h : 3072 ≤ (i 1).val then attnRow (qrow x0 (i 0)) (kvrow x1) ⟨(i 1).val - 3072, by have : (i 1).val < 4096 := (i 1).isLt; omega⟩
  else x2 i

end Cert.Attn

namespace Cert.Kernel22Ideal.Heads

open Idealize.ShloMosaic Idealize.ShloMosaic.TcCoe Idealize.SL.Sem Cert.Kernel22Ideal Cert.Kernel22Ideal.Gen Cert.Attn
open Cert.KernelIdeal.Heads (row mem part kpart tile512 sc sc_part kpart_apply pay7_apply)

theorem pay4_apply (v : Vec Ideal S256x256 .bf16) (p : FVec Ideal S512x256 .bf16) (r : Fin 512) (d : Fin 256) :
    k0_pay4 (F := Ideal) v p (ix2 r d) = ∑ m, p (ix2 r m) * v (ix2 m d) := by
  pointwise [k0_pay4]

/-- One head's block: the softmax of its scores times its values. -/
theorem pay2_apply (q : Vec Ideal S512x256 .bf16) (k v : Vec Ideal S256x256 .bf16) (r : Fin 512) (d : Fin 256) :
    k0_pay2 (F := Ideal) q k v (ix2 r d) = ∑ m, prob (sc q k r) m * v (ix2 m d) := by
  rw [show k0_pay2 (F := Ideal) q k v = k0_pay4 v (Cert.KernelIdeal.Gen.k0_pay7 q k) from rfl, pay4_apply]
  exact Finset.sum_congr rfl fun m _ => congrArg (· * v (ix2 m d)) (pay7_apply q k r m)

/-- One head's piece of the attention. -/
theorem attn_piece (x0 : Vec Ideal S512x1024 .bf16) (x1 : Vec Ideal S256x2048 .bf16) (h : Fin 4) (o o' : ℕ)
    (ho : o = 256 * h.val) (ho' : o' = 1024 + 256 * h.val) (i1 i2 i3) (y : S512x1024.Idx) :
    View.TileAt (Val := Elt Ideal) (e := .bf16) y ![0, o] S512x256.size
      (k0_pay2 (F := Ideal) (part x0 o i1) (kpart x1 o i2) (kpart x1 o' i3))
      (attnRow (row x0 (y 0)) (mem x1) (y 1)) := by
  refine tile512 (e := .bf16) y o _ _ fun r d h0 h1 => ?_
  rw [attnRow_eq _ _ h d (y 1) (by rw [h1, ho]), h0, pay2_apply]
  unfold attnAt
  refine Finset.sum_congr rfl fun m _ => ?_
  rw [sc_part x0 x1 h o ho, kpart_apply x1 o' i3 m d (vcol h d) (by subst ho'; exact (Nat.add_assoc ..).symm)]
  rfl

/-- What a grid point writes: its rows' attention. -/
def attended (x0 : Vec Ideal S512x1024 .bf16) (x1 : Vec Ideal S256x2048 .bf16) (y : S512x1024.Idx) : EReal :=
  attnRow (row x0 (y 0)) (mem x1) (y 1)

theorem out_2 (x0 : Vec Ideal S512x1024 .bf16) (x1 : Vec Ideal S256x2048 .bf16) (c : Dev nD) (i : grid0.Coords)
    (a1 : Memref sig .tc .vmem S512x1024 .bf16) (h1 : a1.IsWhole) (a2 : Memref sig .tc .vmem S256x2048 .bf16) (h2 : a2.IsWhole)
    (a4 : Memref sig .tc .vmem S512x1024 .bf16) (h4 : a4.IsWhole) :
    out0_A_2 (F := Ideal) c i a1 h1 a2 h2 a4 h4 x0 x1 = attended x0 x1 := by
  unfold out0_A_2
  have hcov := cover0_A_2 (F := Ideal) c i a1 h1 a2 h2 a4 h4 x0 x1
  rw [View.read_writes_eq_canon _ _ _ hcov]
  funext y
  refine View.canon_eq_of_allAt _ _ _ (hcov y) ?_
  unfold kernelRun0_A
  dsimp only
  sl_unfold_words
  simp only [View.readAt_eq_ld, h1.read_unread, h2.read_unread]
  refine View.allAt_cons_unit _ _ _ _ _ (attn_piece x0 x1 3 768 1792 rfl rfl _ _ _ y) ?_
  refine View.allAt_cons_unit _ _ _ _ _ (attn_piece x0 x1 2 512 1536 rfl rfl _ _ _ y) ?_
  refine View.allAt_cons_unit _ _ _ _ _ (attn_piece x0 x1 1 256 1280 rfl rfl _ _ _ y) ?_
  refine View.allAt_cons_unit _ _ _ _ _ (attn_piece x0 x1 0 0 1024 rfl rfl _ _ _ y) ?_
  exact View.allAt_nil _ _

variable (m : (ℓ : Loc nD τ sig) → Buf (Elt Ideal) ℓ) (ρ : Dev nD → PrngReg) (c : Dev nD)

/-- The three arguments as launched. -/
abbrev a0 : Vec Ideal S4096x14336 .bf16 := m ((c : Thread nD τ).loc main_arg0)
abbrev a1 : Vec Ideal S256x2048 .bf16 := m ((c : Thread nD τ).loc main_arg1)
abbrev a2 : Vec Ideal S4096x4096 .bf16 := m ((c : Thread nD τ).loc main_arg2)

theorem idx0 : ∀ t : Fin cfg0.N, win0_0.index t 0 = t.val ∧ win0_0.index t 1 = 9 :=
  (by decide +kernel : ∀ t : Fin grid0.N, win0_0.index t 0 = t.val ∧ win0_0.index t 1 = 9)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 3 :=
  (by decide +kernel : ∀ t : Fin grid0.N, win0_2.index t 0 = t.val ∧ win0_2.index t 1 = 3)

/-- Row `r` of block `t` among the 4096 rows. -/
def at_ (t : Fin cfg0.N) (r : Fin 512) : Fin 4096 := ⟨t.val * 512 + r.val, by
  have hN : cfg0.N = 8 := N_0
  have := t.isLt
  omega⟩

theorem row_query (t : Fin cfg0.N) (r : Fin 512) : row (iblk m c 0 t) r = qrow (a0 m c) (at_ t r) := by
  funext d
  unfold row qrow iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx0 t).1]; omega
  | ⟨1, _⟩ => show win0_0.index t 1 * 1024 + 1 * d.val = 9216 + d.val; rw [(idx0 t).2]; omega

theorem mem_kv (t : Fin cfg0.N) : mem (iblk m c 1 t) = kvrow (a1 m c) := by
  funext k d
  unfold mem kvrow iblk
  rw [View.read_apply]
  show V m c main_arg1 _ = _
  rw [V_main_arg1]
  congr 1
  funext a
  apply Fin.ext
  match a with
  | ⟨0, _⟩ => show win0_1.index t 0 * 256 + 1 * k.val = k.val; rw [(idx1 t).1]; omega
  | ⟨1, _⟩ => show win0_1.index t 1 * 2048 + 1 * d.val = d.val; rw [(idx1 t).2]; omega

theorem V_out : V m c main_v0 = a2 m c := by
  show StableHlo.after hostOps0 _ _ = _
  unfold hostOps0
  simp only [StableHlo.after_cons, StableHlo.after_nil]
  rw [StableHlo.unary_result]
  rfl

/-- What point `t` writes back. -/
theorem flushed_o (t : Fin cfg0.N) (r : Fin 512) (d : Fin 1024) :
    (dats m 0 c).flushed 2 t (ix2 r d) = attnRow (qrow (a0 m c) (at_ t r)) (kvrow (a1 m c)) d := by
  rw [Cert.Kernel22Ideal.Value.flushed2_A, out_2]
  show attnRow (row (iblk m c 0 t) r) (mem (iblk m c 1 t)) d = _
  rw [row_query, mem_kv]

/-- Columns 3072 to 4095: the block of the row's grid point wrote the attention; the others keep the mixed features. -/
theorem final_o : (dats m 0 c).arrAt 2 cfg0.N = attnOut (a0 m c) (a1 m c) (a2 m c) := by
  funext i
  have hN : cfg0.N = 8 := N_0
  have hi0 : (i 0).val < 4096 := (i 0).isLt
  have hi1 : (i 1).val < 4096 := (i 1).isLt
  unfold attnOut
  by_cases h : 3072 ≤ (i 1).val
  · rw [dif_pos h]
    let t : Fin cfg0.N := ⟨(i 0).val / 512, by omega⟩
    let r : Fin 512 := ⟨(i 0).val % 512, Nat.mod_lt _ (by decide)⟩
    have hb := congrFun (Cert.Kernel22Ideal.Value.blocks2 m c t (flush0_2 t)) (ix2 r ⟨(i 1).val - 3072, by omega⟩)
    rw [View.read_apply, flushed_o] at hb
    have he : ((cfg0.win 2).blk t).view.emb (ix2 r ⟨(i 1).val - 3072, by omega⟩) = i := by
      funext a
      apply Fin.ext
      match a with
      | ⟨0, _⟩ => show win0_2.index t 0 * 512 + 1 * ((i 0).val % 512) = (i 0).val
                  rw [(idx2 t).1]; show (i 0).val / 512 * 512 + _ = _; omega
      | ⟨1, _⟩ => show win0_2.index t 1 * 1024 + 1 * ((i 1).val - 3072) = (i 1).val; rw [(idx2 t).2]; omega
    have hs : at_ t r = i 0 := Fin.ext (by
      show (i 0).val / 512 * 512 + (i 0).val % 512 = (i 0).val; omega)
    rw [he, hs] at hb
    exact hb
  · rw [dif_neg h, Cert.Kernel22Ideal.Value.entry2 m c i, ← V_out m c]
    intro t _ hm
    apply h
    have hm' : i ∈ ((View.whole main_v0).slice (win0_2.rect t)).set := hm
    rw [View.set_slice_whole, Rect.mem_set_unit] at hm'
    have h1 : win0_2.index t 1 * 1024 ≤ (i 1 : Nat) ∧ (i 1 : Nat) < win0_2.index t 1 * 1024 + 1024 := hm' 1
    rw [(idx2 t).2] at h1
    omega

/-- **The kernel's run**: the mixed features with the attention written in, and the arguments as launched. -/
theorem run : θ_run defs (onTc (τ := τ) (main (F := Ideal))) ⟨m, fun _ => 0, ρ⟩ fun r => ∀ c : Dev nD,
      r.2.mem ((c : Thread nD τ).loc main_v0) = attnOut (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Cert.Kernel22Ideal.Value.run_blocks m ρ)

end Cert.Kernel22Ideal.Heads

namespace Cert.Reference22Ideal.Heads

open Idealize.ShloMosaic Cert.Reference22Ideal Cert.Reference22Ideal.Read Cert.Attn

variable (x0 : Vec Ideal S4096x14336 .bf16) (x1 : Vec Ideal S256x2048 .bf16) (x2 : Vec Ideal S4096x4096 .bf16)

theorem query_at (s : Fin 4096) (h : Fin 4) (d : Fin 256) :
    val_main_v5 (F := Ideal) x0 (ix3 s h d) = qrow x0 s (hcol h d) := by
  rw [val_main_v5_apply, val_main_v1_apply, val_main_v0_apply]
  show x0 _ = x0 _
  congr 1
  funext a
  apply Fin.ext
  match a with
  | ⟨0, _⟩ => show ((s.val * 4 + h.val) * 256 + d.val) / 1024 = s.val; omega
  | ⟨1, _⟩ => show 9216 + ((s.val * 4 + h.val) * 256 + d.val) % 1024 = 9216 + (256 * h.val + d.val); omega

theorem key_at (m : Fin 256) (h : Fin 4) (d : Fin 256) :
    val_main_v6 (F := Ideal) x1 (ix3 m h d) = kvrow x1 m (kcol h d) := by
  rw [val_main_v6_apply, val_main_v3_apply, val_main_v2_apply]
  show x1 _ = x1 _
  congr 1
  funext a
  apply Fin.ext
  match a with
  | ⟨0, _⟩ => show ((m.val * 4 + h.val) * 256 + d.val) / 1024 = m.val; omega
  | ⟨1, _⟩ => show ((m.val * 4 + h.val) * 256 + d.val) % 1024 = 256 * h.val + d.val; omega

theorem value_at (m : Fin 256) (h : Fin 4) (d : Fin 256) :
    val_main_v7 (F := Ideal) x1 (ix3 m h d) = kvrow x1 m (vcol h d) := by
  rw [val_main_v7_apply, val_main_v4_apply, val_main_v2_apply]
  show x1 _ = x1 _
  congr 1
  funext a
  apply Fin.ext
  match a with
  | ⟨0, _⟩ => show ((m.val * 4 + h.val) * 256 + d.val) / 1024 = m.val; omega
  | ⟨1, _⟩ => show 1024 + ((m.val * 4 + h.val) * 256 + d.val) % 1024 = 1024 + (256 * h.val + d.val); omega

theorem score_at (h : Fin 4) (s : Fin 4096) (m : Fin 256) :
    val_main_v10 (F := Ideal) x0 x1 (ix3 h s m) = score (qrow x0 s) (kvrow x1) h m := by
  rw [val_main_v10_apply, val_main_v8_apply, val_main_v9_apply, val_main_cst_apply]
  unfold score
  refine congrArg₂ (· * ·) (Finset.sum_congr rfl fun d _ => ?_) rfl
  rw [show lidx_main_v8 (ix3 h s m) d = ix3 s h d from by idx_ext,
    show ridx_main_v8 (ix3 h s m) d = ix3 m h d from by idx_ext, query_at, key_at]

theorem top_at (h : Fin 4) (s : Fin 4096) :
    val_main_v11 (F := Ideal) x0 x1 (ix2 h s) = top (score (qrow x0 s) (kvrow x1) h) := by
  unfold val_main_v11
  have : score (qrow x0 s) (kvrow x1) h = fun m => val_main_v10 (F := Ideal) x0 x1 (ix3 h s m) :=
    funext fun m => (score_at x0 x1 h s m).symm
  rw [this]
  generalize val_main_v10 (F := Ideal) x0 x1 = v
  pointwise
  show Finset.fold max (Ideal.ofBits .f32 0xFF800000#32) _ _ = _
  rw [ofBits_bot]
  rfl

theorem ex_at (h : Fin 4) (s : Fin 4096) (m : Fin 256) :
    val_main_v17 (F := Ideal) x0 x1 (ix3 h s m) = ex (score (qrow x0 s) (kvrow x1) h) m := by
  rw [val_main_v17_apply, val_main_v16_apply, score_at, val_main_v15_apply, val_main_v14_apply, val_main_v13_apply,
    val_main_v12_apply]
  have ht : val_main_v11 (F := Ideal) x0 x1 (idx_main_v14 (idx_main_v15 (ix3 h s m))) = top (score (qrow x0 s) (kvrow x1) h) := by
    rw [← top_at]; congr 1; idx_ext
  rw [ht]
  show Ideal.exp (_ - max (Ideal.ofBits .f32 0xFF800000#32) _) = _
  rw [ofBits_bot, max_eq_right bot_le]
  rfl

theorem den_at (h : Fin 4) (s : Fin 4096) :
    val_main_v18 (F := Ideal) x0 x1 (ix2 h s) = den (score (qrow x0 s) (kvrow x1) h) := by
  rw [val_main_v18_apply]
  unfold den
  show Ideal.ofBits .f32 0x00000000#32 + _ = _
  rw [Ideal.ofBits_zero_f32, zero_add]
  refine Finset.sum_congr rfl fun m _ => ?_
  rw [← ex_at]; congr 1; idx_ext

theorem prob_at (h : Fin 4) (s : Fin 4096) (m : Fin 256) :
    val_main_v21 (F := Ideal) x0 x1 (ix3 h s m) = prob (score (qrow x0 s) (kvrow x1) h) m := by
  rw [val_main_v21_apply, ex_at, val_main_v20_apply, val_main_v19_apply,
    show idx_main_v19 (idx_main_v20 (ix3 h s m)) = ix2 h s from by idx_ext, den_at]
  rfl

theorem attn_at (s : Fin 4096) (h : Fin 4) (d : Fin 256) :
    val_main_v23 (F := Ideal) x0 x1 (ix3 s h d) = attnAt (qrow x0 s) (kvrow x1) h d := by
  rw [val_main_v23_apply, val_main_v22_apply]
  unfold attnAt
  refine Finset.sum_congr rfl fun m _ => ?_
  rw [← prob_at, ← value_at, mul_comm]
  congr 2 <;> idx_ext

/-- The reference's result. -/
theorem result : val_main_v27 (F := Ideal) x0 x1 x2 = attnOut x0 x1 x2 := by
  funext i
  obtain ⟨s, c, rfl⟩ : ∃ s c, i = ix2 s c := ⟨i 0, i 1, by idx_ext⟩
  unfold val_main_v27 attnOut
  pointwise
  by_cases hc : c.val < 3072
  · rw [dif_pos hc, dif_neg (Nat.not_le.mpr hc), val_main_v25_apply]
    congr 1
    funext a
    apply Fin.ext
    match a with
    | ⟨0, _⟩ => rfl
    | ⟨1, _⟩ => rfl
  · rw [dif_neg hc, dif_pos (Nat.not_lt.mp hc), val_main_v26_apply]
    show val_main_v24 (F := Ideal) x0 x1 _ = _
    rw [val_main_v24_apply, attnRow_eq _ _ ⟨(c.val - 3072) / 256, by omega⟩ ⟨(c.val - 3072) % 256, by omega⟩ _
      (by dsimp only; omega), ← attn_at]
    congr 1
    funext a
    apply Fin.ext
    match a with
    | ⟨0, _⟩ => show (s.val * 1024 + (c.val - 3072)) / 1024 = s.val; omega
    | ⟨1, _⟩ => show (s.val * 1024 + (c.val - 3072)) / 256 % 4 = (c.val - 3072) / 256; omega
    | ⟨2, _⟩ => show (s.val * 1024 + (c.val - 3072)) % 256 = (c.val - 3072) % 256; omega

end Cert.Reference22Ideal.Heads

end
-- ==== Proof.AttnFirst.lean ====
/- The first layer's attention over the memory: what a grid point leaves in its block, the result array after the eight
   points, and the reference's result. -/
module

public import proofs.«01_k».proof.Proof.AttnSecond
public import proofs.«01_k».proof.Proof.FirstAttn
public import proofs.«01_k».proof.Proof.Gen.Kernel23Ideal.Value
public import proofs.«01_k».proof.Proof.Gen.Reference23Ideal.Read
public import Idealize.ShloMosaic.Lib.Pipeline.Value

@[expose] public section

set_option maxRecDepth 16384

noncomputable section

namespace Cert.Attn

open Idealize.ShloMosaic

/-- The mixed features with the first layer's attention in columns 3072 to 4095. -/
def attnOut0 (x0 : (⟨2, ![4096, 8192]⟩ : Shape).Idx → EReal) (x1 : (⟨2, ![256, 2048]⟩ : Shape).Idx → EReal)
    (x2 : (⟨2, ![4096, 4096]⟩ : Shape).Idx → EReal) (i : (⟨2, ![4096, 4096]⟩ : Shape).Idx) : EReal :=
  if h : 3072 ≤ (i 1).val then attnRow (qrow0 x0 (i 0)) (kvrow x1) ⟨(i 1).val - 3072, by have : (i 1).val < 4096 := (i 1).isLt; omega⟩
  else x2 i

end Cert.Attn

namespace Cert.Kernel23Ideal.Heads

open Idealize.ShloMosaic Idealize.ShloMosaic.TcCoe Idealize.SL.Sem Cert.Kernel23Ideal Cert.Kernel23Ideal.Gen Cert.Attn
open Cert.KernelIdeal.Heads (row mem part kpart tile512 sc sc_part kpart_apply)
open Cert.Kernel22Ideal.Heads (attn_piece attended)

theorem out_2 (x0 : Vec Ideal S512x1024 .bf16) (x1 : Vec Ideal S256x2048 .bf16) (c : Dev nD) (i : grid0.Coords)
    (a1 : Memref sig .tc .vmem S512x1024 .bf16) (h1 : a1.IsWhole) (a2 : Memref sig .tc .vmem S256x2048 .bf16) (h2 : a2.IsWhole)
    (a4 : Memref sig .tc .vmem S512x1024 .bf16) (h4 : a4.IsWhole) :
    out0_A_2 (F := Ideal) c i a1 h1 a2 h2 a4 h4 x0 x1 = attended x0 x1 := by
  unfold out0_A_2
  have hcov := cover0_A_2 (F := Ideal) c i a1 h1 a2 h2 a4 h4 x0 x1
  rw [View.read_writes_eq_canon _ _ _ hcov]
  funext y
  refine View.canon_eq_of_allAt _ _ _ (hcov y) ?_
  unfold kernelRun0_A
  dsimp only
  sl_unfold_words
  simp only [View.readAt_eq_ld, h1.read_unread, h2.read_unread]
  refine View.allAt_cons_unit _ _ _ _ _ (attn_piece x0 x1 3 768 1792 rfl rfl _ _ _ y) ?_
  refine View.allAt_cons_unit _ _ _ _ _ (attn_piece x0 x1 2 512 1536 rfl rfl _ _ _ y) ?_
  refine View.allAt_cons_unit _ _ _ _ _ (attn_piece x0 x1 1 256 1280 rfl rfl _ _ _ y) ?_
  refine View.allAt_cons_unit _ _ _ _ _ (attn_piece x0 x1 0 0 1024 rfl rfl _ _ _ y) ?_
  exact View.allAt_nil _ _

variable (m : (ℓ : Loc nD τ sig) → Buf (Elt Ideal) ℓ) (ρ : Dev nD → PrngReg) (c : Dev nD)

/-- The three arguments as launched. -/
abbrev a0 : Vec Ideal S4096x8192 .bf16 := m ((c : Thread nD τ).loc main_arg0)
abbrev a1 : Vec Ideal S256x2048 .bf16 := m ((c : Thread nD τ).loc main_arg1)
abbrev a2 : Vec Ideal S4096x4096 .bf16 := m ((c : Thread nD τ).loc main_arg2)

theorem idx0 : ∀ t : Fin cfg0.N, win0_0.index t 0 = t.val ∧ win0_0.index t 1 = 3 :=
  (by decide +kernel : ∀ t : Fin grid0.N, win0_0.index t 0 = t.val ∧ win0_0.index t 1 = 3)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 3 :=
  (by decide +kernel : ∀ t : Fin grid0.N, win0_2.index t 0 = t.val ∧ win0_2.index t 1 = 3)

/-- Row `r` of block `t` among the 4096 rows. -/
def at_ (t : Fin cfg0.N) (r : Fin 512) : Fin 4096 := ⟨t.val * 512 + r.val, by
  have hN : cfg0.N = 8 := N_0
  have := t.isLt
  omega⟩

theorem row_query (t : Fin cfg0.N) (r : Fin 512) : row (iblk m c 0 t) r = qrow0 (a0 m c) (at_ t r) := by
  funext d
  unfold row qrow0 iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(idx0 t).1]; omega
  | ⟨1, _⟩ => show win0_0.index t 1 * 1024 + 1 * d.val = 3072 + d.val; rw [(idx0 t).2]; omega

theorem mem_kv (t : Fin cfg0.N) : mem (iblk m c 1 t) = kvrow (a1 m c) := by
  funext k d
  unfold mem kvrow iblk
  rw [View.read_apply]
  show V m c main_arg1 _ = _
  rw [V_main_arg1]
  congr 1
  funext a
  apply Fin.ext
  match a with
  | ⟨0, _⟩ => show win0_1.index t 0 * 256 + 1 * k.val = k.val; rw [(idx1 t).1]; omega
  | ⟨1, _⟩ => show win0_1.index t 1 * 2048 + 1 * d.val = d.val; rw [(idx1 t).2]; omega

theorem V_out : V m c main_v0 = a2 m c := by
  show StableHlo.after hostOps0 _ _ = _
  unfold hostOps0
  simp only [StableHlo.after_cons, StableHlo.after_nil]
  rw [StableHlo.unary_result]
  rfl

/-- What point `t` writes back. -/
theorem flushed_o (t : Fin cfg0.N) (r : Fin 512) (d : Fin 1024) :
    (dats m 0 c).flushed 2 t (ix2 r d) = attnRow (qrow0 (a0 m c) (at_ t r)) (kvrow (a1 m c)) d := by
  rw [Cert.Kernel23Ideal.Value.flushed2_A, out_2]
  show attnRow (row (iblk m c 0 t) r) (mem (iblk m c 1 t)) d = _
  rw [row_query, mem_kv]

/-- Columns 3072 to 4095: the block of the row's grid point wrote the attention; the others keep the mixed features. -/
theorem final_o : (dats m 0 c).arrAt 2 cfg0.N = attnOut0 (a0 m c) (a1 m c) (a2 m c) := by
  funext i
  have hN : cfg0.N = 8 := N_0
  have hi0 : (i 0).val < 4096 := (i 0).isLt
  have hi1 : (i 1).val < 4096 := (i 1).isLt
  unfold attnOut0
  by_cases h : 3072 ≤ (i 1).val
  · rw [dif_pos h]
    let t : Fin cfg0.N := ⟨(i 0).val / 512, by omega⟩
    let r : Fin 512 := ⟨(i 0).val % 512, Nat.mod_lt _ (by decide)⟩
    have hb := congrFun (Cert.Kernel23Ideal.Value.blocks2 m c t (flush0_2 t)) (ix2 r ⟨(i 1).val - 3072, by omega⟩)
    rw [View.read_apply, flushed_o] at hb
    have he : ((cfg0.win 2).blk t).view.emb (ix2 r ⟨(i 1).val - 3072, by omega⟩) = i := by
      funext a
      apply Fin.ext
      match a with
      | ⟨0, _⟩ => show win0_2.index t 0 * 512 + 1 * ((i 0).val % 512) = (i 0).val
                  rw [(idx2 t).1]; show (i 0).val / 512 * 512 + _ = _; omega
      | ⟨1, _⟩ => show win0_2.index t 1 * 1024 + 1 * ((i 1).val - 3072) = (i 1).val; rw [(idx2 t).2]; omega
    have hs : at_ t r = i 0 := Fin.ext (by
      show (i 0).val / 512 * 512 + (i 0).val % 512 = (i 0).val; omega)
    rw [he, hs] at hb
    exact hb
  · rw [dif_neg h, Cert.Kernel23Ideal.Value.entry2 m c i, ← V_out m c]
    intro t _ hm
    apply h
    have hm' : i ∈ ((View.whole main_v0).slice (win0_2.rect t)).set := hm
    rw [View.set_slice_whole, Rect.mem_set_unit] at hm'
    have h1 : win0_2.index t 1 * 1024 ≤ (i 1 : Nat) ∧ (i 1 : Nat) < win0_2.index t 1 * 1024 + 1024 := hm' 1
    rw [(idx2 t).2] at h1
    omega

/-- **The kernel's run**: the mixed features with the attention written in, and the arguments as launched. -/
theorem run : θ_run defs (onTc (τ := τ) (main (F := Ideal))) ⟨m, fun _ => 0, ρ⟩ fun r => ∀ c : Dev nD,
      r.2.mem ((c : Thread nD τ).loc main_v0) = attnOut0 (a0 m c) (a1 m c) (a2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Cert.Kernel23Ideal.Value.run_blocks m ρ)

end Cert.Kernel23Ideal.Heads

namespace Cert.Reference23Ideal.Heads

open Idealize.ShloMosaic Cert.Reference23Ideal Cert.Reference23Ideal.Read Cert.Attn

variable (x0 : Vec Ideal S4096x8192 .bf16) (x1 : Vec Ideal S256x2048 .bf16) (x2 : Vec Ideal S4096x4096 .bf16)

theorem query_at (s : Fin 4096) (h : Fin 4) (d : Fin 256) :
    val_main_v5 (F := Ideal) x0 (ix3 s h d) = qrow0 x0 s (hcol h d) := by
  rw [val_main_v5_apply, val_main_v1_apply, val_main_v0_apply]
  show x0 _ = x0 _
  congr 1
  funext a
  apply Fin.ext
  match a with
  | ⟨0, _⟩ => show ((s.val * 4 + h.val) * 256 + d.val) / 1024 = s.val; omega
  | ⟨1, _⟩ => show 3072 + ((s.val * 4 + h.val) * 256 + d.val) % 1024 = 3072 + (256 * h.val + d.val); omega

theorem key_at (m : Fin 256) (h : Fin 4) (d : Fin 256) :
    val_main_v6 (F := Ideal) x1 (ix3 m h d) = kvrow x1 m (kcol h d) := by
  rw [val_main_v6_apply, val_main_v3_apply, val_main_v2_apply]
  show x1 _ = x1 _
  congr 1
  funext a
  apply Fin.ext
  match a with
  | ⟨0, _⟩ => show ((m.val * 4 + h.val) * 256 + d.val) / 1024 = m.val; omega
  | ⟨1, _⟩ => show ((m.val * 4 + h.val) * 256 + d.val) % 1024 = 256 * h.val + d.val; omega

theorem value_at (m : Fin 256) (h : Fin 4) (d : Fin 256) :
    val_main_v7 (F := Ideal) x1 (ix3 m h d) = kvrow x1 m (vcol h d) := by
  rw [val_main_v7_apply, val_main_v4_apply, val_main_v2_apply]
  show x1 _ = x1 _
  congr 1
  funext a
  apply Fin.ext
  match a with
  | ⟨0, _⟩ => show ((m.val * 4 + h.val) * 256 + d.val) / 1024 = m.val; omega
  | ⟨1, _⟩ => show 1024 + ((m.val * 4 + h.val) * 256 + d.val) % 1024 = 1024 + (256 * h.val + d.val); omega

theorem score_at (h : Fin 4) (s : Fin 4096) (m : Fin 256) :
    val_main_v10 (F := Ideal) x0 x1 (ix3 h s m) = score (qrow0 x0 s) (kvrow x1) h m := by
  rw [val_main_v10_apply, val_main_v8_apply, val_main_v9_apply, val_main_cst_apply]
  unfold score
  refine congrArg₂ (· * ·) (Finset.sum_congr rfl fun d _ => ?_) rfl
  rw [show lidx_main_v8 (ix3 h s m) d = ix3 s h d from by idx_ext,
    show ridx_main_v8 (ix3 h s m) d = ix3 m h d from by idx_ext, query_at, key_at]

theorem top_at (h : Fin 4) (s : Fin 4096) :
    val_main_v11 (F := Ideal) x0 x1 (ix2 h s) = top (score (qrow0 x0 s) (kvrow x1) h) := by
  unfold val_main_v11
  have : score (qrow0 x0 s) (kvrow x1) h = fun m => val_main_v10 (F := Ideal) x0 x1 (ix3 h s m) :=
    funext fun m => (score_at x0 x1 h s m).symm
  rw [this]
  generalize val_main_v10 (F := Ideal) x0 x1 = v
  pointwise
  show Finset.fold max (Ideal.ofBits .f32 0xFF800000#32) _ _ = _
  rw [ofBits_bot]
  rfl

theorem ex_at (h : Fin 4) (s : Fin 4096) (m : Fin 256) :
    val_main_v17 (F := Ideal) x0 x1 (ix3 h s m) = ex (score (qrow0 x0 s) (kvrow x1) h) m := by
  rw [val_main_v17_apply, val_main_v16_apply, score_at, val_main_v15_apply, val_main_v14_apply, val_main_v13_apply,
    val_main_v12_apply]
  have ht : val_main_v11 (F := Ideal) x0 x1 (idx_main_v14 (idx_main_v15 (ix3 h s m))) = top (score (qrow0 x0 s) (kvrow x1) h) := by
    rw [← top_at]; congr 1; idx_ext
  rw [ht]
  show Ideal.exp (_ - max (Ideal.ofBits .f32 0xFF800000#32) _) = _
  rw [ofBits_bot, max_eq_right bot_le]
  rfl

theorem den_at (h : Fin 4) (s : Fin 4096) :
    val_main_v18 (F := Ideal) x0 x1 (ix2 h s) = den (score (qrow0 x0 s) (kvrow x1) h) := by
  rw [val_main_v18_apply]
  unfold den
  show Ideal.ofBits .f32 0x00000000#32 + _ = _
  rw [Ideal.ofBits_zero_f32, zero_add]
  refine Finset.sum_congr rfl fun m _ => ?_
  rw [← ex_at]; congr 1; idx_ext

theorem prob_at (h : Fin 4) (s : Fin 4096) (m : Fin 256) :
    val_main_v21 (F := Ideal) x0 x1 (ix3 h s m) = prob (score (qrow0 x0 s) (kvrow x1) h) m := by
  rw [val_main_v21_apply, ex_at, val_main_v20_apply, val_main_v19_apply,
    show idx_main_v19 (idx_main_v20 (ix3 h s m)) = ix2 h s from by idx_ext, den_at]
  rfl

theorem attn_at (s : Fin 4096) (h : Fin 4) (d : Fin 256) :
    val_main_v23 (F := Ideal) x0 x1 (ix3 s h d) = attnAt (qrow0 x0 s) (kvrow x1) h d := by
  rw [val_main_v23_apply, val_main_v22_apply]
  unfold attnAt
  refine Finset.sum_congr rfl fun m _ => ?_
  rw [← prob_at, ← value_at, mul_comm]
  congr 2 <;> idx_ext

/-- The reference's result. -/
theorem result : val_main_v27 (F := Ideal) x0 x1 x2 = attnOut0 x0 x1 x2 := by
  funext i
  obtain ⟨s, c, rfl⟩ : ∃ s c, i = ix2 s c := ⟨i 0, i 1, by idx_ext⟩
  unfold val_main_v27 attnOut0
  pointwise
  by_cases hc : c.val < 3072
  · rw [dif_pos hc, dif_neg (Nat.not_le.mpr hc), val_main_v25_apply]
    congr 1
    funext a
    apply Fin.ext
    match a with
    | ⟨0, _⟩ => rfl
    | ⟨1, _⟩ => rfl
  · rw [dif_neg hc, dif_pos (Nat.not_lt.mp hc), val_main_v26_apply]
    show val_main_v24 (F := Ideal) x0 x1 _ = _
    rw [val_main_v24_apply, attnRow_eq _ _ ⟨(c.val - 3072) / 256, by omega⟩ ⟨(c.val - 3072) % 256, by omega⟩ _
      (by dsimp only; omega), ← attn_at]
    congr 1
    funext a
    apply Fin.ext
    match a with
    | ⟨0, _⟩ => show (s.val * 1024 + (c.val - 3072)) / 1024 = s.val; omega
    | ⟨1, _⟩ => show (s.val * 1024 + (c.val - 3072)) / 256 % 4 = (c.val - 3072) / 256; omega
    | ⟨2, _⟩ => show (s.val * 1024 + (c.val - 3072)) % 256 = (c.val - 3072) % 256; omega

end Cert.Reference23Ideal.Heads

end
-- ==== Proof.PoolWindow.lean ====
/- The pooling's windows: the sum of the values inside a window, written as a sum over all positions that weighs each by one
   inside the window and by zero outside, and as a sum over the window's own positions; and a window's number of positions. -/
module

public import Idealize.ShloMosaic.Lib.Pointwise
public import Idealize.ShloMosaic.Lib.WordArith
public import Idealize.ShloMosaic.Lib.WordCmp
public import Idealize.ShloMosaic.Lib.Pipeline.Value

@[expose] public section

set_option maxRecDepth 16384

noncomputable section

namespace Cert.Pool

open Idealize.ShloMosaic

/-- The window of the columns' group `j`: 2, 4, 8 or 16 positions. -/
def width (j : ℕ) : ℕ := 2 ^ (j + 1)

theorem width_le (j : ℕ) (hj : j < 4) : width j ≤ 16 := by
  interval_cases j <;> decide

/-- How many positions the window that ends at position `n` has. -/
def count (n j : ℕ) : EReal := (((min (n + 1) (width j) : ℕ) : ℝ) : EReal)

/-- A window from position `a` on, among `N` positions behind which the window's values are zero. -/
theorem ahead (N a w : ℕ) (f : ℕ → EReal) (h : ∀ n, N ≤ n → n < a + w → f n = 0) :
    (∑ c : Fin N, if a ≤ c.val ∧ c.val < a + w then f c.val else 0) = ∑ k ∈ Finset.range w, f (a + k) := by
  rw [Fin.sum_univ_eq_sum_range (fun n => if a ≤ n ∧ n < a + w then f n else 0) N, ← Finset.sum_filter]
  have e := Finset.sum_Ico_eq_sum_range f a (a + w)
  rw [Nat.add_sub_cancel_left] at e
  rw [← e]
  refine Finset.sum_subset (fun n hn => ?_) fun n hn hout => ?_
  · rw [Finset.mem_filter] at hn
    exact Finset.mem_Ico.mpr hn.2
  · rw [Finset.mem_Ico] at hn
    refine h n (not_lt.mp fun hlt => hout ?_) hn.2
    exact Finset.mem_filter.mpr ⟨Finset.mem_range.mpr hlt, hn⟩

/-- A window that ends at position `a`, cut at the first position. -/
theorem behind (N a w : ℕ) (f : ℕ → EReal) (ha : a < N) :
    (∑ c : Fin N, if c.val ≤ a ∧ a < c.val + w then f c.val else 0)
      = ∑ k ∈ Finset.range w, if k ≤ a then f (a - k) else 0 := by
  rw [Fin.sum_univ_eq_sum_range (fun n => if n ≤ a ∧ a < n + w then f n else 0) N, ← Finset.sum_filter, ← Finset.sum_filter]
  refine Finset.sum_nbij' (fun n => a - n) (fun k => a - k) ?_ ?_ ?_ ?_ ?_
  all_goals
    intro n hn
    simp only [Finset.mem_filter, Finset.mem_range] at hn ⊢
  · omega
  · omega
  · omega
  · omega
  · rw [Nat.sub_sub_self hn.2.1]

/-- A weight that is one where a condition holds and zero elsewhere picks the value or zero. -/
theorem weigh (p : Prop) [Decidable p] (x : EReal) : (if p then (1 : EReal) else 0) * x = if p then x else 0 := by
  split_ifs <;> simp

theorem weigh' (p : Prop) [Decidable p] (x : EReal) : x * (if p then (1 : EReal) else 0) = if p then x else 0 := by
  split_ifs <;> simp

/-- The group's window as a word: two shifted by the group. -/
theorem word_width (j : ℕ) (hj : j < 4) : IntOp.shli .host 2#32 (BitVec.ofNat 32 j) = BitVec.ofNat 32 (width j) := by
  interval_cases j <;> decide

/-- The comparisons of positions as words: at or behind `t`, and before the end of the window that starts there. -/
theorem inside {α : Type} (t s w : ℕ) (ht : t < 4096) (hs : s < 4096) (hw : w ≤ 16) (a b : α) :
    Scalar.select (IntOp.andi (IntOp.cmpi .sle (BitVec.ofNat 32 t) (BitVec.ofNat 32 s))
      (IntOp.cmpi .slt (BitVec.ofNat 32 s) (IntOp.addi (BitVec.ofNat 32 t) (BitVec.ofNat 32 w)))) a b
      = if t ≤ s ∧ s < t + w then a else b := by
  have et := WordArith.toInt_ofNat_small t (by omega)
  have es := WordArith.toInt_ofNat_small s (by omega)
  have ew := WordArith.toInt_ofNat_small w (by omega)
  have eadd : (IntOp.addi (BitVec.ofNat 32 t) (BitVec.ofNat 32 w)).toInt = (t : ℤ) + w := by
    unfold IntOp.addi
    rw [WordArith.toInt_add_of_bounds _ _ (by omega) (by omega), et, ew]
  rw [WordCmp.cmpi_sle_eq, WordCmp.cmpi_slt_eq, WordArith.andi_ofBool, et, es, eadd]
  unfold Scalar.select
  by_cases h : t ≤ s ∧ s < t + w
  · rw [if_pos h, if_pos ((WordArith.ofBool_eq_numeral_one_iff _).mpr (by
      simp only [Bool.and_eq_true, decide_eq_true_eq]; omega))]
  · rw [if_neg h, if_neg fun e => h (by
      have e' := (WordArith.ofBool_eq_numeral_one_iff _).mp e
      simp only [Bool.and_eq_true, decide_eq_true_eq] at e'; omega)]

/-- The comparisons of a column of the row's own 512 positions and the 128 before them: at or before the row's position, and
    inside the window that ends there. -/
theorem insideBack {α : Type} (r k w : ℕ) (hr : r < 512) (hk : k < 640) (hw : w ≤ 16) (a b : α) :
    Scalar.select (IntOp.andi (IntOp.cmpi .sle (IntOp.subi (BitVec.ofNat 32 k) 128#32) (BitVec.ofNat 32 r))
      (IntOp.cmpi .sgt (IntOp.subi (BitVec.ofNat 32 k) 128#32) (IntOp.subi (BitVec.ofNat 32 r) (BitVec.ofNat 32 w)))) a b
      = if k ≤ r + 128 ∧ r + 128 < k + w then a else b := by
  have er := WordArith.toInt_ofNat_small r (by omega)
  have ek := WordArith.toInt_ofNat_small k (by omega)
  have ew := WordArith.toInt_ofNat_small w (by omega)
  have e1 : (IntOp.subi (BitVec.ofNat 32 k) 128#32).toInt = (k : ℤ) - 128 := by
    rw [WordArith.toInt_subi_of_nonneg _ _ (by omega) (by decide), ek]; rfl
  have e2 : (IntOp.subi (BitVec.ofNat 32 r) (BitVec.ofNat 32 w)).toInt = (r : ℤ) - w := by
    rw [WordArith.toInt_subi_of_nonneg _ _ (by omega) (by omega), er, ew]
  rw [WordCmp.cmpi_sle_eq, WordCmp.cmpi_sgt_eq, WordArith.andi_ofBool, e1, e2, er]
  unfold Scalar.select
  by_cases h : k ≤ r + 128 ∧ r + 128 < k + w
  · rw [if_pos h, if_pos ((WordArith.ofBool_eq_numeral_one_iff _).mpr (by
      simp only [Bool.and_eq_true, decide_eq_true_eq]; omega))]
  · rw [if_neg h, if_neg fun e => h (by
      have e' := (WordArith.ofBool_eq_numeral_one_iff _).mp e
      simp only [Bool.and_eq_true, decide_eq_true_eq] at e'; omega)]

/-- The smaller of the position plus one and the window, as words, converted. -/
theorem count_words (n j : ℕ) (hn : n < 4096) (hj : j < 4) :
    ((((IntOp.minsi (IntOp.addi (BitVec.ofNat 32 n) 1#32) (BitVec.ofNat 32 (width j))).toInt : ℤ) : ℝ) : EReal) = count n j := by
  have hw := width_le j hj
  have e1 : IntOp.addi (BitVec.ofNat 32 n) 1#32 = BitVec.ofNat 32 (n + 1) := (BitVec.ofNat_add n 1).symm
  have hm : (IntOp.minsi (BitVec.ofNat 32 (n + 1)) (BitVec.ofNat 32 (width j))).toNat = min (n + 1) (width j) := by
    rw [WordArith.toNat_minsi_of_lt _ _ (by rw [WordArith.toNat_ofNat_of_lt _ (by omega)]; omega)
      (by rw [WordArith.toNat_ofNat_of_lt _ (by omega)]; omega), WordArith.toNat_ofNat_of_lt _ (by omega),
      WordArith.toNat_ofNat_of_lt _ (by omega)]
  rw [e1, BitVec.toInt_eq_toNat_of_lt (by rw [hm]; omega), hm]
  unfold count
  norm_cast

/-- The smaller of the position plus one and the window, as an extended real. -/
theorem count_min (n j : ℕ) : min (((n : ℝ) : EReal) + 1) (((width j : ℕ) : ℝ) : EReal) = count n j := by
  unfold count
  rw [show ((n : ℝ) : EReal) + 1 = ((((n + 1 : ℕ) : ℝ)) : EReal) by push_cast; rfl]
  rcases le_total (n + 1) (width j) with h | h
  · rw [min_eq_left h, min_eq_left (EReal.coe_le_coe_iff.mpr (Nat.cast_le.mpr h))]
  · rw [min_eq_right h, min_eq_right (EReal.coe_le_coe_iff.mpr (Nat.cast_le.mpr h))]

end Cert.Pool

end
-- ==== Proof.PoolBwdRef.lean ====
/- The reference's gradient of the pooling, read at an index. -/
module

public import proofs.«01_k».proof.Proof.PoolWindow
public import proofs.«01_k».proof.Proof.Gen.Reference24Ideal.Read

@[expose] public section

set_option maxRecDepth 16384

noncomputable section

namespace Cert.Pool

open Idealize.ShloMosaic Cert.Reference24Ideal

/-- What position `n` hands to every position of its window: the incoming gradient divided by the window's number of positions,
    and nothing behind the last position. -/
def share (x : Vec Ideal S4096x3072 .f32) (q : Fin 3072) (n : ℕ) : EReal :=
  if h : n < 4096 then Ideal.div (x (ix2 (⟨n, h⟩ : Fin 4096) q)) (count n (q.val / 768)) else 0

/-- The gradient by the pooling's input at position `p` and column `q`. -/
def grad (x : Vec Ideal S4096x3072 .f32) (p : Fin 4096) (q : Fin 3072) : EReal :=
  (∑ k ∈ Finset.range (width (q.val / 768)), share x q (p.val + k)) - x (ix2 p q)

/-- The result: the first 3072 columns are the gradient, the others the second argument's. -/
def gradInto (x : Vec Ideal S4096x3072 .f32) (y : Vec Ideal S4096x8192 .bf16) (i : S4096x8192.Idx) : EReal :=
  if h : (i 1).val < 3072 then grad x (i 0) ⟨(i 1).val, h⟩ else y i

end Cert.Pool

namespace Cert.Reference24Ideal.Product

open Idealize.ShloMosaic Cert.Reference24Ideal Cert.Reference24Ideal.Read Cert.Pool

theorem width_word (j : Fin 4) : val_main_v4 (F := Ideal) (ix1 j) = BitVec.ofNat 32 (width j.val) :=
  word_width j.val j.isLt

/-- The window's weight of position `s` for position `t`, in group `j`. -/
theorem mask (j : Fin 4) (s t : Fin 4096) :
    val_main_v21 (F := Ideal) (ix3 j s t) = if t.val ≤ s.val ∧ s.val < t.val + width j.val then (1 : EReal) else 0 := by
  have hw := width_le j.val j.isLt
  have e4 : val_main_v4 (F := Ideal) (idx_main_v12 (idx_main_v14 (idx_main_v17 (ix3 j s t)))) = BitVec.ofNat 32 (width j.val) :=
    width_word j
  rw [val_main_v21_apply, val_main_v20_apply, val_main_v19_apply, val_main_v11_apply, val_main_v9_apply, val_main_v10_apply,
    val_main_v8_apply, val_main_v7_apply, val_main_v6_apply, val_main_v5_apply, val_main_v18_apply, val_main_v16_apply,
    val_main_v17_apply, val_main_v15_apply, val_main_v13_apply, val_main_v14_apply, val_main_v12_apply, e4,
    val_main_v6_apply, val_main_v5_apply, val_main_v8_apply, val_main_v7_apply]
  exact (inside t.val s.val (width j.val) t.isLt s.isLt hw _ _).trans
    (congrArg₂ (fun a b : EReal => if t.val ≤ s.val ∧ s.val < t.val + width j.val then a else b)
      Ideal.ofBits_one_f32 Ideal.ofBits_zero_f32)

/-- The number of positions in position `n`'s window, in group `j`. -/
theorem counts (n : Fin 4096) (j : Fin 4) : val_main_v30 (F := Ideal) (ix2 n j) = count n.val j.val := by
  have hw := width_le j.val j.isLt
  rw [val_main_v30_apply, val_main_v28_apply, val_main_v25_apply, val_main_v23_apply, val_main_v24_apply, val_main_v29_apply,
    val_main_v27_apply, ← count_min]
  refine congrArg₂ (min : EReal → EReal → EReal) (congrArg₂ (· + ·) ?_ Ideal.ofBits_one_f32) ?_
  · show (((BitVec.ofNat 32 n.val).toInt : ℝ) : EReal) = _
    rw [WordArith.toInt_ofNat_small _ (by omega)]
    norm_cast
  · show (((val_main_v4 (F := Ideal) (ix1 j)).toInt : ℝ) : EReal) = _
    rw [width_word, WordArith.toInt_ofNat_small _ (by omega)]
    norm_cast

/-- The reference's gradient of the pooling. -/
theorem sums (x : Vec Ideal S4096x3072 .f32) (p : Fin 4096) (q : Fin 3072) :
    val_main_v47 (F := Ideal) x (ix2 p q) = grad x p q := by
  have hq : q.val / 768 < 4 := by omega
  rw [val_main_v47_apply]
  show val_main_v46 (F := Ideal) x (ix2 p q) = _
  have e : idx_main_v46 (ix2 p q) = ix3 p (⟨q.val / 768, hq⟩ : Fin 4) (⟨q.val % 768, by omega⟩ : Fin 768) := by
    funext a
    apply Fin.ext
    match a with
    | ⟨0, _⟩ => show (p.val * 3072 + q.val) / 3072 = p.val; omega
    | ⟨1, _⟩ => show (p.val * 3072 + q.val) / 768 % 4 = q.val / 768; omega
    | ⟨2, _⟩ => show (p.val * 3072 + q.val) % 768 = q.val % 768; omega
  have e38 : ∀ n : Fin 4096, val_main_v38 (F := Ideal) x (ix3 n (⟨q.val / 768, hq⟩ : Fin 4) (⟨q.val % 768, by omega⟩ : Fin 768))
      = x (ix2 n q) := fun n => by
    rw [val_main_v38_apply]
    refine congrArg x ?_
    funext a
    apply Fin.ext
    match a with
    | ⟨0, _⟩ => show ((n.val * 4 + q.val / 768) * 768 + q.val % 768) / 3072 = n.val; omega
    | ⟨1, _⟩ => show ((n.val * 4 + q.val / 768) * 768 + q.val % 768) % 3072 = q.val; omega
  have e34 : ∀ n : Fin 4096, val_main_v40 (F := Ideal) (ix3 n (⟨q.val / 768, hq⟩ : Fin 4) (⟨q.val % 768, by omega⟩ : Fin 768))
      = count n.val (q.val / 768) := fun n => by
    have e2 : idx_main_v33 (idx_main_v40 (ix3 n (⟨q.val / 768, hq⟩ : Fin 4) (⟨q.val % 768, by omega⟩ : Fin 768)))
        = ix2 n (⟨q.val / 768, hq⟩ : Fin 4) := by
      funext a
      apply Fin.ext
      match a with
      | ⟨0, _⟩ => rfl
      | ⟨1, _⟩ => rfl
    rw [val_main_v40_apply, val_main_v33_apply, e2, counts]
  have e42 : ∀ n : Fin 4096, val_main_v42 (F := Ideal) x (ix3 (⟨q.val / 768, hq⟩ : Fin 4) (⟨q.val % 768, by omega⟩ : Fin 768) n)
      = share x q n.val := fun n => by
    have e2 : idx_main_v42 (ix3 (⟨q.val / 768, hq⟩ : Fin 4) (⟨q.val % 768, by omega⟩ : Fin 768) n)
        = ix3 n (⟨q.val / 768, hq⟩ : Fin 4) (⟨q.val % 768, by omega⟩ : Fin 768) := by
      funext a
      apply Fin.ext
      match a with
      | ⟨0, _⟩ => rfl
      | ⟨1, _⟩ => rfl
      | ⟨2, _⟩ => rfl
    rw [val_main_v42_apply, e2, val_main_v41_apply, e38, e34]
    unfold share
    rw [dif_pos n.isLt]
    rfl
  have e44 : idx_main_v44 (ix3 p (⟨q.val / 768, hq⟩ : Fin 4) (⟨q.val % 768, by omega⟩ : Fin 768))
      = ix3 (⟨q.val / 768, hq⟩ : Fin 4) (⟨q.val % 768, by omega⟩ : Fin 768) p := by
    funext a
    apply Fin.ext
    match a with
    | ⟨0, _⟩ => rfl
    | ⟨1, _⟩ => rfl
    | ⟨2, _⟩ => rfl
  rw [val_main_v46_apply, e, val_main_v45_apply, val_main_v39_apply, e38, val_main_v44_apply, e44, val_main_v43_apply]
  unfold grad
  rw [sub_eq_add_neg]
  refine (add_comm (-(x (ix2 p q) : EReal)) _).trans (congrArg (· + -(x (ix2 p q) : EReal)) ?_)
  rw [← ahead 4096 p.val (width (q.val / 768)) (share x q) fun n hn _ => dif_neg (by omega)]
  refine Finset.sum_congr rfl fun n _ => ?_
  have el : lidx_main_v43 (ix3 (⟨q.val / 768, hq⟩ : Fin 4) (⟨q.val % 768, by omega⟩ : Fin 768) p) n
      = ix3 (⟨q.val / 768, hq⟩ : Fin 4) (⟨q.val % 768, by omega⟩ : Fin 768) n := by
    funext a
    apply Fin.ext
    match a with
    | ⟨0, _⟩ => rfl
    | ⟨1, _⟩ => rfl
    | ⟨2, _⟩ => rfl
  have er : ridx_main_v43 (ix3 (⟨q.val / 768, hq⟩ : Fin 4) (⟨q.val % 768, by omega⟩ : Fin 768) p) n
      = ix3 (⟨q.val / 768, hq⟩ : Fin 4) n p := by
    funext a
    apply Fin.ext
    match a with
    | ⟨0, _⟩ => rfl
    | ⟨1, _⟩ => rfl
    | ⟨2, _⟩ => rfl
  rw [el, er, e42, mask]
  exact weigh' _ _

/-- The reference's result. -/
theorem result (x : Vec Ideal S4096x3072 .f32) (y : Vec Ideal S4096x8192 .bf16) :
    val_main_v49 (F := Ideal) x y = gradInto x y := by
  funext i
  obtain ⟨p, q, rfl⟩ : ∃ (p : Fin 4096) (q : Fin 8192), i = ix2 p q := ⟨i 0, i 1, by idx_ext⟩
  unfold val_main_v49 gradInto
  by_cases h : q.val < 3072
  · refine Eq.trans ?_ (dif_pos h).symm
    refine Eq.trans ?_ (sums x p ⟨q.val, h⟩)
    refine concatenate_pair_apply_left (t := S4096x8192) (s₁ := S4096x3072) (1 : Fin 2) _ _ _ _ rfl (ix2 p (⟨q.val, h⟩ : Fin 3072)) fun b => ?_
    match b with
    | ⟨0, _⟩ => rfl
    | ⟨1, _⟩ => rfl
  · refine Eq.trans ?_ (dif_neg h).symm
    refine (concatenate_pair_apply_right (t := S4096x8192) (s₁ := S4096x3072) (s₂ := S4096x5120) (1 : Fin 2) _ _ _ _ rfl rfl
      (ix2 p (⟨q.val - 3072, by omega⟩ : Fin 5120)) (fun b hb => ?_) ?_).trans ?_
    · match b with
      | ⟨0, _⟩ => rfl
      | ⟨1, _⟩ => exact absurd rfl hb
    · show q.val - 3072 + 3072 = q.val; omega
    · rw [val_main_v48_apply]
      refine congrArg y ?_
      funext a
      apply Fin.ext
      match a with
      | ⟨0, _⟩ => rfl
      | ⟨1, _⟩ => show 3072 + (q.val - 3072) = q.val; omega

end Cert.Reference24Ideal.Product

end
-- ==== Proof.PoolBwd.lean ====
/- The pooling's gradient on the grid of 4 groups by 8 row tiles, the last tile first: what each point leaves in its block and in the
   rows it keeps for the tile before, and the array they fill. -/
module

public import proofs.«01_k».proof.Proof.PoolBwdRef
public import proofs.«01_k».proof.Proof.Gen.Kernel24Ideal.Value
public import Idealize.ShloMosaic.Lib.Pipeline.ValueKit.Tiles
public import Idealize.ShloMosaic.Lib.WritesUnit
public import Idealize.ShloMosaic.Lib.Tactic

@[expose] public section

set_option maxRecDepth 16384

noncomputable section

namespace Cert.Kernel24Ideal.Product

open Idealize.ShloMosaic Idealize.ShloMosaic.TcCoe Idealize.SL.Sem Cert.Kernel24Ideal Cert.Kernel24Ideal.Gen Cert.Pool

/-- The window's word as the body computes it from the group's coordinate. -/
abbrev word (i : grid0.Coords) : BitVec 32 :=
  let arg0 : BitVec 32 := BitVec.ofNat 32 (i 0).val
  let v1 : BitVec 32 := Scalar.divsi arg0 1#32
  Scalar.shli 2#32 (Scalar.select (Scalar.andi (Scalar.cmpi .ne (Scalar.subi (Scalar.extui (Scalar.cmpi .sgt arg0 0#32))
      (Scalar.extui (Scalar.cmpi .slt arg0 0#32))) (Scalar.subi (Scalar.extui (Scalar.cmpi .sgt 1#32 0#32))
      (Scalar.extui (Scalar.cmpi .slt 1#32 0#32)))) (Scalar.cmpi .ne (Scalar.remsi arg0 1#32) 0#32)) (Scalar.subi v1 1#32) v1)

theorem word_eq (i : grid0.Coords) : word i = BitVec.ofNat 32 (width (i 0).val) := by
  have h : (i 0).val < 4 := (i 0).isLt
  unfold word
  generalize (i 0).val = j at h
  interval_cases j <;> decide

/-- The rows' positions in the tile. -/
abbrev rowsIota : IVec S512x640 32 := iota .tc S512x640 32 [0] iota_S512x640_d0_w32

/-- One block's payload: the kept and the tile's own rows inside the window, less the block. -/
theorem pay1_apply (j : ℕ) (hj : j < 4) (x : Vec Ideal S512x768 .f32) (s : Vec Ideal S640x768 .bf16) (r : Fin 512) (d : Fin 768) :
    k0_pay1 (F := Ideal) (BitVec.ofNat 32 (width j)) x rowsIota s (ix2 r d)
      = (∑ k : Fin 640, if r.val ≤ k.val ∧ k.val < r.val + width j then s (ix2 k d) else 0) - x (ix2 r d) := by
  have hw := width_le j hj
  pointwise [k0_pay1]
  refine congrArg (· - (x (ix2 r d) : EReal)) (Finset.sum_congr rfl fun k _ => ?_)
  exact inside r.val k.val (width j) (by omega) (by omega) hw _ _

/-- One block's rows, each divided by the number of positions in its window. -/
theorem pay4_apply (i : grid0.Coords) (x : Vec Ideal S512x768 .f32) (r : Fin 512) (d : Fin 768) (n : ℕ)
    (hn : n = (7 - (i 1).val) * 512 + r.val) :
    k0_pay4 (F := Ideal) i x (ix2 r d) = Ideal.div (x (ix2 r d)) (count n (i 0).val) := by
  have h0 : (i 0).val < 4 := (i 0).isLt
  have h1 : (i 1).val < 8 := (i 1).isLt
  have e : IntOp.addi (Scalar.muli (Scalar.subi 7#32 (BitVec.ofNat 32 (i 1).val)) 512#32) (BitVec.ofNat 32 r.val) = BitVec.ofNat 32 n := by
    subst hn
    rw [BitVec.ofNat_add]
    refine congrArg (· + BitVec.ofNat 32 r.val) ?_
    generalize (i 1).val = t at h1
    interval_cases t <;> decide
  pointwise [k0_pay4]
  refine congrArg (Ideal.div (x (ix2 r d))) ?_
  rw [e]
  refine Eq.trans ?_ (count_words n (i 0).val (by omega) h0)
  rw [← word_eq]
  rfl

/-- The rows the tile leaves for the tile before: its own first 128. -/
theorem pay2_apply (z : Vec Ideal S512x768 .bf16) (r : Fin 128) (d : Fin 768) :
    k0_pay2 (F := Ideal) z (ix2 r d) = z (ix2 (⟨r.val, by omega⟩ : Fin 512) d) := by
  pointwise [k0_pay2]

theorem pay3_apply (r : Fin 128) (d : Fin 768) : k0_pay3 (F := Ideal) (ix2 r d) = (0 : EReal) := by
  pointwise [k0_pay3]

theorem pay5_apply (i : grid0.Coords) (x : Vec Ideal S512x768 .f32) (r : Fin 512) (d : Fin 768) :
    k0_pay5 (F := Ideal) i x (ix2 r d) = k0_pay4 (F := Ideal) i x (ix2 r d) := by
  pointwise [k0_pay5]

theorem hz2 : (![0, 0] : Fin 2 → Nat) = fun _ => 0 := funext fun a => by fin_cases a <;> rfl

variable (c : Dev nD) (i : grid0.Coords) (arg2 : Memref sig .tc .vmem S512x768 .f32) (harg2 : arg2.IsWhole)
  (arg4 : Memref sig .tc .vmem S512x768 .bf16) (harg4 : arg4.IsWhole) (arg5 : Memref sig .tc .vmem S640x768 .bf16) (harg5 : arg5.IsWhole)
  (x0 : Vec Ideal S512x768 .f32) (xs0 : Vec Ideal S640x768 .bf16)

/-- The scratch after its first 512 rows are written. -/
theorem own_rows (v : View sig .tc .vmem S640x768 .bf16) (f) (z : Vec Ideal S512x768 .bf16) (inb) (L) (k : Fin 640) (d : Fin 768) :
    v.read (Elt Ideal) (v.writes (Elt Ideal) f ((⟨Rect.unit (s := S640x768) ![0, 0] ![512, 768] inb, z⟩ : View.Piece (Elt Ideal) S640x768 .bf16) :: L))
        (ix2 k d)
      = if h : k.val < 512 then z (ix2 (⟨k.val, h⟩ : Fin 512) d) else v.read (Elt Ideal) (v.writes (Elt Ideal) f L) (ix2 k d) := by
  by_cases h : k.val < 512
  · rw [dif_pos h]
    exact View.read_writes_cons_rows_of_mem v f inb z L _ (ix2 (⟨k.val, h⟩ : Fin 512) d) rfl (Nat.zero_add _).symm rfl
  · rw [dif_neg h]
    exact View.read_writes_cons_rows_of_not_mem v f inb z L _ rfl rfl (.inr (by show 0 + 512 ≤ k.val; omega))

/-- The scratch after its last 128 rows are written. -/
theorem kept_rows (v : View sig .tc .vmem S640x768 .bf16) (f) (z : Vec Ideal S128x768 .bf16) (inb) (L) (k : Fin 640) (d : Fin 768)
    (h : 512 ≤ k.val) :
    v.read (Elt Ideal) (v.writes (Elt Ideal) f ((⟨Rect.unit (s := S640x768) ![512, 0] ![128, 768] inb, z⟩ : View.Piece (Elt Ideal) S640x768 .bf16) :: L))
        (ix2 k d)
      = z (ix2 (⟨k.val - 512, by omega⟩ : Fin 128) d) :=
  View.read_writes_cons_rows_of_mem v f inb z L _ (ix2 (⟨k.val - 512, by omega⟩ : Fin 128) d) rfl (by show k.val = 512 + (k.val - 512); omega) rfl

/-- A row of the tile's window reads the tile's own rows, and below them what was kept. -/
def tail (i : grid0.Coords) (x : Vec Ideal S512x768 .f32) (kept : Fin 640 → Fin 768 → EReal) (k : Fin 640) (d : Fin 768) : EReal :=
  if h : k.val < 512 then k0_pay4 (F := Ideal) i x (ix2 (⟨k.val, h⟩ : Fin 512) d) else kept k d

theorem out_A (hc0 : cond0_0 i) (r : Fin 512) (d : Fin 768) :
    out0_A_1 (F := Ideal) c i arg2 harg2 arg4 harg4 arg5 harg5 hc0 x0 (ix2 r d)
      = (∑ k : Fin 640, if r.val ≤ k.val ∧ k.val < r.val + width (i 0).val then tail i x0 (fun _ _ => 0) k d else 0) - x0 (ix2 r d) := by
  unfold out0_A_1
  rw [View.read_writes_eq_canon _ _ _ (cover0_A_1 c i arg2 harg2 arg4 harg4 arg5 harg5 hc0 x0)]
  unfold kernelRun0_A
  dsimp only
  sl_unfold_words
  unfold View.readCov
  simp only [View.readAt_eq_ld, harg2.read_unread]
  rw [View.canon_unit_zero hz2]
  simp only [View.ld_unit_zero (S := S640x768) hz2, View.ld_unit_zero (S := S512x768) hz2]
  refine Eq.trans (congrArg (fun w => k0_pay1 (F := Ideal) w x0 rowsIota _ (ix2 r d)) (word_eq i)) ?_
  rw [pay1_apply _ (i 0).isLt]
  refine congrArg (· - (x0 (ix2 r d) : EReal)) (Finset.sum_congr rfl fun k _ => ?_)
  refine congrArg (fun v : EReal => if r.val ≤ k.val ∧ k.val < r.val + width (i 0).val then v else 0) ?_
  rw [own_rows]
  unfold tail
  split_ifs with h
  · exact pay5_apply i x0 _ d
  · rw [kept_rows _ _ _ _ _ _ _ (by omega)]
    exact pay3_apply _ d

theorem out_B (hc0 : ¬cond0_0 i) (r : Fin 512) (d : Fin 768) :
    out0_B_1 (F := Ideal) c i arg2 harg2 arg4 harg4 arg5 harg5 hc0 x0 xs0 (ix2 r d)
      = (∑ k : Fin 640, if r.val ≤ k.val ∧ k.val < r.val + width (i 0).val then tail i x0 (fun k d => xs0 (ix2 k d)) k d else 0)
        - x0 (ix2 r d) := by
  unfold out0_B_1
  rw [View.read_writes_eq_canon _ _ _ (cover0_B_1 c i arg2 harg2 arg4 harg4 arg5 harg5 hc0 x0 xs0)]
  unfold kernelRun0_B
  dsimp only
  sl_unfold_words
  simp only [View.readAt_eq_ld, harg2.read_unread]
  rw [View.canon_unit_zero hz2]
  simp only [View.ld_unit_zero (S := S640x768) hz2, View.ld_unit_zero (S := S512x768) hz2]
  refine Eq.trans (congrArg (fun w => k0_pay1 (F := Ideal) w x0 rowsIota _ (ix2 r d)) (word_eq i)) ?_
  rw [pay1_apply _ (i 0).isLt]
  refine congrArg (· - (x0 (ix2 r d) : EReal)) (Finset.sum_congr rfl fun k _ => ?_)
  refine congrArg (fun v : EReal => if r.val ≤ k.val ∧ k.val < r.val + width (i 0).val then v else 0) ?_
  rw [own_rows]
  unfold tail
  split_ifs with h
  · exact pay5_apply i x0 _ d
  · rw [View.writes_nil, harg5.read_unread]

/-- Both cases keep the tile's first 128 rows behind the tile's own. -/
theorem sout_A (hc0 : cond0_0 i) (k : Fin 640) (d : Fin 768) (h : 512 ≤ k.val) :
    sout0_A_0 (F := Ideal) c i arg2 harg2 arg4 harg4 arg5 harg5 hc0 x0 (ix2 k d)
      = k0_pay4 (F := Ideal) i x0 (ix2 (⟨k.val - 512, by omega⟩ : Fin 512) d) := by
  unfold sout0_A_0 kernelRun0_A
  dsimp only
  sl_unfold_words
  simp only [View.readAt_eq_ld, harg2.read_unread]
  rw [kept_rows _ _ _ _ _ _ _ h, pay2_apply, View.ld_unit_zero (S := S512x768) hz2]

theorem sout_B (hc0 : ¬cond0_0 i) (k : Fin 640) (d : Fin 768) (h : 512 ≤ k.val) :
    sout0_B_0 (F := Ideal) c i arg2 harg2 arg4 harg4 arg5 harg5 hc0 x0 xs0 (ix2 k d)
      = k0_pay4 (F := Ideal) i x0 (ix2 (⟨k.val - 512, by omega⟩ : Fin 512) d) := by
  unfold sout0_B_0 kernelRun0_B
  dsimp only
  sl_unfold_words
  simp only [View.readAt_eq_ld, harg2.read_unread]
  rw [kept_rows _ _ _ _ _ _ _ h, pay2_apply, View.ld_unit_zero (S := S512x768) hz2]

variable (m : (ℓ : Loc nD τ sig) → Buf (Elt Ideal) ℓ) (ρ : Dev nD → PrngReg)

/-- The two arguments as launched. -/
abbrev a0 : Vec Ideal S4096x3072 .f32 := m ((c : Thread nD τ).loc main_arg0)
abbrev a1 : Vec Ideal S4096x8192 .bf16 := m ((c : Thread nD τ).loc main_arg1)

theorem idx0 : ∀ t : Fin cfg0.N, win0_0.index t 0 = 7 - t.val % 8 ∧ win0_0.index t 1 = t.val / 8 :=
  (by decide +kernel : ∀ t : Fin grid0.N, win0_0.index t 0 = 7 - t.val % 8 ∧ win0_0.index t 1 = t.val / 8)
theorem idx1 : ∀ t : Fin cfg0.N, win0_1.index t 0 = 7 - t.val % 8 ∧ win0_1.index t 1 = t.val / 8 :=
  (by decide +kernel : ∀ t : Fin grid0.N, win0_1.index t 0 = 7 - t.val % 8 ∧ win0_1.index t 1 = t.val / 8)

theorem group (t : Fin cfg0.N) : (grid0.coords t 0).val = t.val / 8 := by
  have ht : t.val < 32 := Nat.lt_of_lt_of_eq t.isLt N_0
  have e : (grid0.coords t 0).val = t.val / 8 % 4 := Pipeline.Grid.coords_val t 0 (by decide) rfl
  omega
theorem step (t : Fin cfg0.N) : (grid0.coords t 1).val = t.val % 8 := by
  have e : (grid0.coords t 1).val = t.val / 1 % 8 := Pipeline.Grid.coords_val t 1 (by decide) rfl
  omega

theorem blk (t : Fin cfg0.N) (r : Fin 512) (d : Fin 768) (p : Fin 4096) (q : Fin 3072) (hp : p.val = (7 - t.val % 8) * 512 + r.val)
    (hq : q.val = t.val / 8 * 768 + d.val) : (iblk m c 0 t : Vec Ideal S512x768 .f32) (ix2 r d) = a0 c m (ix2 p q) := by
  unfold iblk
  rw [View.read_apply]
  show V m c main_arg0 _ = _
  rw [V_main_arg0]
  refine congrArg (a0 c m) ?_
  funext a
  apply Fin.ext
  match a with
  | ⟨0, _⟩ => show win0_0.index t 0 * 512 + 1 * r.val = p.val; rw [(idx0 t).1]; omega
  | ⟨1, _⟩ => show win0_0.index t 1 * 768 + 1 * d.val = q.val; rw [(idx0 t).2]; omega

/-- A block's row, divided, is what its position hands out. -/
theorem shares (t : Fin cfg0.N) (r : Fin 512) (d : Fin 768) (n : ℕ) (q : Fin 3072) (hn : n = (7 - t.val % 8) * 512 + r.val)
    (hq : q.val = t.val / 8 * 768 + d.val) :
    k0_pay4 (F := Ideal) (grid0.coords t) (iblk m c 0 t) (ix2 r d) = share (a0 c m) q n := by
  have hlt : n < 4096 := by omega
  rw [pay4_apply (grid0.coords t) _ r d n (by rw [step]; exact hn), blk c m t r d ⟨n, hlt⟩ q hn hq, group,
    show t.val / 8 = q.val / 768 by omega]
  unfold share
  rw [dif_pos hlt]

/-- What the point keeps for the point after. -/
theorem kept (t : Fin cfg0.N) (k : Fin 640) (d : Fin 768) (h : 512 ≤ k.val) (q : Fin 3072) (hq : q.val = t.val / 8 * 768 + d.val) :
    (outsAt0 m c t.val t.isLt).2 (ix2 k d) = share (a0 c m) q ((7 - t.val % 8) * 512 + (k.val - 512)) := by
  by_cases h0 : t.val % 8 = 0
  · rw [outsAt0_A m c t h0]
    dsimp only
    rw [sout_A c (grid0.coords t) _ _ _ _ _ _ _ _ k d h]
    exact shares c m t _ d _ q rfl hq
  · rw [outsAt0_B m c t h0]
    dsimp only
    rw [sout_B c (grid0.coords t) _ _ _ _ _ _ _ _ _ k d h]
    exact shares c m t _ d _ q rfl hq

/-- What the point writes. -/
theorem written (t : Fin cfg0.N) (r : Fin 512) (d : Fin 768) (p : Fin 4096) (q : Fin 3072) (hp : p.val = (7 - t.val % 8) * 512 + r.val)
    (hq : q.val = t.val / 8 * 768 + d.val) :
    (outsAt0 m c t.val t.isLt).1 (ix2 r d) = grad (a0 c m) p q := by
  have hN : t.val < 32 := lt_of_lt_of_eq t.isLt N_0
  have hw := width_le (q.val / 768) (by omega)
  have hg : (grid0.coords t 0).val = q.val / 768 := by rw [group]; omega
  have key : ∀ e : Fin 640 → Fin 768 → EReal, (∀ k : Fin 640, 512 ≤ k.val → e k d = share (a0 c m) q ((7 - t.val % 8) * 512 + k.val)) →
      (∑ k : Fin 640, if r.val ≤ k.val ∧ k.val < r.val + width (grid0.coords t 0).val
          then tail (grid0.coords t) (iblk m c 0 t) e k d else 0) - (iblk m c 0 t : Vec Ideal S512x768 .f32) (ix2 r d)
        = grad (a0 c m) p q := by
    intro e he
    unfold grad
    rw [blk c m t r d p q hp hq, hg]
    refine congrArg (· - (a0 c m (ix2 p q) : EReal)) ?_
    have hs : (∑ k ∈ Finset.range (width (q.val / 768)), share (a0 c m) q (p.val + k))
        = ∑ k ∈ Finset.range (width (q.val / 768)), (fun n => share (a0 c m) q ((7 - t.val % 8) * 512 + n)) (r.val + k) :=
      Finset.sum_congr rfl fun k _ => congrArg (share (a0 c m) q) (by omega)
    rw [hs, ← ahead 640 r.val _ (fun n => share (a0 c m) q ((7 - t.val % 8) * 512 + n)) fun n h1 h2 => by omega]
    refine Finset.sum_congr rfl fun k _ => ?_
    refine congrArg (fun v : EReal => if r.val ≤ k.val ∧ k.val < r.val + width (q.val / 768) then v else 0) ?_
    unfold tail
    split_ifs with h
    · exact shares c m t _ d _ q rfl hq
    · exact he k (by omega)
  by_cases h0 : t.val % 8 = 0
  · rw [outsAt0_A m c t h0]
    dsimp only
    rw [out_A c (grid0.coords t) _ _ _ _ _ _ _ _ r d]
    refine key _ fun k hk => ?_
    unfold share
    rw [dif_neg (by rw [h0]; omega)]
  · rw [outsAt0_B m c t h0]
    dsimp only
    rw [out_B c (grid0.coords t) _ _ _ _ _ _ _ _ _ r d]
    refine key _ fun k hk => ?_
    refine (kept c m ⟨t.val - 1, by omega⟩ k d hk q ?_).trans (congrArg (share (a0 c m) q) ?_)
    · show q.val = (t.val - 1) / 8 * 768 + d.val; omega
    · show (7 - (t.val - 1) % 8) * 512 + (k.val - 512) = _; omega

theorem V_out : V m c main_v0 = a1 c m := by
  show StableHlo.after hostOps0 _ _ = _
  unfold hostOps0
  simp only [StableHlo.after_cons, StableHlo.after_nil]
  rw [StableHlo.unary_result]
  rfl

theorem size1 : ∀ t : Fin cfg0.N, win0_1.xsize (grid0.coords t) 0 = 512 ∧ win0_1.xsize (grid0.coords t) 1 = 768 :=
  (by decide +kernel : ∀ t : Fin grid0.N, win0_1.xsize (grid0.coords t) 0 = 512 ∧ win0_1.xsize (grid0.coords t) 1 = 768)

theorem flushed (t : Fin cfg0.N) :
    (dats m 0 c).flushed 1 t = ((cfg0.win 1).blk t).view.read (Elt Ideal) (gradInto (a0 c m) (a1 c m)) := by
  rw [Cert.Kernel24Ideal.Value.flushed1]
  funext y
  have hr : (y 0).val < 512 := (y 0).isLt.trans_eq (size1 t).1
  have hs : (y 1).val < 768 := (y 1).isLt.trans_eq (size1 t).2
  have hN : t.val < 32 := lt_of_lt_of_eq t.isLt N_0
  rw [View.read_apply]
  have ey : win0_1.xinj (grid0.coords t) y = ix2 (⟨(y 0).val, hr⟩ : Fin 512) (⟨(y 1).val, hs⟩ : Fin 768) := by
    funext a
    apply Fin.ext
    match a with
    | ⟨0, _⟩ => rfl
    | ⟨1, _⟩ => rfl
  show (outsAt0 m c t.val t.isLt).1 (win0_1.xinj (grid0.coords t) y) = gradInto (a0 c m) (a1 c m) (((cfg0.win 1).blk t).view.emb y)
  have hR : ((((cfg0.win 1).blk t).view.emb y) 0).val = (7 - t.val % 8) * 512 + (y 0).val := by
    show win0_1.index t 0 * 512 + 1 * (y 0).val = _; rw [(idx1 t).1]; omega
  have hS : ((((cfg0.win 1).blk t).view.emb y) 1).val = t.val / 8 * 768 + (y 1).val := by
    show win0_1.index t 1 * 768 + 1 * (y 1).val = _; rw [(idx1 t).2]; omega
  have hlt : ((((cfg0.win 1).blk t).view.emb y) 1).val < 3072 := by rw [hS]; omega
  unfold gradInto
  rw [ey, dif_pos hlt]
  exact written c m t _ _ _ _ hR hS

theorem onto : ∀ (p : Fin 8) (q : Fin 4), ∃ t : Fin cfg0.N, win0_1.index t 0 = p.val ∧ win0_1.index t 1 = q.val :=
  (by decide +kernel : ∀ (p : Fin 8) (q : Fin 4), ∃ t : Fin grid0.N, win0_1.index t 0 = p.val ∧ win0_1.index t 1 = q.val)

/-- The array after the call: the gradient in the first 3072 columns, the others as they were. -/
theorem final : (dats m 0 c).arrAt 1 cfg0.N = gradInto (a0 c m) (a1 c m) := by
  funext i
  have h0 : (i 0).val < 4096 := (i 0).isLt
  by_cases h : (i 1).val < 3072
  · obtain ⟨t, e0, e1⟩ := onto ⟨(i 0).val / 512, by omega⟩ ⟨(i 1).val / 768, by omega⟩
    dsimp only at e0 e1
    refine (dats m 0 c).arrAt_apply_of_mem 1 (gradInto (a0 c m) (a1 c m)) (fun t _ => flushed c m t) cfg0.N t i t.isLt (flush0_1 t) ?_
    show i ∈ ((View.whole main_v0).slice (win0_1.rect t)).set
    rw [View.set_slice_whole, Rect.mem_set_unit]
    have z := size1 t
    intro a
    match a with
    | ⟨0, _⟩ => show win0_1.index t 0 * 512 ≤ (i 0).val ∧ (i 0).val < win0_1.index t 0 * 512 + win0_1.xsize (grid0.coords t) 0; omega
    | ⟨1, _⟩ => show win0_1.index t 1 * 768 ≤ (i 1).val ∧ (i 1).val < win0_1.index t 1 * 768 + win0_1.xsize (grid0.coords t) 1; omega
  · rw [Cert.Kernel24Ideal.Value.entry1 m c i]
    · unfold gradInto
      rw [dif_neg h, ← V_out c m]
    · intro t _ hm
      apply h
      have ht : t.val < 32 := lt_of_lt_of_eq t.isLt N_0
      have hm' : i ∈ ((View.whole main_v0).slice (win0_1.rect t)).set := hm
      rw [View.set_slice_whole, Rect.mem_set_unit] at hm'
      have h1 : win0_1.index t 1 * 768 ≤ (i 1 : Nat) ∧ (i 1 : Nat) < win0_1.index t 1 * 768 + win0_1.xsize (grid0.coords t) 1 := hm' 1
      rw [(idx1 t).2, (size1 t).2] at h1
      omega

end Cert.Kernel24Ideal.Product

end
-- ==== Proof.PoolFwdRef.lean ====
/- The reference's pooling, read at an index. -/
module

public import proofs.«01_k».proof.Proof.PoolWindow
public import proofs.«01_k».proof.Proof.Gen.Reference25Ideal.Read

@[expose] public section

set_option maxRecDepth 16384

noncomputable section

namespace Cert.Pool

open Idealize.ShloMosaic Cert.Reference25Ideal

/-- The value at position `n` and column `q`. -/
def level (x : Vec Ideal S4096x8192 .bf16) (q : Fin 3072) (n : ℕ) : EReal :=
  if h : n < 4096 then x (ix2 (⟨n, h⟩ : Fin 4096) (⟨q.val, by omega⟩ : Fin 8192)) else 0

/-- The mean of the window that ends at position `p`, less the value there. -/
def pooledAt (x : Vec Ideal S4096x8192 .bf16) (p : Fin 4096) (q : Fin 3072) : EReal :=
  Ideal.div (∑ k ∈ Finset.range (width (q.val / 768)), if k ≤ p.val then level x q (p.val - k) else 0) (count p.val (q.val / 768))
    - level x q p.val

/-- The pooled first 3072 columns. -/
def pooled (x : Vec Ideal S4096x8192 .bf16) (i : S4096x3072.Idx) : EReal := pooledAt x (i 0) (i 1)

end Cert.Pool

namespace Cert.Reference25Ideal.Product

open Idealize.ShloMosaic Cert.Reference25Ideal Cert.Reference25Ideal.Read Cert.Pool

theorem width_word (j : Fin 4) : val_main_v5 (F := Ideal) (ix1 j) = BitVec.ofNat 32 (width j.val) :=
  word_width j.val j.isLt

/-- The window's weight of position `t` for position `s`, in group `j`. -/
theorem mask (j : Fin 4) (s t : Fin 4096) :
    val_main_v22 (F := Ideal) (ix3 j s t) = if t.val ≤ s.val ∧ s.val < t.val + width j.val then (1 : EReal) else 0 := by
  have hw := width_le j.val j.isLt
  have e5 : val_main_v5 (F := Ideal) (idx_main_v13 (idx_main_v15 (idx_main_v18 (ix3 j s t)))) = BitVec.ofNat 32 (width j.val) :=
    width_word j
  rw [val_main_v22_apply, val_main_v21_apply, val_main_v20_apply, val_main_v12_apply, val_main_v10_apply, val_main_v11_apply,
    val_main_v9_apply, val_main_v8_apply, val_main_v7_apply, val_main_v6_apply, val_main_v19_apply, val_main_v17_apply,
    val_main_v18_apply, val_main_v16_apply, val_main_v14_apply, val_main_v15_apply, val_main_v13_apply, e5,
    val_main_v7_apply, val_main_v6_apply, val_main_v9_apply, val_main_v8_apply]
  exact (inside t.val s.val (width j.val) t.isLt s.isLt hw _ _).trans
    (congrArg₂ (fun a b : EReal => if t.val ≤ s.val ∧ s.val < t.val + width j.val then a else b)
      Ideal.ofBits_one_f32 Ideal.ofBits_zero_f32)

/-- The number of positions in position `n`'s window, in group `j`. -/
theorem counts (n : Fin 4096) (j : Fin 4) : val_main_v31 (F := Ideal) (ix2 n j) = count n.val j.val := by
  have hw := width_le j.val j.isLt
  rw [val_main_v31_apply, val_main_v29_apply, val_main_v26_apply, val_main_v24_apply, val_main_v25_apply, val_main_v30_apply,
    val_main_v28_apply, ← count_min]
  refine congrArg₂ (min : EReal → EReal → EReal) (congrArg₂ (· + ·) ?_ Ideal.ofBits_one_f32) ?_
  · show (((BitVec.ofNat 32 n.val).toInt : ℝ) : EReal) = _
    rw [WordArith.toInt_ofNat_small _ (by omega)]
    norm_cast
  · show (((val_main_v5 (F := Ideal) (ix1 j)).toInt : ℝ) : EReal) = _
    rw [width_word, WordArith.toInt_ofNat_small _ (by omega)]
    norm_cast

/-- The reference's result. -/
theorem result (x : Vec Ideal S4096x8192 .bf16) : val_main_v39 (F := Ideal) x = pooled x := by
  funext i
  obtain ⟨p, q, rfl⟩ : ∃ (p : Fin 4096) (q : Fin 3072), i = ix2 p q := ⟨i 0, i 1, by idx_ext⟩
  have hq : q.val / 768 < 4 := by omega
  rw [val_main_v39_apply]
  show val_main_v38 (F := Ideal) x (ix2 p q) = _
  have e : idx_main_v38 (ix2 p q) = ix3 p (⟨q.val / 768, hq⟩ : Fin 4) (⟨q.val % 768, by omega⟩ : Fin 768) := by
    funext a
    apply Fin.ext
    match a with
    | ⟨0, _⟩ => show (p.val * 3072 + q.val) / 3072 = p.val; omega
    | ⟨1, _⟩ => show (p.val * 3072 + q.val) / 768 % 4 = q.val / 768; omega
    | ⟨2, _⟩ => show (p.val * 3072 + q.val) % 768 = q.val % 768; omega
  have e2 : ∀ n : Fin 4096, val_main_v2 (F := Ideal) x (ix3 n (⟨q.val / 768, hq⟩ : Fin 4) (⟨q.val % 768, by omega⟩ : Fin 768))
      = level x q n.val := fun n => by
    rw [val_main_v2_apply, val_main_v1_apply, val_main_v0_apply]
    unfold level
    rw [dif_pos n.isLt]
    refine congrArg x ?_
    funext a
    apply Fin.ext
    match a with
    | ⟨0, _⟩ => show ((n.val * 4 + q.val / 768) * 768 + q.val % 768) / 3072 = n.val; omega
    | ⟨1, _⟩ => show ((n.val * 4 + q.val / 768) * 768 + q.val % 768) % 3072 = q.val; omega
  have e34 : idx_main_v34 (idx_main_v35 (ix3 p (⟨q.val / 768, hq⟩ : Fin 4) (⟨q.val % 768, by omega⟩ : Fin 768)))
      = ix2 p (⟨q.val / 768, hq⟩ : Fin 4) := by
    funext a
    apply Fin.ext
    match a with
    | ⟨0, _⟩ => rfl
    | ⟨1, _⟩ => rfl
  have e33 : idx_main_v33 (ix3 p (⟨q.val / 768, hq⟩ : Fin 4) (⟨q.val % 768, by omega⟩ : Fin 768))
      = ix3 (⟨q.val / 768, hq⟩ : Fin 4) (⟨q.val % 768, by omega⟩ : Fin 768) p := by
    funext a
    apply Fin.ext
    match a with
    | ⟨0, _⟩ => rfl
    | ⟨1, _⟩ => rfl
    | ⟨2, _⟩ => rfl
  have es : val_main_v32 (F := Ideal) x (ix3 (⟨q.val / 768, hq⟩ : Fin 4) (⟨q.val % 768, by omega⟩ : Fin 768) p)
      = ∑ k ∈ Finset.range (width (q.val / 768)), if k ≤ p.val then level x q (p.val - k) else 0 := by
    rw [val_main_v32_apply, ← behind 4096 p.val (width (q.val / 768)) (level x q) p.isLt]
    refine Finset.sum_congr rfl fun n _ => ?_
    have el : lidx_main_v32 (ix3 (⟨q.val / 768, hq⟩ : Fin 4) (⟨q.val % 768, by omega⟩ : Fin 768) p) n
        = ix3 n (⟨q.val / 768, hq⟩ : Fin 4) (⟨q.val % 768, by omega⟩ : Fin 768) := by
      funext a
      apply Fin.ext
      match a with
      | ⟨0, _⟩ => rfl
      | ⟨1, _⟩ => rfl
      | ⟨2, _⟩ => rfl
    have er : ridx_main_v32 (ix3 (⟨q.val / 768, hq⟩ : Fin 4) (⟨q.val % 768, by omega⟩ : Fin 768) p) n
        = ix3 (⟨q.val / 768, hq⟩ : Fin 4) p n := by
      funext a
      apply Fin.ext
      match a with
      | ⟨0, _⟩ => rfl
      | ⟨1, _⟩ => rfl
      | ⟨2, _⟩ => rfl
    rw [el, er, e2, mask]
    exact weigh' _ _
  rw [val_main_v38_apply, e, val_main_v37_apply, val_main_v36_apply, val_main_v35_apply, val_main_v34_apply, e34, counts,
    val_main_v33_apply, e33, es, e2]
  rfl

end Cert.Reference25Ideal.Product

end
-- ==== Proof.PoolFwd.lean ====
/- The pooling on the grid of 4 groups by 8 row tiles, the first tile first: what each point leaves in its block and in the rows it
   keeps for the tile after, and the array they fill. -/
module

public import proofs.«01_k».proof.Proof.PoolFwdRef
public import proofs.«01_k».proof.Proof.Gen.Kernel25Ideal.Value
public import Idealize.ShloMosaic.Lib.Pipeline.ValueKit.Tiles
public import Idealize.ShloMosaic.Lib.WritesUnit
public import Idealize.ShloMosaic.Lib.Tactic

@[expose] public section

set_option maxRecDepth 16384

noncomputable section

namespace Cert.Kernel25Ideal.Product

open Idealize.ShloMosaic Idealize.ShloMosaic.TcCoe Idealize.SL.Sem Cert.Kernel25Ideal Cert.Kernel25Ideal.Gen Cert.Pool

/-- The window's word as the body computes it from the group's coordinate. -/
abbrev word (i : grid0.Coords) : BitVec 32 :=
  let arg0 : BitVec 32 := BitVec.ofNat 32 (i 0).val
  let v1 : BitVec 32 := Scalar.divsi arg0 1#32
  Scalar.shli 2#32 (Scalar.select (Scalar.andi (Scalar.cmpi .ne (Scalar.subi (Scalar.extui (Scalar.cmpi .sgt arg0 0#32))
      (Scalar.extui (Scalar.cmpi .slt arg0 0#32))) (Scalar.subi (Scalar.extui (Scalar.cmpi .sgt 1#32 0#32))
      (Scalar.extui (Scalar.cmpi .slt 1#32 0#32)))) (Scalar.cmpi .ne (Scalar.remsi arg0 1#32) 0#32)) (Scalar.subi v1 1#32) v1)

theorem word_eq (i : grid0.Coords) : word i = BitVec.ofNat 32 (width (i 0).val) := by
  have h : (i 0).val < 4 := (i 0).isLt
  unfold word
  generalize (i 0).val = j at h
  interval_cases j <;> decide

/-- The window's weight of the scratch's row `k` for the tile's row `r`. -/
theorem pay5_apply (i : grid0.Coords) (r : Fin 512) (k : Fin 640) :
    k0_pay5 (F := Ideal) i (ix2 r k)
      = if k.val ≤ r.val + 128 ∧ r.val + 128 < k.val + width (i 0).val then (1 : EReal) else 0 := by
  have hw := width_le (i 0).val (i 0).isLt
  refine Eq.trans ?_ (insideBack r.val k.val (width (i 0).val) r.isLt k.isLt hw (1 : EReal) 0)
  rw [← word_eq]
  pointwise [k0_pay5]

/-- One block's payload: the weighed rows divided by the number of positions in the window, less the block. -/
theorem pay1_apply (i : grid0.Coords) (x : Vec Ideal S512x768 .bf16) (b : FVec Ideal S512x640 .bf16) (s : Vec Ideal S640x768 .bf16)
    (r : Fin 512) (d : Fin 768) (n : ℕ) (hn : n = (i 1).val * 512 + r.val) :
    k0_pay1 (F := Ideal) (BitVec.ofNat 32 (i 1).val) (BitVec.ofNat 32 (width (i 0).val)) x b s (ix2 r d)
      = Ideal.div (∑ k : Fin 640, b (ix2 r k) * s (ix2 k d)) (count n (i 0).val) - x (ix2 r d) := by
  have h0 : (i 0).val < 4 := (i 0).isLt
  have h1 : (i 1).val < 8 := (i 1).isLt
  have e : IntOp.addi (Scalar.muli (BitVec.ofNat 32 (i 1).val) 512#32) (BitVec.ofNat 32 r.val) = BitVec.ofNat 32 n := by
    subst hn
    rw [BitVec.ofNat_add]
    refine congrArg (· + BitVec.ofNat 32 r.val) ?_
    generalize (i 1).val = t at h1
    interval_cases t <;> decide
  pointwise [k0_pay1]
  refine congrArg (· - (x (ix2 r d) : EReal)) (congrArg (Ideal.div (∑ k : Fin 640, (b (ix2 r k) * s (ix2 k d) : EReal))) ?_)
  rw [e]
  exact count_words n (i 0).val (by omega) h0

/-- The rows the tile leaves for the tile after: its own last 128. -/
theorem pay2_apply (z : Vec Ideal S512x768 .bf16) (r : Fin 128) (d : Fin 768) :
    k0_pay2 (F := Ideal) z (ix2 r d) = z (ix2 (⟨384 + r.val, by omega⟩ : Fin 512) d) := by
  pointwise [k0_pay2]

theorem pay3_apply (r : Fin 128) (d : Fin 768) : k0_pay3 (F := Ideal) (ix2 r d) = (0 : EReal) := by
  pointwise [k0_pay3]

theorem pay4_apply (z : Vec Ideal S512x768 .bf16) (r : Fin 512) (d : Fin 768) :
    k0_pay4 (F := Ideal) z (ix2 r d) = z (ix2 r d) := by
  pointwise [k0_pay4]

theorem hz2 : (![0, 0] : Fin 2 → Nat) = fun _ => 0 := funext fun a => by fin_cases a <;> rfl

variable (c : Dev nD) (i : grid0.Coords) (arg2 : Memref sig .tc .vmem S512x768 .bf16) (harg2 : arg2.IsWhole)
  (arg3 : Memref sig .tc .vmem S512x768 .bf16) (harg3 : arg3.IsWhole) (arg4 : Memref sig .tc .vmem S640x768 .bf16) (harg4 : arg4.IsWhole)
  (x0 : Vec Ideal S512x768 .bf16) (xs0 : Vec Ideal S640x768 .bf16)

/-- The scratch after its last 512 rows are written. -/
theorem own_rows (v : View sig .tc .vmem S640x768 .bf16) (f) (z : Vec Ideal S512x768 .bf16) (inb) (L) (k : Fin 640) (d : Fin 768) :
    v.read (Elt Ideal) (v.writes (Elt Ideal) f ((⟨Rect.unit (s := S640x768) ![128, 0] ![512, 768] inb, z⟩ : View.Piece (Elt Ideal) S640x768 .bf16) :: L))
        (ix2 k d)
      = if h : 128 ≤ k.val then z (ix2 (⟨k.val - 128, by omega⟩ : Fin 512) d) else v.read (Elt Ideal) (v.writes (Elt Ideal) f L) (ix2 k d) := by
  by_cases h : 128 ≤ k.val
  · rw [dif_pos h]
    exact View.read_writes_cons_rows_of_mem v f inb z L _ (ix2 (⟨k.val - 128, by omega⟩ : Fin 512) d) rfl
      (by show k.val = 128 + (k.val - 128); omega) rfl
  · rw [dif_neg h]
    exact View.read_writes_cons_rows_of_not_mem v f inb z L _ rfl rfl (.inl (by show k.val < 128; omega))

/-- The scratch after its first 128 rows are written. -/
theorem kept_rows (v : View sig .tc .vmem S640x768 .bf16) (f) (z : Vec Ideal S128x768 .bf16) (inb) (L) (k : Fin 640) (d : Fin 768)
    (h : k.val < 128) :
    v.read (Elt Ideal) (v.writes (Elt Ideal) f ((⟨Rect.unit (s := S640x768) ![0, 0] ![128, 768] inb, z⟩ : View.Piece (Elt Ideal) S640x768 .bf16) :: L))
        (ix2 k d)
      = z (ix2 (⟨k.val, h⟩ : Fin 128) d) :=
  View.read_writes_cons_rows_of_mem v f inb z L _ (ix2 (⟨k.val, h⟩ : Fin 128) d) rfl (Nat.zero_add _).symm rfl

/-- A row of the tile's window reads the tile's own rows, and above them what was kept. -/
def head (x : Vec Ideal S512x768 .bf16) (kept : Fin 640 → Fin 768 → EReal) (k : Fin 640) (d : Fin 768) : EReal :=
  if h : 128 ≤ k.val then x (ix2 (⟨k.val - 128, by omega⟩ : Fin 512) d) else kept k d

theorem out_A (hc0 : cond0_0 i) (r : Fin 512) (d : Fin 768) (n : ℕ) (hn : n = (i 1).val * 512 + r.val) :
    out0_A_1 (F := Ideal) c i arg2 harg2 arg3 harg3 arg4 harg4 hc0 x0 (ix2 r d)
      = Ideal.div (∑ k : Fin 640, if k.val ≤ r.val + 128 ∧ r.val + 128 < k.val + width (i 0).val then head x0 (fun _ _ => 0) k d else 0)
          (count n (i 0).val) - x0 (ix2 r d) := by
  unfold out0_A_1
  rw [View.read_writes_eq_canon _ _ _ (cover0_A_1 c i arg2 harg2 arg3 harg3 arg4 harg4 hc0 x0)]
  unfold kernelRun0_A
  dsimp only
  sl_unfold_words
  unfold View.readCov
  simp only [View.readAt_eq_ld, harg2.read_unread]
  rw [View.canon_unit_zero hz2]
  simp only [View.ld_unit_zero (S := S640x768) hz2, View.ld_unit_zero (S := S512x768) hz2]
  refine Eq.trans (congrArg (fun w => k0_pay1 (F := Ideal) (BitVec.ofNat 32 (i 1).val) w x0 (k0_pay5 i) _ (ix2 r d)) (word_eq i)) ?_
  rw [pay1_apply i _ _ _ r d n hn]
  refine congrArg (fun v : EReal => Ideal.div v (count n (i 0).val) - (x0 (ix2 r d) : EReal)) (Finset.sum_congr rfl fun k _ => ?_)
  rw [pay5_apply, weigh]
  refine congrArg (fun v : EReal => if k.val ≤ r.val + 128 ∧ r.val + 128 < k.val + width (i 0).val then v else 0) ?_
  rw [own_rows]
  unfold head
  split_ifs with h
  · exact pay4_apply x0 _ d
  · rw [kept_rows _ _ _ _ _ _ _ (by omega)]
    exact pay3_apply _ d

theorem out_B (hc0 : ¬cond0_0 i) (r : Fin 512) (d : Fin 768) (n : ℕ) (hn : n = (i 1).val * 512 + r.val) :
    out0_B_1 (F := Ideal) c i arg2 harg2 arg3 harg3 arg4 harg4 hc0 x0 xs0 (ix2 r d)
      = Ideal.div (∑ k : Fin 640, if k.val ≤ r.val + 128 ∧ r.val + 128 < k.val + width (i 0).val
            then head x0 (fun k d => xs0 (ix2 k d)) k d else 0)
          (count n (i 0).val) - x0 (ix2 r d) := by
  unfold out0_B_1
  rw [View.read_writes_eq_canon _ _ _ (cover0_B_1 c i arg2 harg2 arg3 harg3 arg4 harg4 hc0 x0 xs0)]
  unfold kernelRun0_B
  dsimp only
  sl_unfold_words
  simp only [View.readAt_eq_ld, harg2.read_unread]
  rw [View.canon_unit_zero hz2]
  simp only [View.ld_unit_zero (S := S640x768) hz2, View.ld_unit_zero (S := S512x768) hz2]
  refine Eq.trans (congrArg (fun w => k0_pay1 (F := Ideal) (BitVec.ofNat 32 (i 1).val) w x0 (k0_pay5 i) _ (ix2 r d)) (word_eq i)) ?_
  rw [pay1_apply i _ _ _ r d n hn]
  refine congrArg (fun v : EReal => Ideal.div v (count n (i 0).val) - (x0 (ix2 r d) : EReal)) (Finset.sum_congr rfl fun k _ => ?_)
  rw [pay5_apply, weigh]
  refine congrArg (fun v : EReal => if k.val ≤ r.val + 128 ∧ r.val + 128 < k.val + width (i 0).val then v else 0) ?_
  rw [own_rows]
  unfold head
  split_ifs with h
  · exact pay4_apply x0 _ d
  · rw [View.writes_nil, harg4.read_unread]

/-- Both cases keep the tile's last 128 rows before the tile's own. -/
theorem sout_A (hc0 : cond0_0 i) (k : Fin 640) (d : Fin 768) (h : k.val < 128) :
    sout0_A_0 (F := Ideal) c i arg2 harg2 arg3 harg3 arg4 harg4 hc0 x0 (ix2 k d) = x0 (ix2 (⟨384 + k.val, by omega⟩ : Fin 512) d) := by
  unfold sout0_A_0 kernelRun0_A
  dsimp only
  sl_unfold_words
  simp only [View.readAt_eq_ld, harg2.read_unread]
  rw [kept_rows _ _ _ _ _ _ _ h, pay2_apply, View.ld_unit_zero (S := S512x768) hz2]

theorem sout_B (hc0 : ¬cond0_0 i) (k : Fin 640) (d : Fin 768) (h : k.val < 128) :
    sout0_B_0 (F := Ideal) c i arg2 harg2 arg3 harg3 arg4 harg4 hc0 x0 xs0 (ix2 k d) = x0 (ix2 (⟨384 + k.val, by omega⟩ : Fin 512) d) := by
  unfold sout0_B_0 kernelRun0_B
  dsimp only
  sl_unfold_words
  simp only [View.readAt_eq_ld, harg2.read_unread]
  rw [kept_rows _ _ _ _ _ _ _ h, pay2_apply, View.ld_unit_zero (S := S512x768) hz2]

variable (m : (ℓ : Loc nD τ sig) → Buf (Elt Ideal) ℓ) (ρ : Dev nD → PrngReg)

/-- The argument as launched. -/
abbrev a0 : Vec Ideal S4096x8192 .bf16 := m ((c : Thread nD τ).loc main_arg0)

theorem idx0 : ∀ t : Fin cfg0.N, win0_0.index t 0 = t.val % 8 ∧ win0_0.index t 1 = t.val / 8 :=
  (by decide +kernel : ∀ t : Fin grid0.N, win0_0.index t 0 = t.val % 8 ∧ win0_0.index t 1 = t.val / 8)
theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)

theorem group (t : Fin cfg0.N) : (grid0.coords t 0).val = t.val / 8 := by
  have ht : t.val < 32 := Nat.lt_of_lt_of_eq t.isLt N_0
  have e : (grid0.coords t 0).val = t.val / 8 % 4 := Pipeline.Grid.coords_val t 0 (by decide) rfl
  omega
theorem step (t : Fin cfg0.N) : (grid0.coords t 1).val = t.val % 8 := by
  have e : (grid0.coords t 1).val = t.val / 1 % 8 := Pipeline.Grid.coords_val t 1 (by decide) rfl
  omega

/-- A block's row is the values at its position. -/
theorem blk (t : Fin cfg0.N) (r : Fin 512) (d : Fin 768) (q : Fin 3072) (n : ℕ) (hn : n = t.val % 8 * 512 + r.val)
    (hq : q.val = t.val / 8 * 768 + d.val) : (X0_0 m c t : Vec Ideal S512x768 .bf16) (ix2 r d) = level (a0 c m) q n := by
  have hlt : n < 4096 := by omega
  unfold level
  rw [dif_pos hlt]
  unfold X0_0 Pipeline.Window.fill
  rw [dif_pos (moved0_0 t _)]
  unfold iblk
  rw [View.read_apply]
  show V m c main_arg0 _ = _
  rw [V_main_arg0]
  refine congrArg (a0 c m) ?_
  funext a
  apply Fin.ext
  match a with
  | ⟨0, _⟩ => show win0_0.index t 0 * 512 + 1 * r.val = n; rw [(idx0 t).1]; omega
  | ⟨1, _⟩ => show win0_0.index t 1 * 768 + 1 * d.val = q.val; rw [(idx0 t).2]; omega

/-- What the point keeps for the point after. -/
theorem kept (t : Fin cfg0.N) (k : Fin 640) (d : Fin 768) (h : k.val < 128) (q : Fin 3072) (hq : q.val = t.val / 8 * 768 + d.val) :
    (outsAt0 m c t.val t.isLt).2 (ix2 k d) = level (a0 c m) q (t.val % 8 * 512 + (384 + k.val)) := by
  by_cases h0 : t.val % 8 = 0
  · rw [outsAt0_A m c t h0]
    dsimp only
    rw [sout_A c (grid0.coords t) _ _ _ _ _ _ _ _ k d h]
    exact blk c m t _ d q _ rfl hq
  · rw [outsAt0_B m c t h0]
    dsimp only
    rw [sout_B c (grid0.coords t) _ _ _ _ _ _ _ _ _ k d h]
    exact blk c m t _ d q _ rfl hq

/-- What the point writes. -/
theorem written (t : Fin cfg0.N) (r : Fin 512) (d : Fin 768) (p : Fin 4096) (q : Fin 3072) (hp : p.val = t.val % 8 * 512 + r.val)
    (hq : q.val = t.val / 8 * 768 + d.val) :
    (outsAt0 m c t.val t.isLt).1 (ix2 r d) = pooledAt (a0 c m) p q := by
  have hN : t.val < 32 := lt_of_lt_of_eq t.isLt N_0
  have hw := width_le (q.val / 768) (by omega)
  have hg : (grid0.coords t 0).val = q.val / 768 := by rw [group]; omega
  have hs : p.val = (grid0.coords t 1).val * 512 + r.val := by rw [step]; exact hp
  have key : ∀ e : Fin 640 → Fin 768 → EReal, (∀ k : Fin 640, k.val < 128 →
        e k d = if 128 ≤ t.val % 8 * 512 + k.val then level (a0 c m) q (t.val % 8 * 512 + k.val - 128) else 0) →
      Ideal.div (∑ k : Fin 640, if k.val ≤ r.val + 128 ∧ r.val + 128 < k.val + width (grid0.coords t 0).val
          then head (X0_0 m c t) e k d else 0) (count p.val (grid0.coords t 0).val) - (X0_0 m c t : Vec Ideal S512x768 .bf16) (ix2 r d)
        = pooledAt (a0 c m) p q := by
    intro e he
    unfold pooledAt
    rw [blk c m t r d q p.val hp hq, hg]
    refine congrArg (fun v : EReal => Ideal.div v (count p.val (q.val / 768)) - level (a0 c m) q p.val) ?_
    refine Eq.trans (Finset.sum_congr rfl fun k _ => ?_) ((behind 640 (r.val + 128) (width (q.val / 768))
      (fun n => if 128 ≤ t.val % 8 * 512 + n then level (a0 c m) q (t.val % 8 * 512 + n - 128) else 0) (by omega)).trans ?_)
    · refine congrArg (fun v : EReal => if k.val ≤ r.val + 128 ∧ r.val + 128 < k.val + width (q.val / 768) then v else 0) ?_
      unfold head
      split_ifs with h h2 h2
      · exact blk c m t _ d q _ (by show _ = t.val % 8 * 512 + (k.val - 128); omega) hq
      · omega
      · rw [he k (by omega), if_pos h2]
      · rw [he k (by omega), if_neg h2]
    · refine Finset.sum_congr rfl fun k hk => ?_
      have hk' := Finset.mem_range.mp hk
      rw [if_pos (by omega : k ≤ r.val + 128)]
      by_cases h : k ≤ p.val
      · rw [if_pos h, if_pos (by omega)]
        exact congrArg (level (a0 c m) q) (by omega)
      · rw [if_neg h, if_neg (by omega)]
  by_cases h0 : t.val % 8 = 0
  · rw [outsAt0_A m c t h0]
    dsimp only
    rw [out_A c (grid0.coords t) _ _ _ _ _ _ _ _ r d p.val hs]
    refine key _ fun k hk => ?_
    rw [if_neg (by omega)]
  · rw [outsAt0_B m c t h0]
    dsimp only
    rw [out_B c (grid0.coords t) _ _ _ _ _ _ _ _ _ r d p.val hs]
    refine key _ fun k hk => ?_
    rw [if_pos (by omega)]
    refine (kept c m ⟨t.val - 1, by omega⟩ k d hk q ?_).trans (congrArg (level (a0 c m) q) ?_)
    · show q.val = (t.val - 1) / 8 * 768 + d.val; omega
    · show (t.val - 1) % 8 * 512 + (384 + k.val) = _; omega

theorem flushed (t : Fin cfg0.N) :
    (dats m 0 c).flushed 1 t = ((cfg0.win 1).blk t).view.read (Elt Ideal) (pooled (a0 c m)) := by
  rw [Cert.Kernel25Ideal.Value.flushed1]
  funext y
  have hr : (y 0).val < 512 := (y 0).isLt
  have hs : (y 1).val < 768 := (y 1).isLt
  rw [View.read_apply]
  have ey : y = ix2 (⟨(y 0).val, hr⟩ : Fin 512) (⟨(y 1).val, hs⟩ : Fin 768) := by
    funext a
    apply Fin.ext
    match a with
    | ⟨0, _⟩ => rfl
    | ⟨1, _⟩ => rfl
  show (outsAt0 m c t.val t.isLt).1 y = pooled (a0 c m) (((cfg0.win 1).blk t).view.emb y)
  have hR : ((((cfg0.win 1).blk t).view.emb y) 0).val = t.val % 8 * 512 + (y 0).val := by
    show win0_1.index t 0 * 512 + 1 * (y 0).val = _; rw [(idx1 t).1]; omega
  have hS : ((((cfg0.win 1).blk t).view.emb y) 1).val = t.val / 8 * 768 + (y 1).val := by
    show win0_1.index t 1 * 768 + 1 * (y 1).val = _; rw [(idx1 t).2]; omega
  refine (congrArg (outsAt0 m c t.val t.isLt).1 ey).trans ?_
  exact written c m t _ _ _ _ hR hS

theorem onto : ∀ (p : Fin 8) (q : Fin 4), ∃ t : Fin cfg0.N, win0_1.index t 0 = p.val ∧ win0_1.index t 1 = q.val :=
  (by decide +kernel : ∀ (p : Fin 8) (q : Fin 4), ∃ t : Fin grid0.N, win0_1.index t 0 = p.val ∧ win0_1.index t 1 = q.val)

/-- The 32 blocks fill the result. -/
theorem final : (dats m 0 c).arrAt 1 cfg0.N = pooled (a0 c m) := by
  funext i
  have h0 : (i 0).val < 4096 := (i 0).isLt
  have h1 : (i 1).val < 3072 := (i 1).isLt
  obtain ⟨t, e0, e1⟩ := onto ⟨(i 0).val / 512, by omega⟩ ⟨(i 1).val / 768, by omega⟩
  dsimp only at e0 e1
  refine (dats m 0 c).arrAt_apply_of_mem 1 (pooled (a0 c m)) (fun t _ => flushed c m t) cfg0.N t i t.isLt (flush0_1 t) ?_
  show i ∈ ((View.whole main_v0).slice (win0_1.rect t)).set
  rw [View.set_slice_whole, Rect.mem_set_unit]
  intro a
  match a with
  | ⟨0, _⟩ => show win0_1.index t 0 * 512 ≤ (i 0).val ∧ (i 0).val < win0_1.index t 0 * 512 + 512; omega
  | ⟨1, _⟩ => show win0_1.index t 1 * 768 ≤ (i 1).val ∧ (i 1).val < win0_1.index t 1 * 768 + 768; omega

end Cert.Kernel25Ideal.Product

end
-- ==== Proof.Norm.lean ====
/- The norm of a row and its gradient: the gradient's two forms, over the extended reals. -/
module

public import Idealize.ShloMosaic.Lib.ValueIdx
public import Idealize.ShloMosaic.Lib.Pointwise

@[expose] public section

noncomputable section

namespace Cert.Norm

open Idealize.ShloMosaic

/-- The row's length and the small constant under the root, as the programs write them. -/
def len : EReal := Ideal.ofBits .f32 0x45000000#32
def eps : EReal := Ideal.ofBits .f32 0x358637BD#32
def minusHalf : EReal := Ideal.ofBits .f32 0xBF000000#32

theorem len_eq : len = ((2048 : ℝ) : EReal) := by
  unfold len Ideal.ofBits Ideal.ieee
  simp
  rw [← EReal.coe_mul]
  norm_num

theorem eps_pos : ∃ r : ℝ, 0 < r ∧ eps = r := by
  refine ⟨_, ?_, by
    unfold eps Ideal.ofBits Ideal.ieee
    simp
    rfl⟩
  positivity

theorem minusHalf_eq : minusHalf = ((-(1 / 2) : ℝ) : EReal) := by
  unfold minusHalf Ideal.ofBits Ideal.ieee
  simp
  rw [← EReal.coe_mul]
  norm_num

/-- What stands under the root: the row's mean square and the small constant. -/
def under (x : Fin 2048 → EReal) : EReal := Ideal.div (∑ k, x k * x k) len + eps

/-- The row's factor. -/
def factor (x : Fin 2048 → EReal) : EReal := Ideal.rsqrt (under x)

/-- The gradient by the row, the incoming one `d` times the weights already: `ρ (d − x ρ · mean (d x ρ))`. -/
def back (d x : Fin 2048 → EReal) (j : Fin 2048) : EReal :=
  factor x * (d j - x j * factor x * Ideal.div (∑ k, d k * (x k * factor x)) len)

/-- The factor of the mean square's own gradient. -/
def through (d x : Fin 2048 → EReal) : EReal :=
  Ideal.div ((∑ k, x k * d k) * (minusHalf * Ideal.div (factor x) (under x))) len

/-- The same gradient through the mean square's own. -/
def backQ (d x : Fin 2048 → EReal) (j : Fin 2048) : EReal := d j * factor x + x j * through d x + through d x * x j

theorem square_nonneg (a : EReal) : 0 ≤ a * a := by
  rcases le_total 0 a with h | h
  · exact mul_nonneg h h
  · rw [← neg_mul_neg]
    exact mul_nonneg (EReal.neg_nonneg.mpr h) (EReal.neg_nonneg.mpr h)

theorem under_pos (x : Fin 2048 → EReal) : 0 < under x := by
  obtain ⟨e, he, h⟩ := eps_pos
  unfold under
  rw [h, len_eq, Ideal.div_coe (by norm_num)]
  have hs : (0 : EReal) ≤ (∑ k, x k * x k) * ((1 / 2048 : ℝ) : EReal) :=
    mul_nonneg (Finset.sum_nonneg fun k _ => square_nonneg (x k)) (by exact_mod_cast (by norm_num : (0 : ℝ) ≤ 1 / 2048))
  exact lt_of_lt_of_le (by exact_mod_cast he) (le_add_of_nonneg_left hs)

theorem sum_mul_real (f : Fin 2048 → EReal) (z : ℝ) (hz : 0 ≤ z) : (∑ k, f k) * (z : EReal) = ∑ k, f k * (z : EReal) := by
  have hi : (0 : EReal) ≤ (z : EReal) := by exact_mod_cast hz
  induction (Finset.univ : Finset (Fin 2048)) using Finset.induction_on with
  | empty => simp
  | insert a t ha ih =>
    rw [Finset.sum_insert ha, Finset.sum_insert ha, ← ih, EReal.right_distrib_of_nonneg_of_ne_top hi (EReal.coe_ne_top _)]

theorem half_twice (y : EReal) : y * ((-(1 / 2) : ℝ) : EReal) + y * ((-(1 / 2) : ℝ) : EReal) = -y := by
  induction y with
  | bot => rw [EReal.bot_mul_coe_of_neg (by norm_num : (-(1 / 2) : ℝ) < 0)]; simp
  | top => rw [EReal.top_mul_coe_of_neg (by norm_num : (-(1 / 2) : ℝ) < 0)]; simp
  | coe r =>
    rw [← EReal.coe_mul, ← EReal.coe_add, ← EReal.coe_neg]
    congr 1
    ring

/-- THE TWO FORMS AGREE, whatever extended reals the row and the incoming gradient hold: a row with an infinity has the factor
    zero, and both forms are zero there. -/
theorem backQ_eq (d x : Fin 2048 → EReal) (j : Fin 2048) : backQ d x j = back d x j := by
  have hp := under_pos x
  unfold backQ back through factor
  generalize under x = v at hp
  rw [minusHalf_eq, len_eq]
  simp only [Ideal.div_coe (by norm_num : (2048 : ℝ) ≠ 0)]
  induction v with
  | bot => exact absurd hp (by simp)
  | top =>
    have h0 : Ideal.div 0 (⊤ : EReal) = 0 := by unfold Ideal.div; simp
    rw [Ideal.rsqrt_top, h0]
    simp
  | coe v =>
    have hv : 0 < v := by exact_mod_cast hp
    have hr : 0 < (Real.sqrt v)⁻¹ := inv_pos.mpr (Real.sqrt_pos.mpr hv)
    have e1 : Ideal.rsqrt (v : EReal) = (((Real.sqrt v)⁻¹ : ℝ) : EReal) := by
      rw [Ideal.rsqrt_coe, if_neg (not_lt.mpr hv.le), if_neg hv.ne']
    have e2 : 1 / v = (Real.sqrt v)⁻¹ * (Real.sqrt v)⁻¹ := by
      rw [← mul_inv, Real.mul_self_sqrt hv.le, one_div]
    rw [e1, Ideal.div_coe hv.ne', e2]
    generalize (Real.sqrt v)⁻¹ = ρ at hr
    have hn : (0 : EReal) ≤ (ρ : EReal) := by exact_mod_cast hr.le
    have es : (∑ k, d k * (x k * (ρ : EReal))) = (∑ k, x k * d k) * (ρ : EReal) := by
      rw [sum_mul_real _ ρ hr.le]
      exact Finset.sum_congr rfl fun k _ => by ac_rfl
    rw [es, EReal.coe_mul]
    generalize (∑ k, x k * d k) = s
    rw [sub_eq_add_neg, EReal.left_distrib_of_nonneg_of_ne_top hn (EReal.coe_ne_top _), add_assoc]
    have et : ∀ a : EReal, (ρ : EReal) * -(a * ρ * (s * ρ * ((1 / 2048 : ℝ) : EReal)))
        = -(a * (s * ((ρ : EReal) * ((ρ : EReal) * ρ)) * ((1 / 2048 : ℝ) : EReal))) := fun a => by
      rw [mul_neg]
      congr 1
      ac_rfl
    rw [et, ← half_twice]
    refine congrArg₂ (· + ·) (mul_comm _ _) (congrArg₂ (· + ·) ?_ ?_)
    · ac_rfl
    · ac_rfl

end Cert.Norm

end
-- ==== Proof.NormBwdRef.lean ====
/- The reference's gradient of the norm, read at an index. -/
module

public import proofs.«01_k».proof.Proof.Norm
public import proofs.«01_k».proof.Proof.Gen.Reference26Ideal.Read

@[expose] public section

set_option maxRecDepth 16384

noncomputable section

namespace Cert.Norm

open Idealize.ShloMosaic Cert.Reference26Ideal

/-- One row, and one row of the incoming gradient times the weights. -/
def row {R : ℕ} (x : Vec Ideal ⟨2, ![R, 2048]⟩ .f32) (p : Fin R) (k : Fin 2048) : EReal := x (ix2 p k)
def weighed {R : ℕ} (d : Vec Ideal ⟨2, ![R, 2048]⟩ .f32) (g : Vec Ideal ⟨2, ![1, 2048]⟩ .f32) (p : Fin R) (k : Fin 2048) : EReal :=
  d (ix2 p k) * g (ix2 (0 : Fin 1) k)

/-- The gradient by the inputs, added to the one that passes the norm by. -/
def inputGrad {R : ℕ} (d x : Vec Ideal ⟨2, ![R, 2048]⟩ .f32) (g : Vec Ideal ⟨2, ![1, 2048]⟩ .f32) (e : Vec Ideal ⟨2, ![R, 2048]⟩ .f32)
    (i : Shape.Idx ⟨2, ![R, 2048]⟩) : EReal := back (weighed d g (i 0)) (row x (i 0)) (i 1) + e i

/-- What row `n` adds to the gradient by the weight `k`. -/
def part {R : ℕ} (d x : Vec Ideal ⟨2, ![R, 2048]⟩ .f32) (k : Fin 2048) (n : Fin R) : EReal :=
  d (ix2 n k) * (x (ix2 n k) * factor (row x n))

/-- The gradient by the weights. -/
def weightGrad {R : ℕ} (d x : Vec Ideal ⟨2, ![R, 2048]⟩ .f32) (i : Shape.Idx ⟨2, ![1, 2048]⟩) : EReal := ∑ n : Fin R, part d x (i 1) n

end Cert.Norm

namespace Cert.Reference26Ideal.Product

open Idealize.ShloMosaic Cert.Reference26Ideal Cert.Reference26Ideal.Read Cert.Norm

variable (d x : Vec Ideal S4096x2048 .f32) (g : Vec Ideal S1x2048 .f32) (e : Vec Ideal S4096x2048 .f32)

theorem ix_rows (p : Fin 4096) (k : Fin 2048) : idx_main_v1 (ix1 p) k = ix2 p k := by
  funext a
  apply Fin.ext
  match a with
  | ⟨0, _⟩ => rfl
  | ⟨1, _⟩ => rfl

theorem under_eq (p : Fin 4096) : val_main_v6 (F := Ideal) x (ix2 p (0 : Fin 1)) = under (row x p) := by
  have e1 : idx_main_v2 (ix2 p (0 : Fin 1)) = ix1 p := by
    funext a
    apply Fin.ext
    match a with
    | ⟨0, _⟩ => rfl
  rw [val_main_v6_apply, val_main_v4_apply, val_main_v2_apply, val_main_v3_apply, val_main_v5_apply, e1, val_main_v1_apply]
  refine congrArg (fun s : EReal => Ideal.div s len + eps) ?_
  refine Eq.trans (congrArg₂ (fun a b : EReal => a + b) Ideal.ofBits_zero_f32 (Finset.sum_congr rfl fun k _ => ?_)) (zero_add _)
  rw [ix_rows]
  rfl

theorem factor_eq (p : Fin 4096) : val_main_v7 (F := Ideal) x (ix2 p (0 : Fin 1)) = factor (row x p) :=
  (val_main_v7_apply x (ix2 p (0 : Fin 1))).trans (congrArg Ideal.rsqrt (under_eq x p))

theorem spread (p : Fin 4096) (k : Fin 2048) : idx_main_v11 (ix2 p k) = ix2 p (0 : Fin 1) := by
  funext a
  apply Fin.ext
  match a with
  | ⟨0, _⟩ => rfl
  | ⟨1, _⟩ => rfl

theorem weighed_eq (p : Fin 4096) (k : Fin 2048) : val_main_v19 (F := Ideal) d g (ix2 p k) = weighed d g p k := by
  rw [val_main_v19_apply, val_main_v18_apply]
  refine congrArg (fun j => (d (ix2 p k) * g j : EReal)) ?_
  funext a
  apply Fin.ext
  match a with
  | ⟨0, _⟩ => rfl
  | ⟨1, _⟩ => rfl

theorem through_eq (p : Fin 4096) (k : Fin 2048) :
    val_main_v29 (F := Ideal) d x g (ix2 p k) = through (weighed d g p) (row x p) := by
  have e1 : idx_main_v28 (idx_main_v29 (ix2 p k)) (0 : Fin 1) = ix2 p (0 : Fin 1) := by
    funext a
    apply Fin.ext
    match a with
    | ⟨0, _⟩ => rfl
    | ⟨1, _⟩ => rfl
  have e2 : idx_main_v22 (ix2 p (0 : Fin 1)) = ix1 p := by
    funext a
    apply Fin.ext
    match a with
    | ⟨0, _⟩ => show p.val * 1 + 0 = p.val; omega
  have e3 : ∀ j : Fin 2048, idx_main_v21 (ix1 p) j = ix2 p j := fun j => by
    funext a
    apply Fin.ext
    match a with
    | ⟨0, _⟩ => rfl
    | ⟨1, _⟩ => rfl
  have es : val_main_v21 (F := Ideal) d x g (ix1 p) = ∑ j, row x p j * weighed d g p j := by
    rw [val_main_v21_apply]
    refine Eq.trans (congrArg₂ (fun a b : EReal => a + b) Ideal.ofBits_zero_f32 (Finset.sum_congr rfl fun j _ => ?_)) (zero_add _)
    rw [e3, val_main_v20_apply, weighed_eq]
    rfl
  rw [val_main_v29_apply, val_main_v28_apply, Fin.sum_univ_one, e1, val_main_v27_apply, val_main_v25_apply, val_main_v22_apply, e2, es,
    val_main_v26_apply, val_main_v10_apply, val_main_v9_apply, val_main_v8_apply, under_eq, factor_eq]
  exact (congrArg (fun a : EReal => a + _) Ideal.ofBits_zero_f32).trans (zero_add _)

theorem sums (p : Fin 4096) (k : Fin 2048) :
    val_main_v33 (F := Ideal) d x g (ix2 p k) = back (weighed d g p) (row x p) k := by
  rw [← backQ_eq, val_main_v33_apply, val_main_v31_apply, val_main_v24_apply, val_main_v30_apply, val_main_v32_apply, weighed_eq,
    through_eq, val_main_v23_apply]
  refine congrArg (fun a : EReal => weighed d g p k * a + row x p k * through (weighed d g p) (row x p)
    + through (weighed d g p) (row x p) * row x p k) ?_
  exact (congrArg (val_main_v7 (F := Ideal) x) (spread p k)).trans (factor_eq x p)

/-- The reference's gradient by the inputs, in f32 and rounded. -/
theorem result : val_main_v34 (F := Ideal) d x g e = inputGrad d x g e := by
  funext i
  obtain ⟨p, q, rfl⟩ : ∃ (p : Fin 4096) (q : Fin 2048), i = ix2 p q := ⟨i 0, i 1, by idx_ext⟩
  rw [val_main_v34_apply, sums]
  rfl

theorem rounded : val_main_v36 (F := Ideal) d x g e = inputGrad d x g e := by
  funext i
  obtain ⟨p, q, rfl⟩ : ∃ (p : Fin 4096) (q : Fin 2048), i = ix2 p q := ⟨i 0, i 1, by idx_ext⟩
  rw [val_main_v36_apply, val_main_v35_apply, sums]
  rfl

/-- The reference's gradient by the weights. -/
theorem weights : val_main_v17 (F := Ideal) d x = weightGrad d x := by
  funext i
  obtain ⟨z, q, rfl⟩ : ∃ (z : Fin 1) (q : Fin 2048), i = ix2 z q := ⟨i 0, i 1, by idx_ext⟩
  have e1 : idx_main_v17 (ix2 z q) = ix1 q := by
    funext a
    apply Fin.ext
    match a with
    | ⟨0, _⟩ => show z.val * 2048 + q.val = q.val; omega
  have e2 : ∀ n : Fin 4096, idx_main_v16 (ix1 q) n = ix2 n q := fun n => by
    funext a
    apply Fin.ext
    match a with
    | ⟨0, _⟩ => rfl
    | ⟨1, _⟩ => rfl
  rw [val_main_v17_apply, e1, val_main_v16_apply]
  refine Eq.trans (congrArg₂ (fun a b : EReal => a + b) Ideal.ofBits_zero_f32 (Finset.sum_congr rfl fun n _ => ?_)) (zero_add _)
  rw [e2, val_main_v15_apply, val_main_v12_apply, val_main_v11_apply]
  refine Eq.trans (mul_comm _ _) (congrArg (fun a : EReal => d (ix2 n q) * (x (ix2 n q) * a)) ?_)
  exact (congrArg (val_main_v7 (F := Ideal) x) (spread n q)).trans (factor_eq x n)

end Cert.Reference26Ideal.Product

end
-- ==== Proof.NormBwd.lean ====
/- The norm's gradient on the grid of 16 row tiles: what each point leaves in its two blocks and adds to the row of weights'
   gradients, and the three arrays they fill. -/
module

public import proofs.«01_k».proof.Proof.NormBwdRef
public import proofs.«01_k».proof.Proof.Sweep
public import proofs.«01_k».proof.Proof.Gen.Kernel26Ideal.Value
public import Idealize.ShloMosaic.Lib.Pointwise
public import Idealize.ShloMosaic.Lib.Pipeline.ValueKit.Tiles
public import Idealize.ShloMosaic.Lib.WritesUnit
public import Idealize.ShloMosaic.Lib.Tactic

@[expose] public section

set_option maxRecDepth 16384

noncomputable section

namespace Cert.Kernel26Ideal.Product

open Idealize.ShloMosaic Idealize.ShloMosaic.TcCoe Idealize.SL.Sem Cert.Kernel26Ideal Cert.Kernel26Ideal.Gen Cert.Norm

theorem hz2 : (![0, 0] : Fin 2 → Nat) = fun _ => 0 := funext fun a => match a with | ⟨0, _⟩ => rfl | ⟨1, _⟩ => rfl

section Payloads

variable (x d e : Vec Ideal S256x2048 .f32) (g : Vec Ideal S1x2048 .f32) (r : Fin 256)

/-- A block's row, and the incoming gradient's times the weights. -/
def brow (k : Fin 2048) : EReal := x (ix2 r k)
def bweighed (k : Fin 2048) : EReal := d (ix2 r k) * g (ix2 (0 : Fin 1) k)

theorem pay2_apply : k0_pay2 (F := Ideal) x (ix2 r (0 : Fin 1)) = factor (brow x r) := by
  have h : k0_pay2 (F := Ideal) x (ix2 r (0 : Fin 1)) = Ideal.rsqrt (Ideal.div (∑ k : Fin 2048, x (ix2 r k) * x (ix2 r k)) len + eps) := by
    pointwise [k0_pay2]
    rfl
  exact h

theorem pay3_apply (j : Fin 2048) : k0_pay3 (F := Ideal) x (ix2 r j) = x (ix2 r j) * factor (brow x r) := by
  have h : k0_pay3 (F := Ideal) x (ix2 r j) = x (ix2 r j) * k0_pay2 (F := Ideal) x (ix2 r (0 : Fin 1)) := by
    pointwise [k0_pay3]
  rw [h, pay2_apply]

theorem pay4_apply (j : Fin 2048) : k0_pay4 (F := Ideal) x d g e (ix2 r j) = back (bweighed d g r) (brow x r) j + e (ix2 r j) := by
  have h : k0_pay4 (F := Ideal) x d g e (ix2 r j) = k0_pay2 (F := Ideal) x (ix2 r (0 : Fin 1)) * (d (ix2 r j) * g (ix2 (0 : Fin 1) j)
      - k0_pay3 (F := Ideal) x (ix2 r j)
        * Ideal.div (∑ k : Fin 2048, d (ix2 r k) * g (ix2 (0 : Fin 1) k) * k0_pay3 (F := Ideal) x (ix2 r k)) len) + e (ix2 r j) := by
    pointwise [k0_pay4]
    rfl
  rw [h, pay2_apply, pay3_apply]
  simp only [pay3_apply]
  rfl

theorem pay1_apply (s : Vec Ideal S1x2048 .f32) (j : Fin 2048) :
    k0_pay1 (F := Ideal) (k0_pay3 x) d s (ix2 (0 : Fin 1) j) =
      s (ix2 (0 : Fin 1) j) + ∑ r : Fin 256, d (ix2 r j) * (x (ix2 r j) * factor (brow x r)) := by
  have h : k0_pay1 (F := Ideal) (k0_pay3 x) d s (ix2 (0 : Fin 1) j) =
      s (ix2 (0 : Fin 1) j) + ∑ r : Fin 256, d (ix2 r j) * k0_pay3 (F := Ideal) x (ix2 r j) := by
    pointwise [k0_pay1]
  rw [h]
  simp only [pay3_apply]

end Payloads

variable (m : (ℓ : Loc nD τ sig) → Buf (Elt Ideal) ℓ) (ρ : Dev nD → PrngReg) (c : Dev nD)

section Cases

variable (i : grid0.Coords) (p1 : Memref sig .tc .vmem S256x2048 .f32) (h1 : p1.IsWhole) (p2 : Memref sig .tc .vmem S256x2048 .f32)
  (h2 : p2.IsWhole) (p3 : Memref sig .tc .vmem S1x2048 .f32) (h3 : p3.IsWhole) (p4 : Memref sig .tc .vmem S256x2048 .f32)
  (h4 : p4.IsWhole) (p5 : Memref sig .tc .vmem S256x2048 .f32) (h5 : p5.IsWhole) (p6 : Memref sig .tc .vmem S256x2048 .bf16)
  (h6 : p6.IsWhole) (p7 : Memref sig .tc .vmem S1x2048 .f32) (h7 : p7.IsWhole)
  (d x : Vec Ideal S256x2048 .f32) (g : Vec Ideal S1x2048 .f32) (e : Vec Ideal S256x2048 .f32) (s : Vec Ideal S1x2048 .f32)

theorem grad_A (hc) : out0_A_4 c i p1 h1 p2 h2 p3 h3 p4 h4 p5 h5 p6 h6 p7 h7 hc d x g e = k0_pay4 x d g e := by
  unfold out0_A_4
  rw [View.read_writes_eq_canon _ _ _ (cover0_A_4 c i p1 h1 p2 h2 p3 h3 p4 h4 p5 h5 p6 h6 p7 h7 hc d x g e)]
  unfold kernelRun0_A
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]

theorem grad_B (hc) : out0_B_4 c i p1 h1 p2 h2 p3 h3 p4 h4 p5 h5 p6 h6 p7 h7 hc d x g e s = k0_pay4 x d g e := by
  unfold out0_B_4
  rw [View.read_writes_eq_canon _ _ _ (cover0_B_4 c i p1 h1 p2 h2 p3 h3 p4 h4 p5 h5 p6 h6 p7 h7 hc d x g e s)]
  unfold kernelRun0_B
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]

theorem round_A (hc) : out0_A_5 c i p1 h1 p2 h2 p3 h3 p4 h4 p5 h5 p6 h6 p7 h7 hc d x g e = k0_pay4 x d g e := by
  unfold out0_A_5
  rw [View.read_writes_eq_canon _ _ _ (cover0_A_5 c i p1 h1 p2 h2 p3 h3 p4 h4 p5 h5 p6 h6 p7 h7 hc d x g e)]
  unfold kernelRun0_A
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]
  rfl

theorem round_B (hc) : out0_B_5 c i p1 h1 p2 h2 p3 h3 p4 h4 p5 h5 p6 h6 p7 h7 hc d x g e s = k0_pay4 x d g e := by
  unfold out0_B_5
  rw [View.read_writes_eq_canon _ _ _ (cover0_B_5 c i p1 h1 p2 h2 p3 h3 p4 h4 p5 h5 p6 h6 p7 h7 hc d x g e s)]
  unfold kernelRun0_B
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]
  rfl

/-- The row of sums starts from zeros at the first point, -/
theorem sums_A (hc) : out0_A_6 c i p1 h1 p2 h2 p3 h3 p4 h4 p5 h5 p6 h6 p7 h7 hc d x g e = k0_pay1 (k0_pay3 x) d (k0_pay6 (F := Ideal)) := by
  unfold out0_A_6
  rw [View.read_writes_eq_canon _ _ _ (cover0_A_6 c i p1 h1 p2 h2 p3 h3 p4 h4 p5 h5 p6 h6 p7 h7 hc d x g e)]
  unfold kernelRun0_A
  dsimp only
  sl_unfold_words
  rw [View.canon_cons_unit_zero hz2, View.readCov_unit_zero (S := S1x2048) _ hz2]
  unfold k0_pay7
  simp only [View.readAt_eq_ld, h1.read_unread, h2.read_unread, h3.read_unread, h4.read_unread, shapeCast_self]
  simp only [View.ld_unit_zero (S := S256x2048) hz2, View.ld_unit_zero (S := S1x2048) hz2]

/-- and goes on at the others. -/
theorem sums_B (hc) : out0_B_6 c i p1 h1 p2 h2 p3 h3 p4 h4 p5 h5 p6 h6 p7 h7 hc d x g e s = k0_pay1 (k0_pay3 x) d s := by
  unfold out0_B_6
  rw [View.read_writes_eq_canon _ _ _ (cover0_B_6 c i p1 h1 p2 h2 p3 h3 p4 h4 p5 h5 p6 h6 p7 h7 hc d x g e s)]
  unfold kernelRun0_B
  dsimp only
  sl_unfold_words
  rw [View.canon_unit_zero hz2]
  unfold k0_pay7
  simp only [View.readAt_eq_ld, h1.read_unread, h2.read_unread, h3.read_unread, h4.read_unread, h7.read_unread, shapeCast_self]
  simp only [View.ld_unit_zero (S := S256x2048) hz2, View.ld_unit_zero (S := S1x2048) hz2]

end Cases

/-- The four arguments as launched. -/
abbrev a0 : Vec Ideal S4096x2048 .f32 := m ((c : Thread nD τ).loc main_arg0)
abbrev a1 : Vec Ideal S4096x2048 .f32 := m ((c : Thread nD τ).loc main_arg1)
abbrev a2 : Vec Ideal S1x2048 .f32 := m ((c : Thread nD τ).loc main_arg2)
abbrev a3 : Vec Ideal S4096x2048 .f32 := m ((c : Thread nD τ).loc main_arg3)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

section Blocks

variable (t : Fin cfg0.N) (r : Fin 256) (R : Fin 4096) (hR : R.val = t.val * 256 + r.val) (k : Fin 2048)

include hR in
theorem blk0 : (iblk m c 0 t : Vec Ideal S256x2048 .f32) (ix2 r k) = a0 m c (ix2 R k) := by
  unfold iblk
  rw [View.read_apply]
  show V m c main_arg0 _ = _
  rw [V_main_arg0]
  refine congrArg (a0 m c) ?_
  funext a
  apply Fin.ext
  match a with
  | ⟨0, _⟩ => show win0_0.index t 0 * 256 + 1 * r.val = R.val; rw [(idx0 t).1]; omega
  | ⟨1, _⟩ => show win0_0.index t 1 * 2048 + 1 * k.val = k.val; rw [(idx0 t).2]; omega

include hR in
theorem blk1 : (iblk m c 1 t : Vec Ideal S256x2048 .f32) (ix2 r k) = a1 m c (ix2 R k) := by
  unfold iblk
  rw [View.read_apply]
  show V m c main_arg1 _ = _
  rw [V_main_arg1]
  refine congrArg (a1 m c) ?_
  funext a
  apply Fin.ext
  match a with
  | ⟨0, _⟩ => show win0_1.index t 0 * 256 + 1 * r.val = R.val; rw [(idx1 t).1]; omega
  | ⟨1, _⟩ => show win0_1.index t 1 * 2048 + 1 * k.val = k.val; rw [(idx1 t).2]; omega

theorem blk2 : (iblk m c 2 t : Vec Ideal S1x2048 .f32) (ix2 (0 : Fin 1) k) = a2 m c (ix2 (0 : Fin 1) k) := by
  unfold iblk
  rw [View.read_apply]
  show V m c main_arg2 _ = _
  rw [V_main_arg2]
  refine congrArg (a2 m c) ?_
  funext a
  apply Fin.ext
  match a with
  | ⟨0, _⟩ => show win0_2.index t 0 * 1 + 1 * 0 = 0; rw [(idx2 t).1]
  | ⟨1, _⟩ => show win0_2.index t 1 * 2048 + 1 * k.val = k.val; rw [(idx2 t).2]; omega

include hR in
theorem blk3 : (iblk m c 3 t : Vec Ideal S256x2048 .f32) (ix2 r k) = a3 m c (ix2 R k) := by
  unfold iblk
  rw [View.read_apply]
  show V m c main_arg3 _ = _
  rw [V_main_arg3]
  refine congrArg (a3 m c) ?_
  funext a
  apply Fin.ext
  match a with
  | ⟨0, _⟩ => show win0_3.index t 0 * 256 + 1 * r.val = R.val; rw [(idx3 t).1]; omega
  | ⟨1, _⟩ => show win0_3.index t 1 * 2048 + 1 * k.val = k.val; rw [(idx3 t).2]; omega

include hR in
theorem row_eq : brow (iblk m c 1 t) r = row (a1 m c) R := funext fun k => blk1 m c t r R hR k

include hR in
theorem weighed_eq : bweighed (iblk m c 0 t) (iblk m c 2 t) r = weighed (a0 m c) (a2 m c) R :=
  funext fun k => congrArg₂ (fun a b : EReal => a * b) (blk0 m c t r R hR k) (blk2 m c t k)

include hR in
theorem grad_block : k0_pay4 (F := Ideal) (iblk m c 1 t) (iblk m c 0 t) (iblk m c 2 t) (iblk m c 3 t) (ix2 r k) =
    inputGrad (a0 m c) (a1 m c) (a2 m c) (a3 m c) (ix2 R k) := by
  rw [pay4_apply, row_eq m c t r R hR, weighed_eq m c t r R hR, blk3 m c t r R hR]
  rfl

end Blocks

theorem grads (t : Fin cfg0.N) : (outsAt0 m c t.val t.isLt).1 = k0_pay4 (F := Ideal) (iblk m c 1 t) (iblk m c 0 t) (iblk m c 2 t) (iblk m c 3 t) := by
  by_cases h : t.val % 16 = 0
  · rw [outsAt0_A m c t h]
    dsimp only
    rw [grad_A]
  · rw [outsAt0_B m c t h]
    dsimp only
    rw [grad_B]

theorem rounds (t : Fin cfg0.N) :
    (outsAt0 m c t.val t.isLt).2.1 = k0_pay4 (F := Ideal) (iblk m c 1 t) (iblk m c 0 t) (iblk m c 2 t) (iblk m c 3 t) := by
  by_cases h : t.val % 16 = 0
  · rw [outsAt0_A m c t h]
    dsimp only
    rw [round_A]
  · rw [outsAt0_B m c t h]
    dsimp only
    rw [round_B]

/-- Row `r` of tile `n`, and what the tile adds to the weights' gradients. -/
def at_ (n : ℕ) (r : Fin 256) : Fin 4096 := ⟨(n * 256 + r.val) % 4096, Nat.mod_lt _ (by decide)⟩
def tile (n : ℕ) (j : Fin 2048) : EReal := ∑ r : Fin 256, part (a0 m c) (a1 m c) j (at_ n r)

theorem point (t : Fin cfg0.N) (s : Vec Ideal S1x2048 .f32) (j : Fin 2048) :
    k0_pay1 (F := Ideal) (k0_pay3 (iblk m c 1 t)) (iblk m c 0 t) s (ix2 (0 : Fin 1) j) = s (ix2 (0 : Fin 1) j) + tile m c t.val j := by
  have hN : cfg0.N = 16 := N_0
  have ht := t.isLt
  have hR : ∀ r : Fin 256, (at_ t.val r).val = t.val * 256 + r.val := fun r => by unfold at_; dsimp only; omega
  rw [pay1_apply]
  refine congrArg (fun a : EReal => s (ix2 (0 : Fin 1) j) + a) (Finset.sum_congr rfl fun r _ => ?_)
  rw [row_eq m c t r _ (hR r), blk0 m c t r _ (hR r), blk1 m c t r _ (hR r)]
  rfl

/-- The row of sums after tile `n`. -/
theorem sums (n : ℕ) (h : n < cfg0.N) (j : Fin 2048) :
    (outsAt0 m c n h).2.2 (ix2 (0 : Fin 1) j) = ∑ t ∈ Finset.range (n % 16 + 1), tile m c (n / 16 * 16 + t) j := by
  refine Cert.Products.sweep (P := 16) (by decide) (fun n h j => (outsAt0 m c n h).2.2 (ix2 (0 : Fin 1) j)) (tile m c) (fun n h h0 j => ?_)
    (fun n h h0 j => ?_) n h j
  · rw [show outsAt0 m c n h = _ from outsAt0_A m c ⟨n, h⟩ h0]
    dsimp only
    rw [sums_A]
    refine (point m c ⟨n, h⟩ _ j).trans ?_
    exact (congrArg (fun a : EReal => a + tile m c n j) Ideal.ofBits_zero_f32).trans (zero_add _)
  · rw [show outsAt0 m c (n + 1) h = _ from outsAt0_B m c ⟨n + 1, h⟩ h0]
    dsimp only
    rw [sums_B]
    exact point m c ⟨n + 1, h⟩ _ j

/-- The sixteen tiles are the 4096 rows. -/
theorem tiles (j : Fin 2048) : (∑ t ∈ Finset.range 16, tile m c t j) = weightGrad (a0 m c) (a1 m c) (ix2 (0 : Fin 1) j) := by
  unfold weightGrad tile
  rw [Finset.sum_range, Fin.sum_univ_tiles 16 256 rfl]
  refine Finset.sum_congr rfl fun t _ => Finset.sum_congr rfl fun r _ => ?_
  have : at_ t.val r = ⟨t.val * 256 + r.val, by omega⟩ := Fin.ext (by unfold at_; dsimp only; omega)
  rw [this]
  rfl

theorem flushed4 (t : Fin cfg0.N) : (dats m 0 c).flushed 4 t =
    ((cfg0.win 4).blk t).view.read (Elt Ideal) (inputGrad (a0 m c) (a1 m c) (a2 m c) (a3 m c)) := by
  show (cfg0.win 4).cut (grid0.coords t) ((dats m 0 c).after 4 t) = _
  rw [after0_4, grads]
  funext y
  obtain ⟨r, q, rfl⟩ : ∃ r q, y = ix2 r q := ⟨y 0, y 1, by idx_ext⟩
  rw [View.read_apply]
  have hN : cfg0.N = 16 := N_0
  have ht := t.isLt
  have hr : r.val < 256 := r.isLt
  refine (grad_block m c t r ⟨t.val * 256 + r.val, by omega⟩ rfl q).trans (congrArg (inputGrad (a0 m c) (a1 m c) (a2 m c) (a3 m c)) ?_)
  funext a
  apply Fin.ext
  match a with
  | ⟨0, _⟩ => show t.val * 256 + r.val = win0_4.index t 0 * 256 + 1 * r.val; rw [(idx4 t).1]; omega
  | ⟨1, _⟩ => show q.val = win0_4.index t 1 * 2048 + 1 * q.val; rw [(idx4 t).2]; omega

theorem flushed5 (t : Fin cfg0.N) : (dats m 0 c).flushed 5 t =
    ((cfg0.win 5).blk t).view.read (Elt Ideal) (inputGrad (a0 m c) (a1 m c) (a2 m c) (a3 m c)) := by
  show (cfg0.win 5).cut (grid0.coords t) ((dats m 0 c).after 5 t) = _
  rw [after0_5, rounds]
  funext y
  obtain ⟨r, q, rfl⟩ : ∃ r q, y = ix2 r q := ⟨y 0, y 1, by idx_ext⟩
  rw [View.read_apply]
  have hN : cfg0.N = 16 := N_0
  have ht := t.isLt
  have hr : r.val < 256 := r.isLt
  refine (grad_block m c t r ⟨t.val * 256 + r.val, by omega⟩ rfl q).trans (congrArg (inputGrad (a0 m c) (a1 m c) (a2 m c) (a3 m c)) ?_)
  funext a
  apply Fin.ext
  match a with
  | ⟨0, _⟩ => show t.val * 256 + r.val = win0_5.index t 0 * 256 + 1 * r.val; rw [(idx5 t).1]; omega
  | ⟨1, _⟩ => show q.val = win0_5.index t 1 * 2048 + 1 * q.val; rw [(idx5 t).2]; omega

theorem flushed6 (t : Fin cfg0.N) (hf : (cfg0.win 6).flush t = true) :
    (dats m 0 c).flushed 6 t = ((cfg0.win 6).blk t).view.read (Elt Ideal) (weightGrad (a0 m c) (a1 m c)) := by
  have hN : cfg0.N = 16 := N_0
  have h15 : t.val = 15 := by have := (flush0_6 t).mp hf; have := t.isLt; omega
  show (cfg0.win 6).cut (grid0.coords t) ((dats m 0 c).after 6 t) = _
  rw [after0_6]
  funext y
  obtain ⟨z, q, rfl⟩ : ∃ z q, y = ix2 z q := ⟨y 0, y 1, by idx_ext⟩
  obtain rfl : z = (0 : Fin 1) := Subsingleton.elim (α := Fin 1) _ _
  rw [View.read_apply]
  refine (sums m c t.val t.isLt q).trans ?_
  rw [h15]
  refine (Finset.sum_congr rfl fun s _ => congrArg (fun n => tile m c n q) (Nat.zero_add s)).trans ((tiles m c q).trans ?_)
  refine congrArg (weightGrad (a0 m c) (a1 m c)) ?_
  funext a
  apply Fin.ext
  match a with
  | ⟨0, _⟩ => show 0 = win0_6.index t 0 * 1 + 1 * 0; rw [(idx6 t).1]
  | ⟨1, _⟩ => show q.val = win0_6.index t 1 * 2048 + 1 * q.val; rw [(idx6 t).2]; omega

theorem onto4 : ∀ p : Fin 16, ∃ t : Fin cfg0.N, win0_4.index t 0 = p.val :=
  (by decide +kernel : ∀ p : Fin 16, ∃ t : Fin grid0.N, win0_4.index t 0 = p.val)
theorem onto5 : ∀ p : Fin 16, ∃ t : Fin cfg0.N, win0_5.index t 0 = p.val :=
  (by decide +kernel : ∀ p : Fin 16, ∃ t : Fin grid0.N, win0_5.index t 0 = p.val)
theorem last6 : ∃ t : Fin cfg0.N, t.val % 16 = 15 := (by decide +kernel : ∃ t : Fin grid0.N, t.val % 16 = 15)

theorem final4 : (dats m 0 c).arrAt 4 cfg0.N = inputGrad (a0 m c) (a1 m c) (a2 m c) (a3 m c) :=
  (dats m 0 c).arrAt_eq_of_cover 4 (inputGrad (a0 m c) (a1 m c) (a2 m c) (a3 m c)) (fun t _ => flushed4 m c t) fun i => by
    have h0 : (i 0).val < 4096 := (i 0).isLt
    have h1 : (i 1).val < 2048 := (i 1).isLt
    obtain ⟨t, e0⟩ := onto4 ⟨(i 0).val / 256, by omega⟩
    dsimp only at e0
    refine ⟨t, flush0_4 t, ?_⟩
    show i ∈ ((View.whole main_v0_0).slice (win0_4.rect t)).set
    rw [View.set_slice_whole, Rect.mem_set_unit]
    have e1 := (idx4 t).2
    intro a
    match a with
    | ⟨0, _⟩ => show win0_4.index t 0 * 256 ≤ (i 0).val ∧ (i 0).val < win0_4.index t 0 * 256 + 256; omega
    | ⟨1, _⟩ => show win0_4.index t 1 * 2048 ≤ (i 1).val ∧ (i 1).val < win0_4.index t 1 * 2048 + 2048; omega

theorem final5 : (dats m 0 c).arrAt 5 cfg0.N = inputGrad (a0 m c) (a1 m c) (a2 m c) (a3 m c) :=
  (dats m 0 c).arrAt_eq_of_cover 5 (inputGrad (a0 m c) (a1 m c) (a2 m c) (a3 m c)) (fun t _ => flushed5 m c t) fun i => by
    have h0 : (i 0).val < 4096 := (i 0).isLt
    have h1 : (i 1).val < 2048 := (i 1).isLt
    obtain ⟨t, e0⟩ := onto5 ⟨(i 0).val / 256, by omega⟩
    dsimp only at e0
    refine ⟨t, flush0_5 t, ?_⟩
    show i ∈ ((View.whole main_v0_1).slice (win0_5.rect t)).set
    rw [View.set_slice_whole, Rect.mem_set_unit]
    have e1 := (idx5 t).2
    intro a
    match a with
    | ⟨0, _⟩ => show win0_5.index t 0 * 256 ≤ (i 0).val ∧ (i 0).val < win0_5.index t 0 * 256 + 256; omega
    | ⟨1, _⟩ => show win0_5.index t 1 * 2048 ≤ (i 1).val ∧ (i 1).val < win0_5.index t 1 * 2048 + 2048; omega

theorem final6 : (dats m 0 c).arrAt 6 cfg0.N = weightGrad (a0 m c) (a1 m c) :=
  (dats m 0 c).arrAt_eq_of_cover 6 (weightGrad (a0 m c) (a1 m c)) (flushed6 m c) fun i => by
    have h0 : (i 0).val < 1 := (i 0).isLt
    have h1 : (i 1).val < 2048 := (i 1).isLt
    obtain ⟨t, ht⟩ := last6
    refine ⟨t, (flush0_6 t).mpr ht, ?_⟩
    show i ∈ ((View.whole main_v0_2).slice (win0_6.rect t)).set
    rw [View.set_slice_whole, Rect.mem_set_unit]
    have e0 := (idx6 t).1
    have e1 := (idx6 t).2
    intro a
    match a with
    | ⟨0, _⟩ => show win0_6.index t 0 * 1 ≤ (i 0).val ∧ (i 0).val < win0_6.index t 0 * 1 + 1; omega
    | ⟨1, _⟩ => show win0_6.index t 1 * 2048 ≤ (i 1).val ∧ (i 1).val < win0_6.index t 1 * 2048 + 2048; omega

end Cert.Kernel26Ideal.Product

end
-- ==== Proof.NormFwd.lean ====
/- The norm: what the grid of 16 row tiles leaves in the result, and the reference's. -/
module

public import proofs.«01_k».proof.Proof.NormBwdRef
public import proofs.«01_k».proof.Proof.Gen.Reference27Ideal.Read
public import proofs.«01_k».proof.Proof.Gen.Kernel27Ideal.Value
public import Idealize.ShloMosaic.Lib.Pointwise
public import Idealize.ShloMosaic.Lib.WritesUnit
public import Idealize.ShloMosaic.Lib.Tactic

@[expose] public section

set_option maxRecDepth 16384

noncomputable section

namespace Cert.Norm

open Idealize.ShloMosaic Cert.Reference26Ideal

/-- Each row times its factor, times the weights. -/
def normed {R : ℕ} (x : Vec Ideal ⟨2, ![R, 2048]⟩ .f32) (g : Vec Ideal ⟨2, ![1, 2048]⟩ .f32) (i : Shape.Idx ⟨2, ![R, 2048]⟩) : EReal :=
  x i * factor (row x (i 0)) * g (ix2 (0 : Fin 1) (i 1))

end Cert.Norm

namespace Cert.Reference27Ideal.Product

open Idealize.ShloMosaic Cert.Reference27Ideal Cert.Reference27Ideal.Read Cert.Norm

variable (x : Vec Ideal S4096x2048 .f32) (g : Vec Ideal S1x2048 .f32)

theorem factor_eq (p : Fin 4096) : val_main_v7 (F := Ideal) x (ix2 p (0 : Fin 1)) = factor (row x p) := by
  have e1 : idx_main_v2 (ix2 p (0 : Fin 1)) = ix1 p := by
    funext a
    apply Fin.ext
    match a with
    | ⟨0, _⟩ => rfl
  rw [val_main_v7_apply, val_main_v6_apply, val_main_v4_apply, val_main_v2_apply, val_main_v3_apply, val_main_v5_apply, e1,
    val_main_v1_apply]
  refine congrArg (fun s : EReal => Ideal.rsqrt (Ideal.div s len + eps)) ?_
  refine Eq.trans (congrArg₂ (fun a b : EReal => a + b) Ideal.ofBits_zero_f32 (Finset.sum_congr rfl fun k _ => ?_)) (zero_add _)
  have e2 : idx_main_v1 (ix1 p) k = ix2 p k := by
    funext a
    apply Fin.ext
    match a with
    | ⟨0, _⟩ => rfl
    | ⟨1, _⟩ => rfl
  rw [e2]
  rfl

/-- The reference's norm. -/
theorem result : val_main_v12 (F := Ideal) x g = normed x g := by
  funext i
  obtain ⟨p, q, rfl⟩ : ∃ (p : Fin 4096) (q : Fin 2048), i = ix2 p q := ⟨i 0, i 1, by idx_ext⟩
  have e1 : idx_main_v8 (ix2 p q) = ix2 p (0 : Fin 1) := by
    funext a
    apply Fin.ext
    match a with
    | ⟨0, _⟩ => rfl
    | ⟨1, _⟩ => rfl
  have e2 : idx_main_v10 (ix2 p q) = ix2 (0 : Fin 1) q := by
    funext a
    apply Fin.ext
    match a with
    | ⟨0, _⟩ => rfl
    | ⟨1, _⟩ => rfl
  rw [val_main_v12_apply, val_main_v11_apply, val_main_v9_apply, val_main_v8_apply, val_main_v10_apply, e1, e2, factor_eq]
  rfl

end Cert.Reference27Ideal.Product

namespace Cert.Kernel27Ideal.Product

open Idealize.ShloMosaic Idealize.ShloMosaic.TcCoe Idealize.SL.Sem Cert.Kernel27Ideal Cert.Kernel27Ideal.Gen Cert.Norm

theorem hz2 : (![0, 0] : Fin 2 → Nat) = fun _ => 0 := funext fun a => match a with | ⟨0, _⟩ => rfl | ⟨1, _⟩ => rfl

/-- One tile of the result. -/
theorem out_apply (x : Vec Ideal S256x2048 .f32) (g : Vec Ideal S1x2048 .f32) (r : Fin 256) (j : Fin 2048) :
    out0_2 (F := Ideal) x g (ix2 r j) = x (ix2 r j) * factor (fun k => x (ix2 r k)) * g (ix2 (0 : Fin 1) j) := by
  unfold out0_2
  rw [View.canon_unit_zero hz2]
  simp only [View.ld_unit_zero (S := S256x2048) hz2, View.ld_unit_zero (S := S1x2048) hz2]
  pointwise [k0_pay1]
  rfl

variable (m : (ℓ : Loc nD τ sig) → Buf (Elt Ideal) ℓ) (c : Dev nD)

/-- The two arguments as launched. -/
abbrev a0 : Vec Ideal S4096x2048 .f32 := m ((c : Thread nD τ).loc main_arg0)
abbrev a1 : Vec Ideal S1x2048 .f32 := m ((c : Thread nD τ).loc main_arg1)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)

theorem blk0 (t : Fin cfg0.N) (r : Fin 256) (R : Fin 4096) (hR : R.val = t.val * 256 + r.val) (k : Fin 2048) :
    (iblk m c 0 t : Vec Ideal S256x2048 .f32) (ix2 r k) = a0 m c (ix2 R k) := by
  unfold iblk
  rw [View.read_apply]
  show V m c main_arg0 _ = _
  rw [V_main_arg0]
  refine congrArg (a0 m c) ?_
  funext a
  apply Fin.ext
  match a with
  | ⟨0, _⟩ => show win0_0.index t 0 * 256 + 1 * r.val = R.val; rw [(idx0 t).1]; omega
  | ⟨1, _⟩ => show win0_0.index t 1 * 2048 + 1 * k.val = k.val; rw [(idx0 t).2]; omega

theorem blk1 (t : Fin cfg0.N) (k : Fin 2048) : (iblk m c 1 t : Vec Ideal S1x2048 .f32) (ix2 (0 : Fin 1) k) = a1 m c (ix2 (0 : Fin 1) k) := by
  unfold iblk
  rw [View.read_apply]
  show V m c main_arg1 _ = _
  rw [V_main_arg1]
  refine congrArg (a1 m c) ?_
  funext a
  apply Fin.ext
  match a with
  | ⟨0, _⟩ => show win0_1.index t 0 * 1 + 1 * 0 = 0; rw [(idx1 t).1]
  | ⟨1, _⟩ => show win0_1.index t 1 * 2048 + 1 * k.val = k.val; rw [(idx1 t).2]; omega

theorem flushed (t : Fin cfg0.N) : (dats m 0 c).flushed 2 t = ((cfg0.win 2).blk t).view.read (Elt Ideal) (normed (a0 m c) (a1 m c)) := by
  show (cfg0.win 2).cut (grid0.coords t) ((dats m 0 c).after 2 t) = _
  rw [after0_2]
  funext y
  obtain ⟨r, q, rfl⟩ : ∃ r q, y = ix2 r q := ⟨y 0, y 1, by idx_ext⟩
  rw [View.read_apply]
  have hN : cfg0.N = 16 := N_0
  have ht := t.isLt
  have hr : r.val < 256 := r.isLt
  have hR : (⟨t.val * 256 + r.val, by omega⟩ : Fin 4096).val = t.val * 256 + r.val := rfl
  refine (out_apply (iblk m c 0 t) (iblk m c 1 t) r q).trans ?_
  rw [show (fun k => (iblk m c 0 t : Vec Ideal S256x2048 .f32) (ix2 r k)) = row (a0 m c) _ from funext fun k => blk0 m c t r _ hR k,
    blk0 m c t r _ hR, blk1 m c t]
  show normed (a0 m c) (a1 m c) (ix2 _ q) = _
  refine congrArg (normed (a0 m c) (a1 m c)) ?_
  funext a
  apply Fin.ext
  match a with
  | ⟨0, _⟩ => show t.val * 256 + r.val = win0_2.index t 0 * 256 + 1 * r.val; rw [(idx2 t).1]; omega
  | ⟨1, _⟩ => show q.val = win0_2.index t 1 * 2048 + 1 * q.val; rw [(idx2 t).2]; omega

theorem onto2 : ∀ p : Fin 16, ∃ t : Fin cfg0.N, win0_2.index t 0 = p.val :=
  (by decide +kernel : ∀ p : Fin 16, ∃ t : Fin grid0.N, win0_2.index t 0 = p.val)

theorem final : (dats m 0 c).arrAt 2 cfg0.N = normed (a0 m c) (a1 m c) :=
  (dats m 0 c).arrAt_eq_of_cover 2 (normed (a0 m c) (a1 m c)) (fun t _ => flushed m c t) fun i => by
    have h0 : (i 0).val < 4096 := (i 0).isLt
    have h1 : (i 1).val < 2048 := (i 1).isLt
    obtain ⟨t, e0⟩ := onto2 ⟨(i 0).val / 256, by omega⟩
    dsimp only at e0
    refine ⟨t, flush0_2 t, ?_⟩
    show i ∈ ((View.whole main_v0).slice (win0_2.rect t)).set
    rw [View.set_slice_whole, Rect.mem_set_unit]
    have e1 := (idx2 t).2
    intro a
    match a with
    | ⟨0, _⟩ => show win0_2.index t 0 * 256 ≤ (i 0).val ∧ (i 0).val < win0_2.index t 0 * 256 + 256; omega
    | ⟨1, _⟩ => show win0_2.index t 1 * 2048 ≤ (i 1).val ∧ (i 1).val < win0_2.index t 1 * 2048 + 2048; omega

end Cert.Kernel27Ideal.Product

end
-- ==== Proof.GateFwd.lean ====
/- The gates' forward call: each element is the premix times its column's scale times the gate's SiLU. The kernel takes the two
   blocks through rings of three slots that it fills itself; the reference takes the columns by slicing. -/
module

public import proofs.«01_k».proof.Proof.Gen.Kernel28Ideal.Value
public import proofs.«01_k».proof.Proof.Gen.Reference28Ideal.Read
public import proofs.«01_k».proof.Proof.Gate
public import Idealize.ShloMosaic.Lib.Pointwise
public import Idealize.ShloMosaic.Lib.WritesUnit
public import Idealize.ShloMosaic.Lib.Tactic

@[expose] public section

set_option maxRecDepth 16384

noncomputable section

namespace Cert.GateFwd

open Idealize.ShloMosaic Cert.Gate

/-- One element: the premix, its column's scale and the gate's SiLU. -/
def gated (p s g : EReal) : EReal := p * s * (g * sigm g)

/-- The whole result; the gate's columns start at 10240. -/
def result (p : Vec Ideal ⟨2, ![4096, 4096]⟩ .bf16) (g : Vec Ideal ⟨2, ![4096, 14336]⟩ .bf16) (s : Vec Ideal ⟨2, ![1, 4096]⟩ .f32) :
    Vec Ideal ⟨2, ![4096, 4096]⟩ .bf16 := fun i =>
  gated (p i) (s (ix2 (0 : Fin 1) (i 1)))
    (g (ix2 (i 0) ⟨10240 + (i 1).val, by have h : (i 1).val < 4096 := (i 1).isLt; omega⟩))

end Cert.GateFwd

namespace Cert.Reference28Ideal.Product

open Idealize.ShloMosaic Cert.Reference28Ideal Cert.Reference28Ideal.Read Cert.GateFwd Cert.Gate

theorem val_eq (p : Vec Ideal S4096x4096 .bf16) (g : Vec Ideal S4096x14336 .bf16) (s : Vec Ideal S1x4096 .f32) :
    val_main_v7 (F := Ideal) p g s = result p g s := by
  funext i
  obtain ⟨r, q, rfl⟩ : ∃ r q, i = ix2 r q := ⟨i 0, i 1, by idx_ext⟩
  have e1 : idx_main_v1 (ix2 r q) = ix2 r ⟨10240 + q.val, by have h : q.val < 4096 := q.isLt; omega⟩ := by
    funext a
    apply Fin.ext
    match a with
    | ⟨0, _⟩ => rfl
    | ⟨1, _⟩ => rfl
  have e2 : idx_main_v3 (ix2 r q) = ix2 (0 : Fin 1) q := by
    funext a
    apply Fin.ext
    match a with
    | ⟨0, _⟩ => rfl
    | ⟨1, _⟩ => rfl
  rw [val_main_v7_apply, val_main_v6_apply, val_main_v4_apply, val_main_v0_apply, val_main_v3_apply, val_main_v5_apply,
    val_main_call0_v5_apply, val_main_call0_v4_apply, val_main_call0_cst_0_apply, val_main_call0_v3_apply, val_main_call0_v2_apply,
    val_main_call0_cst_apply, val_main_call0_v1_apply, val_main_call0_v0_apply, val_main_v2_apply, val_main_v1_apply, e1, e2]
  show p (ix2 r q) * s (ix2 (0 : Fin 1) q) * (g _ * Ideal.div (Ideal.ofBits .f32 0x3F800000#32) (Ideal.ofBits .f32 0x3F800000#32 + Ideal.exp (-g _))) = _
  rw [Ideal.ofBits_one_f32]
  rfl

end Cert.Reference28Ideal.Product

namespace Cert.Kernel28Ideal.Product

open Idealize.ShloMosaic Idealize.ShloMosaic.TcCoe Idealize.SL.Sem Cert.Kernel28Ideal Cert.Kernel28Ideal.Gen Cert.GateFwd Cert.Gate

theorem hz2 : (![0, 0] : Fin 2 → Nat) = fun _ => 0 := funext fun a => match a with | ⟨0, _⟩ => rfl | ⟨1, _⟩ => rfl

/-- The body's arithmetic on the two slots it reads, by what the slots hold as blocks of two dimensions. -/
theorem pay_apply (g p : Vec Ideal S1x512x1024 .bf16) (s : Vec Ideal S1x1024 .f32) (wg wp : Vec Ideal S512x1024 .bf16)
    (hg : shapeCast S512x1024 g shapeCasts_S1x512x1024_S512x1024 = wg) (hp : shapeCast S512x1024 p shapeCasts_S1x512x1024_S512x1024 = wp)
    (r : Fin 512) (q : Fin 1024) :
    k0_pay1 (F := Ideal) g p s (ix2 r q) = gated (wp (ix2 r q)) (s (ix2 (0 : Fin 1) q)) (wg (ix2 r q)) := by
  unfold k0_pay1
  rw [hg, hp]
  pointwise []
  rw [zero_sub]
  rfl

variable (m : (ℓ : Loc nD τ sig) → Buf (Elt Ideal) ℓ) (c : Dev nD)

/-- Ring 0's slot, read back as a block of two dimensions, holds what was copied to it. -/
theorem slot0 (s : Fin 3) {off : Fin 3 → ℕ} (h : off = ![s.val, 0, 0]) (inb : ∀ a, off a + S1x512x1024.size a ≤ S3x512x1024.size a)
    (f : HbBuf0 (F := Ideal) c (rslot0_0 s)) (w : Vec Ideal S512x1024 .bf16) :
    shapeCast S512x1024 (scM0_0.view.readAt (Elt Ideal) (Rect.unit (s := S3x512x1024) off S1x512x1024.size inb).toLoadRect
      ((rslot0_0 s).view.writes (Elt Ideal) f [⟨Rect.whole S512x1024, w⟩])) shapeCasts_S1x512x1024_S512x1024 = w := by
  subst h
  exact (rslot0_0 s).view.read_writes_whole f w

/-- Ring 1's slot, read back as a block of two dimensions, holds what was copied to it. -/
theorem slot1 (s : Fin 3) {off : Fin 3 → ℕ} (h : off = ![s.val, 0, 0]) (inb : ∀ a, off a + S1x512x1024.size a ≤ S3x512x1024.size a)
    (f : HbBuf0 (F := Ideal) c (rslot0_1 s)) (w : Vec Ideal S512x1024 .bf16) :
    shapeCast S512x1024 (scM0_1.view.readAt (Elt Ideal) (Rect.unit (s := S3x512x1024) off S1x512x1024.size inb).toLoadRect
      ((rslot0_1 s).view.writes (Elt Ideal) f [⟨Rect.whole S512x1024, w⟩])) shapeCasts_S1x512x1024_S512x1024 = w := by
  subst h
  exact (rslot0_1 s).view.read_writes_whole f w

theorem out_A (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_A_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_A_1
  rw [View.read_writes_eq_canon _ _ _ (cover0_A_1 c t p4 h4 p5 h5 hA hB x0 fh0 fh1)]
  unfold kernelRun0_A
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

theorem out_B (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_B_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_B_1
  rw [View.read_writes_eq_canon _ _ _ (cover0_B_1 c t p4 h4 p5 h5 hA hB x0 fh0 fh1)]
  unfold kernelRun0_B
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

theorem out_C (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_C_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_C_1
  rw [View.read_writes_eq_canon _ _ _ (cover0_C_1 c t p4 h4 p5 h5 hA hB x0 fh0 fh1)]
  unfold kernelRun0_C
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

/-- The three arguments as launched. -/
abbrev a0 : Vec Ideal S4096x4096 .bf16 := m ((c : Thread nD τ).loc main_arg0)
abbrev a1 : Vec Ideal S4096x14336 .bf16 := m ((c : Thread nD τ).loc main_arg1)
abbrev a2 : Vec Ideal S1x4096 .f32 := m ((c : Thread nD τ).loc main_arg2)

/-- What any point leaves in its block. -/
theorem outs (t : Fin cfg0.N) (r : Fin 512) (q : Fin 1024) :
    outsAt0 m c t.val t.isLt (ix2 r q) = gated ((srcB0_0 (Ring.bk 32 t.val)).view.read (Elt Ideal) (V m c main_arg0) (ix2 r q))
      ((iblk m c 0 t : Vec Ideal S1x1024 .f32) (ix2 (0 : Fin 1) q)) ((srcB0_1 (Ring.bk 32 t.val)).view.read (Elt Ideal) (V m c main_arg1) (ix2 r q)) := by
  by_cases h0 : t.val % 32 = 0
  · have h1 : t.val < 30 := by have := t.isLt; have : cfg0.N = 32 := N_0; omega
    rw [outsAt0_A m c t h0 h1]
    exact out_A ..
  · by_cases h1 : t.val < 30
    · rw [outsAt0_B m c t h0 h1]
      exact out_B ..
    · rw [outsAt0_C m c t h0 h1]
      exact out_C ..

theorem src0 (b : Fin 32) (r : Fin 512) (q : Fin 1024) (R : Fin 4096) (C : Fin 4096) (hR : R.val = 512 * (b.val / 4) + r.val)
    (hC : C.val = 1024 * (b.val % 4) + q.val) :
    (srcB0_0 b).view.read (Elt Ideal) (V m c main_arg0) (ix2 r q) = a0 m c (ix2 R C) := by
  refine ((srcB0_0 b).view.read_apply _ _).trans ?_
  show V m c main_arg0 _ = _
  rw [V_main_arg0]
  refine congrArg (a0 m c) ?_
  funext a
  apply Fin.ext
  match a with
  | ⟨0, _⟩ => show 512 * (b.val / 4) + 1 * r.val = R.val; omega
  | ⟨1, _⟩ => show 1024 * (b.val % 4) + 1 * q.val = C.val; omega

theorem src1 (b : Fin 32) (r : Fin 512) (q : Fin 1024) (R : Fin 4096) (C : Fin 14336) (hR : R.val = 512 * (b.val / 4) + r.val)
    (hC : C.val = 10240 + 1024 * (b.val % 4) + q.val) :
    (srcB0_1 b).view.read (Elt Ideal) (V m c main_arg1) (ix2 r q) = a1 m c (ix2 R C) := by
  refine ((srcB0_1 b).view.read_apply _ _).trans ?_
  show V m c main_arg1 _ = _
  rw [V_main_arg1]
  refine congrArg (a1 m c) ?_
  funext a
  apply Fin.ext
  match a with
  | ⟨0, _⟩ => show 512 * (b.val / 4) + 1 * r.val = R.val; omega
  | ⟨1, _⟩ => show (1024 * (b.val % 4) + 10240) + 1 * q.val = C.val; omega

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)

theorem blk0 (t : Fin cfg0.N) (q : Fin 1024) (C : Fin 4096) (hC : C.val = 1024 * (t.val % 4) + q.val) :
    (iblk m c 0 t : Vec Ideal S1x1024 .f32) (ix2 (0 : Fin 1) q) = a2 m c (ix2 (0 : Fin 1) C) := by
  unfold iblk
  rw [View.read_apply]
  show V m c main_arg2 _ = _
  rw [V_main_arg2]
  refine congrArg (a2 m c) ?_
  funext a
  apply Fin.ext
  match a with
  | ⟨0, _⟩ => show win0_0.index t 0 * 1 + 1 * 0 = 0; rw [(idx0 t).1]
  | ⟨1, _⟩ => show win0_0.index t 1 * 1024 + 1 * q.val = C.val; rw [(idx0 t).2]; omega

theorem flushed (t : Fin cfg0.N) :
    (dats m 0 c).flushed 1 t = ((cfg0.win 1).blk t).view.read (Elt Ideal) (result (a0 m c) (a1 m c) (a2 m c)) := by
  rw [Cert.Kernel28Ideal.Value.flushed1 m c t]
  funext y
  obtain ⟨r, q, rfl⟩ : ∃ r q, y = ix2 r q := ⟨y 0, y 1, by idx_ext⟩
  rw [View.read_apply]
  have hN : cfg0.N = 32 := N_0
  have ht := t.isLt
  have hr : r.val < 512 := r.isLt
  have hq : q.val < 1024 := q.isLt
  have hb : (Ring.bk 32 t.val).val = t.val := Ring.bk_val (by omega)
  refine (outs m c t r q).trans ?_
  rw [src0 m c _ r q ⟨512 * (t.val / 4) + r.val, by omega⟩ ⟨1024 * (t.val % 4) + q.val, by omega⟩ (by rw [hb]) (by rw [hb]),
    src1 m c _ r q ⟨512 * (t.val / 4) + r.val, by omega⟩ ⟨10240 + (1024 * (t.val % 4) + q.val), by omega⟩ (by rw [hb]) (by rw [hb]; dsimp only; omega),
    blk0 m c t q ⟨1024 * (t.val % 4) + q.val, by omega⟩ rfl]
  show result (a0 m c) (a1 m c) (a2 m c) (ix2 ⟨512 * (t.val / 4) + r.val, by omega⟩ ⟨1024 * (t.val % 4) + q.val, by omega⟩) = _
  refine congrArg (result (a0 m c) (a1 m c) (a2 m c)) ?_
  funext a
  apply Fin.ext
  match a with
  | ⟨0, _⟩ => show 512 * (t.val / 4) + r.val = win0_1.index t 0 * 512 + 1 * r.val; rw [(idx1 t).1]; omega
  | ⟨1, _⟩ => show 1024 * (t.val % 4) + q.val = win0_1.index t 1 * 1024 + 1 * q.val; rw [(idx1 t).2]; omega

theorem onto1 : ∀ (p : Fin 8) (k : Fin 4), ∃ t : Fin cfg0.N, win0_1.index t 0 = p.val ∧ win0_1.index t 1 = k.val :=
  (by decide +kernel : ∀ (p : Fin 8) (k : Fin 4), ∃ t : Fin grid0.N, win0_1.index t 0 = p.val ∧ win0_1.index t 1 = k.val)

theorem final : (dats m 0 c).arrAt 1 cfg0.N = result (a0 m c) (a1 m c) (a2 m c) :=
  (dats m 0 c).arrAt_eq_of_cover 1 (result (a0 m c) (a1 m c) (a2 m c)) (fun t _ => flushed m c t) fun i => by
    have h0 : (i 0).val < 4096 := (i 0).isLt
    have h1 : (i 1).val < 4096 := (i 1).isLt
    obtain ⟨t, e0, e1⟩ := onto1 ⟨(i 0).val / 512, by omega⟩ ⟨(i 1).val / 1024, by omega⟩
    dsimp only at e0 e1
    refine ⟨t, flush0_1 t, ?_⟩
    show i ∈ ((View.whole main_v0).slice (win0_1.rect t)).set
    rw [View.set_slice_whole, Rect.mem_set_unit]
    intro a
    match a with
    | ⟨0, _⟩ => show win0_1.index t 0 * 512 ≤ (i 0).val ∧ (i 0).val < win0_1.index t 0 * 512 + 512; omega
    | ⟨1, _⟩ => show win0_1.index t 1 * 1024 ≤ (i 1).val ∧ (i 1).val < win0_1.index t 1 * 1024 + 1024; omega

end Cert.Kernel28Ideal.Product

end
-- ==== Proof.Adam.lean ====
/- One step of the optimiser, an element at a time, and on whole arrays. -/
module

public import Idealize.ShloMosaic.Lib.Pointwise
public import Idealize.ShloMosaic.Lib.ValueIdx

@[expose] public section

noncomputable section

namespace Cert.Adam

open Idealize.ShloMosaic

/-- The first moment: 0.9 of the old one and 0.1 of the gradient. -/
def first (m g : EReal) : EReal := Ideal.ofBits .f32 0x3F666666#32 * m + Ideal.ofBits .f32 0x3DCCCCCD#32 * g

/-- The second moment: 0.999 of the old one and 0.001 of the gradient's square. -/
def second (v g : EReal) : EReal := Ideal.ofBits .f32 0x3F7FBE77#32 * v + Ideal.ofBits .f32 0x3A83126F#32 * (g * g)

/-- The step: both moments divided by what ten steps make of them, their quotient, and the weight's decay. -/
def step (w m v g : EReal) : EReal :=
  Ideal.ofBits .f32 0xBA83126F#32 *
    (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

variable {s : Shape}

/-- The same three of whole arrays. -/
def firsts (m g : Vec Ideal s .f32) : Vec Ideal s .f32 := fun i => first (m i) (g i)
def seconds (v g : Vec Ideal s .f32) : Vec Ideal s .f32 := fun i => second (v i) (g i)
def steps (w m v g : Vec Ideal s .f32) : Vec Ideal s .f32 := fun i => step (w i) (m i) (v i) (g i)

variable {R C : ℕ}

/-- A gradient with the layers' axis put in front, -/
def oneLayer (g : Vec Ideal ⟨2, ![R, C]⟩ .f32) : Vec Ideal ⟨3, ![1, R, C]⟩ .f32 := fun i => g (ix2 (i 1) (i 2))

/-- and two layers' gradients, one after the other. -/
def twoLayers (g h : Vec Ideal ⟨2, ![R, C]⟩ .f32) : Vec Ideal ⟨3, ![2, R, C]⟩ .f32 := fun i =>
  if (i 0).val = 0 then g (ix2 (i 1) (i 2)) else h (ix2 (i 1) (i 2))

/-- A tile's index has only its row and its column to choose. -/
theorem tile_index (y : (⟨3, ![1, R, C]⟩ : Shape).Idx) : ∃ r q, y = ix3 (0 : Fin 1) r q :=
  ⟨y 1, y 2, (eq_ix3 y).trans (congrArg (fun p => ix3 p (y 1) (y 2)) (Subsingleton.elim (α := Fin 1) (y 0) 0))⟩

end Cert.Adam

end
-- ==== Proof.AdamKv.lean ====
/- The optimiser's step of `w_kv`: what the grid of 4 tiles leaves in the four results, and the reference's. -/
module

public import proofs.«01_k».proof.Proof.Adam
public import proofs.«01_k».proof.Proof.Gen.Kernel29Ideal.Value
public import proofs.«01_k».proof.Proof.Gen.Reference29Ideal.Read
public import Idealize.ShloMosaic.Lib.Pointwise
public import Idealize.ShloMosaic.Lib.WritesUnit
public import Idealize.ShloMosaic.Lib.Tactic

@[expose] public section

set_option maxRecDepth 16384

noncomputable section

namespace Cert.Reference29Ideal.Product

open Idealize.ShloMosaic Cert.Reference29Ideal Cert.Reference29Ideal.Read Cert.Adam

theorem grads_eq (g h : Vec Ideal S512x2048 .f32) : val_main_v2 (F := Ideal) g h = twoLayers g h := by
  funext i
  obtain ⟨l, r, q, rfl⟩ : ∃ l r q, i = ix3 l r q := ⟨i 0, i 1, i 2, eq_ix3 i⟩
  unfold val_main_v2 twoLayers
  by_cases hl : l.val = 0
  · refine Eq.trans ?_ (if_pos hl).symm
    refine (concatenate_pair_apply_left (t := S2x512x2048) (s₁ := S1x512x2048) (0 : Fin 3) _ _ _ _ rfl (ix3 (0 : Fin 1) r q) fun b => ?_).trans ?_
    · match b with
      | ⟨0, _⟩ => exact hl.symm
      | ⟨1, _⟩ => rfl
      | ⟨2, _⟩ => rfl
    · rw [val_main_v0_apply]
      refine congrArg g ?_
      funext a
      match a with
      | ⟨0, _⟩ => rfl
      | ⟨1, _⟩ => rfl
  · refine Eq.trans ?_ (if_neg hl).symm
    refine (concatenate_pair_apply_right (t := S2x512x2048) (s₁ := S1x512x2048) (s₂ := S1x512x2048) (0 : Fin 3) _ _ _ _ rfl rfl
      (ix3 (0 : Fin 1) r q) (fun b hb => ?_) ?_).trans ?_
    · match b with
      | ⟨0, _⟩ => exact absurd rfl hb
      | ⟨1, _⟩ => rfl
      | ⟨2, _⟩ => rfl
    · have := l.isLt
      show 0 + 1 = l.val; omega
    · rw [val_main_v1_apply]
      refine congrArg h ?_
      funext a
      match a with
      | ⟨0, _⟩ => rfl
      | ⟨1, _⟩ => rfl

theorem firsts_eq (m : Vec Ideal S2x512x2048 .f32) (g h : Vec Ideal S512x2048 .f32) : val_main_v7 (F := Ideal) m g h = firsts m (twoLayers g h) := by
  funext i
  rw [val_main_v7_apply, val_main_v4_apply, val_main_v3_apply, val_main_cst_apply, val_main_v6_apply, val_main_v5_apply, val_main_cst_0_apply, grads_eq]
  rfl

theorem seconds_eq (v : Vec Ideal S2x512x2048 .f32) (g h : Vec Ideal S512x2048 .f32) : val_main_v13 (F := Ideal) v g h = seconds v (twoLayers g h) := by
  funext i
  rw [val_main_v13_apply, val_main_v9_apply, val_main_v8_apply, val_main_cst_1_apply, val_main_v12_apply, val_main_v11_apply, val_main_cst_2_apply, val_main_v10_apply, grads_eq]
  rfl

theorem steps_eq (w m v : Vec Ideal S2x512x2048 .f32) (g h : Vec Ideal S512x2048 .f32) : val_main_v26 (F := Ideal) w m v g h = steps w m v (twoLayers g h) := by
  funext i
  rw [val_main_v26_apply, val_main_v25_apply, val_main_cst_7_apply, val_main_v24_apply, val_main_v23_apply, val_main_v22_apply, val_main_cst_6_apply, val_main_v21_apply, val_main_v15_apply, val_main_v14_apply,
    val_main_cst_3_apply, val_main_v20_apply, val_main_v19_apply, val_main_cst_5_apply, val_main_v18_apply, val_main_v17_apply, val_main_v16_apply, val_main_cst_4_apply, firsts_eq, seconds_eq]
  rfl

end Cert.Reference29Ideal.Product

namespace Cert.Kernel29Ideal.Product

open Idealize.ShloMosaic Idealize.ShloMosaic.TcCoe Idealize.SL.Sem Cert.Kernel29Ideal Cert.Kernel29Ideal.Gen Cert.Adam

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A tile of the gradient, -/
theorem out5 (i : grid0.Coords) (x0 x1 x2 : Vec Ideal S1x256x2048 .f32) (x3 x4 : Vec Ideal S256x2048 .f32) (r : Fin 256) (q : Fin 2048) :
    out0_5 (F := Ideal) i x0 x1 x2 x3 x4 (ix3 (0 : Fin 1) r q) = k0_pay4 (F := Ideal) i x3 x4 (ix2 r q) := by
  unfold out0_5
  rw [View.canon_unit_zero hz3]
  simp only [View.ld_unit_zero (S := S1x256x2048) hz3, View.ld_unit_zero (S := S256x2048) hz2]
  unfold k0_pay5
  generalize k0_pay4 (F := Ideal) i x3 x4 = g
  pointwise []

/-- of the step, -/
theorem out6 (i : grid0.Coords) (x0 x1 x2 : Vec Ideal S1x256x2048 .f32) (x3 x4 : Vec Ideal S256x2048 .f32) (r : Fin 256) (q : Fin 2048) :
    out0_6 (F := Ideal) i x0 x1 x2 x3 x4 (ix3 (0 : Fin 1) r q) = step (x0 (ix3 (0 : Fin 1) r q)) (x1 (ix3 (0 : Fin 1) r q)) (x2 (ix3 (0 : Fin 1) r q)) (k0_pay4 (F := Ideal) i x3 x4 (ix2 r q)) := by
  unfold out0_6
  rw [View.canon_unit_zero hz3]
  simp only [View.ld_unit_zero (S := S1x256x2048) hz3, View.ld_unit_zero (S := S256x2048) hz2]
  unfold k0_pay1 k0_pay6 k0_pay9 k0_pay7 k0_pay8
  generalize k0_pay4 (F := Ideal) i x3 x4 = g
  pointwise []
  rfl

/-- of the first moment -/
theorem out7 (i : grid0.Coords) (x0 x1 x2 : Vec Ideal S1x256x2048 .f32) (x3 x4 : Vec Ideal S256x2048 .f32) (r : Fin 256) (q : Fin 2048) :
    out0_7 (F := Ideal) i x0 x1 x2 x3 x4 (ix3 (0 : Fin 1) r q) = first (x1 (ix3 (0 : Fin 1) r q)) (k0_pay4 (F := Ideal) i x3 x4 (ix2 r q)) := by
  unfold out0_7
  rw [View.canon_unit_zero hz3]
  simp only [View.ld_unit_zero (S := S1x256x2048) hz3, View.ld_unit_zero (S := S256x2048) hz2]
  unfold k0_pay2 k0_pay7
  generalize k0_pay4 (F := Ideal) i x3 x4 = g
  pointwise []
  rfl

/-- and of the second. -/
theorem out8 (i : grid0.Coords) (x0 x1 x2 : Vec Ideal S1x256x2048 .f32) (x3 x4 : Vec Ideal S256x2048 .f32) (r : Fin 256) (q : Fin 2048) :
    out0_8 (F := Ideal) i x0 x1 x2 x3 x4 (ix3 (0 : Fin 1) r q) = second (x2 (ix3 (0 : Fin 1) r q)) (k0_pay4 (F := Ideal) i x3 x4 (ix2 r q)) := by
  unfold out0_8
  rw [View.canon_unit_zero hz3]
  simp only [View.ld_unit_zero (S := S1x256x2048) hz3, View.ld_unit_zero (S := S256x2048) hz2]
  unfold k0_pay3 k0_pay8
  generalize k0_pay4 (F := Ideal) i x3 x4 = g
  pointwise []
  rfl

variable (m : (ℓ : Loc nD τ sig) → Buf (Elt Ideal) ℓ) (c : Dev nD)

/-- The arguments as launched: the weight, its two moments, and the gradients. -/
abbrev a0 : Vec Ideal S2x512x2048 .f32 := m ((c : Thread nD τ).loc main_arg0)
abbrev a1 : Vec Ideal S2x512x2048 .f32 := m ((c : Thread nD τ).loc main_arg1)
abbrev a2 : Vec Ideal S2x512x2048 .f32 := m ((c : Thread nD τ).loc main_arg2)
abbrev a3 : Vec Ideal S512x2048 .f32 := m ((c : Thread nD τ).loc main_arg3)
abbrev a4 : Vec Ideal S512x2048 .f32 := m ((c : Thread nD τ).loc main_arg4)
abbrev grads : Vec Ideal S2x512x2048 .f32 := twoLayers (a3 m c) (a4 m c)

/-- Where a point's tile lies. -/
abbrev spot (t : Fin cfg0.N) (r : Fin 256) (q : Fin 2048) : S2x512x2048.Idx :=
  ix3 (⟨t.val / 2, by have := t.isLt; have : cfg0.N = 4 := N_0; omega⟩ : Fin 2)
    (⟨t.val % 2 * 256 + r.val, by have := r.isLt; omega⟩ : Fin 512) q

theorem idx0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)
theorem idx1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)
theorem idx2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)
theorem idx5 : ∀ t : Fin cfg0.N, win0_5.index t 0 = t.val / 2 ∧ win0_5.index t 1 = t.val % 2 ∧ win0_5.index t 2 = 0 :=
  (by decide +kernel : ∀ t : Fin grid0.N, win0_5.index t 0 = t.val / 2 ∧ win0_5.index t 1 = t.val % 2 ∧ win0_5.index t 2 = 0)
theorem idx6 : ∀ t : Fin cfg0.N, win0_6.index t 0 = t.val / 2 ∧ win0_6.index t 1 = t.val % 2 ∧ win0_6.index t 2 = 0 :=
  (by decide +kernel : ∀ t : Fin grid0.N, win0_6.index t 0 = t.val / 2 ∧ win0_6.index t 1 = t.val % 2 ∧ win0_6.index t 2 = 0)
theorem idx7 : ∀ t : Fin cfg0.N, win0_7.index t 0 = t.val / 2 ∧ win0_7.index t 1 = t.val % 2 ∧ win0_7.index t 2 = 0 :=
  (by decide +kernel : ∀ t : Fin grid0.N, win0_7.index t 0 = t.val / 2 ∧ win0_7.index t 1 = t.val % 2 ∧ win0_7.index t 2 = 0)
theorem idx8 : ∀ t : Fin cfg0.N, win0_8.index t 0 = t.val / 2 ∧ win0_8.index t 1 = t.val % 2 ∧ win0_8.index t 2 = 0 :=
  (by decide +kernel : ∀ t : Fin grid0.N, win0_8.index t 0 = t.val / 2 ∧ win0_8.index t 1 = t.val % 2 ∧ win0_8.index t 2 = 0)
theorem idx3 : ∀ t : Fin cfg0.N, t.val / 2 = 0 → win0_3.index t 0 = t.val % 2 ∧ win0_3.index t 1 = 0 :=
  (by decide +kernel : ∀ t : Fin grid0.N, t.val / 2 = 0 → win0_3.index t 0 = t.val % 2 ∧ win0_3.index t 1 = 0)
theorem idx4 : ∀ t : Fin cfg0.N, t.val / 2 = 1 → win0_4.index t 0 = t.val % 2 ∧ win0_4.index t 1 = 0 :=
  (by decide +kernel : ∀ t : Fin grid0.N, t.val / 2 = 1 → win0_4.index t 0 = t.val % 2 ∧ win0_4.index t 1 = 0)

theorem blk0 (t : Fin cfg0.N) (r : Fin 256) (q : Fin 2048) : (iblk m c 0 t : Vec Ideal S1x256x2048 .f32) (ix3 (0 : Fin 1) r q) = a0 m c (spot t r q) := by
  unfold iblk
  rw [View.read_apply]
  show V m c main_arg0 _ = _
  rw [V_main_arg0]
  refine congrArg (a0 m c) ?_
  have h := idx0 t
  funext a
  apply Fin.ext
  match a with
  | ⟨0, _⟩ => show win0_0.index t 0 * 1 + 1 * 0 = t.val / 2; omega
  | ⟨1, _⟩ => show win0_0.index t 1 * 256 + 1 * r.val = t.val % 2 * 256 + r.val; omega
  | ⟨2, _⟩ => show win0_0.index t 2 * 2048 + 1 * q.val = q.val; omega

theorem blk1 (t : Fin cfg0.N) (r : Fin 256) (q : Fin 2048) : (iblk m c 1 t : Vec Ideal S1x256x2048 .f32) (ix3 (0 : Fin 1) r q) = a1 m c (spot t r q) := by
  unfold iblk
  rw [View.read_apply]
  show V m c main_arg1 _ = _
  rw [V_main_arg1]
  refine congrArg (a1 m c) ?_
  have h := idx1 t
  funext a
  apply Fin.ext
  match a with
  | ⟨0, _⟩ => show win0_1.index t 0 * 1 + 1 * 0 = t.val / 2; omega
  | ⟨1, _⟩ => show win0_1.index t 1 * 256 + 1 * r.val = t.val % 2 * 256 + r.val; omega
  | ⟨2, _⟩ => show win0_1.index t 2 * 2048 + 1 * q.val = q.val; omega

theorem blk2 (t : Fin cfg0.N) (r : Fin 256) (q : Fin 2048) : (iblk m c 2 t : Vec Ideal S1x256x2048 .f32) (ix3 (0 : Fin 1) r q) = a2 m c (spot t r q) := by
  unfold iblk
  rw [View.read_apply]
  show V m c main_arg2 _ = _
  rw [V_main_arg2]
  refine congrArg (a2 m c) ?_
  have h := idx2 t
  funext a
  apply Fin.ext
  match a with
  | ⟨0, _⟩ => show win0_2.index t 0 * 1 + 1 * 0 = t.val / 2; omega
  | ⟨1, _⟩ => show win0_2.index t 1 * 256 + 1 * r.val = t.val % 2 * 256 + r.val; omega
  | ⟨2, _⟩ => show win0_2.index t 2 * 2048 + 1 * q.val = q.val; omega

theorem blk3 (t : Fin cfg0.N) (r : Fin 256) (q : Fin 2048) (hl : t.val / 2 = 0) :
    (iblk m c 3 t : Vec Ideal S256x2048 .f32) (ix2 r q) = grads m c (spot t r q) := by
  unfold iblk
  rw [View.read_apply]
  show V m c main_arg3 _ = _
  rw [V_main_arg3]
  unfold grads twoLayers
  rw [if_pos (show (spot t r q 0).val = 0 by exact hl)]
  refine congrArg (a3 m c) ?_
  have h := idx3 t hl
  funext a
  apply Fin.ext
  match a with
  | ⟨0, _⟩ => show win0_3.index t 0 * 256 + 1 * r.val = t.val % 2 * 256 + r.val; omega
  | ⟨1, _⟩ => show win0_3.index t 1 * 2048 + 1 * q.val = q.val; omega

theorem blk4 (t : Fin cfg0.N) (r : Fin 256) (q : Fin 2048) (hl : t.val / 2 = 1) :
    (iblk m c 4 t : Vec Ideal S256x2048 .f32) (ix2 r q) = grads m c (spot t r q) := by
  unfold iblk
  rw [View.read_apply]
  show V m c main_arg4 _ = _
  rw [V_main_arg4]
  unfold grads twoLayers
  rw [if_neg (show ¬(spot t r q 0).val = 0 by show ¬t.val / 2 = 0; omega)]
  refine congrArg (a4 m c) ?_
  have h := idx4 t hl
  funext a
  apply Fin.ext
  match a with
  | ⟨0, _⟩ => show win0_4.index t 0 * 256 + 1 * r.val = t.val % 2 * 256 + r.val; omega
  | ⟨1, _⟩ => show win0_4.index t 1 * 2048 + 1 * q.val = q.val; omega

theorem layer0 : ∀ t : Fin cfg0.N, t.val / 2 = 0 → Scalar.cmpi .eq (BitVec.ofNat 32 (grid0.coords t 0).val) 1#32 = 0#1 :=
  (by decide +kernel : ∀ t : Fin grid0.N, t.val / 2 = 0 → Scalar.cmpi .eq (BitVec.ofNat 32 (grid0.coords t 0).val) 1#32 = 0#1)
theorem layer1 : ∀ t : Fin cfg0.N, t.val / 2 = 1 → Scalar.cmpi .eq (BitVec.ofNat 32 (grid0.coords t 0).val) 1#32 = 1#1 :=
  (by decide +kernel : ∀ t : Fin grid0.N, t.val / 2 = 1 → Scalar.cmpi .eq (BitVec.ofNat 32 (grid0.coords t 0).val) 1#32 = 1#1)

/-- The gradient that the body picks by the layer. -/
theorem picked (t : Fin cfg0.N) (r : Fin 256) (q : Fin 2048) :
    k0_pay4 (F := Ideal) (grid0.coords t) (iblk m c 3 t) (iblk m c 4 t) (ix2 r q) = grads m c (spot t r q) := by
  have hN : cfg0.N = 4 := N_0
  have ht := t.isLt
  unfold k0_pay4
  dsimp only
  rcases (by omega : t.val / 2 = 0 ∨ t.val / 2 = 1) with hl | hl
  · rw [layer0 t hl]
    exact blk3 m c t r q hl
  · rw [layer1 t hl]
    exact blk4 m c t r q hl

theorem onto : ∀ (l : Fin 2) (p : Fin 2), ∃ t : Fin cfg0.N, t.val / 2 = l.val ∧ t.val % 2 = p.val :=
  (by decide +kernel : ∀ (l : Fin 2) (p : Fin 2), ∃ t : Fin grid0.N, t.val / 2 = l.val ∧ t.val % 2 = p.val)

theorem flushed5 (t : Fin cfg0.N) : (dats m 0 c).flushed 5 t = ((cfg0.win 5).blk t).view.read (Elt Ideal) (grads m c) := by
  show (cfg0.win 5).cut (grid0.coords t) ((dats m 0 c).after 5 t) = _
  rw [after0_5]
  funext y
  obtain ⟨r, q, rfl⟩ := tile_index (R := 256) (C := 2048) y
  rw [View.read_apply]
  refine (out5 (grid0.coords t) (iblk m c 0 t) (iblk m c 1 t) (iblk m c 2 t) (iblk m c 3 t) (iblk m c 4 t) r q).trans ?_
  rw [picked m c t r q]
  show (grads m c) (spot t r q) = _
  refine congrArg (grads m c) ?_
  have h := idx5 t
  funext a
  apply Fin.ext
  match a with
  | ⟨0, _⟩ => show t.val / 2 = win0_5.index t 0 * 1 + 1 * 0; omega
  | ⟨1, _⟩ => show t.val % 2 * 256 + r.val = win0_5.index t 1 * 256 + 1 * r.val; omega
  | ⟨2, _⟩ => show q.val = win0_5.index t 2 * 2048 + 1 * q.val; omega

theorem final5 : (dats m 0 c).arrAt 5 cfg0.N = grads m c :=
  (dats m 0 c).arrAt_eq_of_cover 5 (grads m c) (fun t _ => flushed5 m c t) fun i => by
    have h0 : (i 0).val < 2 := (i 0).isLt
    have h1 : (i 1).val < 512 := (i 1).isLt
    have h2 : (i 2).val < 2048 := (i 2).isLt
    obtain ⟨t, e0, e1⟩ := onto ⟨(i 0).val, h0⟩ ⟨(i 1).val / 256, by omega⟩
    dsimp only at e0 e1
    refine ⟨t, flush0_5 t, ?_⟩
    show i ∈ ((View.whole main_v0_0).slice (win0_5.rect t)).set
    rw [View.set_slice_whole, Rect.mem_set_unit]
    have h := idx5 t
    intro a
    match a with
    | ⟨0, _⟩ => show win0_5.index t 0 * 1 ≤ (i 0).val ∧ (i 0).val < win0_5.index t 0 * 1 + 1; omega
    | ⟨1, _⟩ => show win0_5.index t 1 * 256 ≤ (i 1).val ∧ (i 1).val < win0_5.index t 1 * 256 + 256; omega
    | ⟨2, _⟩ => show win0_5.index t 2 * 2048 ≤ (i 2).val ∧ (i 2).val < win0_5.index t 2 * 2048 + 2048; omega

theorem flushed6 (t : Fin cfg0.N) : (dats m 0 c).flushed 6 t = ((cfg0.win 6).blk t).view.read (Elt Ideal) (steps (a0 m c) (a1 m c) (a2 m c) (grads m c)) := by
  show (cfg0.win 6).cut (grid0.coords t) ((dats m 0 c).after 6 t) = _
  rw [after0_6]
  funext y
  obtain ⟨r, q, rfl⟩ := tile_index (R := 256) (C := 2048) y
  rw [View.read_apply]
  refine (out6 (grid0.coords t) (iblk m c 0 t) (iblk m c 1 t) (iblk m c 2 t) (iblk m c 3 t) (iblk m c 4 t) r q).trans ?_
  rw [blk0 m c t r q, blk1 m c t r q, blk2 m c t r q, picked m c t r q]
  show (steps (a0 m c) (a1 m c) (a2 m c) (grads m c)) (spot t r q) = _
  refine congrArg (steps (a0 m c) (a1 m c) (a2 m c) (grads m c)) ?_
  have h := idx6 t
  funext a
  apply Fin.ext
  match a with
  | ⟨0, _⟩ => show t.val / 2 = win0_6.index t 0 * 1 + 1 * 0; omega
  | ⟨1, _⟩ => show t.val % 2 * 256 + r.val = win0_6.index t 1 * 256 + 1 * r.val; omega
  | ⟨2, _⟩ => show q.val = win0_6.index t 2 * 2048 + 1 * q.val; omega

theorem final6 : (dats m 0 c).arrAt 6 cfg0.N = steps (a0 m c) (a1 m c) (a2 m c) (grads m c) :=
  (dats m 0 c).arrAt_eq_of_cover 6 (steps (a0 m c) (a1 m c) (a2 m c) (grads m c)) (fun t _ => flushed6 m c t) fun i => by
    have h0 : (i 0).val < 2 := (i 0).isLt
    have h1 : (i 1).val < 512 := (i 1).isLt
    have h2 : (i 2).val < 2048 := (i 2).isLt
    obtain ⟨t, e0, e1⟩ := onto ⟨(i 0).val, h0⟩ ⟨(i 1).val / 256, by omega⟩
    dsimp only at e0 e1
    refine ⟨t, flush0_6 t, ?_⟩
    show i ∈ ((View.whole main_v0_1).slice (win0_6.rect t)).set
    rw [View.set_slice_whole, Rect.mem_set_unit]
    have h := idx6 t
    intro a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 2048 ≤ (i 2).val ∧ (i 2).val < win0_6.index t 2 * 2048 + 2048; omega

theorem flushed7 (t : Fin cfg0.N) : (dats m 0 c).flushed 7 t = ((cfg0.win 7).blk t).view.read (Elt Ideal) (firsts (a1 m c) (grads m c)) := by
  show (cfg0.win 7).cut (grid0.coords t) ((dats m 0 c).after 7 t) = _
  rw [after0_7]
  funext y
  obtain ⟨r, q, rfl⟩ := tile_index (R := 256) (C := 2048) y
  rw [View.read_apply]
  refine (out7 (grid0.coords t) (iblk m c 0 t) (iblk m c 1 t) (iblk m c 2 t) (iblk m c 3 t) (iblk m c 4 t) r q).trans ?_
  rw [blk1 m c t r q, picked m c t r q]
  show (firsts (a1 m c) (grads m c)) (spot t r q) = _
  refine congrArg (firsts (a1 m c) (grads m c)) ?_
  have h := idx7 t
  funext a
  apply Fin.ext
  match a with
  | ⟨0, _⟩ => show t.val / 2 = win0_7.index t 0 * 1 + 1 * 0; omega
  | ⟨1, _⟩ => show t.val % 2 * 256 + r.val = win0_7.index t 1 * 256 + 1 * r.val; omega
  | ⟨2, _⟩ => show q.val = win0_7.index t 2 * 2048 + 1 * q.val; omega

theorem final7 : (dats m 0 c).arrAt 7 cfg0.N = firsts (a1 m c) (grads m c) :=
  (dats m 0 c).arrAt_eq_of_cover 7 (firsts (a1 m c) (grads m c)) (fun t _ => flushed7 m c t) fun i => by
    have h0 : (i 0).val < 2 := (i 0).isLt
    have h1 : (i 1).val < 512 := (i 1).isLt
    have h2 : (i 2).val < 2048 := (i 2).isLt
    obtain ⟨t, e0, e1⟩ := onto ⟨(i 0).val, h0⟩ ⟨(i 1).val / 256, by omega⟩
    dsimp only at e0 e1
    refine ⟨t, flush0_7 t, ?_⟩
    show i ∈ ((View.whole main_v0_2).slice (win0_7.rect t)).set
    rw [View.set_slice_whole, Rect.mem_set_unit]
    have h := idx7 t
    intro a
    match a with
    | ⟨0, _⟩ => show win0_7.index t 0 * 1 ≤ (i 0).val ∧ (i 0).val < win0_7.index t 0 * 1 + 1; omega
    | ⟨1, _⟩ => show win0_7.index t 1 * 256 ≤ (i 1).val ∧ (i 1).val < win0_7.index t 1 * 256 + 256; omega
    | ⟨2, _⟩ => show win0_7.index t 2 * 2048 ≤ (i 2).val ∧ (i 2).val < win0_7.index t 2 * 2048 + 2048; omega

theorem flushed8 (t : Fin cfg0.N) : (dats m 0 c).flushed 8 t = ((cfg0.win 8).blk t).view.read (Elt Ideal) (seconds (a2 m c) (grads m c)) := by
  show (cfg0.win 8).cut (grid0.coords t) ((dats m 0 c).after 8 t) = _
  rw [after0_8]
  funext y
  obtain ⟨r, q, rfl⟩ := tile_index (R := 256) (C := 2048) y
  rw [View.read_apply]
  refine (out8 (grid0.coords t) (iblk m c 0 t) (iblk m c 1 t) (iblk m c 2 t) (iblk m c 3 t) (iblk m c 4 t) r q).trans ?_
  rw [blk2 m c t r q, picked m c t r q]
  show (seconds (a2 m c) (grads m c)) (spot t r q) = _
  refine congrArg (seconds (a2 m c) (grads m c)) ?_
  have h := idx8 t
  funext a
  apply Fin.ext
  match a with
  | ⟨0, _⟩ => show t.val / 2 = win0_8.index t 0 * 1 + 1 * 0; omega
  | ⟨1, _⟩ => show t.val % 2 * 256 + r.val = win0_8.index t 1 * 256 + 1 * r.val; omega
  | ⟨2, _⟩ => show q.val = win0_8.index t 2 * 2048 + 1 * q.val; omega

theorem final8 : (dats m 0 c).arrAt 8 cfg0.N = seconds (a2 m c) (grads m c) :=
  (dats m 0 c).arrAt_eq_of_cover 8 (seconds (a2 m c) (grads m c)) (fun t _ => flushed8 m c t) fun i => by
    have h0 : (i 0).val < 2 := (i 0).isLt
    have h1 : (i 1).val < 512 := (i 1).isLt
    have h2 : (i 2).val < 2048 := (i 2).isLt
    obtain ⟨t, e0, e1⟩ := onto ⟨(i 0).val, h0⟩ ⟨(i 1).val / 256, by omega⟩
    dsimp only at e0 e1
    refine ⟨t, flush0_8 t, ?_⟩
    show i ∈ ((View.whole main_v0_3).slice (win0_8.rect t)).set
    rw [View.set_slice_whole, Rect.mem_set_unit]
    have h := idx8 t
    intro a
    match a with
    | ⟨0, _⟩ => show win0_8.index t 0 * 1 ≤ (i 0).val ∧ (i 0).val < win0_8.index t 0 * 1 + 1; omega
    | ⟨1, _⟩ => show win0_8.index t 1 * 256 ≤ (i 1).val ∧ (i 1).val < win0_8.index t 1 * 256 + 256; omega
    | ⟨2, _⟩ => show win0_8.index t 2 * 2048 ≤ (i 2).val ∧ (i 2).val < win0_8.index t 2 * 2048 + 2048; omega

end Cert.Kernel29Ideal.Product

end
-- ==== Proof.AdamOut.lean ====
/- The optimiser's step of `w_out`: what the grid of 8 tiles leaves in the four results, and the reference's. -/
module

public import proofs.«01_k».proof.Proof.Adam
public import proofs.«01_k».proof.Proof.Gen.Kernel30Ideal.Value
public import proofs.«01_k».proof.Proof.Gen.Reference30Ideal.Read
public import Idealize.ShloMosaic.Lib.Pointwise
public import Idealize.ShloMosaic.Lib.WritesUnit
public import Idealize.ShloMosaic.Lib.Tactic

@[expose] public section

set_option maxRecDepth 16384

noncomputable section

namespace Cert.Reference30Ideal.Product

open Idealize.ShloMosaic Cert.Reference30Ideal Cert.Reference30Ideal.Read Cert.Adam

theorem grads_eq (g h : Vec Ideal S1024x2048 .f32) : val_main_v2 (F := Ideal) g h = twoLayers g h := by
  funext i
  obtain ⟨l, r, q, rfl⟩ : ∃ l r q, i = ix3 l r q := ⟨i 0, i 1, i 2, eq_ix3 i⟩
  unfold val_main_v2 twoLayers
  by_cases hl : l.val = 0
  · refine Eq.trans ?_ (if_pos hl).symm
    refine (concatenate_pair_apply_left (t := S2x1024x2048) (s₁ := S1x1024x2048) (0 : Fin 3) _ _ _ _ rfl (ix3 (0 : Fin 1) r q) fun b => ?_).trans ?_
    · match b with
      | ⟨0, _⟩ => exact hl.symm
      | ⟨1, _⟩ => rfl
      | ⟨2, _⟩ => rfl
    · rw [val_main_v0_apply]
      refine congrArg g ?_
      funext a
      match a with
      | ⟨0, _⟩ => rfl
      | ⟨1, _⟩ => rfl
  · refine Eq.trans ?_ (if_neg hl).symm
    refine (concatenate_pair_apply_right (t := S2x1024x2048) (s₁ := S1x1024x2048) (s₂ := S1x1024x2048) (0 : Fin 3) _ _ _ _ rfl rfl
      (ix3 (0 : Fin 1) r q) (fun b hb => ?_) ?_).trans ?_
    · match b with
      | ⟨0, _⟩ => exact absurd rfl hb
      | ⟨1, _⟩ => rfl
      | ⟨2, _⟩ => rfl
    · have := l.isLt
      show 0 + 1 = l.val; omega
    · rw [val_main_v1_apply]
      refine congrArg h ?_
      funext a
      match a with
      | ⟨0, _⟩ => rfl
      | ⟨1, _⟩ => rfl

theorem firsts_eq (m : Vec Ideal S2x1024x2048 .f32) (g h : Vec Ideal S1024x2048 .f32) : val_main_v7 (F := Ideal) m g h = firsts m (twoLayers g h) := by
  funext i
  rw [val_main_v7_apply, val_main_v4_apply, val_main_v3_apply, val_main_cst_apply, val_main_v6_apply, val_main_v5_apply, val_main_cst_0_apply, grads_eq]
  rfl

theorem seconds_eq (v : Vec Ideal S2x1024x2048 .f32) (g h : Vec Ideal S1024x2048 .f32) : val_main_v13 (F := Ideal) v g h = seconds v (twoLayers g h) := by
  funext i
  rw [val_main_v13_apply, val_main_v9_apply, val_main_v8_apply, val_main_cst_1_apply, val_main_v12_apply, val_main_v11_apply, val_main_cst_2_apply, val_main_v10_apply, grads_eq]
  rfl

theorem steps_eq (w m v : Vec Ideal S2x1024x2048 .f32) (g h : Vec Ideal S1024x2048 .f32) : val_main_v26 (F := Ideal) w m v g h = steps w m v (twoLayers g h) := by
  funext i
  rw [val_main_v26_apply, val_main_v25_apply, val_main_cst_7_apply, val_main_v24_apply, val_main_v23_apply, val_main_v22_apply, val_main_cst_6_apply, val_main_v21_apply, val_main_v15_apply, val_main_v14_apply,
    val_main_cst_3_apply, val_main_v20_apply, val_main_v19_apply, val_main_cst_5_apply, val_main_v18_apply, val_main_v17_apply, val_main_v16_apply, val_main_cst_4_apply, firsts_eq, seconds_eq]
  rfl

end Cert.Reference30Ideal.Product

namespace Cert.Kernel30Ideal.Product

open Idealize.ShloMosaic Idealize.ShloMosaic.TcCoe Idealize.SL.Sem Cert.Kernel30Ideal Cert.Kernel30Ideal.Gen Cert.Adam

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A tile of the gradient, -/
theorem out5 (i : grid0.Coords) (x0 x1 x2 : Vec Ideal S1x256x2048 .f32) (x3 x4 : Vec Ideal S256x2048 .f32) (r : Fin 256) (q : Fin 2048) :
    out0_5 (F := Ideal) i x0 x1 x2 x3 x4 (ix3 (0 : Fin 1) r q) = k0_pay4 (F := Ideal) i x3 x4 (ix2 r q) := by
  unfold out0_5
  rw [View.canon_unit_zero hz3]
  simp only [View.ld_unit_zero (S := S1x256x2048) hz3, View.ld_unit_zero (S := S256x2048) hz2]
  unfold k0_pay5
  generalize k0_pay4 (F := Ideal) i x3 x4 = g
  pointwise []

/-- of the step, -/
theorem out6 (i : grid0.Coords) (x0 x1 x2 : Vec Ideal S1x256x2048 .f32) (x3 x4 : Vec Ideal S256x2048 .f32) (r : Fin 256) (q : Fin 2048) :
    out0_6 (F := Ideal) i x0 x1 x2 x3 x4 (ix3 (0 : Fin 1) r q) = step (x0 (ix3 (0 : Fin 1) r q)) (x1 (ix3 (0 : Fin 1) r q)) (x2 (ix3 (0 : Fin 1) r q)) (k0_pay4 (F := Ideal) i x3 x4 (ix2 r q)) := by
  unfold out0_6
  rw [View.canon_unit_zero hz3]
  simp only [View.ld_unit_zero (S := S1x256x2048) hz3, View.ld_unit_zero (S := S256x2048) hz2]
  unfold k0_pay1 k0_pay6 k0_pay9 k0_pay7 k0_pay8
  generalize k0_pay4 (F := Ideal) i x3 x4 = g
  pointwise []
  rfl

/-- of the first moment -/
theorem out7 (i : grid0.Coords) (x0 x1 x2 : Vec Ideal S1x256x2048 .f32) (x3 x4 : Vec Ideal S256x2048 .f32) (r : Fin 256) (q : Fin 2048) :
    out0_7 (F := Ideal) i x0 x1 x2 x3 x4 (ix3 (0 : Fin 1) r q) = first (x1 (ix3 (0 : Fin 1) r q)) (k0_pay4 (F := Ideal) i x3 x4 (ix2 r q)) := by
  unfold out0_7
  rw [View.canon_unit_zero hz3]
  simp only [View.ld_unit_zero (S := S1x256x2048) hz3, View.ld_unit_zero (S := S256x2048) hz2]
  unfold k0_pay2 k0_pay7
  generalize k0_pay4 (F := Ideal) i x3 x4 = g
  pointwise []
  rfl

/-- and of the second. -/
theorem out8 (i : grid0.Coords) (x0 x1 x2 : Vec Ideal S1x256x2048 .f32) (x3 x4 : Vec Ideal S256x2048 .f32) (r : Fin 256) (q : Fin 2048) :
    out0_8 (F := Ideal) i x0 x1 x2 x3 x4 (ix3 (0 : Fin 1) r q) = second (x2 (ix3 (0 : Fin 1) r q)) (k0_pay4 (F := Ideal) i x3 x4 (ix2 r q)) := by
  unfold out0_8
  rw [View.canon_unit_zero hz3]
  simp only [View.ld_unit_zero (S := S1x256x2048) hz3, View.ld_unit_zero (S := S256x2048) hz2]
  unfold k0_pay3 k0_pay8
  generalize k0_pay4 (F := Ideal) i x3 x4 = g
  pointwise []
  rfl

variable (m : (ℓ : Loc nD τ sig) → Buf (Elt Ideal) ℓ) (c : Dev nD)

/-- The arguments as launched: the weight, its two moments, and the gradients. -/
abbrev a0 : Vec Ideal S2x1024x2048 .f32 := m ((c : Thread nD τ).loc main_arg0)
abbrev a1 : Vec Ideal S2x1024x2048 .f32 := m ((c : Thread nD τ).loc main_arg1)
abbrev a2 : Vec Ideal S2x1024x2048 .f32 := m ((c : Thread nD τ).loc main_arg2)
abbrev a3 : Vec Ideal S1024x2048 .f32 := m ((c : Thread nD τ).loc main_arg3)
abbrev a4 : Vec Ideal S1024x2048 .f32 := m ((c : Thread nD τ).loc main_arg4)
abbrev grads : Vec Ideal S2x1024x2048 .f32 := twoLayers (a3 m c) (a4 m c)

/-- Where a point's tile lies. -/
abbrev spot (t : Fin cfg0.N) (r : Fin 256) (q : Fin 2048) : S2x1024x2048.Idx :=
  ix3 (⟨t.val / 4, by have := t.isLt; have : cfg0.N = 8 := N_0; omega⟩ : Fin 2)
    (⟨t.val % 4 * 256 + r.val, by have := r.isLt; omega⟩ : Fin 1024) q

theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem idx1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem idx2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem idx5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)
theorem idx6 : ∀ t : Fin cfg0.N, win0_6.index t 0 = t.val / 4 ∧ win0_6.index t 1 = t.val % 4 ∧ win0_6.index t 2 = 0 :=
  (by decide +kernel : ∀ t : Fin grid0.N, win0_6.index t 0 = t.val / 4 ∧ win0_6.index t 1 = t.val % 4 ∧ win0_6.index t 2 = 0)
theorem idx7 : ∀ t : Fin cfg0.N, win0_7.index t 0 = t.val / 4 ∧ win0_7.index t 1 = t.val % 4 ∧ win0_7.index t 2 = 0 :=
  (by decide +kernel : ∀ t : Fin grid0.N, win0_7.index t 0 = t.val / 4 ∧ win0_7.index t 1 = t.val % 4 ∧ win0_7.index t 2 = 0)
theorem idx8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)
theorem idx3 : ∀ t : Fin cfg0.N, t.val / 4 = 0 → win0_3.index t 0 = t.val % 4 ∧ win0_3.index t 1 = 0 :=
  (by decide +kernel : ∀ t : Fin grid0.N, t.val / 4 = 0 → win0_3.index t 0 = t.val % 4 ∧ win0_3.index t 1 = 0)
theorem idx4 : ∀ t : Fin cfg0.N, t.val / 4 = 1 → win0_4.index t 0 = t.val % 4 ∧ win0_4.index t 1 = 0 :=
  (by decide +kernel : ∀ t : Fin grid0.N, t.val / 4 = 1 → win0_4.index t 0 = t.val % 4 ∧ win0_4.index t 1 = 0)

theorem blk0 (t : Fin cfg0.N) (r : Fin 256) (q : Fin 2048) : (iblk m c 0 t : Vec Ideal S1x256x2048 .f32) (ix3 (0 : Fin 1) r q) = a0 m c (spot t r q) := by
  unfold iblk
  rw [View.read_apply]
  show V m c main_arg0 _ = _
  rw [V_main_arg0]
  refine congrArg (a0 m c) ?_
  have h := idx0 t
  funext a
  apply Fin.ext
  match a with
  | ⟨0, _⟩ => show win0_0.index t 0 * 1 + 1 * 0 = t.val / 4; omega
  | ⟨1, _⟩ => show win0_0.index t 1 * 256 + 1 * r.val = t.val % 4 * 256 + r.val; omega
  | ⟨2, _⟩ => show win0_0.index t 2 * 2048 + 1 * q.val = q.val; omega

theorem blk1 (t : Fin cfg0.N) (r : Fin 256) (q : Fin 2048) : (iblk m c 1 t : Vec Ideal S1x256x2048 .f32) (ix3 (0 : Fin 1) r q) = a1 m c (spot t r q) := by
  unfold iblk
  rw [View.read_apply]
  show V m c main_arg1 _ = _
  rw [V_main_arg1]
  refine congrArg (a1 m c) ?_
  have h := idx1 t
  funext a
  apply Fin.ext
  match a with
  | ⟨0, _⟩ => show win0_1.index t 0 * 1 + 1 * 0 = t.val / 4; omega
  | ⟨1, _⟩ => show win0_1.index t 1 * 256 + 1 * r.val = t.val % 4 * 256 + r.val; omega
  | ⟨2, _⟩ => show win0_1.index t 2 * 2048 + 1 * q.val = q.val; omega

theorem blk2 (t : Fin cfg0.N) (r : Fin 256) (q : Fin 2048) : (iblk m c 2 t : Vec Ideal S1x256x2048 .f32) (ix3 (0 : Fin 1) r q) = a2 m c (spot t r q) := by
  unfold iblk
  rw [View.read_apply]
  show V m c main_arg2 _ = _
  rw [V_main_arg2]
  refine congrArg (a2 m c) ?_
  have h := idx2 t
  funext a
  apply Fin.ext
  match a with
  | ⟨0, _⟩ => show win0_2.index t 0 * 1 + 1 * 0 = t.val / 4; omega
  | ⟨1, _⟩ => show win0_2.index t 1 * 256 + 1 * r.val = t.val % 4 * 256 + r.val; omega
  | ⟨2, _⟩ => show win0_2.index t 2 * 2048 + 1 * q.val = q.val; omega

theorem blk3 (t : Fin cfg0.N) (r : Fin 256) (q : Fin 2048) (hl : t.val / 4 = 0) :
    (iblk m c 3 t : Vec Ideal S256x2048 .f32) (ix2 r q) = grads m c (spot t r q) := by
  unfold iblk
  rw [View.read_apply]
  show V m c main_arg3 _ = _
  rw [V_main_arg3]
  unfold grads twoLayers
  rw [if_pos (show (spot t r q 0).val = 0 by exact hl)]
  refine congrArg (a3 m c) ?_
  have h := idx3 t hl
  funext a
  apply Fin.ext
  match a with
  | ⟨0, _⟩ => show win0_3.index t 0 * 256 + 1 * r.val = t.val % 4 * 256 + r.val; omega
  | ⟨1, _⟩ => show win0_3.index t 1 * 2048 + 1 * q.val = q.val; omega

theorem blk4 (t : Fin cfg0.N) (r : Fin 256) (q : Fin 2048) (hl : t.val / 4 = 1) :
    (iblk m c 4 t : Vec Ideal S256x2048 .f32) (ix2 r q) = grads m c (spot t r q) := by
  unfold iblk
  rw [View.read_apply]
  show V m c main_arg4 _ = _
  rw [V_main_arg4]
  unfold grads twoLayers
  rw [if_neg (show ¬(spot t r q 0).val = 0 by show ¬t.val / 4 = 0; omega)]
  refine congrArg (a4 m c) ?_
  have h := idx4 t hl
  funext a
  apply Fin.ext
  match a with
  | ⟨0, _⟩ => show win0_4.index t 0 * 256 + 1 * r.val = t.val % 4 * 256 + r.val; omega
  | ⟨1, _⟩ => show win0_4.index t 1 * 2048 + 1 * q.val = q.val; omega

theorem layer0 : ∀ t : Fin cfg0.N, t.val / 4 = 0 → Scalar.cmpi .eq (BitVec.ofNat 32 (grid0.coords t 0).val) 1#32 = 0#1 :=
  (by decide +kernel : ∀ t : Fin grid0.N, t.val / 4 = 0 → Scalar.cmpi .eq (BitVec.ofNat 32 (grid0.coords t 0).val) 1#32 = 0#1)
theorem layer1 : ∀ t : Fin cfg0.N, t.val / 4 = 1 → Scalar.cmpi .eq (BitVec.ofNat 32 (grid0.coords t 0).val) 1#32 = 1#1 :=
  (by decide +kernel : ∀ t : Fin grid0.N, t.val / 4 = 1 → Scalar.cmpi .eq (BitVec.ofNat 32 (grid0.coords t 0).val) 1#32 = 1#1)

/-- The gradient that the body picks by the layer. -/
theorem picked (t : Fin cfg0.N) (r : Fin 256) (q : Fin 2048) :
    k0_pay4 (F := Ideal) (grid0.coords t) (iblk m c 3 t) (iblk m c 4 t) (ix2 r q) = grads m c (spot t r q) := by
  have hN : cfg0.N = 8 := N_0
  have ht := t.isLt
  unfold k0_pay4
  dsimp only
  rcases (by omega : t.val / 4 = 0 ∨ t.val / 4 = 1) with hl | hl
  · rw [layer0 t hl]
    exact blk3 m c t r q hl
  · rw [layer1 t hl]
    exact blk4 m c t r q hl

theorem onto : ∀ (l : Fin 2) (p : Fin 4), ∃ t : Fin cfg0.N, t.val / 4 = l.val ∧ t.val % 4 = p.val :=
  (by decide +kernel : ∀ (l : Fin 2) (p : Fin 4), ∃ t : Fin grid0.N, t.val / 4 = l.val ∧ t.val % 4 = p.val)

theorem flushed5 (t : Fin cfg0.N) : (dats m 0 c).flushed 5 t = ((cfg0.win 5).blk t).view.read (Elt Ideal) (grads m c) := by
  show (cfg0.win 5).cut (grid0.coords t) ((dats m 0 c).after 5 t) = _
  rw [after0_5]
  funext y
  obtain ⟨r, q, rfl⟩ := tile_index (R := 256) (C := 2048) y
  rw [View.read_apply]
  refine (out5 (grid0.coords t) (iblk m c 0 t) (iblk m c 1 t) (iblk m c 2 t) (iblk m c 3 t) (iblk m c 4 t) r q).trans ?_
  rw [picked m c t r q]
  show (grads m c) (spot t r q) = _
  refine congrArg (grads m c) ?_
  have h := idx5 t
  funext a
  apply Fin.ext
  match a with
  | ⟨0, _⟩ => show t.val / 4 = win0_5.index t 0 * 1 + 1 * 0; omega
  | ⟨1, _⟩ => show t.val % 4 * 256 + r.val = win0_5.index t 1 * 256 + 1 * r.val; omega
  | ⟨2, _⟩ => show q.val = win0_5.index t 2 * 2048 + 1 * q.val; omega

theorem final5 : (dats m 0 c).arrAt 5 cfg0.N = grads m c :=
  (dats m 0 c).arrAt_eq_of_cover 5 (grads m c) (fun t _ => flushed5 m c t) fun i => by
    have h0 : (i 0).val < 2 := (i 0).isLt
    have h1 : (i 1).val < 1024 := (i 1).isLt
    have h2 : (i 2).val < 2048 := (i 2).isLt
    obtain ⟨t, e0, e1⟩ := onto ⟨(i 0).val, h0⟩ ⟨(i 1).val / 256, by omega⟩
    dsimp only at e0 e1
    refine ⟨t, flush0_5 t, ?_⟩
    show i ∈ ((View.whole main_v0_0).slice (win0_5.rect t)).set
    rw [View.set_slice_whole, Rect.mem_set_unit]
    have h := idx5 t
    intro a
    match a with
    | ⟨0, _⟩ => show win0_5.index t 0 * 1 ≤ (i 0).val ∧ (i 0).val < win0_5.index t 0 * 1 + 1; omega
    | ⟨1, _⟩ => show win0_5.index t 1 * 256 ≤ (i 1).val ∧ (i 1).val < win0_5.index t 1 * 256 + 256; omega
    | ⟨2, _⟩ => show win0_5.index t 2 * 2048 ≤ (i 2).val ∧ (i 2).val < win0_5.index t 2 * 2048 + 2048; omega

theorem flushed6 (t : Fin cfg0.N) : (dats m 0 c).flushed 6 t = ((cfg0.win 6).blk t).view.read (Elt Ideal) (steps (a0 m c) (a1 m c) (a2 m c) (grads m c)) := by
  show (cfg0.win 6).cut (grid0.coords t) ((dats m 0 c).after 6 t) = _
  rw [after0_6]
  funext y
  obtain ⟨r, q, rfl⟩ := tile_index (R := 256) (C := 2048) y
  rw [View.read_apply]
  refine (out6 (grid0.coords t) (iblk m c 0 t) (iblk m c 1 t) (iblk m c 2 t) (iblk m c 3 t) (iblk m c 4 t) r q).trans ?_
  rw [blk0 m c t r q, blk1 m c t r q, blk2 m c t r q, picked m c t r q]
  show (steps (a0 m c) (a1 m c) (a2 m c) (grads m c)) (spot t r q) = _
  refine congrArg (steps (a0 m c) (a1 m c) (a2 m c) (grads m c)) ?_
  have h := idx6 t
  funext a
  apply Fin.ext
  match a with
  | ⟨0, _⟩ => show t.val / 4 = win0_6.index t 0 * 1 + 1 * 0; omega
  | ⟨1, _⟩ => show t.val % 4 * 256 + r.val = win0_6.index t 1 * 256 + 1 * r.val; omega
  | ⟨2, _⟩ => show q.val = win0_6.index t 2 * 2048 + 1 * q.val; omega

theorem final6 : (dats m 0 c).arrAt 6 cfg0.N = steps (a0 m c) (a1 m c) (a2 m c) (grads m c) :=
  (dats m 0 c).arrAt_eq_of_cover 6 (steps (a0 m c) (a1 m c) (a2 m c) (grads m c)) (fun t _ => flushed6 m c t) fun i => by
    have h0 : (i 0).val < 2 := (i 0).isLt
    have h1 : (i 1).val < 1024 := (i 1).isLt
    have h2 : (i 2).val < 2048 := (i 2).isLt
    obtain ⟨t, e0, e1⟩ := onto ⟨(i 0).val, h0⟩ ⟨(i 1).val / 256, by omega⟩
    dsimp only at e0 e1
    refine ⟨t, flush0_6 t, ?_⟩
    show i ∈ ((View.whole main_v0_1).slice (win0_6.rect t)).set
    rw [View.set_slice_whole, Rect.mem_set_unit]
    have h := idx6 t
    intro a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 2048 ≤ (i 2).val ∧ (i 2).val < win0_6.index t 2 * 2048 + 2048; omega

theorem flushed7 (t : Fin cfg0.N) : (dats m 0 c).flushed 7 t = ((cfg0.win 7).blk t).view.read (Elt Ideal) (firsts (a1 m c) (grads m c)) := by
  show (cfg0.win 7).cut (grid0.coords t) ((dats m 0 c).after 7 t) = _
  rw [after0_7]
  funext y
  obtain ⟨r, q, rfl⟩ := tile_index (R := 256) (C := 2048) y
  rw [View.read_apply]
  refine (out7 (grid0.coords t) (iblk m c 0 t) (iblk m c 1 t) (iblk m c 2 t) (iblk m c 3 t) (iblk m c 4 t) r q).trans ?_
  rw [blk1 m c t r q, picked m c t r q]
  show (firsts (a1 m c) (grads m c)) (spot t r q) = _
  refine congrArg (firsts (a1 m c) (grads m c)) ?_
  have h := idx7 t
  funext a
  apply Fin.ext
  match a with
  | ⟨0, _⟩ => show t.val / 4 = win0_7.index t 0 * 1 + 1 * 0; omega
  | ⟨1, _⟩ => show t.val % 4 * 256 + r.val = win0_7.index t 1 * 256 + 1 * r.val; omega
  | ⟨2, _⟩ => show q.val = win0_7.index t 2 * 2048 + 1 * q.val; omega

theorem final7 : (dats m 0 c).arrAt 7 cfg0.N = firsts (a1 m c) (grads m c) :=
  (dats m 0 c).arrAt_eq_of_cover 7 (firsts (a1 m c) (grads m c)) (fun t _ => flushed7 m c t) fun i => by
    have h0 : (i 0).val < 2 := (i 0).isLt
    have h1 : (i 1).val < 1024 := (i 1).isLt
    have h2 : (i 2).val < 2048 := (i 2).isLt
    obtain ⟨t, e0, e1⟩ := onto ⟨(i 0).val, h0⟩ ⟨(i 1).val / 256, by omega⟩
    dsimp only at e0 e1
    refine ⟨t, flush0_7 t, ?_⟩
    show i ∈ ((View.whole main_v0_2).slice (win0_7.rect t)).set
    rw [View.set_slice_whole, Rect.mem_set_unit]
    have h := idx7 t
    intro a
    match a with
    | ⟨0, _⟩ => show win0_7.index t 0 * 1 ≤ (i 0).val ∧ (i 0).val < win0_7.index t 0 * 1 + 1; omega
    | ⟨1, _⟩ => show win0_7.index t 1 * 256 ≤ (i 1).val ∧ (i 1).val < win0_7.index t 1 * 256 + 256; omega
    | ⟨2, _⟩ => show win0_7.index t 2 * 2048 ≤ (i 2).val ∧ (i 2).val < win0_7.index t 2 * 2048 + 2048; omega

theorem flushed8 (t : Fin cfg0.N) : (dats m 0 c).flushed 8 t = ((cfg0.win 8).blk t).view.read (Elt Ideal) (seconds (a2 m c) (grads m c)) := by
  show (cfg0.win 8).cut (grid0.coords t) ((dats m 0 c).after 8 t) = _
  rw [after0_8]
  funext y
  obtain ⟨r, q, rfl⟩ := tile_index (R := 256) (C := 2048) y
  rw [View.read_apply]
  refine (out8 (grid0.coords t) (iblk m c 0 t) (iblk m c 1 t) (iblk m c 2 t) (iblk m c 3 t) (iblk m c 4 t) r q).trans ?_
  rw [blk2 m c t r q, picked m c t r q]
  show (seconds (a2 m c) (grads m c)) (spot t r q) = _
  refine congrArg (seconds (a2 m c) (grads m c)) ?_
  have h := idx8 t
  funext a
  apply Fin.ext
  match a with
  | ⟨0, _⟩ => show t.val / 4 = win0_8.index t 0 * 1 + 1 * 0; omega
  | ⟨1, _⟩ => show t.val % 4 * 256 + r.val = win0_8.index t 1 * 256 + 1 * r.val; omega
  | ⟨2, _⟩ => show q.val = win0_8.index t 2 * 2048 + 1 * q.val; omega

theorem final8 : (dats m 0 c).arrAt 8 cfg0.N = seconds (a2 m c) (grads m c) :=
  (dats m 0 c).arrAt_eq_of_cover 8 (seconds (a2 m c) (grads m c)) (fun t _ => flushed8 m c t) fun i => by
    have h0 : (i 0).val < 2 := (i 0).isLt
    have h1 : (i 1).val < 1024 := (i 1).isLt
    have h2 : (i 2).val < 2048 := (i 2).isLt
    obtain ⟨t, e0, e1⟩ := onto ⟨(i 0).val, h0⟩ ⟨(i 1).val / 256, by omega⟩
    dsimp only at e0 e1
    refine ⟨t, flush0_8 t, ?_⟩
    show i ∈ ((View.whole main_v0_3).slice (win0_8.rect t)).set
    rw [View.set_slice_whole, Rect.mem_set_unit]
    have h := idx8 t
    intro a
    match a with
    | ⟨0, _⟩ => show win0_8.index t 0 * 1 ≤ (i 0).val ∧ (i 0).val < win0_8.index t 0 * 1 + 1; omega
    | ⟨1, _⟩ => show win0_8.index t 1 * 256 ≤ (i 1).val ∧ (i 1).val < win0_8.index t 1 * 256 + 256; omega
    | ⟨2, _⟩ => show win0_8.index t 2 * 2048 ≤ (i 2).val ∧ (i 2).val < win0_8.index t 2 * 2048 + 2048; omega

end Cert.Kernel30Ideal.Product

end
-- ==== Proof.AdamPoolIn.lean ====
/- The optimiser's step of `pool_w_in`: what the grid of 8 tiles leaves in the four results, and the reference's. -/
module

public import proofs.«01_k».proof.Proof.Adam
public import proofs.«01_k».proof.Proof.Gen.Kernel31Ideal.Value
public import proofs.«01_k».proof.Proof.Gen.Reference31Ideal.Read
public import Idealize.ShloMosaic.Lib.Pointwise
public import Idealize.ShloMosaic.Lib.WritesUnit
public import Idealize.ShloMosaic.Lib.Tactic

@[expose] public section

set_option maxRecDepth 16384

noncomputable section

namespace Cert.Reference31Ideal.Product

open Idealize.ShloMosaic Cert.Reference31Ideal Cert.Reference31Ideal.Read Cert.Adam

theorem grads_eq (g : Vec Ideal S2048x2048 .f32) : val_main_v0 (F := Ideal) g = oneLayer g := by
  funext i
  rw [val_main_v0_apply]
  refine congrArg g ?_
  funext a
  match a with
  | ⟨0, _⟩ => rfl
  | ⟨1, _⟩ => rfl

theorem firsts_eq (m : Vec Ideal S1x2048x2048 .f32) (g : Vec Ideal S2048x2048 .f32) : val_main_v6 (F := Ideal) m g = firsts m (oneLayer g) := by
  funext i
  rw [val_main_v6_apply, val_main_v3_apply, val_main_v2_apply, val_main_cst_apply, val_main_v5_apply, val_main_v4_apply, val_main_cst_0_apply, show val_main_v1 (F := Ideal) g = oneLayer g from grads_eq g]
  rfl

theorem seconds_eq (v : Vec Ideal S1x2048x2048 .f32) (g : Vec Ideal S2048x2048 .f32) : val_main_v12 (F := Ideal) v g = seconds v (oneLayer g) := by
  funext i
  rw [val_main_v12_apply, val_main_v8_apply, val_main_v7_apply, val_main_cst_1_apply, val_main_v11_apply, val_main_v10_apply, val_main_cst_2_apply, val_main_v9_apply,
    show val_main_v1 (F := Ideal) g = oneLayer g from grads_eq g]
  rfl

theorem steps_eq (w m v : Vec Ideal S1x2048x2048 .f32) (g : Vec Ideal S2048x2048 .f32) : val_main_v25 (F := Ideal) w m v g = steps w m v (oneLayer g) := by
  funext i
  rw [val_main_v25_apply, val_main_v24_apply, val_main_cst_7_apply, val_main_v23_apply, val_main_v22_apply, val_main_v21_apply, val_main_cst_6_apply, val_main_v20_apply, val_main_v14_apply, val_main_v13_apply,
    val_main_cst_3_apply, val_main_v19_apply, val_main_v18_apply, val_main_cst_5_apply, val_main_v17_apply, val_main_v16_apply, val_main_v15_apply, val_main_cst_4_apply, firsts_eq, seconds_eq]
  rfl

end Cert.Reference31Ideal.Product

namespace Cert.Kernel31Ideal.Product

open Idealize.ShloMosaic Idealize.ShloMosaic.TcCoe Idealize.SL.Sem Cert.Kernel31Ideal Cert.Kernel31Ideal.Gen Cert.Adam

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A tile of the gradient, -/
theorem out4 (x0 x1 x2 : Vec Ideal S1x256x2048 .f32) (x3 : Vec Ideal S256x2048 .f32) (r : Fin 256) (q : Fin 2048) :
    out0_4 (F := Ideal) x0 x1 x2 x3 (ix3 (0 : Fin 1) r q) = x3 (ix2 r q) := by
  unfold out0_4
  rw [View.canon_unit_zero hz3]
  simp only [View.ld_unit_zero (S := S1x256x2048) hz3, View.ld_unit_zero (S := S256x2048) hz2]
  unfold k0_pay4
  pointwise []

/-- of the step, -/
theorem out5 (x0 x1 x2 : Vec Ideal S1x256x2048 .f32) (x3 : Vec Ideal S256x2048 .f32) (r : Fin 256) (q : Fin 2048) :
    out0_5 (F := Ideal) x0 x1 x2 x3 (ix3 (0 : Fin 1) r q) = step (x0 (ix3 (0 : Fin 1) r q)) (x1 (ix3 (0 : Fin 1) r q)) (x2 (ix3 (0 : Fin 1) r q)) (x3 (ix2 r q)) := by
  unfold out0_5
  rw [View.canon_unit_zero hz3]
  simp only [View.ld_unit_zero (S := S1x256x2048) hz3, View.ld_unit_zero (S := S256x2048) hz2]
  unfold k0_pay1 k0_pay7 k0_pay8 k0_pay5 k0_pay6
  pointwise []
  rfl

/-- of the first moment -/
theorem out6 (x0 x1 x2 : Vec Ideal S1x256x2048 .f32) (x3 : Vec Ideal S256x2048 .f32) (r : Fin 256) (q : Fin 2048) :
    out0_6 (F := Ideal) x0 x1 x2 x3 (ix3 (0 : Fin 1) r q) = first (x1 (ix3 (0 : Fin 1) r q)) (x3 (ix2 r q)) := by
  unfold out0_6
  rw [View.canon_unit_zero hz3]
  simp only [View.ld_unit_zero (S := S1x256x2048) hz3, View.ld_unit_zero (S := S256x2048) hz2]
  unfold k0_pay2 k0_pay5
  pointwise []
  rfl

/-- and of the second. -/
theorem out7 (x0 x1 x2 : Vec Ideal S1x256x2048 .f32) (x3 : Vec Ideal S256x2048 .f32) (r : Fin 256) (q : Fin 2048) :
    out0_7 (F := Ideal) x0 x1 x2 x3 (ix3 (0 : Fin 1) r q) = second (x2 (ix3 (0 : Fin 1) r q)) (x3 (ix2 r q)) := by
  unfold out0_7
  rw [View.canon_unit_zero hz3]
  simp only [View.ld_unit_zero (S := S1x256x2048) hz3, View.ld_unit_zero (S := S256x2048) hz2]
  unfold k0_pay3 k0_pay6
  pointwise []
  rfl

variable (m : (ℓ : Loc nD τ sig) → Buf (Elt Ideal) ℓ) (c : Dev nD)

/-- The arguments as launched: the weight, its two moments, and the gradient. -/
abbrev a0 : Vec Ideal S1x2048x2048 .f32 := m ((c : Thread nD τ).loc main_arg0)
abbrev a1 : Vec Ideal S1x2048x2048 .f32 := m ((c : Thread nD τ).loc main_arg1)
abbrev a2 : Vec Ideal S1x2048x2048 .f32 := m ((c : Thread nD τ).loc main_arg2)
abbrev a3 : Vec Ideal S2048x2048 .f32 := m ((c : Thread nD τ).loc main_arg3)
abbrev grads : Vec Ideal S1x2048x2048 .f32 := oneLayer (a3 m c)

/-- Where a point's tile lies. -/
abbrev spot (t : Fin cfg0.N) (r : Fin 256) (q : Fin 2048) : S1x2048x2048.Idx :=
  ix3 (⟨t.val / 8, by have := t.isLt; have : cfg0.N = 8 := N_0; omega⟩ : Fin 1)
    (⟨t.val % 8 * 256 + r.val, by have := r.isLt; omega⟩ : Fin 2048) q

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
theorem idx2 : ∀ t : Fin cfg0.N, win0_2.index t 0 = t.val / 8 ∧ win0_2.index t 1 = t.val % 8 ∧ win0_2.index t 2 = 0 :=
  (by decide +kernel : ∀ t : Fin grid0.N, win0_2.index t 0 = t.val / 8 ∧ win0_2.index t 1 = t.val % 8 ∧ win0_2.index t 2 = 0)
theorem idx4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem idx5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)
theorem idx6 : ∀ t : Fin cfg0.N, win0_6.index t 0 = t.val / 8 ∧ win0_6.index t 1 = t.val % 8 ∧ win0_6.index t 2 = 0 :=
  (by decide +kernel : ∀ t : Fin grid0.N, win0_6.index t 0 = t.val / 8 ∧ win0_6.index t 1 = t.val % 8 ∧ win0_6.index t 2 = 0)
theorem idx7 : ∀ t : Fin cfg0.N, win0_7.index t 0 = t.val / 8 ∧ win0_7.index t 1 = t.val % 8 ∧ win0_7.index t 2 = 0 :=
  (by decide +kernel : ∀ t : Fin grid0.N, win0_7.index t 0 = t.val / 8 ∧ win0_7.index t 1 = t.val % 8 ∧ win0_7.index t 2 = 0)
theorem idx3 : ∀ t : Fin cfg0.N, win0_3.index t 0 = t.val % 8 ∧ win0_3.index t 1 = 0 :=
  (by decide +kernel : ∀ t : Fin grid0.N, win0_3.index t 0 = t.val % 8 ∧ win0_3.index t 1 = 0)

theorem blk0 (t : Fin cfg0.N) (r : Fin 256) (q : Fin 2048) : (iblk m c 0 t : Vec Ideal S1x256x2048 .f32) (ix3 (0 : Fin 1) r q) = a0 m c (spot t r q) := by
  unfold iblk
  rw [View.read_apply]
  show V m c main_arg0 _ = _
  rw [V_main_arg0]
  refine congrArg (a0 m c) ?_
  have h := idx0 t
  funext a
  apply Fin.ext
  match a with
  | ⟨0, _⟩ => show win0_0.index t 0 * 1 + 1 * 0 = t.val / 8; omega
  | ⟨1, _⟩ => show win0_0.index t 1 * 256 + 1 * r.val = t.val % 8 * 256 + r.val; omega
  | ⟨2, _⟩ => show win0_0.index t 2 * 2048 + 1 * q.val = q.val; omega

theorem blk1 (t : Fin cfg0.N) (r : Fin 256) (q : Fin 2048) : (iblk m c 1 t : Vec Ideal S1x256x2048 .f32) (ix3 (0 : Fin 1) r q) = a1 m c (spot t r q) := by
  unfold iblk
  rw [View.read_apply]
  show V m c main_arg1 _ = _
  rw [V_main_arg1]
  refine congrArg (a1 m c) ?_
  have h := idx1 t
  funext a
  apply Fin.ext
  match a with
  | ⟨0, _⟩ => show win0_1.index t 0 * 1 + 1 * 0 = t.val / 8; omega
  | ⟨1, _⟩ => show win0_1.index t 1 * 256 + 1 * r.val = t.val % 8 * 256 + r.val; omega
  | ⟨2, _⟩ => show win0_1.index t 2 * 2048 + 1 * q.val = q.val; omega

theorem blk2 (t : Fin cfg0.N) (r : Fin 256) (q : Fin 2048) : (iblk m c 2 t : Vec Ideal S1x256x2048 .f32) (ix3 (0 : Fin 1) r q) = a2 m c (spot t r q) := by
  unfold iblk
  rw [View.read_apply]
  show V m c main_arg2 _ = _
  rw [V_main_arg2]
  refine congrArg (a2 m c) ?_
  have h := idx2 t
  funext a
  apply Fin.ext
  match a with
  | ⟨0, _⟩ => show win0_2.index t 0 * 1 + 1 * 0 = t.val / 8; omega
  | ⟨1, _⟩ => show win0_2.index t 1 * 256 + 1 * r.val = t.val % 8 * 256 + r.val; omega
  | ⟨2, _⟩ => show win0_2.index t 2 * 2048 + 1 * q.val = q.val; omega

theorem blk3 (t : Fin cfg0.N) (r : Fin 256) (q : Fin 2048) :
    (iblk m c 3 t : Vec Ideal S256x2048 .f32) (ix2 r q) = grads m c (spot t r q) := by
  unfold iblk
  rw [View.read_apply]
  show V m c main_arg3 _ = _
  rw [V_main_arg3]
  refine congrArg (a3 m c) ?_
  have h := idx3 t
  funext a
  apply Fin.ext
  match a with
  | ⟨0, _⟩ => show win0_3.index t 0 * 256 + 1 * r.val = t.val % 8 * 256 + r.val; omega
  | ⟨1, _⟩ => show win0_3.index t 1 * 2048 + 1 * q.val = q.val; omega

theorem onto : ∀ (l : Fin 1) (p : Fin 8), ∃ t : Fin cfg0.N, t.val / 8 = l.val ∧ t.val % 8 = p.val :=
  (by decide +kernel : ∀ (l : Fin 1) (p : Fin 8), ∃ t : Fin grid0.N, t.val / 8 = l.val ∧ t.val % 8 = p.val)

theorem flushed4 (t : Fin cfg0.N) : (dats m 0 c).flushed 4 t = ((cfg0.win 4).blk t).view.read (Elt Ideal) (grads m c) := by
  show (cfg0.win 4).cut (grid0.coords t) ((dats m 0 c).after 4 t) = _
  rw [after0_4]
  funext y
  obtain ⟨r, q, rfl⟩ := tile_index (R := 256) (C := 2048) y
  rw [View.read_apply]
  refine (out4 (iblk m c 0 t) (iblk m c 1 t) (iblk m c 2 t) (iblk m c 3 t) r q).trans ?_
  rw [blk3 m c t r q]
  show (grads m c) (spot t r q) = _
  refine congrArg (grads m c) ?_
  have h := idx4 t
  funext a
  apply Fin.ext
  match a with
  | ⟨0, _⟩ => show t.val / 8 = win0_4.index t 0 * 1 + 1 * 0; omega
  | ⟨1, _⟩ => show t.val % 8 * 256 + r.val = win0_4.index t 1 * 256 + 1 * r.val; omega
  | ⟨2, _⟩ => show q.val = win0_4.index t 2 * 2048 + 1 * q.val; omega

theorem final4 : (dats m 0 c).arrAt 4 cfg0.N = grads m c :=
  (dats m 0 c).arrAt_eq_of_cover 4 (grads m c) (fun t _ => flushed4 m c t) fun i => by
    have h0 : (i 0).val < 1 := (i 0).isLt
    have h1 : (i 1).val < 2048 := (i 1).isLt
    have h2 : (i 2).val < 2048 := (i 2).isLt
    obtain ⟨t, e0, e1⟩ := onto ⟨(i 0).val, h0⟩ ⟨(i 1).val / 256, by omega⟩
    dsimp only at e0 e1
    refine ⟨t, flush0_4 t, ?_⟩
    show i ∈ ((View.whole main_v0_0).slice (win0_4.rect t)).set
    rw [View.set_slice_whole, Rect.mem_set_unit]
    have h := idx4 t
    intro a
    match a with
    | ⟨0, _⟩ => show win0_4.index t 0 * 1 ≤ (i 0).val ∧ (i 0).val < win0_4.index t 0 * 1 + 1; omega
    | ⟨1, _⟩ => show win0_4.index t 1 * 256 ≤ (i 1).val ∧ (i 1).val < win0_4.index t 1 * 256 + 256; omega
    | ⟨2, _⟩ => show win0_4.index t 2 * 2048 ≤ (i 2).val ∧ (i 2).val < win0_4.index t 2 * 2048 + 2048; omega

theorem flushed5 (t : Fin cfg0.N) : (dats m 0 c).flushed 5 t = ((cfg0.win 5).blk t).view.read (Elt Ideal) (steps (a0 m c) (a1 m c) (a2 m c) (grads m c)) := by
  show (cfg0.win 5).cut (grid0.coords t) ((dats m 0 c).after 5 t) = _
  rw [after0_5]
  funext y
  obtain ⟨r, q, rfl⟩ := tile_index (R := 256) (C := 2048) y
  rw [View.read_apply]
  refine (out5 (iblk m c 0 t) (iblk m c 1 t) (iblk m c 2 t) (iblk m c 3 t) r q).trans ?_
  rw [blk0 m c t r q, blk1 m c t r q, blk2 m c t r q, blk3 m c t r q]
  show (steps (a0 m c) (a1 m c) (a2 m c) (grads m c)) (spot t r q) = _
  refine congrArg (steps (a0 m c) (a1 m c) (a2 m c) (grads m c)) ?_
  have h := idx5 t
  funext a
  apply Fin.ext
  match a with
  | ⟨0, _⟩ => show t.val / 8 = win0_5.index t 0 * 1 + 1 * 0; omega
  | ⟨1, _⟩ => show t.val % 8 * 256 + r.val = win0_5.index t 1 * 256 + 1 * r.val; omega
  | ⟨2, _⟩ => show q.val = win0_5.index t 2 * 2048 + 1 * q.val; omega

theorem final5 : (dats m 0 c).arrAt 5 cfg0.N = steps (a0 m c) (a1 m c) (a2 m c) (grads m c) :=
  (dats m 0 c).arrAt_eq_of_cover 5 (steps (a0 m c) (a1 m c) (a2 m c) (grads m c)) (fun t _ => flushed5 m c t) fun i => by
    have h0 : (i 0).val < 1 := (i 0).isLt
    have h1 : (i 1).val < 2048 := (i 1).isLt
    have h2 : (i 2).val < 2048 := (i 2).isLt
    obtain ⟨t, e0, e1⟩ := onto ⟨(i 0).val, h0⟩ ⟨(i 1).val / 256, by omega⟩
    dsimp only at e0 e1
    refine ⟨t, flush0_5 t, ?_⟩
    show i ∈ ((View.whole main_v0_1).slice (win0_5.rect t)).set
    rw [View.set_slice_whole, Rect.mem_set_unit]
    have h := idx5 t
    intro a
    match a with
    | ⟨0, _⟩ => show win0_5.index t 0 * 1 ≤ (i 0).val ∧ (i 0).val < win0_5.index t 0 * 1 + 1; omega
    | ⟨1, _⟩ => show win0_5.index t 1 * 256 ≤ (i 1).val ∧ (i 1).val < win0_5.index t 1 * 256 + 256; omega
    | ⟨2, _⟩ => show win0_5.index t 2 * 2048 ≤ (i 2).val ∧ (i 2).val < win0_5.index t 2 * 2048 + 2048; omega

theorem flushed6 (t : Fin cfg0.N) : (dats m 0 c).flushed 6 t = ((cfg0.win 6).blk t).view.read (Elt Ideal) (firsts (a1 m c) (grads m c)) := by
  show (cfg0.win 6).cut (grid0.coords t) ((dats m 0 c).after 6 t) = _
  rw [after0_6]
  funext y
  obtain ⟨r, q, rfl⟩ := tile_index (R := 256) (C := 2048) y
  rw [View.read_apply]
  refine (out6 (iblk m c 0 t) (iblk m c 1 t) (iblk m c 2 t) (iblk m c 3 t) r q).trans ?_
  rw [blk1 m c t r q, blk3 m c t r q]
  show (firsts (a1 m c) (grads m c)) (spot t r q) = _
  refine congrArg (firsts (a1 m c) (grads m c)) ?_
  have h := idx6 t
  funext a
  apply Fin.ext
  match a with
  | ⟨0, _⟩ => show t.val / 8 = win0_6.index t 0 * 1 + 1 * 0; omega
  | ⟨1, _⟩ => show t.val % 8 * 256 + r.val = win0_6.index t 1 * 256 + 1 * r.val; omega
  | ⟨2, _⟩ => show q.val = win0_6.index t 2 * 2048 + 1 * q.val; omega

theorem final6 : (dats m 0 c).arrAt 6 cfg0.N = firsts (a1 m c) (grads m c) :=
  (dats m 0 c).arrAt_eq_of_cover 6 (firsts (a1 m c) (grads m c)) (fun t _ => flushed6 m c t) fun i => by
    have h0 : (i 0).val < 1 := (i 0).isLt
    have h1 : (i 1).val < 2048 := (i 1).isLt
    have h2 : (i 2).val < 2048 := (i 2).isLt
    obtain ⟨t, e0, e1⟩ := onto ⟨(i 0).val, h0⟩ ⟨(i 1).val / 256, by omega⟩
    dsimp only at e0 e1
    refine ⟨t, flush0_6 t, ?_⟩
    show i ∈ ((View.whole main_v0_2).slice (win0_6.rect t)).set
    rw [View.set_slice_whole, Rect.mem_set_unit]
    have h := idx6 t
    intro a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 2048 ≤ (i 2).val ∧ (i 2).val < win0_6.index t 2 * 2048 + 2048; omega

theorem flushed7 (t : Fin cfg0.N) : (dats m 0 c).flushed 7 t = ((cfg0.win 7).blk t).view.read (Elt Ideal) (seconds (a2 m c) (grads m c)) := by
  show (cfg0.win 7).cut (grid0.coords t) ((dats m 0 c).after 7 t) = _
  rw [after0_7]
  funext y
  obtain ⟨r, q, rfl⟩ := tile_index (R := 256) (C := 2048) y
  rw [View.read_apply]
  refine (out7 (iblk m c 0 t) (iblk m c 1 t) (iblk m c 2 t) (iblk m c 3 t) r q).trans ?_
  rw [blk2 m c t r q, blk3 m c t r q]
  show (seconds (a2 m c) (grads m c)) (spot t r q) = _
  refine congrArg (seconds (a2 m c) (grads m c)) ?_
  have h := idx7 t
  funext a
  apply Fin.ext
  match a with
  | ⟨0, _⟩ => show t.val / 8 = win0_7.index t 0 * 1 + 1 * 0; omega
  | ⟨1, _⟩ => show t.val % 8 * 256 + r.val = win0_7.index t 1 * 256 + 1 * r.val; omega
  | ⟨2, _⟩ => show q.val = win0_7.index t 2 * 2048 + 1 * q.val; omega

theorem final7 : (dats m 0 c).arrAt 7 cfg0.N = seconds (a2 m c) (grads m c) :=
  (dats m 0 c).arrAt_eq_of_cover 7 (seconds (a2 m c) (grads m c)) (fun t _ => flushed7 m c t) fun i => by
    have h0 : (i 0).val < 1 := (i 0).isLt
    have h1 : (i 1).val < 2048 := (i 1).isLt
    have h2 : (i 2).val < 2048 := (i 2).isLt
    obtain ⟨t, e0, e1⟩ := onto ⟨(i 0).val, h0⟩ ⟨(i 1).val / 256, by omega⟩
    dsimp only at e0 e1
    refine ⟨t, flush0_7 t, ?_⟩
    show i ∈ ((View.whole main_v0_3).slice (win0_7.rect t)).set
    rw [View.set_slice_whole, Rect.mem_set_unit]
    have h := idx7 t
    intro a
    match a with
    | ⟨0, _⟩ => show win0_7.index t 0 * 1 ≤ (i 0).val ∧ (i 0).val < win0_7.index t 0 * 1 + 1; omega
    | ⟨1, _⟩ => show win0_7.index t 1 * 256 ≤ (i 1).val ∧ (i 1).val < win0_7.index t 1 * 256 + 256; omega
    | ⟨2, _⟩ => show win0_7.index t 2 * 2048 ≤ (i 2).val ∧ (i 2).val < win0_7.index t 2 * 2048 + 2048; omega

end Cert.Kernel31Ideal.Product

end
-- ==== Proof.AdamPoolGrp.lean ====
/- The optimiser's step of `pool_w_grp`: what the grid of 3 tiles leaves in the four results, and the reference's. -/
module

public import proofs.«01_k».proof.Proof.Adam
public import proofs.«01_k».proof.Proof.Gen.Kernel32Ideal.Value
public import proofs.«01_k».proof.Proof.Gen.Reference32Ideal.Read
public import Idealize.ShloMosaic.Lib.Pointwise
public import Idealize.ShloMosaic.Lib.WritesUnit
public import Idealize.ShloMosaic.Lib.Tactic

@[expose] public section

set_option maxRecDepth 16384

noncomputable section

namespace Cert.Reference32Ideal.Product

open Idealize.ShloMosaic Cert.Reference32Ideal Cert.Reference32Ideal.Read Cert.Adam

theorem grads_eq (g : Vec Ideal S768x768 .f32) : val_main_v0 (F := Ideal) g = oneLayer g := by
  funext i
  rw [val_main_v0_apply]
  refine congrArg g ?_
  funext a
  match a with
  | ⟨0, _⟩ => rfl
  | ⟨1, _⟩ => rfl

theorem firsts_eq (m : Vec Ideal S1x768x768 .f32) (g : Vec Ideal S768x768 .f32) : val_main_v6 (F := Ideal) m g = firsts m (oneLayer g) := by
  funext i
  rw [val_main_v6_apply, val_main_v3_apply, val_main_v2_apply, val_main_cst_apply, val_main_v5_apply, val_main_v4_apply, val_main_cst_0_apply, show val_main_v1 (F := Ideal) g = oneLayer g from grads_eq g]
  rfl

theorem seconds_eq (v : Vec Ideal S1x768x768 .f32) (g : Vec Ideal S768x768 .f32) : val_main_v12 (F := Ideal) v g = seconds v (oneLayer g) := by
  funext i
  rw [val_main_v12_apply, val_main_v8_apply, val_main_v7_apply, val_main_cst_1_apply, val_main_v11_apply, val_main_v10_apply, val_main_cst_2_apply, val_main_v9_apply,
    show val_main_v1 (F := Ideal) g = oneLayer g from grads_eq g]
  rfl

theorem steps_eq (w m v : Vec Ideal S1x768x768 .f32) (g : Vec Ideal S768x768 .f32) : val_main_v25 (F := Ideal) w m v g = steps w m v (oneLayer g) := by
  funext i
  rw [val_main_v25_apply, val_main_v24_apply, val_main_cst_7_apply, val_main_v23_apply, val_main_v22_apply, val_main_v21_apply, val_main_cst_6_apply, val_main_v20_apply, val_main_v14_apply, val_main_v13_apply,
    val_main_cst_3_apply, val_main_v19_apply, val_main_v18_apply, val_main_cst_5_apply, val_main_v17_apply, val_main_v16_apply, val_main_v15_apply, val_main_cst_4_apply, firsts_eq, seconds_eq]
  rfl

end Cert.Reference32Ideal.Product

namespace Cert.Kernel32Ideal.Product

open Idealize.ShloMosaic Idealize.ShloMosaic.TcCoe Idealize.SL.Sem Cert.Kernel32Ideal Cert.Kernel32Ideal.Gen Cert.Adam

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A tile of the gradient, -/
theorem out4 (x0 x1 x2 : Vec Ideal S1x256x768 .f32) (x3 : Vec Ideal S256x768 .f32) (r : Fin 256) (q : Fin 768) :
    out0_4 (F := Ideal) x0 x1 x2 x3 (ix3 (0 : Fin 1) r q) = x3 (ix2 r q) := by
  unfold out0_4
  rw [View.canon_unit_zero hz3]
  simp only [View.ld_unit_zero (S := S1x256x768) hz3, View.ld_unit_zero (S := S256x768) hz2]
  unfold k0_pay4
  pointwise []

/-- of the step, -/
theorem out5 (x0 x1 x2 : Vec Ideal S1x256x768 .f32) (x3 : Vec Ideal S256x768 .f32) (r : Fin 256) (q : Fin 768) :
    out0_5 (F := Ideal) x0 x1 x2 x3 (ix3 (0 : Fin 1) r q) = step (x0 (ix3 (0 : Fin 1) r q)) (x1 (ix3 (0 : Fin 1) r q)) (x2 (ix3 (0 : Fin 1) r q)) (x3 (ix2 r q)) := by
  unfold out0_5
  rw [View.canon_unit_zero hz3]
  simp only [View.ld_unit_zero (S := S1x256x768) hz3, View.ld_unit_zero (S := S256x768) hz2]
  unfold k0_pay1 k0_pay7 k0_pay8 k0_pay5 k0_pay6
  pointwise []
  rfl

/-- of the first moment -/
theorem out6 (x0 x1 x2 : Vec Ideal S1x256x768 .f32) (x3 : Vec Ideal S256x768 .f32) (r : Fin 256) (q : Fin 768) :
    out0_6 (F := Ideal) x0 x1 x2 x3 (ix3 (0 : Fin 1) r q) = first (x1 (ix3 (0 : Fin 1) r q)) (x3 (ix2 r q)) := by
  unfold out0_6
  rw [View.canon_unit_zero hz3]
  simp only [View.ld_unit_zero (S := S1x256x768) hz3, View.ld_unit_zero (S := S256x768) hz2]
  unfold k0_pay2 k0_pay5
  pointwise []
  rfl

/-- and of the second. -/
theorem out7 (x0 x1 x2 : Vec Ideal S1x256x768 .f32) (x3 : Vec Ideal S256x768 .f32) (r : Fin 256) (q : Fin 768) :
    out0_7 (F := Ideal) x0 x1 x2 x3 (ix3 (0 : Fin 1) r q) = second (x2 (ix3 (0 : Fin 1) r q)) (x3 (ix2 r q)) := by
  unfold out0_7
  rw [View.canon_unit_zero hz3]
  simp only [View.ld_unit_zero (S := S1x256x768) hz3, View.ld_unit_zero (S := S256x768) hz2]
  unfold k0_pay3 k0_pay6
  pointwise []
  rfl

variable (m : (ℓ : Loc nD τ sig) → Buf (Elt Ideal) ℓ) (c : Dev nD)

/-- The arguments as launched: the weight, its two moments, and the gradient. -/
abbrev a0 : Vec Ideal S1x768x768 .f32 := m ((c : Thread nD τ).loc main_arg0)
abbrev a1 : Vec Ideal S1x768x768 .f32 := m ((c : Thread nD τ).loc main_arg1)
abbrev a2 : Vec Ideal S1x768x768 .f32 := m ((c : Thread nD τ).loc main_arg2)
abbrev a3 : Vec Ideal S768x768 .f32 := m ((c : Thread nD τ).loc main_arg3)
abbrev grads : Vec Ideal S1x768x768 .f32 := oneLayer (a3 m c)

/-- Where a point's tile lies. -/
abbrev spot (t : Fin cfg0.N) (r : Fin 256) (q : Fin 768) : S1x768x768.Idx :=
  ix3 (⟨t.val / 3, by have := t.isLt; have : cfg0.N = 3 := N_0; omega⟩ : Fin 1)
    (⟨t.val % 3 * 256 + r.val, by have := r.isLt; omega⟩ : Fin 768) q

theorem idx0 : ∀ t : Fin cfg0.N, win0_0.index t 0 = t.val / 3 ∧ win0_0.index t 1 = t.val % 3 ∧ win0_0.index t 2 = 0 :=
  (by decide +kernel : ∀ t : Fin grid0.N, win0_0.index t 0 = t.val / 3 ∧ win0_0.index t 1 = t.val % 3 ∧ win0_0.index t 2 = 0)
theorem idx1 : ∀ t : Fin cfg0.N, win0_1.index t 0 = t.val / 3 ∧ win0_1.index t 1 = t.val % 3 ∧ win0_1.index t 2 = 0 :=
  (by decide +kernel : ∀ t : Fin grid0.N, win0_1.index t 0 = t.val / 3 ∧ win0_1.index t 1 = t.val % 3 ∧ win0_1.index t 2 = 0)
theorem idx2 : ∀ t : Fin cfg0.N, win0_2.index t 0 = t.val / 3 ∧ win0_2.index t 1 = t.val % 3 ∧ win0_2.index t 2 = 0 :=
  (by decide +kernel : ∀ t : Fin grid0.N, win0_2.index t 0 = t.val / 3 ∧ win0_2.index t 1 = t.val % 3 ∧ win0_2.index t 2 = 0)
theorem idx4 : ∀ t : Fin cfg0.N, win0_4.index t 0 = t.val / 3 ∧ win0_4.index t 1 = t.val % 3 ∧ win0_4.index t 2 = 0 :=
  (by decide +kernel : ∀ t : Fin grid0.N, win0_4.index t 0 = t.val / 3 ∧ win0_4.index t 1 = t.val % 3 ∧ win0_4.index t 2 = 0)
theorem idx5 : ∀ t : Fin cfg0.N, win0_5.index t 0 = t.val / 3 ∧ win0_5.index t 1 = t.val % 3 ∧ win0_5.index t 2 = 0 :=
  (by decide +kernel : ∀ t : Fin grid0.N, win0_5.index t 0 = t.val / 3 ∧ win0_5.index t 1 = t.val % 3 ∧ win0_5.index t 2 = 0)
theorem idx6 : ∀ t : Fin cfg0.N, win0_6.index t 0 = t.val / 3 ∧ win0_6.index t 1 = t.val % 3 ∧ win0_6.index t 2 = 0 :=
  (by decide +kernel : ∀ t : Fin grid0.N, win0_6.index t 0 = t.val / 3 ∧ win0_6.index t 1 = t.val % 3 ∧ win0_6.index t 2 = 0)
theorem idx7 : ∀ t : Fin cfg0.N, win0_7.index t 0 = t.val / 3 ∧ win0_7.index t 1 = t.val % 3 ∧ win0_7.index t 2 = 0 :=
  (by decide +kernel : ∀ t : Fin grid0.N, win0_7.index t 0 = t.val / 3 ∧ win0_7.index t 1 = t.val % 3 ∧ win0_7.index t 2 = 0)
theorem idx3 : ∀ t : Fin cfg0.N, win0_3.index t 0 = t.val % 3 ∧ win0_3.index t 1 = 0 :=
  (by decide +kernel : ∀ t : Fin grid0.N, win0_3.index t 0 = t.val % 3 ∧ win0_3.index t 1 = 0)

theorem blk0 (t : Fin cfg0.N) (r : Fin 256) (q : Fin 768) : (iblk m c 0 t : Vec Ideal S1x256x768 .f32) (ix3 (0 : Fin 1) r q) = a0 m c (spot t r q) := by
  unfold iblk
  rw [View.read_apply]
  show V m c main_arg0 _ = _
  rw [V_main_arg0]
  refine congrArg (a0 m c) ?_
  have h := idx0 t
  funext a
  apply Fin.ext
  match a with
  | ⟨0, _⟩ => show win0_0.index t 0 * 1 + 1 * 0 = t.val / 3; omega
  | ⟨1, _⟩ => show win0_0.index t 1 * 256 + 1 * r.val = t.val % 3 * 256 + r.val; omega
  | ⟨2, _⟩ => show win0_0.index t 2 * 768 + 1 * q.val = q.val; omega

theorem blk1 (t : Fin cfg0.N) (r : Fin 256) (q : Fin 768) : (iblk m c 1 t : Vec Ideal S1x256x768 .f32) (ix3 (0 : Fin 1) r q) = a1 m c (spot t r q) := by
  unfold iblk
  rw [View.read_apply]
  show V m c main_arg1 _ = _
  rw [V_main_arg1]
  refine congrArg (a1 m c) ?_
  have h := idx1 t
  funext a
  apply Fin.ext
  match a with
  | ⟨0, _⟩ => show win0_1.index t 0 * 1 + 1 * 0 = t.val / 3; omega
  | ⟨1, _⟩ => show win0_1.index t 1 * 256 + 1 * r.val = t.val % 3 * 256 + r.val; omega
  | ⟨2, _⟩ => show win0_1.index t 2 * 768 + 1 * q.val = q.val; omega

theorem blk2 (t : Fin cfg0.N) (r : Fin 256) (q : Fin 768) : (iblk m c 2 t : Vec Ideal S1x256x768 .f32) (ix3 (0 : Fin 1) r q) = a2 m c (spot t r q) := by
  unfold iblk
  rw [View.read_apply]
  show V m c main_arg2 _ = _
  rw [V_main_arg2]
  refine congrArg (a2 m c) ?_
  have h := idx2 t
  funext a
  apply Fin.ext
  match a with
  | ⟨0, _⟩ => show win0_2.index t 0 * 1 + 1 * 0 = t.val / 3; omega
  | ⟨1, _⟩ => show win0_2.index t 1 * 256 + 1 * r.val = t.val % 3 * 256 + r.val; omega
  | ⟨2, _⟩ => show win0_2.index t 2 * 768 + 1 * q.val = q.val; omega

theorem blk3 (t : Fin cfg0.N) (r : Fin 256) (q : Fin 768) :
    (iblk m c 3 t : Vec Ideal S256x768 .f32) (ix2 r q) = grads m c (spot t r q) := by
  unfold iblk
  rw [View.read_apply]
  show V m c main_arg3 _ = _
  rw [V_main_arg3]
  refine congrArg (a3 m c) ?_
  have h := idx3 t
  funext a
  apply Fin.ext
  match a with
  | ⟨0, _⟩ => show win0_3.index t 0 * 256 + 1 * r.val = t.val % 3 * 256 + r.val; omega
  | ⟨1, _⟩ => show win0_3.index t 1 * 768 + 1 * q.val = q.val; omega

theorem onto : ∀ (l : Fin 1) (p : Fin 3), ∃ t : Fin cfg0.N, t.val / 3 = l.val ∧ t.val % 3 = p.val :=
  (by decide +kernel : ∀ (l : Fin 1) (p : Fin 3), ∃ t : Fin grid0.N, t.val / 3 = l.val ∧ t.val % 3 = p.val)

theorem flushed4 (t : Fin cfg0.N) : (dats m 0 c).flushed 4 t = ((cfg0.win 4).blk t).view.read (Elt Ideal) (grads m c) := by
  show (cfg0.win 4).cut (grid0.coords t) ((dats m 0 c).after 4 t) = _
  rw [after0_4]
  funext y
  obtain ⟨r, q, rfl⟩ := tile_index (R := 256) (C := 768) y
  rw [View.read_apply]
  refine (out4 (iblk m c 0 t) (iblk m c 1 t) (iblk m c 2 t) (iblk m c 3 t) r q).trans ?_
  rw [blk3 m c t r q]
  show (grads m c) (spot t r q) = _
  refine congrArg (grads m c) ?_
  have h := idx4 t
  funext a
  apply Fin.ext
  match a with
  | ⟨0, _⟩ => show t.val / 3 = win0_4.index t 0 * 1 + 1 * 0; omega
  | ⟨1, _⟩ => show t.val % 3 * 256 + r.val = win0_4.index t 1 * 256 + 1 * r.val; omega
  | ⟨2, _⟩ => show q.val = win0_4.index t 2 * 768 + 1 * q.val; omega

theorem final4 : (dats m 0 c).arrAt 4 cfg0.N = grads m c :=
  (dats m 0 c).arrAt_eq_of_cover 4 (grads m c) (fun t _ => flushed4 m c t) fun i => by
    have h0 : (i 0).val < 1 := (i 0).isLt
    have h1 : (i 1).val < 768 := (i 1).isLt
    have h2 : (i 2).val < 768 := (i 2).isLt
    obtain ⟨t, e0, e1⟩ := onto ⟨(i 0).val, h0⟩ ⟨(i 1).val / 256, by omega⟩
    dsimp only at e0 e1
    refine ⟨t, flush0_4 t, ?_⟩
    show i ∈ ((View.whole main_v0_0).slice (win0_4.rect t)).set
    rw [View.set_slice_whole, Rect.mem_set_unit]
    have h := idx4 t
    intro a
    match a with
    | ⟨0, _⟩ => show win0_4.index t 0 * 1 ≤ (i 0).val ∧ (i 0).val < win0_4.index t 0 * 1 + 1; omega
    | ⟨1, _⟩ => show win0_4.index t 1 * 256 ≤ (i 1).val ∧ (i 1).val < win0_4.index t 1 * 256 + 256; omega
    | ⟨2, _⟩ => show win0_4.index t 2 * 768 ≤ (i 2).val ∧ (i 2).val < win0_4.index t 2 * 768 + 768; omega

theorem flushed5 (t : Fin cfg0.N) : (dats m 0 c).flushed 5 t = ((cfg0.win 5).blk t).view.read (Elt Ideal) (steps (a0 m c) (a1 m c) (a2 m c) (grads m c)) := by
  show (cfg0.win 5).cut (grid0.coords t) ((dats m 0 c).after 5 t) = _
  rw [after0_5]
  funext y
  obtain ⟨r, q, rfl⟩ := tile_index (R := 256) (C := 768) y
  rw [View.read_apply]
  refine (out5 (iblk m c 0 t) (iblk m c 1 t) (iblk m c 2 t) (iblk m c 3 t) r q).trans ?_
  rw [blk0 m c t r q, blk1 m c t r q, blk2 m c t r q, blk3 m c t r q]
  show (steps (a0 m c) (a1 m c) (a2 m c) (grads m c)) (spot t r q) = _
  refine congrArg (steps (a0 m c) (a1 m c) (a2 m c) (grads m c)) ?_
  have h := idx5 t
  funext a
  apply Fin.ext
  match a with
  | ⟨0, _⟩ => show t.val / 3 = win0_5.index t 0 * 1 + 1 * 0; omega
  | ⟨1, _⟩ => show t.val % 3 * 256 + r.val = win0_5.index t 1 * 256 + 1 * r.val; omega
  | ⟨2, _⟩ => show q.val = win0_5.index t 2 * 768 + 1 * q.val; omega

theorem final5 : (dats m 0 c).arrAt 5 cfg0.N = steps (a0 m c) (a1 m c) (a2 m c) (grads m c) :=
  (dats m 0 c).arrAt_eq_of_cover 5 (steps (a0 m c) (a1 m c) (a2 m c) (grads m c)) (fun t _ => flushed5 m c t) fun i => by
    have h0 : (i 0).val < 1 := (i 0).isLt
    have h1 : (i 1).val < 768 := (i 1).isLt
    have h2 : (i 2).val < 768 := (i 2).isLt
    obtain ⟨t, e0, e1⟩ := onto ⟨(i 0).val, h0⟩ ⟨(i 1).val / 256, by omega⟩
    dsimp only at e0 e1
    refine ⟨t, flush0_5 t, ?_⟩
    show i ∈ ((View.whole main_v0_1).slice (win0_5.rect t)).set
    rw [View.set_slice_whole, Rect.mem_set_unit]
    have h := idx5 t
    intro a
    match a with
    | ⟨0, _⟩ => show win0_5.index t 0 * 1 ≤ (i 0).val ∧ (i 0).val < win0_5.index t 0 * 1 + 1; omega
    | ⟨1, _⟩ => show win0_5.index t 1 * 256 ≤ (i 1).val ∧ (i 1).val < win0_5.index t 1 * 256 + 256; omega
    | ⟨2, _⟩ => show win0_5.index t 2 * 768 ≤ (i 2).val ∧ (i 2).val < win0_5.index t 2 * 768 + 768; omega

theorem flushed6 (t : Fin cfg0.N) : (dats m 0 c).flushed 6 t = ((cfg0.win 6).blk t).view.read (Elt Ideal) (firsts (a1 m c) (grads m c)) := by
  show (cfg0.win 6).cut (grid0.coords t) ((dats m 0 c).after 6 t) = _
  rw [after0_6]
  funext y
  obtain ⟨r, q, rfl⟩ := tile_index (R := 256) (C := 768) y
  rw [View.read_apply]
  refine (out6 (iblk m c 0 t) (iblk m c 1 t) (iblk m c 2 t) (iblk m c 3 t) r q).trans ?_
  rw [blk1 m c t r q, blk3 m c t r q]
  show (firsts (a1 m c) (grads m c)) (spot t r q) = _
  refine congrArg (firsts (a1 m c) (grads m c)) ?_
  have h := idx6 t
  funext a
  apply Fin.ext
  match a with
  | ⟨0, _⟩ => show t.val / 3 = win0_6.index t 0 * 1 + 1 * 0; omega
  | ⟨1, _⟩ => show t.val % 3 * 256 + r.val = win0_6.index t 1 * 256 + 1 * r.val; omega
  | ⟨2, _⟩ => show q.val = win0_6.index t 2 * 768 + 1 * q.val; omega

theorem final6 : (dats m 0 c).arrAt 6 cfg0.N = firsts (a1 m c) (grads m c) :=
  (dats m 0 c).arrAt_eq_of_cover 6 (firsts (a1 m c) (grads m c)) (fun t _ => flushed6 m c t) fun i => by
    have h0 : (i 0).val < 1 := (i 0).isLt
    have h1 : (i 1).val < 768 := (i 1).isLt
    have h2 : (i 2).val < 768 := (i 2).isLt
    obtain ⟨t, e0, e1⟩ := onto ⟨(i 0).val, h0⟩ ⟨(i 1).val / 256, by omega⟩
    dsimp only at e0 e1
    refine ⟨t, flush0_6 t, ?_⟩
    show i ∈ ((View.whole main_v0_2).slice (win0_6.rect t)).set
    rw [View.set_slice_whole, Rect.mem_set_unit]
    have h := idx6 t
    intro a
    match a with
    | ⟨0, _⟩ => show win0_6.index t 0 * 1 ≤ (i 0).val ∧ (i 0).val < win0_6.index t 0 * 1 + 1; omega
    | ⟨1, _⟩ => show win0_6.index t 1 * 256 ≤ (i 1).val ∧ (i 1).val < win0_6.index t 1 * 256 + 256; omega
    | ⟨2, _⟩ => show win0_6.index t 2 * 768 ≤ (i 2).val ∧ (i 2).val < win0_6.index t 2 * 768 + 768; omega

theorem flushed7 (t : Fin cfg0.N) : (dats m 0 c).flushed 7 t = ((cfg0.win 7).blk t).view.read (Elt Ideal) (seconds (a2 m c) (grads m c)) := by
  show (cfg0.win 7).cut (grid0.coords t) ((dats m 0 c).after 7 t) = _
  rw [after0_7]
  funext y
  obtain ⟨r, q, rfl⟩ := tile_index (R := 256) (C := 768) y
  rw [View.read_apply]
  refine (out7 (iblk m c 0 t) (iblk m c 1 t) (iblk m c 2 t) (iblk m c 3 t) r q).trans ?_
  rw [blk2 m c t r q, blk3 m c t r q]
  show (seconds (a2 m c) (grads m c)) (spot t r q) = _
  refine congrArg (seconds (a2 m c) (grads m c)) ?_
  have h := idx7 t
  funext a
  apply Fin.ext
  match a with
  | ⟨0, _⟩ => show t.val / 3 = win0_7.index t 0 * 1 + 1 * 0; omega
  | ⟨1, _⟩ => show t.val % 3 * 256 + r.val = win0_7.index t 1 * 256 + 1 * r.val; omega
  | ⟨2, _⟩ => show q.val = win0_7.index t 2 * 768 + 1 * q.val; omega

theorem final7 : (dats m 0 c).arrAt 7 cfg0.N = seconds (a2 m c) (grads m c) :=
  (dats m 0 c).arrAt_eq_of_cover 7 (seconds (a2 m c) (grads m c)) (fun t _ => flushed7 m c t) fun i => by
    have h0 : (i 0).val < 1 := (i 0).isLt
    have h1 : (i 1).val < 768 := (i 1).isLt
    have h2 : (i 2).val < 768 := (i 2).isLt
    obtain ⟨t, e0, e1⟩ := onto ⟨(i 0).val, h0⟩ ⟨(i 1).val / 256, by omega⟩
    dsimp only at e0 e1
    refine ⟨t, flush0_7 t, ?_⟩
    show i ∈ ((View.whole main_v0_3).slice (win0_7.rect t)).set
    rw [View.set_slice_whole, Rect.mem_set_unit]
    have h := idx7 t
    intro a
    match a with
    | ⟨0, _⟩ => show win0_7.index t 0 * 1 ≤ (i 0).val ∧ (i 0).val < win0_7.index t 0 * 1 + 1; omega
    | ⟨1, _⟩ => show win0_7.index t 1 * 256 ≤ (i 1).val ∧ (i 1).val < win0_7.index t 1 * 256 + 256; omega
    | ⟨2, _⟩ => show win0_7.index t 2 * 768 ≤ (i 2).val ∧ (i 2).val < win0_7.index t 2 * 768 + 768; omega

end Cert.Kernel32Ideal.Product

end
-- ==== Proof.AdamHgrn.lean ====
/- The optimiser's step of `hgrn_w_in`: what the grid of 16 tiles leaves in the four results, and the reference's. -/
module

public import proofs.«01_k».proof.Proof.Adam
public import proofs.«01_k».proof.Proof.Gen.Kernel33Ideal.Value
public import proofs.«01_k».proof.Proof.Gen.Reference33Ideal.Read
public import Idealize.ShloMosaic.Lib.Pointwise
public import Idealize.ShloMosaic.Lib.WritesUnit
public import Idealize.ShloMosaic.Lib.Tactic

@[expose] public section

set_option maxRecDepth 16384

noncomputable section

namespace Cert.Reference33Ideal.Product

open Idealize.ShloMosaic Cert.Reference33Ideal Cert.Reference33Ideal.Read Cert.Adam

theorem grads_eq (g : Vec Ideal S2048x3584 .f32) : val_main_v0 (F := Ideal) g = oneLayer g := by
  funext i
  rw [val_main_v0_apply]
  refine congrArg g ?_
  funext a
  match a with
  | ⟨0, _⟩ => rfl
  | ⟨1, _⟩ => rfl

theorem firsts_eq (m : Vec Ideal S1x2048x3584 .f32) (g : Vec Ideal S2048x3584 .f32) : val_main_v6 (F := Ideal) m g = firsts m (oneLayer g) := by
  funext i
  rw [val_main_v6_apply, val_main_v3_apply, val_main_v2_apply, val_main_cst_apply, val_main_v5_apply, val_main_v4_apply, val_main_cst_0_apply, show val_main_v1 (F := Ideal) g = oneLayer g from grads_eq g]
  rfl

theorem seconds_eq (v : Vec Ideal S1x2048x3584 .f32) (g : Vec Ideal S2048x3584 .f32) : val_main_v12 (F := Ideal) v g = seconds v (oneLayer g) := by
  funext i
  rw [val_main_v12_apply, val_main_v8_apply, val_main_v7_apply, val_main_cst_1_apply, val_main_v11_apply, val_main_v10_apply, val_main_cst_2_apply, val_main_v9_apply,
    show val_main_v1 (F := Ideal) g = oneLayer g from grads_eq g]
  rfl

theorem steps_eq (w m v : Vec Ideal S1x2048x3584 .f32) (g : Vec Ideal S2048x3584 .f32) : val_main_v25 (F := Ideal) w m v g = steps w m v (oneLayer g) := by
  funext i
  rw [val_main_v25_apply, val_main_v24_apply, val_main_cst_7_apply, val_main_v23_apply, val_main_v22_apply, val_main_v21_apply, val_main_cst_6_apply, val_main_v20_apply, val_main_v14_apply, val_main_v13_apply,
    val_main_cst_3_apply, val_main_v19_apply, val_main_v18_apply, val_main_cst_5_apply, val_main_v17_apply, val_main_v16_apply, val_main_v15_apply, val_main_cst_4_apply, firsts_eq, seconds_eq]
  rfl

end Cert.Reference33Ideal.Product

namespace Cert.Kernel33Ideal.Product

open Idealize.ShloMosaic Idealize.ShloMosaic.TcCoe Idealize.SL.Sem Cert.Kernel33Ideal Cert.Kernel33Ideal.Gen Cert.Adam

theorem hz2 : (![0, 0] : Fin 2 → Nat) = fun _ => 0 := funext fun a => match a with | ⟨0, _⟩ => rfl | ⟨1, _⟩ => rfl
theorem hz3 : (![0, 0, 0] : Fin 3 → Nat) = fun _ => 0 := funext fun a => match a with | ⟨0, _⟩ => rfl | ⟨1, _⟩ => rfl | ⟨2, _⟩ => rfl

/-- A tile of the gradient, -/
theorem out4 (x0 x1 x2 : Vec Ideal S1x128x3584 .f32) (x3 : Vec Ideal S128x3584 .f32) (r : Fin 128) (q : Fin 3584) :
    out0_4 (F := Ideal) x0 x1 x2 x3 (ix3 (0 : Fin 1) r q) = x3 (ix2 r q) := by
  unfold out0_4
  rw [View.canon_unit_zero hz3]
  simp only [View.ld_unit_zero (S := S1x128x3584) hz3, View.ld_unit_zero (S := S128x3584) hz2]
  unfold k0_pay4
  pointwise []

/-- of the step, -/
theorem out5 (x0 x1 x2 : Vec Ideal S1x128x3584 .f32) (x3 : Vec Ideal S128x3584 .f32) (r : Fin 128) (q : Fin 3584) :
    out0_5 (F := Ideal) x0 x1 x2 x3 (ix3 (0 : Fin 1) r q) = step (x0 (ix3 (0 : Fin 1) r q)) (x1 (ix3 (0 : Fin 1) r q)) (x2 (ix3 (0 : Fin 1) r q)) (x3 (ix2 r q)) := by
  unfold out0_5
  rw [View.canon_unit_zero hz3]
  simp only [View.ld_unit_zero (S := S1x128x3584) hz3, View.ld_unit_zero (S := S128x3584) hz2]
  unfold k0_pay1 k0_pay7 k0_pay8 k0_pay5 k0_pay6
  pointwise []
  rfl

/-- of the first moment -/
theorem out6 (x0 x1 x2 : Vec Ideal S1x128x3584 .f32) (x3 : Vec Ideal S128x3584 .f32) (r : Fin 128) (q : Fin 3584) :
    out0_6 (F := Ideal) x0 x1 x2 x3 (ix3 (0 : Fin 1) r q) = first (x1 (ix3 (0 : Fin 1) r q)) (x3 (ix2 r q)) := by
  unfold out0_6
  rw [View.canon_unit_zero hz3]
  simp only [View.ld_unit_zero (S := S1x128x3584) hz3, View.ld_unit_zero (S := S128x3584) hz2]
  unfold k0_pay2 k0_pay5
  pointwise []
  rfl

/-- and of the second. -/
theorem out7 (x0 x1 x2 : Vec Ideal S1x128x3584 .f32) (x3 : Vec Ideal S128x3584 .f32) (r : Fin 128) (q : Fin 3584) :
    out0_7 (F := Ideal) x0 x1 x2 x3 (ix3 (0 : Fin 1) r q) = second (x2 (ix3 (0 : Fin 1) r q)) (x3 (ix2 r q)) := by
  unfold out0_7
  rw [View.canon_unit_zero hz3]
  simp only [View.ld_unit_zero (S := S1x128x3584) hz3, View.ld_unit_zero (S := S128x3584) hz2]
  unfold k0_pay3 k0_pay6
  pointwise []
  rfl

variable (m : (ℓ : Loc nD τ sig) → Buf (Elt Ideal) ℓ) (c : Dev nD)

/-- The arguments as launched: the weight, its two moments, and the gradient. -/
abbrev a0 : Vec Ideal S1x2048x3584 .f32 := m ((c : Thread nD τ).loc main_arg0)
abbrev a1 : Vec Ideal S1x2048x3584 .f32 := m ((c : Thread nD τ).loc main_arg1)
abbrev a2 : Vec Ideal S1x2048x3584 .f32 := m ((c : Thread nD τ).loc main_arg2)
abbrev a3 : Vec Ideal S2048x3584 .f32 := m ((c : Thread nD τ).loc main_arg3)
abbrev grads : Vec Ideal S1x2048x3584 .f32 := oneLayer (a3 m c)

/-- Where a point's tile lies. -/
abbrev spot (t : Fin cfg0.N) (r : Fin 128) (q : Fin 3584) : S1x2048x3584.Idx :=
  ix3 (⟨t.val / 16, by have := t.isLt; have : cfg0.N = 16 := N_0; omega⟩ : Fin 1)
    (⟨t.val % 16 * 128 + r.val, by have := r.isLt; omega⟩ : Fin 2048) q

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx1 : ∀ t : Fin cfg0.N, win0_1.index t 0 = t.val / 16 ∧ win0_1.index t 1 = t.val % 16 ∧ win0_1.index t 2 = 0 :=
  (by decide +kernel : ∀ t : Fin grid0.N, win0_1.index t 0 = t.val / 16 ∧ win0_1.index t 1 = t.val % 16 ∧ win0_1.index t 2 = 0)
theorem idx2 : ∀ t : Fin cfg0.N, win0_2.index t 0 = t.val / 16 ∧ win0_2.index t 1 = t.val % 16 ∧ win0_2.index t 2 = 0 :=
  (by decide +kernel : ∀ t : Fin grid0.N, win0_2.index t 0 = t.val / 16 ∧ win0_2.index t 1 = t.val % 16 ∧ win0_2.index t 2 = 0)
theorem idx4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)
theorem idx5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)
theorem idx6 : ∀ t : Fin cfg0.N, win0_6.index t 0 = t.val / 16 ∧ win0_6.index t 1 = t.val % 16 ∧ win0_6.index t 2 = 0 :=
  (by decide +kernel : ∀ t : Fin grid0.N, win0_6.index t 0 = t.val / 16 ∧ win0_6.index t 1 = t.val % 16 ∧ win0_6.index t 2 = 0)
theorem idx7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)
theorem idx3 : ∀ t : Fin cfg0.N, win0_3.index t 0 = t.val % 16 ∧ win0_3.index t 1 = 0 :=
  (by decide +kernel : ∀ t : Fin grid0.N, win0_3.index t 0 = t.val % 16 ∧ win0_3.index t 1 = 0)

theorem blk0 (t : Fin cfg0.N) (r : Fin 128) (q : Fin 3584) : (iblk m c 0 t : Vec Ideal S1x128x3584 .f32) (ix3 (0 : Fin 1) r q) = a0 m c (spot t r q) := by
  unfold iblk
  rw [View.read_apply]
  show V m c main_arg0 _ = _
  rw [V_main_arg0]
  refine congrArg (a0 m c) ?_
  have h := idx0 t
  funext a
  apply Fin.ext
  match a with
  | ⟨0, _⟩ => show win0_0.index t 0 * 1 + 1 * 0 = t.val / 16; omega
  | ⟨1, _⟩ => show win0_0.index t 1 * 128 + 1 * r.val = t.val % 16 * 128 + r.val; omega
  | ⟨2, _⟩ => show win0_0.index t 2 * 3584 + 1 * q.val = q.val; omega

theorem blk1 (t : Fin cfg0.N) (r : Fin 128) (q : Fin 3584) : (iblk m c 1 t : Vec Ideal S1x128x3584 .f32) (ix3 (0 : Fin 1) r q) = a1 m c (spot t r q) := by
  unfold iblk
  rw [View.read_apply]
  show V m c main_arg1 _ = _
  rw [V_main_arg1]
  refine congrArg (a1 m c) ?_
  have h := idx1 t
  funext a
  apply Fin.ext
  match a with
  | ⟨0, _⟩ => show win0_1.index t 0 * 1 + 1 * 0 = t.val / 16; omega
  | ⟨1, _⟩ => show win0_1.index t 1 * 128 + 1 * r.val = t.val % 16 * 128 + r.val; omega
  | ⟨2, _⟩ => show win0_1.index t 2 * 3584 + 1 * q.val = q.val; omega

theorem blk2 (t : Fin cfg0.N) (r : Fin 128) (q : Fin 3584) : (iblk m c 2 t : Vec Ideal S1x128x3584 .f32) (ix3 (0 : Fin 1) r q) = a2 m c (spot t r q) := by
  unfold iblk
  rw [View.read_apply]
  show V m c main_arg2 _ = _
  rw [V_main_arg2]
  refine congrArg (a2 m c) ?_
  have h := idx2 t
  funext a
  apply Fin.ext
  match a with
  | ⟨0, _⟩ => show win0_2.index t 0 * 1 + 1 * 0 = t.val / 16; omega
  | ⟨1, _⟩ => show win0_2.index t 1 * 128 + 1 * r.val = t.val % 16 * 128 + r.val; omega
  | ⟨2, _⟩ => show win0_2.index t 2 * 3584 + 1 * q.val = q.val; omega

theorem blk3 (t : Fin cfg0.N) (r : Fin 128) (q : Fin 3584) :
    (iblk m c 3 t : Vec Ideal S128x3584 .f32) (ix2 r q) = grads m c (spot t r q) := by
  unfold iblk
  rw [View.read_apply]
  show V m c main_arg3 _ = _
  rw [V_main_arg3]
  refine congrArg (a3 m c) ?_
  have h := idx3 t
  funext a
  apply Fin.ext
  match a with
  | ⟨0, _⟩ => show win0_3.index t 0 * 128 + 1 * r.val = t.val % 16 * 128 + r.val; omega
  | ⟨1, _⟩ => show win0_3.index t 1 * 3584 + 1 * q.val = q.val; omega

theorem onto : ∀ (l : Fin 1) (p : Fin 16), ∃ t : Fin cfg0.N, t.val / 16 = l.val ∧ t.val % 16 = p.val :=
  (by decide +kernel : ∀ (l : Fin 1) (p : Fin 16), ∃ t : Fin grid0.N, t.val / 16 = l.val ∧ t.val % 16 = p.val)

theorem flushed4 (t : Fin cfg0.N) : (dats m 0 c).flushed 4 t = ((cfg0.win 4).blk t).view.read (Elt Ideal) (grads m c) := by
  show (cfg0.win 4).cut (grid0.coords t) ((dats m 0 c).after 4 t) = _
  rw [after0_4]
  funext y
  obtain ⟨r, q, rfl⟩ := tile_index (R := 128) (C := 3584) y
  rw [View.read_apply]
  refine (out4 (iblk m c 0 t) (iblk m c 1 t) (iblk m c 2 t) (iblk m c 3 t) r q).trans ?_
  rw [blk3 m c t r q]
  show (grads m c) (spot t r q) = _
  refine congrArg (grads m c) ?_
  have h := idx4 t
  funext a
  apply Fin.ext
  match a with
  | ⟨0, _⟩ => show t.val / 16 = win0_4.index t 0 * 1 + 1 * 0; omega
  | ⟨1, _⟩ => show t.val % 16 * 128 + r.val = win0_4.index t 1 * 128 + 1 * r.val; omega
  | ⟨2, _⟩ => show q.val = win0_4.index t 2 * 3584 + 1 * q.val; omega

theorem final4 : (dats m 0 c).arrAt 4 cfg0.N = grads m c :=
  (dats m 0 c).arrAt_eq_of_cover 4 (grads m c) (fun t _ => flushed4 m c t) fun i => by
    have h0 : (i 0).val < 1 := (i 0).isLt
    have h1 : (i 1).val < 2048 := (i 1).isLt
    have h2 : (i 2).val < 3584 := (i 2).isLt
    obtain ⟨t, e0, e1⟩ := onto ⟨(i 0).val, h0⟩ ⟨(i 1).val / 128, by omega⟩
    dsimp only at e0 e1
    refine ⟨t, flush0_4 t, ?_⟩
    show i ∈ ((View.whole main_v0_0).slice (win0_4.rect t)).set
    rw [View.set_slice_whole, Rect.mem_set_unit]
    have h := idx4 t
    intro a
    match a with
    | ⟨0, _⟩ => show win0_4.index t 0 * 1 ≤ (i 0).val ∧ (i 0).val < win0_4.index t 0 * 1 + 1; omega
    | ⟨1, _⟩ => show win0_4.index t 1 * 128 ≤ (i 1).val ∧ (i 1).val < win0_4.index t 1 * 128 + 128; omega
    | ⟨2, _⟩ => show win0_4.index t 2 * 3584 ≤ (i 2).val ∧ (i 2).val < win0_4.index t 2 * 3584 + 3584; omega

theorem flushed5 (t : Fin cfg0.N) : (dats m 0 c).flushed 5 t = ((cfg0.win 5).blk t).view.read (Elt Ideal) (steps (a0 m c) (a1 m c) (a2 m c) (grads m c)) := by
  show (cfg0.win 5).cut (grid0.coords t) ((dats m 0 c).after 5 t) = _
  rw [after0_5]
  funext y
  obtain ⟨r, q, rfl⟩ := tile_index (R := 128) (C := 3584) y
  rw [View.read_apply]
  refine (out5 (iblk m c 0 t) (iblk m c 1 t) (iblk m c 2 t) (iblk m c 3 t) r q).trans ?_
  rw [blk0 m c t r q, blk1 m c t r q, blk2 m c t r q, blk3 m c t r q]
  show (steps (a0 m c) (a1 m c) (a2 m c) (grads m c)) (spot t r q) = _
  refine congrArg (steps (a0 m c) (a1 m c) (a2 m c) (grads m c)) ?_
  have h := idx5 t
  funext a
  apply Fin.ext
  match a with
  | ⟨0, _⟩ => show t.val / 16 = win0_5.index t 0 * 1 + 1 * 0; omega
  | ⟨1, _⟩ => show t.val % 16 * 128 + r.val = win0_5.index t 1 * 128 + 1 * r.val; omega
  | ⟨2, _⟩ => show q.val = win0_5.index t 2 * 3584 + 1 * q.val; omega

theorem final5 : (dats m 0 c).arrAt 5 cfg0.N = steps (a0 m c) (a1 m c) (a2 m c) (grads m c) :=
  (dats m 0 c).arrAt_eq_of_cover 5 (steps (a0 m c) (a1 m c) (a2 m c) (grads m c)) (fun t _ => flushed5 m c t) fun i => by
    have h0 : (i 0).val < 1 := (i 0).isLt
    have h1 : (i 1).val < 2048 := (i 1).isLt
    have h2 : (i 2).val < 3584 := (i 2).isLt
    obtain ⟨t, e0, e1⟩ := onto ⟨(i 0).val, h0⟩ ⟨(i 1).val / 128, by omega⟩
    dsimp only at e0 e1
    refine ⟨t, flush0_5 t, ?_⟩
    show i ∈ ((View.whole main_v0_1).slice (win0_5.rect t)).set
    rw [View.set_slice_whole, Rect.mem_set_unit]
    have h := idx5 t
    intro a
    match a with
    | ⟨0, _⟩ => show win0_5.index t 0 * 1 ≤ (i 0).val ∧ (i 0).val < win0_5.index t 0 * 1 + 1; omega
    | ⟨1, _⟩ => show win0_5.index t 1 * 128 ≤ (i 1).val ∧ (i 1).val < win0_5.index t 1 * 128 + 128; omega
    | ⟨2, _⟩ => show win0_5.index t 2 * 3584 ≤ (i 2).val ∧ (i 2).val < win0_5.index t 2 * 3584 + 3584; omega

theorem flushed6 (t : Fin cfg0.N) : (dats m 0 c).flushed 6 t = ((cfg0.win 6).blk t).view.read (Elt Ideal) (firsts (a1 m c) (grads m c)) := by
  show (cfg0.win 6).cut (grid0.coords t) ((dats m 0 c).after 6 t) = _
  rw [after0_6]
  funext y
  obtain ⟨r, q, rfl⟩ := tile_index (R := 128) (C := 3584) y
  rw [View.read_apply]
  refine (out6 (iblk m c 0 t) (iblk m c 1 t) (iblk m c 2 t) (iblk m c 3 t) r q).trans ?_
  rw [blk1 m c t r q, blk3 m c t r q]
  show (firsts (a1 m c) (grads m c)) (spot t r q) = _
  refine congrArg (firsts (a1 m c) (grads m c)) ?_
  have h := idx6 t
  funext a
  apply Fin.ext
  match a with
  | ⟨0, _⟩ => show t.val / 16 = win0_6.index t 0 * 1 + 1 * 0; omega
  | ⟨1, _⟩ => show t.val % 16 * 128 + r.val = win0_6.index t 1 * 128 + 1 * r.val; omega
  | ⟨2, _⟩ => show q.val = win0_6.index t 2 * 3584 + 1 * q.val; omega

theorem final6 : (dats m 0 c).arrAt 6 cfg0.N = firsts (a1 m c) (grads m c) :=
  (dats m 0 c).arrAt_eq_of_cover 6 (firsts (a1 m c) (grads m c)) (fun t _ => flushed6 m c t) fun i => by
    have h0 : (i 0).val < 1 := (i 0).isLt
    have h1 : (i 1).val < 2048 := (i 1).isLt
    have h2 : (i 2).val < 3584 := (i 2).isLt
    obtain ⟨t, e0, e1⟩ := onto ⟨(i 0).val, h0⟩ ⟨(i 1).val / 128, by omega⟩
    dsimp only at e0 e1
    refine ⟨t, flush0_6 t, ?_⟩
    show i ∈ ((View.whole main_v0_2).slice (win0_6.rect t)).set
    rw [View.set_slice_whole, Rect.mem_set_unit]
    have h := idx6 t
    intro a
    match a with
    | ⟨0, _⟩ => show win0_6.index t 0 * 1 ≤ (i 0).val ∧ (i 0).val < win0_6.index t 0 * 1 + 1; omega
    | ⟨1, _⟩ => show win0_6.index t 1 * 128 ≤ (i 1).val ∧ (i 1).val < win0_6.index t 1 * 128 + 128; omega
    | ⟨2, _⟩ => show win0_6.index t 2 * 3584 ≤ (i 2).val ∧ (i 2).val < win0_6.index t 2 * 3584 + 3584; omega

theorem flushed7 (t : Fin cfg0.N) : (dats m 0 c).flushed 7 t = ((cfg0.win 7).blk t).view.read (Elt Ideal) (seconds (a2 m c) (grads m c)) := by
  show (cfg0.win 7).cut (grid0.coords t) ((dats m 0 c).after 7 t) = _
  rw [after0_7]
  funext y
  obtain ⟨r, q, rfl⟩ := tile_index (R := 128) (C := 3584) y
  rw [View.read_apply]
  refine (out7 (iblk m c 0 t) (iblk m c 1 t) (iblk m c 2 t) (iblk m c 3 t) r q).trans ?_
  rw [blk2 m c t r q, blk3 m c t r q]
  show (seconds (a2 m c) (grads m c)) (spot t r q) = _
  refine congrArg (seconds (a2 m c) (grads m c)) ?_
  have h := idx7 t
  funext a
  apply Fin.ext
  match a with
  | ⟨0, _⟩ => show t.val / 16 = win0_7.index t 0 * 1 + 1 * 0; omega
  | ⟨1, _⟩ => show t.val % 16 * 128 + r.val = win0_7.index t 1 * 128 + 1 * r.val; omega
  | ⟨2, _⟩ => show q.val = win0_7.index t 2 * 3584 + 1 * q.val; omega

theorem final7 : (dats m 0 c).arrAt 7 cfg0.N = seconds (a2 m c) (grads m c) :=
  (dats m 0 c).arrAt_eq_of_cover 7 (seconds (a2 m c) (grads m c)) (fun t _ => flushed7 m c t) fun i => by
    have h0 : (i 0).val < 1 := (i 0).isLt
    have h1 : (i 1).val < 2048 := (i 1).isLt
    have h2 : (i 2).val < 3584 := (i 2).isLt
    obtain ⟨t, e0, e1⟩ := onto ⟨(i 0).val, h0⟩ ⟨(i 1).val / 128, by omega⟩
    dsimp only at e0 e1
    refine ⟨t, flush0_7 t, ?_⟩
    show i ∈ ((View.whole main_v0_3).slice (win0_7.rect t)).set
    rw [View.set_slice_whole, Rect.mem_set_unit]
    have h := idx7 t
    intro a
    match a with
    | ⟨0, _⟩ => show win0_7.index t 0 * 1 ≤ (i 0).val ∧ (i 0).val < win0_7.index t 0 * 1 + 1; omega
    | ⟨1, _⟩ => show win0_7.index t 1 * 128 ≤ (i 1).val ∧ (i 1).val < win0_7.index t 1 * 128 + 128; omega
    | ⟨2, _⟩ => show win0_7.index t 2 * 3584 ≤ (i 2).val ∧ (i 2).val < win0_7.index t 2 * 3584 + 3584; omega

end Cert.Kernel33Ideal.Product

end
-- ==== Proof.GateFwd0.lean ====
/- The gates' forward call of the first layer: the same product as the second layer's, the gate's columns taken from a projection
   of 8192. -/
module

public import proofs.«01_k».proof.Proof.Gen.Kernel34Ideal.Value
public import proofs.«01_k».proof.Proof.Gen.Reference34Ideal.Read
public import proofs.«01_k».proof.Proof.GateFwd
public import Idealize.ShloMosaic.Lib.Pointwise
public import Idealize.ShloMosaic.Lib.WritesUnit
public import Idealize.ShloMosaic.Lib.Tactic

@[expose] public section

set_option maxRecDepth 16384

noncomputable section

namespace Cert.GateFwd

open Idealize.ShloMosaic Cert.Gate

/-- The whole result; the gate's columns start at 4096. -/
def firstResult (p : Vec Ideal ⟨2, ![4096, 4096]⟩ .bf16) (g : Vec Ideal ⟨2, ![4096, 8192]⟩ .bf16) (s : Vec Ideal ⟨2, ![1, 4096]⟩ .f32) :
    Vec Ideal ⟨2, ![4096, 4096]⟩ .bf16 := fun i =>
  gated (p i) (s (ix2 (0 : Fin 1) (i 1)))
    (g (ix2 (i 0) ⟨4096 + (i 1).val, by have h : (i 1).val < 4096 := (i 1).isLt; omega⟩))

end Cert.GateFwd

namespace Cert.Reference34Ideal.Product

open Idealize.ShloMosaic Cert.Reference34Ideal Cert.Reference34Ideal.Read Cert.GateFwd Cert.Gate

theorem val_eq (p : Vec Ideal S4096x4096 .bf16) (g : Vec Ideal S4096x8192 .bf16) (s : Vec Ideal S1x4096 .f32) :
    val_main_v7 (F := Ideal) p g s = firstResult p g s := by
  funext i
  obtain ⟨r, q, rfl⟩ : ∃ r q, i = ix2 r q := ⟨i 0, i 1, by idx_ext⟩
  have e1 : idx_main_v1 (ix2 r q) = ix2 r ⟨4096 + q.val, by have h : q.val < 4096 := q.isLt; omega⟩ := by
    funext a
    apply Fin.ext
    match a with
    | ⟨0, _⟩ => rfl
    | ⟨1, _⟩ => rfl
  have e2 : idx_main_v3 (ix2 r q) = ix2 (0 : Fin 1) q := by
    funext a
    apply Fin.ext
    match a with
    | ⟨0, _⟩ => rfl
    | ⟨1, _⟩ => rfl
  rw [val_main_v7_apply, val_main_v6_apply, val_main_v4_apply, val_main_v0_apply, val_main_v3_apply, val_main_v5_apply,
    val_main_call0_v5_apply, val_main_call0_v4_apply, val_main_call0_cst_0_apply, val_main_call0_v3_apply, val_main_call0_v2_apply,
    val_main_call0_cst_apply, val_main_call0_v1_apply, val_main_call0_v0_apply, val_main_v2_apply, val_main_v1_apply, e1, e2]
  show p (ix2 r q) * s (ix2 (0 : Fin 1) q) * (g _ * Ideal.div (Ideal.ofBits .f32 0x3F800000#32) (Ideal.ofBits .f32 0x3F800000#32 + Ideal.exp (-g _))) = _
  rw [Ideal.ofBits_one_f32]
  rfl

end Cert.Reference34Ideal.Product

namespace Cert.Kernel34Ideal.Product

open Idealize.ShloMosaic Idealize.ShloMosaic.TcCoe Idealize.SL.Sem Cert.Kernel34Ideal Cert.Kernel34Ideal.Gen Cert.GateFwd Cert.Gate

theorem hz2 : (![0, 0] : Fin 2 → Nat) = fun _ => 0 := funext fun a => match a with | ⟨0, _⟩ => rfl | ⟨1, _⟩ => rfl

/-- The body's arithmetic on the two slots it reads, by what the slots hold as blocks of two dimensions. -/
theorem pay_apply (g p : Vec Ideal S1x512x1024 .bf16) (s : Vec Ideal S1x1024 .f32) (wg wp : Vec Ideal S512x1024 .bf16)
    (hg : shapeCast S512x1024 g shapeCasts_S1x512x1024_S512x1024 = wg) (hp : shapeCast S512x1024 p shapeCasts_S1x512x1024_S512x1024 = wp)
    (r : Fin 512) (q : Fin 1024) :
    k0_pay1 (F := Ideal) g p s (ix2 r q) = gated (wp (ix2 r q)) (s (ix2 (0 : Fin 1) q)) (wg (ix2 r q)) := by
  unfold k0_pay1
  rw [hg, hp]
  pointwise []
  rw [zero_sub]
  rfl

variable (m : (ℓ : Loc nD τ sig) → Buf (Elt Ideal) ℓ) (c : Dev nD)

/-- Ring 0's slot, read back as a block of two dimensions, holds what was copied to it. -/
theorem slot0 (s : Fin 3) {off : Fin 3 → ℕ} (h : off = ![s.val, 0, 0]) (inb : ∀ a, off a + S1x512x1024.size a ≤ S3x512x1024.size a)
    (f : HbBuf0 (F := Ideal) c (rslot0_0 s)) (w : Vec Ideal S512x1024 .bf16) :
    shapeCast S512x1024 (scM0_0.view.readAt (Elt Ideal) (Rect.unit (s := S3x512x1024) off S1x512x1024.size inb).toLoadRect
      ((rslot0_0 s).view.writes (Elt Ideal) f [⟨Rect.whole S512x1024, w⟩])) shapeCasts_S1x512x1024_S512x1024 = w := by
  subst h
  exact (rslot0_0 s).view.read_writes_whole f w

/-- Ring 1's slot, read back as a block of two dimensions, holds what was copied to it. -/
theorem slot1 (s : Fin 3) {off : Fin 3 → ℕ} (h : off = ![s.val, 0, 0]) (inb : ∀ a, off a + S1x512x1024.size a ≤ S3x512x1024.size a)
    (f : HbBuf0 (F := Ideal) c (rslot0_1 s)) (w : Vec Ideal S512x1024 .bf16) :
    shapeCast S512x1024 (scM0_1.view.readAt (Elt Ideal) (Rect.unit (s := S3x512x1024) off S1x512x1024.size inb).toLoadRect
      ((rslot0_1 s).view.writes (Elt Ideal) f [⟨Rect.whole S512x1024, w⟩])) shapeCasts_S1x512x1024_S512x1024 = w := by
  subst h
  exact (rslot0_1 s).view.read_writes_whole f w

theorem out_A (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_A_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_A_1
  rw [View.read_writes_eq_canon _ _ _ (cover0_A_1 c t p4 h4 p5 h5 hA hB x0 fh0 fh1)]
  unfold kernelRun0_A
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

theorem out_B (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_B_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_B_1
  rw [View.read_writes_eq_canon _ _ _ (cover0_B_1 c t p4 h4 p5 h5 hA hB x0 fh0 fh1)]
  unfold kernelRun0_B
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

theorem out_C (t : Fin cfg0.N) (p4 : Memref sig .tc .vmem S1x1024 .f32) (h4 : p4.IsWhole) (p5 : Memref sig .tc .vmem S512x1024 .bf16)
    (h5 : p5.IsWhole) (hA hB) (x0 : Vec Ideal S1x1024 .f32) (fh0 : HbBuf0 (F := Ideal) c hbM0_0) (fh1 : HbBuf0 (F := Ideal) c hbM0_1)
    (r : Fin 512) (q : Fin 1024) :
    out0_C_1 c t p4 h4 p5 h5 hA hB x0 fh0 fh1 (ix2 r q) = gated ((srcB0_0 (Ring.bk 32 t.val)).view.read (Elt Ideal) fh0 (ix2 r q))
      (x0 (ix2 (0 : Fin 1) q)) ((srcB0_1 (Ring.bk 32 t.val)).view.read (Elt Ideal) fh1 (ix2 r q)) := by
  unfold out0_C_1
  rw [View.read_writes_eq_canon _ _ _ (cover0_C_1 c t p4 h4 p5 h5 hA hB x0 fh0 fh1)]
  unfold kernelRun0_C
  dsimp only
  sl_unfold_words
  rw [View.canon_unit_zero hz2]
  refine (pay_apply _ _ _ _ _ (slot1 c (Ring.sl 3 t.val) (coff0_0_13 t) (k0_off16_inb (grid0.coords t)) _ _)
    (slot0 c (Ring.sl 3 t.val) (coff0_0_13 t) (k0_off16_inb (grid0.coords t)) _ _) r q).trans ?_
  rw [View.readAt_eq_ld, h4.read_unread, View.ld_unit_zero (S := S1x1024) hz2]

/-- The three arguments as launched. -/
abbrev a0 : Vec Ideal S4096x4096 .bf16 := m ((c : Thread nD τ).loc main_arg0)
abbrev a1 : Vec Ideal S4096x8192 .bf16 := m ((c : Thread nD τ).loc main_arg1)
abbrev a2 : Vec Ideal S1x4096 .f32 := m ((c : Thread nD τ).loc main_arg2)

/-- What any point leaves in its block. -/
theorem outs (t : Fin cfg0.N) (r : Fin 512) (q : Fin 1024) :
    outsAt0 m c t.val t.isLt (ix2 r q) = gated ((srcB0_0 (Ring.bk 32 t.val)).view.read (Elt Ideal) (V m c main_arg0) (ix2 r q))
      ((iblk m c 0 t : Vec Ideal S1x1024 .f32) (ix2 (0 : Fin 1) q)) ((srcB0_1 (Ring.bk 32 t.val)).view.read (Elt Ideal) (V m c main_arg1) (ix2 r q)) := by
  by_cases h0 : t.val % 32 = 0
  · have h1 : t.val < 30 := by have := t.isLt; have : cfg0.N = 32 := N_0; omega
    rw [outsAt0_A m c t h0 h1]
    exact out_A ..
  · by_cases h1 : t.val < 30
    · rw [outsAt0_B m c t h0 h1]
      exact out_B ..
    · rw [outsAt0_C m c t h0 h1]
      exact out_C ..

theorem src0 (b : Fin 32) (r : Fin 512) (q : Fin 1024) (R : Fin 4096) (C : Fin 4096) (hR : R.val = 512 * (b.val / 4) + r.val)
    (hC : C.val = 1024 * (b.val % 4) + q.val) :
    (srcB0_0 b).view.read (Elt Ideal) (V m c main_arg0) (ix2 r q) = a0 m c (ix2 R C) := by
  refine ((srcB0_0 b).view.read_apply _ _).trans ?_
  show V m c main_arg0 _ = _
  rw [V_main_arg0]
  refine congrArg (a0 m c) ?_
  funext a
  apply Fin.ext
  match a with
  | ⟨0, _⟩ => show 512 * (b.val / 4) + 1 * r.val = R.val; omega
  | ⟨1, _⟩ => show 1024 * (b.val % 4) + 1 * q.val = C.val; omega

theorem src1 (b : Fin 32) (r : Fin 512) (q : Fin 1024) (R : Fin 4096) (C : Fin 8192) (hR : R.val = 512 * (b.val / 4) + r.val)
    (hC : C.val = 4096 + 1024 * (b.val % 4) + q.val) :
    (srcB0_1 b).view.read (Elt Ideal) (V m c main_arg1) (ix2 r q) = a1 m c (ix2 R C) := by
  refine ((srcB0_1 b).view.read_apply _ _).trans ?_
  show V m c main_arg1 _ = _
  rw [V_main_arg1]
  refine congrArg (a1 m c) ?_
  funext a
  apply Fin.ext
  match a with
  | ⟨0, _⟩ => show 512 * (b.val / 4) + 1 * r.val = R.val; omega
  | ⟨1, _⟩ => show (1024 * (b.val % 4) + 4096) + 1 * q.val = C.val; omega

theorem idx0 : ∀ t : Fin cfg0.N, win0_0.index t 0 = 0 ∧ win0_0.index t 1 = t.val % 4 :=
  (by decide +kernel : ∀ t : Fin grid0.N, win0_0.index t 0 = 0 ∧ win0_0.index t 1 = t.val % 4)
theorem idx1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)

theorem blk0 (t : Fin cfg0.N) (q : Fin 1024) (C : Fin 4096) (hC : C.val = 1024 * (t.val % 4) + q.val) :
    (iblk m c 0 t : Vec Ideal S1x1024 .f32) (ix2 (0 : Fin 1) q) = a2 m c (ix2 (0 : Fin 1) C) := by
  unfold iblk
  rw [View.read_apply]
  show V m c main_arg2 _ = _
  rw [V_main_arg2]
  refine congrArg (a2 m c) ?_
  funext a
  apply Fin.ext
  match a with
  | ⟨0, _⟩ => show win0_0.index t 0 * 1 + 1 * 0 = 0; rw [(idx0 t).1]
  | ⟨1, _⟩ => show win0_0.index t 1 * 1024 + 1 * q.val = C.val; rw [(idx0 t).2]; omega

theorem flushed (t : Fin cfg0.N) :
    (dats m 0 c).flushed 1 t = ((cfg0.win 1).blk t).view.read (Elt Ideal) (firstResult (a0 m c) (a1 m c) (a2 m c)) := by
  rw [Cert.Kernel34Ideal.Value.flushed1 m c t]
  funext y
  obtain ⟨r, q, rfl⟩ : ∃ r q, y = ix2 r q := ⟨y 0, y 1, by idx_ext⟩
  rw [View.read_apply]
  have hN : cfg0.N = 32 := N_0
  have ht := t.isLt
  have hr : r.val < 512 := r.isLt
  have hq : q.val < 1024 := q.isLt
  have hb : (Ring.bk 32 t.val).val = t.val := Ring.bk_val (by omega)
  refine (outs m c t r q).trans ?_
  rw [src0 m c _ r q ⟨512 * (t.val / 4) + r.val, by omega⟩ ⟨1024 * (t.val % 4) + q.val, by omega⟩ (by rw [hb]) (by rw [hb]),
    src1 m c _ r q ⟨512 * (t.val / 4) + r.val, by omega⟩ ⟨4096 + (1024 * (t.val % 4) + q.val), by omega⟩ (by rw [hb]) (by rw [hb]; dsimp only; omega),
    blk0 m c t q ⟨1024 * (t.val % 4) + q.val, by omega⟩ rfl]
  show firstResult (a0 m c) (a1 m c) (a2 m c) (ix2 ⟨512 * (t.val / 4) + r.val, by omega⟩ ⟨1024 * (t.val % 4) + q.val, by omega⟩) = _
  refine congrArg (firstResult (a0 m c) (a1 m c) (a2 m c)) ?_
  funext a
  apply Fin.ext
  match a with
  | ⟨0, _⟩ => show 512 * (t.val / 4) + r.val = win0_1.index t 0 * 512 + 1 * r.val; rw [(idx1 t).1]; omega
  | ⟨1, _⟩ => show 1024 * (t.val % 4) + q.val = win0_1.index t 1 * 1024 + 1 * q.val; rw [(idx1 t).2]; omega

theorem onto1 : ∀ (p : Fin 8) (k : Fin 4), ∃ t : Fin cfg0.N, win0_1.index t 0 = p.val ∧ win0_1.index t 1 = k.val :=
  (by decide +kernel : ∀ (p : Fin 8) (k : Fin 4), ∃ t : Fin grid0.N, win0_1.index t 0 = p.val ∧ win0_1.index t 1 = k.val)

theorem final : (dats m 0 c).arrAt 1 cfg0.N = firstResult (a0 m c) (a1 m c) (a2 m c) :=
  (dats m 0 c).arrAt_eq_of_cover 1 (firstResult (a0 m c) (a1 m c) (a2 m c)) (fun t _ => flushed m c t) fun i => by
    have h0 : (i 0).val < 4096 := (i 0).isLt
    have h1 : (i 1).val < 4096 := (i 1).isLt
    obtain ⟨t, e0, e1⟩ := onto1 ⟨(i 0).val / 512, by omega⟩ ⟨(i 1).val / 1024, by omega⟩
    dsimp only at e0 e1
    refine ⟨t, flush0_1 t, ?_⟩
    show i ∈ ((View.whole main_v0).slice (win0_1.rect t)).set
    rw [View.set_slice_whole, Rect.mem_set_unit]
    intro a
    match a with
    | ⟨0, _⟩ => show win0_1.index t 0 * 512 ≤ (i 0).val ∧ (i 0).val < win0_1.index t 0 * 512 + 512; omega
    | ⟨1, _⟩ => show win0_1.index t 1 * 1024 ≤ (i 1).val ∧ (i 1).val < win0_1.index t 1 * 1024 + 1024; omega

end Cert.Kernel34Ideal.Product

end
-- ==== Proof.NormMem.lean ====
/- The norm of the memory: the same rows' norm as the second layer's, over 256 rows that one point of the grid takes whole. -/
module

public import proofs.«01_k».proof.Proof.NormFwd
public import proofs.«01_k».proof.Proof.Gen.Reference35Ideal.Read
public import proofs.«01_k».proof.Proof.Gen.Kernel35Ideal.Value
public import Idealize.ShloMosaic.Lib.Pointwise
public import Idealize.ShloMosaic.Lib.WritesUnit
public import Idealize.ShloMosaic.Lib.Tactic

@[expose] public section

set_option maxRecDepth 16384

noncomputable section

namespace Cert.Reference35Ideal.Product

open Idealize.ShloMosaic Cert.Reference35Ideal Cert.Reference35Ideal.Read Cert.Norm

variable (x : Vec Ideal S256x2048 .f32) (g : Vec Ideal S1x2048 .f32)

theorem factor_eq (p : Fin 256) : val_main_v7 (F := Ideal) x (ix2 p (0 : Fin 1)) = factor (row x p) := by
  have e1 : idx_main_v2 (ix2 p (0 : Fin 1)) = ix1 p := by
    funext a
    apply Fin.ext
    match a with
    | ⟨0, _⟩ => rfl
  rw [val_main_v7_apply, val_main_v6_apply, val_main_v4_apply, val_main_v2_apply, val_main_v3_apply, val_main_v5_apply, e1,
    val_main_v1_apply]
  refine congrArg (fun s : EReal => Ideal.rsqrt (Ideal.div s len + eps)) ?_
  refine Eq.trans (congrArg₂ (fun a b : EReal => a + b) Ideal.ofBits_zero_f32 (Finset.sum_congr rfl fun k _ => ?_)) (zero_add _)
  have e2 : idx_main_v1 (ix1 p) k = ix2 p k := by
    funext a
    apply Fin.ext
    match a with
    | ⟨0, _⟩ => rfl
    | ⟨1, _⟩ => rfl
  rw [e2]
  rfl

/-- The reference's norm of the memory. -/
theorem result : val_main_v12 (F := Ideal) x g = normed x g := by
  funext i
  obtain ⟨p, q, rfl⟩ : ∃ (p : Fin 256) (q : Fin 2048), i = ix2 p q := ⟨i 0, i 1, by idx_ext⟩
  have e1 : idx_main_v8 (ix2 p q) = ix2 p (0 : Fin 1) := by
    funext a
    apply Fin.ext
    match a with
    | ⟨0, _⟩ => rfl
    | ⟨1, _⟩ => rfl
  have e2 : idx_main_v10 (ix2 p q) = ix2 (0 : Fin 1) q := by
    funext a
    apply Fin.ext
    match a with
    | ⟨0, _⟩ => rfl
    | ⟨1, _⟩ => rfl
  rw [val_main_v12_apply, val_main_v11_apply, val_main_v9_apply, val_main_v8_apply, val_main_v10_apply, e1, e2, factor_eq]
  rfl

end Cert.Reference35Ideal.Product

namespace Cert.Kernel35Ideal.Product

open Idealize.ShloMosaic Idealize.ShloMosaic.TcCoe Idealize.SL.Sem Cert.Kernel35Ideal Cert.Kernel35Ideal.Gen Cert.Norm

theorem hz2 : (![0, 0] : Fin 2 → Nat) = fun _ => 0 := funext fun a => match a with | ⟨0, _⟩ => rfl | ⟨1, _⟩ => rfl

/-- The whole result. -/
theorem out_eq (x : Vec Ideal S256x2048 .f32) (g : Vec Ideal S1x2048 .f32) :
    out0_2 (F := Ideal) x g = normed x g := by
  funext i
  obtain ⟨r, j, rfl⟩ : ∃ (r : Fin 256) (j : Fin 2048), i = ix2 r j := ⟨i 0, i 1, by idx_ext⟩
  unfold out0_2
  rw [View.canon_unit_zero hz2]
  simp only [View.ld_unit_zero (S := S256x2048) hz2, View.ld_unit_zero (S := S1x2048) hz2]
  pointwise [k0_pay1]
  rfl

variable (m : (ℓ : Loc nD τ sig) → Buf (Elt Ideal) ℓ) (c : Dev nD)

/-- The two arguments as launched. -/
abbrev a0 : Vec Ideal S256x2048 .f32 := m ((c : Thread nD τ).loc main_arg0)
abbrev a1 : Vec Ideal S1x2048 .f32 := m ((c : Thread nD τ).loc main_arg1)

theorem idx0 : ∀ t : Fin cfg0.N, win0_0.index t 0 = 0 ∧ win0_0.index t 1 = 0 :=
  (by decide +kernel : ∀ t : Fin grid0.N, win0_0.index t 0 = 0 ∧ win0_0.index t 1 = 0)

theorem blk0 (t : Fin cfg0.N) : (iblk m c 0 t : Vec Ideal S256x2048 .f32) = a0 m c := by
  funext y
  unfold iblk
  rw [View.read_apply]
  show V m c main_arg0 _ = _
  rw [V_main_arg0]
  refine congrArg (a0 m c) ?_
  funext a
  apply Fin.ext
  match a with
  | ⟨0, _⟩ => show win0_0.index t 0 * 256 + 1 * (y 0).val = (y 0).val; rw [(idx0 t).1]; omega
  | ⟨1, _⟩ => show win0_0.index t 1 * 2048 + 1 * (y 1).val = (y 1).val; rw [(idx0 t).2]; omega

theorem idx1 : ∀ t : Fin cfg0.N, win0_1.index t 0 = 0 ∧ win0_1.index t 1 = 0 :=
  (by decide +kernel : ∀ t : Fin grid0.N, win0_1.index t 0 = 0 ∧ win0_1.index t 1 = 0)

theorem blk1 (t : Fin cfg0.N) : (iblk m c 1 t : Vec Ideal S1x2048 .f32) = a1 m c := by
  funext y
  unfold iblk
  rw [View.read_apply]
  show V m c main_arg1 _ = _
  rw [V_main_arg1]
  refine congrArg (a1 m c) ?_
  funext a
  apply Fin.ext
  match a with
  | ⟨0, _⟩ => show win0_1.index t 0 * 1 + 1 * (y 0).val = (y 0).val; rw [(idx1 t).1]; omega
  | ⟨1, _⟩ => show win0_1.index t 1 * 2048 + 1 * (y 1).val = (y 1).val; rw [(idx1 t).2]; omega

theorem outs (t : Fin cfg0.N) : out0_2 (F := Ideal) (iblk m c 0 t) (iblk m c 1 t) = normed (a0 m c) (a1 m c) :=
  (out_eq _ _).trans (congrArg₂ (fun (x : Vec Ideal S256x2048 .f32) (g : Vec Ideal S1x2048 .f32) => normed x g) (blk0 m c t) (blk1 m c t))

theorem idx2 : ∀ t : Fin cfg0.N, win0_2.index t 0 = 0 ∧ win0_2.index t 1 = 0 :=
  (by decide +kernel : ∀ t : Fin grid0.N, win0_2.index t 0 = 0 ∧ win0_2.index t 1 = 0)

theorem flushed2 (t : Fin cfg0.N) : (dats m 0 c).flushed 2 t = ((cfg0.win 2).blk t).view.read (Elt Ideal) (normed (a0 m c) (a1 m c)) := by
  show (cfg0.win 2).cut (grid0.coords t) ((dats m 0 c).after 2 t) = _
  rw [after0_2]
  funext y
  rw [View.read_apply]
  refine (congrFun (outs m c t) y).trans (congrArg (normed (a0 m c) (a1 m c)) ?_)
  funext a
  apply Fin.ext
  match a with
  | ⟨0, _⟩ => show (y 0).val = win0_2.index t 0 * 256 + 1 * (y 0).val; rw [(idx2 t).1]; omega
  | ⟨1, _⟩ => show (y 1).val = win0_2.index t 1 * 2048 + 1 * (y 1).val; rw [(idx2 t).2]; omega

theorem final2 : (dats m 0 c).arrAt 2 cfg0.N = normed (a0 m c) (a1 m c) :=
  (dats m 0 c).arrAt_eq_of_cover 2 (normed (a0 m c) (a1 m c)) (fun t _ => flushed2 m c t) fun i => by
    have h0 : (i 0).val < 256 := (i 0).isLt
    have h1 : (i 1).val < 2048 := (i 1).isLt
    obtain ⟨t⟩ : Nonempty (Fin cfg0.N) := (⟨⟨0, by decide⟩⟩ : Nonempty (Fin grid0.N))
    refine ⟨t, flush0_2 t, ?_⟩
    show i ∈ ((View.whole main_v0).slice (win0_2.rect t)).set
    rw [View.set_slice_whole, Rect.mem_set_unit]
    have e0 := (idx2 t).1
    have e1 := (idx2 t).2
    intro a
    match a with
    | ⟨0, _⟩ => show win0_2.index t 0 * 256 ≤ (i 0).val ∧ (i 0).val < win0_2.index t 0 * 256 + 256; omega
    | ⟨1, _⟩ => show win0_2.index t 1 * 2048 ≤ (i 1).val ∧ (i 1).val < win0_2.index t 1 * 2048 + 2048; omega

end Cert.Kernel35Ideal.Product

end
-- ==== Proof.NormMemBwd.lean ====
/- The gradient of the memory's norm: the same rows' gradient as the first norm's, over 256 rows that one point of the grid takes
   whole. -/
module

public import proofs.«01_k».proof.Proof.NormBwdRef
public import proofs.«01_k».proof.Proof.Gen.Reference36Ideal.Read
public import proofs.«01_k».proof.Proof.Gen.Kernel36Ideal.Value
public import Idealize.ShloMosaic.Lib.Pointwise
public import Idealize.ShloMosaic.Lib.WritesUnit
public import Idealize.ShloMosaic.Lib.Tactic

@[expose] public section

set_option maxRecDepth 16384

noncomputable section

namespace Cert.Reference36Ideal.Product

open Idealize.ShloMosaic Cert.Reference36Ideal Cert.Reference36Ideal.Read Cert.Norm

variable (d x : Vec Ideal S256x2048 .f32) (g : Vec Ideal S1x2048 .f32) (e : Vec Ideal S256x2048 .f32)

theorem ix_rows (p : Fin 256) (k : Fin 2048) : idx_main_v1 (ix1 p) k = ix2 p k := by
  funext a
  apply Fin.ext
  match a with
  | ⟨0, _⟩ => rfl
  | ⟨1, _⟩ => rfl

theorem under_eq (p : Fin 256) : val_main_v6 (F := Ideal) x (ix2 p (0 : Fin 1)) = under (row x p) := by
  have e1 : idx_main_v2 (ix2 p (0 : Fin 1)) = ix1 p := by
    funext a
    apply Fin.ext
    match a with
    | ⟨0, _⟩ => rfl
  rw [val_main_v6_apply, val_main_v4_apply, val_main_v2_apply, val_main_v3_apply, val_main_v5_apply, e1, val_main_v1_apply]
  refine congrArg (fun s : EReal => Ideal.div s len + eps) ?_
  refine Eq.trans (congrArg₂ (fun a b : EReal => a + b) Ideal.ofBits_zero_f32 (Finset.sum_congr rfl fun k _ => ?_)) (zero_add _)
  rw [ix_rows]
  rfl

theorem factor_eq (p : Fin 256) : val_main_v7 (F := Ideal) x (ix2 p (0 : Fin 1)) = factor (row x p) :=
  (val_main_v7_apply x (ix2 p (0 : Fin 1))).trans (congrArg Ideal.rsqrt (under_eq x p))

theorem spread (p : Fin 256) (k : Fin 2048) : idx_main_v11 (ix2 p k) = ix2 p (0 : Fin 1) := by
  funext a
  apply Fin.ext
  match a with
  | ⟨0, _⟩ => rfl
  | ⟨1, _⟩ => rfl

theorem weighed_eq (p : Fin 256) (k : Fin 2048) : val_main_v19 (F := Ideal) d g (ix2 p k) = weighed d g p k := by
  rw [val_main_v19_apply, val_main_v18_apply]
  refine congrArg (fun j => (d (ix2 p k) * g j : EReal)) ?_
  funext a
  apply Fin.ext
  match a with
  | ⟨0, _⟩ => rfl
  | ⟨1, _⟩ => rfl

theorem through_eq (p : Fin 256) (k : Fin 2048) :
    val_main_v29 (F := Ideal) d x g (ix2 p k) = through (weighed d g p) (row x p) := by
  have e1 : idx_main_v28 (idx_main_v29 (ix2 p k)) (0 : Fin 1) = ix2 p (0 : Fin 1) := by
    funext a
    apply Fin.ext
    match a with
    | ⟨0, _⟩ => rfl
    | ⟨1, _⟩ => rfl
  have e2 : idx_main_v22 (ix2 p (0 : Fin 1)) = ix1 p := by
    funext a
    apply Fin.ext
    match a with
    | ⟨0, _⟩ => show p.val * 1 + 0 = p.val; omega
  have e3 : ∀ j : Fin 2048, idx_main_v21 (ix1 p) j = ix2 p j := fun j => by
    funext a
    apply Fin.ext
    match a with
    | ⟨0, _⟩ => rfl
    | ⟨1, _⟩ => rfl
  have es : val_main_v21 (F := Ideal) d x g (ix1 p) = ∑ j, row x p j * weighed d g p j := by
    rw [val_main_v21_apply]
    refine Eq.trans (congrArg₂ (fun a b : EReal => a + b) Ideal.ofBits_zero_f32 (Finset.sum_congr rfl fun j _ => ?_)) (zero_add _)
    rw [e3, val_main_v20_apply, weighed_eq]
    rfl
  rw [val_main_v29_apply, val_main_v28_apply, Fin.sum_univ_one, e1, val_main_v27_apply, val_main_v25_apply, val_main_v22_apply, e2, es,
    val_main_v26_apply, val_main_v10_apply, val_main_v9_apply, val_main_v8_apply, under_eq, factor_eq]
  exact (congrArg (fun a : EReal => a + _) Ideal.ofBits_zero_f32).trans (zero_add _)

theorem sums (p : Fin 256) (k : Fin 2048) :
    val_main_v33 (F := Ideal) d x g (ix2 p k) = back (weighed d g p) (row x p) k := by
  rw [← backQ_eq, val_main_v33_apply, val_main_v31_apply, val_main_v24_apply, val_main_v30_apply, val_main_v32_apply, weighed_eq,
    through_eq, val_main_v23_apply]
  refine congrArg (fun a : EReal => weighed d g p k * a + row x p k * through (weighed d g p) (row x p)
    + through (weighed d g p) (row x p) * row x p k) ?_
  exact (congrArg (val_main_v7 (F := Ideal) x) (spread p k)).trans (factor_eq x p)

/-- The reference's gradient by the inputs, in f32 and rounded. -/
theorem result : val_main_v34 (F := Ideal) d x g e = inputGrad d x g e := by
  funext i
  obtain ⟨p, q, rfl⟩ : ∃ (p : Fin 256) (q : Fin 2048), i = ix2 p q := ⟨i 0, i 1, by idx_ext⟩
  rw [val_main_v34_apply, sums]
  rfl

theorem rounded : val_main_v36 (F := Ideal) d x g e = inputGrad d x g e := by
  funext i
  obtain ⟨p, q, rfl⟩ : ∃ (p : Fin 256) (q : Fin 2048), i = ix2 p q := ⟨i 0, i 1, by idx_ext⟩
  rw [val_main_v36_apply, val_main_v35_apply, sums]
  rfl

/-- The reference's gradient by the weights. -/
theorem weights : val_main_v17 (F := Ideal) d x = weightGrad d x := by
  funext i
  obtain ⟨z, q, rfl⟩ : ∃ (z : Fin 1) (q : Fin 2048), i = ix2 z q := ⟨i 0, i 1, by idx_ext⟩
  have e1 : idx_main_v17 (ix2 z q) = ix1 q := by
    funext a
    apply Fin.ext
    match a with
    | ⟨0, _⟩ => show z.val * 2048 + q.val = q.val; omega
  have e2 : ∀ n : Fin 256, idx_main_v16 (ix1 q) n = ix2 n q := fun n => by
    funext a
    apply Fin.ext
    match a with
    | ⟨0, _⟩ => rfl
    | ⟨1, _⟩ => rfl
  rw [val_main_v17_apply, e1, val_main_v16_apply]
  refine Eq.trans (congrArg₂ (fun a b : EReal => a + b) Ideal.ofBits_zero_f32 (Finset.sum_congr rfl fun n _ => ?_)) (zero_add _)
  rw [e2, val_main_v15_apply, val_main_v12_apply, val_main_v11_apply]
  refine Eq.trans (mul_comm _ _) (congrArg (fun a : EReal => d (ix2 n q) * (x (ix2 n q) * a)) ?_)
  exact (congrArg (val_main_v7 (F := Ideal) x) (spread n q)).trans (factor_eq x n)

end Cert.Reference36Ideal.Product

namespace Cert.Kernel36Ideal.Product

open Idealize.ShloMosaic Idealize.ShloMosaic.TcCoe Idealize.SL.Sem Cert.Kernel36Ideal Cert.Kernel36Ideal.Gen Cert.Norm

theorem hz2 : (![0, 0] : Fin 2 → Nat) = fun _ => 0 := funext fun a => match a with | ⟨0, _⟩ => rfl | ⟨1, _⟩ => rfl

section Payloads

variable (x d e : Vec Ideal S256x2048 .f32) (g : Vec Ideal S1x2048 .f32) (r : Fin 256)

theorem pay2_apply : k0_pay2 (F := Ideal) x (ix2 r (0 : Fin 1)) = factor (row x r) := by
  have h : k0_pay2 (F := Ideal) x (ix2 r (0 : Fin 1)) = Ideal.rsqrt (Ideal.div (∑ k : Fin 2048, x (ix2 r k) * x (ix2 r k)) len + eps) := by
    pointwise [k0_pay2]
    rfl
  exact h

theorem pay3_apply (j : Fin 2048) : k0_pay3 (F := Ideal) x (ix2 r j) = x (ix2 r j) * factor (row x r) := by
  have h : k0_pay3 (F := Ideal) x (ix2 r j) = x (ix2 r j) * k0_pay2 (F := Ideal) x (ix2 r (0 : Fin 1)) := by
    pointwise [k0_pay3]
  rw [h, pay2_apply]

theorem pay4_apply (j : Fin 2048) : k0_pay4 (F := Ideal) x d g e (ix2 r j) = back (weighed d g r) (row x r) j + e (ix2 r j) := by
  have h : k0_pay4 (F := Ideal) x d g e (ix2 r j) = k0_pay2 (F := Ideal) x (ix2 r (0 : Fin 1)) * (d (ix2 r j) * g (ix2 (0 : Fin 1) j)
      - k0_pay3 (F := Ideal) x (ix2 r j)
        * Ideal.div (∑ k : Fin 2048, d (ix2 r k) * g (ix2 (0 : Fin 1) k) * k0_pay3 (F := Ideal) x (ix2 r k)) len) + e (ix2 r j) := by
    pointwise [k0_pay4]
    rfl
  rw [h, pay2_apply, pay3_apply]
  simp only [pay3_apply]
  rfl

theorem pay1_apply (s : Vec Ideal S1x2048 .f32) (j : Fin 2048) :
    k0_pay1 (F := Ideal) (k0_pay3 x) d s (ix2 (0 : Fin 1) j) =
      s (ix2 (0 : Fin 1) j) + ∑ r : Fin 256, d (ix2 r j) * (x (ix2 r j) * factor (row x r)) := by
  have h : k0_pay1 (F := Ideal) (k0_pay3 x) d s (ix2 (0 : Fin 1) j) =
      s (ix2 (0 : Fin 1) j) + ∑ r : Fin 256, d (ix2 r j) * k0_pay3 (F := Ideal) x (ix2 r j) := by
    pointwise [k0_pay1]
  rw [h]
  simp only [pay3_apply]

end Payloads

variable (m : (ℓ : Loc nD τ sig) → Buf (Elt Ideal) ℓ) (c : Dev nD)

section Cases

variable (i : grid0.Coords) (p1 : Memref sig .tc .vmem S256x2048 .f32) (h1 : p1.IsWhole) (p2 : Memref sig .tc .vmem S256x2048 .f32)
  (h2 : p2.IsWhole) (p3 : Memref sig .tc .vmem S1x2048 .f32) (h3 : p3.IsWhole) (p4 : Memref sig .tc .vmem S256x2048 .f32)
  (h4 : p4.IsWhole) (p5 : Memref sig .tc .vmem S256x2048 .f32) (h5 : p5.IsWhole) (p6 : Memref sig .tc .vmem S256x2048 .bf16)
  (h6 : p6.IsWhole) (p7 : Memref sig .tc .vmem S1x2048 .f32) (h7 : p7.IsWhole)
  (d x : Vec Ideal S256x2048 .f32) (g : Vec Ideal S1x2048 .f32) (e : Vec Ideal S256x2048 .f32)

theorem grad_A (hc) : out0_A_4 c i p1 h1 p2 h2 p3 h3 p4 h4 p5 h5 p6 h6 p7 h7 hc d x g e = k0_pay4 x d g e := by
  unfold out0_A_4
  rw [View.read_writes_eq_canon _ _ _ (cover0_A_4 c i p1 h1 p2 h2 p3 h3 p4 h4 p5 h5 p6 h6 p7 h7 hc d x g e)]
  unfold kernelRun0_A
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]

theorem round_A (hc) : out0_A_5 c i p1 h1 p2 h2 p3 h3 p4 h4 p5 h5 p6 h6 p7 h7 hc d x g e = k0_pay4 x d g e := by
  unfold out0_A_5
  rw [View.read_writes_eq_canon _ _ _ (cover0_A_5 c i p1 h1 p2 h2 p3 h3 p4 h4 p5 h5 p6 h6 p7 h7 hc d x g e)]
  unfold kernelRun0_A
  dsimp only
  sl_unfold_words
  simp only [View.readAt_eq_ld, h1.read_unread, h2.read_unread, h3.read_unread, h4.read_unread]
  rw [View.canon_unit_zero hz2]
  simp only [View.ld_unit_zero (S := S256x2048) hz2, View.ld_unit_zero (S := S1x2048) hz2]
  rfl

/-- The row of sums starts from zeros. -/
theorem sums_A (hc) : out0_A_6 c i p1 h1 p2 h2 p3 h3 p4 h4 p5 h5 p6 h6 p7 h7 hc d x g e = k0_pay1 (k0_pay3 x) d (k0_pay6 (F := Ideal)) := by
  unfold out0_A_6
  rw [View.read_writes_eq_canon _ _ _ (cover0_A_6 c i p1 h1 p2 h2 p3 h3 p4 h4 p5 h5 p6 h6 p7 h7 hc d x g e)]
  unfold kernelRun0_A
  dsimp only
  sl_unfold_words
  rw [View.canon_cons_unit_zero hz2, View.readCov_unit_zero (S := S1x2048) _ hz2]
  unfold k0_pay7
  simp only [View.readAt_eq_ld, h1.read_unread, h2.read_unread, h3.read_unread, h4.read_unread, shapeCast_self]
  simp only [View.ld_unit_zero (S := S256x2048) hz2, View.ld_unit_zero (S := S1x2048) hz2]

end Cases

/-- The four arguments as launched. -/
abbrev a0 : Vec Ideal S256x2048 .f32 := m ((c : Thread nD τ).loc main_arg0)
abbrev a1 : Vec Ideal S256x2048 .f32 := m ((c : Thread nD τ).loc main_arg1)
abbrev a2 : Vec Ideal S1x2048 .f32 := m ((c : Thread nD τ).loc main_arg2)
abbrev a3 : Vec Ideal S256x2048 .f32 := m ((c : Thread nD τ).loc main_arg3)

theorem idx0 : ∀ t : Fin cfg0.N, win0_0.index t 0 = 0 ∧ win0_0.index t 1 = 0 :=
  (by decide +kernel : ∀ t : Fin grid0.N, win0_0.index t 0 = 0 ∧ win0_0.index t 1 = 0)

theorem blk0 (t : Fin cfg0.N) : (iblk m c 0 t : Vec Ideal S256x2048 .f32) = a0 m c := by
  funext y
  unfold iblk
  rw [View.read_apply]
  show V m c main_arg0 _ = _
  rw [V_main_arg0]
  refine congrArg (a0 m c) ?_
  funext a
  apply Fin.ext
  match a with
  | ⟨0, _⟩ => show win0_0.index t 0 * 256 + 1 * (y 0).val = (y 0).val; rw [(idx0 t).1]; omega
  | ⟨1, _⟩ => show win0_0.index t 1 * 2048 + 1 * (y 1).val = (y 1).val; rw [(idx0 t).2]; omega

theorem idx1 : ∀ t : Fin cfg0.N, win0_1.index t 0 = 0 ∧ win0_1.index t 1 = 0 :=
  (by decide +kernel : ∀ t : Fin grid0.N, win0_1.index t 0 = 0 ∧ win0_1.index t 1 = 0)

theorem blk1 (t : Fin cfg0.N) : (iblk m c 1 t : Vec Ideal S256x2048 .f32) = a1 m c := by
  funext y
  unfold iblk
  rw [View.read_apply]
  show V m c main_arg1 _ = _
  rw [V_main_arg1]
  refine congrArg (a1 m c) ?_
  funext a
  apply Fin.ext
  match a with
  | ⟨0, _⟩ => show win0_1.index t 0 * 256 + 1 * (y 0).val = (y 0).val; rw [(idx1 t).1]; omega
  | ⟨1, _⟩ => show win0_1.index t 1 * 2048 + 1 * (y 1).val = (y 1).val; rw [(idx1 t).2]; omega

theorem idx2 : ∀ t : Fin cfg0.N, win0_2.index t 0 = 0 ∧ win0_2.index t 1 = 0 :=
  (by decide +kernel : ∀ t : Fin grid0.N, win0_2.index t 0 = 0 ∧ win0_2.index t 1 = 0)

theorem blk2 (t : Fin cfg0.N) : (iblk m c 2 t : Vec Ideal S1x2048 .f32) = a2 m c := by
  funext y
  unfold iblk
  rw [View.read_apply]
  show V m c main_arg2 _ = _
  rw [V_main_arg2]
  refine congrArg (a2 m c) ?_
  funext a
  apply Fin.ext
  match a with
  | ⟨0, _⟩ => show win0_2.index t 0 * 1 + 1 * (y 0).val = (y 0).val; rw [(idx2 t).1]; omega
  | ⟨1, _⟩ => show win0_2.index t 1 * 2048 + 1 * (y 1).val = (y 1).val; rw [(idx2 t).2]; omega

theorem idx3 : ∀ t : Fin cfg0.N, win0_3.index t 0 = 0 ∧ win0_3.index t 1 = 0 :=
  (by decide +kernel : ∀ t : Fin grid0.N, win0_3.index t 0 = 0 ∧ win0_3.index t 1 = 0)

theorem blk3 (t : Fin cfg0.N) : (iblk m c 3 t : Vec Ideal S256x2048 .f32) = a3 m c := by
  funext y
  unfold iblk
  rw [View.read_apply]
  show V m c main_arg3 _ = _
  rw [V_main_arg3]
  refine congrArg (a3 m c) ?_
  funext a
  apply Fin.ext
  match a with
  | ⟨0, _⟩ => show win0_3.index t 0 * 256 + 1 * (y 0).val = (y 0).val; rw [(idx3 t).1]; omega
  | ⟨1, _⟩ => show win0_3.index t 1 * 2048 + 1 * (y 1).val = (y 1).val; rw [(idx3 t).2]; omega

/-- The gradient by the inputs over the blocks, and the one by the weights. -/
theorem inputs (t : Fin cfg0.N) : k0_pay4 (F := Ideal) (iblk m c 1 t) (iblk m c 0 t) (iblk m c 2 t) (iblk m c 3 t) = inputGrad (a0 m c) (a1 m c) (a2 m c) (a3 m c) := by
  rw [show (iblk m c 0 t : Vec Ideal S256x2048 .f32) = _ from blk0 m c t, show (iblk m c 1 t : Vec Ideal S256x2048 .f32) = _ from blk1 m c t,
    show (iblk m c 2 t : Vec Ideal S1x2048 .f32) = _ from blk2 m c t, show (iblk m c 3 t : Vec Ideal S256x2048 .f32) = _ from blk3 m c t]
  funext i
  obtain ⟨r, j, rfl⟩ : ∃ (r : Fin 256) (j : Fin 2048), i = ix2 r j := ⟨i 0, i 1, by idx_ext⟩
  exact pay4_apply _ _ _ _ r j

theorem weights (t : Fin cfg0.N) : k0_pay1 (F := Ideal) (k0_pay3 (iblk m c 1 t)) (iblk m c 0 t) (k0_pay6 (F := Ideal)) = weightGrad (a0 m c) (a1 m c) := by
  rw [show (iblk m c 0 t : Vec Ideal S256x2048 .f32) = _ from blk0 m c t, show (iblk m c 1 t : Vec Ideal S256x2048 .f32) = _ from blk1 m c t]
  funext i
  obtain ⟨z, j, rfl⟩ : ∃ (z : Fin 1) (j : Fin 2048), i = ix2 z j := ⟨i 0, i 1, by idx_ext⟩
  obtain rfl : z = (0 : Fin 1) := Subsingleton.elim (α := Fin 1) _ _
  refine (pay1_apply _ _ _ j).trans ?_
  exact (congrArg (fun a : EReal => a + _) Ideal.ofBits_zero_f32).trans (zero_add _)

theorem grads (t : Fin cfg0.N) : (outsAt0 m c t).1 = inputGrad (a0 m c) (a1 m c) (a2 m c) (a3 m c) := by
  simp only [outsAt0]
  rw [grad_A]
  exact inputs m c t

theorem rounds (t : Fin cfg0.N) : (outsAt0 m c t).2.1 = inputGrad (a0 m c) (a1 m c) (a2 m c) (a3 m c) := by
  simp only [outsAt0]
  rw [round_A]
  exact inputs m c t

theorem sums (t : Fin cfg0.N) : (outsAt0 m c t).2.2 = weightGrad (a0 m c) (a1 m c) := by
  simp only [outsAt0]
  rw [sums_A]
  exact weights m c t

theorem idx4 : ∀ t : Fin cfg0.N, win0_4.index t 0 = 0 ∧ win0_4.index t 1 = 0 :=
  (by decide +kernel : ∀ t : Fin grid0.N, win0_4.index t 0 = 0 ∧ win0_4.index t 1 = 0)

theorem flushed4 (t : Fin cfg0.N) : (dats m 0 c).flushed 4 t = ((cfg0.win 4).blk t).view.read (Elt Ideal) (inputGrad (a0 m c) (a1 m c) (a2 m c) (a3 m c)) := by
  show (cfg0.win 4).cut (grid0.coords t) ((dats m 0 c).after 4 t) = _
  rw [after0_4]
  funext y
  rw [View.read_apply]
  refine (congrFun (grads m c t) y).trans (congrArg (inputGrad (a0 m c) (a1 m c) (a2 m c) (a3 m c)) ?_)
  funext a
  apply Fin.ext
  match a with
  | ⟨0, _⟩ => show (y 0).val = win0_4.index t 0 * 256 + 1 * (y 0).val; rw [(idx4 t).1]; omega
  | ⟨1, _⟩ => show (y 1).val = win0_4.index t 1 * 2048 + 1 * (y 1).val; rw [(idx4 t).2]; omega

theorem final4 : (dats m 0 c).arrAt 4 cfg0.N = inputGrad (a0 m c) (a1 m c) (a2 m c) (a3 m c) :=
  (dats m 0 c).arrAt_eq_of_cover 4 (inputGrad (a0 m c) (a1 m c) (a2 m c) (a3 m c)) (fun t _ => flushed4 m c t) fun i => by
    have h0 : (i 0).val < 256 := (i 0).isLt
    have h1 : (i 1).val < 2048 := (i 1).isLt
    obtain ⟨t⟩ : Nonempty (Fin cfg0.N) := (⟨⟨0, by decide⟩⟩ : Nonempty (Fin grid0.N))
    refine ⟨t, flush0_4 t, ?_⟩
    show i ∈ ((View.whole main_v0_0).slice (win0_4.rect t)).set
    rw [View.set_slice_whole, Rect.mem_set_unit]
    have e0 := (idx4 t).1
    have e1 := (idx4 t).2
    intro a
    match a with
    | ⟨0, _⟩ => show win0_4.index t 0 * 256 ≤ (i 0).val ∧ (i 0).val < win0_4.index t 0 * 256 + 256; omega
    | ⟨1, _⟩ => show win0_4.index t 1 * 2048 ≤ (i 1).val ∧ (i 1).val < win0_4.index t 1 * 2048 + 2048; omega

theorem idx5 : ∀ t : Fin cfg0.N, win0_5.index t 0 = 0 ∧ win0_5.index t 1 = 0 :=
  (by decide +kernel : ∀ t : Fin grid0.N, win0_5.index t 0 = 0 ∧ win0_5.index t 1 = 0)

theorem flushed5 (t : Fin cfg0.N) : (dats m 0 c).flushed 5 t = ((cfg0.win 5).blk t).view.read (Elt Ideal) (inputGrad (a0 m c) (a1 m c) (a2 m c) (a3 m c)) := by
  show (cfg0.win 5).cut (grid0.coords t) ((dats m 0 c).after 5 t) = _
  rw [after0_5]
  funext y
  rw [View.read_apply]
  refine (congrFun (rounds m c t) y).trans (congrArg (inputGrad (a0 m c) (a1 m c) (a2 m c) (a3 m c)) ?_)
  funext a
  apply Fin.ext
  match a with
  | ⟨0, _⟩ => show (y 0).val = win0_5.index t 0 * 256 + 1 * (y 0).val; rw [(idx5 t).1]; omega
  | ⟨1, _⟩ => show (y 1).val = win0_5.index t 1 * 2048 + 1 * (y 1).val; rw [(idx5 t).2]; omega

theorem final5 : (dats m 0 c).arrAt 5 cfg0.N = inputGrad (a0 m c) (a1 m c) (a2 m c) (a3 m c) :=
  (dats m 0 c).arrAt_eq_of_cover 5 (inputGrad (a0 m c) (a1 m c) (a2 m c) (a3 m c)) (fun t _ => flushed5 m c t) fun i => by
    have h0 : (i 0).val < 256 := (i 0).isLt
    have h1 : (i 1).val < 2048 := (i 1).isLt
    obtain ⟨t⟩ : Nonempty (Fin cfg0.N) := (⟨⟨0, by decide⟩⟩ : Nonempty (Fin grid0.N))
    refine ⟨t, flush0_5 t, ?_⟩
    show i ∈ ((View.whole main_v0_1).slice (win0_5.rect t)).set
    rw [View.set_slice_whole, Rect.mem_set_unit]
    have e0 := (idx5 t).1
    have e1 := (idx5 t).2
    intro a
    match a with
    | ⟨0, _⟩ => show win0_5.index t 0 * 256 ≤ (i 0).val ∧ (i 0).val < win0_5.index t 0 * 256 + 256; omega
    | ⟨1, _⟩ => show win0_5.index t 1 * 2048 ≤ (i 1).val ∧ (i 1).val < win0_5.index t 1 * 2048 + 2048; omega

theorem idx6 : ∀ t : Fin cfg0.N, win0_6.index t 0 = 0 ∧ win0_6.index t 1 = 0 :=
  (by decide +kernel : ∀ t : Fin grid0.N, win0_6.index t 0 = 0 ∧ win0_6.index t 1 = 0)

theorem flushed6 (t : Fin cfg0.N) : (dats m 0 c).flushed 6 t = ((cfg0.win 6).blk t).view.read (Elt Ideal) (weightGrad (a0 m c) (a1 m c)) := by
  show (cfg0.win 6).cut (grid0.coords t) ((dats m 0 c).after 6 t) = _
  rw [after0_6]
  funext y
  rw [View.read_apply]
  refine (congrFun (sums m c t) y).trans (congrArg (weightGrad (a0 m c) (a1 m c)) ?_)
  funext a
  apply Fin.ext
  match a with
  | ⟨0, _⟩ => show (y 0).val = win0_6.index t 0 * 1 + 1 * (y 0).val; rw [(idx6 t).1]; omega
  | ⟨1, _⟩ => show (y 1).val = win0_6.index t 1 * 2048 + 1 * (y 1).val; rw [(idx6 t).2]; omega

theorem final6 : (dats m 0 c).arrAt 6 cfg0.N = weightGrad (a0 m c) (a1 m c) :=
  (dats m 0 c).arrAt_eq_of_cover 6 (weightGrad (a0 m c) (a1 m c)) (fun t _ => flushed6 m c t) fun i => by
    have h0 : (i 0).val < 1 := (i 0).isLt
    have h1 : (i 1).val < 2048 := (i 1).isLt
    obtain ⟨t⟩ : Nonempty (Fin cfg0.N) := (⟨⟨0, by decide⟩⟩ : Nonempty (Fin grid0.N))
    refine ⟨t, flush0_6 t, ?_⟩
    show i ∈ ((View.whole main_v0_2).slice (win0_6.rect t)).set
    rw [View.set_slice_whole, Rect.mem_set_unit]
    have e0 := (idx6 t).1
    have e1 := (idx6 t).2
    intro a
    match a with
    | ⟨0, _⟩ => show win0_6.index t 0 * 1 ≤ (i 0).val ∧ (i 0).val < win0_6.index t 0 * 1 + 1; omega
    | ⟨1, _⟩ => show win0_6.index t 1 * 2048 ≤ (i 1).val ∧ (i 1).val < win0_6.index t 1 * 2048 + 2048; omega

end Cert.Kernel36Ideal.Product

end
-- ==== Proof.lean ====
module

public import proofs.«01_k».proof.Proof.Gen.Reference6Ideal.Read
public import proofs.«01_k».proof.Proof.Gen.Reference6Ideal.Run
public import proofs.«01_k».proof.Proof.Gen.Kernel6Ideal.Value
public import proofs.«01_k».proof.Proof.Gen.Reference6Ideal
public import proofs.«01_k».proof.Proof.Gen.Kernel6Ideal.Frame
public import proofs.«01_k».proof.Proof.Gen.Kernel6.Frame
public import proofs.«01_k».proof.Proof.Gen.Kernel6Ideal
public import proofs.«01_k».proof.Proof.Gen.Kernel6
public import proofs.«01_k».proof.Proof.Gen.Reference5Ideal.Read
public import proofs.«01_k».proof.Proof.Gen.Reference5Ideal.Run
public import proofs.«01_k».proof.Proof.Gen.Kernel5Ideal.Value
public import proofs.«01_k».proof.Proof.Gen.Reference5Ideal
public import proofs.«01_k».proof.Proof.Gen.Kernel5Ideal.Frame
public import proofs.«01_k».proof.Proof.Gen.Kernel5.Frame
public import proofs.«01_k».proof.Proof.Gen.Kernel5Ideal
public import proofs.«01_k».proof.Proof.Gen.Kernel5
public import proofs.«01_k».proof.Proof.Gen.Reference4Ideal.Read
public import proofs.«01_k».proof.Proof.Gen.Reference4Ideal.Run
public import proofs.«01_k».proof.Proof.Gen.Kernel4Ideal.Value
public import proofs.«01_k».proof.Proof.Gen.Reference4Ideal
public import proofs.«01_k».proof.Proof.Gen.Kernel4Ideal.Frame
public import proofs.«01_k».proof.Proof.Gen.Kernel4.Frame
public import proofs.«01_k».proof.Proof.Gen.Kernel4Ideal
public import proofs.«01_k».proof.Proof.Gen.Kernel4
public import proofs.«01_k».proof.Proof.Gen.Reference3Ideal.Read
public import proofs.«01_k».proof.Proof.Gen.Reference3Ideal.Run
public import proofs.«01_k».proof.Proof.Gen.Kernel3Ideal.Value
public import proofs.«01_k».proof.Proof.Gen.Reference3Ideal
public import proofs.«01_k».proof.Proof.Gen.Kernel3Ideal.Frame
public import proofs.«01_k».proof.Proof.Gen.Kernel3.Frame
public import proofs.«01_k».proof.Proof.Gen.Kernel3Ideal
public import proofs.«01_k».proof.Proof.Gen.Kernel3
public import proofs.«01_k».proof.Proof.Gen.Reference2Ideal.Read
public import proofs.«01_k».proof.Proof.Gen.Reference2Ideal.Run
public import proofs.«01_k».proof.Proof.Gen.Kernel2Ideal.Value
public import proofs.«01_k».proof.Proof.Gen.Reference2Ideal
public import proofs.«01_k».proof.Proof.Gen.Kernel2Ideal.Frame
public import proofs.«01_k».proof.Proof.Gen.Kernel2.Frame
public import proofs.«01_k».proof.Proof.Gen.Kernel2Ideal
public import proofs.«01_k».proof.Proof.Gen.Kernel2
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.InWeights
public import proofs.«01_k».proof.Proof.InInputs
public import proofs.«01_k».proof.Proof.OutWeights
public import proofs.«01_k».proof.Proof.QfiInputs
public import proofs.«01_k».proof.Proof.RestInputs
public import proofs.«01_k».proof.Proof.Fold
public import proofs.«01_k».proof.Proof.Ref
public import proofs.«01_k».proof.Proof.Finite
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.HgrnWeights
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Proj0
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference9Ideal.Read
public import proofs.«01_k».proof.Proof.Proj1
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Proj1Forget
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.OutProj
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import proofs.«01_k».proof.Proof.GateBwd1
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Reference13Ideal.Read
public import proofs.«01_k».proof.Proof.GateBwd0
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.PooledGrad
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.GroupWeights
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Reference16Ideal.Read
public import proofs.«01_k».proof.Proof.PoolGroups
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.FirstAttnRef
public import proofs.«01_k».proof.Proof.FirstFinite
public import proofs.«01_k».proof.Proof.FirstAttn
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Memory
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.AttnSecond
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.AttnFirst
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.PoolWindow
public import proofs.«01_k».proof.Proof.PoolBwdRef
public import proofs.«01_k».proof.Proof.PoolBwd
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.PoolFwdRef
public import proofs.«01_k».proof.Proof.PoolFwd
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Norm
public import proofs.«01_k».proof.Proof.NormBwdRef
public import proofs.«01_k».proof.Proof.NormBwd
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.NormFwd
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gate
public import proofs.«01_k».proof.Proof.GateFwd
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Adam
public import proofs.«01_k».proof.Proof.AdamKv
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.AdamOut
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.AdamPoolIn
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.AdamPoolGrp
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.AdamHgrn
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.GateFwd0
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.NormMem
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.NormMemBwd
public import Idealize.ShloMosaic.Adequacy
public import Idealize.ShloMosaic.Init

@[expose] public section

noncomputable section

namespace Cert.Proof

open Idealize.ShloMosaic Idealize.SL.Sem Cert.Kernel

/-- The reference's frame: its run read at the arguments; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2)
        ∧ r.2.mem ((c.tc : Thread _ _).loc Cert.ReferenceIdeal.main_arg3) = m ((c.tc : Thread _ _).loc Cert.ReferenceIdeal.main_arg3))
        ∧ r.2.sem = fun _ => 0) :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)

/-- The attention gradient's two results are the reference's. -/
theorem attention : Cert.algebraic_KernelIdeal_ReferenceIdeal_pre_queries_and_keys_finite
    (hKernelIdeal := Cert.KernelIdeal.Gen.facts) (hReferenceIdeal := Cert.ReferenceIdeal.Gen.facts)
    (hPre_queries_and_keys_finite := Cert.Finite.facts) := by
  intro m g m' g' hpre hargs
  refine ⟨fun c => Cert.Attn.dqOut (Cert.KernelIdeal.Heads.a0 m c) (Cert.KernelIdeal.Heads.a1 m c)
      (Cert.KernelIdeal.Heads.a2 m c) (Cert.KernelIdeal.Heads.a3 m c),
    fun c => Cert.Attn.dkvOut (Cert.KernelIdeal.Heads.a0 m c) (Cert.KernelIdeal.Heads.a1 m c)
      (Cert.KernelIdeal.Heads.a2 m c), Cert.KernelIdeal.Heads.run m g, ?_⟩
  refine (θ_run Cert.ReferenceIdeal.defs _ _).mono (fun r h c => ?_) (Cert.ReferenceIdeal.Value.run (F := Ideal) m' g')
  obtain ⟨h73, h70, hkept⟩ := h c
  obtain ⟨e0, e1, e2, e3⟩ := hargs c
  have hreal := Cert.Finite.score_real _ _ _ _ (hpre c)
  refine ⟨h73.trans ?_, h70.trans ?_, hkept⟩
  · rw [Cert.ReferenceIdeal.Read.val_main_v73_eq, e0, e1, e2, e3]
    exact Cert.ReferenceIdeal.Heads.result_q _ _ _ _ hreal
  · rw [Cert.ReferenceIdeal.Read.val_main_v70_eq, e0, e1, e2]
    exact Cert.ReferenceIdeal.Heads.result_kv _ _ _ hreal

/-- The first input projection's gradient by its weights. -/
theorem in_weights : Cert.algebraic_Kernel2Ideal_Reference2Ideal
    (hKernel2Ideal := Cert.Kernel2Ideal.Gen.facts) (hReference2Ideal := Cert.Reference2Ideal.Gen.facts) := by
  intro m g m' g' _ hargs
  refine ⟨fun c => Cert.Products.inWeights (Cert.Kernel2Ideal.Product.a0 m c) (Cert.Kernel2Ideal.Product.a1 m c),
    (θ_run Cert.Kernel2Ideal.defs _ _).mono
      (fun r h c => ⟨(h c).1.trans (Cert.Kernel2Ideal.Product.final m c), (h c).2⟩)
      (Cert.Kernel2Ideal.Value.run_blocks (F := Ideal) m g),
    (θ_run Cert.Reference2Ideal.defs _ _).mono (fun r h c => ⟨(h c).1.trans ?_, (h c).2⟩)
      (Cert.Reference2Ideal.Value.run (F := Ideal) m' g')⟩
  obtain ⟨e0, e1⟩ := hargs c
  rw [Cert.Reference2Ideal.Read.val_main_v9_eq, e0, e1]
  exact Cert.Reference2Ideal.Product.result _ _

/-- The first input projection's gradient by its inputs. -/
theorem in_inputs : Cert.algebraic_Kernel3Ideal_Reference3Ideal
    (hKernel3Ideal := Cert.Kernel3Ideal.Gen.facts) (hReference3Ideal := Cert.Reference3Ideal.Gen.facts) := by
  intro m g m' g' _ hargs
  refine ⟨fun c => Cert.Products.inInputs (Cert.Kernel3Ideal.Product.a0 m c) (Cert.Kernel3Ideal.Product.a1 m c),
    (θ_run Cert.Kernel3Ideal.defs _ _).mono
      (fun r h c => ⟨(h c).1.trans (Cert.Kernel3Ideal.Product.final m c), (h c).2⟩)
      (Cert.Kernel3Ideal.Value.run_blocks (F := Ideal) m g),
    (θ_run Cert.Reference3Ideal.defs _ _).mono (fun r h c => ⟨(h c).1.trans ?_, (h c).2⟩)
      (Cert.Reference3Ideal.Value.run (F := Ideal) m' g')⟩
  obtain ⟨e0, e1⟩ := hargs c
  rw [Cert.Reference3Ideal.Read.val_main_v8_eq, e0, e1]
  exact Cert.Reference3Ideal.Product.result _ _

/-- The output projection's gradient by its weights. -/
theorem out_weights : Cert.algebraic_Kernel4Ideal_Reference4Ideal
    (hKernel4Ideal := Cert.Kernel4Ideal.Gen.facts) (hReference4Ideal := Cert.Reference4Ideal.Gen.facts) := by
  intro m g m' g' _ hargs
  refine ⟨fun c => Cert.Products.outWeights (Cert.Kernel4Ideal.Product.a0 m c) (Cert.Kernel4Ideal.Product.a1 m c),
    (θ_run Cert.Kernel4Ideal.defs _ _).mono
      (fun r h c => ⟨(h c).1.trans (Cert.Kernel4Ideal.Product.final m c), (h c).2⟩)
      (Cert.Kernel4Ideal.Value.run_blocks (F := Ideal) m g),
    (θ_run Cert.Reference4Ideal.defs _ _).mono (fun r h c => ⟨(h c).1.trans ?_, (h c).2⟩)
      (Cert.Reference4Ideal.Value.run (F := Ideal) m' g')⟩
  obtain ⟨e0, e1⟩ := hargs c
  rw [Cert.Reference4Ideal.Read.val_main_v8_eq, e0, e1]
  exact Cert.Reference4Ideal.Product.result _ _

/-- The second input projection's gradient by its inputs, the recurrence's columns. -/
theorem qfi_inputs : Cert.algebraic_Kernel5Ideal_Reference5Ideal
    (hKernel5Ideal := Cert.Kernel5Ideal.Gen.facts) (hReference5Ideal := Cert.Reference5Ideal.Gen.facts) := by
  intro m g m' g' _ hargs
  refine ⟨fun c => Cert.Products.qfiInputs (Cert.Kernel5Ideal.Product.a0 m c) (Cert.Kernel5Ideal.Product.a1 m c),
    (θ_run Cert.Kernel5Ideal.defs _ _).mono
      (fun r h c => ⟨(h c).1.trans (Cert.Kernel5Ideal.Product.final m c), (h c).2⟩)
      (Cert.Kernel5Ideal.Value.run_blocks (F := Ideal) m g),
    (θ_run Cert.Reference5Ideal.defs _ _).mono (fun r h c => ⟨(h c).1.trans ?_, (h c).2⟩)
      (Cert.Reference5Ideal.Value.run (F := Ideal) m' g')⟩
  obtain ⟨e0, e1⟩ := hargs c
  rw [Cert.Reference5Ideal.Read.val_main_v14_eq, e0, e1]
  exact Cert.Reference5Ideal.Product.result _ _

/-- The second input projection's gradient by its inputs, the other columns added. -/
theorem rest_inputs : Cert.algebraic_Kernel6Ideal_Reference6Ideal
    (hKernel6Ideal := Cert.Kernel6Ideal.Gen.facts) (hReference6Ideal := Cert.Reference6Ideal.Gen.facts) := by
  intro m g m' g' _ hargs
  refine ⟨fun c => Cert.Products.restInputs (Cert.Kernel6Ideal.Product.a0 m c) (Cert.Kernel6Ideal.Product.a1 m c) (Cert.Kernel6Ideal.Product.a2 m c),
    (θ_run Cert.Kernel6Ideal.defs _ _).mono
      (fun r h c => ⟨(h c).1.trans (Cert.Kernel6Ideal.Product.final m c), (h c).2⟩)
      (Cert.Kernel6Ideal.Value.run_blocks (F := Ideal) m g),
    (θ_run Cert.Reference6Ideal.defs _ _).mono (fun r h c => ⟨(h c).1.trans ?_, (h c).2⟩)
      (Cert.Reference6Ideal.Value.run (F := Ideal) m' g')⟩
  obtain ⟨e0, e1, e2⟩ := hargs c
  rw [Cert.Reference6Ideal.Read.val_main_v8_eq, e0, e1, e2]
  exact Cert.Reference6Ideal.Product.result _ _ _

/-- The second input projection's gradient by the recurrence's columns of its weights. -/
theorem mixer_weights : Cert.algebraic_Kernel7Ideal_Reference7Ideal
    (hKernel7Ideal := Cert.Kernel7Ideal.Gen.facts) (hReference7Ideal := Cert.Reference7Ideal.Gen.facts) := by
  intro m g m' g' _ hargs
  refine ⟨fun c => Cert.Products.mixerWeights (Cert.Kernel7Ideal.Product.a0 m c) (Cert.Kernel7Ideal.Product.a1 m c) (Cert.Kernel7Ideal.Product.a2 m c),
    (θ_run Cert.Kernel7Ideal.defs _ _).mono
      (fun r h c => ⟨(h c).1.trans (Cert.Kernel7Ideal.Product.final m g c), (h c).2⟩)
      (Cert.Kernel7Ideal.Product.run m g),
    (θ_run Cert.Reference7Ideal.defs _ _).mono (fun r h c => ⟨(h c).1.trans ?_, (h c).2⟩)
      (Cert.Reference7Ideal.Value.run (F := Ideal) m' g')⟩
  obtain ⟨e0, e1, e2⟩ := hargs c
  rw [Cert.Reference7Ideal.Read.val_main_v16_eq, e0, e1, e2]
  exact Cert.Reference7Ideal.Product.result _ _ _

/-- The first input projection. -/
theorem proj0 : Cert.algebraic_Kernel8Ideal_Reference8Ideal
    (hKernel8Ideal := Cert.Kernel8Ideal.Gen.facts) (hReference8Ideal := Cert.Reference8Ideal.Gen.facts) := by
  intro m g m' g' _ hargs
  refine ⟨fun c => Cert.Products.proj0 (Cert.Kernel8Ideal.Product.a0 m c) (Cert.Kernel8Ideal.Product.a1 m c),
    (θ_run Cert.Kernel8Ideal.defs _ _).mono
      (fun r h c => ⟨(h c).1.trans (Cert.Kernel8Ideal.Product.final m c), (h c).2⟩)
      (Cert.Kernel8Ideal.Value.run_blocks (F := Ideal) m g),
    (θ_run Cert.Reference8Ideal.defs _ _).mono (fun r h c => ⟨(h c).1.trans ?_, (h c).2⟩)
      (Cert.Reference8Ideal.Value.run (F := Ideal) m' g')⟩
  obtain ⟨e0, e1⟩ := hargs c
  rw [Cert.Reference8Ideal.Read.val_main_v5_eq, e0, e1]
  exact Cert.Reference8Ideal.Product.result _ _

/-- The second input projection, its query columns and its remaining columns. -/
theorem proj1 : Cert.algebraic_Kernel9Ideal_Reference9Ideal
    (hKernel9Ideal := Cert.Kernel9Ideal.Gen.facts) (hReference9Ideal := Cert.Reference9Ideal.Gen.facts) := by
  intro m g m' g' _ hargs
  refine ⟨fun c => Cert.Products.proj1Query (Cert.Kernel9Ideal.Product.a0 m c) (Cert.Kernel9Ideal.Product.a1 m c),
    fun c => Cert.Products.proj1Rest (Cert.Kernel9Ideal.Product.a0 m c) (Cert.Kernel9Ideal.Product.a1 m c),
    Cert.Kernel9Ideal.Product.run m g, ?_⟩
  refine (θ_run Cert.Reference9Ideal.defs _ _).mono (fun r h c => ?_) (Cert.Reference9Ideal.Value.run (F := Ideal) m' g')
  obtain ⟨hq, hr, hkept⟩ := h c
  obtain ⟨e0, e1⟩ := hargs c
  refine ⟨hq.trans ?_, hr.trans ?_, hkept⟩
  · rw [Cert.Reference9Ideal.Read.val_main_v4_eq, e0, e1]
    exact Cert.Reference9Ideal.Product.query _ _
  · rw [Cert.Reference9Ideal.Read.val_main_v5_eq, e0, e1]
    exact Cert.Reference9Ideal.Product.rest _ _

/-- The second input projection's forget columns. -/
theorem proj1_forget : Cert.algebraic_Kernel10Ideal_Reference10Ideal
    (hKernel10Ideal := Cert.Kernel10Ideal.Gen.facts) (hReference10Ideal := Cert.Reference10Ideal.Gen.facts) := by
  intro m g m' g' _ hargs
  refine ⟨fun c => Cert.Products.proj1Forget (Cert.Kernel10Ideal.Product.a0 m c) (Cert.Kernel10Ideal.Product.a1 m c),
    (θ_run Cert.Kernel10Ideal.defs _ _).mono
      (fun r h c => ⟨(h c).1.trans (Cert.Kernel10Ideal.Product.final m c), (h c).2⟩)
      (Cert.Kernel10Ideal.Value.run_blocks (F := Ideal) m g),
    (θ_run Cert.Reference10Ideal.defs _ _).mono (fun r h c => ⟨(h c).1.trans ?_, (h c).2⟩)
      (Cert.Reference10Ideal.Value.run (F := Ideal) m' g')⟩
  obtain ⟨e0, e1⟩ := hargs c
  rw [Cert.Reference10Ideal.Read.val_main_v3_eq, e0, e1]
  exact Cert.Reference10Ideal.Product.result _ _

/-- The output projection added to the residual. -/
theorem out_proj : Cert.algebraic_Kernel11Ideal_Reference11Ideal
    (hKernel11Ideal := Cert.Kernel11Ideal.Gen.facts) (hReference11Ideal := Cert.Reference11Ideal.Gen.facts) := by
  intro m g m' g' _ hargs
  refine ⟨fun c => Cert.Products.outProj (Cert.Kernel11Ideal.Product.a0 m c) (Cert.Kernel11Ideal.Product.a1 m c) (Cert.Kernel11Ideal.Product.a2 m c),
    (θ_run Cert.Kernel11Ideal.defs _ _).mono
      (fun r h c => ⟨(h c).1.trans (Cert.Kernel11Ideal.Product.final m c), (h c).2⟩)
      (Cert.Kernel11Ideal.Value.run_blocks (F := Ideal) m g),
    (θ_run Cert.Reference11Ideal.defs _ _).mono (fun r h c => ⟨(h c).1.trans ?_, (h c).2⟩)
      (Cert.Reference11Ideal.Value.run (F := Ideal) m' g')⟩
  obtain ⟨e0, e1, e2⟩ := hargs c
  rw [Cert.Reference11Ideal.Read.val_main_v4_eq, e0, e1, e2]
  exact Cert.Reference11Ideal.Product.result _ _ _

/-- The output projection's gradient through the second layer's gate. -/
theorem gated1 : Cert.algebraic_Kernel12Ideal_Reference12Ideal_pre_branch1_finite
    (hKernel12Ideal := Cert.Kernel12Ideal.Gen.facts) (hReference12Ideal := Cert.Reference12Ideal.Gen.facts)
    (hPre_branch1_finite := Cert.Gate1.facts) := by
  intro m g m' g' hpre hargs
  refine ⟨fun c => Cert.Gate1.mixed (Cert.Kernel12Ideal.Product.a0 m c) (Cert.Kernel12Ideal.Product.a1 m c)
      (Cert.Kernel12Ideal.Product.a3 m c) (Cert.Kernel12Ideal.Product.a4 m c),
    fun c => Cert.Gate1.gated (Cert.Kernel12Ideal.Product.a0 m c) (Cert.Kernel12Ideal.Product.a1 m c)
      (Cert.Kernel12Ideal.Product.a2 m c) (Cert.Kernel12Ideal.Product.a3 m c) (Cert.Kernel12Ideal.Product.a4 m c),
    fun c => Cert.Gate1.col (Cert.Kernel12Ideal.Product.a0 m c) (Cert.Kernel12Ideal.Product.a1 m c)
      (Cert.Kernel12Ideal.Product.a2 m c) (Cert.Kernel12Ideal.Product.a3 m c), Cert.Kernel12Ideal.Product.run m g, ?_⟩
  refine (θ_run Cert.Reference12Ideal.defs _ _).mono (fun r h c => ?_) (Cert.Reference12Ideal.Value.run (F := Ideal) m' g')
  obtain ⟨hm, hg, hs, hkept⟩ := h c
  obtain ⟨e0, e1, e2, e3, e4⟩ := hargs c
  have hreal := Cert.Gate1.grad_real _ _ _ _ _ (hpre c)
  refine ⟨hm.trans ?_, hg.trans ?_, hs.trans ?_, hkept⟩
  · rw [e0, e1, e3, e4]
    exact (Cert.Reference12Ideal.Read.val_main_v21_eq _ _ _ _).trans (Cert.Reference12Ideal.Product.mixed_eq _ _ _ _)
  · rw [e0, e1, e2, e3, e4]
    exact (Cert.Reference12Ideal.Read.val_main_v22_eq _ _ _ _ _).trans (Cert.Reference12Ideal.Product.gated_eq _ _ _ _ _ hreal)
  · rw [e0, e1, e2, e3]
    exact (Cert.Reference12Ideal.Read.val_main_v23_eq _ _ _ _).trans (Cert.Reference12Ideal.Product.col_eq _ _ _ _)

/-- The output projection's gradient through the first layer's gate. -/
theorem gated0 : Cert.algebraic_Kernel13Ideal_Reference13Ideal_pre_branch0_finite
    (hKernel13Ideal := Cert.Kernel13Ideal.Gen.facts) (hReference13Ideal := Cert.Reference13Ideal.Gen.facts)
    (hPre_branch0_finite := Cert.Gate0.facts) := by
  intro m g m' g' hpre hargs
  refine ⟨fun c => Cert.Gate0.mixed (Cert.Kernel13Ideal.Product.a0 m c) (Cert.Kernel13Ideal.Product.a1 m c)
      (Cert.Kernel13Ideal.Product.a3 m c) (Cert.Kernel13Ideal.Product.a4 m c),
    fun c => Cert.Gate0.gated (Cert.Kernel13Ideal.Product.a0 m c) (Cert.Kernel13Ideal.Product.a1 m c)
      (Cert.Kernel13Ideal.Product.a2 m c) (Cert.Kernel13Ideal.Product.a3 m c) (Cert.Kernel13Ideal.Product.a4 m c),
    fun c => Cert.Gate0.col (Cert.Kernel13Ideal.Product.a0 m c) (Cert.Kernel13Ideal.Product.a1 m c)
      (Cert.Kernel13Ideal.Product.a2 m c) (Cert.Kernel13Ideal.Product.a3 m c), Cert.Kernel13Ideal.Product.run m g, ?_⟩
  refine (θ_run Cert.Reference13Ideal.defs _ _).mono (fun r h c => ?_) (Cert.Reference13Ideal.Value.run (F := Ideal) m' g')
  obtain ⟨hm, hg, hs, hkept⟩ := h c
  obtain ⟨e0, e1, e2, e3, e4⟩ := hargs c
  have hreal := Cert.Gate0.grad_real _ _ _ _ _ (hpre c)
  refine ⟨hm.trans ?_, hg.trans ?_, hs.trans ?_, hkept⟩
  · rw [e0, e1, e3, e4]
    exact (Cert.Reference13Ideal.Read.val_main_v21_eq _ _ _ _).trans (Cert.Reference13Ideal.Product.mixed_eq _ _ _ _)
  · rw [e0, e1, e2, e3, e4]
    exact (Cert.Reference13Ideal.Read.val_main_v22_eq _ _ _ _ _).trans (Cert.Reference13Ideal.Product.gated_eq _ _ _ _ _ hreal)
  · rw [e0, e1, e2, e3]
    exact (Cert.Reference13Ideal.Read.val_main_v23_eq _ _ _ _).trans (Cert.Reference13Ideal.Product.col_eq _ _ _ _)

/-- The pooling's gradient through the group weights. -/
theorem pooled_grad : Cert.algebraic_Kernel14Ideal_Reference14Ideal
    (hKernel14Ideal := Cert.Kernel14Ideal.Gen.facts) (hReference14Ideal := Cert.Reference14Ideal.Gen.facts) := by
  intro m g m' g' _ hargs
  refine ⟨fun c => Cert.Products.pooledGrad (Cert.Kernel14Ideal.Product.a0 m c) (Cert.Kernel14Ideal.Product.a1 m c),
    (θ_run Cert.Kernel14Ideal.defs _ _).mono
      (fun r h c => ⟨(h c).1.trans (Cert.Kernel14Ideal.Product.final m c), (h c).2⟩)
      (Cert.Kernel14Ideal.Value.run_blocks (F := Ideal) m g),
    (θ_run Cert.Reference14Ideal.defs _ _).mono (fun r h c => ⟨(h c).1.trans ?_, (h c).2⟩)
      (Cert.Reference14Ideal.Value.run (F := Ideal) m' g')⟩
  obtain ⟨e0, e1⟩ := hargs c
  rw [Cert.Reference14Ideal.Read.val_main_v12_eq, e0, e1]
  exact Cert.Reference14Ideal.Product.result _ _

/-- The group weights' gradient. -/
theorem group_weights : Cert.algebraic_Kernel15Ideal_Reference15Ideal
    (hKernel15Ideal := Cert.Kernel15Ideal.Gen.facts) (hReference15Ideal := Cert.Reference15Ideal.Gen.facts) := by
  intro m g m' g' _ hargs
  refine ⟨fun c => Cert.Products.groupWeights (Cert.Kernel15Ideal.Product.a0 m c) (Cert.Kernel15Ideal.Product.a1 m c),
    (θ_run Cert.Kernel15Ideal.defs _ _).mono
      (fun r h c => ⟨(h c).1.trans (Cert.Kernel15Ideal.Product.final m c), (h c).2⟩)
      (Cert.Kernel15Ideal.Value.run_blocks (F := Ideal) m g),
    (θ_run Cert.Reference15Ideal.defs _ _).mono (fun r h c => ⟨(h c).1.trans ?_, (h c).2⟩)
      (Cert.Reference15Ideal.Value.run (F := Ideal) m' g')⟩
  obtain ⟨e0, e1⟩ := hargs c
  rw [Cert.Reference15Ideal.Read.val_main_v14_eq, e0, e1]
  exact Cert.Reference15Ideal.Product.result _ _

/-- The pooled values through the group weights. -/
theorem pool_groups : Cert.algebraic_Kernel16Ideal_Reference16Ideal
    (hKernel16Ideal := Cert.Kernel16Ideal.Gen.facts) (hReference16Ideal := Cert.Reference16Ideal.Gen.facts) := by
  intro m g m' g' _ hargs
  refine ⟨fun c => Cert.Products.poolGroups (Cert.Kernel16Ideal.Product.a0 m c) (Cert.Kernel16Ideal.Product.a1 m c),
    (θ_run Cert.Kernel16Ideal.defs _ _).mono
      (fun r h c => ⟨(h c).1.trans (rfl), (h c).2⟩)
      (Cert.Kernel16Ideal.Product.run m g),
    (θ_run Cert.Reference16Ideal.defs _ _).mono (fun r h c => ⟨(h c).1.trans ?_, (h c).2⟩)
      (Cert.Reference16Ideal.Value.run (F := Ideal) m' g')⟩
  obtain ⟨e0, e1⟩ := hargs c
  rw [Cert.Reference16Ideal.Read.val_main_v6_eq, e0, e1]
  exact Cert.Reference16Ideal.Product.result _ _

/-- The first layer's attention gradient's two results are the reference's. -/
theorem attention0 : Cert.algebraic_Kernel17Ideal_Reference17Ideal_pre_queries_and_keys0_finite
    (hKernel17Ideal := Cert.Kernel17Ideal.Gen.facts) (hReference17Ideal := Cert.Reference17Ideal.Gen.facts)
    (hPre_queries_and_keys0_finite := Cert.Finite0.facts) := by
  intro m g m' g' hpre hargs
  refine ⟨fun c => Cert.Attn.dqOut0 (Cert.Kernel17Ideal.Heads.a0 m c) (Cert.Kernel17Ideal.Heads.a1 m c)
      (Cert.Kernel17Ideal.Heads.a2 m c) (Cert.Kernel17Ideal.Heads.a3 m c),
    fun c => Cert.Attn.dkvOut0 (Cert.Kernel17Ideal.Heads.a0 m c) (Cert.Kernel17Ideal.Heads.a1 m c)
      (Cert.Kernel17Ideal.Heads.a2 m c), Cert.Kernel17Ideal.Heads.run m g, ?_⟩
  refine (θ_run Cert.Reference17Ideal.defs _ _).mono (fun r h c => ?_) (Cert.Reference17Ideal.Value.run (F := Ideal) m' g')
  obtain ⟨hq, hkv, hkept⟩ := h c
  obtain ⟨e0, e1, e2, e3⟩ := hargs c
  have hreal := Cert.Finite0.score_real _ _ _ _ (hpre c)
  refine ⟨hq.trans ?_, hkv.trans ?_, hkept⟩
  · rw [Cert.Reference17Ideal.Read.val_main_v74_eq, e0, e1, e2, e3]
    exact Cert.Reference17Ideal.Heads.result_q _ _ _ _ hreal
  · rw [Cert.Reference17Ideal.Read.val_main_v70_eq, e0, e1, e2]
    exact Cert.Reference17Ideal.Heads.result_kv _ _ _ hreal

/-- The memory's key and value weights' gradient. -/
theorem kv_weights : Cert.algebraic_Kernel18Ideal_Reference18Ideal
    (hKernel18Ideal := Cert.Kernel18Ideal.Gen.facts) (hReference18Ideal := Cert.Reference18Ideal.Gen.facts) := by
  intro m g m' g' _ hargs
  refine ⟨fun c => Cert.Products.kvWeights (Cert.Kernel18Ideal.Product.a0 m c) (Cert.Kernel18Ideal.Product.a1 m c),
    (θ_run Cert.Kernel18Ideal.defs _ _).mono
      (fun r h c => ⟨(h c).1.trans (Cert.Kernel18Ideal.Product.final m c), (h c).2⟩)
      (Cert.Kernel18Ideal.Value.run_blocks (F := Ideal) m g),
    (θ_run Cert.Reference18Ideal.defs _ _).mono (fun r h c => ⟨(h c).1.trans ?_, (h c).2⟩)
      (Cert.Reference18Ideal.Value.run (F := Ideal) m' g')⟩
  obtain ⟨e0, e1⟩ := hargs c
  rw [Cert.Reference18Ideal.Read.val_main_v7_eq, e0, e1]
  exact Cert.Reference18Ideal.Product.result _ _

/-- The second layer's gradient by the memory. -/
theorem memory1 : Cert.algebraic_Kernel19Ideal_Reference19Ideal
    (hKernel19Ideal := Cert.Kernel19Ideal.Gen.facts) (hReference19Ideal := Cert.Reference19Ideal.Gen.facts) := by
  intro m g m' g' _ hargs
  refine ⟨fun c => Cert.Products.memInputs (Cert.Kernel19Ideal.Product.a0 m c) (Cert.Kernel19Ideal.Product.a1 m c),
    (θ_run Cert.Kernel19Ideal.defs _ _).mono
      (fun r h c => ⟨(h c).1.trans (Cert.Kernel19Ideal.Product.final m c), (h c).2⟩)
      (Cert.Kernel19Ideal.Value.run_blocks (F := Ideal) m g),
    (θ_run Cert.Reference19Ideal.defs _ _).mono (fun r h c => ⟨(h c).1.trans ?_, (h c).2⟩)
      (Cert.Reference19Ideal.Value.run (F := Ideal) m' g')⟩
  obtain ⟨e0, e1⟩ := hargs c
  rw [Cert.Reference19Ideal.Read.val_main_v6_eq, e0, e1]
  exact Cert.Reference19Ideal.Product.result _ _

/-- The first layer's gradient by the memory, added to the second's. -/
theorem memory0 : Cert.algebraic_Kernel20Ideal_Reference20Ideal
    (hKernel20Ideal := Cert.Kernel20Ideal.Gen.facts) (hReference20Ideal := Cert.Reference20Ideal.Gen.facts) := by
  intro m g m' g' _ hargs
  refine ⟨fun c => Cert.Products.memInputsAdd (Cert.Kernel20Ideal.Product.a0 m c) (Cert.Kernel20Ideal.Product.a1 m c) (Cert.Kernel20Ideal.Product.a2 m c),
    (θ_run Cert.Kernel20Ideal.defs _ _).mono
      (fun r h c => ⟨(h c).1.trans (Cert.Kernel20Ideal.Product.final m c), (h c).2⟩)
      (Cert.Kernel20Ideal.Value.run_blocks (F := Ideal) m g),
    (θ_run Cert.Reference20Ideal.defs _ _).mono (fun r h c => ⟨(h c).1.trans ?_, (h c).2⟩)
      (Cert.Reference20Ideal.Value.run (F := Ideal) m' g')⟩
  obtain ⟨e0, e1, e2⟩ := hargs c
  rw [Cert.Reference20Ideal.Read.val_main_v7_eq, e0, e1, e2]
  exact Cert.Reference20Ideal.Product.result _ _ _

/-- The memory's keys and values. -/
theorem keys_values : Cert.algebraic_Kernel21Ideal_Reference21Ideal
    (hKernel21Ideal := Cert.Kernel21Ideal.Gen.facts) (hReference21Ideal := Cert.Reference21Ideal.Gen.facts) := by
  intro m g m' g' _ hargs
  refine ⟨fun c => Cert.Products.kvProj (Cert.Kernel21Ideal.Product.a0 m c) (Cert.Kernel21Ideal.Product.a1 m c),
    (θ_run Cert.Kernel21Ideal.defs _ _).mono
      (fun r h c => ⟨(h c).1.trans (Cert.Kernel21Ideal.Product.final m c), (h c).2⟩)
      (Cert.Kernel21Ideal.Value.run_blocks (F := Ideal) m g),
    (θ_run Cert.Reference21Ideal.defs _ _).mono (fun r h c => ⟨(h c).1.trans ?_, (h c).2⟩)
      (Cert.Reference21Ideal.Value.run (F := Ideal) m' g')⟩
  obtain ⟨e0, e1⟩ := hargs c
  rw [Cert.Reference21Ideal.Read.val_main_v3_eq, e0, e1]
  exact Cert.Reference21Ideal.Product.result _ _

/-- The second layer's attention. -/
theorem attended1 : Cert.algebraic_Kernel22Ideal_Reference22Ideal
    (hKernel22Ideal := Cert.Kernel22Ideal.Gen.facts) (hReference22Ideal := Cert.Reference22Ideal.Gen.facts) := by
  intro m g m' g' _ hargs
  refine ⟨fun c => Cert.Attn.attnOut (Cert.Kernel22Ideal.Heads.a0 m c) (Cert.Kernel22Ideal.Heads.a1 m c)
      (Cert.Kernel22Ideal.Heads.a2 m c), Cert.Kernel22Ideal.Heads.run m g,
    (θ_run Cert.Reference22Ideal.defs _ _).mono (fun r h c => ⟨(h c).1.trans ?_, (h c).2⟩)
      (Cert.Reference22Ideal.Value.run (F := Ideal) m' g')⟩
  obtain ⟨e0, e1, e2⟩ := hargs c
  rw [e0, e1, e2]
  exact (Cert.Reference22Ideal.Read.val_main_v27_eq _ _ _).trans (Cert.Reference22Ideal.Heads.result _ _ _)

/-- The first layer's attention. -/
theorem attended0 : Cert.algebraic_Kernel23Ideal_Reference23Ideal
    (hKernel23Ideal := Cert.Kernel23Ideal.Gen.facts) (hReference23Ideal := Cert.Reference23Ideal.Gen.facts) := by
  intro m g m' g' _ hargs
  refine ⟨fun c => Cert.Attn.attnOut0 (Cert.Kernel23Ideal.Heads.a0 m c) (Cert.Kernel23Ideal.Heads.a1 m c)
      (Cert.Kernel23Ideal.Heads.a2 m c), Cert.Kernel23Ideal.Heads.run m g,
    (θ_run Cert.Reference23Ideal.defs _ _).mono (fun r h c => ⟨(h c).1.trans ?_, (h c).2⟩)
      (Cert.Reference23Ideal.Value.run (F := Ideal) m' g')⟩
  obtain ⟨e0, e1, e2⟩ := hargs c
  rw [e0, e1, e2]
  exact (Cert.Reference23Ideal.Read.val_main_v27_eq _ _ _).trans (Cert.Reference23Ideal.Heads.result _ _ _)

/-- The gradient of the pooling, set into the projection's gradient. -/
theorem pooling_grad : Cert.algebraic_Kernel24Ideal_Reference24Ideal
    (hKernel24Ideal := Cert.Kernel24Ideal.Gen.facts) (hReference24Ideal := Cert.Reference24Ideal.Gen.facts) := by
  intro m g m' g' _ hargs
  refine ⟨fun c => Cert.Pool.gradInto (Cert.Kernel24Ideal.Product.a0 c m) (Cert.Kernel24Ideal.Product.a1 c m),
    (θ_run Cert.Kernel24Ideal.defs _ _).mono
      (fun r h c => ⟨(h c).1.trans (Cert.Kernel24Ideal.Product.final c m), (h c).2⟩)
      (Cert.Kernel24Ideal.Value.run_blocks (F := Ideal) m g),
    (θ_run Cert.Reference24Ideal.defs _ _).mono (fun r h c => ⟨(h c).1.trans ?_, (h c).2⟩)
      (Cert.Reference24Ideal.Value.run (F := Ideal) m' g')⟩
  obtain ⟨e0, e1⟩ := hargs c
  rw [Cert.Reference24Ideal.Read.val_main_v49_eq, e0, e1]
  exact Cert.Reference24Ideal.Product.result _ _

/-- The pooling. -/
theorem pooling : Cert.algebraic_Kernel25Ideal_Reference25Ideal
    (hKernel25Ideal := Cert.Kernel25Ideal.Gen.facts) (hReference25Ideal := Cert.Reference25Ideal.Gen.facts) := by
  intro m g m' g' _ hargs
  refine ⟨fun c => Cert.Pool.pooled (Cert.Kernel25Ideal.Product.a0 c m),
    (θ_run Cert.Kernel25Ideal.defs _ _).mono
      (fun r h c => ⟨(h c).1.trans (Cert.Kernel25Ideal.Product.final c m), (h c).2⟩)
      (Cert.Kernel25Ideal.Value.run_blocks (F := Ideal) m g),
    (θ_run Cert.Reference25Ideal.defs _ _).mono (fun r h c => ⟨(h c).1.trans ?_, (h c).2⟩)
      (Cert.Reference25Ideal.Value.run (F := Ideal) m' g')⟩
  have e0 := hargs c
  rw [Cert.Reference25Ideal.Read.val_main_v39_eq, e0]
  exact Cert.Reference25Ideal.Product.result _

/-- The first norm's gradient, with the gradient that passes the norm by added. -/
theorem norm_back : Cert.algebraic_Kernel26Ideal_Reference26Ideal
    (hKernel26Ideal := Cert.Kernel26Ideal.Gen.facts) (hReference26Ideal := Cert.Reference26Ideal.Gen.facts) := by
  intro m g m' g' _ hargs
  refine ⟨fun c => Cert.Norm.inputGrad (Cert.Kernel26Ideal.Product.a0 m c) (Cert.Kernel26Ideal.Product.a1 m c) (Cert.Kernel26Ideal.Product.a2 m c) (Cert.Kernel26Ideal.Product.a3 m c),
    fun c => Cert.Norm.inputGrad (Cert.Kernel26Ideal.Product.a0 m c) (Cert.Kernel26Ideal.Product.a1 m c) (Cert.Kernel26Ideal.Product.a2 m c) (Cert.Kernel26Ideal.Product.a3 m c),
    fun c => Cert.Norm.weightGrad (Cert.Kernel26Ideal.Product.a0 m c) (Cert.Kernel26Ideal.Product.a1 m c),
    (θ_run Cert.Kernel26Ideal.defs _ _).mono
      (fun r h c => ⟨(h c).1.trans (Cert.Kernel26Ideal.Product.final4 m c), (h c).2.1.trans (Cert.Kernel26Ideal.Product.final5 m c), (h c).2.2.1.trans (Cert.Kernel26Ideal.Product.final6 m c), (h c).2.2.2⟩)
      (Cert.Kernel26Ideal.Value.run_blocks (F := Ideal) m g), ?_⟩
  refine (θ_run Cert.Reference26Ideal.defs _ _).mono (fun r h c => ?_) (Cert.Reference26Ideal.Value.run (F := Ideal) m' g')
  obtain ⟨hx, hr, hw, hkept⟩ := h c
  obtain ⟨e0, e1, e2, e3⟩ := hargs c
  refine ⟨hx.trans ?_, hr.trans ?_, hw.trans ?_, hkept⟩
  · rw [Cert.Reference26Ideal.Read.val_main_v34_eq, e0, e1, e2, e3]
    exact Cert.Reference26Ideal.Product.result _ _ _ _
  · rw [Cert.Reference26Ideal.Read.val_main_v36_eq, e0, e1, e2, e3]
    exact Cert.Reference26Ideal.Product.rounded _ _ _ _
  · rw [Cert.Reference26Ideal.Read.val_main_v17_eq, e0, e1]
    exact Cert.Reference26Ideal.Product.weights _ _

/-- The second layer's norm. -/
theorem norm : Cert.algebraic_Kernel27Ideal_Reference27Ideal
    (hKernel27Ideal := Cert.Kernel27Ideal.Gen.facts) (hReference27Ideal := Cert.Reference27Ideal.Gen.facts) := by
  intro m g m' g' _ hargs
  refine ⟨fun c => Cert.Norm.normed (Cert.Kernel27Ideal.Product.a0 m c) (Cert.Kernel27Ideal.Product.a1 m c),
    (θ_run Cert.Kernel27Ideal.defs _ _).mono
      (fun r h c => ⟨(h c).1.trans (Cert.Kernel27Ideal.Product.final m c), (h c).2⟩)
      (Cert.Kernel27Ideal.Value.run_blocks (F := Ideal) m g),
    (θ_run Cert.Reference27Ideal.defs _ _).mono (fun r h c => ⟨(h c).1.trans ?_, (h c).2⟩)
      (Cert.Reference27Ideal.Value.run (F := Ideal) m' g')⟩
  obtain ⟨e0, e1⟩ := hargs c
  rw [Cert.Reference27Ideal.Read.val_main_v12_eq, e0, e1]
  exact Cert.Reference27Ideal.Product.result _ _

/-- The second layer's gates. -/
theorem gates : Cert.algebraic_Kernel28Ideal_Reference28Ideal
    (hKernel28Ideal := Cert.Kernel28Ideal.Gen.facts) (hReference28Ideal := Cert.Reference28Ideal.Gen.facts) := by
  intro m g m' g' _ hargs
  refine ⟨fun c => Cert.GateFwd.result (Cert.Kernel28Ideal.Product.a0 m c) (Cert.Kernel28Ideal.Product.a1 m c) (Cert.Kernel28Ideal.Product.a2 m c),
    (θ_run Cert.Kernel28Ideal.defs _ _).mono
      (fun r h c => ⟨(h c).1.trans (Cert.Kernel28Ideal.Product.final m c), (h c).2⟩)
      (Cert.Kernel28Ideal.Value.run_blocks (F := Ideal) m g),
    (θ_run Cert.Reference28Ideal.defs _ _).mono (fun r h c => ⟨(h c).1.trans ?_, (h c).2⟩)
      (Cert.Reference28Ideal.Value.run (F := Ideal) m' g')⟩
  obtain ⟨e0, e1, e2⟩ := hargs c
  rw [Cert.Reference28Ideal.Read.val_main_v7_eq, e0, e1, e2]
  exact Cert.Reference28Ideal.Product.val_eq _ _ _

/-- The optimiser's step of the memory's key and value weights. -/
theorem step_kv : Cert.algebraic_Kernel29Ideal_Reference29Ideal
    (hKernel29Ideal := Cert.Kernel29Ideal.Gen.facts) (hReference29Ideal := Cert.Reference29Ideal.Gen.facts) := by
  intro m g m' g' _ hargs
  refine ⟨fun c => Cert.Kernel29Ideal.Product.grads m c,
    fun c => Cert.Adam.steps (Cert.Kernel29Ideal.Product.a0 m c) (Cert.Kernel29Ideal.Product.a1 m c) (Cert.Kernel29Ideal.Product.a2 m c) (Cert.Kernel29Ideal.Product.grads m c),
    fun c => Cert.Adam.firsts (Cert.Kernel29Ideal.Product.a1 m c) (Cert.Kernel29Ideal.Product.grads m c),
    fun c => Cert.Adam.seconds (Cert.Kernel29Ideal.Product.a2 m c) (Cert.Kernel29Ideal.Product.grads m c),
    (θ_run Cert.Kernel29Ideal.defs _ _).mono
      (fun r h c => ⟨(h c).1.trans (Cert.Kernel29Ideal.Product.final5 m c), (h c).2.1.trans (Cert.Kernel29Ideal.Product.final6 m c),
        (h c).2.2.1.trans (Cert.Kernel29Ideal.Product.final7 m c), (h c).2.2.2.1.trans (Cert.Kernel29Ideal.Product.final8 m c), (h c).2.2.2.2⟩)
      (Cert.Kernel29Ideal.Value.run_blocks (F := Ideal) m g), ?_⟩
  refine (θ_run Cert.Reference29Ideal.defs _ _).mono (fun r h c => ?_) (Cert.Reference29Ideal.Value.run (F := Ideal) m' g')
  obtain ⟨hg, hd, hm, hv, hkept⟩ := h c
  obtain ⟨e0, e1, e2, e3, e4⟩ := hargs c
  refine ⟨hg.trans ?_, hd.trans ?_, hm.trans ?_, hv.trans ?_, hkept⟩
  · rw [Cert.Reference29Ideal.Read.val_main_v2_eq, e3, e4]
    exact Cert.Reference29Ideal.Product.grads_eq _ _
  · rw [Cert.Reference29Ideal.Read.val_main_v26_eq, e0, e1, e2, e3, e4]
    exact Cert.Reference29Ideal.Product.steps_eq _ _ _ _ _
  · rw [Cert.Reference29Ideal.Read.val_main_v7_eq, e1, e3, e4]
    exact Cert.Reference29Ideal.Product.firsts_eq _ _ _
  · rw [Cert.Reference29Ideal.Read.val_main_v13_eq, e2, e3, e4]
    exact Cert.Reference29Ideal.Product.seconds_eq _ _ _

/-- The step of the output projection's weights. -/
theorem step_out : Cert.algebraic_Kernel30Ideal_Reference30Ideal
    (hKernel30Ideal := Cert.Kernel30Ideal.Gen.facts) (hReference30Ideal := Cert.Reference30Ideal.Gen.facts) := by
  intro m g m' g' _ hargs
  refine ⟨fun c => Cert.Kernel30Ideal.Product.grads m c,
    fun c => Cert.Adam.steps (Cert.Kernel30Ideal.Product.a0 m c) (Cert.Kernel30Ideal.Product.a1 m c) (Cert.Kernel30Ideal.Product.a2 m c) (Cert.Kernel30Ideal.Product.grads m c),
    fun c => Cert.Adam.firsts (Cert.Kernel30Ideal.Product.a1 m c) (Cert.Kernel30Ideal.Product.grads m c),
    fun c => Cert.Adam.seconds (Cert.Kernel30Ideal.Product.a2 m c) (Cert.Kernel30Ideal.Product.grads m c),
    (θ_run Cert.Kernel30Ideal.defs _ _).mono
      (fun r h c => ⟨(h c).1.trans (Cert.Kernel30Ideal.Product.final5 m c), (h c).2.1.trans (Cert.Kernel30Ideal.Product.final6 m c),
        (h c).2.2.1.trans (Cert.Kernel30Ideal.Product.final7 m c), (h c).2.2.2.1.trans (Cert.Kernel30Ideal.Product.final8 m c), (h c).2.2.2.2⟩)
      (Cert.Kernel30Ideal.Value.run_blocks (F := Ideal) m g), ?_⟩
  refine (θ_run Cert.Reference30Ideal.defs _ _).mono (fun r h c => ?_) (Cert.Reference30Ideal.Value.run (F := Ideal) m' g')
  obtain ⟨hg, hd, hm, hv, hkept⟩ := h c
  obtain ⟨e0, e1, e2, e3, e4⟩ := hargs c
  refine ⟨hg.trans ?_, hd.trans ?_, hm.trans ?_, hv.trans ?_, hkept⟩
  · rw [Cert.Reference30Ideal.Read.val_main_v2_eq, e3, e4]
    exact Cert.Reference30Ideal.Product.grads_eq _ _
  · rw [Cert.Reference30Ideal.Read.val_main_v26_eq, e0, e1, e2, e3, e4]
    exact Cert.Reference30Ideal.Product.steps_eq _ _ _ _ _
  · rw [Cert.Reference30Ideal.Read.val_main_v7_eq, e1, e3, e4]
    exact Cert.Reference30Ideal.Product.firsts_eq _ _ _
  · rw [Cert.Reference30Ideal.Read.val_main_v13_eq, e2, e3, e4]
    exact Cert.Reference30Ideal.Product.seconds_eq _ _ _

/-- The step of the first input projection's weights. -/
theorem step_pool_in : Cert.algebraic_Kernel31Ideal_Reference31Ideal
    (hKernel31Ideal := Cert.Kernel31Ideal.Gen.facts) (hReference31Ideal := Cert.Reference31Ideal.Gen.facts) := by
  intro m g m' g' _ hargs
  refine ⟨fun c => Cert.Kernel31Ideal.Product.grads m c,
    fun c => Cert.Adam.steps (Cert.Kernel31Ideal.Product.a0 m c) (Cert.Kernel31Ideal.Product.a1 m c) (Cert.Kernel31Ideal.Product.a2 m c) (Cert.Kernel31Ideal.Product.grads m c),
    fun c => Cert.Adam.firsts (Cert.Kernel31Ideal.Product.a1 m c) (Cert.Kernel31Ideal.Product.grads m c),
    fun c => Cert.Adam.seconds (Cert.Kernel31Ideal.Product.a2 m c) (Cert.Kernel31Ideal.Product.grads m c),
    (θ_run Cert.Kernel31Ideal.defs _ _).mono
      (fun r h c => ⟨(h c).1.trans (Cert.Kernel31Ideal.Product.final4 m c), (h c).2.1.trans (Cert.Kernel31Ideal.Product.final5 m c),
        (h c).2.2.1.trans (Cert.Kernel31Ideal.Product.final6 m c), (h c).2.2.2.1.trans (Cert.Kernel31Ideal.Product.final7 m c), (h c).2.2.2.2⟩)
      (Cert.Kernel31Ideal.Value.run_blocks (F := Ideal) m g), ?_⟩
  refine (θ_run Cert.Reference31Ideal.defs _ _).mono (fun r h c => ?_) (Cert.Reference31Ideal.Value.run (F := Ideal) m' g')
  obtain ⟨hg, hd, hm, hv, hkept⟩ := h c
  obtain ⟨e0, e1, e2, e3⟩ := hargs c
  refine ⟨hg.trans ?_, hd.trans ?_, hm.trans ?_, hv.trans ?_, hkept⟩
  · rw [Cert.Reference31Ideal.Read.val_main_v0_eq, e3]
    exact Cert.Reference31Ideal.Product.grads_eq _
  · rw [Cert.Reference31Ideal.Read.val_main_v25_eq, e0, e1, e2, e3]
    exact Cert.Reference31Ideal.Product.steps_eq _ _ _ _
  · rw [Cert.Reference31Ideal.Read.val_main_v6_eq, e1, e3]
    exact Cert.Reference31Ideal.Product.firsts_eq _ _
  · rw [Cert.Reference31Ideal.Read.val_main_v12_eq, e2, e3]
    exact Cert.Reference31Ideal.Product.seconds_eq _ _

/-- The step of the group weights. -/
theorem step_pool_grp : Cert.algebraic_Kernel32Ideal_Reference32Ideal
    (hKernel32Ideal := Cert.Kernel32Ideal.Gen.facts) (hReference32Ideal := Cert.Reference32Ideal.Gen.facts) := by
  intro m g m' g' _ hargs
  refine ⟨fun c => Cert.Kernel32Ideal.Product.grads m c,
    fun c => Cert.Adam.steps (Cert.Kernel32Ideal.Product.a0 m c) (Cert.Kernel32Ideal.Product.a1 m c) (Cert.Kernel32Ideal.Product.a2 m c) (Cert.Kernel32Ideal.Product.grads m c),
    fun c => Cert.Adam.firsts (Cert.Kernel32Ideal.Product.a1 m c) (Cert.Kernel32Ideal.Product.grads m c),
    fun c => Cert.Adam.seconds (Cert.Kernel32Ideal.Product.a2 m c) (Cert.Kernel32Ideal.Product.grads m c),
    (θ_run Cert.Kernel32Ideal.defs _ _).mono
      (fun r h c => ⟨(h c).1.trans (Cert.Kernel32Ideal.Product.final4 m c), (h c).2.1.trans (Cert.Kernel32Ideal.Product.final5 m c),
        (h c).2.2.1.trans (Cert.Kernel32Ideal.Product.final6 m c), (h c).2.2.2.1.trans (Cert.Kernel32Ideal.Product.final7 m c), (h c).2.2.2.2⟩)
      (Cert.Kernel32Ideal.Value.run_blocks (F := Ideal) m g), ?_⟩
  refine (θ_run Cert.Reference32Ideal.defs _ _).mono (fun r h c => ?_) (Cert.Reference32Ideal.Value.run (F := Ideal) m' g')
  obtain ⟨hg, hd, hm, hv, hkept⟩ := h c
  obtain ⟨e0, e1, e2, e3⟩ := hargs c
  refine ⟨hg.trans ?_, hd.trans ?_, hm.trans ?_, hv.trans ?_, hkept⟩
  · rw [Cert.Reference32Ideal.Read.val_main_v0_eq, e3]
    exact Cert.Reference32Ideal.Product.grads_eq _
  · rw [Cert.Reference32Ideal.Read.val_main_v25_eq, e0, e1, e2, e3]
    exact Cert.Reference32Ideal.Product.steps_eq _ _ _ _
  · rw [Cert.Reference32Ideal.Read.val_main_v6_eq, e1, e3]
    exact Cert.Reference32Ideal.Product.firsts_eq _ _
  · rw [Cert.Reference32Ideal.Read.val_main_v12_eq, e2, e3]
    exact Cert.Reference32Ideal.Product.seconds_eq _ _

/-- The step of the second input projection's weights. -/
theorem step_hgrn_in : Cert.algebraic_Kernel33Ideal_Reference33Ideal
    (hKernel33Ideal := Cert.Kernel33Ideal.Gen.facts) (hReference33Ideal := Cert.Reference33Ideal.Gen.facts) := by
  intro m g m' g' _ hargs
  refine ⟨fun c => Cert.Kernel33Ideal.Product.grads m c,
    fun c => Cert.Adam.steps (Cert.Kernel33Ideal.Product.a0 m c) (Cert.Kernel33Ideal.Product.a1 m c) (Cert.Kernel33Ideal.Product.a2 m c) (Cert.Kernel33Ideal.Product.grads m c),
    fun c => Cert.Adam.firsts (Cert.Kernel33Ideal.Product.a1 m c) (Cert.Kernel33Ideal.Product.grads m c),
    fun c => Cert.Adam.seconds (Cert.Kernel33Ideal.Product.a2 m c) (Cert.Kernel33Ideal.Product.grads m c),
    (θ_run Cert.Kernel33Ideal.defs _ _).mono
      (fun r h c => ⟨(h c).1.trans (Cert.Kernel33Ideal.Product.final4 m c), (h c).2.1.trans (Cert.Kernel33Ideal.Product.final5 m c),
        (h c).2.2.1.trans (Cert.Kernel33Ideal.Product.final6 m c), (h c).2.2.2.1.trans (Cert.Kernel33Ideal.Product.final7 m c), (h c).2.2.2.2⟩)
      (Cert.Kernel33Ideal.Value.run_blocks (F := Ideal) m g), ?_⟩
  refine (θ_run Cert.Reference33Ideal.defs _ _).mono (fun r h c => ?_) (Cert.Reference33Ideal.Value.run (F := Ideal) m' g')
  obtain ⟨hg, hd, hm, hv, hkept⟩ := h c
  obtain ⟨e0, e1, e2, e3⟩ := hargs c
  refine ⟨hg.trans ?_, hd.trans ?_, hm.trans ?_, hv.trans ?_, hkept⟩
  · rw [Cert.Reference33Ideal.Read.val_main_v0_eq, e3]
    exact Cert.Reference33Ideal.Product.grads_eq _
  · rw [Cert.Reference33Ideal.Read.val_main_v25_eq, e0, e1, e2, e3]
    exact Cert.Reference33Ideal.Product.steps_eq _ _ _ _
  · rw [Cert.Reference33Ideal.Read.val_main_v6_eq, e1, e3]
    exact Cert.Reference33Ideal.Product.firsts_eq _ _
  · rw [Cert.Reference33Ideal.Read.val_main_v12_eq, e2, e3]
    exact Cert.Reference33Ideal.Product.seconds_eq _ _

/-- The first layer's gates. -/
theorem first_gates : Cert.algebraic_Kernel34Ideal_Reference34Ideal
    (hKernel34Ideal := Cert.Kernel34Ideal.Gen.facts) (hReference34Ideal := Cert.Reference34Ideal.Gen.facts) := by
  intro m g m' g' _ hargs
  refine ⟨fun c => Cert.GateFwd.firstResult (Cert.Kernel34Ideal.Product.a0 m c) (Cert.Kernel34Ideal.Product.a1 m c) (Cert.Kernel34Ideal.Product.a2 m c),
    (θ_run Cert.Kernel34Ideal.defs _ _).mono
      (fun r h c => ⟨(h c).1.trans (Cert.Kernel34Ideal.Product.final m c), (h c).2⟩)
      (Cert.Kernel34Ideal.Value.run_blocks (F := Ideal) m g),
    (θ_run Cert.Reference34Ideal.defs _ _).mono (fun r h c => ⟨(h c).1.trans ?_, (h c).2⟩)
      (Cert.Reference34Ideal.Value.run (F := Ideal) m' g')⟩
  obtain ⟨e0, e1, e2⟩ := hargs c
  rw [Cert.Reference34Ideal.Read.val_main_v7_eq, e0, e1, e2]
  exact Cert.Reference34Ideal.Product.val_eq _ _ _

/-- The memory's norm. -/
theorem memory_norm : Cert.algebraic_Kernel35Ideal_Reference35Ideal
    (hKernel35Ideal := Cert.Kernel35Ideal.Gen.facts) (hReference35Ideal := Cert.Reference35Ideal.Gen.facts) := by
  intro m g m' g' _ hargs
  refine ⟨fun c => Cert.Norm.normed (Cert.Kernel35Ideal.Product.a0 m c) (Cert.Kernel35Ideal.Product.a1 m c),
    (θ_run Cert.Kernel35Ideal.defs _ _).mono
      (fun r h c => ⟨(h c).1.trans (Cert.Kernel35Ideal.Product.final2 m c), (h c).2⟩)
      (Cert.Kernel35Ideal.Value.run_blocks (F := Ideal) m g),
    (θ_run Cert.Reference35Ideal.defs _ _).mono (fun r h c => ⟨(h c).1.trans ?_, (h c).2⟩)
      (Cert.Reference35Ideal.Value.run (F := Ideal) m' g')⟩
  obtain ⟨e0, e1⟩ := hargs c
  rw [Cert.Reference35Ideal.Read.val_main_v12_eq, e0, e1]
  exact Cert.Reference35Ideal.Product.result _ _

/-- The gradient of the memory's norm, with the gradient that passes the norm by added. -/
theorem memory_norm_back : Cert.algebraic_Kernel36Ideal_Reference36Ideal
    (hKernel36Ideal := Cert.Kernel36Ideal.Gen.facts) (hReference36Ideal := Cert.Reference36Ideal.Gen.facts) := by
  intro m g m' g' _ hargs
  refine ⟨fun c => Cert.Norm.inputGrad (Cert.Kernel36Ideal.Product.a0 m c) (Cert.Kernel36Ideal.Product.a1 m c) (Cert.Kernel36Ideal.Product.a2 m c) (Cert.Kernel36Ideal.Product.a3 m c),
    fun c => Cert.Norm.inputGrad (Cert.Kernel36Ideal.Product.a0 m c) (Cert.Kernel36Ideal.Product.a1 m c) (Cert.Kernel36Ideal.Product.a2 m c) (Cert.Kernel36Ideal.Product.a3 m c),
    fun c => Cert.Norm.weightGrad (Cert.Kernel36Ideal.Product.a0 m c) (Cert.Kernel36Ideal.Product.a1 m c),
    (θ_run Cert.Kernel36Ideal.defs _ _).mono
      (fun r h c => ⟨(h c).1.trans (Cert.Kernel36Ideal.Product.final4 m c), (h c).2.1.trans (Cert.Kernel36Ideal.Product.final5 m c), (h c).2.2.1.trans (Cert.Kernel36Ideal.Product.final6 m c), (h c).2.2.2⟩)
      (Cert.Kernel36Ideal.Value.run_blocks (F := Ideal) m g), ?_⟩
  refine (θ_run Cert.Reference36Ideal.defs _ _).mono (fun r h c => ?_) (Cert.Reference36Ideal.Value.run (F := Ideal) m' g')
  obtain ⟨hx, hr, hw, hkept⟩ := h c
  obtain ⟨e0, e1, e2, e3⟩ := hargs c
  refine ⟨hx.trans ?_, hr.trans ?_, hw.trans ?_, hkept⟩
  · rw [Cert.Reference36Ideal.Read.val_main_v34_eq, e0, e1, e2, e3]
    exact Cert.Reference36Ideal.Product.result _ _ _ _
  · rw [Cert.Reference36Ideal.Read.val_main_v36_eq, e0, e1, e2, e3]
    exact Cert.Reference36Ideal.Product.rounded _ _ _ _
  · rw [Cert.Reference36Ideal.Read.val_main_v17_eq, e0, e1]
    exact Cert.Reference36Ideal.Product.weights _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Finite.facts, Cert.Gate1.facts, Cert.Gate0.facts, Cert.Finite0.facts,
    fun m ρ _ => Cert.Kernel.Gen.frame m ρ, fun m ρ _ => Cert.KernelIdeal.Gen.frame m ρ,
    fun m ρ _ => Cert.KernelIdeal.Gen.frame m ρ, fun m ρ _ => frame_reference m ρ, fun m ρ _ => frame_reference m ρ,
    fun m ρ _ => Cert.Kernel2.Gen.frame m ρ, fun m ρ _ => Cert.Kernel2Ideal.Gen.frame m ρ,
    fun m ρ _ => (θ_run Cert.Reference2Ideal.defs _ _).mono
      (fun r h => ⟨fun c => (h c).2, sem_eq_zero_of_no_sems (by decide) r.2⟩) (Cert.Reference2Ideal.Value.run (F := Ideal) m ρ),
    fun m ρ _ => Cert.Kernel3.Gen.frame m ρ, fun m ρ _ => Cert.Kernel3Ideal.Gen.frame m ρ,
    fun m ρ _ => (θ_run Cert.Reference3Ideal.defs _ _).mono
      (fun r h => ⟨fun c => (h c).2, sem_eq_zero_of_no_sems (by decide) r.2⟩) (Cert.Reference3Ideal.Value.run (F := Ideal) m ρ),
    fun m ρ _ => Cert.Kernel4.Gen.frame m ρ, fun m ρ _ => Cert.Kernel4Ideal.Gen.frame m ρ,
    fun m ρ _ => (θ_run Cert.Reference4Ideal.defs _ _).mono
      (fun r h => ⟨fun c => (h c).2, sem_eq_zero_of_no_sems (by decide) r.2⟩) (Cert.Reference4Ideal.Value.run (F := Ideal) m ρ),
    fun m ρ _ => Cert.Kernel5.Gen.frame m ρ, fun m ρ _ => Cert.Kernel5Ideal.Gen.frame m ρ,
    fun m ρ _ => (θ_run Cert.Reference5Ideal.defs _ _).mono
      (fun r h => ⟨fun c => (h c).2, sem_eq_zero_of_no_sems (by decide) r.2⟩) (Cert.Reference5Ideal.Value.run (F := Ideal) m ρ),
    fun m ρ _ => Cert.Kernel6.Gen.frame m ρ, fun m ρ _ => Cert.Kernel6Ideal.Gen.frame m ρ,
    fun m ρ _ => (θ_run Cert.Reference6Ideal.defs _ _).mono
      (fun r h => ⟨fun c => (h c).2, sem_eq_zero_of_no_sems (by decide) r.2⟩) (Cert.Reference6Ideal.Value.run (F := Ideal) m ρ),
    fun m ρ _ => Cert.Kernel7.Gen.frame m ρ, fun m ρ _ => Cert.Kernel7Ideal.Gen.frame m ρ,
    fun m ρ _ => (θ_run Cert.Reference7Ideal.defs _ _).mono
      (fun r h => ⟨fun c => (h c).2, sem_eq_zero_of_no_sems (by decide) r.2⟩) (Cert.Reference7Ideal.Value.run (F := Ideal) m ρ),
    fun m ρ _ => Cert.Kernel8.Gen.frame m ρ, fun m ρ _ => Cert.Kernel8Ideal.Gen.frame m ρ,
    fun m ρ _ => (θ_run Cert.Reference8Ideal.defs _ _).mono
      (fun r h => ⟨fun c => (h c).2, sem_eq_zero_of_no_sems (by decide) r.2⟩) (Cert.Reference8Ideal.Value.run (F := Ideal) m ρ),
    fun m ρ _ => Cert.Kernel9.Gen.frame m ρ, fun m ρ _ => Cert.Kernel9Ideal.Gen.frame m ρ,
    fun m ρ _ => (θ_run Cert.Reference9Ideal.defs _ _).mono
      (fun r h => ⟨fun c => (h c).2.2, sem_eq_zero_of_no_sems (by decide) r.2⟩) (Cert.Reference9Ideal.Value.run (F := Ideal) m ρ),
    fun m ρ _ => Cert.Kernel10.Gen.frame m ρ, fun m ρ _ => Cert.Kernel10Ideal.Gen.frame m ρ,
    fun m ρ _ => (θ_run Cert.Reference10Ideal.defs _ _).mono
      (fun r h => ⟨fun c => (h c).2, sem_eq_zero_of_no_sems (by decide) r.2⟩) (Cert.Reference10Ideal.Value.run (F := Ideal) m ρ),
    fun m ρ _ => Cert.Kernel11.Gen.frame m ρ, fun m ρ _ => Cert.Kernel11Ideal.Gen.frame m ρ,
    fun m ρ _ => (θ_run Cert.Reference11Ideal.defs _ _).mono
      (fun r h => ⟨fun c => (h c).2, sem_eq_zero_of_no_sems (by decide) r.2⟩) (Cert.Reference11Ideal.Value.run (F := Ideal) m ρ),
    fun m ρ _ => Cert.Kernel12.Gen.frame m ρ, fun m ρ _ => Cert.Kernel12Ideal.Gen.frame m ρ, fun m ρ _ => Cert.Kernel12Ideal.Gen.frame m ρ,
    fun m ρ _ => (θ_run Cert.Reference12Ideal.defs _ _).mono
      (fun r h => ⟨fun c => (h c).2.2.2, sem_eq_zero_of_no_sems (by decide) r.2⟩) (Cert.Reference12Ideal.Value.run (F := Ideal) m ρ),
    fun m ρ _ => (θ_run Cert.Reference12Ideal.defs _ _).mono
      (fun r h => ⟨fun c => (h c).2.2.2, sem_eq_zero_of_no_sems (by decide) r.2⟩) (Cert.Reference12Ideal.Value.run (F := Ideal) m ρ),
    fun m ρ _ => Cert.Kernel13.Gen.frame m ρ, fun m ρ _ => Cert.Kernel13Ideal.Gen.frame m ρ, fun m ρ _ => Cert.Kernel13Ideal.Gen.frame m ρ,
    fun m ρ _ => (θ_run Cert.Reference13Ideal.defs _ _).mono
      (fun r h => ⟨fun c => (h c).2.2.2, sem_eq_zero_of_no_sems (by decide) r.2⟩) (Cert.Reference13Ideal.Value.run (F := Ideal) m ρ),
    fun m ρ _ => (θ_run Cert.Reference13Ideal.defs _ _).mono
      (fun r h => ⟨fun c => (h c).2.2.2, sem_eq_zero_of_no_sems (by decide) r.2⟩) (Cert.Reference13Ideal.Value.run (F := Ideal) m ρ),
    fun m ρ _ => Cert.Kernel14.Gen.frame m ρ, fun m ρ _ => Cert.Kernel14Ideal.Gen.frame m ρ,
    fun m ρ _ => (θ_run Cert.Reference14Ideal.defs _ _).mono
      (fun r h => ⟨fun c => (h c).2, sem_eq_zero_of_no_sems (by decide) r.2⟩) (Cert.Reference14Ideal.Value.run (F := Ideal) m ρ),
    fun m ρ _ => Cert.Kernel15.Gen.frame m ρ, fun m ρ _ => Cert.Kernel15Ideal.Gen.frame m ρ,
    fun m ρ _ => (θ_run Cert.Reference15Ideal.defs _ _).mono
      (fun r h => ⟨fun c => (h c).2, sem_eq_zero_of_no_sems (by decide) r.2⟩) (Cert.Reference15Ideal.Value.run (F := Ideal) m ρ),
    fun m ρ _ => Cert.Kernel16.Gen.frame m ρ, fun m ρ _ => Cert.Kernel16Ideal.Gen.frame m ρ,
    fun m ρ _ => (θ_run Cert.Reference16Ideal.defs _ _).mono
      (fun r h => ⟨fun c => (h c).2, sem_eq_zero_of_no_sems (by decide) r.2⟩) (Cert.Reference16Ideal.Value.run (F := Ideal) m ρ),
    fun m ρ _ => Cert.Kernel17.Gen.frame m ρ, fun m ρ _ => Cert.Kernel17Ideal.Gen.frame m ρ, fun m ρ _ => Cert.Kernel17Ideal.Gen.frame m ρ,
    fun m ρ _ => (θ_run Cert.Reference17Ideal.defs _ _).mono
      (fun r h => ⟨fun c => (h c).2.2, sem_eq_zero_of_no_sems (by decide) r.2⟩) (Cert.Reference17Ideal.Value.run (F := Ideal) m ρ),
    fun m ρ _ => (θ_run Cert.Reference17Ideal.defs _ _).mono
      (fun r h => ⟨fun c => (h c).2.2, sem_eq_zero_of_no_sems (by decide) r.2⟩) (Cert.Reference17Ideal.Value.run (F := Ideal) m ρ),
    fun m ρ _ => Cert.Kernel18.Gen.frame m ρ, fun m ρ _ => Cert.Kernel18Ideal.Gen.frame m ρ,
    fun m ρ _ => (θ_run Cert.Reference18Ideal.defs _ _).mono
      (fun r h => ⟨fun c => (h c).2, sem_eq_zero_of_no_sems (by decide) r.2⟩) (Cert.Reference18Ideal.Value.run (F := Ideal) m ρ),
    fun m ρ _ => Cert.Kernel19.Gen.frame m ρ, fun m ρ _ => Cert.Kernel19Ideal.Gen.frame m ρ,
    fun m ρ _ => (θ_run Cert.Reference19Ideal.defs _ _).mono
      (fun r h => ⟨fun c => (h c).2, sem_eq_zero_of_no_sems (by decide) r.2⟩) (Cert.Reference19Ideal.Value.run (F := Ideal) m ρ),
    fun m ρ _ => Cert.Kernel20.Gen.frame m ρ, fun m ρ _ => Cert.Kernel20Ideal.Gen.frame m ρ,
    fun m ρ _ => (θ_run Cert.Reference20Ideal.defs _ _).mono
      (fun r h => ⟨fun c => (h c).2, sem_eq_zero_of_no_sems (by decide) r.2⟩) (Cert.Reference20Ideal.Value.run (F := Ideal) m ρ),
    fun m ρ _ => Cert.Kernel21.Gen.frame m ρ, fun m ρ _ => Cert.Kernel21Ideal.Gen.frame m ρ,
    fun m ρ _ => (θ_run Cert.Reference21Ideal.defs _ _).mono
      (fun r h => ⟨fun c => (h c).2, sem_eq_zero_of_no_sems (by decide) r.2⟩) (Cert.Reference21Ideal.Value.run (F := Ideal) m ρ),
    fun m ρ _ => Cert.Kernel22.Gen.frame m ρ, fun m ρ _ => Cert.Kernel22Ideal.Gen.frame m ρ,
    fun m ρ _ => (θ_run Cert.Reference22Ideal.defs _ _).mono
      (fun r h => ⟨fun c => (h c).2, sem_eq_zero_of_no_sems (by decide) r.2⟩) (Cert.Reference22Ideal.Value.run (F := Ideal) m ρ),
    fun m ρ _ => Cert.Kernel23.Gen.frame m ρ, fun m ρ _ => Cert.Kernel23Ideal.Gen.frame m ρ,
    fun m ρ _ => (θ_run Cert.Reference23Ideal.defs _ _).mono
      (fun r h => ⟨fun c => (h c).2, sem_eq_zero_of_no_sems (by decide) r.2⟩) (Cert.Reference23Ideal.Value.run (F := Ideal) m ρ),
    fun m ρ _ => Cert.Kernel24.Gen.frame m ρ, fun m ρ _ => Cert.Kernel24Ideal.Gen.frame m ρ,
    fun m ρ _ => (θ_run Cert.Reference24Ideal.defs _ _).mono
      (fun r h => ⟨fun c => (h c).2, sem_eq_zero_of_no_sems (by decide) r.2⟩) (Cert.Reference24Ideal.Value.run (F := Ideal) m ρ),
    fun m ρ _ => Cert.Kernel25.Gen.frame m ρ, fun m ρ _ => Cert.Kernel25Ideal.Gen.frame m ρ,
    fun m ρ _ => (θ_run Cert.Reference25Ideal.defs _ _).mono
      (fun r h => ⟨fun c => (h c).2, sem_eq_zero_of_no_sems (by decide) r.2⟩) (Cert.Reference25Ideal.Value.run (F := Ideal) m ρ),
    fun m ρ _ => Cert.Kernel26.Gen.frame m ρ, fun m ρ _ => Cert.Kernel26Ideal.Gen.frame m ρ,
    fun m ρ _ => (θ_run Cert.Reference26Ideal.defs _ _).mono
      (fun r h => ⟨fun c => (h c).2.2.2, sem_eq_zero_of_no_sems (by decide) r.2⟩) (Cert.Reference26Ideal.Value.run (F := Ideal) m ρ),
    fun m ρ _ => Cert.Kernel27.Gen.frame m ρ, fun m ρ _ => Cert.Kernel27Ideal.Gen.frame m ρ,
    fun m ρ _ => (θ_run Cert.Reference27Ideal.defs _ _).mono
      (fun r h => ⟨fun c => (h c).2, sem_eq_zero_of_no_sems (by decide) r.2⟩) (Cert.Reference27Ideal.Value.run (F := Ideal) m ρ),
    fun m ρ _ => Cert.Kernel28.Gen.frame m ρ, fun m ρ _ => Cert.Kernel28Ideal.Gen.frame m ρ,
    fun m ρ _ => (θ_run Cert.Reference28Ideal.defs _ _).mono
      (fun r h => ⟨fun c => (h c).2, sem_eq_zero_of_no_sems (by decide) r.2⟩) (Cert.Reference28Ideal.Value.run (F := Ideal) m ρ),
    fun m ρ _ => Cert.Kernel29.Gen.frame m ρ, fun m ρ _ => Cert.Kernel29Ideal.Gen.frame m ρ,
    fun m ρ _ => (θ_run Cert.Reference29Ideal.defs _ _).mono
      (fun r h => ⟨fun c => (h c).2.2.2.2, sem_eq_zero_of_no_sems (by decide) r.2⟩) (Cert.Reference29Ideal.Value.run (F := Ideal) m ρ),
    fun m ρ _ => Cert.Kernel30.Gen.frame m ρ, fun m ρ _ => Cert.Kernel30Ideal.Gen.frame m ρ,
    fun m ρ _ => (θ_run Cert.Reference30Ideal.defs _ _).mono
      (fun r h => ⟨fun c => (h c).2.2.2.2, sem_eq_zero_of_no_sems (by decide) r.2⟩) (Cert.Reference30Ideal.Value.run (F := Ideal) m ρ),
    fun m ρ _ => Cert.Kernel31.Gen.frame m ρ, fun m ρ _ => Cert.Kernel31Ideal.Gen.frame m ρ,
    fun m ρ _ => (θ_run Cert.Reference31Ideal.defs _ _).mono
      (fun r h => ⟨fun c => (h c).2.2.2.2, sem_eq_zero_of_no_sems (by decide) r.2⟩) (Cert.Reference31Ideal.Value.run (F := Ideal) m ρ),
    fun m ρ _ => Cert.Kernel32.Gen.frame m ρ, fun m ρ _ => Cert.Kernel32Ideal.Gen.frame m ρ,
    fun m ρ _ => (θ_run Cert.Reference32Ideal.defs _ _).mono
      (fun r h => ⟨fun c => (h c).2.2.2.2, sem_eq_zero_of_no_sems (by decide) r.2⟩) (Cert.Reference32Ideal.Value.run (F := Ideal) m ρ),
    fun m ρ _ => Cert.Kernel33.Gen.frame m ρ, fun m ρ _ => Cert.Kernel33Ideal.Gen.frame m ρ,
    fun m ρ _ => (θ_run Cert.Reference33Ideal.defs _ _).mono
      (fun r h => ⟨fun c => (h c).2.2.2.2, sem_eq_zero_of_no_sems (by decide) r.2⟩) (Cert.Reference33Ideal.Value.run (F := Ideal) m ρ),
    fun m ρ _ => Cert.Kernel34.Gen.frame m ρ, fun m ρ _ => Cert.Kernel34Ideal.Gen.frame m ρ,
    fun m ρ _ => (θ_run Cert.Reference34Ideal.defs _ _).mono
      (fun r h => ⟨fun c => (h c).2, sem_eq_zero_of_no_sems (by decide) r.2⟩) (Cert.Reference34Ideal.Value.run (F := Ideal) m ρ),
    fun m ρ _ => Cert.Kernel35.Gen.frame m ρ, fun m ρ _ => Cert.Kernel35Ideal.Gen.frame m ρ,
    fun m ρ _ => (θ_run Cert.Reference35Ideal.defs _ _).mono
      (fun r h => ⟨fun c => (h c).2, sem_eq_zero_of_no_sems (by decide) r.2⟩) (Cert.Reference35Ideal.Value.run (F := Ideal) m ρ),
    fun m ρ _ => Cert.Kernel36.Gen.frame m ρ, fun m ρ _ => Cert.Kernel36Ideal.Gen.frame m ρ,
    fun m ρ _ => (θ_run Cert.Reference36Ideal.defs _ _).mono
      (fun r h => ⟨fun c => (h c).2.2.2, sem_eq_zero_of_no_sems (by decide) r.2⟩) (Cert.Reference36Ideal.Value.run (F := Ideal) m ρ),
    trivial, attention, trivial, in_weights, trivial, in_inputs, trivial, out_weights, trivial, qfi_inputs, trivial, rest_inputs,
    trivial, mixer_weights,
    trivial, proj0,
    trivial, proj1,
    trivial, proj1_forget,
    trivial, out_proj,
    trivial, gated1,
    trivial, gated0,
    trivial, pooled_grad,
    trivial, group_weights,
    trivial, pool_groups,
    trivial, attention0,
    trivial, kv_weights,
    trivial, memory1,
    trivial, memory0,
    trivial, keys_values,
    trivial, attended1,
    trivial, attended0,
    trivial, pooling_grad,
    trivial, pooling,
    trivial, norm_back,
    trivial, norm,
    trivial, gates,
    trivial, step_kv,
    trivial, step_out,
    trivial, step_pool_in,
    trivial, step_pool_grp,
    trivial, step_hgrn_in,
    trivial, first_gates,
    trivial, memory_norm,
    trivial, memory_norm_back⟩

end Cert.Proof

end
